-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10)
      ∧ r.2.mem ((c.tc : Thread Cert.Kernel4.nD Cert.Kernel4.τ).loc Cert.Kernel4.main_arg11) = m ((c.tc : Thread Cert.Kernel4.nD Cert.Kernel4.τ).loc Cert.Kernel4.main_arg11)
      ∧ r.2.mem ((c.tc : Thread Cert.Kernel4.nD Cert.Kernel4.τ).loc Cert.Kernel4.main_arg12) = m ((c.tc : Thread Cert.Kernel4.nD Cert.Kernel4.τ).loc Cert.Kernel4.main_arg12)
      ∧ r.2.mem ((c.tc : Thread Cert.Kernel4.nD Cert.Kernel4.τ).loc Cert.Kernel4.main_arg13) = m ((c.tc : Thread Cert.Kernel4.nD Cert.Kernel4.τ).loc Cert.Kernel4.main_arg13)
      ∧ r.2.mem ((c.tc : Thread Cert.Kernel4.nD Cert.Kernel4.τ).loc Cert.Kernel4.main_arg14) = m ((c.tc : Thread Cert.Kernel4.nD Cert.Kernel4.τ).loc Cert.Kernel4.main_arg14)
      ∧ r.2.mem ((c.tc : Thread Cert.Kernel4.nD Cert.Kernel4.τ).loc Cert.Kernel4.main_arg15) = m ((c.tc : Thread Cert.Kernel4.nD Cert.Kernel4.τ).loc Cert.Kernel4.main_arg15))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
      ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12)
      ∧ r.2.mem ((c.tc : Thread Cert.Kernel4Ideal.nD Cert.Kernel4Ideal.τ).loc Cert.Kernel4Ideal.main_arg13) = m ((c.tc : Thread Cert.Kernel4Ideal.nD Cert.Kernel4Ideal.τ).loc Cert.Kernel4Ideal.main_arg13)
      ∧ r.2.mem ((c.tc : Thread Cert.Kernel4Ideal.nD Cert.Kernel4Ideal.τ).loc Cert.Kernel4Ideal.main_arg14) = m ((c.tc : Thread Cert.Kernel4Ideal.nD Cert.Kernel4Ideal.τ).loc Cert.Kernel4Ideal.main_arg14)
      ∧ r.2.mem ((c.tc : Thread Cert.Kernel4Ideal.nD Cert.Kernel4Ideal.τ).loc Cert.Kernel4Ideal.main_arg15) = m ((c.tc : Thread Cert.Kernel4Ideal.nD Cert.Kernel4Ideal.τ).loc Cert.Kernel4Ideal.main_arg15))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11)
      ∧ r.2.mem ((c.tc : Thread Cert.Reference4Ideal.nD Cert.Reference4Ideal.τ).loc Cert.Reference4Ideal.main_arg12) = m ((c.tc : Thread Cert.Reference4Ideal.nD Cert.Reference4Ideal.τ).loc Cert.Reference4Ideal.main_arg12)
      ∧ r.2.mem ((c.tc : Thread Cert.Reference4Ideal.nD Cert.Reference4Ideal.τ).loc Cert.Reference4Ideal.main_arg13) = m ((c.tc : Thread Cert.Reference4Ideal.nD Cert.Reference4Ideal.τ).loc Cert.Reference4Ideal.main_arg13)
      ∧ r.2.mem ((c.tc : Thread Cert.Reference4Ideal.nD Cert.Reference4Ideal.τ).loc Cert.Reference4Ideal.main_arg14) = m ((c.tc : Thread Cert.Reference4Ideal.nD Cert.Reference4Ideal.τ).loc Cert.Reference4Ideal.main_arg14)
      ∧ r.2.mem ((c.tc : Thread Cert.Reference4Ideal.nD Cert.Reference4Ideal.τ).loc Cert.Reference4Ideal.main_arg15) = m ((c.tc : Thread Cert.Reference4Ideal.nD Cert.Reference4Ideal.τ).loc Cert.Reference4Ideal.main_arg15))
      ∧ r.2.sem = fun _ => 0)

def preserves_Kernel_KernelIdeal : Prop :=
  IdealRules.named_const.Statement Cert.KernelIdeal.κ "log2e_8" .f32 0x3E38AA3B#32 (((Real.log 2)⁻¹ * (1 / 8) : ℝ) : EReal)
  ∧ IdealRules.named_const.Statement Cert.KernelIdeal.κ "log2e" .f32 0x3FB8AA3B#32 (((Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v97) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v2)) (v1 : (c : Dev Cert.Kernel2Ideal.nD) → Buf (Elt Ideal) ((c.tc : Thread Cert.Kernel2Ideal.nD Cert.Kernel2Ideal.τ).loc Cert.Kernel2Ideal.main_v4)) (v2 : (c : Dev Cert.Kernel2Ideal.nD) → Buf (Elt Ideal) ((c.tc : Thread Cert.Kernel2Ideal.nD Cert.Kernel2Ideal.τ).loc Cert.Kernel2Ideal.main_v6)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2) = v0 c
          ∧ r.2.mem ((c.tc : Thread Cert.Kernel2Ideal.nD Cert.Kernel2Ideal.τ).loc Cert.Kernel2Ideal.main_v4) = v1 c
          ∧ r.2.mem ((c.tc : Thread Cert.Kernel2Ideal.nD Cert.Kernel2Ideal.τ).loc Cert.Kernel2Ideal.main_v6) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v16) = v0 c
          ∧ r.2.mem ((c.tc : Thread Cert.Reference2Ideal.nD Cert.Reference2Ideal.τ).loc Cert.Reference2Ideal.main_v18) = v1 c
          ∧ r.2.mem ((c.tc : Thread Cert.Reference2Ideal.nD Cert.Reference2Ideal.τ).loc Cert.Reference2Ideal.main_v20) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v3_0)) (v1 : (c : Dev Cert.Kernel3Ideal.nD) → Buf (Elt Ideal) ((c.tc : Thread Cert.Kernel3Ideal.nD Cert.Kernel3Ideal.τ).loc Cert.Kernel3Ideal.main_v3_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3_0) = v0 c
          ∧ r.2.mem ((c.tc : Thread Cert.Kernel3Ideal.nD Cert.Kernel3Ideal.τ).loc Cert.Kernel3Ideal.main_v3_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v14) = v0 c
          ∧ r.2.mem ((c.tc : Thread Cert.Reference3Ideal.nD Cert.Reference3Ideal.τ).loc Cert.Reference3Ideal.main_v16) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)
      ∧ m' ((c.tc : Thread Cert.Reference4Ideal.nD Cert.Reference4Ideal.τ).loc Cert.Reference4Ideal.main_arg11) = m ((c.tc : Thread Cert.Kernel4Ideal.nD Cert.Kernel4Ideal.τ).loc Cert.Kernel4Ideal.main_arg11)
      ∧ m' ((c.tc : Thread Cert.Reference4Ideal.nD Cert.Reference4Ideal.τ).loc Cert.Reference4Ideal.main_arg12) = m ((c.tc : Thread Cert.Kernel4Ideal.nD Cert.Kernel4Ideal.τ).loc Cert.Kernel4Ideal.main_arg12)
      ∧ m' ((c.tc : Thread Cert.Reference4Ideal.nD Cert.Reference4Ideal.τ).loc Cert.Reference4Ideal.main_arg13) = m ((c.tc : Thread Cert.Kernel4Ideal.nD Cert.Kernel4Ideal.τ).loc Cert.Kernel4Ideal.main_arg13)
      ∧ m' ((c.tc : Thread Cert.Reference4Ideal.nD Cert.Reference4Ideal.τ).loc Cert.Reference4Ideal.main_arg14) = m ((c.tc : Thread Cert.Kernel4Ideal.nD Cert.Kernel4Ideal.τ).loc Cert.Kernel4Ideal.main_arg14)
      ∧ m' ((c.tc : Thread Cert.Reference4Ideal.nD Cert.Reference4Ideal.τ).loc Cert.Reference4Ideal.main_arg15) = m ((c.tc : Thread Cert.Kernel4Ideal.nD Cert.Kernel4Ideal.τ).loc Cert.Kernel4Ideal.main_arg15)) →
    ∃ (v0 : (c : Dev Cert.Kernel4Ideal.nD) → Buf (Elt Ideal) ((c.tc : Thread Cert.Kernel4Ideal.nD Cert.Kernel4Ideal.τ).loc Cert.Kernel4Ideal.main_v10_0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v10_0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
          ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
          ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12)
          ∧ r.2.mem ((c.tc : Thread Cert.Kernel4Ideal.nD Cert.Kernel4Ideal.τ).loc Cert.Kernel4Ideal.main_arg13) = m ((c.tc : Thread Cert.Kernel4Ideal.nD Cert.Kernel4Ideal.τ).loc Cert.Kernel4Ideal.main_arg13)
          ∧ r.2.mem ((c.tc : Thread Cert.Kernel4Ideal.nD Cert.Kernel4Ideal.τ).loc Cert.Kernel4Ideal.main_arg14) = m ((c.tc : Thread Cert.Kernel4Ideal.nD Cert.Kernel4Ideal.τ).loc Cert.Kernel4Ideal.main_arg14)
          ∧ r.2.mem ((c.tc : Thread Cert.Kernel4Ideal.nD Cert.Kernel4Ideal.τ).loc Cert.Kernel4Ideal.main_arg15) = m ((c.tc : Thread Cert.Kernel4Ideal.nD Cert.Kernel4Ideal.τ).loc Cert.Kernel4Ideal.main_arg15))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v58) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10)
          ∧ r.2.mem ((c.tc : Thread Cert.Reference4Ideal.nD Cert.Reference4Ideal.τ).loc Cert.Reference4Ideal.main_arg11) = m' ((c.tc : Thread Cert.Reference4Ideal.nD Cert.Reference4Ideal.τ).loc Cert.Reference4Ideal.main_arg11)
          ∧ r.2.mem ((c.tc : Thread Cert.Reference4Ideal.nD Cert.Reference4Ideal.τ).loc Cert.Reference4Ideal.main_arg12) = m' ((c.tc : Thread Cert.Reference4Ideal.nD Cert.Reference4Ideal.τ).loc Cert.Reference4Ideal.main_arg12)
          ∧ r.2.mem ((c.tc : Thread Cert.Reference4Ideal.nD Cert.Reference4Ideal.τ).loc Cert.Reference4Ideal.main_arg13) = m' ((c.tc : Thread Cert.Reference4Ideal.nD Cert.Reference4Ideal.τ).loc Cert.Reference4Ideal.main_arg13)
          ∧ r.2.mem ((c.tc : Thread Cert.Reference4Ideal.nD Cert.Reference4Ideal.τ).loc Cert.Reference4Ideal.main_arg14) = m' ((c.tc : Thread Cert.Reference4Ideal.nD Cert.Reference4Ideal.τ).loc Cert.Reference4Ideal.main_arg14)
          ∧ r.2.mem ((c.tc : Thread Cert.Reference4Ideal.nD Cert.Reference4Ideal.τ).loc Cert.Reference4Ideal.main_arg15) = m' ((c.tc : Thread Cert.Reference4Ideal.nD Cert.Reference4Ideal.τ).loc Cert.Reference4Ideal.main_arg15))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Pre_finite.lean ====
abbrev S16384x10240 : Shape := ⟨2, ![16384, 10240]⟩
abbrev S4x64 : Shape := ⟨2, ![4, 64]⟩
abbrev S128 : Shape := ⟨1, ![128]⟩
abbrev S_ : Shape := ⟨0, ![]⟩

class Facts : Prop where
  bitsLt_bf16_f32 : FTy.bits .bf16 < FTy.bits .f32
  bcast_S_S16384x10240 : S_.BroadcastsInDim S16384x10240 (![] : Fin 0 → Fin S16384x10240.rank)
  reducesTo_S16384x10240_S_d0_1 : S16384x10240.ReducesTo [0, 1] S_
  h_S_ : 0 < S_.numel
  bcast_S_S4x64 : S_.BroadcastsInDim S4x64 (![] : Fin 0 → Fin S4x64.rank)
  reducesTo_S4x64_S_d0_1 : S4x64.ReducesTo [0, 1] S_

variable [Facts]

def fn {F : FTy → Type} [FloatOps F] (main_arg0 : FVec F S16384x10240 .bf16) (main_arg1 : FVec F S4x64 .f32) (main_arg2 : FVec F S128 .f32) : IVec S_ 1 :=
  let main_v0 : FVec F S16384x10240 .f32 := (extf .f32 · bitsLt_bf16_f32) main_arg0
  let main_v1 : FVec F S16384x10240 .f32 := Host.absf main_v0
  let main_cst : FVec F S_ .f32 := constant S_ .f32 0x7F800000#32
  let main_v2 : FVec F S16384x10240 .f32 := broadcastInDim S16384x10240 ![] bcast_S_S16384x10240 main_cst
  let main_v3 : IVec S16384x10240 1 := cmpf .olt main_v1 main_v2
  let main_c : IVec S_ 1 := constantI S_ 1 1#1
  let main_v4 : IVec S_ 1 := (fun x v => Host.reduce IntOp.andi x v reducesTo_S16384x10240_S_d0_1 h_S_) main_v3 main_c
  let main_v5 : FVec F S4x64 .f32 := Host.absf main_arg1
  let main_cst_0 : FVec F S_ .f32 := constant S_ .f32 0x7F800000#32
  let main_v6 : FVec F S4x64 .f32 := broadcastInDim S4x64 ![] bcast_S_S4x64 main_cst_0
  let main_v7 : IVec S4x64 1 := cmpf .olt main_v5 main_v6
  let main_c_1 : IVec S_ 1 := constantI S_ 1 1#1
  let main_v8 : IVec S_ 1 := (fun x v => Host.reduce IntOp.andi x v reducesTo_S4x64_S_d0_1 h_S_) main_v7 main_c_1
  let main_v9 : IVec S_ 1 := andi main_v4 main_v8
  main_v9
-- ==== Kernel.lean ====
abbrev S16384x10240 : Shape := ⟨2, ![16384, 10240]⟩
abbrev S4x64 : Shape := ⟨2, ![4, 64]⟩
abbrev S128 : Shape := ⟨1, ![128]⟩
abbrev S4 : Shape := ⟨1, ![4]⟩
abbrev S16384x512 : Shape := ⟨2, ![16384, 512]⟩
abbrev S512x16384 : Shape := ⟨2, ![512, 16384]⟩
abbrev S1x128 : Shape := ⟨2, ![1, 128]⟩
abbrev S4x1x1 : Shape := ⟨3, ![4, 1, 1]⟩
abbrev S4x256x128 : Shape := ⟨3, ![4, 256, 128]⟩
abbrev S_ : Shape := ⟨0, ![]⟩
abbrev S256x512 : Shape := ⟨2, ![256, 512]⟩
abbrev S1x256x512 : Shape := ⟨3, ![1, 256, 512]⟩
abbrev S4x256x512 : Shape := ⟨3, ![4, 256, 512]⟩
abbrev S4x128x16384 : Shape := ⟨3, ![4, 128, 16384]⟩
abbrev S256x256 : Shape := ⟨2, ![256, 256]⟩
abbrev S16384x256 : Shape := ⟨2, ![16384, 256]⟩
abbrev S2x128x16384 : Shape := ⟨3, ![2, 128, 16384]⟩
abbrev S2x256x128 : Shape := ⟨3, ![2, 256, 128]⟩
abbrev S2x256x512 : Shape := ⟨3, ![2, 256, 512]⟩
abbrev S2x1x512 : Shape := ⟨3, ![2, 1, 512]⟩
abbrev S2x144x512 : Shape := ⟨3, ![2, 144, 512]⟩
abbrev S2x2x256x512 : Shape := ⟨4, ![2, 2, 256, 512]⟩
abbrev S2x2x1x512 : Shape := ⟨4, ![2, 2, 1, 512]⟩
abbrev S128x256 : Shape := ⟨2, ![128, 256]⟩
abbrev S256x128 : Shape := ⟨2, ![256, 128]⟩
abbrev S1x128x256 : Shape := ⟨3, ![1, 128, 256]⟩
abbrev S128x512 : Shape := ⟨2, ![128, 512]⟩
abbrev S1x128x512 : Shape := ⟨3, ![1, 128, 512]⟩
abbrev S1x256x128 : Shape := ⟨3, ![1, 256, 128]⟩
abbrev S1x1x256x512 : Shape := ⟨4, ![1, 1, 256, 512]⟩
abbrev S1x512 : Shape := ⟨2, ![1, 512]⟩
abbrev S1x1x1x512 : Shape := ⟨4, ![1, 1, 1, 512]⟩
abbrev S16x256 : Shape := ⟨2, ![16, 256]⟩
abbrev S144x256 : Shape := ⟨2, ![144, 256]⟩
abbrev S1x144x512 : Shape := ⟨3, ![1, 144, 512]⟩
abbrev S144x512 : Shape := ⟨2, ![144, 512]⟩
abbrev S1 : Shape := ⟨1, ![1]⟩
abbrev S1x1x512 : Shape := ⟨3, ![1, 1, 512]⟩
abbrev S512 : Shape := ⟨1, ![512]⟩
abbrev S1x64 : Shape := ⟨2, ![1, 64]⟩
abbrev S1x1 : Shape := ⟨2, ![1, 1]⟩
abbrev S256 : Shape := ⟨1, ![256]⟩
abbrev S1x256 : Shape := ⟨2, ![1, 256]⟩

abbrev nBuf : Space → Nat
  | .hbm => 55
  | .vmem => 20
  | .smem => 1
  | _ => 0

abbrev bufTy : (tb : Table) → Fin (tcTables nBuf tb) → BufTy
  | .hbm, ⟨0, _⟩ => ⟨S16384x10240, .bf16⟩
  | .hbm, ⟨1, _⟩ => ⟨S4x64, .f32⟩
  | .hbm, ⟨2, _⟩ => ⟨S128, .f32⟩
  | .hbm, ⟨3, _⟩ => ⟨S4, .f32⟩
  | .hbm, ⟨4, _⟩ => ⟨S16384x512, .bf16⟩
  | .hbm, ⟨5, _⟩ => ⟨S512x16384, .bf16⟩
  | .hbm, ⟨6, _⟩ => ⟨S1x128, .f32⟩
  | .hbm, ⟨7, _⟩ => ⟨S4x1x1, .f32⟩
  | .hbm, ⟨8, _⟩ => ⟨S4x256x128, .i32⟩
  | .hbm, ⟨9, _⟩ => ⟨S4x256x128, .i32⟩
  | .hbm, ⟨10, _⟩ => ⟨S_, .i32⟩
  | .hbm, ⟨11, _⟩ => ⟨S4x256x128, .i32⟩
  | .hbm, ⟨12, _⟩ => ⟨S4x256x128, .i1⟩
  | .hbm, ⟨13, _⟩ => ⟨S4x256x128, .f32⟩
  | .hbm, ⟨14, _⟩ => ⟨S4x256x128, .f32⟩
  | .hbm, ⟨15, _⟩ => ⟨S4x256x128, .f32⟩
  | .hbm, ⟨16, _⟩ => ⟨S_, .f32⟩
  | .hbm, ⟨17, _⟩ => ⟨S_, .f32⟩
  | .hbm, ⟨18, _⟩ => ⟨S4x256x128, .f32⟩
  | .hbm, ⟨19, _⟩ => ⟨S4x256x128, .f32⟩
  | .hbm, ⟨20, _⟩ => ⟨S256x512, .i32⟩
  | .hbm, ⟨21, _⟩ => ⟨S256x512, .i32⟩
  | .hbm, ⟨22, _⟩ => ⟨S_, .i32⟩
  | .hbm, ⟨23, _⟩ => ⟨S256x512, .i32⟩
  | .hbm, ⟨24, _⟩ => ⟨S256x512, .i32⟩
  | .hbm, ⟨25, _⟩ => ⟨S_, .i32⟩
  | .hbm, ⟨26, _⟩ => ⟨S256x512, .i32⟩
  | .hbm, ⟨27, _⟩ => ⟨S256x512, .i32⟩
  | .hbm, ⟨28, _⟩ => ⟨S_, .i32⟩
  | .hbm, ⟨29, _⟩ => ⟨S256x512, .i32⟩
  | .hbm, ⟨30, _⟩ => ⟨S256x512, .i32⟩
  | .hbm, ⟨31, _⟩ => ⟨S256x512, .i1⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S4x1x1, .f32⟩
  | .hbm, ⟨37, _⟩ => ⟨S4x1x1, .f32⟩
  | .hbm, ⟨38, _⟩ => ⟨S256x512, .i32⟩
  | .hbm, ⟨39, _⟩ => ⟨S256x512, .i32⟩
  | .hbm, ⟨40, _⟩ => ⟨S256x512, .i32⟩
  | .hbm, ⟨41, _⟩ => ⟨S256x512, .i32⟩
  | .hbm, ⟨42, _⟩ => ⟨S256x512, .f32⟩
  | .hbm, ⟨43, _⟩ => ⟨S1x256x512, .f32⟩
  | .hbm, ⟨44, _⟩ => ⟨S4x256x512, .f32⟩
  | .hbm, ⟨45, _⟩ => ⟨S4x256x512, .f32⟩
  | .hbm, ⟨46, _⟩ => ⟨S4x256x512, .f32⟩
  | .hbm, ⟨47, _⟩ => ⟨S_, .f32⟩
  | .hbm, ⟨48, _⟩ => ⟨S_, .f32⟩
  | .hbm, ⟨49, _⟩ => ⟨S4x256x512, .i1⟩
  | .hbm, ⟨50, _⟩ => ⟨S4x256x512, .f32⟩
  | .hbm, ⟨51, _⟩ => ⟨S4x256x512, .f32⟩
  | .hbm, ⟨52, _⟩ => ⟨S4x256x128, .bf16⟩
  | .hbm, ⟨53, _⟩ => ⟨S4x128x16384, .bf16⟩
  | .hbm, ⟨54, _⟩ => ⟨S16384x512, .bf16⟩
  | .local _ .vmem, ⟨0, _⟩ => ⟨S256x256, .bf16⟩
  | .local _ .vmem, ⟨1, _⟩ => ⟨S256x256, .bf16⟩
  | .local _ .vmem, ⟨2, _⟩ => ⟨S16384x256, .bf16⟩
  | .local _ .vmem, ⟨3, _⟩ => ⟨S16384x256, .bf16⟩
  | .local _ .vmem, ⟨4, _⟩ => ⟨S2x128x16384, .bf16⟩
  | .local _ .vmem, ⟨5, _⟩ => ⟨S2x128x16384, .bf16⟩
  | .local _ .vmem, ⟨6, _⟩ => ⟨S2x256x128, .bf16⟩
  | .local _ .vmem, ⟨7, _⟩ => ⟨S2x256x128, .bf16⟩
  | .local _ .vmem, ⟨8, _⟩ => ⟨S2x256x512, .f32⟩
  | .local _ .vmem, ⟨9, _⟩ => ⟨S2x256x512, .f32⟩
  | .local _ .vmem, ⟨10, _⟩ => ⟨S4x64, .f32⟩
  | .local _ .vmem, ⟨11, _⟩ => ⟨S1x128, .f32⟩
  | .local _ .vmem, ⟨12, _⟩ => ⟨S256x256, .bf16⟩
  | .local _ .vmem, ⟨13, _⟩ => ⟨S256x256, .bf16⟩
  | .local _ .vmem, ⟨14, _⟩ => ⟨S2x256x512, .bf16⟩
  | .local _ .vmem, ⟨15, _⟩ => ⟨S2x1x512, .f32⟩
  | .local _ .vmem, ⟨16, _⟩ => ⟨S2x144x512, .f32⟩
  | .local _ .vmem, ⟨17, _⟩ => ⟨S2x2x256x512, .f32⟩
  | .local _ .vmem, ⟨18, _⟩ => ⟨S2x2x256x512, .bf16⟩
  | .local _ .vmem, ⟨19, _⟩ => ⟨S2x2x1x512, .f32⟩
  | .local _ .smem, ⟨0, _⟩ => ⟨S4, .f32⟩
  | _, _ => ⟨S16384x10240, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .smem, ⟨0, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_call0_v0 : Ref sig .tc := ⟨.hbm, 17, rfl⟩
abbrev main_call0_v1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_c_1 : Ref sig .tc := ⟨.hbm, 22, rfl⟩
abbrev main_v14 : Ref sig .tc := ⟨.hbm, 23, rfl⟩
abbrev main_v15 : Ref sig .tc := ⟨.hbm, 24, rfl⟩
abbrev main_c_2 : Ref sig .tc := ⟨.hbm, 25, rfl⟩
abbrev main_v16 : Ref sig .tc := ⟨.hbm, 26, rfl⟩
abbrev main_v17 : Ref sig .tc := ⟨.hbm, 27, rfl⟩
abbrev main_c_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_4 : Ref sig .tc := ⟨.hbm, 32, rfl⟩
abbrev main_v21 : Ref sig .tc := ⟨.hbm, 33, rfl⟩
abbrev main_cst_5 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_6 : Ref sig .tc := ⟨.hbm, 47, rfl⟩
abbrev main_call1_v0 : Ref sig .tc := ⟨.hbm, 48, rfl⟩
abbrev main_call1_v1 : Ref sig .tc := ⟨.hbm, 49, rfl⟩
abbrev main_call1_v2 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_scratch4 : Ref sig .tc := ⟨.vmem, 18, rfl⟩
abbrev cc0_scratch5 : Ref sig .tc := ⟨.vmem, 19, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨2, ![2, 64], ![false, false]⟩

def k0_mult1 : BitVec 32 :=
  let c0_i32_29 : BitVec 32 := 0#32
  c0_i32_29
def k0_mult2 : BitVec 32 :=
  let c0_i32_52 : BitVec 32 := 0#32
  c0_i32_52
@[reducible] def k0_t1_loop (i : grid0.Coords) : Scf.Loop 32 :=
  let c0_i32_82 : BitVec 32 := 0#32
  let arg1 : BitVec 32 := BitVec.ofNat 32 (i 1).val
  let c0_i32_75 : BitVec 32 := 0#32
  let v94 : BitVec 32 := Scalar.subi arg1 c0_i32_75
  let c0_i32_76 : BitVec 32 := 0#32
  let v96 : BitVec 1 := Scalar.cmpi .sgt v94 c0_i32_76
  let v97 : BitVec 32 := Scalar.extui v96
  let c0_i32_77 : BitVec 32 := 0#32
  let v98 : BitVec 1 := Scalar.cmpi .slt v94 c0_i32_77
  let v99 : BitVec 32 := Scalar.extui v98
  let v100 : BitVec 32 := Scalar.subi v97 v99
  let c8_i32 : BitVec 32 := 8#32
  let c0_i32_78 : BitVec 32 := 0#32
  let v101 : BitVec 1 := Scalar.cmpi .sgt c8_i32 c0_i32_78
  let v102 : BitVec 32 := Scalar.extui v101
  let c0_i32_79 : BitVec 32 := 0#32
  let v103 : BitVec 1 := Scalar.cmpi .slt c8_i32 c0_i32_79
  let v104 : BitVec 32 := Scalar.extui v103
  let v105 : BitVec 32 := Scalar.subi v102 v104
  let v106 : BitVec 1 := Scalar.cmpi .ne v100 v105
  let v107 : BitVec 32 := Scalar.remsi v94 c8_i32
  let c0_i32_80 : BitVec 32 := 0#32
  let v108 : BitVec 1 := Scalar.cmpi .ne v107 c0_i32_80
  let v109 : BitVec 1 := Scalar.andi v106 v108
  let v95 : BitVec 32 := Scalar.divsi v94 c8_i32
  let c1_i32 : BitVec 32 := 1#32
  let v110 : BitVec 32 := Scalar.subi v95 c1_i32
  let v111 : BitVec 32 := Scalar.select v109 v110 v95
  let v112 : BitVec 32 := Scalar.subi v111 c0_i32_82
  let c1_i32_83 : BitVec 32 := 1#32
  let v114 : BitVec 32 := Scalar.divsi v112 c1_i32_83
  let v115 : BitVec 32 := Scalar.muli v114 c1_i32_83
  let v116 : BitVec 32 := Scalar.addi c0_i32_82 v115
  let c1_i32_84 : BitVec 32 := 1#32
  ⟨c0_i32_82, v116, c1_i32_84⟩
def k0_mult3 (i : grid0.Coords) (k0_t1 : Fin (k0_t1_loop i).trips) : BitVec 32 :=
  let c0_i32_149 : BitVec 32 := 0#32
  let c8_i32_148 : BitVec 32 := 8#32
  let c0_i32_82 : BitVec 32 := 0#32
  let c1_i32_84 : BitVec 32 := 1#32
  let arg17 : BitVec 32 := Scf.iv c0_i32_82 c1_i32_84 k0_t1
  let v252 : BitVec 32 := Scalar.muli c8_i32_148 arg17
  let v253 : BitVec 32 := Scalar.addi c0_i32_149 v252
  let c0_i32_150 : BitVec 32 := 0#32
  let v254 : BitVec 32 := Scalar.addi v253 c0_i32_150
  let c1_i32_151 : BitVec 32 := 1#32
  let v255 : BitVec 32 := Scalar.addi v254 c1_i32_151
  let c256_i32 : BitVec 32 := 256#32
  let v256 : BitVec 32 := Scalar.muli v255 c256_i32
  v256
def k0_off1 (i : grid0.Coords) (k0_t1 : Fin (k0_t1_loop i).trips) (c0_i32_150 : BitVec 32) : Fin 2 → Nat :=
  let c0_i32_149 : BitVec 32 := 0#32
  let c8_i32_148 : BitVec 32 := 8#32
  let c0_i32_82 : BitVec 32 := 0#32
  let c1_i32_84 : BitVec 32 := 1#32
  let arg17 : BitVec 32 := Scf.iv c0_i32_82 c1_i32_84 k0_t1
  let v252 : BitVec 32 := Scalar.muli c8_i32_148 arg17
  let v253 : BitVec 32 := Scalar.addi c0_i32_149 v252
  let v254 : BitVec 32 := Scalar.addi v253 c0_i32_150
  let c1_i32_151 : BitVec 32 := 1#32
  let v255 : BitVec 32 := Scalar.addi v254 c1_i32_151
  let c256_i32 : BitVec 32 := 256#32
  let v256 : BitVec 32 := Scalar.muli v255 c256_i32
  let v257 : BitVec 32 := v256
  let v258 : Index := Scalar.indexCast v257
  let c0_152 : Index := 0#32
  ![v258.toNat, 0]
def k0_mult4 (i : grid0.Coords) (k0_t1 : Fin (k0_t1_loop i).trips) : BitVec 32 :=
  let c0_i32_149 : BitVec 32 := 0#32
  let c8_i32_148 : BitVec 32 := 8#32
  let c0_i32_82 : BitVec 32 := 0#32
  let c1_i32_84 : BitVec 32 := 1#32
  let arg17 : BitVec 32 := Scf.iv c0_i32_82 c1_i32_84 k0_t1
  let v252 : BitVec 32 := Scalar.muli c8_i32_148 arg17
  let v253 : BitVec 32 := Scalar.addi c0_i32_149 v252
  let c0_i32_150 : BitVec 32 := 0#32
  let v254 : BitVec 32 := Scalar.addi v253 c0_i32_150
  let c1_i32_164 : BitVec 32 := 1#32
  let v269 : BitVec 32 := Scalar.subi v254 c1_i32_164
  let c0_i32_165 : BitVec 32 := 0#32
  let v270 : BitVec 32 := Scalar.maxsi v269 c0_i32_165
  let c256_i32_166 : BitVec 32 := 256#32
  let v271 : BitVec 32 := Scalar.muli v270 c256_i32_166
  v271
def k0_off2 (i : grid0.Coords) (k0_t1 : Fin (k0_t1_loop i).trips) (c0_i32_150 : BitVec 32) : Fin 3 → Nat :=
  let c0_167 : Index := 0#32
  let c0_168 : Index := 0#32
  let c0_i32_149 : BitVec 32 := 0#32
  let c8_i32_148 : BitVec 32 := 8#32
  let c0_i32_82 : BitVec 32 := 0#32
  let c1_i32_84 : BitVec 32 := 1#32
  let arg17 : BitVec 32 := Scf.iv c0_i32_82 c1_i32_84 k0_t1
  let v252 : BitVec 32 := Scalar.muli c8_i32_148 arg17
  let v253 : BitVec 32 := Scalar.addi c0_i32_149 v252
  let v254 : BitVec 32 := Scalar.addi v253 c0_i32_150
  let c1_i32_164 : BitVec 32 := 1#32
  let v269 : BitVec 32 := Scalar.subi v254 c1_i32_164
  let c0_i32_165 : BitVec 32 := 0#32
  let v270 : BitVec 32 := Scalar.maxsi v269 c0_i32_165
  let c256_i32_166 : BitVec 32 := 256#32
  let v271 : BitVec 32 := Scalar.muli v270 c256_i32_166
  let v272 : BitVec 32 := v271
  let v273 : Index := Scalar.indexCast v272
  ![0, 0, v273.toNat]
def k0_off3 (i : grid0.Coords) (c0_i32_186 : BitVec 32) : Fin 1 → Nat :=
  let arg0 : BitVec 32 := BitVec.ofNat 32 (i 0).val
  let c2_i32_185 : BitVec 32 := 2#32
  let v291 : BitVec 32 := Scalar.muli arg0 c2_i32_185
  let v292 : BitVec 32 := Scalar.addi v291 c0_i32_186
  let v293 : Index := Scalar.indexCast v292
  ![v293.toNat]
def k0_mult5 (i : grid0.Coords) (k0_t1 : Fin (k0_t1_loop i).trips) : BitVec 32 :=
  let c0_i32_149 : BitVec 32 := 0#32
  let c8_i32_148 : BitVec 32 := 8#32
  let c0_i32_82 : BitVec 32 := 0#32
  let c1_i32_84 : BitVec 32 := 1#32
  let arg17 : BitVec 32 := Scf.iv c0_i32_82 c1_i32_84 k0_t1
  let v252 : BitVec 32 := Scalar.muli c8_i32_148 arg17
  let v253 : BitVec 32 := Scalar.addi c0_i32_149 v252
  let c0_i32_150 : BitVec 32 := 0#32
  let v254 : BitVec 32 := Scalar.addi v253 c0_i32_150
  let c1_i32_208 : BitVec 32 := 1#32
  let v325 : BitVec 32 := Scalar.addi v254 c1_i32_208
  let c256_i32_209 : BitVec 32 := 256#32
  let v326 : BitVec 32 := Scalar.muli v325 c256_i32_209
  v326
def k0_off4 (i : grid0.Coords) (k0_t1 : Fin (k0_t1_loop i).trips) (c0_i32_150 : BitVec 32) : Fin 2 → Nat :=
  let c0_i32_149 : BitVec 32 := 0#32
  let c8_i32_148 : BitVec 32 := 8#32
  let c0_i32_82 : BitVec 32 := 0#32
  let c1_i32_84 : BitVec 32 := 1#32
  let arg17 : BitVec 32 := Scf.iv c0_i32_82 c1_i32_84 k0_t1
  let v252 : BitVec 32 := Scalar.muli c8_i32_148 arg17
  let v253 : BitVec 32 := Scalar.addi c0_i32_149 v252
  let v254 : BitVec 32 := Scalar.addi v253 c0_i32_150
  let c1_i32_208 : BitVec 32 := 1#32
  let v325 : BitVec 32 := Scalar.addi v254 c1_i32_208
  let c256_i32_209 : BitVec 32 := 256#32
  let v326 : BitVec 32 := Scalar.muli v325 c256_i32_209
  let v327 : BitVec 32 := v326
  let v328 : Index := Scalar.indexCast v327
  let c128_210 : Index := 128#32
  ![v328.toNat, 128]
def k0_mult6 (i : grid0.Coords) (k0_t1 : Fin (k0_t1_loop i).trips) : BitVec 32 :=
  let c0_i32_149 : BitVec 32 := 0#32
  let c8_i32_148 : BitVec 32 := 8#32
  let c0_i32_82 : BitVec 32 := 0#32
  let c1_i32_84 : BitVec 32 := 1#32
  let arg17 : BitVec 32 := Scf.iv c0_i32_82 c1_i32_84 k0_t1
  let v252 : BitVec 32 := Scalar.muli c8_i32_148 arg17
  let v253 : BitVec 32 := Scalar.addi c0_i32_149 v252
  let c0_i32_150 : BitVec 32 := 0#32
  let v254 : BitVec 32 := Scalar.addi v253 c0_i32_150
  let c1_i32_222 : BitVec 32 := 1#32
  let v339 : BitVec 32 := Scalar.subi v254 c1_i32_222
  let c0_i32_223 : BitVec 32 := 0#32
  let v340 : BitVec 32 := Scalar.maxsi v339 c0_i32_223
  let c256_i32_224 : BitVec 32 := 256#32
  let v341 : BitVec 32 := Scalar.muli v340 c256_i32_224
  v341
def k0_off5 (i : grid0.Coords) (k0_t1 : Fin (k0_t1_loop i).trips) (c0_i32_150 : BitVec 32) : Fin 3 → Nat :=
  let c1_225 : Index := 1#32
  let c0_226 : Index := 0#32
  let c0_i32_149 : BitVec 32 := 0#32
  let c8_i32_148 : BitVec 32 := 8#32
  let c0_i32_82 : BitVec 32 := 0#32
  let c1_i32_84 : BitVec 32 := 1#32
  let arg17 : BitVec 32 := Scf.iv c0_i32_82 c1_i32_84 k0_t1
  let v252 : BitVec 32 := Scalar.muli c8_i32_148 arg17
  let v253 : BitVec 32 := Scalar.addi c0_i32_149 v252
  let v254 : BitVec 32 := Scalar.addi v253 c0_i32_150
  let c1_i32_222 : BitVec 32 := 1#32
  let v339 : BitVec 32 := Scalar.subi v254 c1_i32_222
  let c0_i32_223 : BitVec 32 := 0#32
  let v340 : BitVec 32 := Scalar.maxsi v339 c0_i32_223
  let c256_i32_224 : BitVec 32 := 256#32
  let v341 : BitVec 32 := Scalar.muli v340 c256_i32_224
  let v342 : BitVec 32 := v341
  let v343 : Index := Scalar.indexCast v342
  ![1, 0, v343.toNat]
def k0_mult7 (i : grid0.Coords) (k0_t1 : Fin (k0_t1_loop i).trips) : BitVec 32 :=
  let c0_i32_267 : BitVec 32 := 0#32
  let c8_i32_266 : BitVec 32 := 8#32
  let c0_i32_82 : BitVec 32 := 0#32
  let c1_i32_84 : BitVec 32 := 1#32
  let arg17 : BitVec 32 := Scf.iv c0_i32_82 c1_i32_84 k0_t1
  let v395 : BitVec 32 := Scalar.muli c8_i32_266 arg17
  let v396 : BitVec 32 := Scalar.addi c0_i32_267 v395
  let c1_i32_268 : BitVec 32 := 1#32
  let v397 : BitVec 32 := Scalar.addi v396 c1_i32_268
  let c1_i32_269 : BitVec 32 := 1#32
  let v398 : BitVec 32 := Scalar.addi v397 c1_i32_269
  let c256_i32_270 : BitVec 32 := 256#32
  let v399 : BitVec 32 := Scalar.muli v398 c256_i32_270
  v399
def k0_mult8 (i : grid0.Coords) (k0_t1 : Fin (k0_t1_loop i).trips) : BitVec 32 :=
  let c0_i32_267 : BitVec 32 := 0#32
  let c8_i32_266 : BitVec 32 := 8#32
  let c0_i32_82 : BitVec 32 := 0#32
  let c1_i32_84 : BitVec 32 := 1#32
  let arg17 : BitVec 32 := Scf.iv c0_i32_82 c1_i32_84 k0_t1
  let v395 : BitVec 32 := Scalar.muli c8_i32_266 arg17
  let v396 : BitVec 32 := Scalar.addi c0_i32_267 v395
  let c1_i32_268 : BitVec 32 := 1#32
  let v397 : BitVec 32 := Scalar.addi v396 c1_i32_268
  let c1_i32_283 : BitVec 32 := 1#32
  let v412 : BitVec 32 := Scalar.subi v397 c1_i32_283
  let c0_i32_284 : BitVec 32 := 0#32
  let v413 : BitVec 32 := Scalar.maxsi v412 c0_i32_284
  let c256_i32_285 : BitVec 32 := 256#32
  let v414 : BitVec 32 := Scalar.muli v413 c256_i32_285
  v414
def k0_mult9 (i : grid0.Coords) (k0_t1 : Fin (k0_t1_loop i).trips) : BitVec 32 :=
  let c0_i32_267 : BitVec 32 := 0#32
  let c8_i32_266 : BitVec 32 := 8#32
  let c0_i32_82 : BitVec 32 := 0#32
  let c1_i32_84 : BitVec 32 := 1#32
  let arg17 : BitVec 32 := Scf.iv c0_i32_82 c1_i32_84 k0_t1
  let v395 : BitVec 32 := Scalar.muli c8_i32_266 arg17
  let v396 : BitVec 32 := Scalar.addi c0_i32_267 v395
  let c1_i32_268 : BitVec 32 := 1#32
  let v397 : BitVec 32 := Scalar.addi v396 c1_i32_268
  let c1_i32_327 : BitVec 32 := 1#32
  let v468 : BitVec 32 := Scalar.addi v397 c1_i32_327
  let c256_i32_328 : BitVec 32 := 256#32
  let v469 : BitVec 32 := Scalar.muli v468 c256_i32_328
  v469
def k0_mult10 (i : grid0.Coords) (k0_t1 : Fin (k0_t1_loop i).trips) : BitVec 32 :=
  let c0_i32_267 : BitVec 32 := 0#32
  let c8_i32_266 : BitVec 32 := 8#32
  let c0_i32_82 : BitVec 32 := 0#32
  let c1_i32_84 : BitVec 32 := 1#32
  let arg17 : BitVec 32 := Scf.iv c0_i32_82 c1_i32_84 k0_t1
  let v395 : BitVec 32 := Scalar.muli c8_i32_266 arg17
  let v396 : BitVec 32 := Scalar.addi c0_i32_267 v395
  let c1_i32_268 : BitVec 32 := 1#32
  let v397 : BitVec 32 := Scalar.addi v396 c1_i32_268
  let c1_i32_341 : BitVec 32 := 1#32
  let v482 : BitVec 32 := Scalar.subi v397 c1_i32_341
  let c0_i32_342 : BitVec 32 := 0#32
  let v483 : BitVec 32 := Scalar.maxsi v482 c0_i32_342
  let c256_i32_343 : BitVec 32 := 256#32
  let v484 : BitVec 32 := Scalar.muli v483 c256_i32_343
  v484
def k0_mult11 (i : grid0.Coords) (k0_t1 : Fin (k0_t1_loop i).trips) : BitVec 32 :=
  let c0_i32_386 : BitVec 32 := 0#32
  let c8_i32_385 : BitVec 32 := 8#32
  let c0_i32_82 : BitVec 32 := 0#32
  let c1_i32_84 : BitVec 32 := 1#32
  let arg17 : BitVec 32 := Scf.iv c0_i32_82 c1_i32_84 k0_t1
  let v538 : BitVec 32 := Scalar.muli c8_i32_385 arg17
  let v539 : BitVec 32 := Scalar.addi c0_i32_386 v538
  let c2_i32_387 : BitVec 32 := 2#32
  let v540 : BitVec 32 := Scalar.addi v539 c2_i32_387
  let c1_i32_388 : BitVec 32 := 1#32
  let v541 : BitVec 32 := Scalar.addi v540 c1_i32_388
  let c256_i32_389 : BitVec 32 := 256#32
  let v542 : BitVec 32 := Scalar.muli v541 c256_i32_389
  v542
def k0_mult12 (i : grid0.Coords) (k0_t1 : Fin (k0_t1_loop i).trips) : BitVec 32 :=
  let c0_i32_386 : BitVec 32 := 0#32
  let c8_i32_385 : BitVec 32 := 8#32
  let c0_i32_82 : BitVec 32 := 0#32
  let c1_i32_84 : BitVec 32 := 1#32
  let arg17 : BitVec 32 := Scf.iv c0_i32_82 c1_i32_84 k0_t1
  let v538 : BitVec 32 := Scalar.muli c8_i32_385 arg17
  let v539 : BitVec 32 := Scalar.addi c0_i32_386 v538
  let c2_i32_387 : BitVec 32 := 2#32
  let v540 : BitVec 32 := Scalar.addi v539 c2_i32_387
  let c1_i32_402 : BitVec 32 := 1#32
  let v555 : BitVec 32 := Scalar.subi v540 c1_i32_402
  let c0_i32_403 : BitVec 32 := 0#32
  let v556 : BitVec 32 := Scalar.maxsi v555 c0_i32_403
  let c256_i32_404 : BitVec 32 := 256#32
  let v557 : BitVec 32 := Scalar.muli v556 c256_i32_404
  v557
def k0_mult13 (i : grid0.Coords) (k0_t1 : Fin (k0_t1_loop i).trips) : BitVec 32 :=
  let c0_i32_386 : BitVec 32 := 0#32
  let c8_i32_385 : BitVec 32 := 8#32
  let c0_i32_82 : BitVec 32 := 0#32
  let c1_i32_84 : BitVec 32 := 1#32
  let arg17 : BitVec 32 := Scf.iv c0_i32_82 c1_i32_84 k0_t1
  let v538 : BitVec 32 := Scalar.muli c8_i32_385 arg17
  let v539 : BitVec 32 := Scalar.addi c0_i32_386 v538
  let c2_i32_387 : BitVec 32 := 2#32
  let v540 : BitVec 32 := Scalar.addi v539 c2_i32_387
  let c1_i32_446 : BitVec 32 := 1#32
  let v611 : BitVec 32 := Scalar.addi v540 c1_i32_446
  let c256_i32_447 : BitVec 32 := 256#32
  let v612 : BitVec 32 := Scalar.muli v611 c256_i32_447
  v612
def k0_mult14 (i : grid0.Coords) (k0_t1 : Fin (k0_t1_loop i).trips) : BitVec 32 :=
  let c0_i32_386 : BitVec 32 := 0#32
  let c8_i32_385 : BitVec 32 := 8#32
  let c0_i32_82 : BitVec 32 := 0#32
  let c1_i32_84 : BitVec 32 := 1#32
  let arg17 : BitVec 32 := Scf.iv c0_i32_82 c1_i32_84 k0_t1
  let v538 : BitVec 32 := Scalar.muli c8_i32_385 arg17
  let v539 : BitVec 32 := Scalar.addi c0_i32_386 v538
  let c2_i32_387 : BitVec 32 := 2#32
  let v540 : BitVec 32 := Scalar.addi v539 c2_i32_387
  let c1_i32_460 : BitVec 32 := 1#32
  let v625 : BitVec 32 := Scalar.subi v540 c1_i32_460
  let c0_i32_461 : BitVec 32 := 0#32
  let v626 : BitVec 32 := Scalar.maxsi v625 c0_i32_461
  let c256_i32_462 : BitVec 32 := 256#32
  let v627 : BitVec 32 := Scalar.muli v626 c256_i32_462
  v627
def k0_mult15 (i : grid0.Coords) (k0_t1 : Fin (k0_t1_loop i).trips) : BitVec 32 :=
  let c0_i32_505 : BitVec 32 := 0#32
  let c8_i32_504 : BitVec 32 := 8#32
  let c0_i32_82 : BitVec 32 := 0#32
  let c1_i32_84 : BitVec 32 := 1#32
  let arg17 : BitVec 32 := Scf.iv c0_i32_82 c1_i32_84 k0_t1
  let v681 : BitVec 32 := Scalar.muli c8_i32_504 arg17
  let v682 : BitVec 32 := Scalar.addi c0_i32_505 v681
  let c3_i32 : BitVec 32 := 3#32
  let v683 : BitVec 32 := Scalar.addi v682 c3_i32
  let c1_i32_506 : BitVec 32 := 1#32
  let v684 : BitVec 32 := Scalar.addi v683 c1_i32_506
  let c256_i32_507 : BitVec 32 := 256#32
  let v685 : BitVec 32 := Scalar.muli v684 c256_i32_507
  v685
def k0_mult16 (i : grid0.Coords) (k0_t1 : Fin (k0_t1_loop i).trips) : BitVec 32 :=
  let c0_i32_505 : BitVec 32 := 0#32
  let c8_i32_504 : BitVec 32 := 8#32
  let c0_i32_82 : BitVec 32 := 0#32
  let c1_i32_84 : BitVec 32 := 1#32
  let arg17 : BitVec 32 := Scf.iv c0_i32_82 c1_i32_84 k0_t1
  let v681 : BitVec 32 := Scalar.muli c8_i32_504 arg17
  let v682 : BitVec 32 := Scalar.addi c0_i32_505 v681
  let c3_i32 : BitVec 32 := 3#32
  let v683 : BitVec 32 := Scalar.addi v682 c3_i32
  let c1_i32_520 : BitVec 32 := 1#32
  let v698 : BitVec 32 := Scalar.subi v683 c1_i32_520
  let c0_i32_521 : BitVec 32 := 0#32
  let v699 : BitVec 32 := Scalar.maxsi v698 c0_i32_521
  let c256_i32_522 : BitVec 32 := 256#32
  let v700 : BitVec 32 := Scalar.muli v699 c256_i32_522
  v700
def k0_mult17 (i : grid0.Coords) (k0_t1 : Fin (k0_t1_loop i).trips) : BitVec 32 :=
  let c0_i32_505 : BitVec 32 := 0#32
  let c8_i32_504 : BitVec 32 := 8#32
  let c0_i32_82 : BitVec 32 := 0#32
  let c1_i32_84 : BitVec 32 := 1#32
  let arg17 : BitVec 32 := Scf.iv c0_i32_82 c1_i32_84 k0_t1
  let v681 : BitVec 32 := Scalar.muli c8_i32_504 arg17
  let v682 : BitVec 32 := Scalar.addi c0_i32_505 v681
  let c3_i32 : BitVec 32 := 3#32
  let v683 : BitVec 32 := Scalar.addi v682 c3_i32
  let c1_i32_564 : BitVec 32 := 1#32
  let v754 : BitVec 32 := Scalar.addi v683 c1_i32_564
  let c256_i32_565 : BitVec 32 := 256#32
  let v755 : BitVec 32 := Scalar.muli v754 c256_i32_565
  v755
def k0_mult18 (i : grid0.Coords) (k0_t1 : Fin (k0_t1_loop i).trips) : BitVec 32 :=
  let c0_i32_505 : BitVec 32 := 0#32
  let c8_i32_504 : BitVec 32 := 8#32
  let c0_i32_82 : BitVec 32 := 0#32
  let c1_i32_84 : BitVec 32 := 1#32
  let arg17 : BitVec 32 := Scf.iv c0_i32_82 c1_i32_84 k0_t1
  let v681 : BitVec 32 := Scalar.muli c8_i32_504 arg17
  let v682 : BitVec 32 := Scalar.addi c0_i32_505 v681
  let c3_i32 : BitVec 32 := 3#32
  let v683 : BitVec 32 := Scalar.addi v682 c3_i32
  let c1_i32_578 : BitVec 32 := 1#32
  let v768 : BitVec 32 := Scalar.subi v683 c1_i32_578
  let c0_i32_579 : BitVec 32 := 0#32
  let v769 : BitVec 32 := Scalar.maxsi v768 c0_i32_579
  let c256_i32_580 : BitVec 32 := 256#32
  let v770 : BitVec 32 := Scalar.muli v769 c256_i32_580
  v770
def k0_mult19 (i : grid0.Coords) (k0_t1 : Fin (k0_t1_loop i).trips) : BitVec 32 :=
  let c0_i32_623 : BitVec 32 := 0#32
  let c8_i32_622 : BitVec 32 := 8#32
  let c0_i32_82 : BitVec 32 := 0#32
  let c1_i32_84 : BitVec 32 := 1#32
  let arg17 : BitVec 32 := Scf.iv c0_i32_82 c1_i32_84 k0_t1
  let v824 : BitVec 32 := Scalar.muli c8_i32_622 arg17
  let v825 : BitVec 32 := Scalar.addi c0_i32_623 v824
  let c4_i32_624 : BitVec 32 := 4#32
  let v826 : BitVec 32 := Scalar.addi v825 c4_i32_624
  let c1_i32_625 : BitVec 32 := 1#32
  let v827 : BitVec 32 := Scalar.addi v826 c1_i32_625
  let c256_i32_626 : BitVec 32 := 256#32
  let v828 : BitVec 32 := Scalar.muli v827 c256_i32_626
  v828
def k0_mult20 (i : grid0.Coords) (k0_t1 : Fin (k0_t1_loop i).trips) : BitVec 32 :=
  let c0_i32_623 : BitVec 32 := 0#32
  let c8_i32_622 : BitVec 32 := 8#32
  let c0_i32_82 : BitVec 32 := 0#32
  let c1_i32_84 : BitVec 32 := 1#32
  let arg17 : BitVec 32 := Scf.iv c0_i32_82 c1_i32_84 k0_t1
  let v824 : BitVec 32 := Scalar.muli c8_i32_622 arg17
  let v825 : BitVec 32 := Scalar.addi c0_i32_623 v824
  let c4_i32_624 : BitVec 32 := 4#32
  let v826 : BitVec 32 := Scalar.addi v825 c4_i32_624
  let c1_i32_639 : BitVec 32 := 1#32
  let v841 : BitVec 32 := Scalar.subi v826 c1_i32_639
  let c0_i32_640 : BitVec 32 := 0#32
  let v842 : BitVec 32 := Scalar.maxsi v841 c0_i32_640
  let c256_i32_641 : BitVec 32 := 256#32
  let v843 : BitVec 32 := Scalar.muli v842 c256_i32_641
  v843
def k0_mult21 (i : grid0.Coords) (k0_t1 : Fin (k0_t1_loop i).trips) : BitVec 32 :=
  let c0_i32_623 : BitVec 32 := 0#32
  let c8_i32_622 : BitVec 32 := 8#32
  let c0_i32_82 : BitVec 32 := 0#32
  let c1_i32_84 : BitVec 32 := 1#32
  let arg17 : BitVec 32 := Scf.iv c0_i32_82 c1_i32_84 k0_t1
  let v824 : BitVec 32 := Scalar.muli c8_i32_622 arg17
  let v825 : BitVec 32 := Scalar.addi c0_i32_623 v824
  let c4_i32_624 : BitVec 32 := 4#32
  let v826 : BitVec 32 := Scalar.addi v825 c4_i32_624
  let c1_i32_683 : BitVec 32 := 1#32
  let v897 : BitVec 32 := Scalar.addi v826 c1_i32_683
  let c256_i32_684 : BitVec 32 := 256#32
  let v898 : BitVec 32 := Scalar.muli v897 c256_i32_684
  v898
def k0_mult22 (i : grid0.Coords) (k0_t1 : Fin (k0_t1_loop i).trips) : BitVec 32 :=
  let c0_i32_623 : BitVec 32 := 0#32
  let c8_i32_622 : BitVec 32 := 8#32
  let c0_i32_82 : BitVec 32 := 0#32
  let c1_i32_84 : BitVec 32 := 1#32
  let arg17 : BitVec 32 := Scf.iv c0_i32_82 c1_i32_84 k0_t1
  let v824 : BitVec 32 := Scalar.muli c8_i32_622 arg17
  let v825 : BitVec 32 := Scalar.addi c0_i32_623 v824
  let c4_i32_624 : BitVec 32 := 4#32
  let v826 : BitVec 32 := Scalar.addi v825 c4_i32_624
  let c1_i32_697 : BitVec 32 := 1#32
  let v911 : BitVec 32 := Scalar.subi v826 c1_i32_697
  let c0_i32_698 : BitVec 32 := 0#32
  let v912 : BitVec 32 := Scalar.maxsi v911 c0_i32_698
  let c256_i32_699 : BitVec 32 := 256#32
  let v913 : BitVec 32 := Scalar.muli v912 c256_i32_699
  v913
def k0_mult23 (i : grid0.Coords) (k0_t1 : Fin (k0_t1_loop i).trips) : BitVec 32 :=
  let c0_i32_742 : BitVec 32 := 0#32
  let c8_i32_741 : BitVec 32 := 8#32
  let c0_i32_82 : BitVec 32 := 0#32
  let c1_i32_84 : BitVec 32 := 1#32
  let arg17 : BitVec 32 := Scf.iv c0_i32_82 c1_i32_84 k0_t1
  let v967 : BitVec 32 := Scalar.muli c8_i32_741 arg17
  let v968 : BitVec 32 := Scalar.addi c0_i32_742 v967
  let c5_i32 : BitVec 32 := 5#32
  let v969 : BitVec 32 := Scalar.addi v968 c5_i32
  let c1_i32_743 : BitVec 32 := 1#32
  let v970 : BitVec 32 := Scalar.addi v969 c1_i32_743
  let c256_i32_744 : BitVec 32 := 256#32
  let v971 : BitVec 32 := Scalar.muli v970 c256_i32_744
  v971
def k0_mult24 (i : grid0.Coords) (k0_t1 : Fin (k0_t1_loop i).trips) : BitVec 32 :=
  let c0_i32_742 : BitVec 32 := 0#32
  let c8_i32_741 : BitVec 32 := 8#32
  let c0_i32_82 : BitVec 32 := 0#32
  let c1_i32_84 : BitVec 32 := 1#32
  let arg17 : BitVec 32 := Scf.iv c0_i32_82 c1_i32_84 k0_t1
  let v967 : BitVec 32 := Scalar.muli c8_i32_741 arg17
  let v968 : BitVec 32 := Scalar.addi c0_i32_742 v967
  let c5_i32 : BitVec 32 := 5#32
  let v969 : BitVec 32 := Scalar.addi v968 c5_i32
  let c1_i32_757 : BitVec 32 := 1#32
  let v984 : BitVec 32 := Scalar.subi v969 c1_i32_757
  let c0_i32_758 : BitVec 32 := 0#32
  let v985 : BitVec 32 := Scalar.maxsi v984 c0_i32_758
  let c256_i32_759 : BitVec 32 := 256#32
  let v986 : BitVec 32 := Scalar.muli v985 c256_i32_759
  v986
def k0_mult25 (i : grid0.Coords) (k0_t1 : Fin (k0_t1_loop i).trips) : BitVec 32 :=
  let c0_i32_742 : BitVec 32 := 0#32
  let c8_i32_741 : BitVec 32 := 8#32
  let c0_i32_82 : BitVec 32 := 0#32
  let c1_i32_84 : BitVec 32 := 1#32
  let arg17 : BitVec 32 := Scf.iv c0_i32_82 c1_i32_84 k0_t1
  let v967 : BitVec 32 := Scalar.muli c8_i32_741 arg17
  let v968 : BitVec 32 := Scalar.addi c0_i32_742 v967
  let c5_i32 : BitVec 32 := 5#32
  let v969 : BitVec 32 := Scalar.addi v968 c5_i32
  let c1_i32_801 : BitVec 32 := 1#32
  let v1040 : BitVec 32 := Scalar.addi v969 c1_i32_801
  let c256_i32_802 : BitVec 32 := 256#32
  let v1041 : BitVec 32 := Scalar.muli v1040 c256_i32_802
  v1041
def k0_mult26 (i : grid0.Coords) (k0_t1 : Fin (k0_t1_loop i).trips) : BitVec 32 :=
  let c0_i32_742 : BitVec 32 := 0#32
  let c8_i32_741 : BitVec 32 := 8#32
  let c0_i32_82 : BitVec 32 := 0#32
  let c1_i32_84 : BitVec 32 := 1#32
  let arg17 : BitVec 32 := Scf.iv c0_i32_82 c1_i32_84 k0_t1
  let v967 : BitVec 32 := Scalar.muli c8_i32_741 arg17
  let v968 : BitVec 32 := Scalar.addi c0_i32_742 v967
  let c5_i32 : BitVec 32 := 5#32
  let v969 : BitVec 32 := Scalar.addi v968 c5_i32
  let c1_i32_815 : BitVec 32 := 1#32
  let v1054 : BitVec 32 := Scalar.subi v969 c1_i32_815
  let c0_i32_816 : BitVec 32 := 0#32
  let v1055 : BitVec 32 := Scalar.maxsi v1054 c0_i32_816
  let c256_i32_817 : BitVec 32 := 256#32
  let v1056 : BitVec 32 := Scalar.muli v1055 c256_i32_817
  v1056
def k0_mult27 (i : grid0.Coords) (k0_t1 : Fin (k0_t1_loop i).trips) : BitVec 32 :=
  let c0_i32_860 : BitVec 32 := 0#32
  let c8_i32_859 : BitVec 32 := 8#32
  let c0_i32_82 : BitVec 32 := 0#32
  let c1_i32_84 : BitVec 32 := 1#32
  let arg17 : BitVec 32 := Scf.iv c0_i32_82 c1_i32_84 k0_t1
  let v1110 : BitVec 32 := Scalar.muli c8_i32_859 arg17
  let v1111 : BitVec 32 := Scalar.addi c0_i32_860 v1110
  let c6_i32 : BitVec 32 := 6#32
  let v1112 : BitVec 32 := Scalar.addi v1111 c6_i32
  let c1_i32_861 : BitVec 32 := 1#32
  let v1113 : BitVec 32 := Scalar.addi v1112 c1_i32_861
  let c256_i32_862 : BitVec 32 := 256#32
  let v1114 : BitVec 32 := Scalar.muli v1113 c256_i32_862
  v1114
def k0_mult28 (i : grid0.Coords) (k0_t1 : Fin (k0_t1_loop i).trips) : BitVec 32 :=
  let c0_i32_860 : BitVec 32 := 0#32
  let c8_i32_859 : BitVec 32 := 8#32
  let c0_i32_82 : BitVec 32 := 0#32
  let c1_i32_84 : BitVec 32 := 1#32
  let arg17 : BitVec 32 := Scf.iv c0_i32_82 c1_i32_84 k0_t1
  let v1110 : BitVec 32 := Scalar.muli c8_i32_859 arg17
  let v1111 : BitVec 32 := Scalar.addi c0_i32_860 v1110
  let c6_i32 : BitVec 32 := 6#32
  let v1112 : BitVec 32 := Scalar.addi v1111 c6_i32
  let c1_i32_875 : BitVec 32 := 1#32
  let v1127 : BitVec 32 := Scalar.subi v1112 c1_i32_875
  let c0_i32_876 : BitVec 32 := 0#32
  let v1128 : BitVec 32 := Scalar.maxsi v1127 c0_i32_876
  let c256_i32_877 : BitVec 32 := 256#32
  let v1129 : BitVec 32 := Scalar.muli v1128 c256_i32_877
  v1129
def k0_mult29 (i : grid0.Coords) (k0_t1 : Fin (k0_t1_loop i).trips) : BitVec 32 :=
  let c0_i32_860 : BitVec 32 := 0#32
  let c8_i32_859 : BitVec 32 := 8#32
  let c0_i32_82 : BitVec 32 := 0#32
  let c1_i32_84 : BitVec 32 := 1#32
  let arg17 : BitVec 32 := Scf.iv c0_i32_82 c1_i32_84 k0_t1
  let v1110 : BitVec 32 := Scalar.muli c8_i32_859 arg17
  let v1111 : BitVec 32 := Scalar.addi c0_i32_860 v1110
  let c6_i32 : BitVec 32 := 6#32
  let v1112 : BitVec 32 := Scalar.addi v1111 c6_i32
  let c1_i32_919 : BitVec 32 := 1#32
  let v1183 : BitVec 32 := Scalar.addi v1112 c1_i32_919
  let c256_i32_920 : BitVec 32 := 256#32
  let v1184 : BitVec 32 := Scalar.muli v1183 c256_i32_920
  v1184
def k0_mult30 (i : grid0.Coords) (k0_t1 : Fin (k0_t1_loop i).trips) : BitVec 32 :=
  let c0_i32_860 : BitVec 32 := 0#32
  let c8_i32_859 : BitVec 32 := 8#32
  let c0_i32_82 : BitVec 32 := 0#32
  let c1_i32_84 : BitVec 32 := 1#32
  let arg17 : BitVec 32 := Scf.iv c0_i32_82 c1_i32_84 k0_t1
  let v1110 : BitVec 32 := Scalar.muli c8_i32_859 arg17
  let v1111 : BitVec 32 := Scalar.addi c0_i32_860 v1110
  let c6_i32 : BitVec 32 := 6#32
  let v1112 : BitVec 32 := Scalar.addi v1111 c6_i32
  let c1_i32_933 : BitVec 32 := 1#32
  let v1197 : BitVec 32 := Scalar.subi v1112 c1_i32_933
  let c0_i32_934 : BitVec 32 := 0#32
  let v1198 : BitVec 32 := Scalar.maxsi v1197 c0_i32_934
  let c256_i32_935 : BitVec 32 := 256#32
  let v1199 : BitVec 32 := Scalar.muli v1198 c256_i32_935
  v1199
def k0_mult31 (i : grid0.Coords) (k0_t1 : Fin (k0_t1_loop i).trips) : BitVec 32 :=
  let c0_i32_978 : BitVec 32 := 0#32
  let c8_i32_977 : BitVec 32 := 8#32
  let c0_i32_82 : BitVec 32 := 0#32
  let c1_i32_84 : BitVec 32 := 1#32
  let arg17 : BitVec 32 := Scf.iv c0_i32_82 c1_i32_84 k0_t1
  let v1253 : BitVec 32 := Scalar.muli c8_i32_977 arg17
  let v1254 : BitVec 32 := Scalar.addi c0_i32_978 v1253
  let c7_i32 : BitVec 32 := 7#32
  let v1255 : BitVec 32 := Scalar.addi v1254 c7_i32
  let c1_i32_979 : BitVec 32 := 1#32
  let v1256 : BitVec 32 := Scalar.addi v1255 c1_i32_979
  let c256_i32_980 : BitVec 32 := 256#32
  let v1257 : BitVec 32 := Scalar.muli v1256 c256_i32_980
  v1257
def k0_mult32 (i : grid0.Coords) (k0_t1 : Fin (k0_t1_loop i).trips) : BitVec 32 :=
  let c0_i32_978 : BitVec 32 := 0#32
  let c8_i32_977 : BitVec 32 := 8#32
  let c0_i32_82 : BitVec 32 := 0#32
  let c1_i32_84 : BitVec 32 := 1#32
  let arg17 : BitVec 32 := Scf.iv c0_i32_82 c1_i32_84 k0_t1
  let v1253 : BitVec 32 := Scalar.muli c8_i32_977 arg17
  let v1254 : BitVec 32 := Scalar.addi c0_i32_978 v1253
  let c7_i32 : BitVec 32 := 7#32
  let v1255 : BitVec 32 := Scalar.addi v1254 c7_i32
  let c1_i32_993 : BitVec 32 := 1#32
  let v1270 : BitVec 32 := Scalar.subi v1255 c1_i32_993
  let c0_i32_994 : BitVec 32 := 0#32
  let v1271 : BitVec 32 := Scalar.maxsi v1270 c0_i32_994
  let c256_i32_995 : BitVec 32 := 256#32
  let v1272 : BitVec 32 := Scalar.muli v1271 c256_i32_995
  v1272
def k0_mult33 (i : grid0.Coords) (k0_t1 : Fin (k0_t1_loop i).trips) : BitVec 32 :=
  let c0_i32_978 : BitVec 32 := 0#32
  let c8_i32_977 : BitVec 32 := 8#32
  let c0_i32_82 : BitVec 32 := 0#32
  let c1_i32_84 : BitVec 32 := 1#32
  let arg17 : BitVec 32 := Scf.iv c0_i32_82 c1_i32_84 k0_t1
  let v1253 : BitVec 32 := Scalar.muli c8_i32_977 arg17
  let v1254 : BitVec 32 := Scalar.addi c0_i32_978 v1253
  let c7_i32 : BitVec 32 := 7#32
  let v1255 : BitVec 32 := Scalar.addi v1254 c7_i32
  let c1_i32_1037 : BitVec 32 := 1#32
  let v1326 : BitVec 32 := Scalar.addi v1255 c1_i32_1037
  let c256_i32_1038 : BitVec 32 := 256#32
  let v1327 : BitVec 32 := Scalar.muli v1326 c256_i32_1038
  v1327
def k0_mult34 (i : grid0.Coords) (k0_t1 : Fin (k0_t1_loop i).trips) : BitVec 32 :=
  let c0_i32_978 : BitVec 32 := 0#32
  let c8_i32_977 : BitVec 32 := 8#32
  let c0_i32_82 : BitVec 32 := 0#32
  let c1_i32_84 : BitVec 32 := 1#32
  let arg17 : BitVec 32 := Scf.iv c0_i32_82 c1_i32_84 k0_t1
  let v1253 : BitVec 32 := Scalar.muli c8_i32_977 arg17
  let v1254 : BitVec 32 := Scalar.addi c0_i32_978 v1253
  let c7_i32 : BitVec 32 := 7#32
  let v1255 : BitVec 32 := Scalar.addi v1254 c7_i32
  let c1_i32_1051 : BitVec 32 := 1#32
  let v1340 : BitVec 32 := Scalar.subi v1255 c1_i32_1051
  let c0_i32_1052 : BitVec 32 := 0#32
  let v1341 : BitVec 32 := Scalar.maxsi v1340 c0_i32_1052
  let c256_i32_1053 : BitVec 32 := 256#32
  let v1342 : BitVec 32 := Scalar.muli v1341 c256_i32_1053
  v1342
@[reducible] def k0_t2_loop (i : grid0.Coords) : Scf.Loop 32 :=
  let c0_i32_82 : BitVec 32 := 0#32
  let arg1 : BitVec 32 := BitVec.ofNat 32 (i 1).val
  let c0_i32_75 : BitVec 32 := 0#32
  let v94 : BitVec 32 := Scalar.subi arg1 c0_i32_75
  let c0_i32_76 : BitVec 32 := 0#32
  let v96 : BitVec 1 := Scalar.cmpi .sgt v94 c0_i32_76
  let v97 : BitVec 32 := Scalar.extui v96
  let c0_i32_77 : BitVec 32 := 0#32
  let v98 : BitVec 1 := Scalar.cmpi .slt v94 c0_i32_77
  let v99 : BitVec 32 := Scalar.extui v98
  let v100 : BitVec 32 := Scalar.subi v97 v99
  let c8_i32 : BitVec 32 := 8#32
  let c0_i32_78 : BitVec 32 := 0#32
  let v101 : BitVec 1 := Scalar.cmpi .sgt c8_i32 c0_i32_78
  let v102 : BitVec 32 := Scalar.extui v101
  let c0_i32_79 : BitVec 32 := 0#32
  let v103 : BitVec 1 := Scalar.cmpi .slt c8_i32 c0_i32_79
  let v104 : BitVec 32 := Scalar.extui v103
  let v105 : BitVec 32 := Scalar.subi v102 v104
  let v106 : BitVec 1 := Scalar.cmpi .ne v100 v105
  let v107 : BitVec 32 := Scalar.remsi v94 c8_i32
  let c0_i32_80 : BitVec 32 := 0#32
  let v108 : BitVec 1 := Scalar.cmpi .ne v107 c0_i32_80
  let v109 : BitVec 1 := Scalar.andi v106 v108
  let v95 : BitVec 32 := Scalar.divsi v94 c8_i32
  let c1_i32 : BitVec 32 := 1#32
  let v110 : BitVec 32 := Scalar.subi v95 c1_i32
  let v111 : BitVec 32 := Scalar.select v109 v110 v95
  let v112 : BitVec 32 := Scalar.subi v111 c0_i32_82
  let c1_i32_83 : BitVec 32 := 1#32
  let v114 : BitVec 32 := Scalar.divsi v112 c1_i32_83
  let v115 : BitVec 32 := Scalar.muli v114 c1_i32_83
  let v116 : BitVec 32 := Scalar.addi c0_i32_82 v115
  let v113 : BitVec 32 := Scalar.addi c0_i32_82 v112
  let c1_i32_85 : BitVec 32 := 1#32
  ⟨v116, v113, c1_i32_85⟩
def k0_mult35 (i : grid0.Coords) (k0_t2 : Fin (k0_t2_loop i).trips) : BitVec 32 :=
  let c0_i32_149 : BitVec 32 := 0#32
  let c8_i32_148 : BitVec 32 := 8#32
  let c0_i32_82 : BitVec 32 := 0#32
  let arg1 : BitVec 32 := BitVec.ofNat 32 (i 1).val
  let c0_i32_75 : BitVec 32 := 0#32
  let v94 : BitVec 32 := Scalar.subi arg1 c0_i32_75
  let c0_i32_76 : BitVec 32 := 0#32
  let v96 : BitVec 1 := Scalar.cmpi .sgt v94 c0_i32_76
  let v97 : BitVec 32 := Scalar.extui v96
  let c0_i32_77 : BitVec 32 := 0#32
  let v98 : BitVec 1 := Scalar.cmpi .slt v94 c0_i32_77
  let v99 : BitVec 32 := Scalar.extui v98
  let v100 : BitVec 32 := Scalar.subi v97 v99
  let c8_i32 : BitVec 32 := 8#32
  let c0_i32_78 : BitVec 32 := 0#32
  let v101 : BitVec 1 := Scalar.cmpi .sgt c8_i32 c0_i32_78
  let v102 : BitVec 32 := Scalar.extui v101
  let c0_i32_79 : BitVec 32 := 0#32
  let v103 : BitVec 1 := Scalar.cmpi .slt c8_i32 c0_i32_79
  let v104 : BitVec 32 := Scalar.extui v103
  let v105 : BitVec 32 := Scalar.subi v102 v104
  let v106 : BitVec 1 := Scalar.cmpi .ne v100 v105
  let v107 : BitVec 32 := Scalar.remsi v94 c8_i32
  let c0_i32_80 : BitVec 32 := 0#32
  let v108 : BitVec 1 := Scalar.cmpi .ne v107 c0_i32_80
  let v109 : BitVec 1 := Scalar.andi v106 v108
  let v95 : BitVec 32 := Scalar.divsi v94 c8_i32
  let c1_i32 : BitVec 32 := 1#32
  let v110 : BitVec 32 := Scalar.subi v95 c1_i32
  let v111 : BitVec 32 := Scalar.select v109 v110 v95
  let v112 : BitVec 32 := Scalar.subi v111 c0_i32_82
  let c1_i32_83 : BitVec 32 := 1#32
  let v114 : BitVec 32 := Scalar.divsi v112 c1_i32_83
  let v115 : BitVec 32 := Scalar.muli v114 c1_i32_83
  let v116 : BitVec 32 := Scalar.addi c0_i32_82 v115
  let c1_i32_85 : BitVec 32 := 1#32
  let arg17 : BitVec 32 := Scf.iv v116 c1_i32_85 k0_t2
  let v252 : BitVec 32 := Scalar.muli c8_i32_148 arg17
  let v253 : BitVec 32 := Scalar.addi c0_i32_149 v252
  let c0_i32_150 : BitVec 32 := 0#32
  let v254 : BitVec 32 := Scalar.addi v253 c0_i32_150
  let c1_i32_151 : BitVec 32 := 1#32
  let v255 : BitVec 32 := Scalar.addi v254 c1_i32_151
  let c256_i32 : BitVec 32 := 256#32
  let v256 : BitVec 32 := Scalar.muli v255 c256_i32
  v256
def k0_off6 (i : grid0.Coords) (k0_t2 : Fin (k0_t2_loop i).trips) (c0_i32_150 : BitVec 32) : Fin 2 → Nat :=
  let c0_i32_149 : BitVec 32 := 0#32
  let c8_i32_148 : BitVec 32 := 8#32
  let c0_i32_82 : BitVec 32 := 0#32
  let arg1 : BitVec 32 := BitVec.ofNat 32 (i 1).val
  let c0_i32_75 : BitVec 32 := 0#32
  let v94 : BitVec 32 := Scalar.subi arg1 c0_i32_75
  let c0_i32_76 : BitVec 32 := 0#32
  let v96 : BitVec 1 := Scalar.cmpi .sgt v94 c0_i32_76
  let v97 : BitVec 32 := Scalar.extui v96
  let c0_i32_77 : BitVec 32 := 0#32
  let v98 : BitVec 1 := Scalar.cmpi .slt v94 c0_i32_77
  let v99 : BitVec 32 := Scalar.extui v98
  let v100 : BitVec 32 := Scalar.subi v97 v99
  let c8_i32 : BitVec 32 := 8#32
  let c0_i32_78 : BitVec 32 := 0#32
  let v101 : BitVec 1 := Scalar.cmpi .sgt c8_i32 c0_i32_78
  let v102 : BitVec 32 := Scalar.extui v101
  let c0_i32_79 : BitVec 32 := 0#32
  let v103 : BitVec 1 := Scalar.cmpi .slt c8_i32 c0_i32_79
  let v104 : BitVec 32 := Scalar.extui v103
  let v105 : BitVec 32 := Scalar.subi v102 v104
  let v106 : BitVec 1 := Scalar.cmpi .ne v100 v105
  let v107 : BitVec 32 := Scalar.remsi v94 c8_i32
  let c0_i32_80 : BitVec 32 := 0#32
  let v108 : BitVec 1 := Scalar.cmpi .ne v107 c0_i32_80
  let v109 : BitVec 1 := Scalar.andi v106 v108
  let v95 : BitVec 32 := Scalar.divsi v94 c8_i32
  let c1_i32 : BitVec 32 := 1#32
  let v110 : BitVec 32 := Scalar.subi v95 c1_i32
  let v111 : BitVec 32 := Scalar.select v109 v110 v95
  let v112 : BitVec 32 := Scalar.subi v111 c0_i32_82
  let c1_i32_83 : BitVec 32 := 1#32
  let v114 : BitVec 32 := Scalar.divsi v112 c1_i32_83
  let v115 : BitVec 32 := Scalar.muli v114 c1_i32_83
  let v116 : BitVec 32 := Scalar.addi c0_i32_82 v115
  let c1_i32_85 : BitVec 32 := 1#32
  let arg17 : BitVec 32 := Scf.iv v116 c1_i32_85 k0_t2
  let v252 : BitVec 32 := Scalar.muli c8_i32_148 arg17
  let v253 : BitVec 32 := Scalar.addi c0_i32_149 v252
  let v254 : BitVec 32 := Scalar.addi v253 c0_i32_150
  let c1_i32_151 : BitVec 32 := 1#32
  let v255 : BitVec 32 := Scalar.addi v254 c1_i32_151
  let c256_i32 : BitVec 32 := 256#32
  let v256 : BitVec 32 := Scalar.muli v255 c256_i32
  let v257 : BitVec 32 := v256
  let v258 : Index := Scalar.indexCast v257
  let c0_152 : Index := 0#32
  ![v258.toNat, 0]
def k0_mult36 (i : grid0.Coords) (k0_t2 : Fin (k0_t2_loop i).trips) : BitVec 32 :=
  let c0_i32_149 : BitVec 32 := 0#32
  let c8_i32_148 : BitVec 32 := 8#32
  let c0_i32_82 : BitVec 32 := 0#32
  let arg1 : BitVec 32 := BitVec.ofNat 32 (i 1).val
  let c0_i32_75 : BitVec 32 := 0#32
  let v94 : BitVec 32 := Scalar.subi arg1 c0_i32_75
  let c0_i32_76 : BitVec 32 := 0#32
  let v96 : BitVec 1 := Scalar.cmpi .sgt v94 c0_i32_76
  let v97 : BitVec 32 := Scalar.extui v96
  let c0_i32_77 : BitVec 32 := 0#32
  let v98 : BitVec 1 := Scalar.cmpi .slt v94 c0_i32_77
  let v99 : BitVec 32 := Scalar.extui v98
  let v100 : BitVec 32 := Scalar.subi v97 v99
  let c8_i32 : BitVec 32 := 8#32
  let c0_i32_78 : BitVec 32 := 0#32
  let v101 : BitVec 1 := Scalar.cmpi .sgt c8_i32 c0_i32_78
  let v102 : BitVec 32 := Scalar.extui v101
  let c0_i32_79 : BitVec 32 := 0#32
  let v103 : BitVec 1 := Scalar.cmpi .slt c8_i32 c0_i32_79
  let v104 : BitVec 32 := Scalar.extui v103
  let v105 : BitVec 32 := Scalar.subi v102 v104
  let v106 : BitVec 1 := Scalar.cmpi .ne v100 v105
  let v107 : BitVec 32 := Scalar.remsi v94 c8_i32
  let c0_i32_80 : BitVec 32 := 0#32
  let v108 : BitVec 1 := Scalar.cmpi .ne v107 c0_i32_80
  let v109 : BitVec 1 := Scalar.andi v106 v108
  let v95 : BitVec 32 := Scalar.divsi v94 c8_i32
  let c1_i32 : BitVec 32 := 1#32
  let v110 : BitVec 32 := Scalar.subi v95 c1_i32
  let v111 : BitVec 32 := Scalar.select v109 v110 v95
  let v112 : BitVec 32 := Scalar.subi v111 c0_i32_82
  let c1_i32_83 : BitVec 32 := 1#32
  let v114 : BitVec 32 := Scalar.divsi v112 c1_i32_83
  let v115 : BitVec 32 := Scalar.muli v114 c1_i32_83
  let v116 : BitVec 32 := Scalar.addi c0_i32_82 v115
  let c1_i32_85 : BitVec 32 := 1#32
  let arg17 : BitVec 32 := Scf.iv v116 c1_i32_85 k0_t2
  let v252 : BitVec 32 := Scalar.muli c8_i32_148 arg17
  let v253 : BitVec 32 := Scalar.addi c0_i32_149 v252
  let c0_i32_150 : BitVec 32 := 0#32
  let v254 : BitVec 32 := Scalar.addi v253 c0_i32_150
  let c1_i32_164 : BitVec 32 := 1#32
  let v269 : BitVec 32 := Scalar.subi v254 c1_i32_164
  let c0_i32_165 : BitVec 32 := 0#32
  let v270 : BitVec 32 := Scalar.maxsi v269 c0_i32_165
  let c256_i32_166 : BitVec 32 := 256#32
  let v271 : BitVec 32 := Scalar.muli v270 c256_i32_166
  v271
def k0_off7 (i : grid0.Coords) (k0_t2 : Fin (k0_t2_loop i).trips) (c0_i32_150 : BitVec 32) : Fin 3 → Nat :=
  let c0_167 : Index := 0#32
  let c0_168 : Index := 0#32
  let c0_i32_149 : BitVec 32 := 0#32
  let c8_i32_148 : BitVec 32 := 8#32
  let c0_i32_82 : BitVec 32 := 0#32
  let arg1 : BitVec 32 := BitVec.ofNat 32 (i 1).val
  let c0_i32_75 : BitVec 32 := 0#32
  let v94 : BitVec 32 := Scalar.subi arg1 c0_i32_75
  let c0_i32_76 : BitVec 32 := 0#32
  let v96 : BitVec 1 := Scalar.cmpi .sgt v94 c0_i32_76
  let v97 : BitVec 32 := Scalar.extui v96
  let c0_i32_77 : BitVec 32 := 0#32
  let v98 : BitVec 1 := Scalar.cmpi .slt v94 c0_i32_77
  let v99 : BitVec 32 := Scalar.extui v98
  let v100 : BitVec 32 := Scalar.subi v97 v99
  let c8_i32 : BitVec 32 := 8#32
  let c0_i32_78 : BitVec 32 := 0#32
  let v101 : BitVec 1 := Scalar.cmpi .sgt c8_i32 c0_i32_78
  let v102 : BitVec 32 := Scalar.extui v101
  let c0_i32_79 : BitVec 32 := 0#32
  let v103 : BitVec 1 := Scalar.cmpi .slt c8_i32 c0_i32_79
  let v104 : BitVec 32 := Scalar.extui v103
  let v105 : BitVec 32 := Scalar.subi v102 v104
  let v106 : BitVec 1 := Scalar.cmpi .ne v100 v105
  let v107 : BitVec 32 := Scalar.remsi v94 c8_i32
  let c0_i32_80 : BitVec 32 := 0#32
  let v108 : BitVec 1 := Scalar.cmpi .ne v107 c0_i32_80
  let v109 : BitVec 1 := Scalar.andi v106 v108
  let v95 : BitVec 32 := Scalar.divsi v94 c8_i32
  let c1_i32 : BitVec 32 := 1#32
  let v110 : BitVec 32 := Scalar.subi v95 c1_i32
  let v111 : BitVec 32 := Scalar.select v109 v110 v95
  let v112 : BitVec 32 := Scalar.subi v111 c0_i32_82
  let c1_i32_83 : BitVec 32 := 1#32
  let v114 : BitVec 32 := Scalar.divsi v112 c1_i32_83
  let v115 : BitVec 32 := Scalar.muli v114 c1_i32_83
  let v116 : BitVec 32 := Scalar.addi c0_i32_82 v115
  let c1_i32_85 : BitVec 32 := 1#32
  let arg17 : BitVec 32 := Scf.iv v116 c1_i32_85 k0_t2
  let v252 : BitVec 32 := Scalar.muli c8_i32_148 arg17
  let v253 : BitVec 32 := Scalar.addi c0_i32_149 v252
  let v254 : BitVec 32 := Scalar.addi v253 c0_i32_150
  let c1_i32_164 : BitVec 32 := 1#32
  let v269 : BitVec 32 := Scalar.subi v254 c1_i32_164
  let c0_i32_165 : BitVec 32 := 0#32
  let v270 : BitVec 32 := Scalar.maxsi v269 c0_i32_165
  let c256_i32_166 : BitVec 32 := 256#32
  let v271 : BitVec 32 := Scalar.muli v270 c256_i32_166
  let v272 : BitVec 32 := v271
  let v273 : Index := Scalar.indexCast v272
  ![0, 0, v273.toNat]
def k0_off8 (i : grid0.Coords) (c0_i32_186 : BitVec 32) : Fin 1 → Nat :=
  let arg0 : BitVec 32 := BitVec.ofNat 32 (i 0).val
  let c2_i32_185 : BitVec 32 := 2#32
  let v291 : BitVec 32 := Scalar.muli arg0 c2_i32_185
  let v292 : BitVec 32 := Scalar.addi v291 c0_i32_186
  let v293 : Index := Scalar.indexCast v292
  ![v293.toNat]
def k0_mult37 (i : grid0.Coords) (k0_t2 : Fin (k0_t2_loop i).trips) : BitVec 32 :=
  let c0_i32_149 : BitVec 32 := 0#32
  let c8_i32_148 : BitVec 32 := 8#32
  let c0_i32_82 : BitVec 32 := 0#32
  let arg1 : BitVec 32 := BitVec.ofNat 32 (i 1).val
  let c0_i32_75 : BitVec 32 := 0#32
  let v94 : BitVec 32 := Scalar.subi arg1 c0_i32_75
  let c0_i32_76 : BitVec 32 := 0#32
  let v96 : BitVec 1 := Scalar.cmpi .sgt v94 c0_i32_76
  let v97 : BitVec 32 := Scalar.extui v96
  let c0_i32_77 : BitVec 32 := 0#32
  let v98 : BitVec 1 := Scalar.cmpi .slt v94 c0_i32_77
  let v99 : BitVec 32 := Scalar.extui v98
  let v100 : BitVec 32 := Scalar.subi v97 v99
  let c8_i32 : BitVec 32 := 8#32
  let c0_i32_78 : BitVec 32 := 0#32
  let v101 : BitVec 1 := Scalar.cmpi .sgt c8_i32 c0_i32_78
  let v102 : BitVec 32 := Scalar.extui v101
  let c0_i32_79 : BitVec 32 := 0#32
  let v103 : BitVec 1 := Scalar.cmpi .slt c8_i32 c0_i32_79
  let v104 : BitVec 32 := Scalar.extui v103
  let v105 : BitVec 32 := Scalar.subi v102 v104
  let v106 : BitVec 1 := Scalar.cmpi .ne v100 v105
  let v107 : BitVec 32 := Scalar.remsi v94 c8_i32
  let c0_i32_80 : BitVec 32 := 0#32
  let v108 : BitVec 1 := Scalar.cmpi .ne v107 c0_i32_80
  let v109 : BitVec 1 := Scalar.andi v106 v108
  let v95 : BitVec 32 := Scalar.divsi v94 c8_i32
  let c1_i32 : BitVec 32 := 1#32
  let v110 : BitVec 32 := Scalar.subi v95 c1_i32
  let v111 : BitVec 32 := Scalar.select v109 v110 v95
  let v112 : BitVec 32 := Scalar.subi v111 c0_i32_82
  let c1_i32_83 : BitVec 32 := 1#32
  let v114 : BitVec 32 := Scalar.divsi v112 c1_i32_83
  let v115 : BitVec 32 := Scalar.muli v114 c1_i32_83
  let v116 : BitVec 32 := Scalar.addi c0_i32_82 v115
  let c1_i32_85 : BitVec 32 := 1#32
  let arg17 : BitVec 32 := Scf.iv v116 c1_i32_85 k0_t2
  let v252 : BitVec 32 := Scalar.muli c8_i32_148 arg17
  let v253 : BitVec 32 := Scalar.addi c0_i32_149 v252
  let c0_i32_150 : BitVec 32 := 0#32
  let v254 : BitVec 32 := Scalar.addi v253 c0_i32_150
  let c1_i32_208 : BitVec 32 := 1#32
  let v325 : BitVec 32 := Scalar.addi v254 c1_i32_208
  let c256_i32_209 : BitVec 32 := 256#32
  let v326 : BitVec 32 := Scalar.muli v325 c256_i32_209
  v326
def k0_off9 (i : grid0.Coords) (k0_t2 : Fin (k0_t2_loop i).trips) (c0_i32_150 : BitVec 32) : Fin 2 → Nat :=
  let c0_i32_149 : BitVec 32 := 0#32
  let c8_i32_148 : BitVec 32 := 8#32
  let c0_i32_82 : BitVec 32 := 0#32
  let arg1 : BitVec 32 := BitVec.ofNat 32 (i 1).val
  let c0_i32_75 : BitVec 32 := 0#32
  let v94 : BitVec 32 := Scalar.subi arg1 c0_i32_75
  let c0_i32_76 : BitVec 32 := 0#32
  let v96 : BitVec 1 := Scalar.cmpi .sgt v94 c0_i32_76
  let v97 : BitVec 32 := Scalar.extui v96
  let c0_i32_77 : BitVec 32 := 0#32
  let v98 : BitVec 1 := Scalar.cmpi .slt v94 c0_i32_77
  let v99 : BitVec 32 := Scalar.extui v98
  let v100 : BitVec 32 := Scalar.subi v97 v99
  let c8_i32 : BitVec 32 := 8#32
  let c0_i32_78 : BitVec 32 := 0#32
  let v101 : BitVec 1 := Scalar.cmpi .sgt c8_i32 c0_i32_78
  let v102 : BitVec 32 := Scalar.extui v101
  let c0_i32_79 : BitVec 32 := 0#32
  let v103 : BitVec 1 := Scalar.cmpi .slt c8_i32 c0_i32_79
  let v104 : BitVec 32 := Scalar.extui v103
  let v105 : BitVec 32 := Scalar.subi v102 v104
  let v106 : BitVec 1 := Scalar.cmpi .ne v100 v105
  let v107 : BitVec 32 := Scalar.remsi v94 c8_i32
  let c0_i32_80 : BitVec 32 := 0#32
  let v108 : BitVec 1 := Scalar.cmpi .ne v107 c0_i32_80
  let v109 : BitVec 1 := Scalar.andi v106 v108
  let v95 : BitVec 32 := Scalar.divsi v94 c8_i32
  let c1_i32 : BitVec 32 := 1#32
  let v110 : BitVec 32 := Scalar.subi v95 c1_i32
  let v111 : BitVec 32 := Scalar.select v109 v110 v95
  let v112 : BitVec 32 := Scalar.subi v111 c0_i32_82
  let c1_i32_83 : BitVec 32 := 1#32
  let v114 : BitVec 32 := Scalar.divsi v112 c1_i32_83
  let v115 : BitVec 32 := Scalar.muli v114 c1_i32_83
  let v116 : BitVec 32 := Scalar.addi c0_i32_82 v115
  let c1_i32_85 : BitVec 32 := 1#32
  let arg17 : BitVec 32 := Scf.iv v116 c1_i32_85 k0_t2
  let v252 : BitVec 32 := Scalar.muli c8_i32_148 arg17
  let v253 : BitVec 32 := Scalar.addi c0_i32_149 v252
  let v254 : BitVec 32 := Scalar.addi v253 c0_i32_150
  let c1_i32_208 : BitVec 32 := 1#32
  let v325 : BitVec 32 := Scalar.addi v254 c1_i32_208
  let c256_i32_209 : BitVec 32 := 256#32
  let v326 : BitVec 32 := Scalar.muli v325 c256_i32_209
  let v327 : BitVec 32 := v326
  let v328 : Index := Scalar.indexCast v327
  let c128_210 : Index := 128#32
  ![v328.toNat, 128]
def k0_mult38 (i : grid0.Coords) (k0_t2 : Fin (k0_t2_loop i).trips) : BitVec 32 :=
  let c0_i32_149 : BitVec 32 := 0#32
  let c8_i32_148 : BitVec 32 := 8#32
  let c0_i32_82 : BitVec 32 := 0#32
  let arg1 : BitVec 32 := BitVec.ofNat 32 (i 1).val
  let c0_i32_75 : BitVec 32 := 0#32
  let v94 : BitVec 32 := Scalar.subi arg1 c0_i32_75
  let c0_i32_76 : BitVec 32 := 0#32
  let v96 : BitVec 1 := Scalar.cmpi .sgt v94 c0_i32_76
  let v97 : BitVec 32 := Scalar.extui v96
  let c0_i32_77 : BitVec 32 := 0#32
  let v98 : BitVec 1 := Scalar.cmpi .slt v94 c0_i32_77
  let v99 : BitVec 32 := Scalar.extui v98
  let v100 : BitVec 32 := Scalar.subi v97 v99
  let c8_i32 : BitVec 32 := 8#32
  let c0_i32_78 : BitVec 32 := 0#32
  let v101 : BitVec 1 := Scalar.cmpi .sgt c8_i32 c0_i32_78
  let v102 : BitVec 32 := Scalar.extui v101
  let c0_i32_79 : BitVec 32 := 0#32
  let v103 : BitVec 1 := Scalar.cmpi .slt c8_i32 c0_i32_79
  let v104 : BitVec 32 := Scalar.extui v103
  let v105 : BitVec 32 := Scalar.subi v102 v104
  let v106 : BitVec 1 := Scalar.cmpi .ne v100 v105
  let v107 : BitVec 32 := Scalar.remsi v94 c8_i32
  let c0_i32_80 : BitVec 32 := 0#32
  let v108 : BitVec 1 := Scalar.cmpi .ne v107 c0_i32_80
  let v109 : BitVec 1 := Scalar.andi v106 v108
  let v95 : BitVec 32 := Scalar.divsi v94 c8_i32
  let c1_i32 : BitVec 32 := 1#32
  let v110 : BitVec 32 := Scalar.subi v95 c1_i32
  let v111 : BitVec 32 := Scalar.select v109 v110 v95
  let v112 : BitVec 32 := Scalar.subi v111 c0_i32_82
  let c1_i32_83 : BitVec 32 := 1#32
  let v114 : BitVec 32 := Scalar.divsi v112 c1_i32_83
  let v115 : BitVec 32 := Scalar.muli v114 c1_i32_83
  let v116 : BitVec 32 := Scalar.addi c0_i32_82 v115
  let c1_i32_85 : BitVec 32 := 1#32
  let arg17 : BitVec 32 := Scf.iv v116 c1_i32_85 k0_t2
  let v252 : BitVec 32 := Scalar.muli c8_i32_148 arg17
  let v253 : BitVec 32 := Scalar.addi c0_i32_149 v252
  let c0_i32_150 : BitVec 32 := 0#32
  let v254 : BitVec 32 := Scalar.addi v253 c0_i32_150
  let c1_i32_222 : BitVec 32 := 1#32
  let v339 : BitVec 32 := Scalar.subi v254 c1_i32_222
  let c0_i32_223 : BitVec 32 := 0#32
  let v340 : BitVec 32 := Scalar.maxsi v339 c0_i32_223
  let c256_i32_224 : BitVec 32 := 256#32
  let v341 : BitVec 32 := Scalar.muli v340 c256_i32_224
  v341
def k0_off10 (i : grid0.Coords) (k0_t2 : Fin (k0_t2_loop i).trips) (c0_i32_150 : BitVec 32) : Fin 3 → Nat :=
  let c1_225 : Index := 1#32
  let c0_226 : Index := 0#32
  let c0_i32_149 : BitVec 32 := 0#32
  let c8_i32_148 : BitVec 32 := 8#32
  let c0_i32_82 : BitVec 32 := 0#32
  let arg1 : BitVec 32 := BitVec.ofNat 32 (i 1).val
  let c0_i32_75 : BitVec 32 := 0#32
  let v94 : BitVec 32 := Scalar.subi arg1 c0_i32_75
  let c0_i32_76 : BitVec 32 := 0#32
  let v96 : BitVec 1 := Scalar.cmpi .sgt v94 c0_i32_76
  let v97 : BitVec 32 := Scalar.extui v96
  let c0_i32_77 : BitVec 32 := 0#32
  let v98 : BitVec 1 := Scalar.cmpi .slt v94 c0_i32_77
  let v99 : BitVec 32 := Scalar.extui v98
  let v100 : BitVec 32 := Scalar.subi v97 v99
  let c8_i32 : BitVec 32 := 8#32
  let c0_i32_78 : BitVec 32 := 0#32
  let v101 : BitVec 1 := Scalar.cmpi .sgt c8_i32 c0_i32_78
  let v102 : BitVec 32 := Scalar.extui v101
  let c0_i32_79 : BitVec 32 := 0#32
  let v103 : BitVec 1 := Scalar.cmpi .slt c8_i32 c0_i32_79
  let v104 : BitVec 32 := Scalar.extui v103
  let v105 : BitVec 32 := Scalar.subi v102 v104
  let v106 : BitVec 1 := Scalar.cmpi .ne v100 v105
  let v107 : BitVec 32 := Scalar.remsi v94 c8_i32
  let c0_i32_80 : BitVec 32 := 0#32
  let v108 : BitVec 1 := Scalar.cmpi .ne v107 c0_i32_80
  let v109 : BitVec 1 := Scalar.andi v106 v108
  let v95 : BitVec 32 := Scalar.divsi v94 c8_i32
  let c1_i32 : BitVec 32 := 1#32
  let v110 : BitVec 32 := Scalar.subi v95 c1_i32
  let v111 : BitVec 32 := Scalar.select v109 v110 v95
  let v112 : BitVec 32 := Scalar.subi v111 c0_i32_82
  let c1_i32_83 : BitVec 32 := 1#32
  let v114 : BitVec 32 := Scalar.divsi v112 c1_i32_83
  let v115 : BitVec 32 := Scalar.muli v114 c1_i32_83
  let v116 : BitVec 32 := Scalar.addi c0_i32_82 v115
  let c1_i32_85 : BitVec 32 := 1#32
  let arg17 : BitVec 32 := Scf.iv v116 c1_i32_85 k0_t2
  let v252 : BitVec 32 := Scalar.muli c8_i32_148 arg17
  let v253 : BitVec 32 := Scalar.addi c0_i32_149 v252
  let v254 : BitVec 32 := Scalar.addi v253 c0_i32_150
  let c1_i32_222 : BitVec 32 := 1#32
  let v339 : BitVec 32 := Scalar.subi v254 c1_i32_222
  let c0_i32_223 : BitVec 32 := 0#32
  let v340 : BitVec 32 := Scalar.maxsi v339 c0_i32_223
  let c256_i32_224 : BitVec 32 := 256#32
  let v341 : BitVec 32 := Scalar.muli v340 c256_i32_224
  let v342 : BitVec 32 := v341
  let v343 : Index := Scalar.indexCast v342
  ![1, 0, v343.toNat]
def k0_mult39 (i : grid0.Coords) (k0_t2 : Fin (k0_t2_loop i).trips) : BitVec 32 :=
  let c0_i32_267 : BitVec 32 := 0#32
  let c8_i32_266 : BitVec 32 := 8#32
  let c0_i32_82 : BitVec 32 := 0#32
  let arg1 : BitVec 32 := BitVec.ofNat 32 (i 1).val
  let c0_i32_75 : BitVec 32 := 0#32
  let v94 : BitVec 32 := Scalar.subi arg1 c0_i32_75
  let c0_i32_76 : BitVec 32 := 0#32
  let v96 : BitVec 1 := Scalar.cmpi .sgt v94 c0_i32_76
  let v97 : BitVec 32 := Scalar.extui v96
  let c0_i32_77 : BitVec 32 := 0#32
  let v98 : BitVec 1 := Scalar.cmpi .slt v94 c0_i32_77
  let v99 : BitVec 32 := Scalar.extui v98
  let v100 : BitVec 32 := Scalar.subi v97 v99
  let c8_i32 : BitVec 32 := 8#32
  let c0_i32_78 : BitVec 32 := 0#32
  let v101 : BitVec 1 := Scalar.cmpi .sgt c8_i32 c0_i32_78
  let v102 : BitVec 32 := Scalar.extui v101
  let c0_i32_79 : BitVec 32 := 0#32
  let v103 : BitVec 1 := Scalar.cmpi .slt c8_i32 c0_i32_79
  let v104 : BitVec 32 := Scalar.extui v103
  let v105 : BitVec 32 := Scalar.subi v102 v104
  let v106 : BitVec 1 := Scalar.cmpi .ne v100 v105
  let v107 : BitVec 32 := Scalar.remsi v94 c8_i32
  let c0_i32_80 : BitVec 32 := 0#32
  let v108 : BitVec 1 := Scalar.cmpi .ne v107 c0_i32_80
  let v109 : BitVec 1 := Scalar.andi v106 v108
  let v95 : BitVec 32 := Scalar.divsi v94 c8_i32
  let c1_i32 : BitVec 32 := 1#32
  let v110 : BitVec 32 := Scalar.subi v95 c1_i32
  let v111 : BitVec 32 := Scalar.select v109 v110 v95
  let v112 : BitVec 32 := Scalar.subi v111 c0_i32_82
  let c1_i32_83 : BitVec 32 := 1#32
  let v114 : BitVec 32 := Scalar.divsi v112 c1_i32_83
  let v115 : BitVec 32 := Scalar.muli v114 c1_i32_83
  let v116 : BitVec 32 := Scalar.addi c0_i32_82 v115
  let c1_i32_85 : BitVec 32 := 1#32
  let arg17 : BitVec 32 := Scf.iv v116 c1_i32_85 k0_t2
  let v395 : BitVec 32 := Scalar.muli c8_i32_266 arg17
  let v396 : BitVec 32 := Scalar.addi c0_i32_267 v395
  let c1_i32_268 : BitVec 32 := 1#32
  let v397 : BitVec 32 := Scalar.addi v396 c1_i32_268
  let c1_i32_269 : BitVec 32 := 1#32
  let v398 : BitVec 32 := Scalar.addi v397 c1_i32_269
  let c256_i32_270 : BitVec 32 := 256#32
  let v399 : BitVec 32 := Scalar.muli v398 c256_i32_270
  v399
def k0_mult40 (i : grid0.Coords) (k0_t2 : Fin (k0_t2_loop i).trips) : BitVec 32 :=
  let c0_i32_267 : BitVec 32 := 0#32
  let c8_i32_266 : BitVec 32 := 8#32
  let c0_i32_82 : BitVec 32 := 0#32
  let arg1 : BitVec 32 := BitVec.ofNat 32 (i 1).val
  let c0_i32_75 : BitVec 32 := 0#32
  let v94 : BitVec 32 := Scalar.subi arg1 c0_i32_75
  let c0_i32_76 : BitVec 32 := 0#32
  let v96 : BitVec 1 := Scalar.cmpi .sgt v94 c0_i32_76
  let v97 : BitVec 32 := Scalar.extui v96
  let c0_i32_77 : BitVec 32 := 0#32
  let v98 : BitVec 1 := Scalar.cmpi .slt v94 c0_i32_77
  let v99 : BitVec 32 := Scalar.extui v98
  let v100 : BitVec 32 := Scalar.subi v97 v99
  let c8_i32 : BitVec 32 := 8#32
  let c0_i32_78 : BitVec 32 := 0#32
  let v101 : BitVec 1 := Scalar.cmpi .sgt c8_i32 c0_i32_78
  let v102 : BitVec 32 := Scalar.extui v101
  let c0_i32_79 : BitVec 32 := 0#32
  let v103 : BitVec 1 := Scalar.cmpi .slt c8_i32 c0_i32_79
  let v104 : BitVec 32 := Scalar.extui v103
  let v105 : BitVec 32 := Scalar.subi v102 v104
  let v106 : BitVec 1 := Scalar.cmpi .ne v100 v105
  let v107 : BitVec 32 := Scalar.remsi v94 c8_i32
  let c0_i32_80 : BitVec 32 := 0#32
  let v108 : BitVec 1 := Scalar.cmpi .ne v107 c0_i32_80
  let v109 : BitVec 1 := Scalar.andi v106 v108
  let v95 : BitVec 32 := Scalar.divsi v94 c8_i32
  let c1_i32 : BitVec 32 := 1#32
  let v110 : BitVec 32 := Scalar.subi v95 c1_i32
  let v111 : BitVec 32 := Scalar.select v109 v110 v95
  let v112 : BitVec 32 := Scalar.subi v111 c0_i32_82
  let c1_i32_83 : BitVec 32 := 1#32
  let v114 : BitVec 32 := Scalar.divsi v112 c1_i32_83
  let v115 : BitVec 32 := Scalar.muli v114 c1_i32_83
  let v116 : BitVec 32 := Scalar.addi c0_i32_82 v115
  let c1_i32_85 : BitVec 32 := 1#32
  let arg17 : BitVec 32 := Scf.iv v116 c1_i32_85 k0_t2
  let v395 : BitVec 32 := Scalar.muli c8_i32_266 arg17
  let v396 : BitVec 32 := Scalar.addi c0_i32_267 v395
  let c1_i32_268 : BitVec 32 := 1#32
  let v397 : BitVec 32 := Scalar.addi v396 c1_i32_268
  let c1_i32_283 : BitVec 32 := 1#32
  let v412 : BitVec 32 := Scalar.subi v397 c1_i32_283
  let c0_i32_284 : BitVec 32 := 0#32
  let v413 : BitVec 32 := Scalar.maxsi v412 c0_i32_284
  let c256_i32_285 : BitVec 32 := 256#32
  let v414 : BitVec 32 := Scalar.muli v413 c256_i32_285
  v414
def k0_mult41 (i : grid0.Coords) (k0_t2 : Fin (k0_t2_loop i).trips) : BitVec 32 :=
  let c0_i32_267 : BitVec 32 := 0#32
  let c8_i32_266 : BitVec 32 := 8#32
  let c0_i32_82 : BitVec 32 := 0#32
  let arg1 : BitVec 32 := BitVec.ofNat 32 (i 1).val
  let c0_i32_75 : BitVec 32 := 0#32
  let v94 : BitVec 32 := Scalar.subi arg1 c0_i32_75
  let c0_i32_76 : BitVec 32 := 0#32
  let v96 : BitVec 1 := Scalar.cmpi .sgt v94 c0_i32_76
  let v97 : BitVec 32 := Scalar.extui v96
  let c0_i32_77 : BitVec 32 := 0#32
  let v98 : BitVec 1 := Scalar.cmpi .slt v94 c0_i32_77
  let v99 : BitVec 32 := Scalar.extui v98
  let v100 : BitVec 32 := Scalar.subi v97 v99
  let c8_i32 : BitVec 32 := 8#32
  let c0_i32_78 : BitVec 32 := 0#32
  let v101 : BitVec 1 := Scalar.cmpi .sgt c8_i32 c0_i32_78
  let v102 : BitVec 32 := Scalar.extui v101
  let c0_i32_79 : BitVec 32 := 0#32
  let v103 : BitVec 1 := Scalar.cmpi .slt c8_i32 c0_i32_79
  let v104 : BitVec 32 := Scalar.extui v103
  let v105 : BitVec 32 := Scalar.subi v102 v104
  let v106 : BitVec 1 := Scalar.cmpi .ne v100 v105
  let v107 : BitVec 32 := Scalar.remsi v94 c8_i32
  let c0_i32_80 : BitVec 32 := 0#32
  let v108 : BitVec 1 := Scalar.cmpi .ne v107 c0_i32_80
  let v109 : BitVec 1 := Scalar.andi v106 v108
  let v95 : BitVec 32 := Scalar.divsi v94 c8_i32
  let c1_i32 : BitVec 32 := 1#32
  let v110 : BitVec 32 := Scalar.subi v95 c1_i32
  let v111 : BitVec 32 := Scalar.select v109 v110 v95
  let v112 : BitVec 32 := Scalar.subi v111 c0_i32_82
  let c1_i32_83 : BitVec 32 := 1#32
  let v114 : BitVec 32 := Scalar.divsi v112 c1_i32_83
  let v115 : BitVec 32 := Scalar.muli v114 c1_i32_83
  let v116 : BitVec 32 := Scalar.addi c0_i32_82 v115
  let c1_i32_85 : BitVec 32 := 1#32
  let arg17 : BitVec 32 := Scf.iv v116 c1_i32_85 k0_t2
  let v395 : BitVec 32 := Scalar.muli c8_i32_266 arg17
  let v396 : BitVec 32 := Scalar.addi c0_i32_267 v395
  let c1_i32_268 : BitVec 32 := 1#32
  let v397 : BitVec 32 := Scalar.addi v396 c1_i32_268
  let c1_i32_327 : BitVec 32 := 1#32
  let v468 : BitVec 32 := Scalar.addi v397 c1_i32_327
  let c256_i32_328 : BitVec 32 := 256#32
  let v469 : BitVec 32 := Scalar.muli v468 c256_i32_328
  v469
def k0_mult42 (i : grid0.Coords) (k0_t2 : Fin (k0_t2_loop i).trips) : BitVec 32 :=
  let c0_i32_267 : BitVec 32 := 0#32
  let c8_i32_266 : BitVec 32 := 8#32
  let c0_i32_82 : BitVec 32 := 0#32
  let arg1 : BitVec 32 := BitVec.ofNat 32 (i 1).val
  let c0_i32_75 : BitVec 32 := 0#32
  let v94 : BitVec 32 := Scalar.subi arg1 c0_i32_75
  let c0_i32_76 : BitVec 32 := 0#32
  let v96 : BitVec 1 := Scalar.cmpi .sgt v94 c0_i32_76
  let v97 : BitVec 32 := Scalar.extui v96
  let c0_i32_77 : BitVec 32 := 0#32
  let v98 : BitVec 1 := Scalar.cmpi .slt v94 c0_i32_77
  let v99 : BitVec 32 := Scalar.extui v98
  let v100 : BitVec 32 := Scalar.subi v97 v99
  let c8_i32 : BitVec 32 := 8#32
  let c0_i32_78 : BitVec 32 := 0#32
  let v101 : BitVec 1 := Scalar.cmpi .sgt c8_i32 c0_i32_78
  let v102 : BitVec 32 := Scalar.extui v101
  let c0_i32_79 : BitVec 32 := 0#32
  let v103 : BitVec 1 := Scalar.cmpi .slt c8_i32 c0_i32_79
  let v104 : BitVec 32 := Scalar.extui v103
  let v105 : BitVec 32 := Scalar.subi v102 v104
  let v106 : BitVec 1 := Scalar.cmpi .ne v100 v105
  let v107 : BitVec 32 := Scalar.remsi v94 c8_i32
  let c0_i32_80 : BitVec 32 := 0#32
  let v108 : BitVec 1 := Scalar.cmpi .ne v107 c0_i32_80
  let v109 : BitVec 1 := Scalar.andi v106 v108
  let v95 : BitVec 32 := Scalar.divsi v94 c8_i32
  let c1_i32 : BitVec 32 := 1#32
  let v110 : BitVec 32 := Scalar.subi v95 c1_i32
  let v111 : BitVec 32 := Scalar.select v109 v110 v95
  let v112 : BitVec 32 := Scalar.subi v111 c0_i32_82
  let c1_i32_83 : BitVec 32 := 1#32
  let v114 : BitVec 32 := Scalar.divsi v112 c1_i32_83
  let v115 : BitVec 32 := Scalar.muli v114 c1_i32_83
  let v116 : BitVec 32 := Scalar.addi c0_i32_82 v115
  let c1_i32_85 : BitVec 32 := 1#32
  let arg17 : BitVec 32 := Scf.iv v116 c1_i32_85 k0_t2
  let v395 : BitVec 32 := Scalar.muli c8_i32_266 arg17
  let v396 : BitVec 32 := Scalar.addi c0_i32_267 v395
  let c1_i32_268 : BitVec 32 := 1#32
  let v397 : BitVec 32 := Scalar.addi v396 c1_i32_268
  let c1_i32_341 : BitVec 32 := 1#32
  let v482 : BitVec 32 := Scalar.subi v397 c1_i32_341
  let c0_i32_342 : BitVec 32 := 0#32
  let v483 : BitVec 32 := Scalar.maxsi v482 c0_i32_342
  let c256_i32_343 : BitVec 32 := 256#32
  let v484 : BitVec 32 := Scalar.muli v483 c256_i32_343
  v484
def k0_mult43 (i : grid0.Coords) (k0_t2 : Fin (k0_t2_loop i).trips) : BitVec 32 :=
  let c0_i32_386 : BitVec 32 := 0#32
  let c8_i32_385 : BitVec 32 := 8#32
  let c0_i32_82 : BitVec 32 := 0#32
  let arg1 : BitVec 32 := BitVec.ofNat 32 (i 1).val
  let c0_i32_75 : BitVec 32 := 0#32
  let v94 : BitVec 32 := Scalar.subi arg1 c0_i32_75
  let c0_i32_76 : BitVec 32 := 0#32
  let v96 : BitVec 1 := Scalar.cmpi .sgt v94 c0_i32_76
  let v97 : BitVec 32 := Scalar.extui v96
  let c0_i32_77 : BitVec 32 := 0#32
  let v98 : BitVec 1 := Scalar.cmpi .slt v94 c0_i32_77
  let v99 : BitVec 32 := Scalar.extui v98
  let v100 : BitVec 32 := Scalar.subi v97 v99
  let c8_i32 : BitVec 32 := 8#32
  let c0_i32_78 : BitVec 32 := 0#32
  let v101 : BitVec 1 := Scalar.cmpi .sgt c8_i32 c0_i32_78
  let v102 : BitVec 32 := Scalar.extui v101
  let c0_i32_79 : BitVec 32 := 0#32
  let v103 : BitVec 1 := Scalar.cmpi .slt c8_i32 c0_i32_79
  let v104 : BitVec 32 := Scalar.extui v103
  let v105 : BitVec 32 := Scalar.subi v102 v104
  let v106 : BitVec 1 := Scalar.cmpi .ne v100 v105
  let v107 : BitVec 32 := Scalar.remsi v94 c8_i32
  let c0_i32_80 : BitVec 32 := 0#32
  let v108 : BitVec 1 := Scalar.cmpi .ne v107 c0_i32_80
  let v109 : BitVec 1 := Scalar.andi v106 v108
  let v95 : BitVec 32 := Scalar.divsi v94 c8_i32
  let c1_i32 : BitVec 32 := 1#32
  let v110 : BitVec 32 := Scalar.subi v95 c1_i32
  let v111 : BitVec 32 := Scalar.select v109 v110 v95
  let v112 : BitVec 32 := Scalar.subi v111 c0_i32_82
  let c1_i32_83 : BitVec 32 := 1#32
  let v114 : BitVec 32 := Scalar.divsi v112 c1_i32_83
  let v115 : BitVec 32 := Scalar.muli v114 c1_i32_83
  let v116 : BitVec 32 := Scalar.addi c0_i32_82 v115
  let c1_i32_85 : BitVec 32 := 1#32
  let arg17 : BitVec 32 := Scf.iv v116 c1_i32_85 k0_t2
  let v538 : BitVec 32 := Scalar.muli c8_i32_385 arg17
  let v539 : BitVec 32 := Scalar.addi c0_i32_386 v538
  let c2_i32_387 : BitVec 32 := 2#32
  let v540 : BitVec 32 := Scalar.addi v539 c2_i32_387
  let c1_i32_388 : BitVec 32 := 1#32
  let v541 : BitVec 32 := Scalar.addi v540 c1_i32_388
  let c256_i32_389 : BitVec 32 := 256#32
  let v542 : BitVec 32 := Scalar.muli v541 c256_i32_389
  v542
def k0_mult44 (i : grid0.Coords) (k0_t2 : Fin (k0_t2_loop i).trips) : BitVec 32 :=
  let c0_i32_386 : BitVec 32 := 0#32
  let c8_i32_385 : BitVec 32 := 8#32
  let c0_i32_82 : BitVec 32 := 0#32
  let arg1 : BitVec 32 := BitVec.ofNat 32 (i 1).val
  let c0_i32_75 : BitVec 32 := 0#32
  let v94 : BitVec 32 := Scalar.subi arg1 c0_i32_75
  let c0_i32_76 : BitVec 32 := 0#32
  let v96 : BitVec 1 := Scalar.cmpi .sgt v94 c0_i32_76
  let v97 : BitVec 32 := Scalar.extui v96
  let c0_i32_77 : BitVec 32 := 0#32
  let v98 : BitVec 1 := Scalar.cmpi .slt v94 c0_i32_77
  let v99 : BitVec 32 := Scalar.extui v98
  let v100 : BitVec 32 := Scalar.subi v97 v99
  let c8_i32 : BitVec 32 := 8#32
  let c0_i32_78 : BitVec 32 := 0#32
  let v101 : BitVec 1 := Scalar.cmpi .sgt c8_i32 c0_i32_78
  let v102 : BitVec 32 := Scalar.extui v101
  let c0_i32_79 : BitVec 32 := 0#32
  let v103 : BitVec 1 := Scalar.cmpi .slt c8_i32 c0_i32_79
  let v104 : BitVec 32 := Scalar.extui v103
  let v105 : BitVec 32 := Scalar.subi v102 v104
  let v106 : BitVec 1 := Scalar.cmpi .ne v100 v105
  let v107 : BitVec 32 := Scalar.remsi v94 c8_i32
  let c0_i32_80 : BitVec 32 := 0#32
  let v108 : BitVec 1 := Scalar.cmpi .ne v107 c0_i32_80
  let v109 : BitVec 1 := Scalar.andi v106 v108
  let v95 : BitVec 32 := Scalar.divsi v94 c8_i32
  let c1_i32 : BitVec 32 := 1#32
  let v110 : BitVec 32 := Scalar.subi v95 c1_i32
  let v111 : BitVec 32 := Scalar.select v109 v110 v95
  let v112 : BitVec 32 := Scalar.subi v111 c0_i32_82
  let c1_i32_83 : BitVec 32 := 1#32
  let v114 : BitVec 32 := Scalar.divsi v112 c1_i32_83
  let v115 : BitVec 32 := Scalar.muli v114 c1_i32_83
  let v116 : BitVec 32 := Scalar.addi c0_i32_82 v115
  let c1_i32_85 : BitVec 32 := 1#32
  let arg17 : BitVec 32 := Scf.iv v116 c1_i32_85 k0_t2
  let v538 : BitVec 32 := Scalar.muli c8_i32_385 arg17
  let v539 : BitVec 32 := Scalar.addi c0_i32_386 v538
  let c2_i32_387 : BitVec 32 := 2#32
  let v540 : BitVec 32 := Scalar.addi v539 c2_i32_387
  let c1_i32_402 : BitVec 32 := 1#32
  let v555 : BitVec 32 := Scalar.subi v540 c1_i32_402
  let c0_i32_403 : BitVec 32 := 0#32
  let v556 : BitVec 32 := Scalar.maxsi v555 c0_i32_403
  let c256_i32_404 : BitVec 32 := 256#32
  let v557 : BitVec 32 := Scalar.muli v556 c256_i32_404
  v557
def k0_mult45 (i : grid0.Coords) (k0_t2 : Fin (k0_t2_loop i).trips) : BitVec 32 :=
  let c0_i32_386 : BitVec 32 := 0#32
  let c8_i32_385 : BitVec 32 := 8#32
  let c0_i32_82 : BitVec 32 := 0#32
  let arg1 : BitVec 32 := BitVec.ofNat 32 (i 1).val
  let c0_i32_75 : BitVec 32 := 0#32
  let v94 : BitVec 32 := Scalar.subi arg1 c0_i32_75
  let c0_i32_76 : BitVec 32 := 0#32
  let v96 : BitVec 1 := Scalar.cmpi .sgt v94 c0_i32_76
  let v97 : BitVec 32 := Scalar.extui v96
  let c0_i32_77 : BitVec 32 := 0#32
  let v98 : BitVec 1 := Scalar.cmpi .slt v94 c0_i32_77
  let v99 : BitVec 32 := Scalar.extui v98
  let v100 : BitVec 32 := Scalar.subi v97 v99
  let c8_i32 : BitVec 32 := 8#32
  let c0_i32_78 : BitVec 32 := 0#32
  let v101 : BitVec 1 := Scalar.cmpi .sgt c8_i32 c0_i32_78
  let v102 : BitVec 32 := Scalar.extui v101
  let c0_i32_79 : BitVec 32 := 0#32
  let v103 : BitVec 1 := Scalar.cmpi .slt c8_i32 c0_i32_79
  let v104 : BitVec 32 := Scalar.extui v103
  let v105 : BitVec 32 := Scalar.subi v102 v104
  let v106 : BitVec 1 := Scalar.cmpi .ne v100 v105
  let v107 : BitVec 32 := Scalar.remsi v94 c8_i32
  let c0_i32_80 : BitVec 32 := 0#32
  let v108 : BitVec 1 := Scalar.cmpi .ne v107 c0_i32_80
  let v109 : BitVec 1 := Scalar.andi v106 v108
  let v95 : BitVec 32 := Scalar.divsi v94 c8_i32
  let c1_i32 : BitVec 32 := 1#32
  let v110 : BitVec 32 := Scalar.subi v95 c1_i32
  let v111 : BitVec 32 := Scalar.select v109 v110 v95
  let v112 : BitVec 32 := Scalar.subi v111 c0_i32_82
  let c1_i32_83 : BitVec 32 := 1#32
  let v114 : BitVec 32 := Scalar.divsi v112 c1_i32_83
  let v115 : BitVec 32 := Scalar.muli v114 c1_i32_83
  let v116 : BitVec 32 := Scalar.addi c0_i32_82 v115
  let c1_i32_85 : BitVec 32 := 1#32
  let arg17 : BitVec 32 := Scf.iv v116 c1_i32_85 k0_t2
  let v538 : BitVec 32 := Scalar.muli c8_i32_385 arg17
  let v539 : BitVec 32 := Scalar.addi c0_i32_386 v538
  let c2_i32_387 : BitVec 32 := 2#32
  let v540 : BitVec 32 := Scalar.addi v539 c2_i32_387
  let c1_i32_446 : BitVec 32 := 1#32
  let v611 : BitVec 32 := Scalar.addi v540 c1_i32_446
  let c256_i32_447 : BitVec 32 := 256#32
  let v612 : BitVec 32 := Scalar.muli v611 c256_i32_447
  v612
def k0_mult46 (i : grid0.Coords) (k0_t2 : Fin (k0_t2_loop i).trips) : BitVec 32 :=
  let c0_i32_386 : BitVec 32 := 0#32
  let c8_i32_385 : BitVec 32 := 8#32
  let c0_i32_82 : BitVec 32 := 0#32
  let arg1 : BitVec 32 := BitVec.ofNat 32 (i 1).val
  let c0_i32_75 : BitVec 32 := 0#32
  let v94 : BitVec 32 := Scalar.subi arg1 c0_i32_75
  let c0_i32_76 : BitVec 32 := 0#32
  let v96 : BitVec 1 := Scalar.cmpi .sgt v94 c0_i32_76
  let v97 : BitVec 32 := Scalar.extui v96
  let c0_i32_77 : BitVec 32 := 0#32
  let v98 : BitVec 1 := Scalar.cmpi .slt v94 c0_i32_77
  let v99 : BitVec 32 := Scalar.extui v98
  let v100 : BitVec 32 := Scalar.subi v97 v99
  let c8_i32 : BitVec 32 := 8#32
  let c0_i32_78 : BitVec 32 := 0#32
  let v101 : BitVec 1 := Scalar.cmpi .sgt c8_i32 c0_i32_78
  let v102 : BitVec 32 := Scalar.extui v101
  let c0_i32_79 : BitVec 32 := 0#32
  let v103 : BitVec 1 := Scalar.cmpi .slt c8_i32 c0_i32_79
  let v104 : BitVec 32 := Scalar.extui v103
  let v105 : BitVec 32 := Scalar.subi v102 v104
  let v106 : BitVec 1 := Scalar.cmpi .ne v100 v105
  let v107 : BitVec 32 := Scalar.remsi v94 c8_i32
  let c0_i32_80 : BitVec 32 := 0#32
  let v108 : BitVec 1 := Scalar.cmpi .ne v107 c0_i32_80
  let v109 : BitVec 1 := Scalar.andi v106 v108
  let v95 : BitVec 32 := Scalar.divsi v94 c8_i32
  let c1_i32 : BitVec 32 := 1#32
  let v110 : BitVec 32 := Scalar.subi v95 c1_i32
  let v111 : BitVec 32 := Scalar.select v109 v110 v95
  let v112 : BitVec 32 := Scalar.subi v111 c0_i32_82
  let c1_i32_83 : BitVec 32 := 1#32
  let v114 : BitVec 32 := Scalar.divsi v112 c1_i32_83
  let v115 : BitVec 32 := Scalar.muli v114 c1_i32_83
  let v116 : BitVec 32 := Scalar.addi c0_i32_82 v115
  let c1_i32_85 : BitVec 32 := 1#32
  let arg17 : BitVec 32 := Scf.iv v116 c1_i32_85 k0_t2
  let v538 : BitVec 32 := Scalar.muli c8_i32_385 arg17
  let v539 : BitVec 32 := Scalar.addi c0_i32_386 v538
  let c2_i32_387 : BitVec 32 := 2#32
  let v540 : BitVec 32 := Scalar.addi v539 c2_i32_387
  let c1_i32_460 : BitVec 32 := 1#32
  let v625 : BitVec 32 := Scalar.subi v540 c1_i32_460
  let c0_i32_461 : BitVec 32 := 0#32
  let v626 : BitVec 32 := Scalar.maxsi v625 c0_i32_461
  let c256_i32_462 : BitVec 32 := 256#32
  let v627 : BitVec 32 := Scalar.muli v626 c256_i32_462
  v627
def k0_mult47 (i : grid0.Coords) (k0_t2 : Fin (k0_t2_loop i).trips) : BitVec 32 :=
  let c0_i32_505 : BitVec 32 := 0#32
  let c8_i32_504 : BitVec 32 := 8#32
  let c0_i32_82 : BitVec 32 := 0#32
  let arg1 : BitVec 32 := BitVec.ofNat 32 (i 1).val
  let c0_i32_75 : BitVec 32 := 0#32
  let v94 : BitVec 32 := Scalar.subi arg1 c0_i32_75
  let c0_i32_76 : BitVec 32 := 0#32
  let v96 : BitVec 1 := Scalar.cmpi .sgt v94 c0_i32_76
  let v97 : BitVec 32 := Scalar.extui v96
  let c0_i32_77 : BitVec 32 := 0#32
  let v98 : BitVec 1 := Scalar.cmpi .slt v94 c0_i32_77
  let v99 : BitVec 32 := Scalar.extui v98
  let v100 : BitVec 32 := Scalar.subi v97 v99
  let c8_i32 : BitVec 32 := 8#32
  let c0_i32_78 : BitVec 32 := 0#32
  let v101 : BitVec 1 := Scalar.cmpi .sgt c8_i32 c0_i32_78
  let v102 : BitVec 32 := Scalar.extui v101
  let c0_i32_79 : BitVec 32 := 0#32
  let v103 : BitVec 1 := Scalar.cmpi .slt c8_i32 c0_i32_79
  let v104 : BitVec 32 := Scalar.extui v103
  let v105 : BitVec 32 := Scalar.subi v102 v104
  let v106 : BitVec 1 := Scalar.cmpi .ne v100 v105
  let v107 : BitVec 32 := Scalar.remsi v94 c8_i32
  let c0_i32_80 : BitVec 32 := 0#32
  let v108 : BitVec 1 := Scalar.cmpi .ne v107 c0_i32_80
  let v109 : BitVec 1 := Scalar.andi v106 v108
  let v95 : BitVec 32 := Scalar.divsi v94 c8_i32
  let c1_i32 : BitVec 32 := 1#32
  let v110 : BitVec 32 := Scalar.subi v95 c1_i32
  let v111 : BitVec 32 := Scalar.select v109 v110 v95
  let v112 : BitVec 32 := Scalar.subi v111 c0_i32_82
  let c1_i32_83 : BitVec 32 := 1#32
  let v114 : BitVec 32 := Scalar.divsi v112 c1_i32_83
  let v115 : BitVec 32 := Scalar.muli v114 c1_i32_83
  let v116 : BitVec 32 := Scalar.addi c0_i32_82 v115
  let c1_i32_85 : BitVec 32 := 1#32
  let arg17 : BitVec 32 := Scf.iv v116 c1_i32_85 k0_t2
  let v681 : BitVec 32 := Scalar.muli c8_i32_504 arg17
  let v682 : BitVec 32 := Scalar.addi c0_i32_505 v681
  let c3_i32 : BitVec 32 := 3#32
  let v683 : BitVec 32 := Scalar.addi v682 c3_i32
  let c1_i32_506 : BitVec 32 := 1#32
  let v684 : BitVec 32 := Scalar.addi v683 c1_i32_506
  let c256_i32_507 : BitVec 32 := 256#32
  let v685 : BitVec 32 := Scalar.muli v684 c256_i32_507
  v685
def k0_mult48 (i : grid0.Coords) (k0_t2 : Fin (k0_t2_loop i).trips) : BitVec 32 :=
  let c0_i32_505 : BitVec 32 := 0#32
  let c8_i32_504 : BitVec 32 := 8#32
  let c0_i32_82 : BitVec 32 := 0#32
  let arg1 : BitVec 32 := BitVec.ofNat 32 (i 1).val
  let c0_i32_75 : BitVec 32 := 0#32
  let v94 : BitVec 32 := Scalar.subi arg1 c0_i32_75
  let c0_i32_76 : BitVec 32 := 0#32
  let v96 : BitVec 1 := Scalar.cmpi .sgt v94 c0_i32_76
  let v97 : BitVec 32 := Scalar.extui v96
  let c0_i32_77 : BitVec 32 := 0#32
  let v98 : BitVec 1 := Scalar.cmpi .slt v94 c0_i32_77
  let v99 : BitVec 32 := Scalar.extui v98
  let v100 : BitVec 32 := Scalar.subi v97 v99
  let c8_i32 : BitVec 32 := 8#32
  let c0_i32_78 : BitVec 32 := 0#32
  let v101 : BitVec 1 := Scalar.cmpi .sgt c8_i32 c0_i32_78
  let v102 : BitVec 32 := Scalar.extui v101
  let c0_i32_79 : BitVec 32 := 0#32
  let v103 : BitVec 1 := Scalar.cmpi .slt c8_i32 c0_i32_79
  let v104 : BitVec 32 := Scalar.extui v103
  let v105 : BitVec 32 := Scalar.subi v102 v104
  let v106 : BitVec 1 := Scalar.cmpi .ne v100 v105
  let v107 : BitVec 32 := Scalar.remsi v94 c8_i32
  let c0_i32_80 : BitVec 32 := 0#32
  let v108 : BitVec 1 := Scalar.cmpi .ne v107 c0_i32_80
  let v109 : BitVec 1 := Scalar.andi v106 v108
  let v95 : BitVec 32 := Scalar.divsi v94 c8_i32
  let c1_i32 : BitVec 32 := 1#32
  let v110 : BitVec 32 := Scalar.subi v95 c1_i32
  let v111 : BitVec 32 := Scalar.select v109 v110 v95
  let v112 : BitVec 32 := Scalar.subi v111 c0_i32_82
  let c1_i32_83 : BitVec 32 := 1#32
  let v114 : BitVec 32 := Scalar.divsi v112 c1_i32_83
  let v115 : BitVec 32 := Scalar.muli v114 c1_i32_83
  let v116 : BitVec 32 := Scalar.addi c0_i32_82 v115
  let c1_i32_85 : BitVec 32 := 1#32
  let arg17 : BitVec 32 := Scf.iv v116 c1_i32_85 k0_t2
  let v681 : BitVec 32 := Scalar.muli c8_i32_504 arg17
  let v682 : BitVec 32 := Scalar.addi c0_i32_505 v681
  let c3_i32 : BitVec 32 := 3#32
  let v683 : BitVec 32 := Scalar.addi v682 c3_i32
  let c1_i32_520 : BitVec 32 := 1#32
  let v698 : BitVec 32 := Scalar.subi v683 c1_i32_520
  let c0_i32_521 : BitVec 32 := 0#32
  let v699 : BitVec 32 := Scalar.maxsi v698 c0_i32_521
  let c256_i32_522 : BitVec 32 := 256#32
  let v700 : BitVec 32 := Scalar.muli v699 c256_i32_522
  v700
def k0_mult49 (i : grid0.Coords) (k0_t2 : Fin (k0_t2_loop i).trips) : BitVec 32 :=
  let c0_i32_505 : BitVec 32 := 0#32
  let c8_i32_504 : BitVec 32 := 8#32
  let c0_i32_82 : BitVec 32 := 0#32
  let arg1 : BitVec 32 := BitVec.ofNat 32 (i 1).val
  let c0_i32_75 : BitVec 32 := 0#32
  let v94 : BitVec 32 := Scalar.subi arg1 c0_i32_75
  let c0_i32_76 : BitVec 32 := 0#32
  let v96 : BitVec 1 := Scalar.cmpi .sgt v94 c0_i32_76
  let v97 : BitVec 32 := Scalar.extui v96
  let c0_i32_77 : BitVec 32 := 0#32
  let v98 : BitVec 1 := Scalar.cmpi .slt v94 c0_i32_77
  let v99 : BitVec 32 := Scalar.extui v98
  let v100 : BitVec 32 := Scalar.subi v97 v99
  let c8_i32 : BitVec 32 := 8#32
  let c0_i32_78 : BitVec 32 := 0#32
  let v101 : BitVec 1 := Scalar.cmpi .sgt c8_i32 c0_i32_78
  let v102 : BitVec 32 := Scalar.extui v101
  let c0_i32_79 : BitVec 32 := 0#32
  let v103 : BitVec 1 := Scalar.cmpi .slt c8_i32 c0_i32_79
  let v104 : BitVec 32 := Scalar.extui v103
  let v105 : BitVec 32 := Scalar.subi v102 v104
  let v106 : BitVec 1 := Scalar.cmpi .ne v100 v105
  let v107 : BitVec 32 := Scalar.remsi v94 c8_i32
  let c0_i32_80 : BitVec 32 := 0#32
  let v108 : BitVec 1 := Scalar.cmpi .ne v107 c0_i32_80
  let v109 : BitVec 1 := Scalar.andi v106 v108
  let v95 : BitVec 32 := Scalar.divsi v94 c8_i32
  let c1_i32 : BitVec 32 := 1#32
  let v110 : BitVec 32 := Scalar.subi v95 c1_i32
  let v111 : BitVec 32 := Scalar.select v109 v110 v95
  let v112 : BitVec 32 := Scalar.subi v111 c0_i32_82
  let c1_i32_83 : BitVec 32 := 1#32
  let v114 : BitVec 32 := Scalar.divsi v112 c1_i32_83
  let v115 : BitVec 32 := Scalar.muli v114 c1_i32_83
  let v116 : BitVec 32 := Scalar.addi c0_i32_82 v115
  let c1_i32_85 : BitVec 32 := 1#32
  let arg17 : BitVec 32 := Scf.iv v116 c1_i32_85 k0_t2
  let v681 : BitVec 32 := Scalar.muli c8_i32_504 arg17
  let v682 : BitVec 32 := Scalar.addi c0_i32_505 v681
  let c3_i32 : BitVec 32 := 3#32
  let v683 : BitVec 32 := Scalar.addi v682 c3_i32
  let c1_i32_564 : BitVec 32 := 1#32
  let v754 : BitVec 32 := Scalar.addi v683 c1_i32_564
  let c256_i32_565 : BitVec 32 := 256#32
  let v755 : BitVec 32 := Scalar.muli v754 c256_i32_565
  v755
def k0_mult50 (i : grid0.Coords) (k0_t2 : Fin (k0_t2_loop i).trips) : BitVec 32 :=
  let c0_i32_505 : BitVec 32 := 0#32
  let c8_i32_504 : BitVec 32 := 8#32
  let c0_i32_82 : BitVec 32 := 0#32
  let arg1 : BitVec 32 := BitVec.ofNat 32 (i 1).val
  let c0_i32_75 : BitVec 32 := 0#32
  let v94 : BitVec 32 := Scalar.subi arg1 c0_i32_75
  let c0_i32_76 : BitVec 32 := 0#32
  let v96 : BitVec 1 := Scalar.cmpi .sgt v94 c0_i32_76
  let v97 : BitVec 32 := Scalar.extui v96
  let c0_i32_77 : BitVec 32 := 0#32
  let v98 : BitVec 1 := Scalar.cmpi .slt v94 c0_i32_77
  let v99 : BitVec 32 := Scalar.extui v98
  let v100 : BitVec 32 := Scalar.subi v97 v99
  let c8_i32 : BitVec 32 := 8#32
  let c0_i32_78 : BitVec 32 := 0#32
  let v101 : BitVec 1 := Scalar.cmpi .sgt c8_i32 c0_i32_78
  let v102 : BitVec 32 := Scalar.extui v101
  let c0_i32_79 : BitVec 32 := 0#32
  let v103 : BitVec 1 := Scalar.cmpi .slt c8_i32 c0_i32_79
  let v104 : BitVec 32 := Scalar.extui v103
  let v105 : BitVec 32 := Scalar.subi v102 v104
  let v106 : BitVec 1 := Scalar.cmpi .ne v100 v105
  let v107 : BitVec 32 := Scalar.remsi v94 c8_i32
  let c0_i32_80 : BitVec 32 := 0#32
  let v108 : BitVec 1 := Scalar.cmpi .ne v107 c0_i32_80
  let v109 : BitVec 1 := Scalar.andi v106 v108
  let v95 : BitVec 32 := Scalar.divsi v94 c8_i32
  let c1_i32 : BitVec 32 := 1#32
  let v110 : BitVec 32 := Scalar.subi v95 c1_i32
  let v111 : BitVec 32 := Scalar.select v109 v110 v95
  let v112 : BitVec 32 := Scalar.subi v111 c0_i32_82
  let c1_i32_83 : BitVec 32 := 1#32
  let v114 : BitVec 32 := Scalar.divsi v112 c1_i32_83
  let v115 : BitVec 32 := Scalar.muli v114 c1_i32_83
  let v116 : BitVec 32 := Scalar.addi c0_i32_82 v115
  let c1_i32_85 : BitVec 32 := 1#32
  let arg17 : BitVec 32 := Scf.iv v116 c1_i32_85 k0_t2
  let v681 : BitVec 32 := Scalar.muli c8_i32_504 arg17
  let v682 : BitVec 32 := Scalar.addi c0_i32_505 v681
  let c3_i32 : BitVec 32 := 3#32
  let v683 : BitVec 32 := Scalar.addi v682 c3_i32
  let c1_i32_578 : BitVec 32 := 1#32
  let v768 : BitVec 32 := Scalar.subi v683 c1_i32_578
  let c0_i32_579 : BitVec 32 := 0#32
  let v769 : BitVec 32 := Scalar.maxsi v768 c0_i32_579
  let c256_i32_580 : BitVec 32 := 256#32
  let v770 : BitVec 32 := Scalar.muli v769 c256_i32_580
  v770
def k0_mult51 (i : grid0.Coords) (k0_t2 : Fin (k0_t2_loop i).trips) : BitVec 32 :=
  let c0_i32_623 : BitVec 32 := 0#32
  let c8_i32_622 : BitVec 32 := 8#32
  let c0_i32_82 : BitVec 32 := 0#32
  let arg1 : BitVec 32 := BitVec.ofNat 32 (i 1).val
  let c0_i32_75 : BitVec 32 := 0#32
  let v94 : BitVec 32 := Scalar.subi arg1 c0_i32_75
  let c0_i32_76 : BitVec 32 := 0#32
  let v96 : BitVec 1 := Scalar.cmpi .sgt v94 c0_i32_76
  let v97 : BitVec 32 := Scalar.extui v96
  let c0_i32_77 : BitVec 32 := 0#32
  let v98 : BitVec 1 := Scalar.cmpi .slt v94 c0_i32_77
  let v99 : BitVec 32 := Scalar.extui v98
  let v100 : BitVec 32 := Scalar.subi v97 v99
  let c8_i32 : BitVec 32 := 8#32
  let c0_i32_78 : BitVec 32 := 0#32
  let v101 : BitVec 1 := Scalar.cmpi .sgt c8_i32 c0_i32_78
  let v102 : BitVec 32 := Scalar.extui v101
  let c0_i32_79 : BitVec 32 := 0#32
  let v103 : BitVec 1 := Scalar.cmpi .slt c8_i32 c0_i32_79
  let v104 : BitVec 32 := Scalar.extui v103
  let v105 : BitVec 32 := Scalar.subi v102 v104
  let v106 : BitVec 1 := Scalar.cmpi .ne v100 v105
  let v107 : BitVec 32 := Scalar.remsi v94 c8_i32
  let c0_i32_80 : BitVec 32 := 0#32
  let v108 : BitVec 1 := Scalar.cmpi .ne v107 c0_i32_80
  let v109 : BitVec 1 := Scalar.andi v106 v108
  let v95 : BitVec 32 := Scalar.divsi v94 c8_i32
  let c1_i32 : BitVec 32 := 1#32
  let v110 : BitVec 32 := Scalar.subi v95 c1_i32
  let v111 : BitVec 32 := Scalar.select v109 v110 v95
  let v112 : BitVec 32 := Scalar.subi v111 c0_i32_82
  let c1_i32_83 : BitVec 32 := 1#32
  let v114 : BitVec 32 := Scalar.divsi v112 c1_i32_83
  let v115 : BitVec 32 := Scalar.muli v114 c1_i32_83
  let v116 : BitVec 32 := Scalar.addi c0_i32_82 v115
  let c1_i32_85 : BitVec 32 := 1#32
  let arg17 : BitVec 32 := Scf.iv v116 c1_i32_85 k0_t2
  let v824 : BitVec 32 := Scalar.muli c8_i32_622 arg17
  let v825 : BitVec 32 := Scalar.addi c0_i32_623 v824
  let c4_i32_624 : BitVec 32 := 4#32
  let v826 : BitVec 32 := Scalar.addi v825 c4_i32_624
  let c1_i32_625 : BitVec 32 := 1#32
  let v827 : BitVec 32 := Scalar.addi v826 c1_i32_625
  let c256_i32_626 : BitVec 32 := 256#32
  let v828 : BitVec 32 := Scalar.muli v827 c256_i32_626
  v828
def k0_mult52 (i : grid0.Coords) (k0_t2 : Fin (k0_t2_loop i).trips) : BitVec 32 :=
  let c0_i32_623 : BitVec 32 := 0#32
  let c8_i32_622 : BitVec 32 := 8#32
  let c0_i32_82 : BitVec 32 := 0#32
  let arg1 : BitVec 32 := BitVec.ofNat 32 (i 1).val
  let c0_i32_75 : BitVec 32 := 0#32
  let v94 : BitVec 32 := Scalar.subi arg1 c0_i32_75
  let c0_i32_76 : BitVec 32 := 0#32
  let v96 : BitVec 1 := Scalar.cmpi .sgt v94 c0_i32_76
  let v97 : BitVec 32 := Scalar.extui v96
  let c0_i32_77 : BitVec 32 := 0#32
  let v98 : BitVec 1 := Scalar.cmpi .slt v94 c0_i32_77
  let v99 : BitVec 32 := Scalar.extui v98
  let v100 : BitVec 32 := Scalar.subi v97 v99
  let c8_i32 : BitVec 32 := 8#32
  let c0_i32_78 : BitVec 32 := 0#32
  let v101 : BitVec 1 := Scalar.cmpi .sgt c8_i32 c0_i32_78
  let v102 : BitVec 32 := Scalar.extui v101
  let c0_i32_79 : BitVec 32 := 0#32
  let v103 : BitVec 1 := Scalar.cmpi .slt c8_i32 c0_i32_79
  let v104 : BitVec 32 := Scalar.extui v103
  let v105 : BitVec 32 := Scalar.subi v102 v104
  let v106 : BitVec 1 := Scalar.cmpi .ne v100 v105
  let v107 : BitVec 32 := Scalar.remsi v94 c8_i32
  let c0_i32_80 : BitVec 32 := 0#32
  let v108 : BitVec 1 := Scalar.cmpi .ne v107 c0_i32_80
  let v109 : BitVec 1 := Scalar.andi v106 v108
  let v95 : BitVec 32 := Scalar.divsi v94 c8_i32
  let c1_i32 : BitVec 32 := 1#32
  let v110 : BitVec 32 := Scalar.subi v95 c1_i32
  let v111 : BitVec 32 := Scalar.select v109 v110 v95
  let v112 : BitVec 32 := Scalar.subi v111 c0_i32_82
  let c1_i32_83 : BitVec 32 := 1#32
  let v114 : BitVec 32 := Scalar.divsi v112 c1_i32_83
  let v115 : BitVec 32 := Scalar.muli v114 c1_i32_83
  let v116 : BitVec 32 := Scalar.addi c0_i32_82 v115
  let c1_i32_85 : BitVec 32 := 1#32
  let arg17 : BitVec 32 := Scf.iv v116 c1_i32_85 k0_t2
  let v824 : BitVec 32 := Scalar.muli c8_i32_622 arg17
  let v825 : BitVec 32 := Scalar.addi c0_i32_623 v824
  let c4_i32_624 : BitVec 32 := 4#32
  let v826 : BitVec 32 := Scalar.addi v825 c4_i32_624
  let c1_i32_639 : BitVec 32 := 1#32
  let v841 : BitVec 32 := Scalar.subi v826 c1_i32_639
  let c0_i32_640 : BitVec 32 := 0#32
  let v842 : BitVec 32 := Scalar.maxsi v841 c0_i32_640
  let c256_i32_641 : BitVec 32 := 256#32
  let v843 : BitVec 32 := Scalar.muli v842 c256_i32_641
  v843
def k0_mult53 (i : grid0.Coords) (k0_t2 : Fin (k0_t2_loop i).trips) : BitVec 32 :=
  let c0_i32_623 : BitVec 32 := 0#32
  let c8_i32_622 : BitVec 32 := 8#32
  let c0_i32_82 : BitVec 32 := 0#32
  let arg1 : BitVec 32 := BitVec.ofNat 32 (i 1).val
  let c0_i32_75 : BitVec 32 := 0#32
  let v94 : BitVec 32 := Scalar.subi arg1 c0_i32_75
  let c0_i32_76 : BitVec 32 := 0#32
  let v96 : BitVec 1 := Scalar.cmpi .sgt v94 c0_i32_76
  let v97 : BitVec 32 := Scalar.extui v96
  let c0_i32_77 : BitVec 32 := 0#32
  let v98 : BitVec 1 := Scalar.cmpi .slt v94 c0_i32_77
  let v99 : BitVec 32 := Scalar.extui v98
  let v100 : BitVec 32 := Scalar.subi v97 v99
  let c8_i32 : BitVec 32 := 8#32
  let c0_i32_78 : BitVec 32 := 0#32
  let v101 : BitVec 1 := Scalar.cmpi .sgt c8_i32 c0_i32_78
  let v102 : BitVec 32 := Scalar.extui v101
  let c0_i32_79 : BitVec 32 := 0#32
  let v103 : BitVec 1 := Scalar.cmpi .slt c8_i32 c0_i32_79
  let v104 : BitVec 32 := Scalar.extui v103
  let v105 : BitVec 32 := Scalar.subi v102 v104
  let v106 : BitVec 1 := Scalar.cmpi .ne v100 v105
  let v107 : BitVec 32 := Scalar.remsi v94 c8_i32
  let c0_i32_80 : BitVec 32 := 0#32
  let v108 : BitVec 1 := Scalar.cmpi .ne v107 c0_i32_80
  let v109 : BitVec 1 := Scalar.andi v106 v108
  let v95 : BitVec 32 := Scalar.divsi v94 c8_i32
  let c1_i32 : BitVec 32 := 1#32
  let v110 : BitVec 32 := Scalar.subi v95 c1_i32
  let v111 : BitVec 32 := Scalar.select v109 v110 v95
  let v112 : BitVec 32 := Scalar.subi v111 c0_i32_82
  let c1_i32_83 : BitVec 32 := 1#32
  let v114 : BitVec 32 := Scalar.divsi v112 c1_i32_83
  let v115 : BitVec 32 := Scalar.muli v114 c1_i32_83
  let v116 : BitVec 32 := Scalar.addi c0_i32_82 v115
  let c1_i32_85 : BitVec 32 := 1#32
  let arg17 : BitVec 32 := Scf.iv v116 c1_i32_85 k0_t2
  let v824 : BitVec 32 := Scalar.muli c8_i32_622 arg17
  let v825 : BitVec 32 := Scalar.addi c0_i32_623 v824
  let c4_i32_624 : BitVec 32 := 4#32
  let v826 : BitVec 32 := Scalar.addi v825 c4_i32_624
  let c1_i32_683 : BitVec 32 := 1#32
  let v897 : BitVec 32 := Scalar.addi v826 c1_i32_683
  let c256_i32_684 : BitVec 32 := 256#32
  let v898 : BitVec 32 := Scalar.muli v897 c256_i32_684
  v898
def k0_mult54 (i : grid0.Coords) (k0_t2 : Fin (k0_t2_loop i).trips) : BitVec 32 :=
  let c0_i32_623 : BitVec 32 := 0#32
  let c8_i32_622 : BitVec 32 := 8#32
  let c0_i32_82 : BitVec 32 := 0#32
  let arg1 : BitVec 32 := BitVec.ofNat 32 (i 1).val
  let c0_i32_75 : BitVec 32 := 0#32
  let v94 : BitVec 32 := Scalar.subi arg1 c0_i32_75
  let c0_i32_76 : BitVec 32 := 0#32
  let v96 : BitVec 1 := Scalar.cmpi .sgt v94 c0_i32_76
  let v97 : BitVec 32 := Scalar.extui v96
  let c0_i32_77 : BitVec 32 := 0#32
  let v98 : BitVec 1 := Scalar.cmpi .slt v94 c0_i32_77
  let v99 : BitVec 32 := Scalar.extui v98
  let v100 : BitVec 32 := Scalar.subi v97 v99
  let c8_i32 : BitVec 32 := 8#32
  let c0_i32_78 : BitVec 32 := 0#32
  let v101 : BitVec 1 := Scalar.cmpi .sgt c8_i32 c0_i32_78
  let v102 : BitVec 32 := Scalar.extui v101
  let c0_i32_79 : BitVec 32 := 0#32
  let v103 : BitVec 1 := Scalar.cmpi .slt c8_i32 c0_i32_79
  let v104 : BitVec 32 := Scalar.extui v103
  let v105 : BitVec 32 := Scalar.subi v102 v104
  let v106 : BitVec 1 := Scalar.cmpi .ne v100 v105
  let v107 : BitVec 32 := Scalar.remsi v94 c8_i32
  let c0_i32_80 : BitVec 32 := 0#32
  let v108 : BitVec 1 := Scalar.cmpi .ne v107 c0_i32_80
  let v109 : BitVec 1 := Scalar.andi v106 v108
  let v95 : BitVec 32 := Scalar.divsi v94 c8_i32
  let c1_i32 : BitVec 32 := 1#32
  let v110 : BitVec 32 := Scalar.subi v95 c1_i32
  let v111 : BitVec 32 := Scalar.select v109 v110 v95
  let v112 : BitVec 32 := Scalar.subi v111 c0_i32_82
  let c1_i32_83 : BitVec 32 := 1#32
  let v114 : BitVec 32 := Scalar.divsi v112 c1_i32_83
  let v115 : BitVec 32 := Scalar.muli v114 c1_i32_83
  let v116 : BitVec 32 := Scalar.addi c0_i32_82 v115
  let c1_i32_85 : BitVec 32 := 1#32
  let arg17 : BitVec 32 := Scf.iv v116 c1_i32_85 k0_t2
  let v824 : BitVec 32 := Scalar.muli c8_i32_622 arg17
  let v825 : BitVec 32 := Scalar.addi c0_i32_623 v824
  let c4_i32_624 : BitVec 32 := 4#32
  let v826 : BitVec 32 := Scalar.addi v825 c4_i32_624
  let c1_i32_697 : BitVec 32 := 1#32
  let v911 : BitVec 32 := Scalar.subi v826 c1_i32_697
  let c0_i32_698 : BitVec 32 := 0#32
  let v912 : BitVec 32 := Scalar.maxsi v911 c0_i32_698
  let c256_i32_699 : BitVec 32 := 256#32
  let v913 : BitVec 32 := Scalar.muli v912 c256_i32_699
  v913
def k0_mult55 (i : grid0.Coords) (k0_t2 : Fin (k0_t2_loop i).trips) : BitVec 32 :=
  let c0_i32_742 : BitVec 32 := 0#32
  let c8_i32_741 : BitVec 32 := 8#32
  let c0_i32_82 : BitVec 32 := 0#32
  let arg1 : BitVec 32 := BitVec.ofNat 32 (i 1).val
  let c0_i32_75 : BitVec 32 := 0#32
  let v94 : BitVec 32 := Scalar.subi arg1 c0_i32_75
  let c0_i32_76 : BitVec 32 := 0#32
  let v96 : BitVec 1 := Scalar.cmpi .sgt v94 c0_i32_76
  let v97 : BitVec 32 := Scalar.extui v96
  let c0_i32_77 : BitVec 32 := 0#32
  let v98 : BitVec 1 := Scalar.cmpi .slt v94 c0_i32_77
  let v99 : BitVec 32 := Scalar.extui v98
  let v100 : BitVec 32 := Scalar.subi v97 v99
  let c8_i32 : BitVec 32 := 8#32
  let c0_i32_78 : BitVec 32 := 0#32
  let v101 : BitVec 1 := Scalar.cmpi .sgt c8_i32 c0_i32_78
  let v102 : BitVec 32 := Scalar.extui v101
  let c0_i32_79 : BitVec 32 := 0#32
  let v103 : BitVec 1 := Scalar.cmpi .slt c8_i32 c0_i32_79
  let v104 : BitVec 32 := Scalar.extui v103
  let v105 : BitVec 32 := Scalar.subi v102 v104
  let v106 : BitVec 1 := Scalar.cmpi .ne v100 v105
  let v107 : BitVec 32 := Scalar.remsi v94 c8_i32
  let c0_i32_80 : BitVec 32 := 0#32
  let v108 : BitVec 1 := Scalar.cmpi .ne v107 c0_i32_80
  let v109 : BitVec 1 := Scalar.andi v106 v108
  let v95 : BitVec 32 := Scalar.divsi v94 c8_i32
  let c1_i32 : BitVec 32 := 1#32
  let v110 : BitVec 32 := Scalar.subi v95 c1_i32
  let v111 : BitVec 32 := Scalar.select v109 v110 v95
  let v112 : BitVec 32 := Scalar.subi v111 c0_i32_82
  let c1_i32_83 : BitVec 32 := 1#32
  let v114 : BitVec 32 := Scalar.divsi v112 c1_i32_83
  let v115 : BitVec 32 := Scalar.muli v114 c1_i32_83
  let v116 : BitVec 32 := Scalar.addi c0_i32_82 v115
  let c1_i32_85 : BitVec 32 := 1#32
  let arg17 : BitVec 32 := Scf.iv v116 c1_i32_85 k0_t2
  let v967 : BitVec 32 := Scalar.muli c8_i32_741 arg17
  let v968 : BitVec 32 := Scalar.addi c0_i32_742 v967
  let c5_i32 : BitVec 32 := 5#32
  let v969 : BitVec 32 := Scalar.addi v968 c5_i32
  let c1_i32_743 : BitVec 32 := 1#32
  let v970 : BitVec 32 := Scalar.addi v969 c1_i32_743
  let c256_i32_744 : BitVec 32 := 256#32
  let v971 : BitVec 32 := Scalar.muli v970 c256_i32_744
  v971
def k0_mult56 (i : grid0.Coords) (k0_t2 : Fin (k0_t2_loop i).trips) : BitVec 32 :=
  let c0_i32_742 : BitVec 32 := 0#32
  let c8_i32_741 : BitVec 32 := 8#32
  let c0_i32_82 : BitVec 32 := 0#32
  let arg1 : BitVec 32 := BitVec.ofNat 32 (i 1).val
  let c0_i32_75 : BitVec 32 := 0#32
  let v94 : BitVec 32 := Scalar.subi arg1 c0_i32_75
  let c0_i32_76 : BitVec 32 := 0#32
  let v96 : BitVec 1 := Scalar.cmpi .sgt v94 c0_i32_76
  let v97 : BitVec 32 := Scalar.extui v96
  let c0_i32_77 : BitVec 32 := 0#32
  let v98 : BitVec 1 := Scalar.cmpi .slt v94 c0_i32_77
  let v99 : BitVec 32 := Scalar.extui v98
  let v100 : BitVec 32 := Scalar.subi v97 v99
  let c8_i32 : BitVec 32 := 8#32
  let c0_i32_78 : BitVec 32 := 0#32
  let v101 : BitVec 1 := Scalar.cmpi .sgt c8_i32 c0_i32_78
  let v102 : BitVec 32 := Scalar.extui v101
  let c0_i32_79 : BitVec 32 := 0#32
  let v103 : BitVec 1 := Scalar.cmpi .slt c8_i32 c0_i32_79
  let v104 : BitVec 32 := Scalar.extui v103
  let v105 : BitVec 32 := Scalar.subi v102 v104
  let v106 : BitVec 1 := Scalar.cmpi .ne v100 v105
  let v107 : BitVec 32 := Scalar.remsi v94 c8_i32
  let c0_i32_80 : BitVec 32 := 0#32
  let v108 : BitVec 1 := Scalar.cmpi .ne v107 c0_i32_80
  let v109 : BitVec 1 := Scalar.andi v106 v108
  let v95 : BitVec 32 := Scalar.divsi v94 c8_i32
  let c1_i32 : BitVec 32 := 1#32
  let v110 : BitVec 32 := Scalar.subi v95 c1_i32
  let v111 : BitVec 32 := Scalar.select v109 v110 v95
  let v112 : BitVec 32 := Scalar.subi v111 c0_i32_82
  let c1_i32_83 : BitVec 32 := 1#32
  let v114 : BitVec 32 := Scalar.divsi v112 c1_i32_83
  let v115 : BitVec 32 := Scalar.muli v114 c1_i32_83
  let v116 : BitVec 32 := Scalar.addi c0_i32_82 v115
  let c1_i32_85 : BitVec 32 := 1#32
  let arg17 : BitVec 32 := Scf.iv v116 c1_i32_85 k0_t2
  let v967 : BitVec 32 := Scalar.muli c8_i32_741 arg17
  let v968 : BitVec 32 := Scalar.addi c0_i32_742 v967
  let c5_i32 : BitVec 32 := 5#32
  let v969 : BitVec 32 := Scalar.addi v968 c5_i32
  let c1_i32_757 : BitVec 32 := 1#32
  let v984 : BitVec 32 := Scalar.subi v969 c1_i32_757
  let c0_i32_758 : BitVec 32 := 0#32
  let v985 : BitVec 32 := Scalar.maxsi v984 c0_i32_758
  let c256_i32_759 : BitVec 32 := 256#32
  let v986 : BitVec 32 := Scalar.muli v985 c256_i32_759
  v986
def k0_mult57 (i : grid0.Coords) (k0_t2 : Fin (k0_t2_loop i).trips) : BitVec 32 :=
  let c0_i32_742 : BitVec 32 := 0#32
  let c8_i32_741 : BitVec 32 := 8#32
  let c0_i32_82 : BitVec 32 := 0#32
  let arg1 : BitVec 32 := BitVec.ofNat 32 (i 1).val
  let c0_i32_75 : BitVec 32 := 0#32
  let v94 : BitVec 32 := Scalar.subi arg1 c0_i32_75
  let c0_i32_76 : BitVec 32 := 0#32
  let v96 : BitVec 1 := Scalar.cmpi .sgt v94 c0_i32_76
  let v97 : BitVec 32 := Scalar.extui v96
  let c0_i32_77 : BitVec 32 := 0#32
  let v98 : BitVec 1 := Scalar.cmpi .slt v94 c0_i32_77
  let v99 : BitVec 32 := Scalar.extui v98
  let v100 : BitVec 32 := Scalar.subi v97 v99
  let c8_i32 : BitVec 32 := 8#32
  let c0_i32_78 : BitVec 32 := 0#32
  let v101 : BitVec 1 := Scalar.cmpi .sgt c8_i32 c0_i32_78
  let v102 : BitVec 32 := Scalar.extui v101
  let c0_i32_79 : BitVec 32 := 0#32
  let v103 : BitVec 1 := Scalar.cmpi .slt c8_i32 c0_i32_79
  let v104 : BitVec 32 := Scalar.extui v103
  let v105 : BitVec 32 := Scalar.subi v102 v104
  let v106 : BitVec 1 := Scalar.cmpi .ne v100 v105
  let v107 : BitVec 32 := Scalar.remsi v94 c8_i32
  let c0_i32_80 : BitVec 32 := 0#32
  let v108 : BitVec 1 := Scalar.cmpi .ne v107 c0_i32_80
  let v109 : BitVec 1 := Scalar.andi v106 v108
  let v95 : BitVec 32 := Scalar.divsi v94 c8_i32
  let c1_i32 : BitVec 32 := 1#32
  let v110 : BitVec 32 := Scalar.subi v95 c1_i32
  let v111 : BitVec 32 := Scalar.select v109 v110 v95
  let v112 : BitVec 32 := Scalar.subi v111 c0_i32_82
  let c1_i32_83 : BitVec 32 := 1#32
  let v114 : BitVec 32 := Scalar.divsi v112 c1_i32_83
  let v115 : BitVec 32 := Scalar.muli v114 c1_i32_83
  let v116 : BitVec 32 := Scalar.addi c0_i32_82 v115
  let c1_i32_85 : BitVec 32 := 1#32
  let arg17 : BitVec 32 := Scf.iv v116 c1_i32_85 k0_t2
  let v967 : BitVec 32 := Scalar.muli c8_i32_741 arg17
  let v968 : BitVec 32 := Scalar.addi c0_i32_742 v967
  let c5_i32 : BitVec 32 := 5#32
  let v969 : BitVec 32 := Scalar.addi v968 c5_i32
  let c1_i32_801 : BitVec 32 := 1#32
  let v1040 : BitVec 32 := Scalar.addi v969 c1_i32_801
  let c256_i32_802 : BitVec 32 := 256#32
  let v1041 : BitVec 32 := Scalar.muli v1040 c256_i32_802
  v1041
def k0_mult58 (i : grid0.Coords) (k0_t2 : Fin (k0_t2_loop i).trips) : BitVec 32 :=
  let c0_i32_742 : BitVec 32 := 0#32
  let c8_i32_741 : BitVec 32 := 8#32
  let c0_i32_82 : BitVec 32 := 0#32
  let arg1 : BitVec 32 := BitVec.ofNat 32 (i 1).val
  let c0_i32_75 : BitVec 32 := 0#32
  let v94 : BitVec 32 := Scalar.subi arg1 c0_i32_75
  let c0_i32_76 : BitVec 32 := 0#32
  let v96 : BitVec 1 := Scalar.cmpi .sgt v94 c0_i32_76
  let v97 : BitVec 32 := Scalar.extui v96
  let c0_i32_77 : BitVec 32 := 0#32
  let v98 : BitVec 1 := Scalar.cmpi .slt v94 c0_i32_77
  let v99 : BitVec 32 := Scalar.extui v98
  let v100 : BitVec 32 := Scalar.subi v97 v99
  let c8_i32 : BitVec 32 := 8#32
  let c0_i32_78 : BitVec 32 := 0#32
  let v101 : BitVec 1 := Scalar.cmpi .sgt c8_i32 c0_i32_78
  let v102 : BitVec 32 := Scalar.extui v101
  let c0_i32_79 : BitVec 32 := 0#32
  let v103 : BitVec 1 := Scalar.cmpi .slt c8_i32 c0_i32_79
  let v104 : BitVec 32 := Scalar.extui v103
  let v105 : BitVec 32 := Scalar.subi v102 v104
  let v106 : BitVec 1 := Scalar.cmpi .ne v100 v105
  let v107 : BitVec 32 := Scalar.remsi v94 c8_i32
  let c0_i32_80 : BitVec 32 := 0#32
  let v108 : BitVec 1 := Scalar.cmpi .ne v107 c0_i32_80
  let v109 : BitVec 1 := Scalar.andi v106 v108
  let v95 : BitVec 32 := Scalar.divsi v94 c8_i32
  let c1_i32 : BitVec 32 := 1#32
  let v110 : BitVec 32 := Scalar.subi v95 c1_i32
  let v111 : BitVec 32 := Scalar.select v109 v110 v95
  let v112 : BitVec 32 := Scalar.subi v111 c0_i32_82
  let c1_i32_83 : BitVec 32 := 1#32
  let v114 : BitVec 32 := Scalar.divsi v112 c1_i32_83
  let v115 : BitVec 32 := Scalar.muli v114 c1_i32_83
  let v116 : BitVec 32 := Scalar.addi c0_i32_82 v115
  let c1_i32_85 : BitVec 32 := 1#32
  let arg17 : BitVec 32 := Scf.iv v116 c1_i32_85 k0_t2
  let v967 : BitVec 32 := Scalar.muli c8_i32_741 arg17
  let v968 : BitVec 32 := Scalar.addi c0_i32_742 v967
  let c5_i32 : BitVec 32 := 5#32
  let v969 : BitVec 32 := Scalar.addi v968 c5_i32
  let c1_i32_815 : BitVec 32 := 1#32
  let v1054 : BitVec 32 := Scalar.subi v969 c1_i32_815
  let c0_i32_816 : BitVec 32 := 0#32
  let v1055 : BitVec 32 := Scalar.maxsi v1054 c0_i32_816
  let c256_i32_817 : BitVec 32 := 256#32
  let v1056 : BitVec 32 := Scalar.muli v1055 c256_i32_817
  v1056
def k0_mult59 (i : grid0.Coords) (k0_t2 : Fin (k0_t2_loop i).trips) : BitVec 32 :=
  let c0_i32_860 : BitVec 32 := 0#32
  let c8_i32_859 : BitVec 32 := 8#32
  let c0_i32_82 : BitVec 32 := 0#32
  let arg1 : BitVec 32 := BitVec.ofNat 32 (i 1).val
  let c0_i32_75 : BitVec 32 := 0#32
  let v94 : BitVec 32 := Scalar.subi arg1 c0_i32_75
  let c0_i32_76 : BitVec 32 := 0#32
  let v96 : BitVec 1 := Scalar.cmpi .sgt v94 c0_i32_76
  let v97 : BitVec 32 := Scalar.extui v96
  let c0_i32_77 : BitVec 32 := 0#32
  let v98 : BitVec 1 := Scalar.cmpi .slt v94 c0_i32_77
  let v99 : BitVec 32 := Scalar.extui v98
  let v100 : BitVec 32 := Scalar.subi v97 v99
  let c8_i32 : BitVec 32 := 8#32
  let c0_i32_78 : BitVec 32 := 0#32
  let v101 : BitVec 1 := Scalar.cmpi .sgt c8_i32 c0_i32_78
  let v102 : BitVec 32 := Scalar.extui v101
  let c0_i32_79 : BitVec 32 := 0#32
  let v103 : BitVec 1 := Scalar.cmpi .slt c8_i32 c0_i32_79
  let v104 : BitVec 32 := Scalar.extui v103
  let v105 : BitVec 32 := Scalar.subi v102 v104
  let v106 : BitVec 1 := Scalar.cmpi .ne v100 v105
  let v107 : BitVec 32 := Scalar.remsi v94 c8_i32
  let c0_i32_80 : BitVec 32 := 0#32
  let v108 : BitVec 1 := Scalar.cmpi .ne v107 c0_i32_80
  let v109 : BitVec 1 := Scalar.andi v106 v108
  let v95 : BitVec 32 := Scalar.divsi v94 c8_i32
  let c1_i32 : BitVec 32 := 1#32
  let v110 : BitVec 32 := Scalar.subi v95 c1_i32
  let v111 : BitVec 32 := Scalar.select v109 v110 v95
  let v112 : BitVec 32 := Scalar.subi v111 c0_i32_82
  let c1_i32_83 : BitVec 32 := 1#32
  let v114 : BitVec 32 := Scalar.divsi v112 c1_i32_83
  let v115 : BitVec 32 := Scalar.muli v114 c1_i32_83
  let v116 : BitVec 32 := Scalar.addi c0_i32_82 v115
  let c1_i32_85 : BitVec 32 := 1#32
  let arg17 : BitVec 32 := Scf.iv v116 c1_i32_85 k0_t2
  let v1110 : BitVec 32 := Scalar.muli c8_i32_859 arg17
  let v1111 : BitVec 32 := Scalar.addi c0_i32_860 v1110
  let c6_i32 : BitVec 32 := 6#32
  let v1112 : BitVec 32 := Scalar.addi v1111 c6_i32
  let c1_i32_861 : BitVec 32 := 1#32
  let v1113 : BitVec 32 := Scalar.addi v1112 c1_i32_861
  let c256_i32_862 : BitVec 32 := 256#32
  let v1114 : BitVec 32 := Scalar.muli v1113 c256_i32_862
  v1114
def k0_mult60 (i : grid0.Coords) (k0_t2 : Fin (k0_t2_loop i).trips) : BitVec 32 :=
  let c0_i32_860 : BitVec 32 := 0#32
  let c8_i32_859 : BitVec 32 := 8#32
  let c0_i32_82 : BitVec 32 := 0#32
  let arg1 : BitVec 32 := BitVec.ofNat 32 (i 1).val
  let c0_i32_75 : BitVec 32 := 0#32
  let v94 : BitVec 32 := Scalar.subi arg1 c0_i32_75
  let c0_i32_76 : BitVec 32 := 0#32
  let v96 : BitVec 1 := Scalar.cmpi .sgt v94 c0_i32_76
  let v97 : BitVec 32 := Scalar.extui v96
  let c0_i32_77 : BitVec 32 := 0#32
  let v98 : BitVec 1 := Scalar.cmpi .slt v94 c0_i32_77
  let v99 : BitVec 32 := Scalar.extui v98
  let v100 : BitVec 32 := Scalar.subi v97 v99
  let c8_i32 : BitVec 32 := 8#32
  let c0_i32_78 : BitVec 32 := 0#32
  let v101 : BitVec 1 := Scalar.cmpi .sgt c8_i32 c0_i32_78
  let v102 : BitVec 32 := Scalar.extui v101
  let c0_i32_79 : BitVec 32 := 0#32
  let v103 : BitVec 1 := Scalar.cmpi .slt c8_i32 c0_i32_79
  let v104 : BitVec 32 := Scalar.extui v103
  let v105 : BitVec 32 := Scalar.subi v102 v104
  let v106 : BitVec 1 := Scalar.cmpi .ne v100 v105
  let v107 : BitVec 32 := Scalar.remsi v94 c8_i32
  let c0_i32_80 : BitVec 32 := 0#32
  let v108 : BitVec 1 := Scalar.cmpi .ne v107 c0_i32_80
  let v109 : BitVec 1 := Scalar.andi v106 v108
  let v95 : BitVec 32 := Scalar.divsi v94 c8_i32
  let c1_i32 : BitVec 32 := 1#32
  let v110 : BitVec 32 := Scalar.subi v95 c1_i32
  let v111 : BitVec 32 := Scalar.select v109 v110 v95
  let v112 : BitVec 32 := Scalar.subi v111 c0_i32_82
  let c1_i32_83 : BitVec 32 := 1#32
  let v114 : BitVec 32 := Scalar.divsi v112 c1_i32_83
  let v115 : BitVec 32 := Scalar.muli v114 c1_i32_83
  let v116 : BitVec 32 := Scalar.addi c0_i32_82 v115
  let c1_i32_85 : BitVec 32 := 1#32
  let arg17 : BitVec 32 := Scf.iv v116 c1_i32_85 k0_t2
  let v1110 : BitVec 32 := Scalar.muli c8_i32_859 arg17
  let v1111 : BitVec 32 := Scalar.addi c0_i32_860 v1110
  let c6_i32 : BitVec 32 := 6#32
  let v1112 : BitVec 32 := Scalar.addi v1111 c6_i32
  let c1_i32_875 : BitVec 32 := 1#32
  let v1127 : BitVec 32 := Scalar.subi v1112 c1_i32_875
  let c0_i32_876 : BitVec 32 := 0#32
  let v1128 : BitVec 32 := Scalar.maxsi v1127 c0_i32_876
  let c256_i32_877 : BitVec 32 := 256#32
  let v1129 : BitVec 32 := Scalar.muli v1128 c256_i32_877
  v1129
def k0_mult61 (i : grid0.Coords) (k0_t2 : Fin (k0_t2_loop i).trips) : BitVec 32 :=
  let c0_i32_860 : BitVec 32 := 0#32
  let c8_i32_859 : BitVec 32 := 8#32
  let c0_i32_82 : BitVec 32 := 0#32
  let arg1 : BitVec 32 := BitVec.ofNat 32 (i 1).val
  let c0_i32_75 : BitVec 32 := 0#32
  let v94 : BitVec 32 := Scalar.subi arg1 c0_i32_75
  let c0_i32_76 : BitVec 32 := 0#32
  let v96 : BitVec 1 := Scalar.cmpi .sgt v94 c0_i32_76
  let v97 : BitVec 32 := Scalar.extui v96
  let c0_i32_77 : BitVec 32 := 0#32
  let v98 : BitVec 1 := Scalar.cmpi .slt v94 c0_i32_77
  let v99 : BitVec 32 := Scalar.extui v98
  let v100 : BitVec 32 := Scalar.subi v97 v99
  let c8_i32 : BitVec 32 := 8#32
  let c0_i32_78 : BitVec 32 := 0#32
  let v101 : BitVec 1 := Scalar.cmpi .sgt c8_i32 c0_i32_78
  let v102 : BitVec 32 := Scalar.extui v101
  let c0_i32_79 : BitVec 32 := 0#32
  let v103 : BitVec 1 := Scalar.cmpi .slt c8_i32 c0_i32_79
  let v104 : BitVec 32 := Scalar.extui v103
  let v105 : BitVec 32 := Scalar.subi v102 v104
  let v106 : BitVec 1 := Scalar.cmpi .ne v100 v105
  let v107 : BitVec 32 := Scalar.remsi v94 c8_i32
  let c0_i32_80 : BitVec 32 := 0#32
  let v108 : BitVec 1 := Scalar.cmpi .ne v107 c0_i32_80
  let v109 : BitVec 1 := Scalar.andi v106 v108
  let v95 : BitVec 32 := Scalar.divsi v94 c8_i32
  let c1_i32 : BitVec 32 := 1#32
  let v110 : BitVec 32 := Scalar.subi v95 c1_i32
  let v111 : BitVec 32 := Scalar.select v109 v110 v95
  let v112 : BitVec 32 := Scalar.subi v111 c0_i32_82
  let c1_i32_83 : BitVec 32 := 1#32
  let v114 : BitVec 32 := Scalar.divsi v112 c1_i32_83
  let v115 : BitVec 32 := Scalar.muli v114 c1_i32_83
  let v116 : BitVec 32 := Scalar.addi c0_i32_82 v115
  let c1_i32_85 : BitVec 32 := 1#32
  let arg17 : BitVec 32 := Scf.iv v116 c1_i32_85 k0_t2
  let v1110 : BitVec 32 := Scalar.muli c8_i32_859 arg17
  let v1111 : BitVec 32 := Scalar.addi c0_i32_860 v1110
  let c6_i32 : BitVec 32 := 6#32
  let v1112 : BitVec 32 := Scalar.addi v1111 c6_i32
  let c1_i32_919 : BitVec 32 := 1#32
  let v1183 : BitVec 32 := Scalar.addi v1112 c1_i32_919
  let c256_i32_920 : BitVec 32 := 256#32
  let v1184 : BitVec 32 := Scalar.muli v1183 c256_i32_920
  v1184
def k0_mult62 (i : grid0.Coords) (k0_t2 : Fin (k0_t2_loop i).trips) : BitVec 32 :=
  let c0_i32_860 : BitVec 32 := 0#32
  let c8_i32_859 : BitVec 32 := 8#32
  let c0_i32_82 : BitVec 32 := 0#32
  let arg1 : BitVec 32 := BitVec.ofNat 32 (i 1).val
  let c0_i32_75 : BitVec 32 := 0#32
  let v94 : BitVec 32 := Scalar.subi arg1 c0_i32_75
  let c0_i32_76 : BitVec 32 := 0#32
  let v96 : BitVec 1 := Scalar.cmpi .sgt v94 c0_i32_76
  let v97 : BitVec 32 := Scalar.extui v96
  let c0_i32_77 : BitVec 32 := 0#32
  let v98 : BitVec 1 := Scalar.cmpi .slt v94 c0_i32_77
  let v99 : BitVec 32 := Scalar.extui v98
  let v100 : BitVec 32 := Scalar.subi v97 v99
  let c8_i32 : BitVec 32 := 8#32
  let c0_i32_78 : BitVec 32 := 0#32
  let v101 : BitVec 1 := Scalar.cmpi .sgt c8_i32 c0_i32_78
  let v102 : BitVec 32 := Scalar.extui v101
  let c0_i32_79 : BitVec 32 := 0#32
  let v103 : BitVec 1 := Scalar.cmpi .slt c8_i32 c0_i32_79
  let v104 : BitVec 32 := Scalar.extui v103
  let v105 : BitVec 32 := Scalar.subi v102 v104
  let v106 : BitVec 1 := Scalar.cmpi .ne v100 v105
  let v107 : BitVec 32 := Scalar.remsi v94 c8_i32
  let c0_i32_80 : BitVec 32 := 0#32
  let v108 : BitVec 1 := Scalar.cmpi .ne v107 c0_i32_80
  let v109 : BitVec 1 := Scalar.andi v106 v108
  let v95 : BitVec 32 := Scalar.divsi v94 c8_i32
  let c1_i32 : BitVec 32 := 1#32
  let v110 : BitVec 32 := Scalar.subi v95 c1_i32
  let v111 : BitVec 32 := Scalar.select v109 v110 v95
  let v112 : BitVec 32 := Scalar.subi v111 c0_i32_82
  let c1_i32_83 : BitVec 32 := 1#32
  let v114 : BitVec 32 := Scalar.divsi v112 c1_i32_83
  let v115 : BitVec 32 := Scalar.muli v114 c1_i32_83
  let v116 : BitVec 32 := Scalar.addi c0_i32_82 v115
  let c1_i32_85 : BitVec 32 := 1#32
  let arg17 : BitVec 32 := Scf.iv v116 c1_i32_85 k0_t2
  let v1110 : BitVec 32 := Scalar.muli c8_i32_859 arg17
  let v1111 : BitVec 32 := Scalar.addi c0_i32_860 v1110
  let c6_i32 : BitVec 32 := 6#32
  let v1112 : BitVec 32 := Scalar.addi v1111 c6_i32
  let c1_i32_933 : BitVec 32 := 1#32
  let v1197 : BitVec 32 := Scalar.subi v1112 c1_i32_933
  let c0_i32_934 : BitVec 32 := 0#32
  let v1198 : BitVec 32 := Scalar.maxsi v1197 c0_i32_934
  let c256_i32_935 : BitVec 32 := 256#32
  let v1199 : BitVec 32 := Scalar.muli v1198 c256_i32_935
  v1199
def k0_mult63 (i : grid0.Coords) (k0_t2 : Fin (k0_t2_loop i).trips) : BitVec 32 :=
  let c0_i32_978 : BitVec 32 := 0#32
  let c8_i32_977 : BitVec 32 := 8#32
  let c0_i32_82 : BitVec 32 := 0#32
  let arg1 : BitVec 32 := BitVec.ofNat 32 (i 1).val
  let c0_i32_75 : BitVec 32 := 0#32
  let v94 : BitVec 32 := Scalar.subi arg1 c0_i32_75
  let c0_i32_76 : BitVec 32 := 0#32
  let v96 : BitVec 1 := Scalar.cmpi .sgt v94 c0_i32_76
  let v97 : BitVec 32 := Scalar.extui v96
  let c0_i32_77 : BitVec 32 := 0#32
  let v98 : BitVec 1 := Scalar.cmpi .slt v94 c0_i32_77
  let v99 : BitVec 32 := Scalar.extui v98
  let v100 : BitVec 32 := Scalar.subi v97 v99
  let c8_i32 : BitVec 32 := 8#32
  let c0_i32_78 : BitVec 32 := 0#32
  let v101 : BitVec 1 := Scalar.cmpi .sgt c8_i32 c0_i32_78
  let v102 : BitVec 32 := Scalar.extui v101
  let c0_i32_79 : BitVec 32 := 0#32
  let v103 : BitVec 1 := Scalar.cmpi .slt c8_i32 c0_i32_79
  let v104 : BitVec 32 := Scalar.extui v103
  let v105 : BitVec 32 := Scalar.subi v102 v104
  let v106 : BitVec 1 := Scalar.cmpi .ne v100 v105
  let v107 : BitVec 32 := Scalar.remsi v94 c8_i32
  let c0_i32_80 : BitVec 32 := 0#32
  let v108 : BitVec 1 := Scalar.cmpi .ne v107 c0_i32_80
  let v109 : BitVec 1 := Scalar.andi v106 v108
  let v95 : BitVec 32 := Scalar.divsi v94 c8_i32
  let c1_i32 : BitVec 32 := 1#32
  let v110 : BitVec 32 := Scalar.subi v95 c1_i32
  let v111 : BitVec 32 := Scalar.select v109 v110 v95
  let v112 : BitVec 32 := Scalar.subi v111 c0_i32_82
  let c1_i32_83 : BitVec 32 := 1#32
  let v114 : BitVec 32 := Scalar.divsi v112 c1_i32_83
  let v115 : BitVec 32 := Scalar.muli v114 c1_i32_83
  let v116 : BitVec 32 := Scalar.addi c0_i32_82 v115
  let c1_i32_85 : BitVec 32 := 1#32
  let arg17 : BitVec 32 := Scf.iv v116 c1_i32_85 k0_t2
  let v1253 : BitVec 32 := Scalar.muli c8_i32_977 arg17
  let v1254 : BitVec 32 := Scalar.addi c0_i32_978 v1253
  let c7_i32 : BitVec 32 := 7#32
  let v1255 : BitVec 32 := Scalar.addi v1254 c7_i32
  let c1_i32_979 : BitVec 32 := 1#32
  let v1256 : BitVec 32 := Scalar.addi v1255 c1_i32_979
  let c256_i32_980 : BitVec 32 := 256#32
  let v1257 : BitVec 32 := Scalar.muli v1256 c256_i32_980
  v1257
def k0_mult64 (i : grid0.Coords) (k0_t2 : Fin (k0_t2_loop i).trips) : BitVec 32 :=
  let c0_i32_978 : BitVec 32 := 0#32
  let c8_i32_977 : BitVec 32 := 8#32
  let c0_i32_82 : BitVec 32 := 0#32
  let arg1 : BitVec 32 := BitVec.ofNat 32 (i 1).val
  let c0_i32_75 : BitVec 32 := 0#32
  let v94 : BitVec 32 := Scalar.subi arg1 c0_i32_75
  let c0_i32_76 : BitVec 32 := 0#32
  let v96 : BitVec 1 := Scalar.cmpi .sgt v94 c0_i32_76
  let v97 : BitVec 32 := Scalar.extui v96
  let c0_i32_77 : BitVec 32 := 0#32
  let v98 : BitVec 1 := Scalar.cmpi .slt v94 c0_i32_77
  let v99 : BitVec 32 := Scalar.extui v98
  let v100 : BitVec 32 := Scalar.subi v97 v99
  let c8_i32 : BitVec 32 := 8#32
  let c0_i32_78 : BitVec 32 := 0#32
  let v101 : BitVec 1 := Scalar.cmpi .sgt c8_i32 c0_i32_78
  let v102 : BitVec 32 := Scalar.extui v101
  let c0_i32_79 : BitVec 32 := 0#32
  let v103 : BitVec 1 := Scalar.cmpi .slt c8_i32 c0_i32_79
  let v104 : BitVec 32 := Scalar.extui v103
  let v105 : BitVec 32 := Scalar.subi v102 v104
  let v106 : BitVec 1 := Scalar.cmpi .ne v100 v105
  let v107 : BitVec 32 := Scalar.remsi v94 c8_i32
  let c0_i32_80 : BitVec 32 := 0#32
  let v108 : BitVec 1 := Scalar.cmpi .ne v107 c0_i32_80
  let v109 : BitVec 1 := Scalar.andi v106 v108
  let v95 : BitVec 32 := Scalar.divsi v94 c8_i32
  let c1_i32 : BitVec 32 := 1#32
  let v110 : BitVec 32 := Scalar.subi v95 c1_i32
  let v111 : BitVec 32 := Scalar.select v109 v110 v95
  let v112 : BitVec 32 := Scalar.subi v111 c0_i32_82
  let c1_i32_83 : BitVec 32 := 1#32
  let v114 : BitVec 32 := Scalar.divsi v112 c1_i32_83
  let v115 : BitVec 32 := Scalar.muli v114 c1_i32_83
  let v116 : BitVec 32 := Scalar.addi c0_i32_82 v115
  let c1_i32_85 : BitVec 32 := 1#32
  let arg17 : BitVec 32 := Scf.iv v116 c1_i32_85 k0_t2
  let v1253 : BitVec 32 := Scalar.muli c8_i32_977 arg17
  let v1254 : BitVec 32 := Scalar.addi c0_i32_978 v1253
  let c7_i32 : BitVec 32 := 7#32
  let v1255 : BitVec 32 := Scalar.addi v1254 c7_i32
  let c1_i32_993 : BitVec 32 := 1#32
  let v1270 : BitVec 32 := Scalar.subi v1255 c1_i32_993
  let c0_i32_994 : BitVec 32 := 0#32
  let v1271 : BitVec 32 := Scalar.maxsi v1270 c0_i32_994
  let c256_i32_995 : BitVec 32 := 256#32
  let v1272 : BitVec 32 := Scalar.muli v1271 c256_i32_995
  v1272
def k0_mult65 (i : grid0.Coords) (k0_t2 : Fin (k0_t2_loop i).trips) : BitVec 32 :=
  let c0_i32_978 : BitVec 32 := 0#32
  let c8_i32_977 : BitVec 32 := 8#32
  let c0_i32_82 : BitVec 32 := 0#32
  let arg1 : BitVec 32 := BitVec.ofNat 32 (i 1).val
  let c0_i32_75 : BitVec 32 := 0#32
  let v94 : BitVec 32 := Scalar.subi arg1 c0_i32_75
  let c0_i32_76 : BitVec 32 := 0#32
  let v96 : BitVec 1 := Scalar.cmpi .sgt v94 c0_i32_76
  let v97 : BitVec 32 := Scalar.extui v96
  let c0_i32_77 : BitVec 32 := 0#32
  let v98 : BitVec 1 := Scalar.cmpi .slt v94 c0_i32_77
  let v99 : BitVec 32 := Scalar.extui v98
  let v100 : BitVec 32 := Scalar.subi v97 v99
  let c8_i32 : BitVec 32 := 8#32
  let c0_i32_78 : BitVec 32 := 0#32
  let v101 : BitVec 1 := Scalar.cmpi .sgt c8_i32 c0_i32_78
  let v102 : BitVec 32 := Scalar.extui v101
  let c0_i32_79 : BitVec 32 := 0#32
  let v103 : BitVec 1 := Scalar.cmpi .slt c8_i32 c0_i32_79
  let v104 : BitVec 32 := Scalar.extui v103
  let v105 : BitVec 32 := Scalar.subi v102 v104
  let v106 : BitVec 1 := Scalar.cmpi .ne v100 v105
  let v107 : BitVec 32 := Scalar.remsi v94 c8_i32
  let c0_i32_80 : BitVec 32 := 0#32
  let v108 : BitVec 1 := Scalar.cmpi .ne v107 c0_i32_80
  let v109 : BitVec 1 := Scalar.andi v106 v108
  let v95 : BitVec 32 := Scalar.divsi v94 c8_i32
  let c1_i32 : BitVec 32 := 1#32
  let v110 : BitVec 32 := Scalar.subi v95 c1_i32
  let v111 : BitVec 32 := Scalar.select v109 v110 v95
  let v112 : BitVec 32 := Scalar.subi v111 c0_i32_82
  let c1_i32_83 : BitVec 32 := 1#32
  let v114 : BitVec 32 := Scalar.divsi v112 c1_i32_83
  let v115 : BitVec 32 := Scalar.muli v114 c1_i32_83
  let v116 : BitVec 32 := Scalar.addi c0_i32_82 v115
  let c1_i32_85 : BitVec 32 := 1#32
  let arg17 : BitVec 32 := Scf.iv v116 c1_i32_85 k0_t2
  let v1253 : BitVec 32 := Scalar.muli c8_i32_977 arg17
  let v1254 : BitVec 32 := Scalar.addi c0_i32_978 v1253
  let c7_i32 : BitVec 32 := 7#32
  let v1255 : BitVec 32 := Scalar.addi v1254 c7_i32
  let c1_i32_1037 : BitVec 32 := 1#32
  let v1326 : BitVec 32 := Scalar.addi v1255 c1_i32_1037
  let c256_i32_1038 : BitVec 32 := 256#32
  let v1327 : BitVec 32 := Scalar.muli v1326 c256_i32_1038
  v1327
def k0_mult66 (i : grid0.Coords) (k0_t2 : Fin (k0_t2_loop i).trips) : BitVec 32 :=
  let c0_i32_978 : BitVec 32 := 0#32
  let c8_i32_977 : BitVec 32 := 8#32
  let c0_i32_82 : BitVec 32 := 0#32
  let arg1 : BitVec 32 := BitVec.ofNat 32 (i 1).val
  let c0_i32_75 : BitVec 32 := 0#32
  let v94 : BitVec 32 := Scalar.subi arg1 c0_i32_75
  let c0_i32_76 : BitVec 32 := 0#32
  let v96 : BitVec 1 := Scalar.cmpi .sgt v94 c0_i32_76
  let v97 : BitVec 32 := Scalar.extui v96
  let c0_i32_77 : BitVec 32 := 0#32
  let v98 : BitVec 1 := Scalar.cmpi .slt v94 c0_i32_77
  let v99 : BitVec 32 := Scalar.extui v98
  let v100 : BitVec 32 := Scalar.subi v97 v99
  let c8_i32 : BitVec 32 := 8#32
  let c0_i32_78 : BitVec 32 := 0#32
  let v101 : BitVec 1 := Scalar.cmpi .sgt c8_i32 c0_i32_78
  let v102 : BitVec 32 := Scalar.extui v101
  let c0_i32_79 : BitVec 32 := 0#32
  let v103 : BitVec 1 := Scalar.cmpi .slt c8_i32 c0_i32_79
  let v104 : BitVec 32 := Scalar.extui v103
  let v105 : BitVec 32 := Scalar.subi v102 v104
  let v106 : BitVec 1 := Scalar.cmpi .ne v100 v105
  let v107 : BitVec 32 := Scalar.remsi v94 c8_i32
  let c0_i32_80 : BitVec 32 := 0#32
  let v108 : BitVec 1 := Scalar.cmpi .ne v107 c0_i32_80
  let v109 : BitVec 1 := Scalar.andi v106 v108
  let v95 : BitVec 32 := Scalar.divsi v94 c8_i32
  let c1_i32 : BitVec 32 := 1#32
  let v110 : BitVec 32 := Scalar.subi v95 c1_i32
  let v111 : BitVec 32 := Scalar.select v109 v110 v95
  let v112 : BitVec 32 := Scalar.subi v111 c0_i32_82
  let c1_i32_83 : BitVec 32 := 1#32
  let v114 : BitVec 32 := Scalar.divsi v112 c1_i32_83
  let v115 : BitVec 32 := Scalar.muli v114 c1_i32_83
  let v116 : BitVec 32 := Scalar.addi c0_i32_82 v115
  let c1_i32_85 : BitVec 32 := 1#32
  let arg17 : BitVec 32 := Scf.iv v116 c1_i32_85 k0_t2
  let v1253 : BitVec 32 := Scalar.muli c8_i32_977 arg17
  let v1254 : BitVec 32 := Scalar.addi c0_i32_978 v1253
  let c7_i32 : BitVec 32 := 7#32
  let v1255 : BitVec 32 := Scalar.addi v1254 c7_i32
  let c1_i32_1051 : BitVec 32 := 1#32
  let v1340 : BitVec 32 := Scalar.subi v1255 c1_i32_1051
  let c0_i32_1052 : BitVec 32 := 0#32
  let v1341 : BitVec 32 := Scalar.maxsi v1340 c0_i32_1052
  let c256_i32_1053 : BitVec 32 := 256#32
  let v1342 : BitVec 32 := Scalar.muli v1341 c256_i32_1053
  v1342
@[reducible] def k0_t3_loop (i : grid0.Coords) : Scf.Loop 32 :=
  let c0_i32_95 : BitVec 32 := 0#32
  let arg1 : BitVec 32 := BitVec.ofNat 32 (i 1).val
  let c0_i32_87 : BitVec 32 := 0#32
  let c8_i32_86 : BitVec 32 := 8#32
  let c0_i32_75 : BitVec 32 := 0#32
  let v94 : BitVec 32 := Scalar.subi arg1 c0_i32_75
  let c0_i32_76 : BitVec 32 := 0#32
  let v96 : BitVec 1 := Scalar.cmpi .sgt v94 c0_i32_76
  let v97 : BitVec 32 := Scalar.extui v96
  let c0_i32_77 : BitVec 32 := 0#32
  let v98 : BitVec 1 := Scalar.cmpi .slt v94 c0_i32_77
  let v99 : BitVec 32 := Scalar.extui v98
  let v100 : BitVec 32 := Scalar.subi v97 v99
  let c8_i32 : BitVec 32 := 8#32
  let c0_i32_78 : BitVec 32 := 0#32
  let v101 : BitVec 1 := Scalar.cmpi .sgt c8_i32 c0_i32_78
  let v102 : BitVec 32 := Scalar.extui v101
  let c0_i32_79 : BitVec 32 := 0#32
  let v103 : BitVec 1 := Scalar.cmpi .slt c8_i32 c0_i32_79
  let v104 : BitVec 32 := Scalar.extui v103
  let v105 : BitVec 32 := Scalar.subi v102 v104
  let v106 : BitVec 1 := Scalar.cmpi .ne v100 v105
  let v107 : BitVec 32 := Scalar.remsi v94 c8_i32
  let c0_i32_80 : BitVec 32 := 0#32
  let v108 : BitVec 1 := Scalar.cmpi .ne v107 c0_i32_80
  let v109 : BitVec 1 := Scalar.andi v106 v108
  let v95 : BitVec 32 := Scalar.divsi v94 c8_i32
  let c1_i32 : BitVec 32 := 1#32
  let v110 : BitVec 32 := Scalar.subi v95 c1_i32
  let v111 : BitVec 32 := Scalar.select v109 v110 v95
  let v117 : BitVec 32 := Scalar.muli c8_i32_86 v111
  let v118 : BitVec 32 := Scalar.addi c0_i32_87 v117
  let v119 : BitVec 32 := Scalar.subi arg1 v118
  let c0_i32_88 : BitVec 32 := 0#32
  let v121 : BitVec 1 := Scalar.cmpi .sgt v119 c0_i32_88
  let v122 : BitVec 32 := Scalar.extui v121
  let c0_i32_89 : BitVec 32 := 0#32
  let v123 : BitVec 1 := Scalar.cmpi .slt v119 c0_i32_89
  let v124 : BitVec 32 := Scalar.extui v123
  let v125 : BitVec 32 := Scalar.subi v122 v124
  let c4_i32 : BitVec 32 := 4#32
  let c0_i32_90 : BitVec 32 := 0#32
  let v126 : BitVec 1 := Scalar.cmpi .sgt c4_i32 c0_i32_90
  let v127 : BitVec 32 := Scalar.extui v126
  let c0_i32_91 : BitVec 32 := 0#32
  let v128 : BitVec 1 := Scalar.cmpi .slt c4_i32 c0_i32_91
  let v129 : BitVec 32 := Scalar.extui v128
  let v130 : BitVec 32 := Scalar.subi v127 v129
  let v131 : BitVec 1 := Scalar.cmpi .ne v125 v130
  let v132 : BitVec 32 := Scalar.remsi v119 c4_i32
  let c0_i32_92 : BitVec 32 := 0#32
  let v133 : BitVec 1 := Scalar.cmpi .ne v132 c0_i32_92
  let v134 : BitVec 1 := Scalar.andi v131 v133
  let v120 : BitVec 32 := Scalar.divsi v119 c4_i32
  let c1_i32_93 : BitVec 32 := 1#32
  let v135 : BitVec 32 := Scalar.subi v120 c1_i32_93
  let v136 : BitVec 32 := Scalar.select v134 v135 v120
  let v137 : BitVec 32 := Scalar.subi v136 c0_i32_95
  let c1_i32_96 : BitVec 32 := 1#32
  let v139 : BitVec 32 := Scalar.divsi v137 c1_i32_96
  let v140 : BitVec 32 := Scalar.muli v139 c1_i32_96
  let v141 : BitVec 32 := Scalar.addi c0_i32_95 v140
  let c1_i32_97 : BitVec 32 := 1#32
  ⟨c0_i32_95, v141, c1_i32_97⟩
def k0_mult67 (i : grid0.Coords) (k0_t3 : Fin (k0_t3_loop i).trips) : BitVec 32 :=
  let c0_i32_87 : BitVec 32 := 0#32
  let c8_i32_86 : BitVec 32 := 8#32
  let arg1 : BitVec 32 := BitVec.ofNat 32 (i 1).val
  let c0_i32_75 : BitVec 32 := 0#32
  let v94 : BitVec 32 := Scalar.subi arg1 c0_i32_75
  let c0_i32_76 : BitVec 32 := 0#32
  let v96 : BitVec 1 := Scalar.cmpi .sgt v94 c0_i32_76
  let v97 : BitVec 32 := Scalar.extui v96
  let c0_i32_77 : BitVec 32 := 0#32
  let v98 : BitVec 1 := Scalar.cmpi .slt v94 c0_i32_77
  let v99 : BitVec 32 := Scalar.extui v98
  let v100 : BitVec 32 := Scalar.subi v97 v99
  let c8_i32 : BitVec 32 := 8#32
  let c0_i32_78 : BitVec 32 := 0#32
  let v101 : BitVec 1 := Scalar.cmpi .sgt c8_i32 c0_i32_78
  let v102 : BitVec 32 := Scalar.extui v101
  let c0_i32_79 : BitVec 32 := 0#32
  let v103 : BitVec 1 := Scalar.cmpi .slt c8_i32 c0_i32_79
  let v104 : BitVec 32 := Scalar.extui v103
  let v105 : BitVec 32 := Scalar.subi v102 v104
  let v106 : BitVec 1 := Scalar.cmpi .ne v100 v105
  let v107 : BitVec 32 := Scalar.remsi v94 c8_i32
  let c0_i32_80 : BitVec 32 := 0#32
  let v108 : BitVec 1 := Scalar.cmpi .ne v107 c0_i32_80
  let v109 : BitVec 1 := Scalar.andi v106 v108
  let v95 : BitVec 32 := Scalar.divsi v94 c8_i32
  let c1_i32 : BitVec 32 := 1#32
  let v110 : BitVec 32 := Scalar.subi v95 c1_i32
  let v111 : BitVec 32 := Scalar.select v109 v110 v95
  let v117 : BitVec 32 := Scalar.muli c8_i32_86 v111
  let v118 : BitVec 32 := Scalar.addi c0_i32_87 v117
  let c4_i32_148 : BitVec 32 := 4#32
  let c0_i32_95 : BitVec 32 := 0#32
  let c1_i32_97 : BitVec 32 := 1#32
  let arg17 : BitVec 32 := Scf.iv c0_i32_95 c1_i32_97 k0_t3
  let v252 : BitVec 32 := Scalar.muli c4_i32_148 arg17
  let v253 : BitVec 32 := Scalar.addi v118 v252
  let c0_i32_149 : BitVec 32 := 0#32
  let v254 : BitVec 32 := Scalar.addi v253 c0_i32_149
  let c1_i32_150 : BitVec 32 := 1#32
  let v255 : BitVec 32 := Scalar.addi v254 c1_i32_150
  let c256_i32 : BitVec 32 := 256#32
  let v256 : BitVec 32 := Scalar.muli v255 c256_i32
  v256
def k0_off11 (i : grid0.Coords) (k0_t3 : Fin (k0_t3_loop i).trips) (c0_i32_149 : BitVec 32) : Fin 2 → Nat :=
  let c0_i32_87 : BitVec 32 := 0#32
  let c8_i32_86 : BitVec 32 := 8#32
  let arg1 : BitVec 32 := BitVec.ofNat 32 (i 1).val
  let c0_i32_75 : BitVec 32 := 0#32
  let v94 : BitVec 32 := Scalar.subi arg1 c0_i32_75
  let c0_i32_76 : BitVec 32 := 0#32
  let v96 : BitVec 1 := Scalar.cmpi .sgt v94 c0_i32_76
  let v97 : BitVec 32 := Scalar.extui v96
  let c0_i32_77 : BitVec 32 := 0#32
  let v98 : BitVec 1 := Scalar.cmpi .slt v94 c0_i32_77
  let v99 : BitVec 32 := Scalar.extui v98
  let v100 : BitVec 32 := Scalar.subi v97 v99
  let c8_i32 : BitVec 32 := 8#32
  let c0_i32_78 : BitVec 32 := 0#32
  let v101 : BitVec 1 := Scalar.cmpi .sgt c8_i32 c0_i32_78
  let v102 : BitVec 32 := Scalar.extui v101
  let c0_i32_79 : BitVec 32 := 0#32
  let v103 : BitVec 1 := Scalar.cmpi .slt c8_i32 c0_i32_79
  let v104 : BitVec 32 := Scalar.extui v103
  let v105 : BitVec 32 := Scalar.subi v102 v104
  let v106 : BitVec 1 := Scalar.cmpi .ne v100 v105
  let v107 : BitVec 32 := Scalar.remsi v94 c8_i32
  let c0_i32_80 : BitVec 32 := 0#32
  let v108 : BitVec 1 := Scalar.cmpi .ne v107 c0_i32_80
  let v109 : BitVec 1 := Scalar.andi v106 v108
  let v95 : BitVec 32 := Scalar.divsi v94 c8_i32
  let c1_i32 : BitVec 32 := 1#32
  let v110 : BitVec 32 := Scalar.subi v95 c1_i32
  let v111 : BitVec 32 := Scalar.select v109 v110 v95
  let v117 : BitVec 32 := Scalar.muli c8_i32_86 v111
  let v118 : BitVec 32 := Scalar.addi c0_i32_87 v117
  let c4_i32_148 : BitVec 32 := 4#32
  let c0_i32_95 : BitVec 32 := 0#32
  let c1_i32_97 : BitVec 32 := 1#32
  let arg17 : BitVec 32 := Scf.iv c0_i32_95 c1_i32_97 k0_t3
  let v252 : BitVec 32 := Scalar.muli c4_i32_148 arg17
  let v253 : BitVec 32 := Scalar.addi v118 v252
  let v254 : BitVec 32 := Scalar.addi v253 c0_i32_149
  let c1_i32_150 : BitVec 32 := 1#32
  let v255 : BitVec 32 := Scalar.addi v254 c1_i32_150
  let c256_i32 : BitVec 32 := 256#32
  let v256 : BitVec 32 := Scalar.muli v255 c256_i32
  let v257 : BitVec 32 := v256
  let v258 : Index := Scalar.indexCast v257
  let c0_151 : Index := 0#32
  ![v258.toNat, 0]
def k0_mult68 (i : grid0.Coords) (k0_t3 : Fin (k0_t3_loop i).trips) : BitVec 32 :=
  let c0_i32_87 : BitVec 32 := 0#32
  let c8_i32_86 : BitVec 32 := 8#32
  let arg1 : BitVec 32 := BitVec.ofNat 32 (i 1).val
  let c0_i32_75 : BitVec 32 := 0#32
  let v94 : BitVec 32 := Scalar.subi arg1 c0_i32_75
  let c0_i32_76 : BitVec 32 := 0#32
  let v96 : BitVec 1 := Scalar.cmpi .sgt v94 c0_i32_76
  let v97 : BitVec 32 := Scalar.extui v96
  let c0_i32_77 : BitVec 32 := 0#32
  let v98 : BitVec 1 := Scalar.cmpi .slt v94 c0_i32_77
  let v99 : BitVec 32 := Scalar.extui v98
  let v100 : BitVec 32 := Scalar.subi v97 v99
  let c8_i32 : BitVec 32 := 8#32
  let c0_i32_78 : BitVec 32 := 0#32
  let v101 : BitVec 1 := Scalar.cmpi .sgt c8_i32 c0_i32_78
  let v102 : BitVec 32 := Scalar.extui v101
  let c0_i32_79 : BitVec 32 := 0#32
  let v103 : BitVec 1 := Scalar.cmpi .slt c8_i32 c0_i32_79
  let v104 : BitVec 32 := Scalar.extui v103
  let v105 : BitVec 32 := Scalar.subi v102 v104
  let v106 : BitVec 1 := Scalar.cmpi .ne v100 v105
  let v107 : BitVec 32 := Scalar.remsi v94 c8_i32
  let c0_i32_80 : BitVec 32 := 0#32
  let v108 : BitVec 1 := Scalar.cmpi .ne v107 c0_i32_80
  let v109 : BitVec 1 := Scalar.andi v106 v108
  let v95 : BitVec 32 := Scalar.divsi v94 c8_i32
  let c1_i32 : BitVec 32 := 1#32
  let v110 : BitVec 32 := Scalar.subi v95 c1_i32
  let v111 : BitVec 32 := Scalar.select v109 v110 v95
  let v117 : BitVec 32 := Scalar.muli c8_i32_86 v111
  let v118 : BitVec 32 := Scalar.addi c0_i32_87 v117
  let c4_i32_148 : BitVec 32 := 4#32
  let c0_i32_95 : BitVec 32 := 0#32
  let c1_i32_97 : BitVec 32 := 1#32
  let arg17 : BitVec 32 := Scf.iv c0_i32_95 c1_i32_97 k0_t3
  let v252 : BitVec 32 := Scalar.muli c4_i32_148 arg17
  let v253 : BitVec 32 := Scalar.addi v118 v252
  let c0_i32_149 : BitVec 32 := 0#32
  let v254 : BitVec 32 := Scalar.addi v253 c0_i32_149
  let c1_i32_163 : BitVec 32 := 1#32
  let v269 : BitVec 32 := Scalar.subi v254 c1_i32_163
  let c0_i32_164 : BitVec 32 := 0#32
  let v270 : BitVec 32 := Scalar.maxsi v269 c0_i32_164
  let c256_i32_165 : BitVec 32 := 256#32
  let v271 : BitVec 32 := Scalar.muli v270 c256_i32_165
  v271
def k0_off12 (i : grid0.Coords) (k0_t3 : Fin (k0_t3_loop i).trips) (c0_i32_149 : BitVec 32) : Fin 3 → Nat :=
  let c0_166 : Index := 0#32
  let c0_167 : Index := 0#32
  let c0_i32_87 : BitVec 32 := 0#32
  let c8_i32_86 : BitVec 32 := 8#32
  let arg1 : BitVec 32 := BitVec.ofNat 32 (i 1).val
  let c0_i32_75 : BitVec 32 := 0#32
  let v94 : BitVec 32 := Scalar.subi arg1 c0_i32_75
  let c0_i32_76 : BitVec 32 := 0#32
  let v96 : BitVec 1 := Scalar.cmpi .sgt v94 c0_i32_76
  let v97 : BitVec 32 := Scalar.extui v96
  let c0_i32_77 : BitVec 32 := 0#32
  let v98 : BitVec 1 := Scalar.cmpi .slt v94 c0_i32_77
  let v99 : BitVec 32 := Scalar.extui v98
  let v100 : BitVec 32 := Scalar.subi v97 v99
  let c8_i32 : BitVec 32 := 8#32
  let c0_i32_78 : BitVec 32 := 0#32
  let v101 : BitVec 1 := Scalar.cmpi .sgt c8_i32 c0_i32_78
  let v102 : BitVec 32 := Scalar.extui v101
  let c0_i32_79 : BitVec 32 := 0#32
  let v103 : BitVec 1 := Scalar.cmpi .slt c8_i32 c0_i32_79
  let v104 : BitVec 32 := Scalar.extui v103
  let v105 : BitVec 32 := Scalar.subi v102 v104
  let v106 : BitVec 1 := Scalar.cmpi .ne v100 v105
  let v107 : BitVec 32 := Scalar.remsi v94 c8_i32
  let c0_i32_80 : BitVec 32 := 0#32
  let v108 : BitVec 1 := Scalar.cmpi .ne v107 c0_i32_80
  let v109 : BitVec 1 := Scalar.andi v106 v108
  let v95 : BitVec 32 := Scalar.divsi v94 c8_i32
  let c1_i32 : BitVec 32 := 1#32
  let v110 : BitVec 32 := Scalar.subi v95 c1_i32
  let v111 : BitVec 32 := Scalar.select v109 v110 v95
  let v117 : BitVec 32 := Scalar.muli c8_i32_86 v111
  let v118 : BitVec 32 := Scalar.addi c0_i32_87 v117
  let c4_i32_148 : BitVec 32 := 4#32
  let c0_i32_95 : BitVec 32 := 0#32
  let c1_i32_97 : BitVec 32 := 1#32
  let arg17 : BitVec 32 := Scf.iv c0_i32_95 c1_i32_97 k0_t3
  let v252 : BitVec 32 := Scalar.muli c4_i32_148 arg17
  let v253 : BitVec 32 := Scalar.addi v118 v252
  let v254 : BitVec 32 := Scalar.addi v253 c0_i32_149
  let c1_i32_163 : BitVec 32 := 1#32
  let v269 : BitVec 32 := Scalar.subi v254 c1_i32_163
  let c0_i32_164 : BitVec 32 := 0#32
  let v270 : BitVec 32 := Scalar.maxsi v269 c0_i32_164
  let c256_i32_165 : BitVec 32 := 256#32
  let v271 : BitVec 32 := Scalar.muli v270 c256_i32_165
  let v272 : BitVec 32 := v271
  let v273 : Index := Scalar.indexCast v272
  ![0, 0, v273.toNat]
def k0_off13 (i : grid0.Coords) (c0_i32_185 : BitVec 32) : Fin 1 → Nat :=
  let arg0 : BitVec 32 := BitVec.ofNat 32 (i 0).val
  let c2_i32_184 : BitVec 32 := 2#32
  let v291 : BitVec 32 := Scalar.muli arg0 c2_i32_184
  let v292 : BitVec 32 := Scalar.addi v291 c0_i32_185
  let v293 : Index := Scalar.indexCast v292
  ![v293.toNat]
def k0_mult69 (i : grid0.Coords) (k0_t3 : Fin (k0_t3_loop i).trips) : BitVec 32 :=
  let c0_i32_87 : BitVec 32 := 0#32
  let c8_i32_86 : BitVec 32 := 8#32
  let arg1 : BitVec 32 := BitVec.ofNat 32 (i 1).val
  let c0_i32_75 : BitVec 32 := 0#32
  let v94 : BitVec 32 := Scalar.subi arg1 c0_i32_75
  let c0_i32_76 : BitVec 32 := 0#32
  let v96 : BitVec 1 := Scalar.cmpi .sgt v94 c0_i32_76
  let v97 : BitVec 32 := Scalar.extui v96
  let c0_i32_77 : BitVec 32 := 0#32
  let v98 : BitVec 1 := Scalar.cmpi .slt v94 c0_i32_77
  let v99 : BitVec 32 := Scalar.extui v98
  let v100 : BitVec 32 := Scalar.subi v97 v99
  let c8_i32 : BitVec 32 := 8#32
  let c0_i32_78 : BitVec 32 := 0#32
  let v101 : BitVec 1 := Scalar.cmpi .sgt c8_i32 c0_i32_78
  let v102 : BitVec 32 := Scalar.extui v101
  let c0_i32_79 : BitVec 32 := 0#32
  let v103 : BitVec 1 := Scalar.cmpi .slt c8_i32 c0_i32_79
  let v104 : BitVec 32 := Scalar.extui v103
  let v105 : BitVec 32 := Scalar.subi v102 v104
  let v106 : BitVec 1 := Scalar.cmpi .ne v100 v105
  let v107 : BitVec 32 := Scalar.remsi v94 c8_i32
  let c0_i32_80 : BitVec 32 := 0#32
  let v108 : BitVec 1 := Scalar.cmpi .ne v107 c0_i32_80
  let v109 : BitVec 1 := Scalar.andi v106 v108
  let v95 : BitVec 32 := Scalar.divsi v94 c8_i32
  let c1_i32 : BitVec 32 := 1#32
  let v110 : BitVec 32 := Scalar.subi v95 c1_i32
  let v111 : BitVec 32 := Scalar.select v109 v110 v95
  let v117 : BitVec 32 := Scalar.muli c8_i32_86 v111
  let v118 : BitVec 32 := Scalar.addi c0_i32_87 v117
  let c4_i32_148 : BitVec 32 := 4#32
  let c0_i32_95 : BitVec 32 := 0#32
  let c1_i32_97 : BitVec 32 := 1#32
  let arg17 : BitVec 32 := Scf.iv c0_i32_95 c1_i32_97 k0_t3
  let v252 : BitVec 32 := Scalar.muli c4_i32_148 arg17
  let v253 : BitVec 32 := Scalar.addi v118 v252
  let c0_i32_149 : BitVec 32 := 0#32
  let v254 : BitVec 32 := Scalar.addi v253 c0_i32_149
  let c1_i32_207 : BitVec 32 := 1#32
  let v325 : BitVec 32 := Scalar.addi v254 c1_i32_207
  let c256_i32_208 : BitVec 32 := 256#32
  let v326 : BitVec 32 := Scalar.muli v325 c256_i32_208
  v326
def k0_off14 (i : grid0.Coords) (k0_t3 : Fin (k0_t3_loop i).trips) (c0_i32_149 : BitVec 32) : Fin 2 → Nat :=
  let c0_i32_87 : BitVec 32 := 0#32
  let c8_i32_86 : BitVec 32 := 8#32
  let arg1 : BitVec 32 := BitVec.ofNat 32 (i 1).val
  let c0_i32_75 : BitVec 32 := 0#32
  let v94 : BitVec 32 := Scalar.subi arg1 c0_i32_75
  let c0_i32_76 : BitVec 32 := 0#32
  let v96 : BitVec 1 := Scalar.cmpi .sgt v94 c0_i32_76
  let v97 : BitVec 32 := Scalar.extui v96
  let c0_i32_77 : BitVec 32 := 0#32
  let v98 : BitVec 1 := Scalar.cmpi .slt v94 c0_i32_77
  let v99 : BitVec 32 := Scalar.extui v98
  let v100 : BitVec 32 := Scalar.subi v97 v99
  let c8_i32 : BitVec 32 := 8#32
  let c0_i32_78 : BitVec 32 := 0#32
  let v101 : BitVec 1 := Scalar.cmpi .sgt c8_i32 c0_i32_78
  let v102 : BitVec 32 := Scalar.extui v101
  let c0_i32_79 : BitVec 32 := 0#32
  let v103 : BitVec 1 := Scalar.cmpi .slt c8_i32 c0_i32_79
  let v104 : BitVec 32 := Scalar.extui v103
  let v105 : BitVec 32 := Scalar.subi v102 v104
  let v106 : BitVec 1 := Scalar.cmpi .ne v100 v105
  let v107 : BitVec 32 := Scalar.remsi v94 c8_i32
  let c0_i32_80 : BitVec 32 := 0#32
  let v108 : BitVec 1 := Scalar.cmpi .ne v107 c0_i32_80
  let v109 : BitVec 1 := Scalar.andi v106 v108
  let v95 : BitVec 32 := Scalar.divsi v94 c8_i32
  let c1_i32 : BitVec 32 := 1#32
  let v110 : BitVec 32 := Scalar.subi v95 c1_i32
  let v111 : BitVec 32 := Scalar.select v109 v110 v95
  let v117 : BitVec 32 := Scalar.muli c8_i32_86 v111
  let v118 : BitVec 32 := Scalar.addi c0_i32_87 v117
  let c4_i32_148 : BitVec 32 := 4#32
  let c0_i32_95 : BitVec 32 := 0#32
  let c1_i32_97 : BitVec 32 := 1#32
  let arg17 : BitVec 32 := Scf.iv c0_i32_95 c1_i32_97 k0_t3
  let v252 : BitVec 32 := Scalar.muli c4_i32_148 arg17
  let v253 : BitVec 32 := Scalar.addi v118 v252
  let v254 : BitVec 32 := Scalar.addi v253 c0_i32_149
  let c1_i32_207 : BitVec 32 := 1#32
  let v325 : BitVec 32 := Scalar.addi v254 c1_i32_207
  let c256_i32_208 : BitVec 32 := 256#32
  let v326 : BitVec 32 := Scalar.muli v325 c256_i32_208
  let v327 : BitVec 32 := v326
  let v328 : Index := Scalar.indexCast v327
  let c128_209 : Index := 128#32
  ![v328.toNat, 128]
def k0_mult70 (i : grid0.Coords) (k0_t3 : Fin (k0_t3_loop i).trips) : BitVec 32 :=
  let c0_i32_87 : BitVec 32 := 0#32
  let c8_i32_86 : BitVec 32 := 8#32
  let arg1 : BitVec 32 := BitVec.ofNat 32 (i 1).val
  let c0_i32_75 : BitVec 32 := 0#32
  let v94 : BitVec 32 := Scalar.subi arg1 c0_i32_75
  let c0_i32_76 : BitVec 32 := 0#32
  let v96 : BitVec 1 := Scalar.cmpi .sgt v94 c0_i32_76
  let v97 : BitVec 32 := Scalar.extui v96
  let c0_i32_77 : BitVec 32 := 0#32
  let v98 : BitVec 1 := Scalar.cmpi .slt v94 c0_i32_77
  let v99 : BitVec 32 := Scalar.extui v98
  let v100 : BitVec 32 := Scalar.subi v97 v99
  let c8_i32 : BitVec 32 := 8#32
  let c0_i32_78 : BitVec 32 := 0#32
  let v101 : BitVec 1 := Scalar.cmpi .sgt c8_i32 c0_i32_78
  let v102 : BitVec 32 := Scalar.extui v101
  let c0_i32_79 : BitVec 32 := 0#32
  let v103 : BitVec 1 := Scalar.cmpi .slt c8_i32 c0_i32_79
  let v104 : BitVec 32 := Scalar.extui v103
  let v105 : BitVec 32 := Scalar.subi v102 v104
  let v106 : BitVec 1 := Scalar.cmpi .ne v100 v105
  let v107 : BitVec 32 := Scalar.remsi v94 c8_i32
  let c0_i32_80 : BitVec 32 := 0#32
  let v108 : BitVec 1 := Scalar.cmpi .ne v107 c0_i32_80
  let v109 : BitVec 1 := Scalar.andi v106 v108
  let v95 : BitVec 32 := Scalar.divsi v94 c8_i32
  let c1_i32 : BitVec 32 := 1#32
  let v110 : BitVec 32 := Scalar.subi v95 c1_i32
  let v111 : BitVec 32 := Scalar.select v109 v110 v95
  let v117 : BitVec 32 := Scalar.muli c8_i32_86 v111
  let v118 : BitVec 32 := Scalar.addi c0_i32_87 v117
  let c4_i32_148 : BitVec 32 := 4#32
  let c0_i32_95 : BitVec 32 := 0#32
  let c1_i32_97 : BitVec 32 := 1#32
  let arg17 : BitVec 32 := Scf.iv c0_i32_95 c1_i32_97 k0_t3
  let v252 : BitVec 32 := Scalar.muli c4_i32_148 arg17
  let v253 : BitVec 32 := Scalar.addi v118 v252
  let c0_i32_149 : BitVec 32 := 0#32
  let v254 : BitVec 32 := Scalar.addi v253 c0_i32_149
  let c1_i32_221 : BitVec 32 := 1#32
  let v339 : BitVec 32 := Scalar.subi v254 c1_i32_221
  let c0_i32_222 : BitVec 32 := 0#32
  let v340 : BitVec 32 := Scalar.maxsi v339 c0_i32_222
  let c256_i32_223 : BitVec 32 := 256#32
  let v341 : BitVec 32 := Scalar.muli v340 c256_i32_223
  v341
def k0_off15 (i : grid0.Coords) (k0_t3 : Fin (k0_t3_loop i).trips) (c0_i32_149 : BitVec 32) : Fin 3 → Nat :=
  let c1_224 : Index := 1#32
  let c0_225 : Index := 0#32
  let c0_i32_87 : BitVec 32 := 0#32
  let c8_i32_86 : BitVec 32 := 8#32
  let arg1 : BitVec 32 := BitVec.ofNat 32 (i 1).val
  let c0_i32_75 : BitVec 32 := 0#32
  let v94 : BitVec 32 := Scalar.subi arg1 c0_i32_75
  let c0_i32_76 : BitVec 32 := 0#32
  let v96 : BitVec 1 := Scalar.cmpi .sgt v94 c0_i32_76
  let v97 : BitVec 32 := Scalar.extui v96
  let c0_i32_77 : BitVec 32 := 0#32
  let v98 : BitVec 1 := Scalar.cmpi .slt v94 c0_i32_77
  let v99 : BitVec 32 := Scalar.extui v98
  let v100 : BitVec 32 := Scalar.subi v97 v99
  let c8_i32 : BitVec 32 := 8#32
  let c0_i32_78 : BitVec 32 := 0#32
  let v101 : BitVec 1 := Scalar.cmpi .sgt c8_i32 c0_i32_78
  let v102 : BitVec 32 := Scalar.extui v101
  let c0_i32_79 : BitVec 32 := 0#32
  let v103 : BitVec 1 := Scalar.cmpi .slt c8_i32 c0_i32_79
  let v104 : BitVec 32 := Scalar.extui v103
  let v105 : BitVec 32 := Scalar.subi v102 v104
  let v106 : BitVec 1 := Scalar.cmpi .ne v100 v105
  let v107 : BitVec 32 := Scalar.remsi v94 c8_i32
  let c0_i32_80 : BitVec 32 := 0#32
  let v108 : BitVec 1 := Scalar.cmpi .ne v107 c0_i32_80
  let v109 : BitVec 1 := Scalar.andi v106 v108
  let v95 : BitVec 32 := Scalar.divsi v94 c8_i32
  let c1_i32 : BitVec 32 := 1#32
  let v110 : BitVec 32 := Scalar.subi v95 c1_i32
  let v111 : BitVec 32 := Scalar.select v109 v110 v95
  let v117 : BitVec 32 := Scalar.muli c8_i32_86 v111
  let v118 : BitVec 32 := Scalar.addi c0_i32_87 v117
  let c4_i32_148 : BitVec 32 := 4#32
  let c0_i32_95 : BitVec 32 := 0#32
  let c1_i32_97 : BitVec 32 := 1#32
  let arg17 : BitVec 32 := Scf.iv c0_i32_95 c1_i32_97 k0_t3
  let v252 : BitVec 32 := Scalar.muli c4_i32_148 arg17
  let v253 : BitVec 32 := Scalar.addi v118 v252
  let v254 : BitVec 32 := Scalar.addi v253 c0_i32_149
  let c1_i32_221 : BitVec 32 := 1#32
  let v339 : BitVec 32 := Scalar.subi v254 c1_i32_221
  let c0_i32_222 : BitVec 32 := 0#32
  let v340 : BitVec 32 := Scalar.maxsi v339 c0_i32_222
  let c256_i32_223 : BitVec 32 := 256#32
  let v341 : BitVec 32 := Scalar.muli v340 c256_i32_223
  let v342 : BitVec 32 := v341
  let v343 : Index := Scalar.indexCast v342
  ![1, 0, v343.toNat]
def k0_mult71 (i : grid0.Coords) (k0_t3 : Fin (k0_t3_loop i).trips) : BitVec 32 :=
  let c0_i32_87 : BitVec 32 := 0#32
  let c8_i32_86 : BitVec 32 := 8#32
  let arg1 : BitVec 32 := BitVec.ofNat 32 (i 1).val
  let c0_i32_75 : BitVec 32 := 0#32
  let v94 : BitVec 32 := Scalar.subi arg1 c0_i32_75
  let c0_i32_76 : BitVec 32 := 0#32
  let v96 : BitVec 1 := Scalar.cmpi .sgt v94 c0_i32_76
  let v97 : BitVec 32 := Scalar.extui v96
  let c0_i32_77 : BitVec 32 := 0#32
  let v98 : BitVec 1 := Scalar.cmpi .slt v94 c0_i32_77
  let v99 : BitVec 32 := Scalar.extui v98
  let v100 : BitVec 32 := Scalar.subi v97 v99
  let c8_i32 : BitVec 32 := 8#32
  let c0_i32_78 : BitVec 32 := 0#32
  let v101 : BitVec 1 := Scalar.cmpi .sgt c8_i32 c0_i32_78
  let v102 : BitVec 32 := Scalar.extui v101
  let c0_i32_79 : BitVec 32 := 0#32
  let v103 : BitVec 1 := Scalar.cmpi .slt c8_i32 c0_i32_79
  let v104 : BitVec 32 := Scalar.extui v103
  let v105 : BitVec 32 := Scalar.subi v102 v104
  let v106 : BitVec 1 := Scalar.cmpi .ne v100 v105
  let v107 : BitVec 32 := Scalar.remsi v94 c8_i32
  let c0_i32_80 : BitVec 32 := 0#32
  let v108 : BitVec 1 := Scalar.cmpi .ne v107 c0_i32_80
  let v109 : BitVec 1 := Scalar.andi v106 v108
  let v95 : BitVec 32 := Scalar.divsi v94 c8_i32
  let c1_i32 : BitVec 32 := 1#32
  let v110 : BitVec 32 := Scalar.subi v95 c1_i32
  let v111 : BitVec 32 := Scalar.select v109 v110 v95
  let v117 : BitVec 32 := Scalar.muli c8_i32_86 v111
  let v118 : BitVec 32 := Scalar.addi c0_i32_87 v117
  let c4_i32_265 : BitVec 32 := 4#32
  let c0_i32_95 : BitVec 32 := 0#32
  let c1_i32_97 : BitVec 32 := 1#32
  let arg17 : BitVec 32 := Scf.iv c0_i32_95 c1_i32_97 k0_t3
  let v395 : BitVec 32 := Scalar.muli c4_i32_265 arg17
  let v396 : BitVec 32 := Scalar.addi v118 v395
  let c1_i32_266 : BitVec 32 := 1#32
  let v397 : BitVec 32 := Scalar.addi v396 c1_i32_266
  let c1_i32_267 : BitVec 32 := 1#32
  let v398 : BitVec 32 := Scalar.addi v397 c1_i32_267
  let c256_i32_268 : BitVec 32 := 256#32
  let v399 : BitVec 32 := Scalar.muli v398 c256_i32_268
  v399
def k0_mult72 (i : grid0.Coords) (k0_t3 : Fin (k0_t3_loop i).trips) : BitVec 32 :=
  let c0_i32_87 : BitVec 32 := 0#32
  let c8_i32_86 : BitVec 32 := 8#32
  let arg1 : BitVec 32 := BitVec.ofNat 32 (i 1).val
  let c0_i32_75 : BitVec 32 := 0#32
  let v94 : BitVec 32 := Scalar.subi arg1 c0_i32_75
  let c0_i32_76 : BitVec 32 := 0#32
  let v96 : BitVec 1 := Scalar.cmpi .sgt v94 c0_i32_76
  let v97 : BitVec 32 := Scalar.extui v96
  let c0_i32_77 : BitVec 32 := 0#32
  let v98 : BitVec 1 := Scalar.cmpi .slt v94 c0_i32_77
  let v99 : BitVec 32 := Scalar.extui v98
  let v100 : BitVec 32 := Scalar.subi v97 v99
  let c8_i32 : BitVec 32 := 8#32
  let c0_i32_78 : BitVec 32 := 0#32
  let v101 : BitVec 1 := Scalar.cmpi .sgt c8_i32 c0_i32_78
  let v102 : BitVec 32 := Scalar.extui v101
  let c0_i32_79 : BitVec 32 := 0#32
  let v103 : BitVec 1 := Scalar.cmpi .slt c8_i32 c0_i32_79
  let v104 : BitVec 32 := Scalar.extui v103
  let v105 : BitVec 32 := Scalar.subi v102 v104
  let v106 : BitVec 1 := Scalar.cmpi .ne v100 v105
  let v107 : BitVec 32 := Scalar.remsi v94 c8_i32
  let c0_i32_80 : BitVec 32 := 0#32
  let v108 : BitVec 1 := Scalar.cmpi .ne v107 c0_i32_80
  let v109 : BitVec 1 := Scalar.andi v106 v108
  let v95 : BitVec 32 := Scalar.divsi v94 c8_i32
  let c1_i32 : BitVec 32 := 1#32
  let v110 : BitVec 32 := Scalar.subi v95 c1_i32
  let v111 : BitVec 32 := Scalar.select v109 v110 v95
  let v117 : BitVec 32 := Scalar.muli c8_i32_86 v111
  let v118 : BitVec 32 := Scalar.addi c0_i32_87 v117
  let c4_i32_265 : BitVec 32 := 4#32
  let c0_i32_95 : BitVec 32 := 0#32
  let c1_i32_97 : BitVec 32 := 1#32
  let arg17 : BitVec 32 := Scf.iv c0_i32_95 c1_i32_97 k0_t3
  let v395 : BitVec 32 := Scalar.muli c4_i32_265 arg17
  let v396 : BitVec 32 := Scalar.addi v118 v395
  let c1_i32_266 : BitVec 32 := 1#32
  let v397 : BitVec 32 := Scalar.addi v396 c1_i32_266
  let c1_i32_281 : BitVec 32 := 1#32
  let v412 : BitVec 32 := Scalar.subi v397 c1_i32_281
  let c0_i32_282 : BitVec 32 := 0#32
  let v413 : BitVec 32 := Scalar.maxsi v412 c0_i32_282
  let c256_i32_283 : BitVec 32 := 256#32
  let v414 : BitVec 32 := Scalar.muli v413 c256_i32_283
  v414
def k0_mult73 (i : grid0.Coords) (k0_t3 : Fin (k0_t3_loop i).trips) : BitVec 32 :=
  let c0_i32_87 : BitVec 32 := 0#32
  let c8_i32_86 : BitVec 32 := 8#32
  let arg1 : BitVec 32 := BitVec.ofNat 32 (i 1).val
  let c0_i32_75 : BitVec 32 := 0#32
  let v94 : BitVec 32 := Scalar.subi arg1 c0_i32_75
  let c0_i32_76 : BitVec 32 := 0#32
  let v96 : BitVec 1 := Scalar.cmpi .sgt v94 c0_i32_76
  let v97 : BitVec 32 := Scalar.extui v96
  let c0_i32_77 : BitVec 32 := 0#32
  let v98 : BitVec 1 := Scalar.cmpi .slt v94 c0_i32_77
  let v99 : BitVec 32 := Scalar.extui v98
  let v100 : BitVec 32 := Scalar.subi v97 v99
  let c8_i32 : BitVec 32 := 8#32
  let c0_i32_78 : BitVec 32 := 0#32
  let v101 : BitVec 1 := Scalar.cmpi .sgt c8_i32 c0_i32_78
  let v102 : BitVec 32 := Scalar.extui v101
  let c0_i32_79 : BitVec 32 := 0#32
  let v103 : BitVec 1 := Scalar.cmpi .slt c8_i32 c0_i32_79
  let v104 : BitVec 32 := Scalar.extui v103
  let v105 : BitVec 32 := Scalar.subi v102 v104
  let v106 : BitVec 1 := Scalar.cmpi .ne v100 v105
  let v107 : BitVec 32 := Scalar.remsi v94 c8_i32
  let c0_i32_80 : BitVec 32 := 0#32
  let v108 : BitVec 1 := Scalar.cmpi .ne v107 c0_i32_80
  let v109 : BitVec 1 := Scalar.andi v106 v108
  let v95 : BitVec 32 := Scalar.divsi v94 c8_i32
  let c1_i32 : BitVec 32 := 1#32
  let v110 : BitVec 32 := Scalar.subi v95 c1_i32
  let v111 : BitVec 32 := Scalar.select v109 v110 v95
  let v117 : BitVec 32 := Scalar.muli c8_i32_86 v111
  let v118 : BitVec 32 := Scalar.addi c0_i32_87 v117
  let c4_i32_265 : BitVec 32 := 4#32
  let c0_i32_95 : BitVec 32 := 0#32
  let c1_i32_97 : BitVec 32 := 1#32
  let arg17 : BitVec 32 := Scf.iv c0_i32_95 c1_i32_97 k0_t3
  let v395 : BitVec 32 := Scalar.muli c4_i32_265 arg17
  let v396 : BitVec 32 := Scalar.addi v118 v395
  let c1_i32_266 : BitVec 32 := 1#32
  let v397 : BitVec 32 := Scalar.addi v396 c1_i32_266
  let c1_i32_325 : BitVec 32 := 1#32
  let v468 : BitVec 32 := Scalar.addi v397 c1_i32_325
  let c256_i32_326 : BitVec 32 := 256#32
  let v469 : BitVec 32 := Scalar.muli v468 c256_i32_326
  v469
def k0_mult74 (i : grid0.Coords) (k0_t3 : Fin (k0_t3_loop i).trips) : BitVec 32 :=
  let c0_i32_87 : BitVec 32 := 0#32
  let c8_i32_86 : BitVec 32 := 8#32
  let arg1 : BitVec 32 := BitVec.ofNat 32 (i 1).val
  let c0_i32_75 : BitVec 32 := 0#32
  let v94 : BitVec 32 := Scalar.subi arg1 c0_i32_75
  let c0_i32_76 : BitVec 32 := 0#32
  let v96 : BitVec 1 := Scalar.cmpi .sgt v94 c0_i32_76
  let v97 : BitVec 32 := Scalar.extui v96
  let c0_i32_77 : BitVec 32 := 0#32
  let v98 : BitVec 1 := Scalar.cmpi .slt v94 c0_i32_77
  let v99 : BitVec 32 := Scalar.extui v98
  let v100 : BitVec 32 := Scalar.subi v97 v99
  let c8_i32 : BitVec 32 := 8#32
  let c0_i32_78 : BitVec 32 := 0#32
  let v101 : BitVec 1 := Scalar.cmpi .sgt c8_i32 c0_i32_78
  let v102 : BitVec 32 := Scalar.extui v101
  let c0_i32_79 : BitVec 32 := 0#32
  let v103 : BitVec 1 := Scalar.cmpi .slt c8_i32 c0_i32_79
  let v104 : BitVec 32 := Scalar.extui v103
  let v105 : BitVec 32 := Scalar.subi v102 v104
  let v106 : BitVec 1 := Scalar.cmpi .ne v100 v105
  let v107 : BitVec 32 := Scalar.remsi v94 c8_i32
  let c0_i32_80 : BitVec 32 := 0#32
  let v108 : BitVec 1 := Scalar.cmpi .ne v107 c0_i32_80
  let v109 : BitVec 1 := Scalar.andi v106 v108
  let v95 : BitVec 32 := Scalar.divsi v94 c8_i32
  let c1_i32 : BitVec 32 := 1#32
  let v110 : BitVec 32 := Scalar.subi v95 c1_i32
  let v111 : BitVec 32 := Scalar.select v109 v110 v95
  let v117 : BitVec 32 := Scalar.muli c8_i32_86 v111
  let v118 : BitVec 32 := Scalar.addi c0_i32_87 v117
  let c4_i32_265 : BitVec 32 := 4#32
  let c0_i32_95 : BitVec 32 := 0#32
  let c1_i32_97 : BitVec 32 := 1#32
  let arg17 : BitVec 32 := Scf.iv c0_i32_95 c1_i32_97 k0_t3
  let v395 : BitVec 32 := Scalar.muli c4_i32_265 arg17
  let v396 : BitVec 32 := Scalar.addi v118 v395
  let c1_i32_266 : BitVec 32 := 1#32
  let v397 : BitVec 32 := Scalar.addi v396 c1_i32_266
  let c1_i32_339 : BitVec 32 := 1#32
  let v482 : BitVec 32 := Scalar.subi v397 c1_i32_339
  let c0_i32_340 : BitVec 32 := 0#32
  let v483 : BitVec 32 := Scalar.maxsi v482 c0_i32_340
  let c256_i32_341 : BitVec 32 := 256#32
  let v484 : BitVec 32 := Scalar.muli v483 c256_i32_341
  v484
def k0_mult75 (i : grid0.Coords) (k0_t3 : Fin (k0_t3_loop i).trips) : BitVec 32 :=
  let c0_i32_87 : BitVec 32 := 0#32
  let c8_i32_86 : BitVec 32 := 8#32
  let arg1 : BitVec 32 := BitVec.ofNat 32 (i 1).val
  let c0_i32_75 : BitVec 32 := 0#32
  let v94 : BitVec 32 := Scalar.subi arg1 c0_i32_75
  let c0_i32_76 : BitVec 32 := 0#32
  let v96 : BitVec 1 := Scalar.cmpi .sgt v94 c0_i32_76
  let v97 : BitVec 32 := Scalar.extui v96
  let c0_i32_77 : BitVec 32 := 0#32
  let v98 : BitVec 1 := Scalar.cmpi .slt v94 c0_i32_77
  let v99 : BitVec 32 := Scalar.extui v98
  let v100 : BitVec 32 := Scalar.subi v97 v99
  let c8_i32 : BitVec 32 := 8#32
  let c0_i32_78 : BitVec 32 := 0#32
  let v101 : BitVec 1 := Scalar.cmpi .sgt c8_i32 c0_i32_78
  let v102 : BitVec 32 := Scalar.extui v101
  let c0_i32_79 : BitVec 32 := 0#32
  let v103 : BitVec 1 := Scalar.cmpi .slt c8_i32 c0_i32_79
  let v104 : BitVec 32 := Scalar.extui v103
  let v105 : BitVec 32 := Scalar.subi v102 v104
  let v106 : BitVec 1 := Scalar.cmpi .ne v100 v105
  let v107 : BitVec 32 := Scalar.remsi v94 c8_i32
  let c0_i32_80 : BitVec 32 := 0#32
  let v108 : BitVec 1 := Scalar.cmpi .ne v107 c0_i32_80
  let v109 : BitVec 1 := Scalar.andi v106 v108
  let v95 : BitVec 32 := Scalar.divsi v94 c8_i32
  let c1_i32 : BitVec 32 := 1#32
  let v110 : BitVec 32 := Scalar.subi v95 c1_i32
  let v111 : BitVec 32 := Scalar.select v109 v110 v95
  let v117 : BitVec 32 := Scalar.muli c8_i32_86 v111
  let v118 : BitVec 32 := Scalar.addi c0_i32_87 v117
  let c4_i32_383 : BitVec 32 := 4#32
  let c0_i32_95 : BitVec 32 := 0#32
  let c1_i32_97 : BitVec 32 := 1#32
  let arg17 : BitVec 32 := Scf.iv c0_i32_95 c1_i32_97 k0_t3
  let v538 : BitVec 32 := Scalar.muli c4_i32_383 arg17
  let v539 : BitVec 32 := Scalar.addi v118 v538
  let c2_i32_384 : BitVec 32 := 2#32
  let v540 : BitVec 32 := Scalar.addi v539 c2_i32_384
  let c1_i32_385 : BitVec 32 := 1#32
  let v541 : BitVec 32 := Scalar.addi v540 c1_i32_385
  let c256_i32_386 : BitVec 32 := 256#32
  let v542 : BitVec 32 := Scalar.muli v541 c256_i32_386
  v542
def k0_mult76 (i : grid0.Coords) (k0_t3 : Fin (k0_t3_loop i).trips) : BitVec 32 :=
  let c0_i32_87 : BitVec 32 := 0#32
  let c8_i32_86 : BitVec 32 := 8#32
  let arg1 : BitVec 32 := BitVec.ofNat 32 (i 1).val
  let c0_i32_75 : BitVec 32 := 0#32
  let v94 : BitVec 32 := Scalar.subi arg1 c0_i32_75
  let c0_i32_76 : BitVec 32 := 0#32
  let v96 : BitVec 1 := Scalar.cmpi .sgt v94 c0_i32_76
  let v97 : BitVec 32 := Scalar.extui v96
  let c0_i32_77 : BitVec 32 := 0#32
  let v98 : BitVec 1 := Scalar.cmpi .slt v94 c0_i32_77
  let v99 : BitVec 32 := Scalar.extui v98
  let v100 : BitVec 32 := Scalar.subi v97 v99
  let c8_i32 : BitVec 32 := 8#32
  let c0_i32_78 : BitVec 32 := 0#32
  let v101 : BitVec 1 := Scalar.cmpi .sgt c8_i32 c0_i32_78
  let v102 : BitVec 32 := Scalar.extui v101
  let c0_i32_79 : BitVec 32 := 0#32
  let v103 : BitVec 1 := Scalar.cmpi .slt c8_i32 c0_i32_79
  let v104 : BitVec 32 := Scalar.extui v103
  let v105 : BitVec 32 := Scalar.subi v102 v104
  let v106 : BitVec 1 := Scalar.cmpi .ne v100 v105
  let v107 : BitVec 32 := Scalar.remsi v94 c8_i32
  let c0_i32_80 : BitVec 32 := 0#32
  let v108 : BitVec 1 := Scalar.cmpi .ne v107 c0_i32_80
  let v109 : BitVec 1 := Scalar.andi v106 v108
  let v95 : BitVec 32 := Scalar.divsi v94 c8_i32
  let c1_i32 : BitVec 32 := 1#32
  let v110 : BitVec 32 := Scalar.subi v95 c1_i32
  let v111 : BitVec 32 := Scalar.select v109 v110 v95
  let v117 : BitVec 32 := Scalar.muli c8_i32_86 v111
  let v118 : BitVec 32 := Scalar.addi c0_i32_87 v117
  let c4_i32_383 : BitVec 32 := 4#32
  let c0_i32_95 : BitVec 32 := 0#32
  let c1_i32_97 : BitVec 32 := 1#32
  let arg17 : BitVec 32 := Scf.iv c0_i32_95 c1_i32_97 k0_t3
  let v538 : BitVec 32 := Scalar.muli c4_i32_383 arg17
  let v539 : BitVec 32 := Scalar.addi v118 v538
  let c2_i32_384 : BitVec 32 := 2#32
  let v540 : BitVec 32 := Scalar.addi v539 c2_i32_384
  let c1_i32_399 : BitVec 32 := 1#32
  let v555 : BitVec 32 := Scalar.subi v540 c1_i32_399
  let c0_i32_400 : BitVec 32 := 0#32
  let v556 : BitVec 32 := Scalar.maxsi v555 c0_i32_400
  let c256_i32_401 : BitVec 32 := 256#32
  let v557 : BitVec 32 := Scalar.muli v556 c256_i32_401
  v557
def k0_mult77 (i : grid0.Coords) (k0_t3 : Fin (k0_t3_loop i).trips) : BitVec 32 :=
  let c0_i32_87 : BitVec 32 := 0#32
  let c8_i32_86 : BitVec 32 := 8#32
  let arg1 : BitVec 32 := BitVec.ofNat 32 (i 1).val
  let c0_i32_75 : BitVec 32 := 0#32
  let v94 : BitVec 32 := Scalar.subi arg1 c0_i32_75
  let c0_i32_76 : BitVec 32 := 0#32
  let v96 : BitVec 1 := Scalar.cmpi .sgt v94 c0_i32_76
  let v97 : BitVec 32 := Scalar.extui v96
  let c0_i32_77 : BitVec 32 := 0#32
  let v98 : BitVec 1 := Scalar.cmpi .slt v94 c0_i32_77
  let v99 : BitVec 32 := Scalar.extui v98
  let v100 : BitVec 32 := Scalar.subi v97 v99
  let c8_i32 : BitVec 32 := 8#32
  let c0_i32_78 : BitVec 32 := 0#32
  let v101 : BitVec 1 := Scalar.cmpi .sgt c8_i32 c0_i32_78
  let v102 : BitVec 32 := Scalar.extui v101
  let c0_i32_79 : BitVec 32 := 0#32
  let v103 : BitVec 1 := Scalar.cmpi .slt c8_i32 c0_i32_79
  let v104 : BitVec 32 := Scalar.extui v103
  let v105 : BitVec 32 := Scalar.subi v102 v104
  let v106 : BitVec 1 := Scalar.cmpi .ne v100 v105
  let v107 : BitVec 32 := Scalar.remsi v94 c8_i32
  let c0_i32_80 : BitVec 32 := 0#32
  let v108 : BitVec 1 := Scalar.cmpi .ne v107 c0_i32_80
  let v109 : BitVec 1 := Scalar.andi v106 v108
  let v95 : BitVec 32 := Scalar.divsi v94 c8_i32
  let c1_i32 : BitVec 32 := 1#32
  let v110 : BitVec 32 := Scalar.subi v95 c1_i32
  let v111 : BitVec 32 := Scalar.select v109 v110 v95
  let v117 : BitVec 32 := Scalar.muli c8_i32_86 v111
  let v118 : BitVec 32 := Scalar.addi c0_i32_87 v117
  let c4_i32_383 : BitVec 32 := 4#32
  let c0_i32_95 : BitVec 32 := 0#32
  let c1_i32_97 : BitVec 32 := 1#32
  let arg17 : BitVec 32 := Scf.iv c0_i32_95 c1_i32_97 k0_t3
  let v538 : BitVec 32 := Scalar.muli c4_i32_383 arg17
  let v539 : BitVec 32 := Scalar.addi v118 v538
  let c2_i32_384 : BitVec 32 := 2#32
  let v540 : BitVec 32 := Scalar.addi v539 c2_i32_384
  let c1_i32_443 : BitVec 32 := 1#32
  let v611 : BitVec 32 := Scalar.addi v540 c1_i32_443
  let c256_i32_444 : BitVec 32 := 256#32
  let v612 : BitVec 32 := Scalar.muli v611 c256_i32_444
  v612
def k0_mult78 (i : grid0.Coords) (k0_t3 : Fin (k0_t3_loop i).trips) : BitVec 32 :=
  let c0_i32_87 : BitVec 32 := 0#32
  let c8_i32_86 : BitVec 32 := 8#32
  let arg1 : BitVec 32 := BitVec.ofNat 32 (i 1).val
  let c0_i32_75 : BitVec 32 := 0#32
  let v94 : BitVec 32 := Scalar.subi arg1 c0_i32_75
  let c0_i32_76 : BitVec 32 := 0#32
  let v96 : BitVec 1 := Scalar.cmpi .sgt v94 c0_i32_76
  let v97 : BitVec 32 := Scalar.extui v96
  let c0_i32_77 : BitVec 32 := 0#32
  let v98 : BitVec 1 := Scalar.cmpi .slt v94 c0_i32_77
  let v99 : BitVec 32 := Scalar.extui v98
  let v100 : BitVec 32 := Scalar.subi v97 v99
  let c8_i32 : BitVec 32 := 8#32
  let c0_i32_78 : BitVec 32 := 0#32
  let v101 : BitVec 1 := Scalar.cmpi .sgt c8_i32 c0_i32_78
  let v102 : BitVec 32 := Scalar.extui v101
  let c0_i32_79 : BitVec 32 := 0#32
  let v103 : BitVec 1 := Scalar.cmpi .slt c8_i32 c0_i32_79
  let v104 : BitVec 32 := Scalar.extui v103
  let v105 : BitVec 32 := Scalar.subi v102 v104
  let v106 : BitVec 1 := Scalar.cmpi .ne v100 v105
  let v107 : BitVec 32 := Scalar.remsi v94 c8_i32
  let c0_i32_80 : BitVec 32 := 0#32
  let v108 : BitVec 1 := Scalar.cmpi .ne v107 c0_i32_80
  let v109 : BitVec 1 := Scalar.andi v106 v108
  let v95 : BitVec 32 := Scalar.divsi v94 c8_i32
  let c1_i32 : BitVec 32 := 1#32
  let v110 : BitVec 32 := Scalar.subi v95 c1_i32
  let v111 : BitVec 32 := Scalar.select v109 v110 v95
  let v117 : BitVec 32 := Scalar.muli c8_i32_86 v111
  let v118 : BitVec 32 := Scalar.addi c0_i32_87 v117
  let c4_i32_383 : BitVec 32 := 4#32
  let c0_i32_95 : BitVec 32 := 0#32
  let c1_i32_97 : BitVec 32 := 1#32
  let arg17 : BitVec 32 := Scf.iv c0_i32_95 c1_i32_97 k0_t3
  let v538 : BitVec 32 := Scalar.muli c4_i32_383 arg17
  let v539 : BitVec 32 := Scalar.addi v118 v538
  let c2_i32_384 : BitVec 32 := 2#32
  let v540 : BitVec 32 := Scalar.addi v539 c2_i32_384
  let c1_i32_457 : BitVec 32 := 1#32
  let v625 : BitVec 32 := Scalar.subi v540 c1_i32_457
  let c0_i32_458 : BitVec 32 := 0#32
  let v626 : BitVec 32 := Scalar.maxsi v625 c0_i32_458
  let c256_i32_459 : BitVec 32 := 256#32
  let v627 : BitVec 32 := Scalar.muli v626 c256_i32_459
  v627
def k0_mult79 (i : grid0.Coords) (k0_t3 : Fin (k0_t3_loop i).trips) : BitVec 32 :=
  let c0_i32_87 : BitVec 32 := 0#32
  let c8_i32_86 : BitVec 32 := 8#32
  let arg1 : BitVec 32 := BitVec.ofNat 32 (i 1).val
  let c0_i32_75 : BitVec 32 := 0#32
  let v94 : BitVec 32 := Scalar.subi arg1 c0_i32_75
  let c0_i32_76 : BitVec 32 := 0#32
  let v96 : BitVec 1 := Scalar.cmpi .sgt v94 c0_i32_76
  let v97 : BitVec 32 := Scalar.extui v96
  let c0_i32_77 : BitVec 32 := 0#32
  let v98 : BitVec 1 := Scalar.cmpi .slt v94 c0_i32_77
  let v99 : BitVec 32 := Scalar.extui v98
  let v100 : BitVec 32 := Scalar.subi v97 v99
  let c8_i32 : BitVec 32 := 8#32
  let c0_i32_78 : BitVec 32 := 0#32
  let v101 : BitVec 1 := Scalar.cmpi .sgt c8_i32 c0_i32_78
  let v102 : BitVec 32 := Scalar.extui v101
  let c0_i32_79 : BitVec 32 := 0#32
  let v103 : BitVec 1 := Scalar.cmpi .slt c8_i32 c0_i32_79
  let v104 : BitVec 32 := Scalar.extui v103
  let v105 : BitVec 32 := Scalar.subi v102 v104
  let v106 : BitVec 1 := Scalar.cmpi .ne v100 v105
  let v107 : BitVec 32 := Scalar.remsi v94 c8_i32
  let c0_i32_80 : BitVec 32 := 0#32
  let v108 : BitVec 1 := Scalar.cmpi .ne v107 c0_i32_80
  let v109 : BitVec 1 := Scalar.andi v106 v108
  let v95 : BitVec 32 := Scalar.divsi v94 c8_i32
  let c1_i32 : BitVec 32 := 1#32
  let v110 : BitVec 32 := Scalar.subi v95 c1_i32
  let v111 : BitVec 32 := Scalar.select v109 v110 v95
  let v117 : BitVec 32 := Scalar.muli c8_i32_86 v111
  let v118 : BitVec 32 := Scalar.addi c0_i32_87 v117
  let c4_i32_501 : BitVec 32 := 4#32
  let c0_i32_95 : BitVec 32 := 0#32
  let c1_i32_97 : BitVec 32 := 1#32
  let arg17 : BitVec 32 := Scf.iv c0_i32_95 c1_i32_97 k0_t3
  let v681 : BitVec 32 := Scalar.muli c4_i32_501 arg17
  let v682 : BitVec 32 := Scalar.addi v118 v681
  let c3_i32 : BitVec 32 := 3#32
  let v683 : BitVec 32 := Scalar.addi v682 c3_i32
  let c1_i32_502 : BitVec 32 := 1#32
  let v684 : BitVec 32 := Scalar.addi v683 c1_i32_502
  let c256_i32_503 : BitVec 32 := 256#32
  let v685 : BitVec 32 := Scalar.muli v684 c256_i32_503
  v685
def k0_mult80 (i : grid0.Coords) (k0_t3 : Fin (k0_t3_loop i).trips) : BitVec 32 :=
  let c0_i32_87 : BitVec 32 := 0#32
  let c8_i32_86 : BitVec 32 := 8#32
  let arg1 : BitVec 32 := BitVec.ofNat 32 (i 1).val
  let c0_i32_75 : BitVec 32 := 0#32
  let v94 : BitVec 32 := Scalar.subi arg1 c0_i32_75
  let c0_i32_76 : BitVec 32 := 0#32
  let v96 : BitVec 1 := Scalar.cmpi .sgt v94 c0_i32_76
  let v97 : BitVec 32 := Scalar.extui v96
  let c0_i32_77 : BitVec 32 := 0#32
  let v98 : BitVec 1 := Scalar.cmpi .slt v94 c0_i32_77
  let v99 : BitVec 32 := Scalar.extui v98
  let v100 : BitVec 32 := Scalar.subi v97 v99
  let c8_i32 : BitVec 32 := 8#32
  let c0_i32_78 : BitVec 32 := 0#32
  let v101 : BitVec 1 := Scalar.cmpi .sgt c8_i32 c0_i32_78
  let v102 : BitVec 32 := Scalar.extui v101
  let c0_i32_79 : BitVec 32 := 0#32
  let v103 : BitVec 1 := Scalar.cmpi .slt c8_i32 c0_i32_79
  let v104 : BitVec 32 := Scalar.extui v103
  let v105 : BitVec 32 := Scalar.subi v102 v104
  let v106 : BitVec 1 := Scalar.cmpi .ne v100 v105
  let v107 : BitVec 32 := Scalar.remsi v94 c8_i32
  let c0_i32_80 : BitVec 32 := 0#32
  let v108 : BitVec 1 := Scalar.cmpi .ne v107 c0_i32_80
  let v109 : BitVec 1 := Scalar.andi v106 v108
  let v95 : BitVec 32 := Scalar.divsi v94 c8_i32
  let c1_i32 : BitVec 32 := 1#32
  let v110 : BitVec 32 := Scalar.subi v95 c1_i32
  let v111 : BitVec 32 := Scalar.select v109 v110 v95
  let v117 : BitVec 32 := Scalar.muli c8_i32_86 v111
  let v118 : BitVec 32 := Scalar.addi c0_i32_87 v117
  let c4_i32_501 : BitVec 32 := 4#32
  let c0_i32_95 : BitVec 32 := 0#32
  let c1_i32_97 : BitVec 32 := 1#32
  let arg17 : BitVec 32 := Scf.iv c0_i32_95 c1_i32_97 k0_t3
  let v681 : BitVec 32 := Scalar.muli c4_i32_501 arg17
  let v682 : BitVec 32 := Scalar.addi v118 v681
  let c3_i32 : BitVec 32 := 3#32
  let v683 : BitVec 32 := Scalar.addi v682 c3_i32
  let c1_i32_516 : BitVec 32 := 1#32
  let v698 : BitVec 32 := Scalar.subi v683 c1_i32_516
  let c0_i32_517 : BitVec 32 := 0#32
  let v699 : BitVec 32 := Scalar.maxsi v698 c0_i32_517
  let c256_i32_518 : BitVec 32 := 256#32
  let v700 : BitVec 32 := Scalar.muli v699 c256_i32_518
  v700
def k0_mult81 (i : grid0.Coords) (k0_t3 : Fin (k0_t3_loop i).trips) : BitVec 32 :=
  let c0_i32_87 : BitVec 32 := 0#32
  let c8_i32_86 : BitVec 32 := 8#32
  let arg1 : BitVec 32 := BitVec.ofNat 32 (i 1).val
  let c0_i32_75 : BitVec 32 := 0#32
  let v94 : BitVec 32 := Scalar.subi arg1 c0_i32_75
  let c0_i32_76 : BitVec 32 := 0#32
  let v96 : BitVec 1 := Scalar.cmpi .sgt v94 c0_i32_76
  let v97 : BitVec 32 := Scalar.extui v96
  let c0_i32_77 : BitVec 32 := 0#32
  let v98 : BitVec 1 := Scalar.cmpi .slt v94 c0_i32_77
  let v99 : BitVec 32 := Scalar.extui v98
  let v100 : BitVec 32 := Scalar.subi v97 v99
  let c8_i32 : BitVec 32 := 8#32
  let c0_i32_78 : BitVec 32 := 0#32
  let v101 : BitVec 1 := Scalar.cmpi .sgt c8_i32 c0_i32_78
  let v102 : BitVec 32 := Scalar.extui v101
  let c0_i32_79 : BitVec 32 := 0#32
  let v103 : BitVec 1 := Scalar.cmpi .slt c8_i32 c0_i32_79
  let v104 : BitVec 32 := Scalar.extui v103
  let v105 : BitVec 32 := Scalar.subi v102 v104
  let v106 : BitVec 1 := Scalar.cmpi .ne v100 v105
  let v107 : BitVec 32 := Scalar.remsi v94 c8_i32
  let c0_i32_80 : BitVec 32 := 0#32
  let v108 : BitVec 1 := Scalar.cmpi .ne v107 c0_i32_80
  let v109 : BitVec 1 := Scalar.andi v106 v108
  let v95 : BitVec 32 := Scalar.divsi v94 c8_i32
  let c1_i32 : BitVec 32 := 1#32
  let v110 : BitVec 32 := Scalar.subi v95 c1_i32
  let v111 : BitVec 32 := Scalar.select v109 v110 v95
  let v117 : BitVec 32 := Scalar.muli c8_i32_86 v111
  let v118 : BitVec 32 := Scalar.addi c0_i32_87 v117
  let c4_i32_501 : BitVec 32 := 4#32
  let c0_i32_95 : BitVec 32 := 0#32
  let c1_i32_97 : BitVec 32 := 1#32
  let arg17 : BitVec 32 := Scf.iv c0_i32_95 c1_i32_97 k0_t3
  let v681 : BitVec 32 := Scalar.muli c4_i32_501 arg17
  let v682 : BitVec 32 := Scalar.addi v118 v681
  let c3_i32 : BitVec 32 := 3#32
  let v683 : BitVec 32 := Scalar.addi v682 c3_i32
  let c1_i32_560 : BitVec 32 := 1#32
  let v754 : BitVec 32 := Scalar.addi v683 c1_i32_560
  let c256_i32_561 : BitVec 32 := 256#32
  let v755 : BitVec 32 := Scalar.muli v754 c256_i32_561
  v755
def k0_mult82 (i : grid0.Coords) (k0_t3 : Fin (k0_t3_loop i).trips) : BitVec 32 :=
  let c0_i32_87 : BitVec 32 := 0#32
  let c8_i32_86 : BitVec 32 := 8#32
  let arg1 : BitVec 32 := BitVec.ofNat 32 (i 1).val
  let c0_i32_75 : BitVec 32 := 0#32
  let v94 : BitVec 32 := Scalar.subi arg1 c0_i32_75
  let c0_i32_76 : BitVec 32 := 0#32
  let v96 : BitVec 1 := Scalar.cmpi .sgt v94 c0_i32_76
  let v97 : BitVec 32 := Scalar.extui v96
  let c0_i32_77 : BitVec 32 := 0#32
  let v98 : BitVec 1 := Scalar.cmpi .slt v94 c0_i32_77
  let v99 : BitVec 32 := Scalar.extui v98
  let v100 : BitVec 32 := Scalar.subi v97 v99
  let c8_i32 : BitVec 32 := 8#32
  let c0_i32_78 : BitVec 32 := 0#32
  let v101 : BitVec 1 := Scalar.cmpi .sgt c8_i32 c0_i32_78
  let v102 : BitVec 32 := Scalar.extui v101
  let c0_i32_79 : BitVec 32 := 0#32
  let v103 : BitVec 1 := Scalar.cmpi .slt c8_i32 c0_i32_79
  let v104 : BitVec 32 := Scalar.extui v103
  let v105 : BitVec 32 := Scalar.subi v102 v104
  let v106 : BitVec 1 := Scalar.cmpi .ne v100 v105
  let v107 : BitVec 32 := Scalar.remsi v94 c8_i32
  let c0_i32_80 : BitVec 32 := 0#32
  let v108 : BitVec 1 := Scalar.cmpi .ne v107 c0_i32_80
  let v109 : BitVec 1 := Scalar.andi v106 v108
  let v95 : BitVec 32 := Scalar.divsi v94 c8_i32
  let c1_i32 : BitVec 32 := 1#32
  let v110 : BitVec 32 := Scalar.subi v95 c1_i32
  let v111 : BitVec 32 := Scalar.select v109 v110 v95
  let v117 : BitVec 32 := Scalar.muli c8_i32_86 v111
  let v118 : BitVec 32 := Scalar.addi c0_i32_87 v117
  let c4_i32_501 : BitVec 32 := 4#32
  let c0_i32_95 : BitVec 32 := 0#32
  let c1_i32_97 : BitVec 32 := 1#32
  let arg17 : BitVec 32 := Scf.iv c0_i32_95 c1_i32_97 k0_t3
  let v681 : BitVec 32 := Scalar.muli c4_i32_501 arg17
  let v682 : BitVec 32 := Scalar.addi v118 v681
  let c3_i32 : BitVec 32 := 3#32
  let v683 : BitVec 32 := Scalar.addi v682 c3_i32
  let c1_i32_574 : BitVec 32 := 1#32
  let v768 : BitVec 32 := Scalar.subi v683 c1_i32_574
  let c0_i32_575 : BitVec 32 := 0#32
  let v769 : BitVec 32 := Scalar.maxsi v768 c0_i32_575
  let c256_i32_576 : BitVec 32 := 256#32
  let v770 : BitVec 32 := Scalar.muli v769 c256_i32_576
  v770
@[reducible] def k0_t4_loop (i : grid0.Coords) : Scf.Loop 32 :=
  let c0_i32_95 : BitVec 32 := 0#32
  let arg1 : BitVec 32 := BitVec.ofNat 32 (i 1).val
  let c0_i32_87 : BitVec 32 := 0#32
  let c8_i32_86 : BitVec 32 := 8#32
  let c0_i32_75 : BitVec 32 := 0#32
  let v94 : BitVec 32 := Scalar.subi arg1 c0_i32_75
  let c0_i32_76 : BitVec 32 := 0#32
  let v96 : BitVec 1 := Scalar.cmpi .sgt v94 c0_i32_76
  let v97 : BitVec 32 := Scalar.extui v96
  let c0_i32_77 : BitVec 32 := 0#32
  let v98 : BitVec 1 := Scalar.cmpi .slt v94 c0_i32_77
  let v99 : BitVec 32 := Scalar.extui v98
  let v100 : BitVec 32 := Scalar.subi v97 v99
  let c8_i32 : BitVec 32 := 8#32
  let c0_i32_78 : BitVec 32 := 0#32
  let v101 : BitVec 1 := Scalar.cmpi .sgt c8_i32 c0_i32_78
  let v102 : BitVec 32 := Scalar.extui v101
  let c0_i32_79 : BitVec 32 := 0#32
  let v103 : BitVec 1 := Scalar.cmpi .slt c8_i32 c0_i32_79
  let v104 : BitVec 32 := Scalar.extui v103
  let v105 : BitVec 32 := Scalar.subi v102 v104
  let v106 : BitVec 1 := Scalar.cmpi .ne v100 v105
  let v107 : BitVec 32 := Scalar.remsi v94 c8_i32
  let c0_i32_80 : BitVec 32 := 0#32
  let v108 : BitVec 1 := Scalar.cmpi .ne v107 c0_i32_80
  let v109 : BitVec 1 := Scalar.andi v106 v108
  let v95 : BitVec 32 := Scalar.divsi v94 c8_i32
  let c1_i32 : BitVec 32 := 1#32
  let v110 : BitVec 32 := Scalar.subi v95 c1_i32
  let v111 : BitVec 32 := Scalar.select v109 v110 v95
  let v117 : BitVec 32 := Scalar.muli c8_i32_86 v111
  let v118 : BitVec 32 := Scalar.addi c0_i32_87 v117
  let v119 : BitVec 32 := Scalar.subi arg1 v118
  let c0_i32_88 : BitVec 32 := 0#32
  let v121 : BitVec 1 := Scalar.cmpi .sgt v119 c0_i32_88
  let v122 : BitVec 32 := Scalar.extui v121
  let c0_i32_89 : BitVec 32 := 0#32
  let v123 : BitVec 1 := Scalar.cmpi .slt v119 c0_i32_89
  let v124 : BitVec 32 := Scalar.extui v123
  let v125 : BitVec 32 := Scalar.subi v122 v124
  let c4_i32 : BitVec 32 := 4#32
  let c0_i32_90 : BitVec 32 := 0#32
  let v126 : BitVec 1 := Scalar.cmpi .sgt c4_i32 c0_i32_90
  let v127 : BitVec 32 := Scalar.extui v126
  let c0_i32_91 : BitVec 32 := 0#32
  let v128 : BitVec 1 := Scalar.cmpi .slt c4_i32 c0_i32_91
  let v129 : BitVec 32 := Scalar.extui v128
  let v130 : BitVec 32 := Scalar.subi v127 v129
  let v131 : BitVec 1 := Scalar.cmpi .ne v125 v130
  let v132 : BitVec 32 := Scalar.remsi v119 c4_i32
  let c0_i32_92 : BitVec 32 := 0#32
  let v133 : BitVec 1 := Scalar.cmpi .ne v132 c0_i32_92
  let v134 : BitVec 1 := Scalar.andi v131 v133
  let v120 : BitVec 32 := Scalar.divsi v119 c4_i32
  let c1_i32_93 : BitVec 32 := 1#32
  let v135 : BitVec 32 := Scalar.subi v120 c1_i32_93
  let v136 : BitVec 32 := Scalar.select v134 v135 v120
  let v137 : BitVec 32 := Scalar.subi v136 c0_i32_95
  let c1_i32_96 : BitVec 32 := 1#32
  let v139 : BitVec 32 := Scalar.divsi v137 c1_i32_96
  let v140 : BitVec 32 := Scalar.muli v139 c1_i32_96
  let v141 : BitVec 32 := Scalar.addi c0_i32_95 v140
  let v138 : BitVec 32 := Scalar.addi c0_i32_95 v137
  let c1_i32_98 : BitVec 32 := 1#32
  ⟨v141, v138, c1_i32_98⟩
def k0_mult83 (i : grid0.Coords) (k0_t4 : Fin (k0_t4_loop i).trips) : BitVec 32 :=
  let c0_i32_87 : BitVec 32 := 0#32
  let c8_i32_86 : BitVec 32 := 8#32
  let arg1 : BitVec 32 := BitVec.ofNat 32 (i 1).val
  let c0_i32_75 : BitVec 32 := 0#32
  let v94 : BitVec 32 := Scalar.subi arg1 c0_i32_75
  let c0_i32_76 : BitVec 32 := 0#32
  let v96 : BitVec 1 := Scalar.cmpi .sgt v94 c0_i32_76
  let v97 : BitVec 32 := Scalar.extui v96
  let c0_i32_77 : BitVec 32 := 0#32
  let v98 : BitVec 1 := Scalar.cmpi .slt v94 c0_i32_77
  let v99 : BitVec 32 := Scalar.extui v98
  let v100 : BitVec 32 := Scalar.subi v97 v99
  let c8_i32 : BitVec 32 := 8#32
  let c0_i32_78 : BitVec 32 := 0#32
  let v101 : BitVec 1 := Scalar.cmpi .sgt c8_i32 c0_i32_78
  let v102 : BitVec 32 := Scalar.extui v101
  let c0_i32_79 : BitVec 32 := 0#32
  let v103 : BitVec 1 := Scalar.cmpi .slt c8_i32 c0_i32_79
  let v104 : BitVec 32 := Scalar.extui v103
  let v105 : BitVec 32 := Scalar.subi v102 v104
  let v106 : BitVec 1 := Scalar.cmpi .ne v100 v105
  let v107 : BitVec 32 := Scalar.remsi v94 c8_i32
  let c0_i32_80 : BitVec 32 := 0#32
  let v108 : BitVec 1 := Scalar.cmpi .ne v107 c0_i32_80
  let v109 : BitVec 1 := Scalar.andi v106 v108
  let v95 : BitVec 32 := Scalar.divsi v94 c8_i32
  let c1_i32 : BitVec 32 := 1#32
  let v110 : BitVec 32 := Scalar.subi v95 c1_i32
  let v111 : BitVec 32 := Scalar.select v109 v110 v95
  let v117 : BitVec 32 := Scalar.muli c8_i32_86 v111
  let v118 : BitVec 32 := Scalar.addi c0_i32_87 v117
  let c4_i32_148 : BitVec 32 := 4#32
  let c0_i32_95 : BitVec 32 := 0#32
  let v119 : BitVec 32 := Scalar.subi arg1 v118
  let c0_i32_88 : BitVec 32 := 0#32
  let v121 : BitVec 1 := Scalar.cmpi .sgt v119 c0_i32_88
  let v122 : BitVec 32 := Scalar.extui v121
  let c0_i32_89 : BitVec 32 := 0#32
  let v123 : BitVec 1 := Scalar.cmpi .slt v119 c0_i32_89
  let v124 : BitVec 32 := Scalar.extui v123
  let v125 : BitVec 32 := Scalar.subi v122 v124
  let c4_i32 : BitVec 32 := 4#32
  let c0_i32_90 : BitVec 32 := 0#32
  let v126 : BitVec 1 := Scalar.cmpi .sgt c4_i32 c0_i32_90
  let v127 : BitVec 32 := Scalar.extui v126
  let c0_i32_91 : BitVec 32 := 0#32
  let v128 : BitVec 1 := Scalar.cmpi .slt c4_i32 c0_i32_91
  let v129 : BitVec 32 := Scalar.extui v128
  let v130 : BitVec 32 := Scalar.subi v127 v129
  let v131 : BitVec 1 := Scalar.cmpi .ne v125 v130
  let v132 : BitVec 32 := Scalar.remsi v119 c4_i32
  let c0_i32_92 : BitVec 32 := 0#32
  let v133 : BitVec 1 := Scalar.cmpi .ne v132 c0_i32_92
  let v134 : BitVec 1 := Scalar.andi v131 v133
  let v120 : BitVec 32 := Scalar.divsi v119 c4_i32
  let c1_i32_93 : BitVec 32 := 1#32
  let v135 : BitVec 32 := Scalar.subi v120 c1_i32_93
  let v136 : BitVec 32 := Scalar.select v134 v135 v120
  let v137 : BitVec 32 := Scalar.subi v136 c0_i32_95
  let c1_i32_96 : BitVec 32 := 1#32
  let v139 : BitVec 32 := Scalar.divsi v137 c1_i32_96
  let v140 : BitVec 32 := Scalar.muli v139 c1_i32_96
  let v141 : BitVec 32 := Scalar.addi c0_i32_95 v140
  let c1_i32_98 : BitVec 32 := 1#32
  let arg17 : BitVec 32 := Scf.iv v141 c1_i32_98 k0_t4
  let v252 : BitVec 32 := Scalar.muli c4_i32_148 arg17
  let v253 : BitVec 32 := Scalar.addi v118 v252
  let c0_i32_149 : BitVec 32 := 0#32
  let v254 : BitVec 32 := Scalar.addi v253 c0_i32_149
  let c1_i32_150 : BitVec 32 := 1#32
  let v255 : BitVec 32 := Scalar.addi v254 c1_i32_150
  let c256_i32 : BitVec 32 := 256#32
  let v256 : BitVec 32 := Scalar.muli v255 c256_i32
  v256
def k0_off16 (i : grid0.Coords) (k0_t4 : Fin (k0_t4_loop i).trips) (c0_i32_149 : BitVec 32) : Fin 2 → Nat :=
  let c0_i32_87 : BitVec 32 := 0#32
  let c8_i32_86 : BitVec 32 := 8#32
  let arg1 : BitVec 32 := BitVec.ofNat 32 (i 1).val
  let c0_i32_75 : BitVec 32 := 0#32
  let v94 : BitVec 32 := Scalar.subi arg1 c0_i32_75
  let c0_i32_76 : BitVec 32 := 0#32
  let v96 : BitVec 1 := Scalar.cmpi .sgt v94 c0_i32_76
  let v97 : BitVec 32 := Scalar.extui v96
  let c0_i32_77 : BitVec 32 := 0#32
  let v98 : BitVec 1 := Scalar.cmpi .slt v94 c0_i32_77
  let v99 : BitVec 32 := Scalar.extui v98
  let v100 : BitVec 32 := Scalar.subi v97 v99
  let c8_i32 : BitVec 32 := 8#32
  let c0_i32_78 : BitVec 32 := 0#32
  let v101 : BitVec 1 := Scalar.cmpi .sgt c8_i32 c0_i32_78
  let v102 : BitVec 32 := Scalar.extui v101
  let c0_i32_79 : BitVec 32 := 0#32
  let v103 : BitVec 1 := Scalar.cmpi .slt c8_i32 c0_i32_79
  let v104 : BitVec 32 := Scalar.extui v103
  let v105 : BitVec 32 := Scalar.subi v102 v104
  let v106 : BitVec 1 := Scalar.cmpi .ne v100 v105
  let v107 : BitVec 32 := Scalar.remsi v94 c8_i32
  let c0_i32_80 : BitVec 32 := 0#32
  let v108 : BitVec 1 := Scalar.cmpi .ne v107 c0_i32_80
  let v109 : BitVec 1 := Scalar.andi v106 v108
  let v95 : BitVec 32 := Scalar.divsi v94 c8_i32
  let c1_i32 : BitVec 32 := 1#32
  let v110 : BitVec 32 := Scalar.subi v95 c1_i32
  let v111 : BitVec 32 := Scalar.select v109 v110 v95
  let v117 : BitVec 32 := Scalar.muli c8_i32_86 v111
  let v118 : BitVec 32 := Scalar.addi c0_i32_87 v117
  let c4_i32_148 : BitVec 32 := 4#32
  let c0_i32_95 : BitVec 32 := 0#32
  let v119 : BitVec 32 := Scalar.subi arg1 v118
  let c0_i32_88 : BitVec 32 := 0#32
  let v121 : BitVec 1 := Scalar.cmpi .sgt v119 c0_i32_88
  let v122 : BitVec 32 := Scalar.extui v121
  let c0_i32_89 : BitVec 32 := 0#32
  let v123 : BitVec 1 := Scalar.cmpi .slt v119 c0_i32_89
  let v124 : BitVec 32 := Scalar.extui v123
  let v125 : BitVec 32 := Scalar.subi v122 v124
  let c4_i32 : BitVec 32 := 4#32
  let c0_i32_90 : BitVec 32 := 0#32
  let v126 : BitVec 1 := Scalar.cmpi .sgt c4_i32 c0_i32_90
  let v127 : BitVec 32 := Scalar.extui v126
  let c0_i32_91 : BitVec 32 := 0#32
  let v128 : BitVec 1 := Scalar.cmpi .slt c4_i32 c0_i32_91
  let v129 : BitVec 32 := Scalar.extui v128
  let v130 : BitVec 32 := Scalar.subi v127 v129
  let v131 : BitVec 1 := Scalar.cmpi .ne v125 v130
  let v132 : BitVec 32 := Scalar.remsi v119 c4_i32
  let c0_i32_92 : BitVec 32 := 0#32
  let v133 : BitVec 1 := Scalar.cmpi .ne v132 c0_i32_92
  let v134 : BitVec 1 := Scalar.andi v131 v133
  let v120 : BitVec 32 := Scalar.divsi v119 c4_i32
  let c1_i32_93 : BitVec 32 := 1#32
  let v135 : BitVec 32 := Scalar.subi v120 c1_i32_93
  let v136 : BitVec 32 := Scalar.select v134 v135 v120
  let v137 : BitVec 32 := Scalar.subi v136 c0_i32_95
  let c1_i32_96 : BitVec 32 := 1#32
  let v139 : BitVec 32 := Scalar.divsi v137 c1_i32_96
  let v140 : BitVec 32 := Scalar.muli v139 c1_i32_96
  let v141 : BitVec 32 := Scalar.addi c0_i32_95 v140
  let c1_i32_98 : BitVec 32 := 1#32
  let arg17 : BitVec 32 := Scf.iv v141 c1_i32_98 k0_t4
  let v252 : BitVec 32 := Scalar.muli c4_i32_148 arg17
  let v253 : BitVec 32 := Scalar.addi v118 v252
  let v254 : BitVec 32 := Scalar.addi v253 c0_i32_149
  let c1_i32_150 : BitVec 32 := 1#32
  let v255 : BitVec 32 := Scalar.addi v254 c1_i32_150
  let c256_i32 : BitVec 32 := 256#32
  let v256 : BitVec 32 := Scalar.muli v255 c256_i32
  let v257 : BitVec 32 := v256
  let v258 : Index := Scalar.indexCast v257
  let c0_151 : Index := 0#32
  ![v258.toNat, 0]
def k0_mult84 (i : grid0.Coords) (k0_t4 : Fin (k0_t4_loop i).trips) : BitVec 32 :=
  let c0_i32_87 : BitVec 32 := 0#32
  let c8_i32_86 : BitVec 32 := 8#32
  let arg1 : BitVec 32 := BitVec.ofNat 32 (i 1).val
  let c0_i32_75 : BitVec 32 := 0#32
  let v94 : BitVec 32 := Scalar.subi arg1 c0_i32_75
  let c0_i32_76 : BitVec 32 := 0#32
  let v96 : BitVec 1 := Scalar.cmpi .sgt v94 c0_i32_76
  let v97 : BitVec 32 := Scalar.extui v96
  let c0_i32_77 : BitVec 32 := 0#32
  let v98 : BitVec 1 := Scalar.cmpi .slt v94 c0_i32_77
  let v99 : BitVec 32 := Scalar.extui v98
  let v100 : BitVec 32 := Scalar.subi v97 v99
  let c8_i32 : BitVec 32 := 8#32
  let c0_i32_78 : BitVec 32 := 0#32
  let v101 : BitVec 1 := Scalar.cmpi .sgt c8_i32 c0_i32_78
  let v102 : BitVec 32 := Scalar.extui v101
  let c0_i32_79 : BitVec 32 := 0#32
  let v103 : BitVec 1 := Scalar.cmpi .slt c8_i32 c0_i32_79
  let v104 : BitVec 32 := Scalar.extui v103
  let v105 : BitVec 32 := Scalar.subi v102 v104
  let v106 : BitVec 1 := Scalar.cmpi .ne v100 v105
  let v107 : BitVec 32 := Scalar.remsi v94 c8_i32
  let c0_i32_80 : BitVec 32 := 0#32
  let v108 : BitVec 1 := Scalar.cmpi .ne v107 c0_i32_80
  let v109 : BitVec 1 := Scalar.andi v106 v108
  let v95 : BitVec 32 := Scalar.divsi v94 c8_i32
  let c1_i32 : BitVec 32 := 1#32
  let v110 : BitVec 32 := Scalar.subi v95 c1_i32
  let v111 : BitVec 32 := Scalar.select v109 v110 v95
  let v117 : BitVec 32 := Scalar.muli c8_i32_86 v111
  let v118 : BitVec 32 := Scalar.addi c0_i32_87 v117
  let c4_i32_148 : BitVec 32 := 4#32
  let c0_i32_95 : BitVec 32 := 0#32
  let v119 : BitVec 32 := Scalar.subi arg1 v118
  let c0_i32_88 : BitVec 32 := 0#32
  let v121 : BitVec 1 := Scalar.cmpi .sgt v119 c0_i32_88
  let v122 : BitVec 32 := Scalar.extui v121
  let c0_i32_89 : BitVec 32 := 0#32
  let v123 : BitVec 1 := Scalar.cmpi .slt v119 c0_i32_89
  let v124 : BitVec 32 := Scalar.extui v123
  let v125 : BitVec 32 := Scalar.subi v122 v124
  let c4_i32 : BitVec 32 := 4#32
  let c0_i32_90 : BitVec 32 := 0#32
  let v126 : BitVec 1 := Scalar.cmpi .sgt c4_i32 c0_i32_90
  let v127 : BitVec 32 := Scalar.extui v126
  let c0_i32_91 : BitVec 32 := 0#32
  let v128 : BitVec 1 := Scalar.cmpi .slt c4_i32 c0_i32_91
  let v129 : BitVec 32 := Scalar.extui v128
  let v130 : BitVec 32 := Scalar.subi v127 v129
  let v131 : BitVec 1 := Scalar.cmpi .ne v125 v130
  let v132 : BitVec 32 := Scalar.remsi v119 c4_i32
  let c0_i32_92 : BitVec 32 := 0#32
  let v133 : BitVec 1 := Scalar.cmpi .ne v132 c0_i32_92
  let v134 : BitVec 1 := Scalar.andi v131 v133
  let v120 : BitVec 32 := Scalar.divsi v119 c4_i32
  let c1_i32_93 : BitVec 32 := 1#32
  let v135 : BitVec 32 := Scalar.subi v120 c1_i32_93
  let v136 : BitVec 32 := Scalar.select v134 v135 v120
  let v137 : BitVec 32 := Scalar.subi v136 c0_i32_95
  let c1_i32_96 : BitVec 32 := 1#32
  let v139 : BitVec 32 := Scalar.divsi v137 c1_i32_96
  let v140 : BitVec 32 := Scalar.muli v139 c1_i32_96
  let v141 : BitVec 32 := Scalar.addi c0_i32_95 v140
  let c1_i32_98 : BitVec 32 := 1#32
  let arg17 : BitVec 32 := Scf.iv v141 c1_i32_98 k0_t4
  let v252 : BitVec 32 := Scalar.muli c4_i32_148 arg17
  let v253 : BitVec 32 := Scalar.addi v118 v252
  let c0_i32_149 : BitVec 32 := 0#32
  let v254 : BitVec 32 := Scalar.addi v253 c0_i32_149
  let c1_i32_163 : BitVec 32 := 1#32
  let v269 : BitVec 32 := Scalar.subi v254 c1_i32_163
  let c0_i32_164 : BitVec 32 := 0#32
  let v270 : BitVec 32 := Scalar.maxsi v269 c0_i32_164
  let c256_i32_165 : BitVec 32 := 256#32
  let v271 : BitVec 32 := Scalar.muli v270 c256_i32_165
  v271
def k0_off17 (i : grid0.Coords) (k0_t4 : Fin (k0_t4_loop i).trips) (c0_i32_149 : BitVec 32) : Fin 3 → Nat :=
  let c0_166 : Index := 0#32
  let c0_167 : Index := 0#32
  let c0_i32_87 : BitVec 32 := 0#32
  let c8_i32_86 : BitVec 32 := 8#32
  let arg1 : BitVec 32 := BitVec.ofNat 32 (i 1).val
  let c0_i32_75 : BitVec 32 := 0#32
  let v94 : BitVec 32 := Scalar.subi arg1 c0_i32_75
  let c0_i32_76 : BitVec 32 := 0#32
  let v96 : BitVec 1 := Scalar.cmpi .sgt v94 c0_i32_76
  let v97 : BitVec 32 := Scalar.extui v96
  let c0_i32_77 : BitVec 32 := 0#32
  let v98 : BitVec 1 := Scalar.cmpi .slt v94 c0_i32_77
  let v99 : BitVec 32 := Scalar.extui v98
  let v100 : BitVec 32 := Scalar.subi v97 v99
  let c8_i32 : BitVec 32 := 8#32
  let c0_i32_78 : BitVec 32 := 0#32
  let v101 : BitVec 1 := Scalar.cmpi .sgt c8_i32 c0_i32_78
  let v102 : BitVec 32 := Scalar.extui v101
  let c0_i32_79 : BitVec 32 := 0#32
  let v103 : BitVec 1 := Scalar.cmpi .slt c8_i32 c0_i32_79
  let v104 : BitVec 32 := Scalar.extui v103
  let v105 : BitVec 32 := Scalar.subi v102 v104
  let v106 : BitVec 1 := Scalar.cmpi .ne v100 v105
  let v107 : BitVec 32 := Scalar.remsi v94 c8_i32
  let c0_i32_80 : BitVec 32 := 0#32
  let v108 : BitVec 1 := Scalar.cmpi .ne v107 c0_i32_80
  let v109 : BitVec 1 := Scalar.andi v106 v108
  let v95 : BitVec 32 := Scalar.divsi v94 c8_i32
  let c1_i32 : BitVec 32 := 1#32
  let v110 : BitVec 32 := Scalar.subi v95 c1_i32
  let v111 : BitVec 32 := Scalar.select v109 v110 v95
  let v117 : BitVec 32 := Scalar.muli c8_i32_86 v111
  let v118 : BitVec 32 := Scalar.addi c0_i32_87 v117
  let c4_i32_148 : BitVec 32 := 4#32
  let c0_i32_95 : BitVec 32 := 0#32
  let v119 : BitVec 32 := Scalar.subi arg1 v118
  let c0_i32_88 : BitVec 32 := 0#32
  let v121 : BitVec 1 := Scalar.cmpi .sgt v119 c0_i32_88
  let v122 : BitVec 32 := Scalar.extui v121
  let c0_i32_89 : BitVec 32 := 0#32
  let v123 : BitVec 1 := Scalar.cmpi .slt v119 c0_i32_89
  let v124 : BitVec 32 := Scalar.extui v123
  let v125 : BitVec 32 := Scalar.subi v122 v124
  let c4_i32 : BitVec 32 := 4#32
  let c0_i32_90 : BitVec 32 := 0#32
  let v126 : BitVec 1 := Scalar.cmpi .sgt c4_i32 c0_i32_90
  let v127 : BitVec 32 := Scalar.extui v126
  let c0_i32_91 : BitVec 32 := 0#32
  let v128 : BitVec 1 := Scalar.cmpi .slt c4_i32 c0_i32_91
  let v129 : BitVec 32 := Scalar.extui v128
  let v130 : BitVec 32 := Scalar.subi v127 v129
  let v131 : BitVec 1 := Scalar.cmpi .ne v125 v130
  let v132 : BitVec 32 := Scalar.remsi v119 c4_i32
  let c0_i32_92 : BitVec 32 := 0#32
  let v133 : BitVec 1 := Scalar.cmpi .ne v132 c0_i32_92
  let v134 : BitVec 1 := Scalar.andi v131 v133
  let v120 : BitVec 32 := Scalar.divsi v119 c4_i32
  let c1_i32_93 : BitVec 32 := 1#32
  let v135 : BitVec 32 := Scalar.subi v120 c1_i32_93
  let v136 : BitVec 32 := Scalar.select v134 v135 v120
  let v137 : BitVec 32 := Scalar.subi v136 c0_i32_95
  let c1_i32_96 : BitVec 32 := 1#32
  let v139 : BitVec 32 := Scalar.divsi v137 c1_i32_96
  let v140 : BitVec 32 := Scalar.muli v139 c1_i32_96
  let v141 : BitVec 32 := Scalar.addi c0_i32_95 v140
  let c1_i32_98 : BitVec 32 := 1#32
  let arg17 : BitVec 32 := Scf.iv v141 c1_i32_98 k0_t4
  let v252 : BitVec 32 := Scalar.muli c4_i32_148 arg17
  let v253 : BitVec 32 := Scalar.addi v118 v252
  let v254 : BitVec 32 := Scalar.addi v253 c0_i32_149
  let c1_i32_163 : BitVec 32 := 1#32
  let v269 : BitVec 32 := Scalar.subi v254 c1_i32_163
  let c0_i32_164 : BitVec 32 := 0#32
  let v270 : BitVec 32 := Scalar.maxsi v269 c0_i32_164
  let c256_i32_165 : BitVec 32 := 256#32
  let v271 : BitVec 32 := Scalar.muli v270 c256_i32_165
  let v272 : BitVec 32 := v271
  let v273 : Index := Scalar.indexCast v272
  ![0, 0, v273.toNat]
def k0_off18 (i : grid0.Coords) (c0_i32_185 : BitVec 32) : Fin 1 → Nat :=
  let arg0 : BitVec 32 := BitVec.ofNat 32 (i 0).val
  let c2_i32_184 : BitVec 32 := 2#32
  let v291 : BitVec 32 := Scalar.muli arg0 c2_i32_184
  let v292 : BitVec 32 := Scalar.addi v291 c0_i32_185
  let v293 : Index := Scalar.indexCast v292
  ![v293.toNat]
def k0_mult85 (i : grid0.Coords) (k0_t4 : Fin (k0_t4_loop i).trips) : BitVec 32 :=
  let c0_i32_87 : BitVec 32 := 0#32
  let c8_i32_86 : BitVec 32 := 8#32
  let arg1 : BitVec 32 := BitVec.ofNat 32 (i 1).val
  let c0_i32_75 : BitVec 32 := 0#32
  let v94 : BitVec 32 := Scalar.subi arg1 c0_i32_75
  let c0_i32_76 : BitVec 32 := 0#32
  let v96 : BitVec 1 := Scalar.cmpi .sgt v94 c0_i32_76
  let v97 : BitVec 32 := Scalar.extui v96
  let c0_i32_77 : BitVec 32 := 0#32
  let v98 : BitVec 1 := Scalar.cmpi .slt v94 c0_i32_77
  let v99 : BitVec 32 := Scalar.extui v98
  let v100 : BitVec 32 := Scalar.subi v97 v99
  let c8_i32 : BitVec 32 := 8#32
  let c0_i32_78 : BitVec 32 := 0#32
  let v101 : BitVec 1 := Scalar.cmpi .sgt c8_i32 c0_i32_78
  let v102 : BitVec 32 := Scalar.extui v101
  let c0_i32_79 : BitVec 32 := 0#32
  let v103 : BitVec 1 := Scalar.cmpi .slt c8_i32 c0_i32_79
  let v104 : BitVec 32 := Scalar.extui v103
  let v105 : BitVec 32 := Scalar.subi v102 v104
  let v106 : BitVec 1 := Scalar.cmpi .ne v100 v105
  let v107 : BitVec 32 := Scalar.remsi v94 c8_i32
  let c0_i32_80 : BitVec 32 := 0#32
  let v108 : BitVec 1 := Scalar.cmpi .ne v107 c0_i32_80
  let v109 : BitVec 1 := Scalar.andi v106 v108
  let v95 : BitVec 32 := Scalar.divsi v94 c8_i32
  let c1_i32 : BitVec 32 := 1#32
  let v110 : BitVec 32 := Scalar.subi v95 c1_i32
  let v111 : BitVec 32 := Scalar.select v109 v110 v95
  let v117 : BitVec 32 := Scalar.muli c8_i32_86 v111
  let v118 : BitVec 32 := Scalar.addi c0_i32_87 v117
  let c4_i32_148 : BitVec 32 := 4#32
  let c0_i32_95 : BitVec 32 := 0#32
  let v119 : BitVec 32 := Scalar.subi arg1 v118
  let c0_i32_88 : BitVec 32 := 0#32
  let v121 : BitVec 1 := Scalar.cmpi .sgt v119 c0_i32_88
  let v122 : BitVec 32 := Scalar.extui v121
  let c0_i32_89 : BitVec 32 := 0#32
  let v123 : BitVec 1 := Scalar.cmpi .slt v119 c0_i32_89
  let v124 : BitVec 32 := Scalar.extui v123
  let v125 : BitVec 32 := Scalar.subi v122 v124
  let c4_i32 : BitVec 32 := 4#32
  let c0_i32_90 : BitVec 32 := 0#32
  let v126 : BitVec 1 := Scalar.cmpi .sgt c4_i32 c0_i32_90
  let v127 : BitVec 32 := Scalar.extui v126
  let c0_i32_91 : BitVec 32 := 0#32
  let v128 : BitVec 1 := Scalar.cmpi .slt c4_i32 c0_i32_91
  let v129 : BitVec 32 := Scalar.extui v128
  let v130 : BitVec 32 := Scalar.subi v127 v129
  let v131 : BitVec 1 := Scalar.cmpi .ne v125 v130
  let v132 : BitVec 32 := Scalar.remsi v119 c4_i32
  let c0_i32_92 : BitVec 32 := 0#32
  let v133 : BitVec 1 := Scalar.cmpi .ne v132 c0_i32_92
  let v134 : BitVec 1 := Scalar.andi v131 v133
  let v120 : BitVec 32 := Scalar.divsi v119 c4_i32
  let c1_i32_93 : BitVec 32 := 1#32
  let v135 : BitVec 32 := Scalar.subi v120 c1_i32_93
  let v136 : BitVec 32 := Scalar.select v134 v135 v120
  let v137 : BitVec 32 := Scalar.subi v136 c0_i32_95
  let c1_i32_96 : BitVec 32 := 1#32
  let v139 : BitVec 32 := Scalar.divsi v137 c1_i32_96
  let v140 : BitVec 32 := Scalar.muli v139 c1_i32_96
  let v141 : BitVec 32 := Scalar.addi c0_i32_95 v140
  let c1_i32_98 : BitVec 32 := 1#32
  let arg17 : BitVec 32 := Scf.iv v141 c1_i32_98 k0_t4
  let v252 : BitVec 32 := Scalar.muli c4_i32_148 arg17
  let v253 : BitVec 32 := Scalar.addi v118 v252
  let c0_i32_149 : BitVec 32 := 0#32
  let v254 : BitVec 32 := Scalar.addi v253 c0_i32_149
  let c1_i32_207 : BitVec 32 := 1#32
  let v325 : BitVec 32 := Scalar.addi v254 c1_i32_207
  let c256_i32_208 : BitVec 32 := 256#32
  let v326 : BitVec 32 := Scalar.muli v325 c256_i32_208
  v326
def k0_off19 (i : grid0.Coords) (k0_t4 : Fin (k0_t4_loop i).trips) (c0_i32_149 : BitVec 32) : Fin 2 → Nat :=
  let c0_i32_87 : BitVec 32 := 0#32
  let c8_i32_86 : BitVec 32 := 8#32
  let arg1 : BitVec 32 := BitVec.ofNat 32 (i 1).val
  let c0_i32_75 : BitVec 32 := 0#32
  let v94 : BitVec 32 := Scalar.subi arg1 c0_i32_75
  let c0_i32_76 : BitVec 32 := 0#32
  let v96 : BitVec 1 := Scalar.cmpi .sgt v94 c0_i32_76
  let v97 : BitVec 32 := Scalar.extui v96
  let c0_i32_77 : BitVec 32 := 0#32
  let v98 : BitVec 1 := Scalar.cmpi .slt v94 c0_i32_77
  let v99 : BitVec 32 := Scalar.extui v98
  let v100 : BitVec 32 := Scalar.subi v97 v99
  let c8_i32 : BitVec 32 := 8#32
  let c0_i32_78 : BitVec 32 := 0#32
  let v101 : BitVec 1 := Scalar.cmpi .sgt c8_i32 c0_i32_78
  let v102 : BitVec 32 := Scalar.extui v101
  let c0_i32_79 : BitVec 32 := 0#32
  let v103 : BitVec 1 := Scalar.cmpi .slt c8_i32 c0_i32_79
  let v104 : BitVec 32 := Scalar.extui v103
  let v105 : BitVec 32 := Scalar.subi v102 v104
  let v106 : BitVec 1 := Scalar.cmpi .ne v100 v105
  let v107 : BitVec 32 := Scalar.remsi v94 c8_i32
  let c0_i32_80 : BitVec 32 := 0#32
  let v108 : BitVec 1 := Scalar.cmpi .ne v107 c0_i32_80
  let v109 : BitVec 1 := Scalar.andi v106 v108
  let v95 : BitVec 32 := Scalar.divsi v94 c8_i32
  let c1_i32 : BitVec 32 := 1#32
  let v110 : BitVec 32 := Scalar.subi v95 c1_i32
  let v111 : BitVec 32 := Scalar.select v109 v110 v95
  let v117 : BitVec 32 := Scalar.muli c8_i32_86 v111
  let v118 : BitVec 32 := Scalar.addi c0_i32_87 v117
  let c4_i32_148 : BitVec 32 := 4#32
  let c0_i32_95 : BitVec 32 := 0#32
  let v119 : BitVec 32 := Scalar.subi arg1 v118
  let c0_i32_88 : BitVec 32 := 0#32
  let v121 : BitVec 1 := Scalar.cmpi .sgt v119 c0_i32_88
  let v122 : BitVec 32 := Scalar.extui v121
  let c0_i32_89 : BitVec 32 := 0#32
  let v123 : BitVec 1 := Scalar.cmpi .slt v119 c0_i32_89
  let v124 : BitVec 32 := Scalar.extui v123
  let v125 : BitVec 32 := Scalar.subi v122 v124
  let c4_i32 : BitVec 32 := 4#32
  let c0_i32_90 : BitVec 32 := 0#32
  let v126 : BitVec 1 := Scalar.cmpi .sgt c4_i32 c0_i32_90
  let v127 : BitVec 32 := Scalar.extui v126
  let c0_i32_91 : BitVec 32 := 0#32
  let v128 : BitVec 1 := Scalar.cmpi .slt c4_i32 c0_i32_91
  let v129 : BitVec 32 := Scalar.extui v128
  let v130 : BitVec 32 := Scalar.subi v127 v129
  let v131 : BitVec 1 := Scalar.cmpi .ne v125 v130
  let v132 : BitVec 32 := Scalar.remsi v119 c4_i32
  let c0_i32_92 : BitVec 32 := 0#32
  let v133 : BitVec 1 := Scalar.cmpi .ne v132 c0_i32_92
  let v134 : BitVec 1 := Scalar.andi v131 v133
  let v120 : BitVec 32 := Scalar.divsi v119 c4_i32
  let c1_i32_93 : BitVec 32 := 1#32
  let v135 : BitVec 32 := Scalar.subi v120 c1_i32_93
  let v136 : BitVec 32 := Scalar.select v134 v135 v120
  let v137 : BitVec 32 := Scalar.subi v136 c0_i32_95
  let c1_i32_96 : BitVec 32 := 1#32
  let v139 : BitVec 32 := Scalar.divsi v137 c1_i32_96
  let v140 : BitVec 32 := Scalar.muli v139 c1_i32_96
  let v141 : BitVec 32 := Scalar.addi c0_i32_95 v140
  let c1_i32_98 : BitVec 32 := 1#32
  let arg17 : BitVec 32 := Scf.iv v141 c1_i32_98 k0_t4
  let v252 : BitVec 32 := Scalar.muli c4_i32_148 arg17
  let v253 : BitVec 32 := Scalar.addi v118 v252
  let v254 : BitVec 32 := Scalar.addi v253 c0_i32_149
  let c1_i32_207 : BitVec 32 := 1#32
  let v325 : BitVec 32 := Scalar.addi v254 c1_i32_207
  let c256_i32_208 : BitVec 32 := 256#32
  let v326 : BitVec 32 := Scalar.muli v325 c256_i32_208
  let v327 : BitVec 32 := v326
  let v328 : Index := Scalar.indexCast v327
  let c128_209 : Index := 128#32
  ![v328.toNat, 128]
def k0_mult86 (i : grid0.Coords) (k0_t4 : Fin (k0_t4_loop i).trips) : BitVec 32 :=
  let c0_i32_87 : BitVec 32 := 0#32
  let c8_i32_86 : BitVec 32 := 8#32
  let arg1 : BitVec 32 := BitVec.ofNat 32 (i 1).val
  let c0_i32_75 : BitVec 32 := 0#32
  let v94 : BitVec 32 := Scalar.subi arg1 c0_i32_75
  let c0_i32_76 : BitVec 32 := 0#32
  let v96 : BitVec 1 := Scalar.cmpi .sgt v94 c0_i32_76
  let v97 : BitVec 32 := Scalar.extui v96
  let c0_i32_77 : BitVec 32 := 0#32
  let v98 : BitVec 1 := Scalar.cmpi .slt v94 c0_i32_77
  let v99 : BitVec 32 := Scalar.extui v98
  let v100 : BitVec 32 := Scalar.subi v97 v99
  let c8_i32 : BitVec 32 := 8#32
  let c0_i32_78 : BitVec 32 := 0#32
  let v101 : BitVec 1 := Scalar.cmpi .sgt c8_i32 c0_i32_78
  let v102 : BitVec 32 := Scalar.extui v101
  let c0_i32_79 : BitVec 32 := 0#32
  let v103 : BitVec 1 := Scalar.cmpi .slt c8_i32 c0_i32_79
  let v104 : BitVec 32 := Scalar.extui v103
  let v105 : BitVec 32 := Scalar.subi v102 v104
  let v106 : BitVec 1 := Scalar.cmpi .ne v100 v105
  let v107 : BitVec 32 := Scalar.remsi v94 c8_i32
  let c0_i32_80 : BitVec 32 := 0#32
  let v108 : BitVec 1 := Scalar.cmpi .ne v107 c0_i32_80
  let v109 : BitVec 1 := Scalar.andi v106 v108
  let v95 : BitVec 32 := Scalar.divsi v94 c8_i32
  let c1_i32 : BitVec 32 := 1#32
  let v110 : BitVec 32 := Scalar.subi v95 c1_i32
  let v111 : BitVec 32 := Scalar.select v109 v110 v95
  let v117 : BitVec 32 := Scalar.muli c8_i32_86 v111
  let v118 : BitVec 32 := Scalar.addi c0_i32_87 v117
  let c4_i32_148 : BitVec 32 := 4#32
  let c0_i32_95 : BitVec 32 := 0#32
  let v119 : BitVec 32 := Scalar.subi arg1 v118
  let c0_i32_88 : BitVec 32 := 0#32
  let v121 : BitVec 1 := Scalar.cmpi .sgt v119 c0_i32_88
  let v122 : BitVec 32 := Scalar.extui v121
  let c0_i32_89 : BitVec 32 := 0#32
  let v123 : BitVec 1 := Scalar.cmpi .slt v119 c0_i32_89
  let v124 : BitVec 32 := Scalar.extui v123
  let v125 : BitVec 32 := Scalar.subi v122 v124
  let c4_i32 : BitVec 32 := 4#32
  let c0_i32_90 : BitVec 32 := 0#32
  let v126 : BitVec 1 := Scalar.cmpi .sgt c4_i32 c0_i32_90
  let v127 : BitVec 32 := Scalar.extui v126
  let c0_i32_91 : BitVec 32 := 0#32
  let v128 : BitVec 1 := Scalar.cmpi .slt c4_i32 c0_i32_91
  let v129 : BitVec 32 := Scalar.extui v128
  let v130 : BitVec 32 := Scalar.subi v127 v129
  let v131 : BitVec 1 := Scalar.cmpi .ne v125 v130
  let v132 : BitVec 32 := Scalar.remsi v119 c4_i32
  let c0_i32_92 : BitVec 32 := 0#32
  let v133 : BitVec 1 := Scalar.cmpi .ne v132 c0_i32_92
  let v134 : BitVec 1 := Scalar.andi v131 v133
  let v120 : BitVec 32 := Scalar.divsi v119 c4_i32
  let c1_i32_93 : BitVec 32 := 1#32
  let v135 : BitVec 32 := Scalar.subi v120 c1_i32_93
  let v136 : BitVec 32 := Scalar.select v134 v135 v120
  let v137 : BitVec 32 := Scalar.subi v136 c0_i32_95
  let c1_i32_96 : BitVec 32 := 1#32
  let v139 : BitVec 32 := Scalar.divsi v137 c1_i32_96
  let v140 : BitVec 32 := Scalar.muli v139 c1_i32_96
  let v141 : BitVec 32 := Scalar.addi c0_i32_95 v140
  let c1_i32_98 : BitVec 32 := 1#32
  let arg17 : BitVec 32 := Scf.iv v141 c1_i32_98 k0_t4
  let v252 : BitVec 32 := Scalar.muli c4_i32_148 arg17
  let v253 : BitVec 32 := Scalar.addi v118 v252
  let c0_i32_149 : BitVec 32 := 0#32
  let v254 : BitVec 32 := Scalar.addi v253 c0_i32_149
  let c1_i32_221 : BitVec 32 := 1#32
  let v339 : BitVec 32 := Scalar.subi v254 c1_i32_221
  let c0_i32_222 : BitVec 32 := 0#32
  let v340 : BitVec 32 := Scalar.maxsi v339 c0_i32_222
  let c256_i32_223 : BitVec 32 := 256#32
  let v341 : BitVec 32 := Scalar.muli v340 c256_i32_223
  v341
def k0_off20 (i : grid0.Coords) (k0_t4 : Fin (k0_t4_loop i).trips) (c0_i32_149 : BitVec 32) : Fin 3 → Nat :=
  let c1_224 : Index := 1#32
  let c0_225 : Index := 0#32
  let c0_i32_87 : BitVec 32 := 0#32
  let c8_i32_86 : BitVec 32 := 8#32
  let arg1 : BitVec 32 := BitVec.ofNat 32 (i 1).val
  let c0_i32_75 : BitVec 32 := 0#32
  let v94 : BitVec 32 := Scalar.subi arg1 c0_i32_75
  let c0_i32_76 : BitVec 32 := 0#32
  let v96 : BitVec 1 := Scalar.cmpi .sgt v94 c0_i32_76
  let v97 : BitVec 32 := Scalar.extui v96
  let c0_i32_77 : BitVec 32 := 0#32
  let v98 : BitVec 1 := Scalar.cmpi .slt v94 c0_i32_77
  let v99 : BitVec 32 := Scalar.extui v98
  let v100 : BitVec 32 := Scalar.subi v97 v99
  let c8_i32 : BitVec 32 := 8#32
  let c0_i32_78 : BitVec 32 := 0#32
  let v101 : BitVec 1 := Scalar.cmpi .sgt c8_i32 c0_i32_78
  let v102 : BitVec 32 := Scalar.extui v101
  let c0_i32_79 : BitVec 32 := 0#32
  let v103 : BitVec 1 := Scalar.cmpi .slt c8_i32 c0_i32_79
  let v104 : BitVec 32 := Scalar.extui v103
  let v105 : BitVec 32 := Scalar.subi v102 v104
  let v106 : BitVec 1 := Scalar.cmpi .ne v100 v105
  let v107 : BitVec 32 := Scalar.remsi v94 c8_i32
  let c0_i32_80 : BitVec 32 := 0#32
  let v108 : BitVec 1 := Scalar.cmpi .ne v107 c0_i32_80
  let v109 : BitVec 1 := Scalar.andi v106 v108
  let v95 : BitVec 32 := Scalar.divsi v94 c8_i32
  let c1_i32 : BitVec 32 := 1#32
  let v110 : BitVec 32 := Scalar.subi v95 c1_i32
  let v111 : BitVec 32 := Scalar.select v109 v110 v95
  let v117 : BitVec 32 := Scalar.muli c8_i32_86 v111
  let v118 : BitVec 32 := Scalar.addi c0_i32_87 v117
  let c4_i32_148 : BitVec 32 := 4#32
  let c0_i32_95 : BitVec 32 := 0#32
  let v119 : BitVec 32 := Scalar.subi arg1 v118
  let c0_i32_88 : BitVec 32 := 0#32
  let v121 : BitVec 1 := Scalar.cmpi .sgt v119 c0_i32_88
  let v122 : BitVec 32 := Scalar.extui v121
  let c0_i32_89 : BitVec 32 := 0#32
  let v123 : BitVec 1 := Scalar.cmpi .slt v119 c0_i32_89
  let v124 : BitVec 32 := Scalar.extui v123
  let v125 : BitVec 32 := Scalar.subi v122 v124
  let c4_i32 : BitVec 32 := 4#32
  let c0_i32_90 : BitVec 32 := 0#32
  let v126 : BitVec 1 := Scalar.cmpi .sgt c4_i32 c0_i32_90
  let v127 : BitVec 32 := Scalar.extui v126
  let c0_i32_91 : BitVec 32 := 0#32
  let v128 : BitVec 1 := Scalar.cmpi .slt c4_i32 c0_i32_91
  let v129 : BitVec 32 := Scalar.extui v128
  let v130 : BitVec 32 := Scalar.subi v127 v129
  let v131 : BitVec 1 := Scalar.cmpi .ne v125 v130
  let v132 : BitVec 32 := Scalar.remsi v119 c4_i32
  let c0_i32_92 : BitVec 32 := 0#32
  let v133 : BitVec 1 := Scalar.cmpi .ne v132 c0_i32_92
  let v134 : BitVec 1 := Scalar.andi v131 v133
  let v120 : BitVec 32 := Scalar.divsi v119 c4_i32
  let c1_i32_93 : BitVec 32 := 1#32
  let v135 : BitVec 32 := Scalar.subi v120 c1_i32_93
  let v136 : BitVec 32 := Scalar.select v134 v135 v120
  let v137 : BitVec 32 := Scalar.subi v136 c0_i32_95
  let c1_i32_96 : BitVec 32 := 1#32
  let v139 : BitVec 32 := Scalar.divsi v137 c1_i32_96
  let v140 : BitVec 32 := Scalar.muli v139 c1_i32_96
  let v141 : BitVec 32 := Scalar.addi c0_i32_95 v140
  let c1_i32_98 : BitVec 32 := 1#32
  let arg17 : BitVec 32 := Scf.iv v141 c1_i32_98 k0_t4
  let v252 : BitVec 32 := Scalar.muli c4_i32_148 arg17
  let v253 : BitVec 32 := Scalar.addi v118 v252
  let v254 : BitVec 32 := Scalar.addi v253 c0_i32_149
  let c1_i32_221 : BitVec 32 := 1#32
  let v339 : BitVec 32 := Scalar.subi v254 c1_i32_221
  let c0_i32_222 : BitVec 32 := 0#32
  let v340 : BitVec 32 := Scalar.maxsi v339 c0_i32_222
  let c256_i32_223 : BitVec 32 := 256#32
  let v341 : BitVec 32 := Scalar.muli v340 c256_i32_223
  let v342 : BitVec 32 := v341
  let v343 : Index := Scalar.indexCast v342
  ![1, 0, v343.toNat]
def k0_mult87 (i : grid0.Coords) (k0_t4 : Fin (k0_t4_loop i).trips) : BitVec 32 :=
  let c0_i32_87 : BitVec 32 := 0#32
  let c8_i32_86 : BitVec 32 := 8#32
  let arg1 : BitVec 32 := BitVec.ofNat 32 (i 1).val
  let c0_i32_75 : BitVec 32 := 0#32
  let v94 : BitVec 32 := Scalar.subi arg1 c0_i32_75
  let c0_i32_76 : BitVec 32 := 0#32
  let v96 : BitVec 1 := Scalar.cmpi .sgt v94 c0_i32_76
  let v97 : BitVec 32 := Scalar.extui v96
  let c0_i32_77 : BitVec 32 := 0#32
  let v98 : BitVec 1 := Scalar.cmpi .slt v94 c0_i32_77
  let v99 : BitVec 32 := Scalar.extui v98
  let v100 : BitVec 32 := Scalar.subi v97 v99
  let c8_i32 : BitVec 32 := 8#32
  let c0_i32_78 : BitVec 32 := 0#32
  let v101 : BitVec 1 := Scalar.cmpi .sgt c8_i32 c0_i32_78
  let v102 : BitVec 32 := Scalar.extui v101
  let c0_i32_79 : BitVec 32 := 0#32
  let v103 : BitVec 1 := Scalar.cmpi .slt c8_i32 c0_i32_79
  let v104 : BitVec 32 := Scalar.extui v103
  let v105 : BitVec 32 := Scalar.subi v102 v104
  let v106 : BitVec 1 := Scalar.cmpi .ne v100 v105
  let v107 : BitVec 32 := Scalar.remsi v94 c8_i32
  let c0_i32_80 : BitVec 32 := 0#32
  let v108 : BitVec 1 := Scalar.cmpi .ne v107 c0_i32_80
  let v109 : BitVec 1 := Scalar.andi v106 v108
  let v95 : BitVec 32 := Scalar.divsi v94 c8_i32
  let c1_i32 : BitVec 32 := 1#32
  let v110 : BitVec 32 := Scalar.subi v95 c1_i32
  let v111 : BitVec 32 := Scalar.select v109 v110 v95
  let v117 : BitVec 32 := Scalar.muli c8_i32_86 v111
  let v118 : BitVec 32 := Scalar.addi c0_i32_87 v117
  let c4_i32_265 : BitVec 32 := 4#32
  let c0_i32_95 : BitVec 32 := 0#32
  let v119 : BitVec 32 := Scalar.subi arg1 v118
  let c0_i32_88 : BitVec 32 := 0#32
  let v121 : BitVec 1 := Scalar.cmpi .sgt v119 c0_i32_88
  let v122 : BitVec 32 := Scalar.extui v121
  let c0_i32_89 : BitVec 32 := 0#32
  let v123 : BitVec 1 := Scalar.cmpi .slt v119 c0_i32_89
  let v124 : BitVec 32 := Scalar.extui v123
  let v125 : BitVec 32 := Scalar.subi v122 v124
  let c4_i32 : BitVec 32 := 4#32
  let c0_i32_90 : BitVec 32 := 0#32
  let v126 : BitVec 1 := Scalar.cmpi .sgt c4_i32 c0_i32_90
  let v127 : BitVec 32 := Scalar.extui v126
  let c0_i32_91 : BitVec 32 := 0#32
  let v128 : BitVec 1 := Scalar.cmpi .slt c4_i32 c0_i32_91
  let v129 : BitVec 32 := Scalar.extui v128
  let v130 : BitVec 32 := Scalar.subi v127 v129
  let v131 : BitVec 1 := Scalar.cmpi .ne v125 v130
  let v132 : BitVec 32 := Scalar.remsi v119 c4_i32
  let c0_i32_92 : BitVec 32 := 0#32
  let v133 : BitVec 1 := Scalar.cmpi .ne v132 c0_i32_92
  let v134 : BitVec 1 := Scalar.andi v131 v133
  let v120 : BitVec 32 := Scalar.divsi v119 c4_i32
  let c1_i32_93 : BitVec 32 := 1#32
  let v135 : BitVec 32 := Scalar.subi v120 c1_i32_93
  let v136 : BitVec 32 := Scalar.select v134 v135 v120
  let v137 : BitVec 32 := Scalar.subi v136 c0_i32_95
  let c1_i32_96 : BitVec 32 := 1#32
  let v139 : BitVec 32 := Scalar.divsi v137 c1_i32_96
  let v140 : BitVec 32 := Scalar.muli v139 c1_i32_96
  let v141 : BitVec 32 := Scalar.addi c0_i32_95 v140
  let c1_i32_98 : BitVec 32 := 1#32
  let arg17 : BitVec 32 := Scf.iv v141 c1_i32_98 k0_t4
  let v395 : BitVec 32 := Scalar.muli c4_i32_265 arg17
  let v396 : BitVec 32 := Scalar.addi v118 v395
  let c1_i32_266 : BitVec 32 := 1#32
  let v397 : BitVec 32 := Scalar.addi v396 c1_i32_266
  let c1_i32_267 : BitVec 32 := 1#32
  let v398 : BitVec 32 := Scalar.addi v397 c1_i32_267
  let c256_i32_268 : BitVec 32 := 256#32
  let v399 : BitVec 32 := Scalar.muli v398 c256_i32_268
  v399
def k0_mult88 (i : grid0.Coords) (k0_t4 : Fin (k0_t4_loop i).trips) : BitVec 32 :=
  let c0_i32_87 : BitVec 32 := 0#32
  let c8_i32_86 : BitVec 32 := 8#32
  let arg1 : BitVec 32 := BitVec.ofNat 32 (i 1).val
  let c0_i32_75 : BitVec 32 := 0#32
  let v94 : BitVec 32 := Scalar.subi arg1 c0_i32_75
  let c0_i32_76 : BitVec 32 := 0#32
  let v96 : BitVec 1 := Scalar.cmpi .sgt v94 c0_i32_76
  let v97 : BitVec 32 := Scalar.extui v96
  let c0_i32_77 : BitVec 32 := 0#32
  let v98 : BitVec 1 := Scalar.cmpi .slt v94 c0_i32_77
  let v99 : BitVec 32 := Scalar.extui v98
  let v100 : BitVec 32 := Scalar.subi v97 v99
  let c8_i32 : BitVec 32 := 8#32
  let c0_i32_78 : BitVec 32 := 0#32
  let v101 : BitVec 1 := Scalar.cmpi .sgt c8_i32 c0_i32_78
  let v102 : BitVec 32 := Scalar.extui v101
  let c0_i32_79 : BitVec 32 := 0#32
  let v103 : BitVec 1 := Scalar.cmpi .slt c8_i32 c0_i32_79
  let v104 : BitVec 32 := Scalar.extui v103
  let v105 : BitVec 32 := Scalar.subi v102 v104
  let v106 : BitVec 1 := Scalar.cmpi .ne v100 v105
  let v107 : BitVec 32 := Scalar.remsi v94 c8_i32
  let c0_i32_80 : BitVec 32 := 0#32
  let v108 : BitVec 1 := Scalar.cmpi .ne v107 c0_i32_80
  let v109 : BitVec 1 := Scalar.andi v106 v108
  let v95 : BitVec 32 := Scalar.divsi v94 c8_i32
  let c1_i32 : BitVec 32 := 1#32
  let v110 : BitVec 32 := Scalar.subi v95 c1_i32
  let v111 : BitVec 32 := Scalar.select v109 v110 v95
  let v117 : BitVec 32 := Scalar.muli c8_i32_86 v111
  let v118 : BitVec 32 := Scalar.addi c0_i32_87 v117
  let c4_i32_265 : BitVec 32 := 4#32
  let c0_i32_95 : BitVec 32 := 0#32
  let v119 : BitVec 32 := Scalar.subi arg1 v118
  let c0_i32_88 : BitVec 32 := 0#32
  let v121 : BitVec 1 := Scalar.cmpi .sgt v119 c0_i32_88
  let v122 : BitVec 32 := Scalar.extui v121
  let c0_i32_89 : BitVec 32 := 0#32
  let v123 : BitVec 1 := Scalar.cmpi .slt v119 c0_i32_89
  let v124 : BitVec 32 := Scalar.extui v123
  let v125 : BitVec 32 := Scalar.subi v122 v124
  let c4_i32 : BitVec 32 := 4#32
  let c0_i32_90 : BitVec 32 := 0#32
  let v126 : BitVec 1 := Scalar.cmpi .sgt c4_i32 c0_i32_90
  let v127 : BitVec 32 := Scalar.extui v126
  let c0_i32_91 : BitVec 32 := 0#32
  let v128 : BitVec 1 := Scalar.cmpi .slt c4_i32 c0_i32_91
  let v129 : BitVec 32 := Scalar.extui v128
  let v130 : BitVec 32 := Scalar.subi v127 v129
  let v131 : BitVec 1 := Scalar.cmpi .ne v125 v130
  let v132 : BitVec 32 := Scalar.remsi v119 c4_i32
  let c0_i32_92 : BitVec 32 := 0#32
  let v133 : BitVec 1 := Scalar.cmpi .ne v132 c0_i32_92
  let v134 : BitVec 1 := Scalar.andi v131 v133
  let v120 : BitVec 32 := Scalar.divsi v119 c4_i32
  let c1_i32_93 : BitVec 32 := 1#32
  let v135 : BitVec 32 := Scalar.subi v120 c1_i32_93
  let v136 : BitVec 32 := Scalar.select v134 v135 v120
  let v137 : BitVec 32 := Scalar.subi v136 c0_i32_95
  let c1_i32_96 : BitVec 32 := 1#32
  let v139 : BitVec 32 := Scalar.divsi v137 c1_i32_96
  let v140 : BitVec 32 := Scalar.muli v139 c1_i32_96
  let v141 : BitVec 32 := Scalar.addi c0_i32_95 v140
  let c1_i32_98 : BitVec 32 := 1#32
  let arg17 : BitVec 32 := Scf.iv v141 c1_i32_98 k0_t4
  let v395 : BitVec 32 := Scalar.muli c4_i32_265 arg17
  let v396 : BitVec 32 := Scalar.addi v118 v395
  let c1_i32_266 : BitVec 32 := 1#32
  let v397 : BitVec 32 := Scalar.addi v396 c1_i32_266
  let c1_i32_281 : BitVec 32 := 1#32
  let v412 : BitVec 32 := Scalar.subi v397 c1_i32_281
  let c0_i32_282 : BitVec 32 := 0#32
  let v413 : BitVec 32 := Scalar.maxsi v412 c0_i32_282
  let c256_i32_283 : BitVec 32 := 256#32
  let v414 : BitVec 32 := Scalar.muli v413 c256_i32_283
  v414
def k0_mult89 (i : grid0.Coords) (k0_t4 : Fin (k0_t4_loop i).trips) : BitVec 32 :=
  let c0_i32_87 : BitVec 32 := 0#32
  let c8_i32_86 : BitVec 32 := 8#32
  let arg1 : BitVec 32 := BitVec.ofNat 32 (i 1).val
  let c0_i32_75 : BitVec 32 := 0#32
  let v94 : BitVec 32 := Scalar.subi arg1 c0_i32_75
  let c0_i32_76 : BitVec 32 := 0#32
  let v96 : BitVec 1 := Scalar.cmpi .sgt v94 c0_i32_76
  let v97 : BitVec 32 := Scalar.extui v96
  let c0_i32_77 : BitVec 32 := 0#32
  let v98 : BitVec 1 := Scalar.cmpi .slt v94 c0_i32_77
  let v99 : BitVec 32 := Scalar.extui v98
  let v100 : BitVec 32 := Scalar.subi v97 v99
  let c8_i32 : BitVec 32 := 8#32
  let c0_i32_78 : BitVec 32 := 0#32
  let v101 : BitVec 1 := Scalar.cmpi .sgt c8_i32 c0_i32_78
  let v102 : BitVec 32 := Scalar.extui v101
  let c0_i32_79 : BitVec 32 := 0#32
  let v103 : BitVec 1 := Scalar.cmpi .slt c8_i32 c0_i32_79
  let v104 : BitVec 32 := Scalar.extui v103
  let v105 : BitVec 32 := Scalar.subi v102 v104
  let v106 : BitVec 1 := Scalar.cmpi .ne v100 v105
  let v107 : BitVec 32 := Scalar.remsi v94 c8_i32
  let c0_i32_80 : BitVec 32 := 0#32
  let v108 : BitVec 1 := Scalar.cmpi .ne v107 c0_i32_80
  let v109 : BitVec 1 := Scalar.andi v106 v108
  let v95 : BitVec 32 := Scalar.divsi v94 c8_i32
  let c1_i32 : BitVec 32 := 1#32
  let v110 : BitVec 32 := Scalar.subi v95 c1_i32
  let v111 : BitVec 32 := Scalar.select v109 v110 v95
  let v117 : BitVec 32 := Scalar.muli c8_i32_86 v111
  let v118 : BitVec 32 := Scalar.addi c0_i32_87 v117
  let c4_i32_265 : BitVec 32 := 4#32
  let c0_i32_95 : BitVec 32 := 0#32
  let v119 : BitVec 32 := Scalar.subi arg1 v118
  let c0_i32_88 : BitVec 32 := 0#32
  let v121 : BitVec 1 := Scalar.cmpi .sgt v119 c0_i32_88
  let v122 : BitVec 32 := Scalar.extui v121
  let c0_i32_89 : BitVec 32 := 0#32
  let v123 : BitVec 1 := Scalar.cmpi .slt v119 c0_i32_89
  let v124 : BitVec 32 := Scalar.extui v123
  let v125 : BitVec 32 := Scalar.subi v122 v124
  let c4_i32 : BitVec 32 := 4#32
  let c0_i32_90 : BitVec 32 := 0#32
  let v126 : BitVec 1 := Scalar.cmpi .sgt c4_i32 c0_i32_90
  let v127 : BitVec 32 := Scalar.extui v126
  let c0_i32_91 : BitVec 32 := 0#32
  let v128 : BitVec 1 := Scalar.cmpi .slt c4_i32 c0_i32_91
  let v129 : BitVec 32 := Scalar.extui v128
  let v130 : BitVec 32 := Scalar.subi v127 v129
  let v131 : BitVec 1 := Scalar.cmpi .ne v125 v130
  let v132 : BitVec 32 := Scalar.remsi v119 c4_i32
  let c0_i32_92 : BitVec 32 := 0#32
  let v133 : BitVec 1 := Scalar.cmpi .ne v132 c0_i32_92
  let v134 : BitVec 1 := Scalar.andi v131 v133
  let v120 : BitVec 32 := Scalar.divsi v119 c4_i32
  let c1_i32_93 : BitVec 32 := 1#32
  let v135 : BitVec 32 := Scalar.subi v120 c1_i32_93
  let v136 : BitVec 32 := Scalar.select v134 v135 v120
  let v137 : BitVec 32 := Scalar.subi v136 c0_i32_95
  let c1_i32_96 : BitVec 32 := 1#32
  let v139 : BitVec 32 := Scalar.divsi v137 c1_i32_96
  let v140 : BitVec 32 := Scalar.muli v139 c1_i32_96
  let v141 : BitVec 32 := Scalar.addi c0_i32_95 v140
  let c1_i32_98 : BitVec 32 := 1#32
  let arg17 : BitVec 32 := Scf.iv v141 c1_i32_98 k0_t4
  let v395 : BitVec 32 := Scalar.muli c4_i32_265 arg17
  let v396 : BitVec 32 := Scalar.addi v118 v395
  let c1_i32_266 : BitVec 32 := 1#32
  let v397 : BitVec 32 := Scalar.addi v396 c1_i32_266
  let c1_i32_325 : BitVec 32 := 1#32
  let v468 : BitVec 32 := Scalar.addi v397 c1_i32_325
  let c256_i32_326 : BitVec 32 := 256#32
  let v469 : BitVec 32 := Scalar.muli v468 c256_i32_326
  v469
def k0_mult90 (i : grid0.Coords) (k0_t4 : Fin (k0_t4_loop i).trips) : BitVec 32 :=
  let c0_i32_87 : BitVec 32 := 0#32
  let c8_i32_86 : BitVec 32 := 8#32
  let arg1 : BitVec 32 := BitVec.ofNat 32 (i 1).val
  let c0_i32_75 : BitVec 32 := 0#32
  let v94 : BitVec 32 := Scalar.subi arg1 c0_i32_75
  let c0_i32_76 : BitVec 32 := 0#32
  let v96 : BitVec 1 := Scalar.cmpi .sgt v94 c0_i32_76
  let v97 : BitVec 32 := Scalar.extui v96
  let c0_i32_77 : BitVec 32 := 0#32
  let v98 : BitVec 1 := Scalar.cmpi .slt v94 c0_i32_77
  let v99 : BitVec 32 := Scalar.extui v98
  let v100 : BitVec 32 := Scalar.subi v97 v99
  let c8_i32 : BitVec 32 := 8#32
  let c0_i32_78 : BitVec 32 := 0#32
  let v101 : BitVec 1 := Scalar.cmpi .sgt c8_i32 c0_i32_78
  let v102 : BitVec 32 := Scalar.extui v101
  let c0_i32_79 : BitVec 32 := 0#32
  let v103 : BitVec 1 := Scalar.cmpi .slt c8_i32 c0_i32_79
  let v104 : BitVec 32 := Scalar.extui v103
  let v105 : BitVec 32 := Scalar.subi v102 v104
  let v106 : BitVec 1 := Scalar.cmpi .ne v100 v105
  let v107 : BitVec 32 := Scalar.remsi v94 c8_i32
  let c0_i32_80 : BitVec 32 := 0#32
  let v108 : BitVec 1 := Scalar.cmpi .ne v107 c0_i32_80
  let v109 : BitVec 1 := Scalar.andi v106 v108
  let v95 : BitVec 32 := Scalar.divsi v94 c8_i32
  let c1_i32 : BitVec 32 := 1#32
  let v110 : BitVec 32 := Scalar.subi v95 c1_i32
  let v111 : BitVec 32 := Scalar.select v109 v110 v95
  let v117 : BitVec 32 := Scalar.muli c8_i32_86 v111
  let v118 : BitVec 32 := Scalar.addi c0_i32_87 v117
  let c4_i32_265 : BitVec 32 := 4#32
  let c0_i32_95 : BitVec 32 := 0#32
  let v119 : BitVec 32 := Scalar.subi arg1 v118
  let c0_i32_88 : BitVec 32 := 0#32
  let v121 : BitVec 1 := Scalar.cmpi .sgt v119 c0_i32_88
  let v122 : BitVec 32 := Scalar.extui v121
  let c0_i32_89 : BitVec 32 := 0#32
  let v123 : BitVec 1 := Scalar.cmpi .slt v119 c0_i32_89
  let v124 : BitVec 32 := Scalar.extui v123
  let v125 : BitVec 32 := Scalar.subi v122 v124
  let c4_i32 : BitVec 32 := 4#32
  let c0_i32_90 : BitVec 32 := 0#32
  let v126 : BitVec 1 := Scalar.cmpi .sgt c4_i32 c0_i32_90
  let v127 : BitVec 32 := Scalar.extui v126
  let c0_i32_91 : BitVec 32 := 0#32
  let v128 : BitVec 1 := Scalar.cmpi .slt c4_i32 c0_i32_91
  let v129 : BitVec 32 := Scalar.extui v128
  let v130 : BitVec 32 := Scalar.subi v127 v129
  let v131 : BitVec 1 := Scalar.cmpi .ne v125 v130
  let v132 : BitVec 32 := Scalar.remsi v119 c4_i32
  let c0_i32_92 : BitVec 32 := 0#32
  let v133 : BitVec 1 := Scalar.cmpi .ne v132 c0_i32_92
  let v134 : BitVec 1 := Scalar.andi v131 v133
  let v120 : BitVec 32 := Scalar.divsi v119 c4_i32
  let c1_i32_93 : BitVec 32 := 1#32
  let v135 : BitVec 32 := Scalar.subi v120 c1_i32_93
  let v136 : BitVec 32 := Scalar.select v134 v135 v120
  let v137 : BitVec 32 := Scalar.subi v136 c0_i32_95
  let c1_i32_96 : BitVec 32 := 1#32
  let v139 : BitVec 32 := Scalar.divsi v137 c1_i32_96
  let v140 : BitVec 32 := Scalar.muli v139 c1_i32_96
  let v141 : BitVec 32 := Scalar.addi c0_i32_95 v140
  let c1_i32_98 : BitVec 32 := 1#32
  let arg17 : BitVec 32 := Scf.iv v141 c1_i32_98 k0_t4
  let v395 : BitVec 32 := Scalar.muli c4_i32_265 arg17
  let v396 : BitVec 32 := Scalar.addi v118 v395
  let c1_i32_266 : BitVec 32 := 1#32
  let v397 : BitVec 32 := Scalar.addi v396 c1_i32_266
  let c1_i32_339 : BitVec 32 := 1#32
  let v482 : BitVec 32 := Scalar.subi v397 c1_i32_339
  let c0_i32_340 : BitVec 32 := 0#32
  let v483 : BitVec 32 := Scalar.maxsi v482 c0_i32_340
  let c256_i32_341 : BitVec 32 := 256#32
  let v484 : BitVec 32 := Scalar.muli v483 c256_i32_341
  v484
def k0_mult91 (i : grid0.Coords) (k0_t4 : Fin (k0_t4_loop i).trips) : BitVec 32 :=
  let c0_i32_87 : BitVec 32 := 0#32
  let c8_i32_86 : BitVec 32 := 8#32
  let arg1 : BitVec 32 := BitVec.ofNat 32 (i 1).val
  let c0_i32_75 : BitVec 32 := 0#32
  let v94 : BitVec 32 := Scalar.subi arg1 c0_i32_75
  let c0_i32_76 : BitVec 32 := 0#32
  let v96 : BitVec 1 := Scalar.cmpi .sgt v94 c0_i32_76
  let v97 : BitVec 32 := Scalar.extui v96
  let c0_i32_77 : BitVec 32 := 0#32
  let v98 : BitVec 1 := Scalar.cmpi .slt v94 c0_i32_77
  let v99 : BitVec 32 := Scalar.extui v98
  let v100 : BitVec 32 := Scalar.subi v97 v99
  let c8_i32 : BitVec 32 := 8#32
  let c0_i32_78 : BitVec 32 := 0#32
  let v101 : BitVec 1 := Scalar.cmpi .sgt c8_i32 c0_i32_78
  let v102 : BitVec 32 := Scalar.extui v101
  let c0_i32_79 : BitVec 32 := 0#32
  let v103 : BitVec 1 := Scalar.cmpi .slt c8_i32 c0_i32_79
  let v104 : BitVec 32 := Scalar.extui v103
  let v105 : BitVec 32 := Scalar.subi v102 v104
  let v106 : BitVec 1 := Scalar.cmpi .ne v100 v105
  let v107 : BitVec 32 := Scalar.remsi v94 c8_i32
  let c0_i32_80 : BitVec 32 := 0#32
  let v108 : BitVec 1 := Scalar.cmpi .ne v107 c0_i32_80
  let v109 : BitVec 1 := Scalar.andi v106 v108
  let v95 : BitVec 32 := Scalar.divsi v94 c8_i32
  let c1_i32 : BitVec 32 := 1#32
  let v110 : BitVec 32 := Scalar.subi v95 c1_i32
  let v111 : BitVec 32 := Scalar.select v109 v110 v95
  let v117 : BitVec 32 := Scalar.muli c8_i32_86 v111
  let v118 : BitVec 32 := Scalar.addi c0_i32_87 v117
  let c4_i32_383 : BitVec 32 := 4#32
  let c0_i32_95 : BitVec 32 := 0#32
  let v119 : BitVec 32 := Scalar.subi arg1 v118
  let c0_i32_88 : BitVec 32 := 0#32
  let v121 : BitVec 1 := Scalar.cmpi .sgt v119 c0_i32_88
  let v122 : BitVec 32 := Scalar.extui v121
  let c0_i32_89 : BitVec 32 := 0#32
  let v123 : BitVec 1 := Scalar.cmpi .slt v119 c0_i32_89
  let v124 : BitVec 32 := Scalar.extui v123
  let v125 : BitVec 32 := Scalar.subi v122 v124
  let c4_i32 : BitVec 32 := 4#32
  let c0_i32_90 : BitVec 32 := 0#32
  let v126 : BitVec 1 := Scalar.cmpi .sgt c4_i32 c0_i32_90
  let v127 : BitVec 32 := Scalar.extui v126
  let c0_i32_91 : BitVec 32 := 0#32
  let v128 : BitVec 1 := Scalar.cmpi .slt c4_i32 c0_i32_91
  let v129 : BitVec 32 := Scalar.extui v128
  let v130 : BitVec 32 := Scalar.subi v127 v129
  let v131 : BitVec 1 := Scalar.cmpi .ne v125 v130
  let v132 : BitVec 32 := Scalar.remsi v119 c4_i32
  let c0_i32_92 : BitVec 32 := 0#32
  let v133 : BitVec 1 := Scalar.cmpi .ne v132 c0_i32_92
  let v134 : BitVec 1 := Scalar.andi v131 v133
  let v120 : BitVec 32 := Scalar.divsi v119 c4_i32
  let c1_i32_93 : BitVec 32 := 1#32
  let v135 : BitVec 32 := Scalar.subi v120 c1_i32_93
  let v136 : BitVec 32 := Scalar.select v134 v135 v120
  let v137 : BitVec 32 := Scalar.subi v136 c0_i32_95
  let c1_i32_96 : BitVec 32 := 1#32
  let v139 : BitVec 32 := Scalar.divsi v137 c1_i32_96
  let v140 : BitVec 32 := Scalar.muli v139 c1_i32_96
  let v141 : BitVec 32 := Scalar.addi c0_i32_95 v140
  let c1_i32_98 : BitVec 32 := 1#32
  let arg17 : BitVec 32 := Scf.iv v141 c1_i32_98 k0_t4
  let v538 : BitVec 32 := Scalar.muli c4_i32_383 arg17
  let v539 : BitVec 32 := Scalar.addi v118 v538
  let c2_i32_384 : BitVec 32 := 2#32
  let v540 : BitVec 32 := Scalar.addi v539 c2_i32_384
  let c1_i32_385 : BitVec 32 := 1#32
  let v541 : BitVec 32 := Scalar.addi v540 c1_i32_385
  let c256_i32_386 : BitVec 32 := 256#32
  let v542 : BitVec 32 := Scalar.muli v541 c256_i32_386
  v542
def k0_mult92 (i : grid0.Coords) (k0_t4 : Fin (k0_t4_loop i).trips) : BitVec 32 :=
  let c0_i32_87 : BitVec 32 := 0#32
  let c8_i32_86 : BitVec 32 := 8#32
  let arg1 : BitVec 32 := BitVec.ofNat 32 (i 1).val
  let c0_i32_75 : BitVec 32 := 0#32
  let v94 : BitVec 32 := Scalar.subi arg1 c0_i32_75
  let c0_i32_76 : BitVec 32 := 0#32
  let v96 : BitVec 1 := Scalar.cmpi .sgt v94 c0_i32_76
  let v97 : BitVec 32 := Scalar.extui v96
  let c0_i32_77 : BitVec 32 := 0#32
  let v98 : BitVec 1 := Scalar.cmpi .slt v94 c0_i32_77
  let v99 : BitVec 32 := Scalar.extui v98
  let v100 : BitVec 32 := Scalar.subi v97 v99
  let c8_i32 : BitVec 32 := 8#32
  let c0_i32_78 : BitVec 32 := 0#32
  let v101 : BitVec 1 := Scalar.cmpi .sgt c8_i32 c0_i32_78
  let v102 : BitVec 32 := Scalar.extui v101
  let c0_i32_79 : BitVec 32 := 0#32
  let v103 : BitVec 1 := Scalar.cmpi .slt c8_i32 c0_i32_79
  let v104 : BitVec 32 := Scalar.extui v103
  let v105 : BitVec 32 := Scalar.subi v102 v104
  let v106 : BitVec 1 := Scalar.cmpi .ne v100 v105
  let v107 : BitVec 32 := Scalar.remsi v94 c8_i32
  let c0_i32_80 : BitVec 32 := 0#32
  let v108 : BitVec 1 := Scalar.cmpi .ne v107 c0_i32_80
  let v109 : BitVec 1 := Scalar.andi v106 v108
  let v95 : BitVec 32 := Scalar.divsi v94 c8_i32
  let c1_i32 : BitVec 32 := 1#32
  let v110 : BitVec 32 := Scalar.subi v95 c1_i32
  let v111 : BitVec 32 := Scalar.select v109 v110 v95
  let v117 : BitVec 32 := Scalar.muli c8_i32_86 v111
  let v118 : BitVec 32 := Scalar.addi c0_i32_87 v117
  let c4_i32_383 : BitVec 32 := 4#32
  let c0_i32_95 : BitVec 32 := 0#32
  let v119 : BitVec 32 := Scalar.subi arg1 v118
  let c0_i32_88 : BitVec 32 := 0#32
  let v121 : BitVec 1 := Scalar.cmpi .sgt v119 c0_i32_88
  let v122 : BitVec 32 := Scalar.extui v121
  let c0_i32_89 : BitVec 32 := 0#32
  let v123 : BitVec 1 := Scalar.cmpi .slt v119 c0_i32_89
  let v124 : BitVec 32 := Scalar.extui v123
  let v125 : BitVec 32 := Scalar.subi v122 v124
  let c4_i32 : BitVec 32 := 4#32
  let c0_i32_90 : BitVec 32 := 0#32
  let v126 : BitVec 1 := Scalar.cmpi .sgt c4_i32 c0_i32_90
  let v127 : BitVec 32 := Scalar.extui v126
  let c0_i32_91 : BitVec 32 := 0#32
  let v128 : BitVec 1 := Scalar.cmpi .slt c4_i32 c0_i32_91
  let v129 : BitVec 32 := Scalar.extui v128
  let v130 : BitVec 32 := Scalar.subi v127 v129
  let v131 : BitVec 1 := Scalar.cmpi .ne v125 v130
  let v132 : BitVec 32 := Scalar.remsi v119 c4_i32
  let c0_i32_92 : BitVec 32 := 0#32
  let v133 : BitVec 1 := Scalar.cmpi .ne v132 c0_i32_92
  let v134 : BitVec 1 := Scalar.andi v131 v133
  let v120 : BitVec 32 := Scalar.divsi v119 c4_i32
  let c1_i32_93 : BitVec 32 := 1#32
  let v135 : BitVec 32 := Scalar.subi v120 c1_i32_93
  let v136 : BitVec 32 := Scalar.select v134 v135 v120
  let v137 : BitVec 32 := Scalar.subi v136 c0_i32_95
  let c1_i32_96 : BitVec 32 := 1#32
  let v139 : BitVec 32 := Scalar.divsi v137 c1_i32_96
  let v140 : BitVec 32 := Scalar.muli v139 c1_i32_96
  let v141 : BitVec 32 := Scalar.addi c0_i32_95 v140
  let c1_i32_98 : BitVec 32 := 1#32
  let arg17 : BitVec 32 := Scf.iv v141 c1_i32_98 k0_t4
  let v538 : BitVec 32 := Scalar.muli c4_i32_383 arg17
  let v539 : BitVec 32 := Scalar.addi v118 v538
  let c2_i32_384 : BitVec 32 := 2#32
  let v540 : BitVec 32 := Scalar.addi v539 c2_i32_384
  let c1_i32_399 : BitVec 32 := 1#32
  let v555 : BitVec 32 := Scalar.subi v540 c1_i32_399
  let c0_i32_400 : BitVec 32 := 0#32
  let v556 : BitVec 32 := Scalar.maxsi v555 c0_i32_400
  let c256_i32_401 : BitVec 32 := 256#32
  let v557 : BitVec 32 := Scalar.muli v556 c256_i32_401
  v557
def k0_mult93 (i : grid0.Coords) (k0_t4 : Fin (k0_t4_loop i).trips) : BitVec 32 :=
  let c0_i32_87 : BitVec 32 := 0#32
  let c8_i32_86 : BitVec 32 := 8#32
  let arg1 : BitVec 32 := BitVec.ofNat 32 (i 1).val
  let c0_i32_75 : BitVec 32 := 0#32
  let v94 : BitVec 32 := Scalar.subi arg1 c0_i32_75
  let c0_i32_76 : BitVec 32 := 0#32
  let v96 : BitVec 1 := Scalar.cmpi .sgt v94 c0_i32_76
  let v97 : BitVec 32 := Scalar.extui v96
  let c0_i32_77 : BitVec 32 := 0#32
  let v98 : BitVec 1 := Scalar.cmpi .slt v94 c0_i32_77
  let v99 : BitVec 32 := Scalar.extui v98
  let v100 : BitVec 32 := Scalar.subi v97 v99
  let c8_i32 : BitVec 32 := 8#32
  let c0_i32_78 : BitVec 32 := 0#32
  let v101 : BitVec 1 := Scalar.cmpi .sgt c8_i32 c0_i32_78
  let v102 : BitVec 32 := Scalar.extui v101
  let c0_i32_79 : BitVec 32 := 0#32
  let v103 : BitVec 1 := Scalar.cmpi .slt c8_i32 c0_i32_79
  let v104 : BitVec 32 := Scalar.extui v103
  let v105 : BitVec 32 := Scalar.subi v102 v104
  let v106 : BitVec 1 := Scalar.cmpi .ne v100 v105
  let v107 : BitVec 32 := Scalar.remsi v94 c8_i32
  let c0_i32_80 : BitVec 32 := 0#32
  let v108 : BitVec 1 := Scalar.cmpi .ne v107 c0_i32_80
  let v109 : BitVec 1 := Scalar.andi v106 v108
  let v95 : BitVec 32 := Scalar.divsi v94 c8_i32
  let c1_i32 : BitVec 32 := 1#32
  let v110 : BitVec 32 := Scalar.subi v95 c1_i32
  let v111 : BitVec 32 := Scalar.select v109 v110 v95
  let v117 : BitVec 32 := Scalar.muli c8_i32_86 v111
  let v118 : BitVec 32 := Scalar.addi c0_i32_87 v117
  let c4_i32_383 : BitVec 32 := 4#32
  let c0_i32_95 : BitVec 32 := 0#32
  let v119 : BitVec 32 := Scalar.subi arg1 v118
  let c0_i32_88 : BitVec 32 := 0#32
  let v121 : BitVec 1 := Scalar.cmpi .sgt v119 c0_i32_88
  let v122 : BitVec 32 := Scalar.extui v121
  let c0_i32_89 : BitVec 32 := 0#32
  let v123 : BitVec 1 := Scalar.cmpi .slt v119 c0_i32_89
  let v124 : BitVec 32 := Scalar.extui v123
  let v125 : BitVec 32 := Scalar.subi v122 v124
  let c4_i32 : BitVec 32 := 4#32
  let c0_i32_90 : BitVec 32 := 0#32
  let v126 : BitVec 1 := Scalar.cmpi .sgt c4_i32 c0_i32_90
  let v127 : BitVec 32 := Scalar.extui v126
  let c0_i32_91 : BitVec 32 := 0#32
  let v128 : BitVec 1 := Scalar.cmpi .slt c4_i32 c0_i32_91
  let v129 : BitVec 32 := Scalar.extui v128
  let v130 : BitVec 32 := Scalar.subi v127 v129
  let v131 : BitVec 1 := Scalar.cmpi .ne v125 v130
  let v132 : BitVec 32 := Scalar.remsi v119 c4_i32
  let c0_i32_92 : BitVec 32 := 0#32
  let v133 : BitVec 1 := Scalar.cmpi .ne v132 c0_i32_92
  let v134 : BitVec 1 := Scalar.andi v131 v133
  let v120 : BitVec 32 := Scalar.divsi v119 c4_i32
  let c1_i32_93 : BitVec 32 := 1#32
  let v135 : BitVec 32 := Scalar.subi v120 c1_i32_93
  let v136 : BitVec 32 := Scalar.select v134 v135 v120
  let v137 : BitVec 32 := Scalar.subi v136 c0_i32_95
  let c1_i32_96 : BitVec 32 := 1#32
  let v139 : BitVec 32 := Scalar.divsi v137 c1_i32_96
  let v140 : BitVec 32 := Scalar.muli v139 c1_i32_96
  let v141 : BitVec 32 := Scalar.addi c0_i32_95 v140
  let c1_i32_98 : BitVec 32 := 1#32
  let arg17 : BitVec 32 := Scf.iv v141 c1_i32_98 k0_t4
  let v538 : BitVec 32 := Scalar.muli c4_i32_383 arg17
  let v539 : BitVec 32 := Scalar.addi v118 v538
  let c2_i32_384 : BitVec 32 := 2#32
  let v540 : BitVec 32 := Scalar.addi v539 c2_i32_384
  let c1_i32_443 : BitVec 32 := 1#32
  let v611 : BitVec 32 := Scalar.addi v540 c1_i32_443
  let c256_i32_444 : BitVec 32 := 256#32
  let v612 : BitVec 32 := Scalar.muli v611 c256_i32_444
  v612
def k0_mult94 (i : grid0.Coords) (k0_t4 : Fin (k0_t4_loop i).trips) : BitVec 32 :=
  let c0_i32_87 : BitVec 32 := 0#32
  let c8_i32_86 : BitVec 32 := 8#32
  let arg1 : BitVec 32 := BitVec.ofNat 32 (i 1).val
  let c0_i32_75 : BitVec 32 := 0#32
  let v94 : BitVec 32 := Scalar.subi arg1 c0_i32_75
  let c0_i32_76 : BitVec 32 := 0#32
  let v96 : BitVec 1 := Scalar.cmpi .sgt v94 c0_i32_76
  let v97 : BitVec 32 := Scalar.extui v96
  let c0_i32_77 : BitVec 32 := 0#32
  let v98 : BitVec 1 := Scalar.cmpi .slt v94 c0_i32_77
  let v99 : BitVec 32 := Scalar.extui v98
  let v100 : BitVec 32 := Scalar.subi v97 v99
  let c8_i32 : BitVec 32 := 8#32
  let c0_i32_78 : BitVec 32 := 0#32
  let v101 : BitVec 1 := Scalar.cmpi .sgt c8_i32 c0_i32_78
  let v102 : BitVec 32 := Scalar.extui v101
  let c0_i32_79 : BitVec 32 := 0#32
  let v103 : BitVec 1 := Scalar.cmpi .slt c8_i32 c0_i32_79
  let v104 : BitVec 32 := Scalar.extui v103
  let v105 : BitVec 32 := Scalar.subi v102 v104
  let v106 : BitVec 1 := Scalar.cmpi .ne v100 v105
  let v107 : BitVec 32 := Scalar.remsi v94 c8_i32
  let c0_i32_80 : BitVec 32 := 0#32
  let v108 : BitVec 1 := Scalar.cmpi .ne v107 c0_i32_80
  let v109 : BitVec 1 := Scalar.andi v106 v108
  let v95 : BitVec 32 := Scalar.divsi v94 c8_i32
  let c1_i32 : BitVec 32 := 1#32
  let v110 : BitVec 32 := Scalar.subi v95 c1_i32
  let v111 : BitVec 32 := Scalar.select v109 v110 v95
  let v117 : BitVec 32 := Scalar.muli c8_i32_86 v111
  let v118 : BitVec 32 := Scalar.addi c0_i32_87 v117
  let c4_i32_383 : BitVec 32 := 4#32
  let c0_i32_95 : BitVec 32 := 0#32
  let v119 : BitVec 32 := Scalar.subi arg1 v118
  let c0_i32_88 : BitVec 32 := 0#32
  let v121 : BitVec 1 := Scalar.cmpi .sgt v119 c0_i32_88
  let v122 : BitVec 32 := Scalar.extui v121
  let c0_i32_89 : BitVec 32 := 0#32
  let v123 : BitVec 1 := Scalar.cmpi .slt v119 c0_i32_89
  let v124 : BitVec 32 := Scalar.extui v123
  let v125 : BitVec 32 := Scalar.subi v122 v124
  let c4_i32 : BitVec 32 := 4#32
  let c0_i32_90 : BitVec 32 := 0#32
  let v126 : BitVec 1 := Scalar.cmpi .sgt c4_i32 c0_i32_90
  let v127 : BitVec 32 := Scalar.extui v126
  let c0_i32_91 : BitVec 32 := 0#32
  let v128 : BitVec 1 := Scalar.cmpi .slt c4_i32 c0_i32_91
  let v129 : BitVec 32 := Scalar.extui v128
  let v130 : BitVec 32 := Scalar.subi v127 v129
  let v131 : BitVec 1 := Scalar.cmpi .ne v125 v130
  let v132 : BitVec 32 := Scalar.remsi v119 c4_i32
  let c0_i32_92 : BitVec 32 := 0#32
  let v133 : BitVec 1 := Scalar.cmpi .ne v132 c0_i32_92
  let v134 : BitVec 1 := Scalar.andi v131 v133
  let v120 : BitVec 32 := Scalar.divsi v119 c4_i32
  let c1_i32_93 : BitVec 32 := 1#32
  let v135 : BitVec 32 := Scalar.subi v120 c1_i32_93
  let v136 : BitVec 32 := Scalar.select v134 v135 v120
  let v137 : BitVec 32 := Scalar.subi v136 c0_i32_95
  let c1_i32_96 : BitVec 32 := 1#32
  let v139 : BitVec 32 := Scalar.divsi v137 c1_i32_96
  let v140 : BitVec 32 := Scalar.muli v139 c1_i32_96
  let v141 : BitVec 32 := Scalar.addi c0_i32_95 v140
  let c1_i32_98 : BitVec 32 := 1#32
  let arg17 : BitVec 32 := Scf.iv v141 c1_i32_98 k0_t4
  let v538 : BitVec 32 := Scalar.muli c4_i32_383 arg17
  let v539 : BitVec 32 := Scalar.addi v118 v538
  let c2_i32_384 : BitVec 32 := 2#32
  let v540 : BitVec 32 := Scalar.addi v539 c2_i32_384
  let c1_i32_457 : BitVec 32 := 1#32
  let v625 : BitVec 32 := Scalar.subi v540 c1_i32_457
  let c0_i32_458 : BitVec 32 := 0#32
  let v626 : BitVec 32 := Scalar.maxsi v625 c0_i32_458
  let c256_i32_459 : BitVec 32 := 256#32
  let v627 : BitVec 32 := Scalar.muli v626 c256_i32_459
  v627
def k0_mult95 (i : grid0.Coords) (k0_t4 : Fin (k0_t4_loop i).trips) : BitVec 32 :=
  let c0_i32_87 : BitVec 32 := 0#32
  let c8_i32_86 : BitVec 32 := 8#32
  let arg1 : BitVec 32 := BitVec.ofNat 32 (i 1).val
  let c0_i32_75 : BitVec 32 := 0#32
  let v94 : BitVec 32 := Scalar.subi arg1 c0_i32_75
  let c0_i32_76 : BitVec 32 := 0#32
  let v96 : BitVec 1 := Scalar.cmpi .sgt v94 c0_i32_76
  let v97 : BitVec 32 := Scalar.extui v96
  let c0_i32_77 : BitVec 32 := 0#32
  let v98 : BitVec 1 := Scalar.cmpi .slt v94 c0_i32_77
  let v99 : BitVec 32 := Scalar.extui v98
  let v100 : BitVec 32 := Scalar.subi v97 v99
  let c8_i32 : BitVec 32 := 8#32
  let c0_i32_78 : BitVec 32 := 0#32
  let v101 : BitVec 1 := Scalar.cmpi .sgt c8_i32 c0_i32_78
  let v102 : BitVec 32 := Scalar.extui v101
  let c0_i32_79 : BitVec 32 := 0#32
  let v103 : BitVec 1 := Scalar.cmpi .slt c8_i32 c0_i32_79
  let v104 : BitVec 32 := Scalar.extui v103
  let v105 : BitVec 32 := Scalar.subi v102 v104
  let v106 : BitVec 1 := Scalar.cmpi .ne v100 v105
  let v107 : BitVec 32 := Scalar.remsi v94 c8_i32
  let c0_i32_80 : BitVec 32 := 0#32
  let v108 : BitVec 1 := Scalar.cmpi .ne v107 c0_i32_80
  let v109 : BitVec 1 := Scalar.andi v106 v108
  let v95 : BitVec 32 := Scalar.divsi v94 c8_i32
  let c1_i32 : BitVec 32 := 1#32
  let v110 : BitVec 32 := Scalar.subi v95 c1_i32
  let v111 : BitVec 32 := Scalar.select v109 v110 v95
  let v117 : BitVec 32 := Scalar.muli c8_i32_86 v111
  let v118 : BitVec 32 := Scalar.addi c0_i32_87 v117
  let c4_i32_501 : BitVec 32 := 4#32
  let c0_i32_95 : BitVec 32 := 0#32
  let v119 : BitVec 32 := Scalar.subi arg1 v118
  let c0_i32_88 : BitVec 32 := 0#32
  let v121 : BitVec 1 := Scalar.cmpi .sgt v119 c0_i32_88
  let v122 : BitVec 32 := Scalar.extui v121
  let c0_i32_89 : BitVec 32 := 0#32
  let v123 : BitVec 1 := Scalar.cmpi .slt v119 c0_i32_89
  let v124 : BitVec 32 := Scalar.extui v123
  let v125 : BitVec 32 := Scalar.subi v122 v124
  let c4_i32 : BitVec 32 := 4#32
  let c0_i32_90 : BitVec 32 := 0#32
  let v126 : BitVec 1 := Scalar.cmpi .sgt c4_i32 c0_i32_90
  let v127 : BitVec 32 := Scalar.extui v126
  let c0_i32_91 : BitVec 32 := 0#32
  let v128 : BitVec 1 := Scalar.cmpi .slt c4_i32 c0_i32_91
  let v129 : BitVec 32 := Scalar.extui v128
  let v130 : BitVec 32 := Scalar.subi v127 v129
  let v131 : BitVec 1 := Scalar.cmpi .ne v125 v130
  let v132 : BitVec 32 := Scalar.remsi v119 c4_i32
  let c0_i32_92 : BitVec 32 := 0#32
  let v133 : BitVec 1 := Scalar.cmpi .ne v132 c0_i32_92
  let v134 : BitVec 1 := Scalar.andi v131 v133
  let v120 : BitVec 32 := Scalar.divsi v119 c4_i32
  let c1_i32_93 : BitVec 32 := 1#32
  let v135 : BitVec 32 := Scalar.subi v120 c1_i32_93
  let v136 : BitVec 32 := Scalar.select v134 v135 v120
  let v137 : BitVec 32 := Scalar.subi v136 c0_i32_95
  let c1_i32_96 : BitVec 32 := 1#32
  let v139 : BitVec 32 := Scalar.divsi v137 c1_i32_96
  let v140 : BitVec 32 := Scalar.muli v139 c1_i32_96
  let v141 : BitVec 32 := Scalar.addi c0_i32_95 v140
  let c1_i32_98 : BitVec 32 := 1#32
  let arg17 : BitVec 32 := Scf.iv v141 c1_i32_98 k0_t4
  let v681 : BitVec 32 := Scalar.muli c4_i32_501 arg17
  let v682 : BitVec 32 := Scalar.addi v118 v681
  let c3_i32 : BitVec 32 := 3#32
  let v683 : BitVec 32 := Scalar.addi v682 c3_i32
  let c1_i32_502 : BitVec 32 := 1#32
  let v684 : BitVec 32 := Scalar.addi v683 c1_i32_502
  let c256_i32_503 : BitVec 32 := 256#32
  let v685 : BitVec 32 := Scalar.muli v684 c256_i32_503
  v685
def k0_mult96 (i : grid0.Coords) (k0_t4 : Fin (k0_t4_loop i).trips) : BitVec 32 :=
  let c0_i32_87 : BitVec 32 := 0#32
  let c8_i32_86 : BitVec 32 := 8#32
  let arg1 : BitVec 32 := BitVec.ofNat 32 (i 1).val
  let c0_i32_75 : BitVec 32 := 0#32
  let v94 : BitVec 32 := Scalar.subi arg1 c0_i32_75
  let c0_i32_76 : BitVec 32 := 0#32
  let v96 : BitVec 1 := Scalar.cmpi .sgt v94 c0_i32_76
  let v97 : BitVec 32 := Scalar.extui v96
  let c0_i32_77 : BitVec 32 := 0#32
  let v98 : BitVec 1 := Scalar.cmpi .slt v94 c0_i32_77
  let v99 : BitVec 32 := Scalar.extui v98
  let v100 : BitVec 32 := Scalar.subi v97 v99
  let c8_i32 : BitVec 32 := 8#32
  let c0_i32_78 : BitVec 32 := 0#32
  let v101 : BitVec 1 := Scalar.cmpi .sgt c8_i32 c0_i32_78
  let v102 : BitVec 32 := Scalar.extui v101
  let c0_i32_79 : BitVec 32 := 0#32
  let v103 : BitVec 1 := Scalar.cmpi .slt c8_i32 c0_i32_79
  let v104 : BitVec 32 := Scalar.extui v103
  let v105 : BitVec 32 := Scalar.subi v102 v104
  let v106 : BitVec 1 := Scalar.cmpi .ne v100 v105
  let v107 : BitVec 32 := Scalar.remsi v94 c8_i32
  let c0_i32_80 : BitVec 32 := 0#32
  let v108 : BitVec 1 := Scalar.cmpi .ne v107 c0_i32_80
  let v109 : BitVec 1 := Scalar.andi v106 v108
  let v95 : BitVec 32 := Scalar.divsi v94 c8_i32
  let c1_i32 : BitVec 32 := 1#32
  let v110 : BitVec 32 := Scalar.subi v95 c1_i32
  let v111 : BitVec 32 := Scalar.select v109 v110 v95
  let v117 : BitVec 32 := Scalar.muli c8_i32_86 v111
  let v118 : BitVec 32 := Scalar.addi c0_i32_87 v117
  let c4_i32_501 : BitVec 32 := 4#32
  let c0_i32_95 : BitVec 32 := 0#32
  let v119 : BitVec 32 := Scalar.subi arg1 v118
  let c0_i32_88 : BitVec 32 := 0#32
  let v121 : BitVec 1 := Scalar.cmpi .sgt v119 c0_i32_88
  let v122 : BitVec 32 := Scalar.extui v121
  let c0_i32_89 : BitVec 32 := 0#32
  let v123 : BitVec 1 := Scalar.cmpi .slt v119 c0_i32_89
  let v124 : BitVec 32 := Scalar.extui v123
  let v125 : BitVec 32 := Scalar.subi v122 v124
  let c4_i32 : BitVec 32 := 4#32
  let c0_i32_90 : BitVec 32 := 0#32
  let v126 : BitVec 1 := Scalar.cmpi .sgt c4_i32 c0_i32_90
  let v127 : BitVec 32 := Scalar.extui v126
  let c0_i32_91 : BitVec 32 := 0#32
  let v128 : BitVec 1 := Scalar.cmpi .slt c4_i32 c0_i32_91
  let v129 : BitVec 32 := Scalar.extui v128
  let v130 : BitVec 32 := Scalar.subi v127 v129
  let v131 : BitVec 1 := Scalar.cmpi .ne v125 v130
  let v132 : BitVec 32 := Scalar.remsi v119 c4_i32
  let c0_i32_92 : BitVec 32 := 0#32
  let v133 : BitVec 1 := Scalar.cmpi .ne v132 c0_i32_92
  let v134 : BitVec 1 := Scalar.andi v131 v133
  let v120 : BitVec 32 := Scalar.divsi v119 c4_i32
  let c1_i32_93 : BitVec 32 := 1#32
  let v135 : BitVec 32 := Scalar.subi v120 c1_i32_93
  let v136 : BitVec 32 := Scalar.select v134 v135 v120
  let v137 : BitVec 32 := Scalar.subi v136 c0_i32_95
  let c1_i32_96 : BitVec 32 := 1#32
  let v139 : BitVec 32 := Scalar.divsi v137 c1_i32_96
  let v140 : BitVec 32 := Scalar.muli v139 c1_i32_96
  let v141 : BitVec 32 := Scalar.addi c0_i32_95 v140
  let c1_i32_98 : BitVec 32 := 1#32
  let arg17 : BitVec 32 := Scf.iv v141 c1_i32_98 k0_t4
  let v681 : BitVec 32 := Scalar.muli c4_i32_501 arg17
  let v682 : BitVec 32 := Scalar.addi v118 v681
  let c3_i32 : BitVec 32 := 3#32
  let v683 : BitVec 32 := Scalar.addi v682 c3_i32
  let c1_i32_516 : BitVec 32 := 1#32
  let v698 : BitVec 32 := Scalar.subi v683 c1_i32_516
  let c0_i32_517 : BitVec 32 := 0#32
  let v699 : BitVec 32 := Scalar.maxsi v698 c0_i32_517
  let c256_i32_518 : BitVec 32 := 256#32
  let v700 : BitVec 32 := Scalar.muli v699 c256_i32_518
  v700
def k0_mult97 (i : grid0.Coords) (k0_t4 : Fin (k0_t4_loop i).trips) : BitVec 32 :=
  let c0_i32_87 : BitVec 32 := 0#32
  let c8_i32_86 : BitVec 32 := 8#32
  let arg1 : BitVec 32 := BitVec.ofNat 32 (i 1).val
  let c0_i32_75 : BitVec 32 := 0#32
  let v94 : BitVec 32 := Scalar.subi arg1 c0_i32_75
  let c0_i32_76 : BitVec 32 := 0#32
  let v96 : BitVec 1 := Scalar.cmpi .sgt v94 c0_i32_76
  let v97 : BitVec 32 := Scalar.extui v96
  let c0_i32_77 : BitVec 32 := 0#32
  let v98 : BitVec 1 := Scalar.cmpi .slt v94 c0_i32_77
  let v99 : BitVec 32 := Scalar.extui v98
  let v100 : BitVec 32 := Scalar.subi v97 v99
  let c8_i32 : BitVec 32 := 8#32
  let c0_i32_78 : BitVec 32 := 0#32
  let v101 : BitVec 1 := Scalar.cmpi .sgt c8_i32 c0_i32_78
  let v102 : BitVec 32 := Scalar.extui v101
  let c0_i32_79 : BitVec 32 := 0#32
  let v103 : BitVec 1 := Scalar.cmpi .slt c8_i32 c0_i32_79
  let v104 : BitVec 32 := Scalar.extui v103
  let v105 : BitVec 32 := Scalar.subi v102 v104
  let v106 : BitVec 1 := Scalar.cmpi .ne v100 v105
  let v107 : BitVec 32 := Scalar.remsi v94 c8_i32
  let c0_i32_80 : BitVec 32 := 0#32
  let v108 : BitVec 1 := Scalar.cmpi .ne v107 c0_i32_80
  let v109 : BitVec 1 := Scalar.andi v106 v108
  let v95 : BitVec 32 := Scalar.divsi v94 c8_i32
  let c1_i32 : BitVec 32 := 1#32
  let v110 : BitVec 32 := Scalar.subi v95 c1_i32
  let v111 : BitVec 32 := Scalar.select v109 v110 v95
  let v117 : BitVec 32 := Scalar.muli c8_i32_86 v111
  let v118 : BitVec 32 := Scalar.addi c0_i32_87 v117
  let c4_i32_501 : BitVec 32 := 4#32
  let c0_i32_95 : BitVec 32 := 0#32
  let v119 : BitVec 32 := Scalar.subi arg1 v118
  let c0_i32_88 : BitVec 32 := 0#32
  let v121 : BitVec 1 := Scalar.cmpi .sgt v119 c0_i32_88
  let v122 : BitVec 32 := Scalar.extui v121
  let c0_i32_89 : BitVec 32 := 0#32
  let v123 : BitVec 1 := Scalar.cmpi .slt v119 c0_i32_89
  let v124 : BitVec 32 := Scalar.extui v123
  let v125 : BitVec 32 := Scalar.subi v122 v124
  let c4_i32 : BitVec 32 := 4#32
  let c0_i32_90 : BitVec 32 := 0#32
  let v126 : BitVec 1 := Scalar.cmpi .sgt c4_i32 c0_i32_90
  let v127 : BitVec 32 := Scalar.extui v126
  let c0_i32_91 : BitVec 32 := 0#32
  let v128 : BitVec 1 := Scalar.cmpi .slt c4_i32 c0_i32_91
  let v129 : BitVec 32 := Scalar.extui v128
  let v130 : BitVec 32 := Scalar.subi v127 v129
  let v131 : BitVec 1 := Scalar.cmpi .ne v125 v130
  let v132 : BitVec 32 := Scalar.remsi v119 c4_i32
  let c0_i32_92 : BitVec 32 := 0#32
  let v133 : BitVec 1 := Scalar.cmpi .ne v132 c0_i32_92
  let v134 : BitVec 1 := Scalar.andi v131 v133
  let v120 : BitVec 32 := Scalar.divsi v119 c4_i32
  let c1_i32_93 : BitVec 32 := 1#32
  let v135 : BitVec 32 := Scalar.subi v120 c1_i32_93
  let v136 : BitVec 32 := Scalar.select v134 v135 v120
  let v137 : BitVec 32 := Scalar.subi v136 c0_i32_95
  let c1_i32_96 : BitVec 32 := 1#32
  let v139 : BitVec 32 := Scalar.divsi v137 c1_i32_96
  let v140 : BitVec 32 := Scalar.muli v139 c1_i32_96
  let v141 : BitVec 32 := Scalar.addi c0_i32_95 v140
  let c1_i32_98 : BitVec 32 := 1#32
  let arg17 : BitVec 32 := Scf.iv v141 c1_i32_98 k0_t4
  let v681 : BitVec 32 := Scalar.muli c4_i32_501 arg17
  let v682 : BitVec 32 := Scalar.addi v118 v681
  let c3_i32 : BitVec 32 := 3#32
  let v683 : BitVec 32 := Scalar.addi v682 c3_i32
  let c1_i32_560 : BitVec 32 := 1#32
  let v754 : BitVec 32 := Scalar.addi v683 c1_i32_560
  let c256_i32_561 : BitVec 32 := 256#32
  let v755 : BitVec 32 := Scalar.muli v754 c256_i32_561
  v755
def k0_mult98 (i : grid0.Coords) (k0_t4 : Fin (k0_t4_loop i).trips) : BitVec 32 :=
  let c0_i32_87 : BitVec 32 := 0#32
  let c8_i32_86 : BitVec 32 := 8#32
  let arg1 : BitVec 32 := BitVec.ofNat 32 (i 1).val
  let c0_i32_75 : BitVec 32 := 0#32
  let v94 : BitVec 32 := Scalar.subi arg1 c0_i32_75
  let c0_i32_76 : BitVec 32 := 0#32
  let v96 : BitVec 1 := Scalar.cmpi .sgt v94 c0_i32_76
  let v97 : BitVec 32 := Scalar.extui v96
  let c0_i32_77 : BitVec 32 := 0#32
  let v98 : BitVec 1 := Scalar.cmpi .slt v94 c0_i32_77
  let v99 : BitVec 32 := Scalar.extui v98
  let v100 : BitVec 32 := Scalar.subi v97 v99
  let c8_i32 : BitVec 32 := 8#32
  let c0_i32_78 : BitVec 32 := 0#32
  let v101 : BitVec 1 := Scalar.cmpi .sgt c8_i32 c0_i32_78
  let v102 : BitVec 32 := Scalar.extui v101
  let c0_i32_79 : BitVec 32 := 0#32
  let v103 : BitVec 1 := Scalar.cmpi .slt c8_i32 c0_i32_79
  let v104 : BitVec 32 := Scalar.extui v103
  let v105 : BitVec 32 := Scalar.subi v102 v104
  let v106 : BitVec 1 := Scalar.cmpi .ne v100 v105
  let v107 : BitVec 32 := Scalar.remsi v94 c8_i32
  let c0_i32_80 : BitVec 32 := 0#32
  let v108 : BitVec 1 := Scalar.cmpi .ne v107 c0_i32_80
  let v109 : BitVec 1 := Scalar.andi v106 v108
  let v95 : BitVec 32 := Scalar.divsi v94 c8_i32
  let c1_i32 : BitVec 32 := 1#32
  let v110 : BitVec 32 := Scalar.subi v95 c1_i32
  let v111 : BitVec 32 := Scalar.select v109 v110 v95
  let v117 : BitVec 32 := Scalar.muli c8_i32_86 v111
  let v118 : BitVec 32 := Scalar.addi c0_i32_87 v117
  let c4_i32_501 : BitVec 32 := 4#32
  let c0_i32_95 : BitVec 32 := 0#32
  let v119 : BitVec 32 := Scalar.subi arg1 v118
  let c0_i32_88 : BitVec 32 := 0#32
  let v121 : BitVec 1 := Scalar.cmpi .sgt v119 c0_i32_88
  let v122 : BitVec 32 := Scalar.extui v121
  let c0_i32_89 : BitVec 32 := 0#32
  let v123 : BitVec 1 := Scalar.cmpi .slt v119 c0_i32_89
  let v124 : BitVec 32 := Scalar.extui v123
  let v125 : BitVec 32 := Scalar.subi v122 v124
  let c4_i32 : BitVec 32 := 4#32
  let c0_i32_90 : BitVec 32 := 0#32
  let v126 : BitVec 1 := Scalar.cmpi .sgt c4_i32 c0_i32_90
  let v127 : BitVec 32 := Scalar.extui v126
  let c0_i32_91 : BitVec 32 := 0#32
  let v128 : BitVec 1 := Scalar.cmpi .slt c4_i32 c0_i32_91
  let v129 : BitVec 32 := Scalar.extui v128
  let v130 : BitVec 32 := Scalar.subi v127 v129
  let v131 : BitVec 1 := Scalar.cmpi .ne v125 v130
  let v132 : BitVec 32 := Scalar.remsi v119 c4_i32
  let c0_i32_92 : BitVec 32 := 0#32
  let v133 : BitVec 1 := Scalar.cmpi .ne v132 c0_i32_92
  let v134 : BitVec 1 := Scalar.andi v131 v133
  let v120 : BitVec 32 := Scalar.divsi v119 c4_i32
  let c1_i32_93 : BitVec 32 := 1#32
  let v135 : BitVec 32 := Scalar.subi v120 c1_i32_93
  let v136 : BitVec 32 := Scalar.select v134 v135 v120
  let v137 : BitVec 32 := Scalar.subi v136 c0_i32_95
  let c1_i32_96 : BitVec 32 := 1#32
  let v139 : BitVec 32 := Scalar.divsi v137 c1_i32_96
  let v140 : BitVec 32 := Scalar.muli v139 c1_i32_96
  let v141 : BitVec 32 := Scalar.addi c0_i32_95 v140
  let c1_i32_98 : BitVec 32 := 1#32
  let arg17 : BitVec 32 := Scf.iv v141 c1_i32_98 k0_t4
  let v681 : BitVec 32 := Scalar.muli c4_i32_501 arg17
  let v682 : BitVec 32 := Scalar.addi v118 v681
  let c3_i32 : BitVec 32 := 3#32
  let v683 : BitVec 32 := Scalar.addi v682 c3_i32
  let c1_i32_574 : BitVec 32 := 1#32
  let v768 : BitVec 32 := Scalar.subi v683 c1_i32_574
  let c0_i32_575 : BitVec 32 := 0#32
  let v769 : BitVec 32 := Scalar.maxsi v768 c0_i32_575
  let c256_i32_576 : BitVec 32 := 256#32
  let v770 : BitVec 32 := Scalar.muli v769 c256_i32_576
  v770
@[reducible] def k0_t5_loop (i : grid0.Coords) : Scf.Loop 32 :=
  let c0_i32_107 : BitVec 32 := 0#32
  let arg1 : BitVec 32 := BitVec.ofNat 32 (i 1).val
  let c0_i32_87 : BitVec 32 := 0#32
  let c8_i32_86 : BitVec 32 := 8#32
  let c0_i32_75 : BitVec 32 := 0#32
  let v94 : BitVec 32 := Scalar.subi arg1 c0_i32_75
  let c0_i32_76 : BitVec 32 := 0#32
  let v96 : BitVec 1 := Scalar.cmpi .sgt v94 c0_i32_76
  let v97 : BitVec 32 := Scalar.extui v96
  let c0_i32_77 : BitVec 32 := 0#32
  let v98 : BitVec 1 := Scalar.cmpi .slt v94 c0_i32_77
  let v99 : BitVec 32 := Scalar.extui v98
  let v100 : BitVec 32 := Scalar.subi v97 v99
  let c8_i32 : BitVec 32 := 8#32
  let c0_i32_78 : BitVec 32 := 0#32
  let v101 : BitVec 1 := Scalar.cmpi .sgt c8_i32 c0_i32_78
  let v102 : BitVec 32 := Scalar.extui v101
  let c0_i32_79 : BitVec 32 := 0#32
  let v103 : BitVec 1 := Scalar.cmpi .slt c8_i32 c0_i32_79
  let v104 : BitVec 32 := Scalar.extui v103
  let v105 : BitVec 32 := Scalar.subi v102 v104
  let v106 : BitVec 1 := Scalar.cmpi .ne v100 v105
  let v107 : BitVec 32 := Scalar.remsi v94 c8_i32
  let c0_i32_80 : BitVec 32 := 0#32
  let v108 : BitVec 1 := Scalar.cmpi .ne v107 c0_i32_80
  let v109 : BitVec 1 := Scalar.andi v106 v108
  let v95 : BitVec 32 := Scalar.divsi v94 c8_i32
  let c1_i32 : BitVec 32 := 1#32
  let v110 : BitVec 32 := Scalar.subi v95 c1_i32
  let v111 : BitVec 32 := Scalar.select v109 v110 v95
  let v117 : BitVec 32 := Scalar.muli c8_i32_86 v111
  let v118 : BitVec 32 := Scalar.addi c0_i32_87 v117
  let c4_i32_99 : BitVec 32 := 4#32
  let v119 : BitVec 32 := Scalar.subi arg1 v118
  let c0_i32_88 : BitVec 32 := 0#32
  let v121 : BitVec 1 := Scalar.cmpi .sgt v119 c0_i32_88
  let v122 : BitVec 32 := Scalar.extui v121
  let c0_i32_89 : BitVec 32 := 0#32
  let v123 : BitVec 1 := Scalar.cmpi .slt v119 c0_i32_89
  let v124 : BitVec 32 := Scalar.extui v123
  let v125 : BitVec 32 := Scalar.subi v122 v124
  let c4_i32 : BitVec 32 := 4#32
  let c0_i32_90 : BitVec 32 := 0#32
  let v126 : BitVec 1 := Scalar.cmpi .sgt c4_i32 c0_i32_90
  let v127 : BitVec 32 := Scalar.extui v126
  let c0_i32_91 : BitVec 32 := 0#32
  let v128 : BitVec 1 := Scalar.cmpi .slt c4_i32 c0_i32_91
  let v129 : BitVec 32 := Scalar.extui v128
  let v130 : BitVec 32 := Scalar.subi v127 v129
  let v131 : BitVec 1 := Scalar.cmpi .ne v125 v130
  let v132 : BitVec 32 := Scalar.remsi v119 c4_i32
  let c0_i32_92 : BitVec 32 := 0#32
  let v133 : BitVec 1 := Scalar.cmpi .ne v132 c0_i32_92
  let v134 : BitVec 1 := Scalar.andi v131 v133
  let v120 : BitVec 32 := Scalar.divsi v119 c4_i32
  let c1_i32_93 : BitVec 32 := 1#32
  let v135 : BitVec 32 := Scalar.subi v120 c1_i32_93
  let v136 : BitVec 32 := Scalar.select v134 v135 v120
  let v142 : BitVec 32 := Scalar.muli c4_i32_99 v136
  let v143 : BitVec 32 := Scalar.addi v118 v142
  let v144 : BitVec 32 := Scalar.subi arg1 v143
  let c0_i32_100 : BitVec 32 := 0#32
  let v146 : BitVec 1 := Scalar.cmpi .sgt v144 c0_i32_100
  let v147 : BitVec 32 := Scalar.extui v146
  let c0_i32_101 : BitVec 32 := 0#32
  let v148 : BitVec 1 := Scalar.cmpi .slt v144 c0_i32_101
  let v149 : BitVec 32 := Scalar.extui v148
  let v150 : BitVec 32 := Scalar.subi v147 v149
  let c2_i32 : BitVec 32 := 2#32
  let c0_i32_102 : BitVec 32 := 0#32
  let v151 : BitVec 1 := Scalar.cmpi .sgt c2_i32 c0_i32_102
  let v152 : BitVec 32 := Scalar.extui v151
  let c0_i32_103 : BitVec 32 := 0#32
  let v153 : BitVec 1 := Scalar.cmpi .slt c2_i32 c0_i32_103
  let v154 : BitVec 32 := Scalar.extui v153
  let v155 : BitVec 32 := Scalar.subi v152 v154
  let v156 : BitVec 1 := Scalar.cmpi .ne v150 v155
  let v157 : BitVec 32 := Scalar.remsi v144 c2_i32
  let c0_i32_104 : BitVec 32 := 0#32
  let v158 : BitVec 1 := Scalar.cmpi .ne v157 c0_i32_104
  let v159 : BitVec 1 := Scalar.andi v156 v158
  let v145 : BitVec 32 := Scalar.divsi v144 c2_i32
  let c1_i32_105 : BitVec 32 := 1#32
  let v160 : BitVec 32 := Scalar.subi v145 c1_i32_105
  let v161 : BitVec 32 := Scalar.select v159 v160 v145
  let v162 : BitVec 32 := Scalar.subi v161 c0_i32_107
  let c1_i32_108 : BitVec 32 := 1#32
  let v164 : BitVec 32 := Scalar.divsi v162 c1_i32_108
  let v165 : BitVec 32 := Scalar.muli v164 c1_i32_108
  let v166 : BitVec 32 := Scalar.addi c0_i32_107 v165
  let c1_i32_109 : BitVec 32 := 1#32
  ⟨c0_i32_107, v166, c1_i32_109⟩
def k0_mult99 (i : grid0.Coords) (k0_t5 : Fin (k0_t5_loop i).trips) : BitVec 32 :=
  let c0_i32_87 : BitVec 32 := 0#32
  let c8_i32_86 : BitVec 32 := 8#32
  let arg1 : BitVec 32 := BitVec.ofNat 32 (i 1).val
  let c0_i32_75 : BitVec 32 := 0#32
  let v94 : BitVec 32 := Scalar.subi arg1 c0_i32_75
  let c0_i32_76 : BitVec 32 := 0#32
  let v96 : BitVec 1 := Scalar.cmpi .sgt v94 c0_i32_76
  let v97 : BitVec 32 := Scalar.extui v96
  let c0_i32_77 : BitVec 32 := 0#32
  let v98 : BitVec 1 := Scalar.cmpi .slt v94 c0_i32_77
  let v99 : BitVec 32 := Scalar.extui v98
  let v100 : BitVec 32 := Scalar.subi v97 v99
  let c8_i32 : BitVec 32 := 8#32
  let c0_i32_78 : BitVec 32 := 0#32
  let v101 : BitVec 1 := Scalar.cmpi .sgt c8_i32 c0_i32_78
  let v102 : BitVec 32 := Scalar.extui v101
  let c0_i32_79 : BitVec 32 := 0#32
  let v103 : BitVec 1 := Scalar.cmpi .slt c8_i32 c0_i32_79
  let v104 : BitVec 32 := Scalar.extui v103
  let v105 : BitVec 32 := Scalar.subi v102 v104
  let v106 : BitVec 1 := Scalar.cmpi .ne v100 v105
  let v107 : BitVec 32 := Scalar.remsi v94 c8_i32
  let c0_i32_80 : BitVec 32 := 0#32
  let v108 : BitVec 1 := Scalar.cmpi .ne v107 c0_i32_80
  let v109 : BitVec 1 := Scalar.andi v106 v108
  let v95 : BitVec 32 := Scalar.divsi v94 c8_i32
  let c1_i32 : BitVec 32 := 1#32
  let v110 : BitVec 32 := Scalar.subi v95 c1_i32
  let v111 : BitVec 32 := Scalar.select v109 v110 v95
  let v117 : BitVec 32 := Scalar.muli c8_i32_86 v111
  let v118 : BitVec 32 := Scalar.addi c0_i32_87 v117
  let c4_i32_99 : BitVec 32 := 4#32
  let v119 : BitVec 32 := Scalar.subi arg1 v118
  let c0_i32_88 : BitVec 32 := 0#32
  let v121 : BitVec 1 := Scalar.cmpi .sgt v119 c0_i32_88
  let v122 : BitVec 32 := Scalar.extui v121
  let c0_i32_89 : BitVec 32 := 0#32
  let v123 : BitVec 1 := Scalar.cmpi .slt v119 c0_i32_89
  let v124 : BitVec 32 := Scalar.extui v123
  let v125 : BitVec 32 := Scalar.subi v122 v124
  let c4_i32 : BitVec 32 := 4#32
  let c0_i32_90 : BitVec 32 := 0#32
  let v126 : BitVec 1 := Scalar.cmpi .sgt c4_i32 c0_i32_90
  let v127 : BitVec 32 := Scalar.extui v126
  let c0_i32_91 : BitVec 32 := 0#32
  let v128 : BitVec 1 := Scalar.cmpi .slt c4_i32 c0_i32_91
  let v129 : BitVec 32 := Scalar.extui v128
  let v130 : BitVec 32 := Scalar.subi v127 v129
  let v131 : BitVec 1 := Scalar.cmpi .ne v125 v130
  let v132 : BitVec 32 := Scalar.remsi v119 c4_i32
  let c0_i32_92 : BitVec 32 := 0#32
  let v133 : BitVec 1 := Scalar.cmpi .ne v132 c0_i32_92
  let v134 : BitVec 1 := Scalar.andi v131 v133
  let v120 : BitVec 32 := Scalar.divsi v119 c4_i32
  let c1_i32_93 : BitVec 32 := 1#32
  let v135 : BitVec 32 := Scalar.subi v120 c1_i32_93
  let v136 : BitVec 32 := Scalar.select v134 v135 v120
  let v142 : BitVec 32 := Scalar.muli c4_i32_99 v136
  let v143 : BitVec 32 := Scalar.addi v118 v142
  let c2_i32_148 : BitVec 32 := 2#32
  let c0_i32_107 : BitVec 32 := 0#32
  let c1_i32_109 : BitVec 32 := 1#32
  let arg17 : BitVec 32 := Scf.iv c0_i32_107 c1_i32_109 k0_t5
  let v252 : BitVec 32 := Scalar.muli c2_i32_148 arg17
  let v253 : BitVec 32 := Scalar.addi v143 v252
  let c0_i32_149 : BitVec 32 := 0#32
  let v254 : BitVec 32 := Scalar.addi v253 c0_i32_149
  let c1_i32_150 : BitVec 32 := 1#32
  let v255 : BitVec 32 := Scalar.addi v254 c1_i32_150
  let c256_i32 : BitVec 32 := 256#32
  let v256 : BitVec 32 := Scalar.muli v255 c256_i32
  v256
def k0_off21 (i : grid0.Coords) (k0_t5 : Fin (k0_t5_loop i).trips) (c0_i32_149 : BitVec 32) : Fin 2 → Nat :=
  let c0_i32_87 : BitVec 32 := 0#32
  let c8_i32_86 : BitVec 32 := 8#32
  let arg1 : BitVec 32 := BitVec.ofNat 32 (i 1).val
  let c0_i32_75 : BitVec 32 := 0#32
  let v94 : BitVec 32 := Scalar.subi arg1 c0_i32_75
  let c0_i32_76 : BitVec 32 := 0#32
  let v96 : BitVec 1 := Scalar.cmpi .sgt v94 c0_i32_76
  let v97 : BitVec 32 := Scalar.extui v96
  let c0_i32_77 : BitVec 32 := 0#32
  let v98 : BitVec 1 := Scalar.cmpi .slt v94 c0_i32_77
  let v99 : BitVec 32 := Scalar.extui v98
  let v100 : BitVec 32 := Scalar.subi v97 v99
  let c8_i32 : BitVec 32 := 8#32
  let c0_i32_78 : BitVec 32 := 0#32
  let v101 : BitVec 1 := Scalar.cmpi .sgt c8_i32 c0_i32_78
  let v102 : BitVec 32 := Scalar.extui v101
  let c0_i32_79 : BitVec 32 := 0#32
  let v103 : BitVec 1 := Scalar.cmpi .slt c8_i32 c0_i32_79
  let v104 : BitVec 32 := Scalar.extui v103
  let v105 : BitVec 32 := Scalar.subi v102 v104
  let v106 : BitVec 1 := Scalar.cmpi .ne v100 v105
  let v107 : BitVec 32 := Scalar.remsi v94 c8_i32
  let c0_i32_80 : BitVec 32 := 0#32
  let v108 : BitVec 1 := Scalar.cmpi .ne v107 c0_i32_80
  let v109 : BitVec 1 := Scalar.andi v106 v108
  let v95 : BitVec 32 := Scalar.divsi v94 c8_i32
  let c1_i32 : BitVec 32 := 1#32
  let v110 : BitVec 32 := Scalar.subi v95 c1_i32
  let v111 : BitVec 32 := Scalar.select v109 v110 v95
  let v117 : BitVec 32 := Scalar.muli c8_i32_86 v111
  let v118 : BitVec 32 := Scalar.addi c0_i32_87 v117
  let c4_i32_99 : BitVec 32 := 4#32
  let v119 : BitVec 32 := Scalar.subi arg1 v118
  let c0_i32_88 : BitVec 32 := 0#32
  let v121 : BitVec 1 := Scalar.cmpi .sgt v119 c0_i32_88
  let v122 : BitVec 32 := Scalar.extui v121
  let c0_i32_89 : BitVec 32 := 0#32
  let v123 : BitVec 1 := Scalar.cmpi .slt v119 c0_i32_89
  let v124 : BitVec 32 := Scalar.extui v123
  let v125 : BitVec 32 := Scalar.subi v122 v124
  let c4_i32 : BitVec 32 := 4#32
  let c0_i32_90 : BitVec 32 := 0#32
  let v126 : BitVec 1 := Scalar.cmpi .sgt c4_i32 c0_i32_90
  let v127 : BitVec 32 := Scalar.extui v126
  let c0_i32_91 : BitVec 32 := 0#32
  let v128 : BitVec 1 := Scalar.cmpi .slt c4_i32 c0_i32_91
  let v129 : BitVec 32 := Scalar.extui v128
  let v130 : BitVec 32 := Scalar.subi v127 v129
  let v131 : BitVec 1 := Scalar.cmpi .ne v125 v130
  let v132 : BitVec 32 := Scalar.remsi v119 c4_i32
  let c0_i32_92 : BitVec 32 := 0#32
  let v133 : BitVec 1 := Scalar.cmpi .ne v132 c0_i32_92
  let v134 : BitVec 1 := Scalar.andi v131 v133
  let v120 : BitVec 32 := Scalar.divsi v119 c4_i32
  let c1_i32_93 : BitVec 32 := 1#32
  let v135 : BitVec 32 := Scalar.subi v120 c1_i32_93
  let v136 : BitVec 32 := Scalar.select v134 v135 v120
  let v142 : BitVec 32 := Scalar.muli c4_i32_99 v136
  let v143 : BitVec 32 := Scalar.addi v118 v142
  let c2_i32_148 : BitVec 32 := 2#32
  let c0_i32_107 : BitVec 32 := 0#32
  let c1_i32_109 : BitVec 32 := 1#32
  let arg17 : BitVec 32 := Scf.iv c0_i32_107 c1_i32_109 k0_t5
  let v252 : BitVec 32 := Scalar.muli c2_i32_148 arg17
  let v253 : BitVec 32 := Scalar.addi v143 v252
  let v254 : BitVec 32 := Scalar.addi v253 c0_i32_149
  let c1_i32_150 : BitVec 32 := 1#32
  let v255 : BitVec 32 := Scalar.addi v254 c1_i32_150
  let c256_i32 : BitVec 32 := 256#32
  let v256 : BitVec 32 := Scalar.muli v255 c256_i32
  let v257 : BitVec 32 := v256
  let v258 : Index := Scalar.indexCast v257
  let c0_151 : Index := 0#32
  ![v258.toNat, 0]
def k0_mult100 (i : grid0.Coords) (k0_t5 : Fin (k0_t5_loop i).trips) : BitVec 32 :=
  let c0_i32_87 : BitVec 32 := 0#32
  let c8_i32_86 : BitVec 32 := 8#32
  let arg1 : BitVec 32 := BitVec.ofNat 32 (i 1).val
  let c0_i32_75 : BitVec 32 := 0#32
  let v94 : BitVec 32 := Scalar.subi arg1 c0_i32_75
  let c0_i32_76 : BitVec 32 := 0#32
  let v96 : BitVec 1 := Scalar.cmpi .sgt v94 c0_i32_76
  let v97 : BitVec 32 := Scalar.extui v96
  let c0_i32_77 : BitVec 32 := 0#32
  let v98 : BitVec 1 := Scalar.cmpi .slt v94 c0_i32_77
  let v99 : BitVec 32 := Scalar.extui v98
  let v100 : BitVec 32 := Scalar.subi v97 v99
  let c8_i32 : BitVec 32 := 8#32
  let c0_i32_78 : BitVec 32 := 0#32
  let v101 : BitVec 1 := Scalar.cmpi .sgt c8_i32 c0_i32_78
  let v102 : BitVec 32 := Scalar.extui v101
  let c0_i32_79 : BitVec 32 := 0#32
  let v103 : BitVec 1 := Scalar.cmpi .slt c8_i32 c0_i32_79
  let v104 : BitVec 32 := Scalar.extui v103
  let v105 : BitVec 32 := Scalar.subi v102 v104
  let v106 : BitVec 1 := Scalar.cmpi .ne v100 v105
  let v107 : BitVec 32 := Scalar.remsi v94 c8_i32
  let c0_i32_80 : BitVec 32 := 0#32
  let v108 : BitVec 1 := Scalar.cmpi .ne v107 c0_i32_80
  let v109 : BitVec 1 := Scalar.andi v106 v108
  let v95 : BitVec 32 := Scalar.divsi v94 c8_i32
  let c1_i32 : BitVec 32 := 1#32
  let v110 : BitVec 32 := Scalar.subi v95 c1_i32
  let v111 : BitVec 32 := Scalar.select v109 v110 v95
  let v117 : BitVec 32 := Scalar.muli c8_i32_86 v111
  let v118 : BitVec 32 := Scalar.addi c0_i32_87 v117
  let c4_i32_99 : BitVec 32 := 4#32
  let v119 : BitVec 32 := Scalar.subi arg1 v118
  let c0_i32_88 : BitVec 32 := 0#32
  let v121 : BitVec 1 := Scalar.cmpi .sgt v119 c0_i32_88
  let v122 : BitVec 32 := Scalar.extui v121
  let c0_i32_89 : BitVec 32 := 0#32
  let v123 : BitVec 1 := Scalar.cmpi .slt v119 c0_i32_89
  let v124 : BitVec 32 := Scalar.extui v123
  let v125 : BitVec 32 := Scalar.subi v122 v124
  let c4_i32 : BitVec 32 := 4#32
  let c0_i32_90 : BitVec 32 := 0#32
  let v126 : BitVec 1 := Scalar.cmpi .sgt c4_i32 c0_i32_90
  let v127 : BitVec 32 := Scalar.extui v126
  let c0_i32_91 : BitVec 32 := 0#32
  let v128 : BitVec 1 := Scalar.cmpi .slt c4_i32 c0_i32_91
  let v129 : BitVec 32 := Scalar.extui v128
  let v130 : BitVec 32 := Scalar.subi v127 v129
  let v131 : BitVec 1 := Scalar.cmpi .ne v125 v130
  let v132 : BitVec 32 := Scalar.remsi v119 c4_i32
  let c0_i32_92 : BitVec 32 := 0#32
  let v133 : BitVec 1 := Scalar.cmpi .ne v132 c0_i32_92
  let v134 : BitVec 1 := Scalar.andi v131 v133
  let v120 : BitVec 32 := Scalar.divsi v119 c4_i32
  let c1_i32_93 : BitVec 32 := 1#32
  let v135 : BitVec 32 := Scalar.subi v120 c1_i32_93
  let v136 : BitVec 32 := Scalar.select v134 v135 v120
  let v142 : BitVec 32 := Scalar.muli c4_i32_99 v136
  let v143 : BitVec 32 := Scalar.addi v118 v142
  let c2_i32_148 : BitVec 32 := 2#32
  let c0_i32_107 : BitVec 32 := 0#32
  let c1_i32_109 : BitVec 32 := 1#32
  let arg17 : BitVec 32 := Scf.iv c0_i32_107 c1_i32_109 k0_t5
  let v252 : BitVec 32 := Scalar.muli c2_i32_148 arg17
  let v253 : BitVec 32 := Scalar.addi v143 v252
  let c0_i32_149 : BitVec 32 := 0#32
  let v254 : BitVec 32 := Scalar.addi v253 c0_i32_149
  let c1_i32_163 : BitVec 32 := 1#32
  let v269 : BitVec 32 := Scalar.subi v254 c1_i32_163
  let c0_i32_164 : BitVec 32 := 0#32
  let v270 : BitVec 32 := Scalar.maxsi v269 c0_i32_164
  let c256_i32_165 : BitVec 32 := 256#32
  let v271 : BitVec 32 := Scalar.muli v270 c256_i32_165
  v271
def k0_off22 (i : grid0.Coords) (k0_t5 : Fin (k0_t5_loop i).trips) (c0_i32_149 : BitVec 32) : Fin 3 → Nat :=
  let c0_166 : Index := 0#32
  let c0_167 : Index := 0#32
  let c0_i32_87 : BitVec 32 := 0#32
  let c8_i32_86 : BitVec 32 := 8#32
  let arg1 : BitVec 32 := BitVec.ofNat 32 (i 1).val
  let c0_i32_75 : BitVec 32 := 0#32
  let v94 : BitVec 32 := Scalar.subi arg1 c0_i32_75
  let c0_i32_76 : BitVec 32 := 0#32
  let v96 : BitVec 1 := Scalar.cmpi .sgt v94 c0_i32_76
  let v97 : BitVec 32 := Scalar.extui v96
  let c0_i32_77 : BitVec 32 := 0#32
  let v98 : BitVec 1 := Scalar.cmpi .slt v94 c0_i32_77
  let v99 : BitVec 32 := Scalar.extui v98
  let v100 : BitVec 32 := Scalar.subi v97 v99
  let c8_i32 : BitVec 32 := 8#32
  let c0_i32_78 : BitVec 32 := 0#32
  let v101 : BitVec 1 := Scalar.cmpi .sgt c8_i32 c0_i32_78
  let v102 : BitVec 32 := Scalar.extui v101
  let c0_i32_79 : BitVec 32 := 0#32
  let v103 : BitVec 1 := Scalar.cmpi .slt c8_i32 c0_i32_79
  let v104 : BitVec 32 := Scalar.extui v103
  let v105 : BitVec 32 := Scalar.subi v102 v104
  let v106 : BitVec 1 := Scalar.cmpi .ne v100 v105
  let v107 : BitVec 32 := Scalar.remsi v94 c8_i32
  let c0_i32_80 : BitVec 32 := 0#32
  let v108 : BitVec 1 := Scalar.cmpi .ne v107 c0_i32_80
  let v109 : BitVec 1 := Scalar.andi v106 v108
  let v95 : BitVec 32 := Scalar.divsi v94 c8_i32
  let c1_i32 : BitVec 32 := 1#32
  let v110 : BitVec 32 := Scalar.subi v95 c1_i32
  let v111 : BitVec 32 := Scalar.select v109 v110 v95
  let v117 : BitVec 32 := Scalar.muli c8_i32_86 v111
  let v118 : BitVec 32 := Scalar.addi c0_i32_87 v117
  let c4_i32_99 : BitVec 32 := 4#32
  let v119 : BitVec 32 := Scalar.subi arg1 v118
  let c0_i32_88 : BitVec 32 := 0#32
  let v121 : BitVec 1 := Scalar.cmpi .sgt v119 c0_i32_88
  let v122 : BitVec 32 := Scalar.extui v121
  let c0_i32_89 : BitVec 32 := 0#32
  let v123 : BitVec 1 := Scalar.cmpi .slt v119 c0_i32_89
  let v124 : BitVec 32 := Scalar.extui v123
  let v125 : BitVec 32 := Scalar.subi v122 v124
  let c4_i32 : BitVec 32 := 4#32
  let c0_i32_90 : BitVec 32 := 0#32
  let v126 : BitVec 1 := Scalar.cmpi .sgt c4_i32 c0_i32_90
  let v127 : BitVec 32 := Scalar.extui v126
  let c0_i32_91 : BitVec 32 := 0#32
  let v128 : BitVec 1 := Scalar.cmpi .slt c4_i32 c0_i32_91
  let v129 : BitVec 32 := Scalar.extui v128
  let v130 : BitVec 32 := Scalar.subi v127 v129
  let v131 : BitVec 1 := Scalar.cmpi .ne v125 v130
  let v132 : BitVec 32 := Scalar.remsi v119 c4_i32
  let c0_i32_92 : BitVec 32 := 0#32
  let v133 : BitVec 1 := Scalar.cmpi .ne v132 c0_i32_92
  let v134 : BitVec 1 := Scalar.andi v131 v133
  let v120 : BitVec 32 := Scalar.divsi v119 c4_i32
  let c1_i32_93 : BitVec 32 := 1#32
  let v135 : BitVec 32 := Scalar.subi v120 c1_i32_93
  let v136 : BitVec 32 := Scalar.select v134 v135 v120
  let v142 : BitVec 32 := Scalar.muli c4_i32_99 v136
  let v143 : BitVec 32 := Scalar.addi v118 v142
  let c2_i32_148 : BitVec 32 := 2#32
  let c0_i32_107 : BitVec 32 := 0#32
  let c1_i32_109 : BitVec 32 := 1#32
  let arg17 : BitVec 32 := Scf.iv c0_i32_107 c1_i32_109 k0_t5
  let v252 : BitVec 32 := Scalar.muli c2_i32_148 arg17
  let v253 : BitVec 32 := Scalar.addi v143 v252
  let v254 : BitVec 32 := Scalar.addi v253 c0_i32_149
  let c1_i32_163 : BitVec 32 := 1#32
  let v269 : BitVec 32 := Scalar.subi v254 c1_i32_163
  let c0_i32_164 : BitVec 32 := 0#32
  let v270 : BitVec 32 := Scalar.maxsi v269 c0_i32_164
  let c256_i32_165 : BitVec 32 := 256#32
  let v271 : BitVec 32 := Scalar.muli v270 c256_i32_165
  let v272 : BitVec 32 := v271
  let v273 : Index := Scalar.indexCast v272
  ![0, 0, v273.toNat]
def k0_off23 (i : grid0.Coords) (c0_i32_185 : BitVec 32) : Fin 1 → Nat :=
  let arg0 : BitVec 32 := BitVec.ofNat 32 (i 0).val
  let c2_i32_184 : BitVec 32 := 2#32
  let v291 : BitVec 32 := Scalar.muli arg0 c2_i32_184
  let v292 : BitVec 32 := Scalar.addi v291 c0_i32_185
  let v293 : Index := Scalar.indexCast v292
  ![v293.toNat]
def k0_mult101 (i : grid0.Coords) (k0_t5 : Fin (k0_t5_loop i).trips) : BitVec 32 :=
  let c0_i32_87 : BitVec 32 := 0#32
  let c8_i32_86 : BitVec 32 := 8#32
  let arg1 : BitVec 32 := BitVec.ofNat 32 (i 1).val
  let c0_i32_75 : BitVec 32 := 0#32
  let v94 : BitVec 32 := Scalar.subi arg1 c0_i32_75
  let c0_i32_76 : BitVec 32 := 0#32
  let v96 : BitVec 1 := Scalar.cmpi .sgt v94 c0_i32_76
  let v97 : BitVec 32 := Scalar.extui v96
  let c0_i32_77 : BitVec 32 := 0#32
  let v98 : BitVec 1 := Scalar.cmpi .slt v94 c0_i32_77
  let v99 : BitVec 32 := Scalar.extui v98
  let v100 : BitVec 32 := Scalar.subi v97 v99
  let c8_i32 : BitVec 32 := 8#32
  let c0_i32_78 : BitVec 32 := 0#32
  let v101 : BitVec 1 := Scalar.cmpi .sgt c8_i32 c0_i32_78
  let v102 : BitVec 32 := Scalar.extui v101
  let c0_i32_79 : BitVec 32 := 0#32
  let v103 : BitVec 1 := Scalar.cmpi .slt c8_i32 c0_i32_79
  let v104 : BitVec 32 := Scalar.extui v103
  let v105 : BitVec 32 := Scalar.subi v102 v104
  let v106 : BitVec 1 := Scalar.cmpi .ne v100 v105
  let v107 : BitVec 32 := Scalar.remsi v94 c8_i32
  let c0_i32_80 : BitVec 32 := 0#32
  let v108 : BitVec 1 := Scalar.cmpi .ne v107 c0_i32_80
  let v109 : BitVec 1 := Scalar.andi v106 v108
  let v95 : BitVec 32 := Scalar.divsi v94 c8_i32
  let c1_i32 : BitVec 32 := 1#32
  let v110 : BitVec 32 := Scalar.subi v95 c1_i32
  let v111 : BitVec 32 := Scalar.select v109 v110 v95
  let v117 : BitVec 32 := Scalar.muli c8_i32_86 v111
  let v118 : BitVec 32 := Scalar.addi c0_i32_87 v117
  let c4_i32_99 : BitVec 32 := 4#32
  let v119 : BitVec 32 := Scalar.subi arg1 v118
  let c0_i32_88 : BitVec 32 := 0#32
  let v121 : BitVec 1 := Scalar.cmpi .sgt v119 c0_i32_88
  let v122 : BitVec 32 := Scalar.extui v121
  let c0_i32_89 : BitVec 32 := 0#32
  let v123 : BitVec 1 := Scalar.cmpi .slt v119 c0_i32_89
  let v124 : BitVec 32 := Scalar.extui v123
  let v125 : BitVec 32 := Scalar.subi v122 v124
  let c4_i32 : BitVec 32 := 4#32
  let c0_i32_90 : BitVec 32 := 0#32
  let v126 : BitVec 1 := Scalar.cmpi .sgt c4_i32 c0_i32_90
  let v127 : BitVec 32 := Scalar.extui v126
  let c0_i32_91 : BitVec 32 := 0#32
  let v128 : BitVec 1 := Scalar.cmpi .slt c4_i32 c0_i32_91
  let v129 : BitVec 32 := Scalar.extui v128
  let v130 : BitVec 32 := Scalar.subi v127 v129
  let v131 : BitVec 1 := Scalar.cmpi .ne v125 v130
  let v132 : BitVec 32 := Scalar.remsi v119 c4_i32
  let c0_i32_92 : BitVec 32 := 0#32
  let v133 : BitVec 1 := Scalar.cmpi .ne v132 c0_i32_92
  let v134 : BitVec 1 := Scalar.andi v131 v133
  let v120 : BitVec 32 := Scalar.divsi v119 c4_i32
  let c1_i32_93 : BitVec 32 := 1#32
  let v135 : BitVec 32 := Scalar.subi v120 c1_i32_93
  let v136 : BitVec 32 := Scalar.select v134 v135 v120
  let v142 : BitVec 32 := Scalar.muli c4_i32_99 v136
  let v143 : BitVec 32 := Scalar.addi v118 v142
  let c2_i32_148 : BitVec 32 := 2#32
  let c0_i32_107 : BitVec 32 := 0#32
  let c1_i32_109 : BitVec 32 := 1#32
  let arg17 : BitVec 32 := Scf.iv c0_i32_107 c1_i32_109 k0_t5
  let v252 : BitVec 32 := Scalar.muli c2_i32_148 arg17
  let v253 : BitVec 32 := Scalar.addi v143 v252
  let c0_i32_149 : BitVec 32 := 0#32
  let v254 : BitVec 32 := Scalar.addi v253 c0_i32_149
  let c1_i32_207 : BitVec 32 := 1#32
  let v325 : BitVec 32 := Scalar.addi v254 c1_i32_207
  let c256_i32_208 : BitVec 32 := 256#32
  let v326 : BitVec 32 := Scalar.muli v325 c256_i32_208
  v326
def k0_off24 (i : grid0.Coords) (k0_t5 : Fin (k0_t5_loop i).trips) (c0_i32_149 : BitVec 32) : Fin 2 → Nat :=
  let c0_i32_87 : BitVec 32 := 0#32
  let c8_i32_86 : BitVec 32 := 8#32
  let arg1 : BitVec 32 := BitVec.ofNat 32 (i 1).val
  let c0_i32_75 : BitVec 32 := 0#32
  let v94 : BitVec 32 := Scalar.subi arg1 c0_i32_75
  let c0_i32_76 : BitVec 32 := 0#32
  let v96 : BitVec 1 := Scalar.cmpi .sgt v94 c0_i32_76
  let v97 : BitVec 32 := Scalar.extui v96
  let c0_i32_77 : BitVec 32 := 0#32
  let v98 : BitVec 1 := Scalar.cmpi .slt v94 c0_i32_77
  let v99 : BitVec 32 := Scalar.extui v98
  let v100 : BitVec 32 := Scalar.subi v97 v99
  let c8_i32 : BitVec 32 := 8#32
  let c0_i32_78 : BitVec 32 := 0#32
  let v101 : BitVec 1 := Scalar.cmpi .sgt c8_i32 c0_i32_78
  let v102 : BitVec 32 := Scalar.extui v101
  let c0_i32_79 : BitVec 32 := 0#32
  let v103 : BitVec 1 := Scalar.cmpi .slt c8_i32 c0_i32_79
  let v104 : BitVec 32 := Scalar.extui v103
  let v105 : BitVec 32 := Scalar.subi v102 v104
  let v106 : BitVec 1 := Scalar.cmpi .ne v100 v105
  let v107 : BitVec 32 := Scalar.remsi v94 c8_i32
  let c0_i32_80 : BitVec 32 := 0#32
  let v108 : BitVec 1 := Scalar.cmpi .ne v107 c0_i32_80
  let v109 : BitVec 1 := Scalar.andi v106 v108
  let v95 : BitVec 32 := Scalar.divsi v94 c8_i32
  let c1_i32 : BitVec 32 := 1#32
  let v110 : BitVec 32 := Scalar.subi v95 c1_i32
  let v111 : BitVec 32 := Scalar.select v109 v110 v95
  let v117 : BitVec 32 := Scalar.muli c8_i32_86 v111
  let v118 : BitVec 32 := Scalar.addi c0_i32_87 v117
  let c4_i32_99 : BitVec 32 := 4#32
  let v119 : BitVec 32 := Scalar.subi arg1 v118
  let c0_i32_88 : BitVec 32 := 0#32
  let v121 : BitVec 1 := Scalar.cmpi .sgt v119 c0_i32_88
  let v122 : BitVec 32 := Scalar.extui v121
  let c0_i32_89 : BitVec 32 := 0#32
  let v123 : BitVec 1 := Scalar.cmpi .slt v119 c0_i32_89
  let v124 : BitVec 32 := Scalar.extui v123
  let v125 : BitVec 32 := Scalar.subi v122 v124
  let c4_i32 : BitVec 32 := 4#32
  let c0_i32_90 : BitVec 32 := 0#32
  let v126 : BitVec 1 := Scalar.cmpi .sgt c4_i32 c0_i32_90
  let v127 : BitVec 32 := Scalar.extui v126
  let c0_i32_91 : BitVec 32 := 0#32
  let v128 : BitVec 1 := Scalar.cmpi .slt c4_i32 c0_i32_91
  let v129 : BitVec 32 := Scalar.extui v128
  let v130 : BitVec 32 := Scalar.subi v127 v129
  let v131 : BitVec 1 := Scalar.cmpi .ne v125 v130
  let v132 : BitVec 32 := Scalar.remsi v119 c4_i32
  let c0_i32_92 : BitVec 32 := 0#32
  let v133 : BitVec 1 := Scalar.cmpi .ne v132 c0_i32_92
  let v134 : BitVec 1 := Scalar.andi v131 v133
  let v120 : BitVec 32 := Scalar.divsi v119 c4_i32
  let c1_i32_93 : BitVec 32 := 1#32
  let v135 : BitVec 32 := Scalar.subi v120 c1_i32_93
  let v136 : BitVec 32 := Scalar.select v134 v135 v120
  let v142 : BitVec 32 := Scalar.muli c4_i32_99 v136
  let v143 : BitVec 32 := Scalar.addi v118 v142
  let c2_i32_148 : BitVec 32 := 2#32
  let c0_i32_107 : BitVec 32 := 0#32
  let c1_i32_109 : BitVec 32 := 1#32
  let arg17 : BitVec 32 := Scf.iv c0_i32_107 c1_i32_109 k0_t5
  let v252 : BitVec 32 := Scalar.muli c2_i32_148 arg17
  let v253 : BitVec 32 := Scalar.addi v143 v252
  let v254 : BitVec 32 := Scalar.addi v253 c0_i32_149
  let c1_i32_207 : BitVec 32 := 1#32
  let v325 : BitVec 32 := Scalar.addi v254 c1_i32_207
  let c256_i32_208 : BitVec 32 := 256#32
  let v326 : BitVec 32 := Scalar.muli v325 c256_i32_208
  let v327 : BitVec 32 := v326
  let v328 : Index := Scalar.indexCast v327
  let c128_209 : Index := 128#32
  ![v328.toNat, 128]
def k0_mult102 (i : grid0.Coords) (k0_t5 : Fin (k0_t5_loop i).trips) : BitVec 32 :=
  let c0_i32_87 : BitVec 32 := 0#32
  let c8_i32_86 : BitVec 32 := 8#32
  let arg1 : BitVec 32 := BitVec.ofNat 32 (i 1).val
  let c0_i32_75 : BitVec 32 := 0#32
  let v94 : BitVec 32 := Scalar.subi arg1 c0_i32_75
  let c0_i32_76 : BitVec 32 := 0#32
  let v96 : BitVec 1 := Scalar.cmpi .sgt v94 c0_i32_76
  let v97 : BitVec 32 := Scalar.extui v96
  let c0_i32_77 : BitVec 32 := 0#32
  let v98 : BitVec 1 := Scalar.cmpi .slt v94 c0_i32_77
  let v99 : BitVec 32 := Scalar.extui v98
  let v100 : BitVec 32 := Scalar.subi v97 v99
  let c8_i32 : BitVec 32 := 8#32
  let c0_i32_78 : BitVec 32 := 0#32
  let v101 : BitVec 1 := Scalar.cmpi .sgt c8_i32 c0_i32_78
  let v102 : BitVec 32 := Scalar.extui v101
  let c0_i32_79 : BitVec 32 := 0#32
  let v103 : BitVec 1 := Scalar.cmpi .slt c8_i32 c0_i32_79
  let v104 : BitVec 32 := Scalar.extui v103
  let v105 : BitVec 32 := Scalar.subi v102 v104
  let v106 : BitVec 1 := Scalar.cmpi .ne v100 v105
  let v107 : BitVec 32 := Scalar.remsi v94 c8_i32
  let c0_i32_80 : BitVec 32 := 0#32
  let v108 : BitVec 1 := Scalar.cmpi .ne v107 c0_i32_80
  let v109 : BitVec 1 := Scalar.andi v106 v108
  let v95 : BitVec 32 := Scalar.divsi v94 c8_i32
  let c1_i32 : BitVec 32 := 1#32
  let v110 : BitVec 32 := Scalar.subi v95 c1_i32
  let v111 : BitVec 32 := Scalar.select v109 v110 v95
  let v117 : BitVec 32 := Scalar.muli c8_i32_86 v111
  let v118 : BitVec 32 := Scalar.addi c0_i32_87 v117
  let c4_i32_99 : BitVec 32 := 4#32
  let v119 : BitVec 32 := Scalar.subi arg1 v118
  let c0_i32_88 : BitVec 32 := 0#32
  let v121 : BitVec 1 := Scalar.cmpi .sgt v119 c0_i32_88
  let v122 : BitVec 32 := Scalar.extui v121
  let c0_i32_89 : BitVec 32 := 0#32
  let v123 : BitVec 1 := Scalar.cmpi .slt v119 c0_i32_89
  let v124 : BitVec 32 := Scalar.extui v123
  let v125 : BitVec 32 := Scalar.subi v122 v124
  let c4_i32 : BitVec 32 := 4#32
  let c0_i32_90 : BitVec 32 := 0#32
  let v126 : BitVec 1 := Scalar.cmpi .sgt c4_i32 c0_i32_90
  let v127 : BitVec 32 := Scalar.extui v126
  let c0_i32_91 : BitVec 32 := 0#32
  let v128 : BitVec 1 := Scalar.cmpi .slt c4_i32 c0_i32_91
  let v129 : BitVec 32 := Scalar.extui v128
  let v130 : BitVec 32 := Scalar.subi v127 v129
  let v131 : BitVec 1 := Scalar.cmpi .ne v125 v130
  let v132 : BitVec 32 := Scalar.remsi v119 c4_i32
  let c0_i32_92 : BitVec 32 := 0#32
  let v133 : BitVec 1 := Scalar.cmpi .ne v132 c0_i32_92
  let v134 : BitVec 1 := Scalar.andi v131 v133
  let v120 : BitVec 32 := Scalar.divsi v119 c4_i32
  let c1_i32_93 : BitVec 32 := 1#32
  let v135 : BitVec 32 := Scalar.subi v120 c1_i32_93
  let v136 : BitVec 32 := Scalar.select v134 v135 v120
  let v142 : BitVec 32 := Scalar.muli c4_i32_99 v136
  let v143 : BitVec 32 := Scalar.addi v118 v142
  let c2_i32_148 : BitVec 32 := 2#32
  let c0_i32_107 : BitVec 32 := 0#32
  let c1_i32_109 : BitVec 32 := 1#32
  let arg17 : BitVec 32 := Scf.iv c0_i32_107 c1_i32_109 k0_t5
  let v252 : BitVec 32 := Scalar.muli c2_i32_148 arg17
  let v253 : BitVec 32 := Scalar.addi v143 v252
  let c0_i32_149 : BitVec 32 := 0#32
  let v254 : BitVec 32 := Scalar.addi v253 c0_i32_149
  let c1_i32_221 : BitVec 32 := 1#32
  let v339 : BitVec 32 := Scalar.subi v254 c1_i32_221
  let c0_i32_222 : BitVec 32 := 0#32
  let v340 : BitVec 32 := Scalar.maxsi v339 c0_i32_222
  let c256_i32_223 : BitVec 32 := 256#32
  let v341 : BitVec 32 := Scalar.muli v340 c256_i32_223
  v341
def k0_off25 (i : grid0.Coords) (k0_t5 : Fin (k0_t5_loop i).trips) (c0_i32_149 : BitVec 32) : Fin 3 → Nat :=
  let c1_224 : Index := 1#32
  let c0_225 : Index := 0#32
  let c0_i32_87 : BitVec 32 := 0#32
  let c8_i32_86 : BitVec 32 := 8#32
  let arg1 : BitVec 32 := BitVec.ofNat 32 (i 1).val
  let c0_i32_75 : BitVec 32 := 0#32
  let v94 : BitVec 32 := Scalar.subi arg1 c0_i32_75
  let c0_i32_76 : BitVec 32 := 0#32
  let v96 : BitVec 1 := Scalar.cmpi .sgt v94 c0_i32_76
  let v97 : BitVec 32 := Scalar.extui v96
  let c0_i32_77 : BitVec 32 := 0#32
  let v98 : BitVec 1 := Scalar.cmpi .slt v94 c0_i32_77
  let v99 : BitVec 32 := Scalar.extui v98
  let v100 : BitVec 32 := Scalar.subi v97 v99
  let c8_i32 : BitVec 32 := 8#32
  let c0_i32_78 : BitVec 32 := 0#32
  let v101 : BitVec 1 := Scalar.cmpi .sgt c8_i32 c0_i32_78
  let v102 : BitVec 32 := Scalar.extui v101
  let c0_i32_79 : BitVec 32 := 0#32
  let v103 : BitVec 1 := Scalar.cmpi .slt c8_i32 c0_i32_79
  let v104 : BitVec 32 := Scalar.extui v103
  let v105 : BitVec 32 := Scalar.subi v102 v104
  let v106 : BitVec 1 := Scalar.cmpi .ne v100 v105
  let v107 : BitVec 32 := Scalar.remsi v94 c8_i32
  let c0_i32_80 : BitVec 32 := 0#32
  let v108 : BitVec 1 := Scalar.cmpi .ne v107 c0_i32_80
  let v109 : BitVec 1 := Scalar.andi v106 v108
  let v95 : BitVec 32 := Scalar.divsi v94 c8_i32
  let c1_i32 : BitVec 32 := 1#32
  let v110 : BitVec 32 := Scalar.subi v95 c1_i32
  let v111 : BitVec 32 := Scalar.select v109 v110 v95
  let v117 : BitVec 32 := Scalar.muli c8_i32_86 v111
  let v118 : BitVec 32 := Scalar.addi c0_i32_87 v117
  let c4_i32_99 : BitVec 32 := 4#32
  let v119 : BitVec 32 := Scalar.subi arg1 v118
  let c0_i32_88 : BitVec 32 := 0#32
  let v121 : BitVec 1 := Scalar.cmpi .sgt v119 c0_i32_88
  let v122 : BitVec 32 := Scalar.extui v121
  let c0_i32_89 : BitVec 32 := 0#32
  let v123 : BitVec 1 := Scalar.cmpi .slt v119 c0_i32_89
  let v124 : BitVec 32 := Scalar.extui v123
  let v125 : BitVec 32 := Scalar.subi v122 v124
  let c4_i32 : BitVec 32 := 4#32
  let c0_i32_90 : BitVec 32 := 0#32
  let v126 : BitVec 1 := Scalar.cmpi .sgt c4_i32 c0_i32_90
  let v127 : BitVec 32 := Scalar.extui v126
  let c0_i32_91 : BitVec 32 := 0#32
  let v128 : BitVec 1 := Scalar.cmpi .slt c4_i32 c0_i32_91
  let v129 : BitVec 32 := Scalar.extui v128
  let v130 : BitVec 32 := Scalar.subi v127 v129
  let v131 : BitVec 1 := Scalar.cmpi .ne v125 v130
  let v132 : BitVec 32 := Scalar.remsi v119 c4_i32
  let c0_i32_92 : BitVec 32 := 0#32
  let v133 : BitVec 1 := Scalar.cmpi .ne v132 c0_i32_92
  let v134 : BitVec 1 := Scalar.andi v131 v133
  let v120 : BitVec 32 := Scalar.divsi v119 c4_i32
  let c1_i32_93 : BitVec 32 := 1#32
  let v135 : BitVec 32 := Scalar.subi v120 c1_i32_93
  let v136 : BitVec 32 := Scalar.select v134 v135 v120
  let v142 : BitVec 32 := Scalar.muli c4_i32_99 v136
  let v143 : BitVec 32 := Scalar.addi v118 v142
  let c2_i32_148 : BitVec 32 := 2#32
  let c0_i32_107 : BitVec 32 := 0#32
  let c1_i32_109 : BitVec 32 := 1#32
  let arg17 : BitVec 32 := Scf.iv c0_i32_107 c1_i32_109 k0_t5
  let v252 : BitVec 32 := Scalar.muli c2_i32_148 arg17
  let v253 : BitVec 32 := Scalar.addi v143 v252
  let v254 : BitVec 32 := Scalar.addi v253 c0_i32_149
  let c1_i32_221 : BitVec 32 := 1#32
  let v339 : BitVec 32 := Scalar.subi v254 c1_i32_221
  let c0_i32_222 : BitVec 32 := 0#32
  let v340 : BitVec 32 := Scalar.maxsi v339 c0_i32_222
  let c256_i32_223 : BitVec 32 := 256#32
  let v341 : BitVec 32 := Scalar.muli v340 c256_i32_223
  let v342 : BitVec 32 := v341
  let v343 : Index := Scalar.indexCast v342
  ![1, 0, v343.toNat]
def k0_mult103 (i : grid0.Coords) (k0_t5 : Fin (k0_t5_loop i).trips) : BitVec 32 :=
  let c0_i32_87 : BitVec 32 := 0#32
  let c8_i32_86 : BitVec 32 := 8#32
  let arg1 : BitVec 32 := BitVec.ofNat 32 (i 1).val
  let c0_i32_75 : BitVec 32 := 0#32
  let v94 : BitVec 32 := Scalar.subi arg1 c0_i32_75
  let c0_i32_76 : BitVec 32 := 0#32
  let v96 : BitVec 1 := Scalar.cmpi .sgt v94 c0_i32_76
  let v97 : BitVec 32 := Scalar.extui v96
  let c0_i32_77 : BitVec 32 := 0#32
  let v98 : BitVec 1 := Scalar.cmpi .slt v94 c0_i32_77
  let v99 : BitVec 32 := Scalar.extui v98
  let v100 : BitVec 32 := Scalar.subi v97 v99
  let c8_i32 : BitVec 32 := 8#32
  let c0_i32_78 : BitVec 32 := 0#32
  let v101 : BitVec 1 := Scalar.cmpi .sgt c8_i32 c0_i32_78
  let v102 : BitVec 32 := Scalar.extui v101
  let c0_i32_79 : BitVec 32 := 0#32
  let v103 : BitVec 1 := Scalar.cmpi .slt c8_i32 c0_i32_79
  let v104 : BitVec 32 := Scalar.extui v103
  let v105 : BitVec 32 := Scalar.subi v102 v104
  let v106 : BitVec 1 := Scalar.cmpi .ne v100 v105
  let v107 : BitVec 32 := Scalar.remsi v94 c8_i32
  let c0_i32_80 : BitVec 32 := 0#32
  let v108 : BitVec 1 := Scalar.cmpi .ne v107 c0_i32_80
  let v109 : BitVec 1 := Scalar.andi v106 v108
  let v95 : BitVec 32 := Scalar.divsi v94 c8_i32
  let c1_i32 : BitVec 32 := 1#32
  let v110 : BitVec 32 := Scalar.subi v95 c1_i32
  let v111 : BitVec 32 := Scalar.select v109 v110 v95
  let v117 : BitVec 32 := Scalar.muli c8_i32_86 v111
  let v118 : BitVec 32 := Scalar.addi c0_i32_87 v117
  let c4_i32_99 : BitVec 32 := 4#32
  let v119 : BitVec 32 := Scalar.subi arg1 v118
  let c0_i32_88 : BitVec 32 := 0#32
  let v121 : BitVec 1 := Scalar.cmpi .sgt v119 c0_i32_88
  let v122 : BitVec 32 := Scalar.extui v121
  let c0_i32_89 : BitVec 32 := 0#32
  let v123 : BitVec 1 := Scalar.cmpi .slt v119 c0_i32_89
  let v124 : BitVec 32 := Scalar.extui v123
  let v125 : BitVec 32 := Scalar.subi v122 v124
  let c4_i32 : BitVec 32 := 4#32
  let c0_i32_90 : BitVec 32 := 0#32
  let v126 : BitVec 1 := Scalar.cmpi .sgt c4_i32 c0_i32_90
  let v127 : BitVec 32 := Scalar.extui v126
  let c0_i32_91 : BitVec 32 := 0#32
  let v128 : BitVec 1 := Scalar.cmpi .slt c4_i32 c0_i32_91
  let v129 : BitVec 32 := Scalar.extui v128
  let v130 : BitVec 32 := Scalar.subi v127 v129
  let v131 : BitVec 1 := Scalar.cmpi .ne v125 v130
  let v132 : BitVec 32 := Scalar.remsi v119 c4_i32
  let c0_i32_92 : BitVec 32 := 0#32
  let v133 : BitVec 1 := Scalar.cmpi .ne v132 c0_i32_92
  let v134 : BitVec 1 := Scalar.andi v131 v133
  let v120 : BitVec 32 := Scalar.divsi v119 c4_i32
  let c1_i32_93 : BitVec 32 := 1#32
  let v135 : BitVec 32 := Scalar.subi v120 c1_i32_93
  let v136 : BitVec 32 := Scalar.select v134 v135 v120
  let v142 : BitVec 32 := Scalar.muli c4_i32_99 v136
  let v143 : BitVec 32 := Scalar.addi v118 v142
  let c2_i32_265 : BitVec 32 := 2#32
  let c0_i32_107 : BitVec 32 := 0#32
  let c1_i32_109 : BitVec 32 := 1#32
  let arg17 : BitVec 32 := Scf.iv c0_i32_107 c1_i32_109 k0_t5
  let v395 : BitVec 32 := Scalar.muli c2_i32_265 arg17
  let v396 : BitVec 32 := Scalar.addi v143 v395
  let c1_i32_266 : BitVec 32 := 1#32
  let v397 : BitVec 32 := Scalar.addi v396 c1_i32_266
  let c1_i32_267 : BitVec 32 := 1#32
  let v398 : BitVec 32 := Scalar.addi v397 c1_i32_267
  let c256_i32_268 : BitVec 32 := 256#32
  let v399 : BitVec 32 := Scalar.muli v398 c256_i32_268
  v399
def k0_mult104 (i : grid0.Coords) (k0_t5 : Fin (k0_t5_loop i).trips) : BitVec 32 :=
  let c0_i32_87 : BitVec 32 := 0#32
  let c8_i32_86 : BitVec 32 := 8#32
  let arg1 : BitVec 32 := BitVec.ofNat 32 (i 1).val
  let c0_i32_75 : BitVec 32 := 0#32
  let v94 : BitVec 32 := Scalar.subi arg1 c0_i32_75
  let c0_i32_76 : BitVec 32 := 0#32
  let v96 : BitVec 1 := Scalar.cmpi .sgt v94 c0_i32_76
  let v97 : BitVec 32 := Scalar.extui v96
  let c0_i32_77 : BitVec 32 := 0#32
  let v98 : BitVec 1 := Scalar.cmpi .slt v94 c0_i32_77
  let v99 : BitVec 32 := Scalar.extui v98
  let v100 : BitVec 32 := Scalar.subi v97 v99
  let c8_i32 : BitVec 32 := 8#32
  let c0_i32_78 : BitVec 32 := 0#32
  let v101 : BitVec 1 := Scalar.cmpi .sgt c8_i32 c0_i32_78
  let v102 : BitVec 32 := Scalar.extui v101
  let c0_i32_79 : BitVec 32 := 0#32
  let v103 : BitVec 1 := Scalar.cmpi .slt c8_i32 c0_i32_79
  let v104 : BitVec 32 := Scalar.extui v103
  let v105 : BitVec 32 := Scalar.subi v102 v104
  let v106 : BitVec 1 := Scalar.cmpi .ne v100 v105
  let v107 : BitVec 32 := Scalar.remsi v94 c8_i32
  let c0_i32_80 : BitVec 32 := 0#32
  let v108 : BitVec 1 := Scalar.cmpi .ne v107 c0_i32_80
  let v109 : BitVec 1 := Scalar.andi v106 v108
  let v95 : BitVec 32 := Scalar.divsi v94 c8_i32
  let c1_i32 : BitVec 32 := 1#32
  let v110 : BitVec 32 := Scalar.subi v95 c1_i32
  let v111 : BitVec 32 := Scalar.select v109 v110 v95
  let v117 : BitVec 32 := Scalar.muli c8_i32_86 v111
  let v118 : BitVec 32 := Scalar.addi c0_i32_87 v117
  let c4_i32_99 : BitVec 32 := 4#32
  let v119 : BitVec 32 := Scalar.subi arg1 v118
  let c0_i32_88 : BitVec 32 := 0#32
  let v121 : BitVec 1 := Scalar.cmpi .sgt v119 c0_i32_88
  let v122 : BitVec 32 := Scalar.extui v121
  let c0_i32_89 : BitVec 32 := 0#32
  let v123 : BitVec 1 := Scalar.cmpi .slt v119 c0_i32_89
  let v124 : BitVec 32 := Scalar.extui v123
  let v125 : BitVec 32 := Scalar.subi v122 v124
  let c4_i32 : BitVec 32 := 4#32
  let c0_i32_90 : BitVec 32 := 0#32
  let v126 : BitVec 1 := Scalar.cmpi .sgt c4_i32 c0_i32_90
  let v127 : BitVec 32 := Scalar.extui v126
  let c0_i32_91 : BitVec 32 := 0#32
  let v128 : BitVec 1 := Scalar.cmpi .slt c4_i32 c0_i32_91
  let v129 : BitVec 32 := Scalar.extui v128
  let v130 : BitVec 32 := Scalar.subi v127 v129
  let v131 : BitVec 1 := Scalar.cmpi .ne v125 v130
  let v132 : BitVec 32 := Scalar.remsi v119 c4_i32
  let c0_i32_92 : BitVec 32 := 0#32
  let v133 : BitVec 1 := Scalar.cmpi .ne v132 c0_i32_92
  let v134 : BitVec 1 := Scalar.andi v131 v133
  let v120 : BitVec 32 := Scalar.divsi v119 c4_i32
  let c1_i32_93 : BitVec 32 := 1#32
  let v135 : BitVec 32 := Scalar.subi v120 c1_i32_93
  let v136 : BitVec 32 := Scalar.select v134 v135 v120
  let v142 : BitVec 32 := Scalar.muli c4_i32_99 v136
  let v143 : BitVec 32 := Scalar.addi v118 v142
  let c2_i32_265 : BitVec 32 := 2#32
  let c0_i32_107 : BitVec 32 := 0#32
  let c1_i32_109 : BitVec 32 := 1#32
  let arg17 : BitVec 32 := Scf.iv c0_i32_107 c1_i32_109 k0_t5
  let v395 : BitVec 32 := Scalar.muli c2_i32_265 arg17
  let v396 : BitVec 32 := Scalar.addi v143 v395
  let c1_i32_266 : BitVec 32 := 1#32
  let v397 : BitVec 32 := Scalar.addi v396 c1_i32_266
  let c1_i32_281 : BitVec 32 := 1#32
  let v412 : BitVec 32 := Scalar.subi v397 c1_i32_281
  let c0_i32_282 : BitVec 32 := 0#32
  let v413 : BitVec 32 := Scalar.maxsi v412 c0_i32_282
  let c256_i32_283 : BitVec 32 := 256#32
  let v414 : BitVec 32 := Scalar.muli v413 c256_i32_283
  v414
def k0_mult105 (i : grid0.Coords) (k0_t5 : Fin (k0_t5_loop i).trips) : BitVec 32 :=
  let c0_i32_87 : BitVec 32 := 0#32
  let c8_i32_86 : BitVec 32 := 8#32
  let arg1 : BitVec 32 := BitVec.ofNat 32 (i 1).val
  let c0_i32_75 : BitVec 32 := 0#32
  let v94 : BitVec 32 := Scalar.subi arg1 c0_i32_75
  let c0_i32_76 : BitVec 32 := 0#32
  let v96 : BitVec 1 := Scalar.cmpi .sgt v94 c0_i32_76
  let v97 : BitVec 32 := Scalar.extui v96
  let c0_i32_77 : BitVec 32 := 0#32
  let v98 : BitVec 1 := Scalar.cmpi .slt v94 c0_i32_77
  let v99 : BitVec 32 := Scalar.extui v98
  let v100 : BitVec 32 := Scalar.subi v97 v99
  let c8_i32 : BitVec 32 := 8#32
  let c0_i32_78 : BitVec 32 := 0#32
  let v101 : BitVec 1 := Scalar.cmpi .sgt c8_i32 c0_i32_78
  let v102 : BitVec 32 := Scalar.extui v101
  let c0_i32_79 : BitVec 32 := 0#32
  let v103 : BitVec 1 := Scalar.cmpi .slt c8_i32 c0_i32_79
  let v104 : BitVec 32 := Scalar.extui v103
  let v105 : BitVec 32 := Scalar.subi v102 v104
  let v106 : BitVec 1 := Scalar.cmpi .ne v100 v105
  let v107 : BitVec 32 := Scalar.remsi v94 c8_i32
  let c0_i32_80 : BitVec 32 := 0#32
  let v108 : BitVec 1 := Scalar.cmpi .ne v107 c0_i32_80
  let v109 : BitVec 1 := Scalar.andi v106 v108
  let v95 : BitVec 32 := Scalar.divsi v94 c8_i32
  let c1_i32 : BitVec 32 := 1#32
  let v110 : BitVec 32 := Scalar.subi v95 c1_i32
  let v111 : BitVec 32 := Scalar.select v109 v110 v95
  let v117 : BitVec 32 := Scalar.muli c8_i32_86 v111
  let v118 : BitVec 32 := Scalar.addi c0_i32_87 v117
  let c4_i32_99 : BitVec 32 := 4#32
  let v119 : BitVec 32 := Scalar.subi arg1 v118
  let c0_i32_88 : BitVec 32 := 0#32
  let v121 : BitVec 1 := Scalar.cmpi .sgt v119 c0_i32_88
  let v122 : BitVec 32 := Scalar.extui v121
  let c0_i32_89 : BitVec 32 := 0#32
  let v123 : BitVec 1 := Scalar.cmpi .slt v119 c0_i32_89
  let v124 : BitVec 32 := Scalar.extui v123
  let v125 : BitVec 32 := Scalar.subi v122 v124
  let c4_i32 : BitVec 32 := 4#32
  let c0_i32_90 : BitVec 32 := 0#32
  let v126 : BitVec 1 := Scalar.cmpi .sgt c4_i32 c0_i32_90
  let v127 : BitVec 32 := Scalar.extui v126
  let c0_i32_91 : BitVec 32 := 0#32
  let v128 : BitVec 1 := Scalar.cmpi .slt c4_i32 c0_i32_91
  let v129 : BitVec 32 := Scalar.extui v128
  let v130 : BitVec 32 := Scalar.subi v127 v129
  let v131 : BitVec 1 := Scalar.cmpi .ne v125 v130
  let v132 : BitVec 32 := Scalar.remsi v119 c4_i32
  let c0_i32_92 : BitVec 32 := 0#32
  let v133 : BitVec 1 := Scalar.cmpi .ne v132 c0_i32_92
  let v134 : BitVec 1 := Scalar.andi v131 v133
  let v120 : BitVec 32 := Scalar.divsi v119 c4_i32
  let c1_i32_93 : BitVec 32 := 1#32
  let v135 : BitVec 32 := Scalar.subi v120 c1_i32_93
  let v136 : BitVec 32 := Scalar.select v134 v135 v120
  let v142 : BitVec 32 := Scalar.muli c4_i32_99 v136
  let v143 : BitVec 32 := Scalar.addi v118 v142
  let c2_i32_265 : BitVec 32 := 2#32
  let c0_i32_107 : BitVec 32 := 0#32
  let c1_i32_109 : BitVec 32 := 1#32
  let arg17 : BitVec 32 := Scf.iv c0_i32_107 c1_i32_109 k0_t5
  let v395 : BitVec 32 := Scalar.muli c2_i32_265 arg17
  let v396 : BitVec 32 := Scalar.addi v143 v395
  let c1_i32_266 : BitVec 32 := 1#32
  let v397 : BitVec 32 := Scalar.addi v396 c1_i32_266
  let c1_i32_325 : BitVec 32 := 1#32
  let v468 : BitVec 32 := Scalar.addi v397 c1_i32_325
  let c256_i32_326 : BitVec 32 := 256#32
  let v469 : BitVec 32 := Scalar.muli v468 c256_i32_326
  v469
def k0_mult106 (i : grid0.Coords) (k0_t5 : Fin (k0_t5_loop i).trips) : BitVec 32 :=
  let c0_i32_87 : BitVec 32 := 0#32
  let c8_i32_86 : BitVec 32 := 8#32
  let arg1 : BitVec 32 := BitVec.ofNat 32 (i 1).val
  let c0_i32_75 : BitVec 32 := 0#32
  let v94 : BitVec 32 := Scalar.subi arg1 c0_i32_75
  let c0_i32_76 : BitVec 32 := 0#32
  let v96 : BitVec 1 := Scalar.cmpi .sgt v94 c0_i32_76
  let v97 : BitVec 32 := Scalar.extui v96
  let c0_i32_77 : BitVec 32 := 0#32
  let v98 : BitVec 1 := Scalar.cmpi .slt v94 c0_i32_77
  let v99 : BitVec 32 := Scalar.extui v98
  let v100 : BitVec 32 := Scalar.subi v97 v99
  let c8_i32 : BitVec 32 := 8#32
  let c0_i32_78 : BitVec 32 := 0#32
  let v101 : BitVec 1 := Scalar.cmpi .sgt c8_i32 c0_i32_78
  let v102 : BitVec 32 := Scalar.extui v101
  let c0_i32_79 : BitVec 32 := 0#32
  let v103 : BitVec 1 := Scalar.cmpi .slt c8_i32 c0_i32_79
  let v104 : BitVec 32 := Scalar.extui v103
  let v105 : BitVec 32 := Scalar.subi v102 v104
  let v106 : BitVec 1 := Scalar.cmpi .ne v100 v105
  let v107 : BitVec 32 := Scalar.remsi v94 c8_i32
  let c0_i32_80 : BitVec 32 := 0#32
  let v108 : BitVec 1 := Scalar.cmpi .ne v107 c0_i32_80
  let v109 : BitVec 1 := Scalar.andi v106 v108
  let v95 : BitVec 32 := Scalar.divsi v94 c8_i32
  let c1_i32 : BitVec 32 := 1#32
  let v110 : BitVec 32 := Scalar.subi v95 c1_i32
  let v111 : BitVec 32 := Scalar.select v109 v110 v95
  let v117 : BitVec 32 := Scalar.muli c8_i32_86 v111
  let v118 : BitVec 32 := Scalar.addi c0_i32_87 v117
  let c4_i32_99 : BitVec 32 := 4#32
  let v119 : BitVec 32 := Scalar.subi arg1 v118
  let c0_i32_88 : BitVec 32 := 0#32
  let v121 : BitVec 1 := Scalar.cmpi .sgt v119 c0_i32_88
  let v122 : BitVec 32 := Scalar.extui v121
  let c0_i32_89 : BitVec 32 := 0#32
  let v123 : BitVec 1 := Scalar.cmpi .slt v119 c0_i32_89
  let v124 : BitVec 32 := Scalar.extui v123
  let v125 : BitVec 32 := Scalar.subi v122 v124
  let c4_i32 : BitVec 32 := 4#32
  let c0_i32_90 : BitVec 32 := 0#32
  let v126 : BitVec 1 := Scalar.cmpi .sgt c4_i32 c0_i32_90
  let v127 : BitVec 32 := Scalar.extui v126
  let c0_i32_91 : BitVec 32 := 0#32
  let v128 : BitVec 1 := Scalar.cmpi .slt c4_i32 c0_i32_91
  let v129 : BitVec 32 := Scalar.extui v128
  let v130 : BitVec 32 := Scalar.subi v127 v129
  let v131 : BitVec 1 := Scalar.cmpi .ne v125 v130
  let v132 : BitVec 32 := Scalar.remsi v119 c4_i32
  let c0_i32_92 : BitVec 32 := 0#32
  let v133 : BitVec 1 := Scalar.cmpi .ne v132 c0_i32_92
  let v134 : BitVec 1 := Scalar.andi v131 v133
  let v120 : BitVec 32 := Scalar.divsi v119 c4_i32
  let c1_i32_93 : BitVec 32 := 1#32
  let v135 : BitVec 32 := Scalar.subi v120 c1_i32_93
  let v136 : BitVec 32 := Scalar.select v134 v135 v120
  let v142 : BitVec 32 := Scalar.muli c4_i32_99 v136
  let v143 : BitVec 32 := Scalar.addi v118 v142
  let c2_i32_265 : BitVec 32 := 2#32
  let c0_i32_107 : BitVec 32 := 0#32
  let c1_i32_109 : BitVec 32 := 1#32
  let arg17 : BitVec 32 := Scf.iv c0_i32_107 c1_i32_109 k0_t5
  let v395 : BitVec 32 := Scalar.muli c2_i32_265 arg17
  let v396 : BitVec 32 := Scalar.addi v143 v395
  let c1_i32_266 : BitVec 32 := 1#32
  let v397 : BitVec 32 := Scalar.addi v396 c1_i32_266
  let c1_i32_339 : BitVec 32 := 1#32
  let v482 : BitVec 32 := Scalar.subi v397 c1_i32_339
  let c0_i32_340 : BitVec 32 := 0#32
  let v483 : BitVec 32 := Scalar.maxsi v482 c0_i32_340
  let c256_i32_341 : BitVec 32 := 256#32
  let v484 : BitVec 32 := Scalar.muli v483 c256_i32_341
  v484
@[reducible] def k0_t6_loop (i : grid0.Coords) : Scf.Loop 32 :=
  let c0_i32_107 : BitVec 32 := 0#32
  let arg1 : BitVec 32 := BitVec.ofNat 32 (i 1).val
  let c0_i32_87 : BitVec 32 := 0#32
  let c8_i32_86 : BitVec 32 := 8#32
  let c0_i32_75 : BitVec 32 := 0#32
  let v94 : BitVec 32 := Scalar.subi arg1 c0_i32_75
  let c0_i32_76 : BitVec 32 := 0#32
  let v96 : BitVec 1 := Scalar.cmpi .sgt v94 c0_i32_76
  let v97 : BitVec 32 := Scalar.extui v96
  let c0_i32_77 : BitVec 32 := 0#32
  let v98 : BitVec 1 := Scalar.cmpi .slt v94 c0_i32_77
  let v99 : BitVec 32 := Scalar.extui v98
  let v100 : BitVec 32 := Scalar.subi v97 v99
  let c8_i32 : BitVec 32 := 8#32
  let c0_i32_78 : BitVec 32 := 0#32
  let v101 : BitVec 1 := Scalar.cmpi .sgt c8_i32 c0_i32_78
  let v102 : BitVec 32 := Scalar.extui v101
  let c0_i32_79 : BitVec 32 := 0#32
  let v103 : BitVec 1 := Scalar.cmpi .slt c8_i32 c0_i32_79
  let v104 : BitVec 32 := Scalar.extui v103
  let v105 : BitVec 32 := Scalar.subi v102 v104
  let v106 : BitVec 1 := Scalar.cmpi .ne v100 v105
  let v107 : BitVec 32 := Scalar.remsi v94 c8_i32
  let c0_i32_80 : BitVec 32 := 0#32
  let v108 : BitVec 1 := Scalar.cmpi .ne v107 c0_i32_80
  let v109 : BitVec 1 := Scalar.andi v106 v108
  let v95 : BitVec 32 := Scalar.divsi v94 c8_i32
  let c1_i32 : BitVec 32 := 1#32
  let v110 : BitVec 32 := Scalar.subi v95 c1_i32
  let v111 : BitVec 32 := Scalar.select v109 v110 v95
  let v117 : BitVec 32 := Scalar.muli c8_i32_86 v111
  let v118 : BitVec 32 := Scalar.addi c0_i32_87 v117
  let c4_i32_99 : BitVec 32 := 4#32
  let v119 : BitVec 32 := Scalar.subi arg1 v118
  let c0_i32_88 : BitVec 32 := 0#32
  let v121 : BitVec 1 := Scalar.cmpi .sgt v119 c0_i32_88
  let v122 : BitVec 32 := Scalar.extui v121
  let c0_i32_89 : BitVec 32 := 0#32
  let v123 : BitVec 1 := Scalar.cmpi .slt v119 c0_i32_89
  let v124 : BitVec 32 := Scalar.extui v123
  let v125 : BitVec 32 := Scalar.subi v122 v124
  let c4_i32 : BitVec 32 := 4#32
  let c0_i32_90 : BitVec 32 := 0#32
  let v126 : BitVec 1 := Scalar.cmpi .sgt c4_i32 c0_i32_90
  let v127 : BitVec 32 := Scalar.extui v126
  let c0_i32_91 : BitVec 32 := 0#32
  let v128 : BitVec 1 := Scalar.cmpi .slt c4_i32 c0_i32_91
  let v129 : BitVec 32 := Scalar.extui v128
  let v130 : BitVec 32 := Scalar.subi v127 v129
  let v131 : BitVec 1 := Scalar.cmpi .ne v125 v130
  let v132 : BitVec 32 := Scalar.remsi v119 c4_i32
  let c0_i32_92 : BitVec 32 := 0#32
  let v133 : BitVec 1 := Scalar.cmpi .ne v132 c0_i32_92
  let v134 : BitVec 1 := Scalar.andi v131 v133
  let v120 : BitVec 32 := Scalar.divsi v119 c4_i32
  let c1_i32_93 : BitVec 32 := 1#32
  let v135 : BitVec 32 := Scalar.subi v120 c1_i32_93
  let v136 : BitVec 32 := Scalar.select v134 v135 v120
  let v142 : BitVec 32 := Scalar.muli c4_i32_99 v136
  let v143 : BitVec 32 := Scalar.addi v118 v142
  let v144 : BitVec 32 := Scalar.subi arg1 v143
  let c0_i32_100 : BitVec 32 := 0#32
  let v146 : BitVec 1 := Scalar.cmpi .sgt v144 c0_i32_100
  let v147 : BitVec 32 := Scalar.extui v146
  let c0_i32_101 : BitVec 32 := 0#32
  let v148 : BitVec 1 := Scalar.cmpi .slt v144 c0_i32_101
  let v149 : BitVec 32 := Scalar.extui v148
  let v150 : BitVec 32 := Scalar.subi v147 v149
  let c2_i32 : BitVec 32 := 2#32
  let c0_i32_102 : BitVec 32 := 0#32
  let v151 : BitVec 1 := Scalar.cmpi .sgt c2_i32 c0_i32_102
  let v152 : BitVec 32 := Scalar.extui v151
  let c0_i32_103 : BitVec 32 := 0#32
  let v153 : BitVec 1 := Scalar.cmpi .slt c2_i32 c0_i32_103
  let v154 : BitVec 32 := Scalar.extui v153
  let v155 : BitVec 32 := Scalar.subi v152 v154
  let v156 : BitVec 1 := Scalar.cmpi .ne v150 v155
  let v157 : BitVec 32 := Scalar.remsi v144 c2_i32
  let c0_i32_104 : BitVec 32 := 0#32
  let v158 : BitVec 1 := Scalar.cmpi .ne v157 c0_i32_104
  let v159 : BitVec 1 := Scalar.andi v156 v158
  let v145 : BitVec 32 := Scalar.divsi v144 c2_i32
  let c1_i32_105 : BitVec 32 := 1#32
  let v160 : BitVec 32 := Scalar.subi v145 c1_i32_105
  let v161 : BitVec 32 := Scalar.select v159 v160 v145
  let v162 : BitVec 32 := Scalar.subi v161 c0_i32_107
  let c1_i32_108 : BitVec 32 := 1#32
  let v164 : BitVec 32 := Scalar.divsi v162 c1_i32_108
  let v165 : BitVec 32 := Scalar.muli v164 c1_i32_108
  let v166 : BitVec 32 := Scalar.addi c0_i32_107 v165
  let v163 : BitVec 32 := Scalar.addi c0_i32_107 v162
  let c1_i32_110 : BitVec 32 := 1#32
  ⟨v166, v163, c1_i32_110⟩
def k0_mult107 (i : grid0.Coords) (k0_t6 : Fin (k0_t6_loop i).trips) : BitVec 32 :=
  let c0_i32_87 : BitVec 32 := 0#32
  let c8_i32_86 : BitVec 32 := 8#32
  let arg1 : BitVec 32 := BitVec.ofNat 32 (i 1).val
  let c0_i32_75 : BitVec 32 := 0#32
  let v94 : BitVec 32 := Scalar.subi arg1 c0_i32_75
  let c0_i32_76 : BitVec 32 := 0#32
  let v96 : BitVec 1 := Scalar.cmpi .sgt v94 c0_i32_76
  let v97 : BitVec 32 := Scalar.extui v96
  let c0_i32_77 : BitVec 32 := 0#32
  let v98 : BitVec 1 := Scalar.cmpi .slt v94 c0_i32_77
  let v99 : BitVec 32 := Scalar.extui v98
  let v100 : BitVec 32 := Scalar.subi v97 v99
  let c8_i32 : BitVec 32 := 8#32
  let c0_i32_78 : BitVec 32 := 0#32
  let v101 : BitVec 1 := Scalar.cmpi .sgt c8_i32 c0_i32_78
  let v102 : BitVec 32 := Scalar.extui v101
  let c0_i32_79 : BitVec 32 := 0#32
  let v103 : BitVec 1 := Scalar.cmpi .slt c8_i32 c0_i32_79
  let v104 : BitVec 32 := Scalar.extui v103
  let v105 : BitVec 32 := Scalar.subi v102 v104
  let v106 : BitVec 1 := Scalar.cmpi .ne v100 v105
  let v107 : BitVec 32 := Scalar.remsi v94 c8_i32
  let c0_i32_80 : BitVec 32 := 0#32
  let v108 : BitVec 1 := Scalar.cmpi .ne v107 c0_i32_80
  let v109 : BitVec 1 := Scalar.andi v106 v108
  let v95 : BitVec 32 := Scalar.divsi v94 c8_i32
  let c1_i32 : BitVec 32 := 1#32
  let v110 : BitVec 32 := Scalar.subi v95 c1_i32
  let v111 : BitVec 32 := Scalar.select v109 v110 v95
  let v117 : BitVec 32 := Scalar.muli c8_i32_86 v111
  let v118 : BitVec 32 := Scalar.addi c0_i32_87 v117
  let c4_i32_99 : BitVec 32 := 4#32
  let v119 : BitVec 32 := Scalar.subi arg1 v118
  let c0_i32_88 : BitVec 32 := 0#32
  let v121 : BitVec 1 := Scalar.cmpi .sgt v119 c0_i32_88
  let v122 : BitVec 32 := Scalar.extui v121
  let c0_i32_89 : BitVec 32 := 0#32
  let v123 : BitVec 1 := Scalar.cmpi .slt v119 c0_i32_89
  let v124 : BitVec 32 := Scalar.extui v123
  let v125 : BitVec 32 := Scalar.subi v122 v124
  let c4_i32 : BitVec 32 := 4#32
  let c0_i32_90 : BitVec 32 := 0#32
  let v126 : BitVec 1 := Scalar.cmpi .sgt c4_i32 c0_i32_90
  let v127 : BitVec 32 := Scalar.extui v126
  let c0_i32_91 : BitVec 32 := 0#32
  let v128 : BitVec 1 := Scalar.cmpi .slt c4_i32 c0_i32_91
  let v129 : BitVec 32 := Scalar.extui v128
  let v130 : BitVec 32 := Scalar.subi v127 v129
  let v131 : BitVec 1 := Scalar.cmpi .ne v125 v130
  let v132 : BitVec 32 := Scalar.remsi v119 c4_i32
  let c0_i32_92 : BitVec 32 := 0#32
  let v133 : BitVec 1 := Scalar.cmpi .ne v132 c0_i32_92
  let v134 : BitVec 1 := Scalar.andi v131 v133
  let v120 : BitVec 32 := Scalar.divsi v119 c4_i32
  let c1_i32_93 : BitVec 32 := 1#32
  let v135 : BitVec 32 := Scalar.subi v120 c1_i32_93
  let v136 : BitVec 32 := Scalar.select v134 v135 v120
  let v142 : BitVec 32 := Scalar.muli c4_i32_99 v136
  let v143 : BitVec 32 := Scalar.addi v118 v142
  let c2_i32_148 : BitVec 32 := 2#32
  let c0_i32_107 : BitVec 32 := 0#32
  let v144 : BitVec 32 := Scalar.subi arg1 v143
  let c0_i32_100 : BitVec 32 := 0#32
  let v146 : BitVec 1 := Scalar.cmpi .sgt v144 c0_i32_100
  let v147 : BitVec 32 := Scalar.extui v146
  let c0_i32_101 : BitVec 32 := 0#32
  let v148 : BitVec 1 := Scalar.cmpi .slt v144 c0_i32_101
  let v149 : BitVec 32 := Scalar.extui v148
  let v150 : BitVec 32 := Scalar.subi v147 v149
  let c2_i32 : BitVec 32 := 2#32
  let c0_i32_102 : BitVec 32 := 0#32
  let v151 : BitVec 1 := Scalar.cmpi .sgt c2_i32 c0_i32_102
  let v152 : BitVec 32 := Scalar.extui v151
  let c0_i32_103 : BitVec 32 := 0#32
  let v153 : BitVec 1 := Scalar.cmpi .slt c2_i32 c0_i32_103
  let v154 : BitVec 32 := Scalar.extui v153
  let v155 : BitVec 32 := Scalar.subi v152 v154
  let v156 : BitVec 1 := Scalar.cmpi .ne v150 v155
  let v157 : BitVec 32 := Scalar.remsi v144 c2_i32
  let c0_i32_104 : BitVec 32 := 0#32
  let v158 : BitVec 1 := Scalar.cmpi .ne v157 c0_i32_104
  let v159 : BitVec 1 := Scalar.andi v156 v158
  let v145 : BitVec 32 := Scalar.divsi v144 c2_i32
  let c1_i32_105 : BitVec 32 := 1#32
  let v160 : BitVec 32 := Scalar.subi v145 c1_i32_105
  let v161 : BitVec 32 := Scalar.select v159 v160 v145
  let v162 : BitVec 32 := Scalar.subi v161 c0_i32_107
  let c1_i32_108 : BitVec 32 := 1#32
  let v164 : BitVec 32 := Scalar.divsi v162 c1_i32_108
  let v165 : BitVec 32 := Scalar.muli v164 c1_i32_108
  let v166 : BitVec 32 := Scalar.addi c0_i32_107 v165
  let c1_i32_110 : BitVec 32 := 1#32
  let arg17 : BitVec 32 := Scf.iv v166 c1_i32_110 k0_t6
  let v252 : BitVec 32 := Scalar.muli c2_i32_148 arg17
  let v253 : BitVec 32 := Scalar.addi v143 v252
  let c0_i32_149 : BitVec 32 := 0#32
  let v254 : BitVec 32 := Scalar.addi v253 c0_i32_149
  let c1_i32_150 : BitVec 32 := 1#32
  let v255 : BitVec 32 := Scalar.addi v254 c1_i32_150
  let c256_i32 : BitVec 32 := 256#32
  let v256 : BitVec 32 := Scalar.muli v255 c256_i32
  v256
def k0_off26 (i : grid0.Coords) (k0_t6 : Fin (k0_t6_loop i).trips) (c0_i32_149 : BitVec 32) : Fin 2 → Nat :=
  let c0_i32_87 : BitVec 32 := 0#32
  let c8_i32_86 : BitVec 32 := 8#32
  let arg1 : BitVec 32 := BitVec.ofNat 32 (i 1).val
  let c0_i32_75 : BitVec 32 := 0#32
  let v94 : BitVec 32 := Scalar.subi arg1 c0_i32_75
  let c0_i32_76 : BitVec 32 := 0#32
  let v96 : BitVec 1 := Scalar.cmpi .sgt v94 c0_i32_76
  let v97 : BitVec 32 := Scalar.extui v96
  let c0_i32_77 : BitVec 32 := 0#32
  let v98 : BitVec 1 := Scalar.cmpi .slt v94 c0_i32_77
  let v99 : BitVec 32 := Scalar.extui v98
  let v100 : BitVec 32 := Scalar.subi v97 v99
  let c8_i32 : BitVec 32 := 8#32
  let c0_i32_78 : BitVec 32 := 0#32
  let v101 : BitVec 1 := Scalar.cmpi .sgt c8_i32 c0_i32_78
  let v102 : BitVec 32 := Scalar.extui v101
  let c0_i32_79 : BitVec 32 := 0#32
  let v103 : BitVec 1 := Scalar.cmpi .slt c8_i32 c0_i32_79
  let v104 : BitVec 32 := Scalar.extui v103
  let v105 : BitVec 32 := Scalar.subi v102 v104
  let v106 : BitVec 1 := Scalar.cmpi .ne v100 v105
  let v107 : BitVec 32 := Scalar.remsi v94 c8_i32
  let c0_i32_80 : BitVec 32 := 0#32
  let v108 : BitVec 1 := Scalar.cmpi .ne v107 c0_i32_80
  let v109 : BitVec 1 := Scalar.andi v106 v108
  let v95 : BitVec 32 := Scalar.divsi v94 c8_i32
  let c1_i32 : BitVec 32 := 1#32
  let v110 : BitVec 32 := Scalar.subi v95 c1_i32
  let v111 : BitVec 32 := Scalar.select v109 v110 v95
  let v117 : BitVec 32 := Scalar.muli c8_i32_86 v111
  let v118 : BitVec 32 := Scalar.addi c0_i32_87 v117
  let c4_i32_99 : BitVec 32 := 4#32
  let v119 : BitVec 32 := Scalar.subi arg1 v118
  let c0_i32_88 : BitVec 32 := 0#32
  let v121 : BitVec 1 := Scalar.cmpi .sgt v119 c0_i32_88
  let v122 : BitVec 32 := Scalar.extui v121
  let c0_i32_89 : BitVec 32 := 0#32
  let v123 : BitVec 1 := Scalar.cmpi .slt v119 c0_i32_89
  let v124 : BitVec 32 := Scalar.extui v123
  let v125 : BitVec 32 := Scalar.subi v122 v124
  let c4_i32 : BitVec 32 := 4#32
  let c0_i32_90 : BitVec 32 := 0#32
  let v126 : BitVec 1 := Scalar.cmpi .sgt c4_i32 c0_i32_90
  let v127 : BitVec 32 := Scalar.extui v126
  let c0_i32_91 : BitVec 32 := 0#32
  let v128 : BitVec 1 := Scalar.cmpi .slt c4_i32 c0_i32_91
  let v129 : BitVec 32 := Scalar.extui v128
  let v130 : BitVec 32 := Scalar.subi v127 v129
  let v131 : BitVec 1 := Scalar.cmpi .ne v125 v130
  let v132 : BitVec 32 := Scalar.remsi v119 c4_i32
  let c0_i32_92 : BitVec 32 := 0#32
  let v133 : BitVec 1 := Scalar.cmpi .ne v132 c0_i32_92
  let v134 : BitVec 1 := Scalar.andi v131 v133
  let v120 : BitVec 32 := Scalar.divsi v119 c4_i32
  let c1_i32_93 : BitVec 32 := 1#32
  let v135 : BitVec 32 := Scalar.subi v120 c1_i32_93
  let v136 : BitVec 32 := Scalar.select v134 v135 v120
  let v142 : BitVec 32 := Scalar.muli c4_i32_99 v136
  let v143 : BitVec 32 := Scalar.addi v118 v142
  let c2_i32_148 : BitVec 32 := 2#32
  let c0_i32_107 : BitVec 32 := 0#32
  let v144 : BitVec 32 := Scalar.subi arg1 v143
  let c0_i32_100 : BitVec 32 := 0#32
  let v146 : BitVec 1 := Scalar.cmpi .sgt v144 c0_i32_100
  let v147 : BitVec 32 := Scalar.extui v146
  let c0_i32_101 : BitVec 32 := 0#32
  let v148 : BitVec 1 := Scalar.cmpi .slt v144 c0_i32_101
  let v149 : BitVec 32 := Scalar.extui v148
  let v150 : BitVec 32 := Scalar.subi v147 v149
  let c2_i32 : BitVec 32 := 2#32
  let c0_i32_102 : BitVec 32 := 0#32
  let v151 : BitVec 1 := Scalar.cmpi .sgt c2_i32 c0_i32_102
  let v152 : BitVec 32 := Scalar.extui v151
  let c0_i32_103 : BitVec 32 := 0#32
  let v153 : BitVec 1 := Scalar.cmpi .slt c2_i32 c0_i32_103
  let v154 : BitVec 32 := Scalar.extui v153
  let v155 : BitVec 32 := Scalar.subi v152 v154
  let v156 : BitVec 1 := Scalar.cmpi .ne v150 v155
  let v157 : BitVec 32 := Scalar.remsi v144 c2_i32
  let c0_i32_104 : BitVec 32 := 0#32
  let v158 : BitVec 1 := Scalar.cmpi .ne v157 c0_i32_104
  let v159 : BitVec 1 := Scalar.andi v156 v158
  let v145 : BitVec 32 := Scalar.divsi v144 c2_i32
  let c1_i32_105 : BitVec 32 := 1#32
  let v160 : BitVec 32 := Scalar.subi v145 c1_i32_105
  let v161 : BitVec 32 := Scalar.select v159 v160 v145
  let v162 : BitVec 32 := Scalar.subi v161 c0_i32_107
  let c1_i32_108 : BitVec 32 := 1#32
  let v164 : BitVec 32 := Scalar.divsi v162 c1_i32_108
  let v165 : BitVec 32 := Scalar.muli v164 c1_i32_108
  let v166 : BitVec 32 := Scalar.addi c0_i32_107 v165
  let c1_i32_110 : BitVec 32 := 1#32
  let arg17 : BitVec 32 := Scf.iv v166 c1_i32_110 k0_t6
  let v252 : BitVec 32 := Scalar.muli c2_i32_148 arg17
  let v253 : BitVec 32 := Scalar.addi v143 v252
  let v254 : BitVec 32 := Scalar.addi v253 c0_i32_149
  let c1_i32_150 : BitVec 32 := 1#32
  let v255 : BitVec 32 := Scalar.addi v254 c1_i32_150
  let c256_i32 : BitVec 32 := 256#32
  let v256 : BitVec 32 := Scalar.muli v255 c256_i32
  let v257 : BitVec 32 := v256
  let v258 : Index := Scalar.indexCast v257
  let c0_151 : Index := 0#32
  ![v258.toNat, 0]
def k0_mult108 (i : grid0.Coords) (k0_t6 : Fin (k0_t6_loop i).trips) : BitVec 32 :=
  let c0_i32_87 : BitVec 32 := 0#32
  let c8_i32_86 : BitVec 32 := 8#32
  let arg1 : BitVec 32 := BitVec.ofNat 32 (i 1).val
  let c0_i32_75 : BitVec 32 := 0#32
  let v94 : BitVec 32 := Scalar.subi arg1 c0_i32_75
  let c0_i32_76 : BitVec 32 := 0#32
  let v96 : BitVec 1 := Scalar.cmpi .sgt v94 c0_i32_76
  let v97 : BitVec 32 := Scalar.extui v96
  let c0_i32_77 : BitVec 32 := 0#32
  let v98 : BitVec 1 := Scalar.cmpi .slt v94 c0_i32_77
  let v99 : BitVec 32 := Scalar.extui v98
  let v100 : BitVec 32 := Scalar.subi v97 v99
  let c8_i32 : BitVec 32 := 8#32
  let c0_i32_78 : BitVec 32 := 0#32
  let v101 : BitVec 1 := Scalar.cmpi .sgt c8_i32 c0_i32_78
  let v102 : BitVec 32 := Scalar.extui v101
  let c0_i32_79 : BitVec 32 := 0#32
  let v103 : BitVec 1 := Scalar.cmpi .slt c8_i32 c0_i32_79
  let v104 : BitVec 32 := Scalar.extui v103
  let v105 : BitVec 32 := Scalar.subi v102 v104
  let v106 : BitVec 1 := Scalar.cmpi .ne v100 v105
  let v107 : BitVec 32 := Scalar.remsi v94 c8_i32
  let c0_i32_80 : BitVec 32 := 0#32
  let v108 : BitVec 1 := Scalar.cmpi .ne v107 c0_i32_80
  let v109 : BitVec 1 := Scalar.andi v106 v108
  let v95 : BitVec 32 := Scalar.divsi v94 c8_i32
  let c1_i32 : BitVec 32 := 1#32
  let v110 : BitVec 32 := Scalar.subi v95 c1_i32
  let v111 : BitVec 32 := Scalar.select v109 v110 v95
  let v117 : BitVec 32 := Scalar.muli c8_i32_86 v111
  let v118 : BitVec 32 := Scalar.addi c0_i32_87 v117
  let c4_i32_99 : BitVec 32 := 4#32
  let v119 : BitVec 32 := Scalar.subi arg1 v118
  let c0_i32_88 : BitVec 32 := 0#32
  let v121 : BitVec 1 := Scalar.cmpi .sgt v119 c0_i32_88
  let v122 : BitVec 32 := Scalar.extui v121
  let c0_i32_89 : BitVec 32 := 0#32
  let v123 : BitVec 1 := Scalar.cmpi .slt v119 c0_i32_89
  let v124 : BitVec 32 := Scalar.extui v123
  let v125 : BitVec 32 := Scalar.subi v122 v124
  let c4_i32 : BitVec 32 := 4#32
  let c0_i32_90 : BitVec 32 := 0#32
  let v126 : BitVec 1 := Scalar.cmpi .sgt c4_i32 c0_i32_90
  let v127 : BitVec 32 := Scalar.extui v126
  let c0_i32_91 : BitVec 32 := 0#32
  let v128 : BitVec 1 := Scalar.cmpi .slt c4_i32 c0_i32_91
  let v129 : BitVec 32 := Scalar.extui v128
  let v130 : BitVec 32 := Scalar.subi v127 v129
  let v131 : BitVec 1 := Scalar.cmpi .ne v125 v130
  let v132 : BitVec 32 := Scalar.remsi v119 c4_i32
  let c0_i32_92 : BitVec 32 := 0#32
  let v133 : BitVec 1 := Scalar.cmpi .ne v132 c0_i32_92
  let v134 : BitVec 1 := Scalar.andi v131 v133
  let v120 : BitVec 32 := Scalar.divsi v119 c4_i32
  let c1_i32_93 : BitVec 32 := 1#32
  let v135 : BitVec 32 := Scalar.subi v120 c1_i32_93
  let v136 : BitVec 32 := Scalar.select v134 v135 v120
  let v142 : BitVec 32 := Scalar.muli c4_i32_99 v136
  let v143 : BitVec 32 := Scalar.addi v118 v142
  let c2_i32_148 : BitVec 32 := 2#32
  let c0_i32_107 : BitVec 32 := 0#32
  let v144 : BitVec 32 := Scalar.subi arg1 v143
  let c0_i32_100 : BitVec 32 := 0#32
  let v146 : BitVec 1 := Scalar.cmpi .sgt v144 c0_i32_100
  let v147 : BitVec 32 := Scalar.extui v146
  let c0_i32_101 : BitVec 32 := 0#32
  let v148 : BitVec 1 := Scalar.cmpi .slt v144 c0_i32_101
  let v149 : BitVec 32 := Scalar.extui v148
  let v150 : BitVec 32 := Scalar.subi v147 v149
  let c2_i32 : BitVec 32 := 2#32
  let c0_i32_102 : BitVec 32 := 0#32
  let v151 : BitVec 1 := Scalar.cmpi .sgt c2_i32 c0_i32_102
  let v152 : BitVec 32 := Scalar.extui v151
  let c0_i32_103 : BitVec 32 := 0#32
  let v153 : BitVec 1 := Scalar.cmpi .slt c2_i32 c0_i32_103
  let v154 : BitVec 32 := Scalar.extui v153
  let v155 : BitVec 32 := Scalar.subi v152 v154
  let v156 : BitVec 1 := Scalar.cmpi .ne v150 v155
  let v157 : BitVec 32 := Scalar.remsi v144 c2_i32
  let c0_i32_104 : BitVec 32 := 0#32
  let v158 : BitVec 1 := Scalar.cmpi .ne v157 c0_i32_104
  let v159 : BitVec 1 := Scalar.andi v156 v158
  let v145 : BitVec 32 := Scalar.divsi v144 c2_i32
  let c1_i32_105 : BitVec 32 := 1#32
  let v160 : BitVec 32 := Scalar.subi v145 c1_i32_105
  let v161 : BitVec 32 := Scalar.select v159 v160 v145
  let v162 : BitVec 32 := Scalar.subi v161 c0_i32_107
  let c1_i32_108 : BitVec 32 := 1#32
  let v164 : BitVec 32 := Scalar.divsi v162 c1_i32_108
  let v165 : BitVec 32 := Scalar.muli v164 c1_i32_108
  let v166 : BitVec 32 := Scalar.addi c0_i32_107 v165
  let c1_i32_110 : BitVec 32 := 1#32
  let arg17 : BitVec 32 := Scf.iv v166 c1_i32_110 k0_t6
  let v252 : BitVec 32 := Scalar.muli c2_i32_148 arg17
  let v253 : BitVec 32 := Scalar.addi v143 v252
  let c0_i32_149 : BitVec 32 := 0#32
  let v254 : BitVec 32 := Scalar.addi v253 c0_i32_149
  let c1_i32_163 : BitVec 32 := 1#32
  let v269 : BitVec 32 := Scalar.subi v254 c1_i32_163
  let c0_i32_164 : BitVec 32 := 0#32
  let v270 : BitVec 32 := Scalar.maxsi v269 c0_i32_164
  let c256_i32_165 : BitVec 32 := 256#32
  let v271 : BitVec 32 := Scalar.muli v270 c256_i32_165
  v271
def k0_off27 (i : grid0.Coords) (k0_t6 : Fin (k0_t6_loop i).trips) (c0_i32_149 : BitVec 32) : Fin 3 → Nat :=
  let c0_166 : Index := 0#32
  let c0_167 : Index := 0#32
  let c0_i32_87 : BitVec 32 := 0#32
  let c8_i32_86 : BitVec 32 := 8#32
  let arg1 : BitVec 32 := BitVec.ofNat 32 (i 1).val
  let c0_i32_75 : BitVec 32 := 0#32
  let v94 : BitVec 32 := Scalar.subi arg1 c0_i32_75
  let c0_i32_76 : BitVec 32 := 0#32
  let v96 : BitVec 1 := Scalar.cmpi .sgt v94 c0_i32_76
  let v97 : BitVec 32 := Scalar.extui v96
  let c0_i32_77 : BitVec 32 := 0#32
  let v98 : BitVec 1 := Scalar.cmpi .slt v94 c0_i32_77
  let v99 : BitVec 32 := Scalar.extui v98
  let v100 : BitVec 32 := Scalar.subi v97 v99
  let c8_i32 : BitVec 32 := 8#32
  let c0_i32_78 : BitVec 32 := 0#32
  let v101 : BitVec 1 := Scalar.cmpi .sgt c8_i32 c0_i32_78
  let v102 : BitVec 32 := Scalar.extui v101
  let c0_i32_79 : BitVec 32 := 0#32
  let v103 : BitVec 1 := Scalar.cmpi .slt c8_i32 c0_i32_79
  let v104 : BitVec 32 := Scalar.extui v103
  let v105 : BitVec 32 := Scalar.subi v102 v104
  let v106 : BitVec 1 := Scalar.cmpi .ne v100 v105
  let v107 : BitVec 32 := Scalar.remsi v94 c8_i32
  let c0_i32_80 : BitVec 32 := 0#32
  let v108 : BitVec 1 := Scalar.cmpi .ne v107 c0_i32_80
  let v109 : BitVec 1 := Scalar.andi v106 v108
  let v95 : BitVec 32 := Scalar.divsi v94 c8_i32
  let c1_i32 : BitVec 32 := 1#32
  let v110 : BitVec 32 := Scalar.subi v95 c1_i32
  let v111 : BitVec 32 := Scalar.select v109 v110 v95
  let v117 : BitVec 32 := Scalar.muli c8_i32_86 v111
  let v118 : BitVec 32 := Scalar.addi c0_i32_87 v117
  let c4_i32_99 : BitVec 32 := 4#32
  let v119 : BitVec 32 := Scalar.subi arg1 v118
  let c0_i32_88 : BitVec 32 := 0#32
  let v121 : BitVec 1 := Scalar.cmpi .sgt v119 c0_i32_88
  let v122 : BitVec 32 := Scalar.extui v121
  let c0_i32_89 : BitVec 32 := 0#32
  let v123 : BitVec 1 := Scalar.cmpi .slt v119 c0_i32_89
  let v124 : BitVec 32 := Scalar.extui v123
  let v125 : BitVec 32 := Scalar.subi v122 v124
  let c4_i32 : BitVec 32 := 4#32
  let c0_i32_90 : BitVec 32 := 0#32
  let v126 : BitVec 1 := Scalar.cmpi .sgt c4_i32 c0_i32_90
  let v127 : BitVec 32 := Scalar.extui v126
  let c0_i32_91 : BitVec 32 := 0#32
  let v128 : BitVec 1 := Scalar.cmpi .slt c4_i32 c0_i32_91
  let v129 : BitVec 32 := Scalar.extui v128
  let v130 : BitVec 32 := Scalar.subi v127 v129
  let v131 : BitVec 1 := Scalar.cmpi .ne v125 v130
  let v132 : BitVec 32 := Scalar.remsi v119 c4_i32
  let c0_i32_92 : BitVec 32 := 0#32
  let v133 : BitVec 1 := Scalar.cmpi .ne v132 c0_i32_92
  let v134 : BitVec 1 := Scalar.andi v131 v133
  let v120 : BitVec 32 := Scalar.divsi v119 c4_i32
  let c1_i32_93 : BitVec 32 := 1#32
  let v135 : BitVec 32 := Scalar.subi v120 c1_i32_93
  let v136 : BitVec 32 := Scalar.select v134 v135 v120
  let v142 : BitVec 32 := Scalar.muli c4_i32_99 v136
  let v143 : BitVec 32 := Scalar.addi v118 v142
  let c2_i32_148 : BitVec 32 := 2#32
  let c0_i32_107 : BitVec 32 := 0#32
  let v144 : BitVec 32 := Scalar.subi arg1 v143
  let c0_i32_100 : BitVec 32 := 0#32
  let v146 : BitVec 1 := Scalar.cmpi .sgt v144 c0_i32_100
  let v147 : BitVec 32 := Scalar.extui v146
  let c0_i32_101 : BitVec 32 := 0#32
  let v148 : BitVec 1 := Scalar.cmpi .slt v144 c0_i32_101
  let v149 : BitVec 32 := Scalar.extui v148
  let v150 : BitVec 32 := Scalar.subi v147 v149
  let c2_i32 : BitVec 32 := 2#32
  let c0_i32_102 : BitVec 32 := 0#32
  let v151 : BitVec 1 := Scalar.cmpi .sgt c2_i32 c0_i32_102
  let v152 : BitVec 32 := Scalar.extui v151
  let c0_i32_103 : BitVec 32 := 0#32
  let v153 : BitVec 1 := Scalar.cmpi .slt c2_i32 c0_i32_103
  let v154 : BitVec 32 := Scalar.extui v153
  let v155 : BitVec 32 := Scalar.subi v152 v154
  let v156 : BitVec 1 := Scalar.cmpi .ne v150 v155
  let v157 : BitVec 32 := Scalar.remsi v144 c2_i32
  let c0_i32_104 : BitVec 32 := 0#32
  let v158 : BitVec 1 := Scalar.cmpi .ne v157 c0_i32_104
  let v159 : BitVec 1 := Scalar.andi v156 v158
  let v145 : BitVec 32 := Scalar.divsi v144 c2_i32
  let c1_i32_105 : BitVec 32 := 1#32
  let v160 : BitVec 32 := Scalar.subi v145 c1_i32_105
  let v161 : BitVec 32 := Scalar.select v159 v160 v145
  let v162 : BitVec 32 := Scalar.subi v161 c0_i32_107
  let c1_i32_108 : BitVec 32 := 1#32
  let v164 : BitVec 32 := Scalar.divsi v162 c1_i32_108
  let v165 : BitVec 32 := Scalar.muli v164 c1_i32_108
  let v166 : BitVec 32 := Scalar.addi c0_i32_107 v165
  let c1_i32_110 : BitVec 32 := 1#32
  let arg17 : BitVec 32 := Scf.iv v166 c1_i32_110 k0_t6
  let v252 : BitVec 32 := Scalar.muli c2_i32_148 arg17
  let v253 : BitVec 32 := Scalar.addi v143 v252
  let v254 : BitVec 32 := Scalar.addi v253 c0_i32_149
  let c1_i32_163 : BitVec 32 := 1#32
  let v269 : BitVec 32 := Scalar.subi v254 c1_i32_163
  let c0_i32_164 : BitVec 32 := 0#32
  let v270 : BitVec 32 := Scalar.maxsi v269 c0_i32_164
  let c256_i32_165 : BitVec 32 := 256#32
  let v271 : BitVec 32 := Scalar.muli v270 c256_i32_165
  let v272 : BitVec 32 := v271
  let v273 : Index := Scalar.indexCast v272
  ![0, 0, v273.toNat]
def k0_off28 (i : grid0.Coords) (c0_i32_185 : BitVec 32) : Fin 1 → Nat :=
  let arg0 : BitVec 32 := BitVec.ofNat 32 (i 0).val
  let c2_i32_184 : BitVec 32 := 2#32
  let v291 : BitVec 32 := Scalar.muli arg0 c2_i32_184
  let v292 : BitVec 32 := Scalar.addi v291 c0_i32_185
  let v293 : Index := Scalar.indexCast v292
  ![v293.toNat]
def k0_mult109 (i : grid0.Coords) (k0_t6 : Fin (k0_t6_loop i).trips) : BitVec 32 :=
  let c0_i32_87 : BitVec 32 := 0#32
  let c8_i32_86 : BitVec 32 := 8#32
  let arg1 : BitVec 32 := BitVec.ofNat 32 (i 1).val
  let c0_i32_75 : BitVec 32 := 0#32
  let v94 : BitVec 32 := Scalar.subi arg1 c0_i32_75
  let c0_i32_76 : BitVec 32 := 0#32
  let v96 : BitVec 1 := Scalar.cmpi .sgt v94 c0_i32_76
  let v97 : BitVec 32 := Scalar.extui v96
  let c0_i32_77 : BitVec 32 := 0#32
  let v98 : BitVec 1 := Scalar.cmpi .slt v94 c0_i32_77
  let v99 : BitVec 32 := Scalar.extui v98
  let v100 : BitVec 32 := Scalar.subi v97 v99
  let c8_i32 : BitVec 32 := 8#32
  let c0_i32_78 : BitVec 32 := 0#32
  let v101 : BitVec 1 := Scalar.cmpi .sgt c8_i32 c0_i32_78
  let v102 : BitVec 32 := Scalar.extui v101
  let c0_i32_79 : BitVec 32 := 0#32
  let v103 : BitVec 1 := Scalar.cmpi .slt c8_i32 c0_i32_79
  let v104 : BitVec 32 := Scalar.extui v103
  let v105 : BitVec 32 := Scalar.subi v102 v104
  let v106 : BitVec 1 := Scalar.cmpi .ne v100 v105
  let v107 : BitVec 32 := Scalar.remsi v94 c8_i32
  let c0_i32_80 : BitVec 32 := 0#32
  let v108 : BitVec 1 := Scalar.cmpi .ne v107 c0_i32_80
  let v109 : BitVec 1 := Scalar.andi v106 v108
  let v95 : BitVec 32 := Scalar.divsi v94 c8_i32
  let c1_i32 : BitVec 32 := 1#32
  let v110 : BitVec 32 := Scalar.subi v95 c1_i32
  let v111 : BitVec 32 := Scalar.select v109 v110 v95
  let v117 : BitVec 32 := Scalar.muli c8_i32_86 v111
  let v118 : BitVec 32 := Scalar.addi c0_i32_87 v117
  let c4_i32_99 : BitVec 32 := 4#32
  let v119 : BitVec 32 := Scalar.subi arg1 v118
  let c0_i32_88 : BitVec 32 := 0#32
  let v121 : BitVec 1 := Scalar.cmpi .sgt v119 c0_i32_88
  let v122 : BitVec 32 := Scalar.extui v121
  let c0_i32_89 : BitVec 32 := 0#32
  let v123 : BitVec 1 := Scalar.cmpi .slt v119 c0_i32_89
  let v124 : BitVec 32 := Scalar.extui v123
  let v125 : BitVec 32 := Scalar.subi v122 v124
  let c4_i32 : BitVec 32 := 4#32
  let c0_i32_90 : BitVec 32 := 0#32
  let v126 : BitVec 1 := Scalar.cmpi .sgt c4_i32 c0_i32_90
  let v127 : BitVec 32 := Scalar.extui v126
  let c0_i32_91 : BitVec 32 := 0#32
  let v128 : BitVec 1 := Scalar.cmpi .slt c4_i32 c0_i32_91
  let v129 : BitVec 32 := Scalar.extui v128
  let v130 : BitVec 32 := Scalar.subi v127 v129
  let v131 : BitVec 1 := Scalar.cmpi .ne v125 v130
  let v132 : BitVec 32 := Scalar.remsi v119 c4_i32
  let c0_i32_92 : BitVec 32 := 0#32
  let v133 : BitVec 1 := Scalar.cmpi .ne v132 c0_i32_92
  let v134 : BitVec 1 := Scalar.andi v131 v133
  let v120 : BitVec 32 := Scalar.divsi v119 c4_i32
  let c1_i32_93 : BitVec 32 := 1#32
  let v135 : BitVec 32 := Scalar.subi v120 c1_i32_93
  let v136 : BitVec 32 := Scalar.select v134 v135 v120
  let v142 : BitVec 32 := Scalar.muli c4_i32_99 v136
  let v143 : BitVec 32 := Scalar.addi v118 v142
  let c2_i32_148 : BitVec 32 := 2#32
  let c0_i32_107 : BitVec 32 := 0#32
  let v144 : BitVec 32 := Scalar.subi arg1 v143
  let c0_i32_100 : BitVec 32 := 0#32
  let v146 : BitVec 1 := Scalar.cmpi .sgt v144 c0_i32_100
  let v147 : BitVec 32 := Scalar.extui v146
  let c0_i32_101 : BitVec 32 := 0#32
  let v148 : BitVec 1 := Scalar.cmpi .slt v144 c0_i32_101
  let v149 : BitVec 32 := Scalar.extui v148
  let v150 : BitVec 32 := Scalar.subi v147 v149
  let c2_i32 : BitVec 32 := 2#32
  let c0_i32_102 : BitVec 32 := 0#32
  let v151 : BitVec 1 := Scalar.cmpi .sgt c2_i32 c0_i32_102
  let v152 : BitVec 32 := Scalar.extui v151
  let c0_i32_103 : BitVec 32 := 0#32
  let v153 : BitVec 1 := Scalar.cmpi .slt c2_i32 c0_i32_103
  let v154 : BitVec 32 := Scalar.extui v153
  let v155 : BitVec 32 := Scalar.subi v152 v154
  let v156 : BitVec 1 := Scalar.cmpi .ne v150 v155
  let v157 : BitVec 32 := Scalar.remsi v144 c2_i32
  let c0_i32_104 : BitVec 32 := 0#32
  let v158 : BitVec 1 := Scalar.cmpi .ne v157 c0_i32_104
  let v159 : BitVec 1 := Scalar.andi v156 v158
  let v145 : BitVec 32 := Scalar.divsi v144 c2_i32
  let c1_i32_105 : BitVec 32 := 1#32
  let v160 : BitVec 32 := Scalar.subi v145 c1_i32_105
  let v161 : BitVec 32 := Scalar.select v159 v160 v145
  let v162 : BitVec 32 := Scalar.subi v161 c0_i32_107
  let c1_i32_108 : BitVec 32 := 1#32
  let v164 : BitVec 32 := Scalar.divsi v162 c1_i32_108
  let v165 : BitVec 32 := Scalar.muli v164 c1_i32_108
  let v166 : BitVec 32 := Scalar.addi c0_i32_107 v165
  let c1_i32_110 : BitVec 32 := 1#32
  let arg17 : BitVec 32 := Scf.iv v166 c1_i32_110 k0_t6
  let v252 : BitVec 32 := Scalar.muli c2_i32_148 arg17
  let v253 : BitVec 32 := Scalar.addi v143 v252
  let c0_i32_149 : BitVec 32 := 0#32
  let v254 : BitVec 32 := Scalar.addi v253 c0_i32_149
  let c1_i32_207 : BitVec 32 := 1#32
  let v325 : BitVec 32 := Scalar.addi v254 c1_i32_207
  let c256_i32_208 : BitVec 32 := 256#32
  let v326 : BitVec 32 := Scalar.muli v325 c256_i32_208
  v326
def k0_off29 (i : grid0.Coords) (k0_t6 : Fin (k0_t6_loop i).trips) (c0_i32_149 : BitVec 32) : Fin 2 → Nat :=
  let c0_i32_87 : BitVec 32 := 0#32
  let c8_i32_86 : BitVec 32 := 8#32
  let arg1 : BitVec 32 := BitVec.ofNat 32 (i 1).val
  let c0_i32_75 : BitVec 32 := 0#32
  let v94 : BitVec 32 := Scalar.subi arg1 c0_i32_75
  let c0_i32_76 : BitVec 32 := 0#32
  let v96 : BitVec 1 := Scalar.cmpi .sgt v94 c0_i32_76
  let v97 : BitVec 32 := Scalar.extui v96
  let c0_i32_77 : BitVec 32 := 0#32
  let v98 : BitVec 1 := Scalar.cmpi .slt v94 c0_i32_77
  let v99 : BitVec 32 := Scalar.extui v98
  let v100 : BitVec 32 := Scalar.subi v97 v99
  let c8_i32 : BitVec 32 := 8#32
  let c0_i32_78 : BitVec 32 := 0#32
  let v101 : BitVec 1 := Scalar.cmpi .sgt c8_i32 c0_i32_78
  let v102 : BitVec 32 := Scalar.extui v101
  let c0_i32_79 : BitVec 32 := 0#32
  let v103 : BitVec 1 := Scalar.cmpi .slt c8_i32 c0_i32_79
  let v104 : BitVec 32 := Scalar.extui v103
  let v105 : BitVec 32 := Scalar.subi v102 v104
  let v106 : BitVec 1 := Scalar.cmpi .ne v100 v105
  let v107 : BitVec 32 := Scalar.remsi v94 c8_i32
  let c0_i32_80 : BitVec 32 := 0#32
  let v108 : BitVec 1 := Scalar.cmpi .ne v107 c0_i32_80
  let v109 : BitVec 1 := Scalar.andi v106 v108
  let v95 : BitVec 32 := Scalar.divsi v94 c8_i32
  let c1_i32 : BitVec 32 := 1#32
  let v110 : BitVec 32 := Scalar.subi v95 c1_i32
  let v111 : BitVec 32 := Scalar.select v109 v110 v95
  let v117 : BitVec 32 := Scalar.muli c8_i32_86 v111
  let v118 : BitVec 32 := Scalar.addi c0_i32_87 v117
  let c4_i32_99 : BitVec 32 := 4#32
  let v119 : BitVec 32 := Scalar.subi arg1 v118
  let c0_i32_88 : BitVec 32 := 0#32
  let v121 : BitVec 1 := Scalar.cmpi .sgt v119 c0_i32_88
  let v122 : BitVec 32 := Scalar.extui v121
  let c0_i32_89 : BitVec 32 := 0#32
  let v123 : BitVec 1 := Scalar.cmpi .slt v119 c0_i32_89
  let v124 : BitVec 32 := Scalar.extui v123
  let v125 : BitVec 32 := Scalar.subi v122 v124
  let c4_i32 : BitVec 32 := 4#32
  let c0_i32_90 : BitVec 32 := 0#32
  let v126 : BitVec 1 := Scalar.cmpi .sgt c4_i32 c0_i32_90
  let v127 : BitVec 32 := Scalar.extui v126
  let c0_i32_91 : BitVec 32 := 0#32
  let v128 : BitVec 1 := Scalar.cmpi .slt c4_i32 c0_i32_91
  let v129 : BitVec 32 := Scalar.extui v128
  let v130 : BitVec 32 := Scalar.subi v127 v129
  let v131 : BitVec 1 := Scalar.cmpi .ne v125 v130
  let v132 : BitVec 32 := Scalar.remsi v119 c4_i32
  let c0_i32_92 : BitVec 32 := 0#32
  let v133 : BitVec 1 := Scalar.cmpi .ne v132 c0_i32_92
  let v134 : BitVec 1 := Scalar.andi v131 v133
  let v120 : BitVec 32 := Scalar.divsi v119 c4_i32
  let c1_i32_93 : BitVec 32 := 1#32
  let v135 : BitVec 32 := Scalar.subi v120 c1_i32_93
  let v136 : BitVec 32 := Scalar.select v134 v135 v120
  let v142 : BitVec 32 := Scalar.muli c4_i32_99 v136
  let v143 : BitVec 32 := Scalar.addi v118 v142
  let c2_i32_148 : BitVec 32 := 2#32
  let c0_i32_107 : BitVec 32 := 0#32
  let v144 : BitVec 32 := Scalar.subi arg1 v143
  let c0_i32_100 : BitVec 32 := 0#32
  let v146 : BitVec 1 := Scalar.cmpi .sgt v144 c0_i32_100
  let v147 : BitVec 32 := Scalar.extui v146
  let c0_i32_101 : BitVec 32 := 0#32
  let v148 : BitVec 1 := Scalar.cmpi .slt v144 c0_i32_101
  let v149 : BitVec 32 := Scalar.extui v148
  let v150 : BitVec 32 := Scalar.subi v147 v149
  let c2_i32 : BitVec 32 := 2#32
  let c0_i32_102 : BitVec 32 := 0#32
  let v151 : BitVec 1 := Scalar.cmpi .sgt c2_i32 c0_i32_102
  let v152 : BitVec 32 := Scalar.extui v151
  let c0_i32_103 : BitVec 32 := 0#32
  let v153 : BitVec 1 := Scalar.cmpi .slt c2_i32 c0_i32_103
  let v154 : BitVec 32 := Scalar.extui v153
  let v155 : BitVec 32 := Scalar.subi v152 v154
  let v156 : BitVec 1 := Scalar.cmpi .ne v150 v155
  let v157 : BitVec 32 := Scalar.remsi v144 c2_i32
  let c0_i32_104 : BitVec 32 := 0#32
  let v158 : BitVec 1 := Scalar.cmpi .ne v157 c0_i32_104
  let v159 : BitVec 1 := Scalar.andi v156 v158
  let v145 : BitVec 32 := Scalar.divsi v144 c2_i32
  let c1_i32_105 : BitVec 32 := 1#32
  let v160 : BitVec 32 := Scalar.subi v145 c1_i32_105
  let v161 : BitVec 32 := Scalar.select v159 v160 v145
  let v162 : BitVec 32 := Scalar.subi v161 c0_i32_107
  let c1_i32_108 : BitVec 32 := 1#32
  let v164 : BitVec 32 := Scalar.divsi v162 c1_i32_108
  let v165 : BitVec 32 := Scalar.muli v164 c1_i32_108
  let v166 : BitVec 32 := Scalar.addi c0_i32_107 v165
  let c1_i32_110 : BitVec 32 := 1#32
  let arg17 : BitVec 32 := Scf.iv v166 c1_i32_110 k0_t6
  let v252 : BitVec 32 := Scalar.muli c2_i32_148 arg17
  let v253 : BitVec 32 := Scalar.addi v143 v252
  let v254 : BitVec 32 := Scalar.addi v253 c0_i32_149
  let c1_i32_207 : BitVec 32 := 1#32
  let v325 : BitVec 32 := Scalar.addi v254 c1_i32_207
  let c256_i32_208 : BitVec 32 := 256#32
  let v326 : BitVec 32 := Scalar.muli v325 c256_i32_208
  let v327 : BitVec 32 := v326
  let v328 : Index := Scalar.indexCast v327
  let c128_209 : Index := 128#32
  ![v328.toNat, 128]
def k0_mult110 (i : grid0.Coords) (k0_t6 : Fin (k0_t6_loop i).trips) : BitVec 32 :=
  let c0_i32_87 : BitVec 32 := 0#32
  let c8_i32_86 : BitVec 32 := 8#32
  let arg1 : BitVec 32 := BitVec.ofNat 32 (i 1).val
  let c0_i32_75 : BitVec 32 := 0#32
  let v94 : BitVec 32 := Scalar.subi arg1 c0_i32_75
  let c0_i32_76 : BitVec 32 := 0#32
  let v96 : BitVec 1 := Scalar.cmpi .sgt v94 c0_i32_76
  let v97 : BitVec 32 := Scalar.extui v96
  let c0_i32_77 : BitVec 32 := 0#32
  let v98 : BitVec 1 := Scalar.cmpi .slt v94 c0_i32_77
  let v99 : BitVec 32 := Scalar.extui v98
  let v100 : BitVec 32 := Scalar.subi v97 v99
  let c8_i32 : BitVec 32 := 8#32
  let c0_i32_78 : BitVec 32 := 0#32
  let v101 : BitVec 1 := Scalar.cmpi .sgt c8_i32 c0_i32_78
  let v102 : BitVec 32 := Scalar.extui v101
  let c0_i32_79 : BitVec 32 := 0#32
  let v103 : BitVec 1 := Scalar.cmpi .slt c8_i32 c0_i32_79
  let v104 : BitVec 32 := Scalar.extui v103
  let v105 : BitVec 32 := Scalar.subi v102 v104
  let v106 : BitVec 1 := Scalar.cmpi .ne v100 v105
  let v107 : BitVec 32 := Scalar.remsi v94 c8_i32
  let c0_i32_80 : BitVec 32 := 0#32
  let v108 : BitVec 1 := Scalar.cmpi .ne v107 c0_i32_80
  let v109 : BitVec 1 := Scalar.andi v106 v108
  let v95 : BitVec 32 := Scalar.divsi v94 c8_i32
  let c1_i32 : BitVec 32 := 1#32
  let v110 : BitVec 32 := Scalar.subi v95 c1_i32
  let v111 : BitVec 32 := Scalar.select v109 v110 v95
  let v117 : BitVec 32 := Scalar.muli c8_i32_86 v111
  let v118 : BitVec 32 := Scalar.addi c0_i32_87 v117
  let c4_i32_99 : BitVec 32 := 4#32
  let v119 : BitVec 32 := Scalar.subi arg1 v118
  let c0_i32_88 : BitVec 32 := 0#32
  let v121 : BitVec 1 := Scalar.cmpi .sgt v119 c0_i32_88
  let v122 : BitVec 32 := Scalar.extui v121
  let c0_i32_89 : BitVec 32 := 0#32
  let v123 : BitVec 1 := Scalar.cmpi .slt v119 c0_i32_89
  let v124 : BitVec 32 := Scalar.extui v123
  let v125 : BitVec 32 := Scalar.subi v122 v124
  let c4_i32 : BitVec 32 := 4#32
  let c0_i32_90 : BitVec 32 := 0#32
  let v126 : BitVec 1 := Scalar.cmpi .sgt c4_i32 c0_i32_90
  let v127 : BitVec 32 := Scalar.extui v126
  let c0_i32_91 : BitVec 32 := 0#32
  let v128 : BitVec 1 := Scalar.cmpi .slt c4_i32 c0_i32_91
  let v129 : BitVec 32 := Scalar.extui v128
  let v130 : BitVec 32 := Scalar.subi v127 v129
  let v131 : BitVec 1 := Scalar.cmpi .ne v125 v130
  let v132 : BitVec 32 := Scalar.remsi v119 c4_i32
  let c0_i32_92 : BitVec 32 := 0#32
  let v133 : BitVec 1 := Scalar.cmpi .ne v132 c0_i32_92
  let v134 : BitVec 1 := Scalar.andi v131 v133
  let v120 : BitVec 32 := Scalar.divsi v119 c4_i32
  let c1_i32_93 : BitVec 32 := 1#32
  let v135 : BitVec 32 := Scalar.subi v120 c1_i32_93
  let v136 : BitVec 32 := Scalar.select v134 v135 v120
  let v142 : BitVec 32 := Scalar.muli c4_i32_99 v136
  let v143 : BitVec 32 := Scalar.addi v118 v142
  let c2_i32_148 : BitVec 32 := 2#32
  let c0_i32_107 : BitVec 32 := 0#32
  let v144 : BitVec 32 := Scalar.subi arg1 v143
  let c0_i32_100 : BitVec 32 := 0#32
  let v146 : BitVec 1 := Scalar.cmpi .sgt v144 c0_i32_100
  let v147 : BitVec 32 := Scalar.extui v146
  let c0_i32_101 : BitVec 32 := 0#32
  let v148 : BitVec 1 := Scalar.cmpi .slt v144 c0_i32_101
  let v149 : BitVec 32 := Scalar.extui v148
  let v150 : BitVec 32 := Scalar.subi v147 v149
  let c2_i32 : BitVec 32 := 2#32
  let c0_i32_102 : BitVec 32 := 0#32
  let v151 : BitVec 1 := Scalar.cmpi .sgt c2_i32 c0_i32_102
  let v152 : BitVec 32 := Scalar.extui v151
  let c0_i32_103 : BitVec 32 := 0#32
  let v153 : BitVec 1 := Scalar.cmpi .slt c2_i32 c0_i32_103
  let v154 : BitVec 32 := Scalar.extui v153
  let v155 : BitVec 32 := Scalar.subi v152 v154
  let v156 : BitVec 1 := Scalar.cmpi .ne v150 v155
  let v157 : BitVec 32 := Scalar.remsi v144 c2_i32
  let c0_i32_104 : BitVec 32 := 0#32
  let v158 : BitVec 1 := Scalar.cmpi .ne v157 c0_i32_104
  let v159 : BitVec 1 := Scalar.andi v156 v158
  let v145 : BitVec 32 := Scalar.divsi v144 c2_i32
  let c1_i32_105 : BitVec 32 := 1#32
  let v160 : BitVec 32 := Scalar.subi v145 c1_i32_105
  let v161 : BitVec 32 := Scalar.select v159 v160 v145
  let v162 : BitVec 32 := Scalar.subi v161 c0_i32_107
  let c1_i32_108 : BitVec 32 := 1#32
  let v164 : BitVec 32 := Scalar.divsi v162 c1_i32_108
  let v165 : BitVec 32 := Scalar.muli v164 c1_i32_108
  let v166 : BitVec 32 := Scalar.addi c0_i32_107 v165
  let c1_i32_110 : BitVec 32 := 1#32
  let arg17 : BitVec 32 := Scf.iv v166 c1_i32_110 k0_t6
  let v252 : BitVec 32 := Scalar.muli c2_i32_148 arg17
  let v253 : BitVec 32 := Scalar.addi v143 v252
  let c0_i32_149 : BitVec 32 := 0#32
  let v254 : BitVec 32 := Scalar.addi v253 c0_i32_149
  let c1_i32_221 : BitVec 32 := 1#32
  let v339 : BitVec 32 := Scalar.subi v254 c1_i32_221
  let c0_i32_222 : BitVec 32 := 0#32
  let v340 : BitVec 32 := Scalar.maxsi v339 c0_i32_222
  let c256_i32_223 : BitVec 32 := 256#32
  let v341 : BitVec 32 := Scalar.muli v340 c256_i32_223
  v341
def k0_off30 (i : grid0.Coords) (k0_t6 : Fin (k0_t6_loop i).trips) (c0_i32_149 : BitVec 32) : Fin 3 → Nat :=
  let c1_224 : Index := 1#32
  let c0_225 : Index := 0#32
  let c0_i32_87 : BitVec 32 := 0#32
  let c8_i32_86 : BitVec 32 := 8#32
  let arg1 : BitVec 32 := BitVec.ofNat 32 (i 1).val
  let c0_i32_75 : BitVec 32 := 0#32
  let v94 : BitVec 32 := Scalar.subi arg1 c0_i32_75
  let c0_i32_76 : BitVec 32 := 0#32
  let v96 : BitVec 1 := Scalar.cmpi .sgt v94 c0_i32_76
  let v97 : BitVec 32 := Scalar.extui v96
  let c0_i32_77 : BitVec 32 := 0#32
  let v98 : BitVec 1 := Scalar.cmpi .slt v94 c0_i32_77
  let v99 : BitVec 32 := Scalar.extui v98
  let v100 : BitVec 32 := Scalar.subi v97 v99
  let c8_i32 : BitVec 32 := 8#32
  let c0_i32_78 : BitVec 32 := 0#32
  let v101 : BitVec 1 := Scalar.cmpi .sgt c8_i32 c0_i32_78
  let v102 : BitVec 32 := Scalar.extui v101
  let c0_i32_79 : BitVec 32 := 0#32
  let v103 : BitVec 1 := Scalar.cmpi .slt c8_i32 c0_i32_79
  let v104 : BitVec 32 := Scalar.extui v103
  let v105 : BitVec 32 := Scalar.subi v102 v104
  let v106 : BitVec 1 := Scalar.cmpi .ne v100 v105
  let v107 : BitVec 32 := Scalar.remsi v94 c8_i32
  let c0_i32_80 : BitVec 32 := 0#32
  let v108 : BitVec 1 := Scalar.cmpi .ne v107 c0_i32_80
  let v109 : BitVec 1 := Scalar.andi v106 v108
  let v95 : BitVec 32 := Scalar.divsi v94 c8_i32
  let c1_i32 : BitVec 32 := 1#32
  let v110 : BitVec 32 := Scalar.subi v95 c1_i32
  let v111 : BitVec 32 := Scalar.select v109 v110 v95
  let v117 : BitVec 32 := Scalar.muli c8_i32_86 v111
  let v118 : BitVec 32 := Scalar.addi c0_i32_87 v117
  let c4_i32_99 : BitVec 32 := 4#32
  let v119 : BitVec 32 := Scalar.subi arg1 v118
  let c0_i32_88 : BitVec 32 := 0#32
  let v121 : BitVec 1 := Scalar.cmpi .sgt v119 c0_i32_88
  let v122 : BitVec 32 := Scalar.extui v121
  let c0_i32_89 : BitVec 32 := 0#32
  let v123 : BitVec 1 := Scalar.cmpi .slt v119 c0_i32_89
  let v124 : BitVec 32 := Scalar.extui v123
  let v125 : BitVec 32 := Scalar.subi v122 v124
  let c4_i32 : BitVec 32 := 4#32
  let c0_i32_90 : BitVec 32 := 0#32
  let v126 : BitVec 1 := Scalar.cmpi .sgt c4_i32 c0_i32_90
  let v127 : BitVec 32 := Scalar.extui v126
  let c0_i32_91 : BitVec 32 := 0#32
  let v128 : BitVec 1 := Scalar.cmpi .slt c4_i32 c0_i32_91
  let v129 : BitVec 32 := Scalar.extui v128
  let v130 : BitVec 32 := Scalar.subi v127 v129
  let v131 : BitVec 1 := Scalar.cmpi .ne v125 v130
  let v132 : BitVec 32 := Scalar.remsi v119 c4_i32
  let c0_i32_92 : BitVec 32 := 0#32
  let v133 : BitVec 1 := Scalar.cmpi .ne v132 c0_i32_92
  let v134 : BitVec 1 := Scalar.andi v131 v133
  let v120 : BitVec 32 := Scalar.divsi v119 c4_i32
  let c1_i32_93 : BitVec 32 := 1#32
  let v135 : BitVec 32 := Scalar.subi v120 c1_i32_93
  let v136 : BitVec 32 := Scalar.select v134 v135 v120
  let v142 : BitVec 32 := Scalar.muli c4_i32_99 v136
  let v143 : BitVec 32 := Scalar.addi v118 v142
  let c2_i32_148 : BitVec 32 := 2#32
  let c0_i32_107 : BitVec 32 := 0#32
  let v144 : BitVec 32 := Scalar.subi arg1 v143
  let c0_i32_100 : BitVec 32 := 0#32
  let v146 : BitVec 1 := Scalar.cmpi .sgt v144 c0_i32_100
  let v147 : BitVec 32 := Scalar.extui v146
  let c0_i32_101 : BitVec 32 := 0#32
  let v148 : BitVec 1 := Scalar.cmpi .slt v144 c0_i32_101
  let v149 : BitVec 32 := Scalar.extui v148
  let v150 : BitVec 32 := Scalar.subi v147 v149
  let c2_i32 : BitVec 32 := 2#32
  let c0_i32_102 : BitVec 32 := 0#32
  let v151 : BitVec 1 := Scalar.cmpi .sgt c2_i32 c0_i32_102
  let v152 : BitVec 32 := Scalar.extui v151
  let c0_i32_103 : BitVec 32 := 0#32
  let v153 : BitVec 1 := Scalar.cmpi .slt c2_i32 c0_i32_103
  let v154 : BitVec 32 := Scalar.extui v153
  let v155 : BitVec 32 := Scalar.subi v152 v154
  let v156 : BitVec 1 := Scalar.cmpi .ne v150 v155
  let v157 : BitVec 32 := Scalar.remsi v144 c2_i32
  let c0_i32_104 : BitVec 32 := 0#32
  let v158 : BitVec 1 := Scalar.cmpi .ne v157 c0_i32_104
  let v159 : BitVec 1 := Scalar.andi v156 v158
  let v145 : BitVec 32 := Scalar.divsi v144 c2_i32
  let c1_i32_105 : BitVec 32 := 1#32
  let v160 : BitVec 32 := Scalar.subi v145 c1_i32_105
  let v161 : BitVec 32 := Scalar.select v159 v160 v145
  let v162 : BitVec 32 := Scalar.subi v161 c0_i32_107
  let c1_i32_108 : BitVec 32 := 1#32
  let v164 : BitVec 32 := Scalar.divsi v162 c1_i32_108
  let v165 : BitVec 32 := Scalar.muli v164 c1_i32_108
  let v166 : BitVec 32 := Scalar.addi c0_i32_107 v165
  let c1_i32_110 : BitVec 32 := 1#32
  let arg17 : BitVec 32 := Scf.iv v166 c1_i32_110 k0_t6
  let v252 : BitVec 32 := Scalar.muli c2_i32_148 arg17
  let v253 : BitVec 32 := Scalar.addi v143 v252
  let v254 : BitVec 32 := Scalar.addi v253 c0_i32_149
  let c1_i32_221 : BitVec 32 := 1#32
  let v339 : BitVec 32 := Scalar.subi v254 c1_i32_221
  let c0_i32_222 : BitVec 32 := 0#32
  let v340 : BitVec 32 := Scalar.maxsi v339 c0_i32_222
  let c256_i32_223 : BitVec 32 := 256#32
  let v341 : BitVec 32 := Scalar.muli v340 c256_i32_223
  let v342 : BitVec 32 := v341
  let v343 : Index := Scalar.indexCast v342
  ![1, 0, v343.toNat]
def k0_mult111 (i : grid0.Coords) (k0_t6 : Fin (k0_t6_loop i).trips) : BitVec 32 :=
  let c0_i32_87 : BitVec 32 := 0#32
  let c8_i32_86 : BitVec 32 := 8#32
  let arg1 : BitVec 32 := BitVec.ofNat 32 (i 1).val
  let c0_i32_75 : BitVec 32 := 0#32
  let v94 : BitVec 32 := Scalar.subi arg1 c0_i32_75
  let c0_i32_76 : BitVec 32 := 0#32
  let v96 : BitVec 1 := Scalar.cmpi .sgt v94 c0_i32_76
  let v97 : BitVec 32 := Scalar.extui v96
  let c0_i32_77 : BitVec 32 := 0#32
  let v98 : BitVec 1 := Scalar.cmpi .slt v94 c0_i32_77
  let v99 : BitVec 32 := Scalar.extui v98
  let v100 : BitVec 32 := Scalar.subi v97 v99
  let c8_i32 : BitVec 32 := 8#32
  let c0_i32_78 : BitVec 32 := 0#32
  let v101 : BitVec 1 := Scalar.cmpi .sgt c8_i32 c0_i32_78
  let v102 : BitVec 32 := Scalar.extui v101
  let c0_i32_79 : BitVec 32 := 0#32
  let v103 : BitVec 1 := Scalar.cmpi .slt c8_i32 c0_i32_79
  let v104 : BitVec 32 := Scalar.extui v103
  let v105 : BitVec 32 := Scalar.subi v102 v104
  let v106 : BitVec 1 := Scalar.cmpi .ne v100 v105
  let v107 : BitVec 32 := Scalar.remsi v94 c8_i32
  let c0_i32_80 : BitVec 32 := 0#32
  let v108 : BitVec 1 := Scalar.cmpi .ne v107 c0_i32_80
  let v109 : BitVec 1 := Scalar.andi v106 v108
  let v95 : BitVec 32 := Scalar.divsi v94 c8_i32
  let c1_i32 : BitVec 32 := 1#32
  let v110 : BitVec 32 := Scalar.subi v95 c1_i32
  let v111 : BitVec 32 := Scalar.select v109 v110 v95
  let v117 : BitVec 32 := Scalar.muli c8_i32_86 v111
  let v118 : BitVec 32 := Scalar.addi c0_i32_87 v117
  let c4_i32_99 : BitVec 32 := 4#32
  let v119 : BitVec 32 := Scalar.subi arg1 v118
  let c0_i32_88 : BitVec 32 := 0#32
  let v121 : BitVec 1 := Scalar.cmpi .sgt v119 c0_i32_88
  let v122 : BitVec 32 := Scalar.extui v121
  let c0_i32_89 : BitVec 32 := 0#32
  let v123 : BitVec 1 := Scalar.cmpi .slt v119 c0_i32_89
  let v124 : BitVec 32 := Scalar.extui v123
  let v125 : BitVec 32 := Scalar.subi v122 v124
  let c4_i32 : BitVec 32 := 4#32
  let c0_i32_90 : BitVec 32 := 0#32
  let v126 : BitVec 1 := Scalar.cmpi .sgt c4_i32 c0_i32_90
  let v127 : BitVec 32 := Scalar.extui v126
  let c0_i32_91 : BitVec 32 := 0#32
  let v128 : BitVec 1 := Scalar.cmpi .slt c4_i32 c0_i32_91
  let v129 : BitVec 32 := Scalar.extui v128
  let v130 : BitVec 32 := Scalar.subi v127 v129
  let v131 : BitVec 1 := Scalar.cmpi .ne v125 v130
  let v132 : BitVec 32 := Scalar.remsi v119 c4_i32
  let c0_i32_92 : BitVec 32 := 0#32
  let v133 : BitVec 1 := Scalar.cmpi .ne v132 c0_i32_92
  let v134 : BitVec 1 := Scalar.andi v131 v133
  let v120 : BitVec 32 := Scalar.divsi v119 c4_i32
  let c1_i32_93 : BitVec 32 := 1#32
  let v135 : BitVec 32 := Scalar.subi v120 c1_i32_93
  let v136 : BitVec 32 := Scalar.select v134 v135 v120
  let v142 : BitVec 32 := Scalar.muli c4_i32_99 v136
  let v143 : BitVec 32 := Scalar.addi v118 v142
  let c2_i32_265 : BitVec 32 := 2#32
  let c0_i32_107 : BitVec 32 := 0#32
  let v144 : BitVec 32 := Scalar.subi arg1 v143
  let c0_i32_100 : BitVec 32 := 0#32
  let v146 : BitVec 1 := Scalar.cmpi .sgt v144 c0_i32_100
  let v147 : BitVec 32 := Scalar.extui v146
  let c0_i32_101 : BitVec 32 := 0#32
  let v148 : BitVec 1 := Scalar.cmpi .slt v144 c0_i32_101
  let v149 : BitVec 32 := Scalar.extui v148
  let v150 : BitVec 32 := Scalar.subi v147 v149
  let c2_i32 : BitVec 32 := 2#32
  let c0_i32_102 : BitVec 32 := 0#32
  let v151 : BitVec 1 := Scalar.cmpi .sgt c2_i32 c0_i32_102
  let v152 : BitVec 32 := Scalar.extui v151
  let c0_i32_103 : BitVec 32 := 0#32
  let v153 : BitVec 1 := Scalar.cmpi .slt c2_i32 c0_i32_103
  let v154 : BitVec 32 := Scalar.extui v153
  let v155 : BitVec 32 := Scalar.subi v152 v154
  let v156 : BitVec 1 := Scalar.cmpi .ne v150 v155
  let v157 : BitVec 32 := Scalar.remsi v144 c2_i32
  let c0_i32_104 : BitVec 32 := 0#32
  let v158 : BitVec 1 := Scalar.cmpi .ne v157 c0_i32_104
  let v159 : BitVec 1 := Scalar.andi v156 v158
  let v145 : BitVec 32 := Scalar.divsi v144 c2_i32
  let c1_i32_105 : BitVec 32 := 1#32
  let v160 : BitVec 32 := Scalar.subi v145 c1_i32_105
  let v161 : BitVec 32 := Scalar.select v159 v160 v145
  let v162 : BitVec 32 := Scalar.subi v161 c0_i32_107
  let c1_i32_108 : BitVec 32 := 1#32
  let v164 : BitVec 32 := Scalar.divsi v162 c1_i32_108
  let v165 : BitVec 32 := Scalar.muli v164 c1_i32_108
  let v166 : BitVec 32 := Scalar.addi c0_i32_107 v165
  let c1_i32_110 : BitVec 32 := 1#32
  let arg17 : BitVec 32 := Scf.iv v166 c1_i32_110 k0_t6
  let v395 : BitVec 32 := Scalar.muli c2_i32_265 arg17
  let v396 : BitVec 32 := Scalar.addi v143 v395
  let c1_i32_266 : BitVec 32 := 1#32
  let v397 : BitVec 32 := Scalar.addi v396 c1_i32_266
  let c1_i32_267 : BitVec 32 := 1#32
  let v398 : BitVec 32 := Scalar.addi v397 c1_i32_267
  let c256_i32_268 : BitVec 32 := 256#32
  let v399 : BitVec 32 := Scalar.muli v398 c256_i32_268
  v399
def k0_mult112 (i : grid0.Coords) (k0_t6 : Fin (k0_t6_loop i).trips) : BitVec 32 :=
  let c0_i32_87 : BitVec 32 := 0#32
  let c8_i32_86 : BitVec 32 := 8#32
  let arg1 : BitVec 32 := BitVec.ofNat 32 (i 1).val
  let c0_i32_75 : BitVec 32 := 0#32
  let v94 : BitVec 32 := Scalar.subi arg1 c0_i32_75
  let c0_i32_76 : BitVec 32 := 0#32
  let v96 : BitVec 1 := Scalar.cmpi .sgt v94 c0_i32_76
  let v97 : BitVec 32 := Scalar.extui v96
  let c0_i32_77 : BitVec 32 := 0#32
  let v98 : BitVec 1 := Scalar.cmpi .slt v94 c0_i32_77
  let v99 : BitVec 32 := Scalar.extui v98
  let v100 : BitVec 32 := Scalar.subi v97 v99
  let c8_i32 : BitVec 32 := 8#32
  let c0_i32_78 : BitVec 32 := 0#32
  let v101 : BitVec 1 := Scalar.cmpi .sgt c8_i32 c0_i32_78
  let v102 : BitVec 32 := Scalar.extui v101
  let c0_i32_79 : BitVec 32 := 0#32
  let v103 : BitVec 1 := Scalar.cmpi .slt c8_i32 c0_i32_79
  let v104 : BitVec 32 := Scalar.extui v103
  let v105 : BitVec 32 := Scalar.subi v102 v104
  let v106 : BitVec 1 := Scalar.cmpi .ne v100 v105
  let v107 : BitVec 32 := Scalar.remsi v94 c8_i32
  let c0_i32_80 : BitVec 32 := 0#32
  let v108 : BitVec 1 := Scalar.cmpi .ne v107 c0_i32_80
  let v109 : BitVec 1 := Scalar.andi v106 v108
  let v95 : BitVec 32 := Scalar.divsi v94 c8_i32
  let c1_i32 : BitVec 32 := 1#32
  let v110 : BitVec 32 := Scalar.subi v95 c1_i32
  let v111 : BitVec 32 := Scalar.select v109 v110 v95
  let v117 : BitVec 32 := Scalar.muli c8_i32_86 v111
  let v118 : BitVec 32 := Scalar.addi c0_i32_87 v117
  let c4_i32_99 : BitVec 32 := 4#32
  let v119 : BitVec 32 := Scalar.subi arg1 v118
  let c0_i32_88 : BitVec 32 := 0#32
  let v121 : BitVec 1 := Scalar.cmpi .sgt v119 c0_i32_88
  let v122 : BitVec 32 := Scalar.extui v121
  let c0_i32_89 : BitVec 32 := 0#32
  let v123 : BitVec 1 := Scalar.cmpi .slt v119 c0_i32_89
  let v124 : BitVec 32 := Scalar.extui v123
  let v125 : BitVec 32 := Scalar.subi v122 v124
  let c4_i32 : BitVec 32 := 4#32
  let c0_i32_90 : BitVec 32 := 0#32
  let v126 : BitVec 1 := Scalar.cmpi .sgt c4_i32 c0_i32_90
  let v127 : BitVec 32 := Scalar.extui v126
  let c0_i32_91 : BitVec 32 := 0#32
  let v128 : BitVec 1 := Scalar.cmpi .slt c4_i32 c0_i32_91
  let v129 : BitVec 32 := Scalar.extui v128
  let v130 : BitVec 32 := Scalar.subi v127 v129
  let v131 : BitVec 1 := Scalar.cmpi .ne v125 v130
  let v132 : BitVec 32 := Scalar.remsi v119 c4_i32
  let c0_i32_92 : BitVec 32 := 0#32
  let v133 : BitVec 1 := Scalar.cmpi .ne v132 c0_i32_92
  let v134 : BitVec 1 := Scalar.andi v131 v133
  let v120 : BitVec 32 := Scalar.divsi v119 c4_i32
  let c1_i32_93 : BitVec 32 := 1#32
  let v135 : BitVec 32 := Scalar.subi v120 c1_i32_93
  let v136 : BitVec 32 := Scalar.select v134 v135 v120
  let v142 : BitVec 32 := Scalar.muli c4_i32_99 v136
  let v143 : BitVec 32 := Scalar.addi v118 v142
  let c2_i32_265 : BitVec 32 := 2#32
  let c0_i32_107 : BitVec 32 := 0#32
  let v144 : BitVec 32 := Scalar.subi arg1 v143
  let c0_i32_100 : BitVec 32 := 0#32
  let v146 : BitVec 1 := Scalar.cmpi .sgt v144 c0_i32_100
  let v147 : BitVec 32 := Scalar.extui v146
  let c0_i32_101 : BitVec 32 := 0#32
  let v148 : BitVec 1 := Scalar.cmpi .slt v144 c0_i32_101
  let v149 : BitVec 32 := Scalar.extui v148
  let v150 : BitVec 32 := Scalar.subi v147 v149
  let c2_i32 : BitVec 32 := 2#32
  let c0_i32_102 : BitVec 32 := 0#32
  let v151 : BitVec 1 := Scalar.cmpi .sgt c2_i32 c0_i32_102
  let v152 : BitVec 32 := Scalar.extui v151
  let c0_i32_103 : BitVec 32 := 0#32
  let v153 : BitVec 1 := Scalar.cmpi .slt c2_i32 c0_i32_103
  let v154 : BitVec 32 := Scalar.extui v153
  let v155 : BitVec 32 := Scalar.subi v152 v154
  let v156 : BitVec 1 := Scalar.cmpi .ne v150 v155
  let v157 : BitVec 32 := Scalar.remsi v144 c2_i32
  let c0_i32_104 : BitVec 32 := 0#32
  let v158 : BitVec 1 := Scalar.cmpi .ne v157 c0_i32_104
  let v159 : BitVec 1 := Scalar.andi v156 v158
  let v145 : BitVec 32 := Scalar.divsi v144 c2_i32
  let c1_i32_105 : BitVec 32 := 1#32
  let v160 : BitVec 32 := Scalar.subi v145 c1_i32_105
  let v161 : BitVec 32 := Scalar.select v159 v160 v145
  let v162 : BitVec 32 := Scalar.subi v161 c0_i32_107
  let c1_i32_108 : BitVec 32 := 1#32
  let v164 : BitVec 32 := Scalar.divsi v162 c1_i32_108
  let v165 : BitVec 32 := Scalar.muli v164 c1_i32_108
  let v166 : BitVec 32 := Scalar.addi c0_i32_107 v165
  let c1_i32_110 : BitVec 32 := 1#32
  let arg17 : BitVec 32 := Scf.iv v166 c1_i32_110 k0_t6
  let v395 : BitVec 32 := Scalar.muli c2_i32_265 arg17
  let v396 : BitVec 32 := Scalar.addi v143 v395
  let c1_i32_266 : BitVec 32 := 1#32
  let v397 : BitVec 32 := Scalar.addi v396 c1_i32_266
  let c1_i32_281 : BitVec 32 := 1#32
  let v412 : BitVec 32 := Scalar.subi v397 c1_i32_281
  let c0_i32_282 : BitVec 32 := 0#32
  let v413 : BitVec 32 := Scalar.maxsi v412 c0_i32_282
  let c256_i32_283 : BitVec 32 := 256#32
  let v414 : BitVec 32 := Scalar.muli v413 c256_i32_283
  v414
def k0_mult113 (i : grid0.Coords) (k0_t6 : Fin (k0_t6_loop i).trips) : BitVec 32 :=
  let c0_i32_87 : BitVec 32 := 0#32
  let c8_i32_86 : BitVec 32 := 8#32
  let arg1 : BitVec 32 := BitVec.ofNat 32 (i 1).val
  let c0_i32_75 : BitVec 32 := 0#32
  let v94 : BitVec 32 := Scalar.subi arg1 c0_i32_75
  let c0_i32_76 : BitVec 32 := 0#32
  let v96 : BitVec 1 := Scalar.cmpi .sgt v94 c0_i32_76
  let v97 : BitVec 32 := Scalar.extui v96
  let c0_i32_77 : BitVec 32 := 0#32
  let v98 : BitVec 1 := Scalar.cmpi .slt v94 c0_i32_77
  let v99 : BitVec 32 := Scalar.extui v98
  let v100 : BitVec 32 := Scalar.subi v97 v99
  let c8_i32 : BitVec 32 := 8#32
  let c0_i32_78 : BitVec 32 := 0#32
  let v101 : BitVec 1 := Scalar.cmpi .sgt c8_i32 c0_i32_78
  let v102 : BitVec 32 := Scalar.extui v101
  let c0_i32_79 : BitVec 32 := 0#32
  let v103 : BitVec 1 := Scalar.cmpi .slt c8_i32 c0_i32_79
  let v104 : BitVec 32 := Scalar.extui v103
  let v105 : BitVec 32 := Scalar.subi v102 v104
  let v106 : BitVec 1 := Scalar.cmpi .ne v100 v105
  let v107 : BitVec 32 := Scalar.remsi v94 c8_i32
  let c0_i32_80 : BitVec 32 := 0#32
  let v108 : BitVec 1 := Scalar.cmpi .ne v107 c0_i32_80
  let v109 : BitVec 1 := Scalar.andi v106 v108
  let v95 : BitVec 32 := Scalar.divsi v94 c8_i32
  let c1_i32 : BitVec 32 := 1#32
  let v110 : BitVec 32 := Scalar.subi v95 c1_i32
  let v111 : BitVec 32 := Scalar.select v109 v110 v95
  let v117 : BitVec 32 := Scalar.muli c8_i32_86 v111
  let v118 : BitVec 32 := Scalar.addi c0_i32_87 v117
  let c4_i32_99 : BitVec 32 := 4#32
  let v119 : BitVec 32 := Scalar.subi arg1 v118
  let c0_i32_88 : BitVec 32 := 0#32
  let v121 : BitVec 1 := Scalar.cmpi .sgt v119 c0_i32_88
  let v122 : BitVec 32 := Scalar.extui v121
  let c0_i32_89 : BitVec 32 := 0#32
  let v123 : BitVec 1 := Scalar.cmpi .slt v119 c0_i32_89
  let v124 : BitVec 32 := Scalar.extui v123
  let v125 : BitVec 32 := Scalar.subi v122 v124
  let c4_i32 : BitVec 32 := 4#32
  let c0_i32_90 : BitVec 32 := 0#32
  let v126 : BitVec 1 := Scalar.cmpi .sgt c4_i32 c0_i32_90
  let v127 : BitVec 32 := Scalar.extui v126
  let c0_i32_91 : BitVec 32 := 0#32
  let v128 : BitVec 1 := Scalar.cmpi .slt c4_i32 c0_i32_91
  let v129 : BitVec 32 := Scalar.extui v128
  let v130 : BitVec 32 := Scalar.subi v127 v129
  let v131 : BitVec 1 := Scalar.cmpi .ne v125 v130
  let v132 : BitVec 32 := Scalar.remsi v119 c4_i32
  let c0_i32_92 : BitVec 32 := 0#32
  let v133 : BitVec 1 := Scalar.cmpi .ne v132 c0_i32_92
  let v134 : BitVec 1 := Scalar.andi v131 v133
  let v120 : BitVec 32 := Scalar.divsi v119 c4_i32
  let c1_i32_93 : BitVec 32 := 1#32
  let v135 : BitVec 32 := Scalar.subi v120 c1_i32_93
  let v136 : BitVec 32 := Scalar.select v134 v135 v120
  let v142 : BitVec 32 := Scalar.muli c4_i32_99 v136
  let v143 : BitVec 32 := Scalar.addi v118 v142
  let c2_i32_265 : BitVec 32 := 2#32
  let c0_i32_107 : BitVec 32 := 0#32
  let v144 : BitVec 32 := Scalar.subi arg1 v143
  let c0_i32_100 : BitVec 32 := 0#32
  let v146 : BitVec 1 := Scalar.cmpi .sgt v144 c0_i32_100
  let v147 : BitVec 32 := Scalar.extui v146
  let c0_i32_101 : BitVec 32 := 0#32
  let v148 : BitVec 1 := Scalar.cmpi .slt v144 c0_i32_101
  let v149 : BitVec 32 := Scalar.extui v148
  let v150 : BitVec 32 := Scalar.subi v147 v149
  let c2_i32 : BitVec 32 := 2#32
  let c0_i32_102 : BitVec 32 := 0#32
  let v151 : BitVec 1 := Scalar.cmpi .sgt c2_i32 c0_i32_102
  let v152 : BitVec 32 := Scalar.extui v151
  let c0_i32_103 : BitVec 32 := 0#32
  let v153 : BitVec 1 := Scalar.cmpi .slt c2_i32 c0_i32_103
  let v154 : BitVec 32 := Scalar.extui v153
  let v155 : BitVec 32 := Scalar.subi v152 v154
  let v156 : BitVec 1 := Scalar.cmpi .ne v150 v155
  let v157 : BitVec 32 := Scalar.remsi v144 c2_i32
  let c0_i32_104 : BitVec 32 := 0#32
  let v158 : BitVec 1 := Scalar.cmpi .ne v157 c0_i32_104
  let v159 : BitVec 1 := Scalar.andi v156 v158
  let v145 : BitVec 32 := Scalar.divsi v144 c2_i32
  let c1_i32_105 : BitVec 32 := 1#32
  let v160 : BitVec 32 := Scalar.subi v145 c1_i32_105
  let v161 : BitVec 32 := Scalar.select v159 v160 v145
  let v162 : BitVec 32 := Scalar.subi v161 c0_i32_107
  let c1_i32_108 : BitVec 32 := 1#32
  let v164 : BitVec 32 := Scalar.divsi v162 c1_i32_108
  let v165 : BitVec 32 := Scalar.muli v164 c1_i32_108
  let v166 : BitVec 32 := Scalar.addi c0_i32_107 v165
  let c1_i32_110 : BitVec 32 := 1#32
  let arg17 : BitVec 32 := Scf.iv v166 c1_i32_110 k0_t6
  let v395 : BitVec 32 := Scalar.muli c2_i32_265 arg17
  let v396 : BitVec 32 := Scalar.addi v143 v395
  let c1_i32_266 : BitVec 32 := 1#32
  let v397 : BitVec 32 := Scalar.addi v396 c1_i32_266
  let c1_i32_325 : BitVec 32 := 1#32
  let v468 : BitVec 32 := Scalar.addi v397 c1_i32_325
  let c256_i32_326 : BitVec 32 := 256#32
  let v469 : BitVec 32 := Scalar.muli v468 c256_i32_326
  v469
def k0_mult114 (i : grid0.Coords) (k0_t6 : Fin (k0_t6_loop i).trips) : BitVec 32 :=
  let c0_i32_87 : BitVec 32 := 0#32
  let c8_i32_86 : BitVec 32 := 8#32
  let arg1 : BitVec 32 := BitVec.ofNat 32 (i 1).val
  let c0_i32_75 : BitVec 32 := 0#32
  let v94 : BitVec 32 := Scalar.subi arg1 c0_i32_75
  let c0_i32_76 : BitVec 32 := 0#32
  let v96 : BitVec 1 := Scalar.cmpi .sgt v94 c0_i32_76
  let v97 : BitVec 32 := Scalar.extui v96
  let c0_i32_77 : BitVec 32 := 0#32
  let v98 : BitVec 1 := Scalar.cmpi .slt v94 c0_i32_77
  let v99 : BitVec 32 := Scalar.extui v98
  let v100 : BitVec 32 := Scalar.subi v97 v99
  let c8_i32 : BitVec 32 := 8#32
  let c0_i32_78 : BitVec 32 := 0#32
  let v101 : BitVec 1 := Scalar.cmpi .sgt c8_i32 c0_i32_78
  let v102 : BitVec 32 := Scalar.extui v101
  let c0_i32_79 : BitVec 32 := 0#32
  let v103 : BitVec 1 := Scalar.cmpi .slt c8_i32 c0_i32_79
  let v104 : BitVec 32 := Scalar.extui v103
  let v105 : BitVec 32 := Scalar.subi v102 v104
  let v106 : BitVec 1 := Scalar.cmpi .ne v100 v105
  let v107 : BitVec 32 := Scalar.remsi v94 c8_i32
  let c0_i32_80 : BitVec 32 := 0#32
  let v108 : BitVec 1 := Scalar.cmpi .ne v107 c0_i32_80
  let v109 : BitVec 1 := Scalar.andi v106 v108
  let v95 : BitVec 32 := Scalar.divsi v94 c8_i32
  let c1_i32 : BitVec 32 := 1#32
  let v110 : BitVec 32 := Scalar.subi v95 c1_i32
  let v111 : BitVec 32 := Scalar.select v109 v110 v95
  let v117 : BitVec 32 := Scalar.muli c8_i32_86 v111
  let v118 : BitVec 32 := Scalar.addi c0_i32_87 v117
  let c4_i32_99 : BitVec 32 := 4#32
  let v119 : BitVec 32 := Scalar.subi arg1 v118
  let c0_i32_88 : BitVec 32 := 0#32
  let v121 : BitVec 1 := Scalar.cmpi .sgt v119 c0_i32_88
  let v122 : BitVec 32 := Scalar.extui v121
  let c0_i32_89 : BitVec 32 := 0#32
  let v123 : BitVec 1 := Scalar.cmpi .slt v119 c0_i32_89
  let v124 : BitVec 32 := Scalar.extui v123
  let v125 : BitVec 32 := Scalar.subi v122 v124
  let c4_i32 : BitVec 32 := 4#32
  let c0_i32_90 : BitVec 32 := 0#32
  let v126 : BitVec 1 := Scalar.cmpi .sgt c4_i32 c0_i32_90
  let v127 : BitVec 32 := Scalar.extui v126
  let c0_i32_91 : BitVec 32 := 0#32
  let v128 : BitVec 1 := Scalar.cmpi .slt c4_i32 c0_i32_91
  let v129 : BitVec 32 := Scalar.extui v128
  let v130 : BitVec 32 := Scalar.subi v127 v129
  let v131 : BitVec 1 := Scalar.cmpi .ne v125 v130
  let v132 : BitVec 32 := Scalar.remsi v119 c4_i32
  let c0_i32_92 : BitVec 32 := 0#32
  let v133 : BitVec 1 := Scalar.cmpi .ne v132 c0_i32_92
  let v134 : BitVec 1 := Scalar.andi v131 v133
  let v120 : BitVec 32 := Scalar.divsi v119 c4_i32
  let c1_i32_93 : BitVec 32 := 1#32
  let v135 : BitVec 32 := Scalar.subi v120 c1_i32_93
  let v136 : BitVec 32 := Scalar.select v134 v135 v120
  let v142 : BitVec 32 := Scalar.muli c4_i32_99 v136
  let v143 : BitVec 32 := Scalar.addi v118 v142
  let c2_i32_265 : BitVec 32 := 2#32
  let c0_i32_107 : BitVec 32 := 0#32
  let v144 : BitVec 32 := Scalar.subi arg1 v143
  let c0_i32_100 : BitVec 32 := 0#32
  let v146 : BitVec 1 := Scalar.cmpi .sgt v144 c0_i32_100
  let v147 : BitVec 32 := Scalar.extui v146
  let c0_i32_101 : BitVec 32 := 0#32
  let v148 : BitVec 1 := Scalar.cmpi .slt v144 c0_i32_101
  let v149 : BitVec 32 := Scalar.extui v148
  let v150 : BitVec 32 := Scalar.subi v147 v149
  let c2_i32 : BitVec 32 := 2#32
  let c0_i32_102 : BitVec 32 := 0#32
  let v151 : BitVec 1 := Scalar.cmpi .sgt c2_i32 c0_i32_102
  let v152 : BitVec 32 := Scalar.extui v151
  let c0_i32_103 : BitVec 32 := 0#32
  let v153 : BitVec 1 := Scalar.cmpi .slt c2_i32 c0_i32_103
  let v154 : BitVec 32 := Scalar.extui v153
  let v155 : BitVec 32 := Scalar.subi v152 v154
  let v156 : BitVec 1 := Scalar.cmpi .ne v150 v155
  let v157 : BitVec 32 := Scalar.remsi v144 c2_i32
  let c0_i32_104 : BitVec 32 := 0#32
  let v158 : BitVec 1 := Scalar.cmpi .ne v157 c0_i32_104
  let v159 : BitVec 1 := Scalar.andi v156 v158
  let v145 : BitVec 32 := Scalar.divsi v144 c2_i32
  let c1_i32_105 : BitVec 32 := 1#32
  let v160 : BitVec 32 := Scalar.subi v145 c1_i32_105
  let v161 : BitVec 32 := Scalar.select v159 v160 v145
  let v162 : BitVec 32 := Scalar.subi v161 c0_i32_107
  let c1_i32_108 : BitVec 32 := 1#32
  let v164 : BitVec 32 := Scalar.divsi v162 c1_i32_108
  let v165 : BitVec 32 := Scalar.muli v164 c1_i32_108
  let v166 : BitVec 32 := Scalar.addi c0_i32_107 v165
  let c1_i32_110 : BitVec 32 := 1#32
  let arg17 : BitVec 32 := Scf.iv v166 c1_i32_110 k0_t6
  let v395 : BitVec 32 := Scalar.muli c2_i32_265 arg17
  let v396 : BitVec 32 := Scalar.addi v143 v395
  let c1_i32_266 : BitVec 32 := 1#32
  let v397 : BitVec 32 := Scalar.addi v396 c1_i32_266
  let c1_i32_339 : BitVec 32 := 1#32
  let v482 : BitVec 32 := Scalar.subi v397 c1_i32_339
  let c0_i32_340 : BitVec 32 := 0#32
  let v483 : BitVec 32 := Scalar.maxsi v482 c0_i32_340
  let c256_i32_341 : BitVec 32 := 256#32
  let v484 : BitVec 32 := Scalar.muli v483 c256_i32_341
  v484
def k0_cond2 (i : grid0.Coords) : BitVec 1 :=
  let arg1 : BitVec 32 := BitVec.ofNat 32 (i 1).val
  let c0_i32_87 : BitVec 32 := 0#32
  let c8_i32_86 : BitVec 32 := 8#32
  let c0_i32_75 : BitVec 32 := 0#32
  let v94 : BitVec 32 := Scalar.subi arg1 c0_i32_75
  let c0_i32_76 : BitVec 32 := 0#32
  let v96 : BitVec 1 := Scalar.cmpi .sgt v94 c0_i32_76
  let v97 : BitVec 32 := Scalar.extui v96
  let c0_i32_77 : BitVec 32 := 0#32
  let v98 : BitVec 1 := Scalar.cmpi .slt v94 c0_i32_77
  let v99 : BitVec 32 := Scalar.extui v98
  let v100 : BitVec 32 := Scalar.subi v97 v99
  let c8_i32 : BitVec 32 := 8#32
  let c0_i32_78 : BitVec 32 := 0#32
  let v101 : BitVec 1 := Scalar.cmpi .sgt c8_i32 c0_i32_78
  let v102 : BitVec 32 := Scalar.extui v101
  let c0_i32_79 : BitVec 32 := 0#32
  let v103 : BitVec 1 := Scalar.cmpi .slt c8_i32 c0_i32_79
  let v104 : BitVec 32 := Scalar.extui v103
  let v105 : BitVec 32 := Scalar.subi v102 v104
  let v106 : BitVec 1 := Scalar.cmpi .ne v100 v105
  let v107 : BitVec 32 := Scalar.remsi v94 c8_i32
  let c0_i32_80 : BitVec 32 := 0#32
  let v108 : BitVec 1 := Scalar.cmpi .ne v107 c0_i32_80
  let v109 : BitVec 1 := Scalar.andi v106 v108
  let v95 : BitVec 32 := Scalar.divsi v94 c8_i32
  let c1_i32 : BitVec 32 := 1#32
  let v110 : BitVec 32 := Scalar.subi v95 c1_i32
  let v111 : BitVec 32 := Scalar.select v109 v110 v95
  let v117 : BitVec 32 := Scalar.muli c8_i32_86 v111
  let v118 : BitVec 32 := Scalar.addi c0_i32_87 v117
  let c4_i32_99 : BitVec 32 := 4#32
  let v119 : BitVec 32 := Scalar.subi arg1 v118
  let c0_i32_88 : BitVec 32 := 0#32
  let v121 : BitVec 1 := Scalar.cmpi .sgt v119 c0_i32_88
  let v122 : BitVec 32 := Scalar.extui v121
  let c0_i32_89 : BitVec 32 := 0#32
  let v123 : BitVec 1 := Scalar.cmpi .slt v119 c0_i32_89
  let v124 : BitVec 32 := Scalar.extui v123
  let v125 : BitVec 32 := Scalar.subi v122 v124
  let c4_i32 : BitVec 32 := 4#32
  let c0_i32_90 : BitVec 32 := 0#32
  let v126 : BitVec 1 := Scalar.cmpi .sgt c4_i32 c0_i32_90
  let v127 : BitVec 32 := Scalar.extui v126
  let c0_i32_91 : BitVec 32 := 0#32
  let v128 : BitVec 1 := Scalar.cmpi .slt c4_i32 c0_i32_91
  let v129 : BitVec 32 := Scalar.extui v128
  let v130 : BitVec 32 := Scalar.subi v127 v129
  let v131 : BitVec 1 := Scalar.cmpi .ne v125 v130
  let v132 : BitVec 32 := Scalar.remsi v119 c4_i32
  let c0_i32_92 : BitVec 32 := 0#32
  let v133 : BitVec 1 := Scalar.cmpi .ne v132 c0_i32_92
  let v134 : BitVec 1 := Scalar.andi v131 v133
  let v120 : BitVec 32 := Scalar.divsi v119 c4_i32
  let c1_i32_93 : BitVec 32 := 1#32
  let v135 : BitVec 32 := Scalar.subi v120 c1_i32_93
  let v136 : BitVec 32 := Scalar.select v134 v135 v120
  let v142 : BitVec 32 := Scalar.muli c4_i32_99 v136
  let v143 : BitVec 32 := Scalar.addi v118 v142
  let c2_i32_111 : BitVec 32 := 2#32
  let v144 : BitVec 32 := Scalar.subi arg1 v143
  let c0_i32_100 : BitVec 32 := 0#32
  let v146 : BitVec 1 := Scalar.cmpi .sgt v144 c0_i32_100
  let v147 : BitVec 32 := Scalar.extui v146
  let c0_i32_101 : BitVec 32 := 0#32
  let v148 : BitVec 1 := Scalar.cmpi .slt v144 c0_i32_101
  let v149 : BitVec 32 := Scalar.extui v148
  let v150 : BitVec 32 := Scalar.subi v147 v149
  let c2_i32 : BitVec 32 := 2#32
  let c0_i32_102 : BitVec 32 := 0#32
  let v151 : BitVec 1 := Scalar.cmpi .sgt c2_i32 c0_i32_102
  let v152 : BitVec 32 := Scalar.extui v151
  let c0_i32_103 : BitVec 32 := 0#32
  let v153 : BitVec 1 := Scalar.cmpi .slt c2_i32 c0_i32_103
  let v154 : BitVec 32 := Scalar.extui v153
  let v155 : BitVec 32 := Scalar.subi v152 v154
  let v156 : BitVec 1 := Scalar.cmpi .ne v150 v155
  let v157 : BitVec 32 := Scalar.remsi v144 c2_i32
  let c0_i32_104 : BitVec 32 := 0#32
  let v158 : BitVec 1 := Scalar.cmpi .ne v157 c0_i32_104
  let v159 : BitVec 1 := Scalar.andi v156 v158
  let v145 : BitVec 32 := Scalar.divsi v144 c2_i32
  let c1_i32_105 : BitVec 32 := 1#32
  let v160 : BitVec 32 := Scalar.subi v145 c1_i32_105
  let v161 : BitVec 32 := Scalar.select v159 v160 v145
  let v167 : BitVec 32 := Scalar.muli c2_i32_111 v161
  let v168 : BitVec 32 := Scalar.addi v143 v167
  let v169 : BitVec 32 := Scalar.subi arg1 v168
  let c1_i32_112 : BitVec 32 := 1#32
  let v170 : BitVec 1 := Scalar.cmpi .eq v169 c1_i32_112
  let v171 : BitVec 32 := Scalar.extui v170
  let c0_i32_113 : BitVec 32 := 0#32
  let v172 : BitVec 1 := Scalar.cmpi .ne v171 c0_i32_113
  v172

def k0_mult115 (i : grid0.Coords) : BitVec 32 :=
  let arg1 : BitVec 32 := BitVec.ofNat 32 (i 1).val
  let c1_i32_148 : BitVec 32 := 1#32
  let v252 : BitVec 32 := Scalar.subi arg1 c1_i32_148
  let c1_i32_149 : BitVec 32 := 1#32
  let v253 : BitVec 32 := Scalar.addi v252 c1_i32_149
  let c256_i32 : BitVec 32 := 256#32
  let v254 : BitVec 32 := Scalar.muli v253 c256_i32
  v254
def k0_off31 (i : grid0.Coords) : Fin 2 → Nat :=
  let arg1 : BitVec 32 := BitVec.ofNat 32 (i 1).val
  let c1_i32_148 : BitVec 32 := 1#32
  let v252 : BitVec 32 := Scalar.subi arg1 c1_i32_148
  let c1_i32_149 : BitVec 32 := 1#32
  let v253 : BitVec 32 := Scalar.addi v252 c1_i32_149
  let c256_i32 : BitVec 32 := 256#32
  let v254 : BitVec 32 := Scalar.muli v253 c256_i32
  let v255 : BitVec 32 := v254
  let v256 : Index := Scalar.indexCast v255
  let c0_150 : Index := 0#32
  ![v256.toNat, 0]
def k0_mult116 (i : grid0.Coords) : BitVec 32 :=
  let arg1 : BitVec 32 := BitVec.ofNat 32 (i 1).val
  let c1_i32_148 : BitVec 32 := 1#32
  let v252 : BitVec 32 := Scalar.subi arg1 c1_i32_148
  let c1_i32_162 : BitVec 32 := 1#32
  let v267 : BitVec 32 := Scalar.subi v252 c1_i32_162
  let c0_i32_163 : BitVec 32 := 0#32
  let v268 : BitVec 32 := Scalar.maxsi v267 c0_i32_163
  let c256_i32_164 : BitVec 32 := 256#32
  let v269 : BitVec 32 := Scalar.muli v268 c256_i32_164
  v269
def k0_off32 (i : grid0.Coords) : Fin 3 → Nat :=
  let c0_165 : Index := 0#32
  let c0_166 : Index := 0#32
  let arg1 : BitVec 32 := BitVec.ofNat 32 (i 1).val
  let c1_i32_148 : BitVec 32 := 1#32
  let v252 : BitVec 32 := Scalar.subi arg1 c1_i32_148
  let c1_i32_162 : BitVec 32 := 1#32
  let v267 : BitVec 32 := Scalar.subi v252 c1_i32_162
  let c0_i32_163 : BitVec 32 := 0#32
  let v268 : BitVec 32 := Scalar.maxsi v267 c0_i32_163
  let c256_i32_164 : BitVec 32 := 256#32
  let v269 : BitVec 32 := Scalar.muli v268 c256_i32_164
  let v270 : BitVec 32 := v269
  let v271 : Index := Scalar.indexCast v270
  ![0, 0, v271.toNat]
def k0_off33 (i : grid0.Coords) (c0_i32_184 : BitVec 32) : Fin 1 → Nat :=
  let arg0 : BitVec 32 := BitVec.ofNat 32 (i 0).val
  let c2_i32_183 : BitVec 32 := 2#32
  let v289 : BitVec 32 := Scalar.muli arg0 c2_i32_183
  let v290 : BitVec 32 := Scalar.addi v289 c0_i32_184
  let v291 : Index := Scalar.indexCast v290
  ![v291.toNat]
def k0_mult117 (i : grid0.Coords) : BitVec 32 :=
  let arg1 : BitVec 32 := BitVec.ofNat 32 (i 1).val
  let c1_i32_148 : BitVec 32 := 1#32
  let v252 : BitVec 32 := Scalar.subi arg1 c1_i32_148
  let c1_i32_206 : BitVec 32 := 1#32
  let v323 : BitVec 32 := Scalar.addi v252 c1_i32_206
  let c256_i32_207 : BitVec 32 := 256#32
  let v324 : BitVec 32 := Scalar.muli v323 c256_i32_207
  v324
def k0_off34 (i : grid0.Coords) : Fin 2 → Nat :=
  let arg1 : BitVec 32 := BitVec.ofNat 32 (i 1).val
  let c1_i32_148 : BitVec 32 := 1#32
  let v252 : BitVec 32 := Scalar.subi arg1 c1_i32_148
  let c1_i32_206 : BitVec 32 := 1#32
  let v323 : BitVec 32 := Scalar.addi v252 c1_i32_206
  let c256_i32_207 : BitVec 32 := 256#32
  let v324 : BitVec 32 := Scalar.muli v323 c256_i32_207
  let v325 : BitVec 32 := v324
  let v326 : Index := Scalar.indexCast v325
  let c128_208 : Index := 128#32
  ![v326.toNat, 128]
def k0_mult118 (i : grid0.Coords) : BitVec 32 :=
  let arg1 : BitVec 32 := BitVec.ofNat 32 (i 1).val
  let c1_i32_148 : BitVec 32 := 1#32
  let v252 : BitVec 32 := Scalar.subi arg1 c1_i32_148
  let c1_i32_220 : BitVec 32 := 1#32
  let v337 : BitVec 32 := Scalar.subi v252 c1_i32_220
  let c0_i32_221 : BitVec 32 := 0#32
  let v338 : BitVec 32 := Scalar.maxsi v337 c0_i32_221
  let c256_i32_222 : BitVec 32 := 256#32
  let v339 : BitVec 32 := Scalar.muli v338 c256_i32_222
  v339
def k0_off35 (i : grid0.Coords) : Fin 3 → Nat :=
  let c1_223 : Index := 1#32
  let c0_224 : Index := 0#32
  let arg1 : BitVec 32 := BitVec.ofNat 32 (i 1).val
  let c1_i32_148 : BitVec 32 := 1#32
  let v252 : BitVec 32 := Scalar.subi arg1 c1_i32_148
  let c1_i32_220 : BitVec 32 := 1#32
  let v337 : BitVec 32 := Scalar.subi v252 c1_i32_220
  let c0_i32_221 : BitVec 32 := 0#32
  let v338 : BitVec 32 := Scalar.maxsi v337 c0_i32_221
  let c256_i32_222 : BitVec 32 := 256#32
  let v339 : BitVec 32 := Scalar.muli v338 c256_i32_222
  let v340 : BitVec 32 := v339
  let v341 : Index := Scalar.indexCast v340
  ![1, 0, v341.toNat]
def k0_mult119 (i : grid0.Coords) : BitVec 32 :=
  let arg1 : BitVec 32 := BitVec.ofNat 32 (i 1).val
  let c1_i32_264 : BitVec 32 := 1#32
  let v393 : BitVec 32 := Scalar.subi arg1 c1_i32_264
  let c0_i32_265 : BitVec 32 := 0#32
  let v394 : BitVec 32 := Scalar.maxsi v393 c0_i32_265
  let c256_i32_266 : BitVec 32 := 256#32
  let v395 : BitVec 32 := Scalar.muli v394 c256_i32_266
  v395
def k0_off36 (i : grid0.Coords) : Fin 3 → Nat :=
  let c0_267 : Index := 0#32
  let c0_268 : Index := 0#32
  let arg1 : BitVec 32 := BitVec.ofNat 32 (i 1).val
  let c1_i32_264 : BitVec 32 := 1#32
  let v393 : BitVec 32 := Scalar.subi arg1 c1_i32_264
  let c0_i32_265 : BitVec 32 := 0#32
  let v394 : BitVec 32 := Scalar.maxsi v393 c0_i32_265
  let c256_i32_266 : BitVec 32 := 256#32
  let v395 : BitVec 32 := Scalar.muli v394 c256_i32_266
  let v396 : BitVec 32 := v395
  let v397 : Index := Scalar.indexCast v396
  ![0, 0, v397.toNat]
def k0_mult120 (i : grid0.Coords) : BitVec 32 :=
  let arg1 : BitVec 32 := BitVec.ofNat 32 (i 1).val
  let c1_i32_311 : BitVec 32 := 1#32
  let v452 : BitVec 32 := Scalar.subi arg1 c1_i32_311
  let c0_i32_312 : BitVec 32 := 0#32
  let v453 : BitVec 32 := Scalar.maxsi v452 c0_i32_312
  let c256_i32_313 : BitVec 32 := 256#32
  let v454 : BitVec 32 := Scalar.muli v453 c256_i32_313
  v454
def k0_off37 (i : grid0.Coords) : Fin 3 → Nat :=
  let c1_314 : Index := 1#32
  let c0_315 : Index := 0#32
  let arg1 : BitVec 32 := BitVec.ofNat 32 (i 1).val
  let c1_i32_311 : BitVec 32 := 1#32
  let v452 : BitVec 32 := Scalar.subi arg1 c1_i32_311
  let c0_i32_312 : BitVec 32 := 0#32
  let v453 : BitVec 32 := Scalar.maxsi v452 c0_i32_312
  let c256_i32_313 : BitVec 32 := 256#32
  let v454 : BitVec 32 := Scalar.muli v453 c256_i32_313
  let v455 : BitVec 32 := v454
  let v456 : Index := Scalar.indexCast v455
  ![1, 0, v456.toNat]
def k0_mult121 (i : grid0.Coords) : BitVec 32 :=
  let arg1 : BitVec 32 := BitVec.ofNat 32 (i 1).val
  let c256_i32_358 : BitVec 32 := 256#32
  let v511 : BitVec 32 := Scalar.muli arg1 c256_i32_358
  v511
def k0_off38 (i : grid0.Coords) : Fin 3 → Nat :=
  let c0_359 : Index := 0#32
  let c0_360 : Index := 0#32
  let arg1 : BitVec 32 := BitVec.ofNat 32 (i 1).val
  let c256_i32_358 : BitVec 32 := 256#32
  let v511 : BitVec 32 := Scalar.muli arg1 c256_i32_358
  let v512 : BitVec 32 := v511
  let v513 : Index := Scalar.indexCast v512
  ![0, 0, v513.toNat]
def k0_mult122 (i : grid0.Coords) : BitVec 32 :=
  let arg1 : BitVec 32 := BitVec.ofNat 32 (i 1).val
  let c256_i32_377 : BitVec 32 := 256#32
  let v531 : BitVec 32 := Scalar.muli arg1 c256_i32_377
  v531
def k0_off39 (i : grid0.Coords) : Fin 3 → Nat :=
  let c1_378 : Index := 1#32
  let c0_379 : Index := 0#32
  let arg1 : BitVec 32 := BitVec.ofNat 32 (i 1).val
  let c256_i32_377 : BitVec 32 := 256#32
  let v531 : BitVec 32 := Scalar.muli arg1 c256_i32_377
  let v532 : BitVec 32 := v531
  let v533 : Index := Scalar.indexCast v532
  ![1, 0, v533.toNat]
def k0_cond3 (i : grid0.Coords) : BitVec 1 :=
  let arg1 : BitVec 32 := BitVec.ofNat 32 (i 1).val
  let c0_i32_87 : BitVec 32 := 0#32
  let c8_i32_86 : BitVec 32 := 8#32
  let c0_i32_75 : BitVec 32 := 0#32
  let v94 : BitVec 32 := Scalar.subi arg1 c0_i32_75
  let c0_i32_76 : BitVec 32 := 0#32
  let v96 : BitVec 1 := Scalar.cmpi .sgt v94 c0_i32_76
  let v97 : BitVec 32 := Scalar.extui v96
  let c0_i32_77 : BitVec 32 := 0#32
  let v98 : BitVec 1 := Scalar.cmpi .slt v94 c0_i32_77
  let v99 : BitVec 32 := Scalar.extui v98
  let v100 : BitVec 32 := Scalar.subi v97 v99
  let c8_i32 : BitVec 32 := 8#32
  let c0_i32_78 : BitVec 32 := 0#32
  let v101 : BitVec 1 := Scalar.cmpi .sgt c8_i32 c0_i32_78
  let v102 : BitVec 32 := Scalar.extui v101
  let c0_i32_79 : BitVec 32 := 0#32
  let v103 : BitVec 1 := Scalar.cmpi .slt c8_i32 c0_i32_79
  let v104 : BitVec 32 := Scalar.extui v103
  let v105 : BitVec 32 := Scalar.subi v102 v104
  let v106 : BitVec 1 := Scalar.cmpi .ne v100 v105
  let v107 : BitVec 32 := Scalar.remsi v94 c8_i32
  let c0_i32_80 : BitVec 32 := 0#32
  let v108 : BitVec 1 := Scalar.cmpi .ne v107 c0_i32_80
  let v109 : BitVec 1 := Scalar.andi v106 v108
  let v95 : BitVec 32 := Scalar.divsi v94 c8_i32
  let c1_i32 : BitVec 32 := 1#32
  let v110 : BitVec 32 := Scalar.subi v95 c1_i32
  let v111 : BitVec 32 := Scalar.select v109 v110 v95
  let v117 : BitVec 32 := Scalar.muli c8_i32_86 v111
  let v118 : BitVec 32 := Scalar.addi c0_i32_87 v117
  let c4_i32_99 : BitVec 32 := 4#32
  let v119 : BitVec 32 := Scalar.subi arg1 v118
  let c0_i32_88 : BitVec 32 := 0#32
  let v121 : BitVec 1 := Scalar.cmpi .sgt v119 c0_i32_88
  let v122 : BitVec 32 := Scalar.extui v121
  let c0_i32_89 : BitVec 32 := 0#32
  let v123 : BitVec 1 := Scalar.cmpi .slt v119 c0_i32_89
  let v124 : BitVec 32 := Scalar.extui v123
  let v125 : BitVec 32 := Scalar.subi v122 v124
  let c4_i32 : BitVec 32 := 4#32
  let c0_i32_90 : BitVec 32 := 0#32
  let v126 : BitVec 1 := Scalar.cmpi .sgt c4_i32 c0_i32_90
  let v127 : BitVec 32 := Scalar.extui v126
  let c0_i32_91 : BitVec 32 := 0#32
  let v128 : BitVec 1 := Scalar.cmpi .slt c4_i32 c0_i32_91
  let v129 : BitVec 32 := Scalar.extui v128
  let v130 : BitVec 32 := Scalar.subi v127 v129
  let v131 : BitVec 1 := Scalar.cmpi .ne v125 v130
  let v132 : BitVec 32 := Scalar.remsi v119 c4_i32
  let c0_i32_92 : BitVec 32 := 0#32
  let v133 : BitVec 1 := Scalar.cmpi .ne v132 c0_i32_92
  let v134 : BitVec 1 := Scalar.andi v131 v133
  let v120 : BitVec 32 := Scalar.divsi v119 c4_i32
  let c1_i32_93 : BitVec 32 := 1#32
  let v135 : BitVec 32 := Scalar.subi v120 c1_i32_93
  let v136 : BitVec 32 := Scalar.select v134 v135 v120
  let v142 : BitVec 32 := Scalar.muli c4_i32_99 v136
  let v143 : BitVec 32 := Scalar.addi v118 v142
  let c2_i32_111 : BitVec 32 := 2#32
  let v144 : BitVec 32 := Scalar.subi arg1 v143
  let c0_i32_100 : BitVec 32 := 0#32
  let v146 : BitVec 1 := Scalar.cmpi .sgt v144 c0_i32_100
  let v147 : BitVec 32 := Scalar.extui v146
  let c0_i32_101 : BitVec 32 := 0#32
  let v148 : BitVec 1 := Scalar.cmpi .slt v144 c0_i32_101
  let v149 : BitVec 32 := Scalar.extui v148
  let v150 : BitVec 32 := Scalar.subi v147 v149
  let c2_i32 : BitVec 32 := 2#32
  let c0_i32_102 : BitVec 32 := 0#32
  let v151 : BitVec 1 := Scalar.cmpi .sgt c2_i32 c0_i32_102
  let v152 : BitVec 32 := Scalar.extui v151
  let c0_i32_103 : BitVec 32 := 0#32
  let v153 : BitVec 1 := Scalar.cmpi .slt c2_i32 c0_i32_103
  let v154 : BitVec 32 := Scalar.extui v153
  let v155 : BitVec 32 := Scalar.subi v152 v154
  let v156 : BitVec 1 := Scalar.cmpi .ne v150 v155
  let v157 : BitVec 32 := Scalar.remsi v144 c2_i32
  let c0_i32_104 : BitVec 32 := 0#32
  let v158 : BitVec 1 := Scalar.cmpi .ne v157 c0_i32_104
  let v159 : BitVec 1 := Scalar.andi v156 v158
  let v145 : BitVec 32 := Scalar.divsi v144 c2_i32
  let c1_i32_105 : BitVec 32 := 1#32
  let v160 : BitVec 32 := Scalar.subi v145 c1_i32_105
  let v161 : BitVec 32 := Scalar.select v159 v160 v145
  let v167 : BitVec 32 := Scalar.muli c2_i32_111 v161
  let v168 : BitVec 32 := Scalar.addi v143 v167
  let v169 : BitVec 32 := Scalar.subi arg1 v168
  let c1_i32_112 : BitVec 32 := 1#32
  let v170 : BitVec 1 := Scalar.cmpi .eq v169 c1_i32_112
  let v_true : BitVec 1 := 1#1
  let v173 : BitVec 1 := Scalar.xori v170 v_true
  let v174 : BitVec 32 := Scalar.extui v173
  let c0_i32_114 : BitVec 32 := 0#32
  let v175 : BitVec 1 := Scalar.cmpi .ne v174 c0_i32_114
  v175

def k0_mult123 (i : grid0.Coords) : BitVec 32 :=
  let arg1 : BitVec 32 := BitVec.ofNat 32 (i 1).val
  let c1_i32_148 : BitVec 32 := 1#32
  let v252 : BitVec 32 := Scalar.subi arg1 c1_i32_148
  let c0_i32_149 : BitVec 32 := 0#32
  let v253 : BitVec 32 := Scalar.maxsi v252 c0_i32_149
  let c256_i32 : BitVec 32 := 256#32
  let v254 : BitVec 32 := Scalar.muli v253 c256_i32
  v254
def k0_off40 (i : grid0.Coords) : Fin 3 → Nat :=
  let c0_150 : Index := 0#32
  let c0_151 : Index := 0#32
  let arg1 : BitVec 32 := BitVec.ofNat 32 (i 1).val
  let c1_i32_148 : BitVec 32 := 1#32
  let v252 : BitVec 32 := Scalar.subi arg1 c1_i32_148
  let c0_i32_149 : BitVec 32 := 0#32
  let v253 : BitVec 32 := Scalar.maxsi v252 c0_i32_149
  let c256_i32 : BitVec 32 := 256#32
  let v254 : BitVec 32 := Scalar.muli v253 c256_i32
  let v255 : BitVec 32 := v254
  let v256 : Index := Scalar.indexCast v255
  ![0, 0, v256.toNat]
def k0_off41 (i : grid0.Coords) (c0_i32_169 : BitVec 32) : Fin 1 → Nat :=
  let arg0 : BitVec 32 := BitVec.ofNat 32 (i 0).val
  let c2_i32_168 : BitVec 32 := 2#32
  let v274 : BitVec 32 := Scalar.muli arg0 c2_i32_168
  let v275 : BitVec 32 := Scalar.addi v274 c0_i32_169
  let v276 : Index := Scalar.indexCast v275
  ![v276.toNat]
def k0_mult124 (i : grid0.Coords) : BitVec 32 :=
  let arg1 : BitVec 32 := BitVec.ofNat 32 (i 1).val
  let c1_i32_194 : BitVec 32 := 1#32
  let v311 : BitVec 32 := Scalar.subi arg1 c1_i32_194
  let c0_i32_195 : BitVec 32 := 0#32
  let v312 : BitVec 32 := Scalar.maxsi v311 c0_i32_195
  let c256_i32_196 : BitVec 32 := 256#32
  let v313 : BitVec 32 := Scalar.muli v312 c256_i32_196
  v313
def k0_off42 (i : grid0.Coords) : Fin 3 → Nat :=
  let c1_197 : Index := 1#32
  let c0_198 : Index := 0#32
  let arg1 : BitVec 32 := BitVec.ofNat 32 (i 1).val
  let c1_i32_194 : BitVec 32 := 1#32
  let v311 : BitVec 32 := Scalar.subi arg1 c1_i32_194
  let c0_i32_195 : BitVec 32 := 0#32
  let v312 : BitVec 32 := Scalar.maxsi v311 c0_i32_195
  let c256_i32_196 : BitVec 32 := 256#32
  let v313 : BitVec 32 := Scalar.muli v312 c256_i32_196
  let v314 : BitVec 32 := v313
  let v315 : Index := Scalar.indexCast v314
  ![1, 0, v315.toNat]
def k0_mult125 (i : grid0.Coords) : BitVec 32 :=
  let arg1 : BitVec 32 := BitVec.ofNat 32 (i 1).val
  let c256_i32_241 : BitVec 32 := 256#32
  let v370 : BitVec 32 := Scalar.muli arg1 c256_i32_241
  v370
def k0_off43 (i : grid0.Coords) : Fin 3 → Nat :=
  let c0_242 : Index := 0#32
  let c0_243 : Index := 0#32
  let arg1 : BitVec 32 := BitVec.ofNat 32 (i 1).val
  let c256_i32_241 : BitVec 32 := 256#32
  let v370 : BitVec 32 := Scalar.muli arg1 c256_i32_241
  let v371 : BitVec 32 := v370
  let v372 : Index := Scalar.indexCast v371
  ![0, 0, v372.toNat]
def k0_mult126 (i : grid0.Coords) : BitVec 32 :=
  let arg1 : BitVec 32 := BitVec.ofNat 32 (i 1).val
  let c256_i32_260 : BitVec 32 := 256#32
  let v390 : BitVec 32 := Scalar.muli arg1 c256_i32_260
  v390
def k0_off44 (i : grid0.Coords) : Fin 3 → Nat :=
  let c1_261 : Index := 1#32
  let c0_262 : Index := 0#32
  let arg1 : BitVec 32 := BitVec.ofNat 32 (i 1).val
  let c256_i32_260 : BitVec 32 := 256#32
  let v390 : BitVec 32 := Scalar.muli arg1 c256_i32_260
  let v391 : BitVec 32 := v390
  let v392 : Index := Scalar.indexCast v391
  ![1, 0, v392.toNat]
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c18_i32 : BitVec 32 := 18#32
  let v0 : BitVec 32 := Scalar.addi c18_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c20_i32 : BitVec 32 := 20#32
  let v0 : BitVec 32 := Scalar.addi c20_i32 arg0
  let c0_i32 : BitVec 32 := 0#32
  let c0_i32_0 : BitVec 32 := 0#32
  ![c0_i32.toNat, v0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .smem S4 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S16384x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2x128x16384 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2x256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S2x256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S4x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S256x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== KernelIdeal.lean ====
variable {F : FTy → Type} [FloatOps F] [Named F]
def κ : String → Option EReal := fun
  | "log2e" => some (((Real.log 2)⁻¹ : ℝ) : EReal)
  | "log2e_8" => some (((Real.log 2)⁻¹ * (1 / 8) : ℝ) : EReal)
  | _ => none
-- ==== ReferenceIdeal.lean ====
abbrev S16384x10240 : Shape := ⟨2, ![16384, 10240]⟩
abbrev S4x64 : Shape := ⟨2, ![4, 64]⟩
abbrev S128 : Shape := ⟨1, ![128]⟩
abbrev S16384x512 : Shape := ⟨2, ![16384, 512]⟩
abbrev S16384x4x2x64 : Shape := ⟨4, ![16384, 4, 2, 64]⟩
abbrev S16384x4x128 : Shape := ⟨3, ![16384, 4, 128]⟩
abbrev S1x64 : Shape := ⟨2, ![1, 64]⟩
abbrev S64 : Shape := ⟨1, ![64]⟩
abbrev S_ : Shape := ⟨0, ![]⟩
abbrev S4 : Shape := ⟨1, ![4]⟩
abbrev S16384 : Shape := ⟨1, ![16384]⟩
abbrev S2x4x16384x16384 : Shape := ⟨4, ![2, 4, 16384, 16384]⟩
abbrev S16384x1 : Shape := ⟨2, ![16384, 1]⟩
abbrev S1x16384 : Shape := ⟨2, ![1, 16384]⟩
abbrev S16384x16384 : Shape := ⟨2, ![16384, 16384]⟩
abbrev S4x1x1 : Shape := ⟨3, ![4, 1, 1]⟩
abbrev S1x16384x16384 : Shape := ⟨3, ![1, 16384, 16384]⟩
abbrev S4x16384x16384 : Shape := ⟨3, ![4, 16384, 16384]⟩
abbrev S1x4x16384x16384 : Shape := ⟨4, ![1, 4, 16384, 16384]⟩
abbrev S2x4x16384 : Shape := ⟨3, ![2, 4, 16384]⟩
abbrev S2x4x16384x1 : Shape := ⟨4, ![2, 4, 16384, 1]⟩
abbrev S4x128x16384 : Shape := ⟨3, ![4, 128, 16384]⟩
abbrev S16384x4 : Shape := ⟨2, ![16384, 4]⟩
abbrev S16384x4x1 : Shape := ⟨3, ![16384, 4, 1]⟩
abbrev S1x1x128 : Shape := ⟨3, ![1, 1, 128]⟩

abbrev nBuf : Space → Nat
  | .hbm => 154
  | .vmem => 0
  | .smem => 0
  | _ => 0

abbrev hbmTy0_0 (i : Nat) : BufTy := match i % 128 with
  | 0 => ⟨S16384x10240, .bf16⟩
  | 1 => ⟨S4x64, .f32⟩
  | 2 => ⟨S128, .f32⟩
  | 3 => ⟨S16384x10240, .f32⟩
  | 4 => ⟨S16384x512, .f32⟩
  | 5 => ⟨S16384x4x2x64, .f32⟩
  | 6 => ⟨S16384x512, .f32⟩
  | 7 => ⟨S16384x4x2x64, .f32⟩
  | 8 => ⟨S16384x512, .f32⟩
  | 9 => ⟨S16384x4x128, .f32⟩
  | 10 => ⟨S1x64, .f32⟩
  | 11 => ⟨S64, .f32⟩
  | 12 => ⟨S1x64, .f32⟩
  | 13 => ⟨S64, .f32⟩
  | 14 => ⟨S64, .f32⟩
  | 15 => ⟨S_, .f32⟩
  | 16 => ⟨S_, .f32⟩
  | 17 => ⟨S_, .f32⟩
  | 18 => ⟨S1x64, .f32⟩
  | 19 => ⟨S64, .f32⟩
  | 20 => ⟨S1x64, .f32⟩
  | 21 => ⟨S64, .f32⟩
  | 22 => ⟨S64, .f32⟩
  | 23 => ⟨S_, .f32⟩
  | 24 => ⟨S_, .f32⟩
  | 25 => ⟨S_, .f32⟩
  | 26 => ⟨S_, .f32⟩
  | 27 => ⟨S_, .f32⟩
  | 28 => ⟨S_, .f32⟩
  | 29 => ⟨S4, .i32⟩
  | 30 => ⟨S_, .i32⟩
  | 31 => ⟨S4, .i32⟩
  | 32 => ⟨S4, .i32⟩
  | 33 => ⟨S_, .i32⟩
  | 34 => ⟨S4, .i32⟩
  | 35 => ⟨S4, .i32⟩
  | 36 => ⟨S_, .i32⟩
  | 37 => ⟨S4, .i32⟩
  | 38 => ⟨S4, .i32⟩
  | 39 => ⟨S4, .f32⟩
  | 40 => ⟨S_, .f32⟩
  | 41 => ⟨S4, .f32⟩
  | 42 => ⟨S4, .f32⟩
  | 43 => ⟨S16384, .i32⟩
  | 44 => ⟨S2x4x16384x16384, .f32⟩
  | 45 => ⟨S_, .f32⟩
  | 46 => ⟨S2x4x16384x16384, .f32⟩
  | 47 => ⟨S2x4x16384x16384, .f32⟩
  | 48 => ⟨S16384x1, .i32⟩
  | 49 => ⟨S1x16384, .i32⟩
  | 50 => ⟨S16384x16384, .i32⟩
  | 51 => ⟨S16384x16384, .i32⟩
  | 52 => ⟨S16384x16384, .i32⟩
  | 53 => ⟨S16384x16384, .i32⟩
  | 54 => ⟨S16384x16384, .f32⟩
  | 55 => ⟨S4x1x1, .f32⟩
  | 56 => ⟨S4x1x1, .f32⟩
  | 57 => ⟨S1x16384x16384, .f32⟩
  | 58 => ⟨S4x16384x16384, .f32⟩
  | 59 => ⟨S4x16384x16384, .f32⟩
  | 60 => ⟨S4x16384x16384, .f32⟩
  | 61 => ⟨S1x16384, .i32⟩
  | 62 => ⟨S_, .i32⟩
  | 63 => ⟨S_, .i32⟩
  | 64 => ⟨S1x16384, .i32⟩
  | 65 => ⟨S1x16384, .i32⟩
  | 66 => ⟨S1x16384, .i32⟩
  | 67 => ⟨S_, .i32⟩
  | 68 => ⟨S1x16384, .i32⟩
  | 69 => ⟨S1x16384, .i1⟩
  | 70 => ⟨S1x16384, .i32⟩
  | 71 => ⟨S1x16384, .i32⟩
  | 72 => ⟨S_, .i32⟩
  | 73 => ⟨S1x16384, .i32⟩
  | 74 => ⟨S1x16384, .i1⟩
  | 75 => ⟨S1x16384, .i1⟩
  | 76 => ⟨S_, .i32⟩
  | 77 => ⟨S1x16384, .i32⟩
  | 78 => ⟨S1x16384, .i32⟩
  | 79 => ⟨S1x16384, .i32⟩
  | 80 => ⟨S16384x1, .i32⟩
  | 81 => ⟨S_, .i32⟩
  | 82 => ⟨S_, .i32⟩
  | 83 => ⟨S16384x1, .i32⟩
  | 84 => ⟨S16384x1, .i32⟩
  | 85 => ⟨S16384x1, .i32⟩
  | 86 => ⟨S_, .i32⟩
  | 87 => ⟨S16384x1, .i32⟩
  | 88 => ⟨S16384x1, .i1⟩
  | 89 => ⟨S16384x1, .i32⟩
  | 90 => ⟨S16384x1, .i32⟩
  | 91 => ⟨S_, .i32⟩
  | 92 => ⟨S16384x1, .i32⟩
  | 93 => ⟨S16384x1, .i1⟩
  | 94 => ⟨S16384x1, .i1⟩
  | 95 => ⟨S_, .i32⟩
  | 96 => ⟨S16384x1, .i32⟩
  | 97 => ⟨S16384x1, .i32⟩
  | 98 => ⟨S16384x1, .i32⟩
  | 99 => ⟨S16384x16384, .i32⟩
  | 100 => ⟨S16384x16384, .i32⟩
  | 101 => ⟨S16384x16384, .i1⟩
  | 102 => ⟨S1x4x16384x16384, .f32⟩
  | 103 => ⟨S2x4x16384x16384, .f32⟩
  | 104 => ⟨S2x4x16384x16384, .f32⟩
  | 105 => ⟨S_, .f32⟩
  | 106 => ⟨S_, .f32⟩
  | 107 => ⟨S2x4x16384x16384, .i1⟩
  | 108 => ⟨S2x4x16384x16384, .f32⟩
  | 109 => ⟨S2x4x16384x16384, .f32⟩
  | 110 => ⟨S_, .f32⟩
  | 111 => ⟨S2x4x16384, .f32⟩
  | 112 => ⟨S_, .f32⟩
  | 113 => ⟨S2x4x16384, .f32⟩
  | 114 => ⟨S2x4x16384, .f32⟩
  | 115 => ⟨S2x4x16384x1, .f32⟩
  | 116 => ⟨S2x4x16384x16384, .f32⟩
  | 117 => ⟨S2x4x16384x16384, .f32⟩
  | 118 => ⟨S2x4x16384x16384, .f32⟩
  | 119 => ⟨S_, .f32⟩
  | 120 => ⟨S2x4x16384, .f32⟩
  | 121 => ⟨S2x4x16384x1, .f32⟩
  | 122 => ⟨S2x4x16384x16384, .f32⟩
  | 123 => ⟨S2x4x16384x16384, .f32⟩
  | 124 => ⟨S1x4x16384x16384, .f32⟩
  | 125 => ⟨S4x16384x16384, .f32⟩
  | 126 => ⟨S1x4x16384x16384, .f32⟩
  | 127 => ⟨S4x16384x16384, .f32⟩
  | _ => ⟨S16384x10240, .bf16⟩

abbrev hbmTy0_1 (i : Nat) : BufTy := match i % 128 with
  | 0 => ⟨S4x16384x16384, .f32⟩
  | 1 => ⟨S4x16384x16384, .f32⟩
  | 2 => ⟨S4x16384x16384, .f32⟩
  | 3 => ⟨S4x128x16384, .f32⟩
  | 4 => ⟨S16384x4x128, .f32⟩
  | 5 => ⟨S16384x4x128, .f32⟩
  | 6 => ⟨S_, .f32⟩
  | 7 => ⟨S16384x4, .f32⟩
  | 8 => ⟨S16384x4x1, .f32⟩
  | 9 => ⟨S_, .f32⟩
  | 10 => ⟨S16384x4x1, .f32⟩
  | 11 => ⟨S16384x4x1, .f32⟩
  | 12 => ⟨S_, .f32⟩
  | 13 => ⟨S16384x4x1, .f32⟩
  | 14 => ⟨S16384x4x1, .f32⟩
  | 15 => ⟨S16384x4x1, .f32⟩
  | 16 => ⟨S16384x4x128, .f32⟩
  | 17 => ⟨S16384x4x128, .f32⟩
  | 18 => ⟨S1x1x128, .f32⟩
  | 19 => ⟨S16384x4x128, .f32⟩
  | 20 => ⟨S16384x4x128, .f32⟩
  | 21 => ⟨S_, .f32⟩
  | 22 => ⟨S16384x4x128, .f32⟩
  | 23 => ⟨S16384x4x128, .f32⟩
  | 24 => ⟨S16384x512, .f32⟩
  | 25 => ⟨S16384x512, .bf16⟩
  | _ => ⟨S16384x10240, .bf16⟩

abbrev hbmTy (i : Nat) : BufTy := match i / 128 with
  | 0 => hbmTy0_0 i
  | 1 => hbmTy0_1 i
  | _ => ⟨S16384x10240, .bf16⟩

abbrev bufTy : (tb : Table) → Fin (tcTables nBuf tb) → BufTy
  | .hbm, ⟨i, _⟩ => hbmTy i
  | _, _ => ⟨S16384x10240, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_cst_0 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_cst_1 : Ref sig .tc := ⟨.hbm, 27, rfl⟩
abbrev main_v22 : Ref sig .tc := ⟨.hbm, 28, rfl⟩
abbrev main_v23 : Ref sig .tc := ⟨.hbm, 29, rfl⟩
abbrev main_c : Ref sig .tc := ⟨.hbm, 30, rfl⟩
abbrev main_v24 : Ref sig .tc := ⟨.hbm, 31, rfl⟩
abbrev main_v25 : Ref sig .tc := ⟨.hbm, 32, rfl⟩
abbrev main_c_2 : Ref sig .tc := ⟨.hbm, 33, rfl⟩
abbrev main_v26 : Ref sig .tc := ⟨.hbm, 34, rfl⟩
abbrev main_v27 : Ref sig .tc := ⟨.hbm, 35, rfl⟩
abbrev main_c_3 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_cst_4 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_cst_5 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_c_6 : Ref sig .tc := ⟨.hbm, 62, rfl⟩
abbrev main_call0_v0 : Ref sig .tc := ⟨.hbm, 63, rfl⟩
abbrev main_call0_v1 : Ref sig .tc := ⟨.hbm, 64, rfl⟩
abbrev main_call0_v2 : Ref sig .tc := ⟨.hbm, 65, rfl⟩
abbrev main_call0_v3 : Ref sig .tc := ⟨.hbm, 66, rfl⟩
abbrev main_call0_v4 : Ref sig .tc := ⟨.hbm, 67, rfl⟩
abbrev main_call0_v5 : Ref sig .tc := ⟨.hbm, 68, rfl⟩
abbrev main_call0_v6 : Ref sig .tc := ⟨.hbm, 69, rfl⟩
abbrev main_call0_v7 : Ref sig .tc := ⟨.hbm, 70, rfl⟩
abbrev main_call0_v8 : Ref sig .tc := ⟨.hbm, 71, rfl⟩
abbrev main_call0_c : Ref sig .tc := ⟨.hbm, 72, rfl⟩
abbrev main_call0_v9 : Ref sig .tc := ⟨.hbm, 73, rfl⟩
abbrev main_call0_v10 : Ref sig .tc := ⟨.hbm, 74, rfl⟩
abbrev main_call0_v11 : Ref sig .tc := ⟨.hbm, 75, rfl⟩
abbrev main_call0_c_0 : Ref sig .tc := ⟨.hbm, 76, rfl⟩
abbrev main_call0_v12 : Ref sig .tc := ⟨.hbm, 77, rfl⟩
abbrev main_call0_v13 : Ref sig .tc := ⟨.hbm, 78, rfl⟩
abbrev main_v51 : Ref sig .tc := ⟨.hbm, 79, rfl⟩
abbrev main_v52 : Ref sig .tc := ⟨.hbm, 80, rfl⟩
abbrev main_c_7 : Ref sig .tc := ⟨.hbm, 81, rfl⟩
abbrev main_call1_v0 : Ref sig .tc := ⟨.hbm, 82, rfl⟩
abbrev main_call1_v1 : Ref sig .tc := ⟨.hbm, 83, rfl⟩
abbrev main_call1_v2 : Ref sig .tc := ⟨.hbm, 84, rfl⟩
abbrev main_call1_v3 : Ref sig .tc := ⟨.hbm, 85, rfl⟩
abbrev main_call1_v4 : Ref sig .tc := ⟨.hbm, 86, rfl⟩
abbrev main_call1_v5 : Ref sig .tc := ⟨.hbm, 87, rfl⟩
abbrev main_call1_v6 : Ref sig .tc := ⟨.hbm, 88, rfl⟩
abbrev main_call1_v7 : Ref sig .tc := ⟨.hbm, 89, rfl⟩
abbrev main_call1_v8 : Ref sig .tc := ⟨.hbm, 90, rfl⟩
abbrev main_call1_c : Ref sig .tc := ⟨.hbm, 91, rfl⟩
abbrev main_call1_v9 : Ref sig .tc := ⟨.hbm, 92, rfl⟩
abbrev main_call1_v10 : Ref sig .tc := ⟨.hbm, 93, rfl⟩
abbrev main_call1_v11 : Ref sig .tc := ⟨.hbm, 94, rfl⟩
abbrev main_call1_c_0 : Ref sig .tc := ⟨.hbm, 95, rfl⟩
abbrev main_call1_v12 : Ref sig .tc := ⟨.hbm, 96, rfl⟩
abbrev main_call1_v13 : Ref sig .tc := ⟨.hbm, 97, rfl⟩
abbrev main_v53 : Ref sig .tc := ⟨.hbm, 98, rfl⟩
abbrev main_v54 : Ref sig .tc := ⟨.hbm, 99, rfl⟩
abbrev main_v55 : Ref sig .tc := ⟨.hbm, 100, rfl⟩
abbrev main_v56 : Ref sig .tc := ⟨.hbm, 101, rfl⟩
abbrev main_v57 : Ref sig .tc := ⟨.hbm, 102, rfl⟩
abbrev main_v58 : Ref sig .tc := ⟨.hbm, 103, rfl⟩
abbrev main_v59 : Ref sig .tc := ⟨.hbm, 104, rfl⟩
abbrev main_cst_8 : Ref sig .tc := ⟨.hbm, 105, rfl⟩
abbrev main_call2_v0 : Ref sig .tc := ⟨.hbm, 106, rfl⟩
abbrev main_call2_v1 : Ref sig .tc := ⟨.hbm, 107, rfl⟩
abbrev main_call2_v2 : Ref sig .tc := ⟨.hbm, 108, rfl⟩
abbrev main_v60 : Ref sig .tc := ⟨.hbm, 109, rfl⟩
abbrev main_cst_9 : Ref sig .tc := ⟨.hbm, 110, rfl⟩
abbrev main_v61 : Ref sig .tc := ⟨.hbm, 111, rfl⟩
abbrev main_cst_10 : Ref sig .tc := ⟨.hbm, 112, rfl⟩
abbrev main_v62 : Ref sig .tc := ⟨.hbm, 113, rfl⟩
abbrev main_v63 : Ref sig .tc := ⟨.hbm, 114, rfl⟩
abbrev main_v64 : Ref sig .tc := ⟨.hbm, 115, rfl⟩
abbrev main_v65 : Ref sig .tc := ⟨.hbm, 116, rfl⟩
abbrev main_v66 : Ref sig .tc := ⟨.hbm, 117, rfl⟩
abbrev main_v67 : Ref sig .tc := ⟨.hbm, 118, rfl⟩
abbrev main_cst_11 : Ref sig .tc := ⟨.hbm, 119, rfl⟩
abbrev main_v68 : Ref sig .tc := ⟨.hbm, 120, rfl⟩
abbrev main_v69 : Ref sig .tc := ⟨.hbm, 121, rfl⟩
abbrev main_v70 : Ref sig .tc := ⟨.hbm, 122, rfl⟩
abbrev main_v71 : Ref sig .tc := ⟨.hbm, 123, rfl⟩
abbrev main_v72 : Ref sig .tc := ⟨.hbm, 124, rfl⟩
abbrev main_v73 : Ref sig .tc := ⟨.hbm, 125, rfl⟩
abbrev main_v74 : Ref sig .tc := ⟨.hbm, 126, rfl⟩
abbrev main_v75 : Ref sig .tc := ⟨.hbm, 127, rfl⟩
abbrev main_v76 : Ref sig .tc := ⟨.hbm, 128, rfl⟩
abbrev main_v77 : Ref sig .tc := ⟨.hbm, 129, rfl⟩
abbrev main_v78 : Ref sig .tc := ⟨.hbm, 130, rfl⟩
abbrev main_v79 : Ref sig .tc := ⟨.hbm, 131, rfl⟩
abbrev main_v80 : Ref sig .tc := ⟨.hbm, 132, rfl⟩
abbrev main_v81 : Ref sig .tc := ⟨.hbm, 133, rfl⟩
abbrev main_cst_12 : Ref sig .tc := ⟨.hbm, 134, rfl⟩
abbrev main_v82 : Ref sig .tc := ⟨.hbm, 135, rfl⟩
abbrev main_v83 : Ref sig .tc := ⟨.hbm, 136, rfl⟩
abbrev main_cst_13 : Ref sig .tc := ⟨.hbm, 137, rfl⟩
abbrev main_v84 : Ref sig .tc := ⟨.hbm, 138, rfl⟩
abbrev main_v85 : Ref sig .tc := ⟨.hbm, 139, rfl⟩
abbrev main_cst_14 : Ref sig .tc := ⟨.hbm, 140, rfl⟩
abbrev main_v86 : Ref sig .tc := ⟨.hbm, 141, rfl⟩
abbrev main_v87 : Ref sig .tc := ⟨.hbm, 142, rfl⟩
abbrev main_v88 : Ref sig .tc := ⟨.hbm, 143, rfl⟩
abbrev main_v89 : Ref sig .tc := ⟨.hbm, 144, rfl⟩
abbrev main_v90 : Ref sig .tc := ⟨.hbm, 145, rfl⟩
abbrev main_v91 : Ref sig .tc := ⟨.hbm, 146, rfl⟩
abbrev main_v92 : Ref sig .tc := ⟨.hbm, 147, rfl⟩
abbrev main_v93 : Ref sig .tc := ⟨.hbm, 148, rfl⟩
abbrev main_cst_15 : Ref sig .tc := ⟨.hbm, 149, rfl⟩
abbrev main_v94 : Ref sig .tc := ⟨.hbm, 150, rfl⟩
abbrev main_v95 : Ref sig .tc := ⟨.hbm, 151, rfl⟩
abbrev main_v96 : Ref sig .tc := ⟨.hbm, 152, rfl⟩
abbrev main_v97 : Ref sig .tc := ⟨.hbm, 153, rfl⟩

abbrev nD : Nat := 1
abbrev τ : Topo := Topo.v7x

variable {F : FTy → Type} [FloatOps F]
-- ==== Kernel2.lean ====
abbrev S16384x1024 : Shape := ⟨2, ![16384, 1024]⟩
abbrev S1024 : Shape := ⟨1, ![1024]⟩
abbrev S1024x10240 : Shape := ⟨2, ![1024, 10240]⟩
abbrev S1x1024 : Shape := ⟨2, ![1, 1024]⟩
abbrev S16384x10240 : Shape := ⟨2, ![16384, 10240]⟩
abbrev S1024x1024 : Shape := ⟨2, ![1024, 1024]⟩
abbrev S1024x2048 : Shape := ⟨2, ![1024, 2048]⟩
abbrev S1024x1 : Shape := ⟨2, ![1024, 1]⟩
abbrev S16384x512 : Shape := ⟨2, ![16384, 512]⟩
abbrev S512x16384 : Shape := ⟨2, ![512, 16384]⟩

abbrev nBuf : Space → Nat
  | .hbm => 10
  | .vmem => 7
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x10240, .f32⟩
  | .hbm, ⟨3, _⟩ => ⟨S1x1024, .f32⟩
  | .hbm, ⟨4, _⟩ => ⟨S1024x10240, .bf16⟩
  | .hbm, ⟨5, _⟩ => ⟨S16384x10240, .bf16⟩
  | .hbm, ⟨6, _⟩ => ⟨S16384x512, .bf16⟩
  | .hbm, ⟨7, _⟩ => ⟨S512x16384, .bf16⟩
  | .hbm, ⟨8, _⟩ => ⟨S16384x512, .bf16⟩
  | .hbm, ⟨9, _⟩ => ⟨S512x16384, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x10240, .bf16⟩
  | .local _ .vmem, ⟨4, _⟩ => ⟨S1024x2048, .bf16⟩
  | .local _ .vmem, ⟨5, _⟩ => ⟨S1024x2048, .bf16⟩
  | .local _ .vmem, ⟨6, _⟩ => ⟨S1024x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![16, 5], ![false, false]⟩

def k0_mult1 (i : grid0.Coords) : BitVec 32 :=
  let arg1 : BitVec 32 := BitVec.ofNat 32 (i 1).val
  let c2048_i32 : BitVec 32 := 2048#32
  let v3 : BitVec 32 := Scalar.muli arg1 c2048_i32
  v3
def k0_off1 (i : grid0.Coords) : Fin 2 → Nat :=
  let c0 : Index := 0#32
  let arg1 : BitVec 32 := BitVec.ofNat 32 (i 1).val
  let c2048_i32 : BitVec 32 := 2048#32
  let v3 : BitVec 32 := Scalar.muli arg1 c2048_i32
  let v4 : BitVec 32 := v3
  let v5 : Index := Scalar.indexCast v4
  ![0, v5.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x10240 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference2Ideal.lean ====
abbrev S16384x1024 : Shape := ⟨2, ![16384, 1024]⟩
abbrev S1024 : Shape := ⟨1, ![1024]⟩
abbrev S1024x10240 : Shape := ⟨2, ![1024, 10240]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x10240 : Shape := ⟨2, ![16384, 10240]⟩
abbrev S16384x512 : Shape := ⟨2, ![16384, 512]⟩
abbrev S512x16384 : Shape := ⟨2, ![512, 16384]⟩

abbrev nBuf : Space → Nat
  | .hbm => 27
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x10240, .f32⟩
  | .hbm, ⟨3, _⟩ => ⟨S16384x1024, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x1024, .f32⟩
  | .hbm, ⟨15, _⟩ => ⟨S16384x1024, .f32⟩
  | .hbm, ⟨16, _⟩ => ⟨S1x1024, .f32⟩
  | .hbm, ⟨17, _⟩ => ⟨S16384x1024, .f32⟩
  | .hbm, ⟨18, _⟩ => ⟨S16384x1024, .f32⟩
  | .hbm, ⟨19, _⟩ => ⟨S16384x10240, .f32⟩
  | .hbm, ⟨20, _⟩ => ⟨S16384x512, .f32⟩
  | .hbm, ⟨21, _⟩ => ⟨S16384x512, .f32⟩
  | .hbm, ⟨22, _⟩ => ⟨S16384x10240, .bf16⟩
  | .hbm, ⟨23, _⟩ => ⟨S512x16384, .f32⟩
  | .hbm, ⟨24, _⟩ => ⟨S512x16384, .bf16⟩
  | .hbm, ⟨25, _⟩ => ⟨S512x16384, .f32⟩
  | .hbm, ⟨26, _⟩ => ⟨S512x16384, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩

abbrev nD : Nat := 1
abbrev τ : Topo := Topo.v7x

variable {F : FTy → Type} [FloatOps F]
-- ==== Kernel3.lean ====
abbrev S256x1024 : Shape := ⟨2, ![256, 1024]⟩
abbrev S1024 : Shape := ⟨1, ![1024]⟩
abbrev S1024x512 : Shape := ⟨2, ![1024, 512]⟩
abbrev S1x1024 : Shape := ⟨2, ![1, 1024]⟩
abbrev S256x512 : Shape := ⟨2, ![256, 512]⟩
abbrev S256 : Shape := ⟨1, ![256]⟩
abbrev S256x1 : Shape := ⟨2, ![256, 1]⟩

abbrev nBuf : Space → Nat
  | .hbm => 9
  | .vmem => 6
  | .smem => 0
  | _ => 0

abbrev bufTy : (tb : Table) → Fin (tcTables nBuf tb) → BufTy
  | .hbm, ⟨0, _⟩ => ⟨S256x1024, .f32⟩
  | .hbm, ⟨1, _⟩ => ⟨S1024, .f32⟩
  | .hbm, ⟨2, _⟩ => ⟨S1024x512, .f32⟩
  | .hbm, ⟨3, _⟩ => ⟨S1024x512, .f32⟩
  | .hbm, ⟨4, _⟩ => ⟨S1x1024, .f32⟩
  | .hbm, ⟨5, _⟩ => ⟨S1024x512, .bf16⟩
  | .hbm, ⟨6, _⟩ => ⟨S1024x512, .bf16⟩
  | .hbm, ⟨7, _⟩ => ⟨S256x512, .bf16⟩
  | .hbm, ⟨8, _⟩ => ⟨S256x512, .bf16⟩
  | .local _ .vmem, ⟨0, _⟩ => ⟨S256x1024, .f32⟩
  | .local _ .vmem, ⟨1, _⟩ => ⟨S1x1024, .f32⟩
  | .local _ .vmem, ⟨2, _⟩ => ⟨S1024x512, .bf16⟩
  | .local _ .vmem, ⟨3, _⟩ => ⟨S1024x512, .bf16⟩
  | .local _ .vmem, ⟨4, _⟩ => ⟨S256x512, .bf16⟩
  | .local _ .vmem, ⟨5, _⟩ => ⟨S256x512, .bf16⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S256x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Reference3Ideal.lean ====
abbrev S256x1024 : Shape := ⟨2, ![256, 1024]⟩
abbrev S1024 : Shape := ⟨1, ![1024]⟩
abbrev S1024x512 : Shape := ⟨2, ![1024, 512]⟩
abbrev S_ : Shape := ⟨0, ![]⟩
abbrev S256 : Shape := ⟨1, ![256]⟩
abbrev S256x1 : Shape := ⟨2, ![256, 1]⟩
abbrev S1x1024 : Shape := ⟨2, ![1, 1024]⟩
abbrev S256x512 : Shape := ⟨2, ![256, 512]⟩

abbrev nBuf : Space → Nat
  | .hbm => 24
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1024, .f32⟩
  | .hbm, ⟨2, _⟩ => ⟨S1024x512, .f32⟩
  | .hbm, ⟨3, _⟩ => ⟨S1024x512, .f32⟩
  | .hbm, ⟨4, _⟩ => ⟨S256x1024, .f32⟩
  | .hbm, ⟨5, _⟩ => ⟨S_, .f32⟩
  | .hbm, ⟨6, _⟩ => ⟨S256, .f32⟩
  | .hbm, ⟨7, _⟩ => ⟨S256x1, .f32⟩
  | .hbm, ⟨8, _⟩ => ⟨S_, .f32⟩
  | .hbm, ⟨9, _⟩ => ⟨S256x1, .f32⟩
  | .hbm, ⟨10, _⟩ => ⟨S256x1, .f32⟩
  | .hbm, ⟨11, _⟩ => ⟨S_, .f32⟩
  | .hbm, ⟨12, _⟩ => ⟨S256x1, .f32⟩
  | .hbm, ⟨13, _⟩ => ⟨S256x1, .f32⟩
  | .hbm, ⟨14, _⟩ => ⟨S256x1, .f32⟩
  | .hbm, ⟨15, _⟩ => ⟨S256x1024, .f32⟩
  | .hbm, ⟨16, _⟩ => ⟨S256x1024, .f32⟩
  | .hbm, ⟨17, _⟩ => ⟨S1x1024, .f32⟩
  | .hbm, ⟨18, _⟩ => ⟨S256x1024, .f32⟩
  | .hbm, ⟨19, _⟩ => ⟨S256x1024, .f32⟩
  | .hbm, ⟨20, _⟩ => ⟨S256x512, .f32⟩
  | .hbm, ⟨21, _⟩ => ⟨S256x512, .bf16⟩
  | .hbm, ⟨22, _⟩ => ⟨S256x512, .f32⟩
  | .hbm, ⟨23, _⟩ => ⟨S256x512, .bf16⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== Kernel4.lean ====
abbrev S16384x1024 : Shape := ⟨2, ![16384, 1024]⟩
abbrev S16384x10240 : Shape := ⟨2, ![16384, 10240]⟩
abbrev S16384x512 : Shape := ⟨2, ![16384, 512]⟩
abbrev S4x512x1024 : Shape := ⟨3, ![4, 512, 1024]⟩
abbrev S1024x1024 : Shape := ⟨2, ![1024, 1024]⟩
abbrev S1024 : Shape := ⟨1, ![1024]⟩
abbrev S256x512 : Shape := ⟨2, ![256, 512]⟩
abbrev S1024x512 : Shape := ⟨2, ![1024, 512]⟩
abbrev S512x1024 : Shape := ⟨2, ![512, 1024]⟩
abbrev S1024x128 : Shape := ⟨2, ![1024, 128]⟩
abbrev S1x128 : Shape := ⟨2, ![1, 128]⟩
abbrev S1x1024 : Shape := ⟨2, ![1, 1024]⟩
abbrev S16384x128 : Shape := ⟨2, ![16384, 128]⟩
abbrev S8x128 : Shape := ⟨2, ![8, 128]⟩
abbrev S512x512 : Shape := ⟨2, ![512, 512]⟩
abbrev S512x128 : Shape := ⟨2, ![512, 128]⟩
abbrev S256x1024 : Shape := ⟨2, ![256, 1024]⟩
abbrev S1x512x1024 : Shape := ⟨3, ![1, 512, 1024]⟩
abbrev S256 : Shape := ⟨1, ![256]⟩
abbrev S256x1 : Shape := ⟨2, ![256, 1]⟩
abbrev S256x128 : Shape := ⟨2, ![256, 128]⟩
abbrev S256x256 : Shape := ⟨2, ![256, 256]⟩
abbrev S128 : Shape := ⟨1, ![128]⟩

abbrev nBuf : Space → Nat
  | .hbm => 30
  | .vmem => 37
  | .smem => 0
  | _ => 0

abbrev bufTy : (tb : Table) → Fin (tcTables nBuf tb) → BufTy
  | .hbm, ⟨0, _⟩ => ⟨S16384x1024, .f32⟩
  | .hbm, ⟨1, _⟩ => ⟨S16384x10240, .bf16⟩
  | .hbm, ⟨2, _⟩ => ⟨S16384x512, .bf16⟩
  | .hbm, ⟨3, _⟩ => ⟨S16384x512, .bf16⟩
  | .hbm, ⟨4, _⟩ => ⟨S16384x512, .bf16⟩
  | .hbm, ⟨5, _⟩ => ⟨S16384x512, .bf16⟩
  | .hbm, ⟨6, _⟩ => ⟨S4x512x1024, .f32⟩
  | .hbm, ⟨7, _⟩ => ⟨S1024x1024, .f32⟩
  | .hbm, ⟨8, _⟩ => ⟨S1024, .f32⟩
  | .hbm, ⟨9, _⟩ => ⟨S256x512, .bf16⟩
  | .hbm, ⟨10, _⟩ => ⟨S256x512, .bf16⟩
  | .hbm, ⟨11, _⟩ => ⟨S1024x512, .f32⟩
  | .hbm, ⟨12, _⟩ => ⟨S512x1024, .f32⟩
  | .hbm, ⟨13, _⟩ => ⟨S1024, .f32⟩
  | .hbm, ⟨14, _⟩ => ⟨S1024x128, .f32⟩
  | .hbm, ⟨15, _⟩ => ⟨S1x128, .f32⟩
  | .hbm, ⟨16, _⟩ => ⟨S4x512x1024, .bf16⟩
  | .hbm, ⟨17, _⟩ => ⟨S1024x1024, .bf16⟩
  | .hbm, ⟨18, _⟩ => ⟨S1x1024, .f32⟩
  | .hbm, ⟨19, _⟩ => ⟨S1024x512, .bf16⟩
  | .hbm, ⟨20, _⟩ => ⟨S512x1024, .bf16⟩
  | .hbm, ⟨21, _⟩ => ⟨S1x1024, .f32⟩
  | .hbm, ⟨22, _⟩ => ⟨S1024x128, .bf16⟩
  | .hbm, ⟨23, _⟩ => ⟨S1024x128, .f32⟩
  | .hbm, ⟨24, _⟩ => ⟨S1024x128, .f32⟩
  | .hbm, ⟨25, _⟩ => ⟨S1024x128, .bf16⟩
  | .hbm, ⟨26, _⟩ => ⟨S16384x1024, .f32⟩
  | .hbm, ⟨27, _⟩ => ⟨S16384x1024, .bf16⟩
  | .hbm, ⟨28, _⟩ => ⟨S16384x128, .f32⟩
  | .hbm, ⟨29, _⟩ => ⟨S8x128, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S4x512x1024, .bf16⟩
  | .local _ .vmem, ⟨19, _⟩ => ⟨S1024x1024, .bf16⟩
  | .local _ .vmem, ⟨20, _⟩ => ⟨S1x1024, .f32⟩
  | .local _ .vmem, ⟨21, _⟩ => ⟨S256x512, .bf16⟩
  | .local _ .vmem, ⟨22, _⟩ => ⟨S256x512, .bf16⟩
  | .local _ .vmem, ⟨23, _⟩ => ⟨S1024x512, .bf16⟩
  | .local _ .vmem, ⟨24, _⟩ => ⟨S512x1024, .bf16⟩
  | .local _ .vmem, ⟨25, _⟩ => ⟨S1x1024, .f32⟩
  | .local _ .vmem, ⟨26, _⟩ => ⟨S1024x128, .bf16⟩
  | .local _ .vmem, ⟨27, _⟩ => ⟨S1024x128, .bf16⟩
  | .local _ .vmem, ⟨28, _⟩ => ⟨S1x128, .f32⟩
  | .local _ .vmem, ⟨29, _⟩ => ⟨S512x1024, .f32⟩
  | .local _ .vmem, ⟨30, _⟩ => ⟨S512x1024, .f32⟩
  | .local _ .vmem, ⟨31, _⟩ => ⟨S512x1024, .bf16⟩
  | .local _ .vmem, ⟨32, _⟩ => ⟨S512x1024, .bf16⟩
  | .local _ .vmem, ⟨33, _⟩ => ⟨S512x128, .f32⟩
  | .local _ .vmem, ⟨34, _⟩ => ⟨S512x128, .f32⟩
  | .local _ .vmem, ⟨35, _⟩ => ⟨S8x128, .f32⟩
  | .local _ .vmem, ⟨36, _⟩ => ⟨S8x128, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10_0 : Ref sig .tc := ⟨.hbm, 26, rfl⟩
abbrev main_v10_1 : Ref sig .tc := ⟨.hbm, 27, rfl⟩
abbrev main_v10_2 : Ref sig .tc := ⟨.hbm, 28, rfl⟩
abbrev main_v10_3 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg14_0 : Ref sig .tc := ⟨.vmem, 23, rfl⟩
abbrev cc0_stg15_0 : Ref sig .tc := ⟨.vmem, 24, rfl⟩
abbrev cc0_stg16_0 : Ref sig .tc := ⟨.vmem, 25, rfl⟩
abbrev cc0_stg17_0 : Ref sig .tc := ⟨.vmem, 26, rfl⟩
abbrev cc0_stg18_0 : Ref sig .tc := ⟨.vmem, 27, rfl⟩
abbrev cc0_stg19_0 : Ref sig .tc := ⟨.vmem, 28, rfl⟩
abbrev cc0_stg20_0 : Ref sig .tc := ⟨.vmem, 29, rfl⟩
abbrev cc0_stg20_1 : Ref sig .tc := ⟨.vmem, 30, rfl⟩
abbrev cc0_stg21_0 : Ref sig .tc := ⟨.vmem, 31, rfl⟩
abbrev cc0_stg21_1 : Ref sig .tc := ⟨.vmem, 32, rfl⟩
abbrev cc0_stg22_0 : Ref sig .tc := ⟨.vmem, 33, rfl⟩
abbrev cc0_stg22_1 : Ref sig .tc := ⟨.vmem, 34, rfl⟩
abbrev cc0_stg23_0 : Ref sig .tc := ⟨.vmem, 35, rfl⟩
abbrev cc0_scratch0 : Ref sig .tc := ⟨.vmem, 36, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem11_0 : DmaSem sig := 20
abbrev cc0_sem12_0 : DmaSem sig := 21
abbrev cc0_sem13_0 : DmaSem sig := 22
abbrev cc0_sem14_0 : DmaSem sig := 23
abbrev cc0_sem15_0 : DmaSem sig := 24
abbrev cc0_sem16_0 : DmaSem sig := 25
abbrev cc0_sem17_0 : DmaSem sig := 26
abbrev cc0_sem18_0 : DmaSem sig := 27
abbrev cc0_sem19_0 : DmaSem sig := 28
abbrev cc0_sem20_0 : DmaSem sig := 29
abbrev cc0_sem20_1 : DmaSem sig := 30
abbrev cc0_sem21_0 : DmaSem sig := 31
abbrev cc0_sem21_1 : DmaSem sig := 32
abbrev cc0_sem22_0 : DmaSem sig := 33
abbrev cc0_sem22_1 : DmaSem sig := 34
abbrev cc0_sem23_0 : DmaSem sig := 35

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_6 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_7 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_8 (i : grid0.Coords) : Fin 2 → Nat :=
  let arg0 : BitVec 32 := BitVec.ofNat 32 (i 0).val
  let c9_i32 : BitVec 32 := 9#32
  let c0_i32 : BitVec 32 := 0#32
  ![arg0.toNat, c9_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S4x512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S256x512 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S256x512 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1024x512 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S512x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1024x128 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1024x128 .bf16 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x128 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 2 → Memref sig .tc .vmem S512x1024 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S512x1024 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S512x128 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 1 → Memref sig .tc .vmem S8x128 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]
-- ==== Reference4Ideal.lean ====
abbrev S16384x1024 : Shape := ⟨2, ![16384, 1024]⟩
abbrev S16384x10240 : Shape := ⟨2, ![16384, 10240]⟩
abbrev S16384x512 : Shape := ⟨2, ![16384, 512]⟩
abbrev S4x512x1024 : Shape := ⟨3, ![4, 512, 1024]⟩
abbrev S1024x1024 : Shape := ⟨2, ![1024, 1024]⟩
abbrev S1024 : Shape := ⟨1, ![1024]⟩
abbrev S256x512 : Shape := ⟨2, ![256, 512]⟩
abbrev S1024x512 : Shape := ⟨2, ![1024, 512]⟩
abbrev S512x1024 : Shape := ⟨2, ![512, 1024]⟩
abbrev S1024x128 : Shape := ⟨2, ![1024, 128]⟩
abbrev S1x128 : Shape := ⟨2, ![1, 128]⟩
abbrev S16384x1x512 : Shape := ⟨3, ![16384, 1, 512]⟩
abbrev S16384x4x512 : Shape := ⟨3, ![16384, 4, 512]⟩
abbrev S4x1024x16384 : Shape := ⟨3, ![4, 1024, 16384]⟩
abbrev S16384x4x1024 : Shape := ⟨3, ![16384, 4, 1024]⟩
abbrev S16384x4096 : Shape := ⟨2, ![16384, 4096]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x4x128 : Shape := ⟨3, ![16384, 4, 128]⟩
abbrev S256x4x128 : Shape := ⟨3, ![256, 4, 128]⟩
abbrev S4x16384x256 : Shape := ⟨3, ![4, 16384, 256]⟩
abbrev S4x16384 : Shape := ⟨2, ![4, 16384]⟩
abbrev S4x16384x1 : Shape := ⟨3, ![4, 16384, 1]⟩
abbrev S4x128x16384 : Shape := ⟨3, ![4, 128, 16384]⟩

abbrev nBuf : Space → Nat
  | .hbm => 85
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x10240, .bf16⟩
  | .hbm, ⟨2, _⟩ => ⟨S16384x512, .bf16⟩
  | .hbm, ⟨3, _⟩ => ⟨S16384x512, .bf16⟩
  | .hbm, ⟨4, _⟩ => ⟨S16384x512, .bf16⟩
  | .hbm, ⟨5, _⟩ => ⟨S16384x512, .bf16⟩
  | .hbm, ⟨6, _⟩ => ⟨S4x512x1024, .f32⟩
  | .hbm, ⟨7, _⟩ => ⟨S1024x1024, .f32⟩
  | .hbm, ⟨8, _⟩ => ⟨S1024, .f32⟩
  | .hbm, ⟨9, _⟩ => ⟨S256x512, .bf16⟩
  | .hbm, ⟨10, _⟩ => ⟨S256x512, .bf16⟩
  | .hbm, ⟨11, _⟩ => ⟨S1024x512, .f32⟩
  | .hbm, ⟨12, _⟩ => ⟨S512x1024, .f32⟩
  | .hbm, ⟨13, _⟩ => ⟨S1024, .f32⟩
  | .hbm, ⟨14, _⟩ => ⟨S1024x128, .f32⟩
  | .hbm, ⟨15, _⟩ => ⟨S1x128, .f32⟩
  | .hbm, ⟨16, _⟩ => ⟨S16384x1x512, .bf16⟩
  | .hbm, ⟨17, _⟩ => ⟨S16384x1x512, .bf16⟩
  | .hbm, ⟨18, _⟩ => ⟨S16384x1x512, .bf16⟩
  | .hbm, ⟨19, _⟩ => ⟨S16384x1x512, .bf16⟩
  | .hbm, ⟨20, _⟩ => ⟨S16384x4x512, .bf16⟩
  | .hbm, ⟨21, _⟩ => ⟨S16384x4x512, .f32⟩
  | .hbm, ⟨22, _⟩ => ⟨S4x1024x16384, .f32⟩
  | .hbm, ⟨23, _⟩ => ⟨S16384x4x1024, .f32⟩
  | .hbm, ⟨24, _⟩ => ⟨S16384x4096, .bf16⟩
  | .hbm, ⟨25, _⟩ => ⟨S16384x4096, .f32⟩
  | .hbm, ⟨26, _⟩ => ⟨S16384x4x1024, .f32⟩
  | .hbm, ⟨27, _⟩ => ⟨S16384x4x1024, .f32⟩
  | .hbm, ⟨28, _⟩ => ⟨S16384x4x1024, .f32⟩
  | .hbm, ⟨29, _⟩ => ⟨S_, .f32⟩
  | .hbm, ⟨30, _⟩ => ⟨S16384x4x1024, .f32⟩
  | .hbm, ⟨31, _⟩ => ⟨S16384x4x1024, .f32⟩
  | .hbm, ⟨32, _⟩ => ⟨S_, .f32⟩
  | .hbm, ⟨33, _⟩ => ⟨S16384x4x1024, .f32⟩
  | .hbm, ⟨34, _⟩ => ⟨S16384x4x1024, .f32⟩
  | .hbm, ⟨35, _⟩ => ⟨S16384x4x1024, .f32⟩
  | .hbm, ⟨36, _⟩ => ⟨S_, .f32⟩
  | .hbm, ⟨37, _⟩ => ⟨S16384x1024, .f32⟩
  | .hbm, ⟨38, _⟩ => ⟨S16384x1024, .f32⟩
  | .hbm, ⟨39, _⟩ => ⟨S16384x1024, .f32⟩
  | .hbm, ⟨40, _⟩ => ⟨S16384x1024, .f32⟩
  | .hbm, ⟨41, _⟩ => ⟨S_, .f32⟩
  | .hbm, ⟨42, _⟩ => ⟨S16384, .f32⟩
  | .hbm, ⟨43, _⟩ => ⟨S16384x1, .f32⟩
  | .hbm, ⟨44, _⟩ => ⟨S_, .f32⟩
  | .hbm, ⟨45, _⟩ => ⟨S16384x1, .f32⟩
  | .hbm, ⟨46, _⟩ => ⟨S16384x1, .f32⟩
  | .hbm, ⟨47, _⟩ => ⟨S_, .f32⟩
  | .hbm, ⟨48, _⟩ => ⟨S16384x1, .f32⟩
  | .hbm, ⟨49, _⟩ => ⟨S16384x1, .f32⟩
  | .hbm, ⟨50, _⟩ => ⟨S16384x1, .f32⟩
  | .hbm, ⟨51, _⟩ => ⟨S16384x1024, .f32⟩
  | .hbm, ⟨52, _⟩ => ⟨S16384x1024, .f32⟩
  | .hbm, ⟨53, _⟩ => ⟨S1x1024, .f32⟩
  | .hbm, ⟨54, _⟩ => ⟨S16384x1024, .f32⟩
  | .hbm, ⟨55, _⟩ => ⟨S16384x1024, .f32⟩
  | .hbm, ⟨56, _⟩ => ⟨S16384x512, .f32⟩
  | .hbm, ⟨57, _⟩ => ⟨S16384x4x128, .f32⟩
  | .hbm, ⟨58, _⟩ => ⟨S256x512, .f32⟩
  | .hbm, ⟨59, _⟩ => ⟨S256x4x128, .f32⟩
  | .hbm, ⟨60, _⟩ => ⟨S256x512, .f32⟩
  | .hbm, ⟨61, _⟩ => ⟨S256x4x128, .f32⟩
  | .hbm, ⟨62, _⟩ => ⟨S4x16384x256, .f32⟩
  | .hbm, ⟨63, _⟩ => ⟨S_, .f32⟩
  | .hbm, ⟨64, _⟩ => ⟨S4x16384x256, .f32⟩
  | .hbm, ⟨65, _⟩ => ⟨S4x16384x256, .f32⟩
  | .hbm, ⟨66, _⟩ => ⟨S_, .f32⟩
  | .hbm, ⟨67, _⟩ => ⟨S4x16384, .f32⟩
  | .hbm, ⟨68, _⟩ => ⟨S_, .f32⟩
  | .hbm, ⟨69, _⟩ => ⟨S4x16384, .f32⟩
  | .hbm, ⟨70, _⟩ => ⟨S4x16384, .f32⟩
  | .hbm, ⟨71, _⟩ => ⟨S4x16384x1, .f32⟩
  | .hbm, ⟨72, _⟩ => ⟨S4x16384x256, .f32⟩
  | .hbm, ⟨73, _⟩ => ⟨S4x16384x256, .f32⟩
  | .hbm, ⟨74, _⟩ => ⟨S4x16384x256, .f32⟩
  | .hbm, ⟨75, _⟩ => ⟨S_, .f32⟩
  | .hbm, ⟨76, _⟩ => ⟨S4x16384, .f32⟩
  | .hbm, ⟨77, _⟩ => ⟨S4x16384x1, .f32⟩
  | .hbm, ⟨78, _⟩ => ⟨S4x16384x256, .f32⟩
  | .hbm, ⟨79, _⟩ => ⟨S4x16384x256, .f32⟩
  | .hbm, ⟨80, _⟩ => ⟨S4x128x16384, .f32⟩
  | .hbm, ⟨81, _⟩ => ⟨S16384x4x128, .f32⟩
  | .hbm, ⟨82, _⟩ => ⟨S16384x512, .f32⟩
  | .hbm, ⟨83, _⟩ => ⟨S16384x1024, .f32⟩
  | .hbm, ⟨84, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_cst : Ref sig .tc := ⟨.hbm, 29, rfl⟩
abbrev main_v13 : Ref sig .tc := ⟨.hbm, 30, rfl⟩
abbrev main_v14 : Ref sig .tc := ⟨.hbm, 31, rfl⟩
abbrev main_cst_0 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_cst_1 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_cst_2 : Ref sig .tc := ⟨.hbm, 41, rfl⟩
abbrev main_v22 : Ref sig .tc := ⟨.hbm, 42, rfl⟩
abbrev main_v23 : Ref sig .tc := ⟨.hbm, 43, rfl⟩
abbrev main_cst_3 : Ref sig .tc := ⟨.hbm, 44, rfl⟩
abbrev main_v24 : Ref sig .tc := ⟨.hbm, 45, rfl⟩
abbrev main_v25 : Ref sig .tc := ⟨.hbm, 46, rfl⟩
abbrev main_cst_4 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_5 : Ref sig .tc := ⟨.hbm, 63, rfl⟩
abbrev main_v41 : Ref sig .tc := ⟨.hbm, 64, rfl⟩
abbrev main_v42 : Ref sig .tc := ⟨.hbm, 65, rfl⟩
abbrev main_cst_6 : Ref sig .tc := ⟨.hbm, 66, rfl⟩
abbrev main_v43 : Ref sig .tc := ⟨.hbm, 67, rfl⟩
abbrev main_cst_7 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_cst_8 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩

abbrev nD : Nat := 1
abbrev τ : Topo := Topo.v7x

variable {F : FTy → Type} [FloatOps F]
-- ==== Proof.Hand.RunKernelIdeal.lean ====
module

public import proofs.«01_k».proof.Proof.Gen.KernelIdeal.Loops
public import proofs.«01_k».proof.Proof.Gen.KernelIdeal.Frame
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The first conditional of the body is taken in the first block of rows of each group of heads. -/
abbrev first (i : grid0.Coords) : Prop :=
  Scalar.cmpi .ne (Scalar.extui (Scalar.cmpi .eq (BitVec.ofNat 32 (i 1).val) 0#32)) 0#32 = 1#1

/-- The three ways the body can go: the first block of rows; a later block after an even number of blocks; a block
    after an odd number of blocks. -/
theorem ways : ∀ i : grid0.Coords,
    (first i ∧ ¬ k0_cond2 i = 1#1 ∧ k0_cond3 i = 1#1) ∨ (¬ first i ∧ ¬ k0_cond2 i = 1#1 ∧ k0_cond3 i = 1#1)
      ∨ (¬ first i ∧ k0_cond2 i = 1#1 ∧ ¬ k0_cond3 i = 1#1) := by
  decide +kernel

set_option maxHeartbeats 4000000 in
/-- The body on whole buffers, the inputs read and given back as they were, the output and the scratch at anything. -/
theorem bodyRun (c : Dev nD) (i : grid0.Coords) (arg2 : Memref sig .tc .smem S4 .f32) (harg2 : arg2.IsWhole) (arg3 : Memref sig .tc .vmem S256x256 .bf16) (harg3 : arg3.IsWhole) (arg4 : Memref sig .tc .vmem S16384x256 .bf16) (harg4 : arg4.IsWhole) (arg5 : Memref sig .tc .vmem S2x128x16384 .bf16) (harg5 : arg5.IsWhole) (arg6 : Memref sig .tc .vmem S2x256x128 .bf16) (harg6 : arg6.IsWhole) (arg7 : Memref sig .tc .vmem S2x256x512 .f32) (harg7 : arg7.IsWhole) (arg8 : Memref sig .tc .vmem S4x64 .f32) (harg8 : arg8.IsWhole) (arg9 : Memref sig .tc .vmem S1x128 .f32) (harg9 : arg9.IsWhole) (arg10 : Memref sig .tc .vmem S256x256 .bf16) (harg10 : arg10.IsWhole) (arg11 : Memref sig .tc .vmem S2x256x512 .bf16) (harg11 : arg11.IsWhole) (arg12 : Memref sig .tc .vmem S2x1x512 .f32) (harg12 : arg12.IsWhole) (arg13 : Memref sig .tc .vmem S2x144x512 .f32) (harg13 : arg13.IsWhole) (arg14 : Memref sig .tc .vmem S2x2x256x512 .f32) (harg14 : arg14.IsWhole) (arg15 : Memref sig .tc .vmem S2x2x256x512 .bf16) (harg15 : arg15.IsWhole) (arg16 : Memref sig .tc .vmem S2x2x1x512 .f32) (harg16 : arg16.IsWhole)
    (x0 : Vec F S4 .f32) (x1 : Vec F S256x256 .bf16) (x2 : Vec F S16384x256 .bf16) (x3 : Vec F S2x128x16384 .bf16) (x4 : Vec F S2x256x128 .bf16) (x5 : Vec F S2x256x512 .f32) (x6 : Vec F S4x64 .f32) (x7 : Vec F S1x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)) -∗ K ⟨⟩))
      ⊢ wp frame (wpE (defs₀ (F := F)) Variants.none c none) E (cc0_diffattn i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_diffattn_eq_skeleton]; unfold cc0_diffattn_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9
  rcases ways i with ⟨h1, h2, h3⟩ | ⟨h1, h2, h3⟩ | ⟨h1, h2, h3⟩ <;>
  · sl_exec (disch := first | sl_exact h1 | sl_exact h2 | sl_exact h3)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    isplitl [H14]
    · iexists _, _; isplitr; swap; · iexact H14
      ipureintro; rfl
    isplitl [H15]
    · iexists _, _; isplitr; swap; · iexact H15
      ipureintro; rfl
    iexists _, _; isplitr; swap; · iexact H16
    ipureintro; rfl

end Cert.KernelIdeal.Gen

end
-- ==== Proof.Hand.FrameKernelIdeal.lean ====
module

public import proofs.«01_k».proof.Proof.Hand.RunKernelIdeal
public import Idealize.ShloMosaic.Lib.Pipeline.FrameBody

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The invariant the launch gives: the six scratch buffers at some contents, and the generator register. -/
theorem ΦA_scratch (c : Dev nD) :
    (Pipeline.ΦA spec0 c : sProp 𝕄)
      = iprop(iprop((∃ d, owns (c : Thread nD τ) (Memref.whole cc0_scratch0) fullShare d)
        ∗ (∃ d, owns (c : Thread nD τ) (Memref.whole cc0_scratch1) fullShare d)
        ∗ (∃ d, owns (c : Thread nD τ) (Memref.whole cc0_scratch2) fullShare d)
        ∗ (∃ d, owns (c : Thread nD τ) (Memref.whole cc0_scratch3) fullShare d)
        ∗ (∃ d, owns (c : Thread nD τ) (Memref.whole cc0_scratch4) fullShare d)
        ∗ (∃ d, owns (c : Thread nD τ) (Memref.whole cc0_scratch5) fullShare d)) ∗ (∃ r, prngReg c r)) := by
  unfold Pipeline.ΦA; rw [scopedRest0_eq]; simp only [owns_whole]; try rfl

/-- Only the output's contents are left unnamed. -/
def forgets0 : Fin 9 → Bool := fun w => w.val == 8

/-- The proof data: each input's buffer stays at its block, the output is unnamed. -/
def datsF (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, h⟩ => Pipeline.Dat.unnamed (cfg := cfg0) ⟨8, h⟩ t
  Φ _ := Pipeline.ΦA spec0 c
  q w := Pipeline.shareOf spec0 w
  owed _ := 0

theorem A_eqF (c : Dev nD) (w : Fin cfg0.W) : (datsF m 0 c).A w = V m c (Pipeline.arrRef spec0 w) := by
  dsimp only [datsF]

theorem afterF_0 (c : Dev nD) (t : Fin cfg0.N) : (datsF m 0 c).after 0 t = iblk m c 0 t := by dsimp only [datsF]
theorem afterF_1 (c : Dev nD) (t : Fin cfg0.N) : (datsF m 0 c).after 1 t = iblk m c 1 t := by dsimp only [datsF]
theorem afterF_2 (c : Dev nD) (t : Fin cfg0.N) : (datsF m 0 c).after 2 t = iblk m c 2 t := by dsimp only [datsF]
theorem afterF_3 (c : Dev nD) (t : Fin cfg0.N) : (datsF m 0 c).after 3 t = iblk m c 3 t := by dsimp only [datsF]
theorem afterF_4 (c : Dev nD) (t : Fin cfg0.N) : (datsF m 0 c).after 4 t = iblk m c 4 t := by dsimp only [datsF]
theorem afterF_5 (c : Dev nD) (t : Fin cfg0.N) : (datsF m 0 c).after 5 t = iblk m c 5 t := by dsimp only [datsF]
theorem afterF_6 (c : Dev nD) (t : Fin cfg0.N) : (datsF m 0 c).after 6 t = iblk m c 6 t := by dsimp only [datsF]
theorem afterF_7 (c : Dev nD) (t : Fin cfg0.N) : (datsF m 0 c).after 7 t = iblk m c 7 t := by dsimp only [datsF]

theorem beforeF_0 (c : Dev nD) (t : Fin cfg0.N) (d) : (datsF m 0 c).before 0 t d = iblk m c 0 t :=
  before0_0_of m (datsF m 0 c) (A_eqF m c 0) (afterF_0 m c) t d
theorem beforeF_1 (c : Dev nD) (t : Fin cfg0.N) (d) : (datsF m 0 c).before 1 t d = iblk m c 1 t :=
  before0_1_of m (datsF m 0 c) (A_eqF m c 1) (afterF_1 m c) t d
theorem beforeF_2 (c : Dev nD) (t : Fin cfg0.N) (d) : (datsF m 0 c).before 2 t d = iblk m c 2 t :=
  before0_2_of m (datsF m 0 c) (A_eqF m c 2) (afterF_2 m c) t d
theorem beforeF_3 (c : Dev nD) (t : Fin cfg0.N) (d) : (datsF m 0 c).before 3 t d = iblk m c 3 t :=
  before0_3_of m (datsF m 0 c) (A_eqF m c 3) (afterF_3 m c) t d
theorem beforeF_4 (c : Dev nD) (t : Fin cfg0.N) (d) : (datsF m 0 c).before 4 t d = iblk m c 4 t :=
  before0_4_of m (datsF m 0 c) (A_eqF m c 4) (afterF_4 m c) t d
theorem beforeF_5 (c : Dev nD) (t : Fin cfg0.N) (d) : (datsF m 0 c).before 5 t d = iblk m c 5 t :=
  before0_5_of m (datsF m 0 c) (A_eqF m c 5) (afterF_5 m c) t d
theorem beforeF_6 (c : Dev nD) (t : Fin cfg0.N) (d) : (datsF m 0 c).before 6 t d = iblk m c 6 t :=
  before0_6_of m (datsF m 0 c) (A_eqF m c 6) (afterF_6 m c) t d
theorem beforeF_7 (c : Dev nD) (t : Fin cfg0.N) (d) : (datsF m 0 c).before 7 t d = iblk m c 7 t :=
  before0_7_of m (datsF m 0 c) (A_eqF m c 7) (afterF_7 m c) t d

/-- What the body is called with at a point, -/
def bodyPreF (c : Dev nD) (t : Fin cfg0.N) : sProp 𝕄 :=
  iprop((datsF m 0 c).Φ t.castSucc ∗ (datsF m 0 c).owesAt () t.castSucc
    ∗ (∃ d, owns (c : Thread nD τ) (st0_0 t) fullShare ((datsF m 0 c).before 0 t d))
    ∗ (∃ d, owns (c : Thread nD τ) (st0_1 t) fullShare ((datsF m 0 c).before 1 t d))
    ∗ (∃ d, owns (c : Thread nD τ) (st0_2 t) fullShare ((datsF m 0 c).before 2 t d))
    ∗ (∃ d, owns (c : Thread nD τ) (st0_3 t) fullShare ((datsF m 0 c).before 3 t d))
    ∗ (∃ d, owns (c : Thread nD τ) (st0_4 t) fullShare ((datsF m 0 c).before 4 t d))
    ∗ (∃ d, owns (c : Thread nD τ) (st0_5 t) fullShare ((datsF m 0 c).before 5 t d))
    ∗ (∃ d, owns (c : Thread nD τ) (st0_6 t) fullShare ((datsF m 0 c).before 6 t d))
    ∗ (∃ d, owns (c : Thread nD τ) (st0_7 t) fullShare ((datsF m 0 c).before 7 t d))
    ∗ (∃ d, owns (c : Thread nD τ) (st0_8 t) fullShare d))

/-- and what it gives back. -/
def bodyPostF (c : Dev nD) (t : Fin cfg0.N) : sProp 𝕄 :=
  iprop((datsF m 0 c).Φ t.succ ∗ (datsF m 0 c).owesAt () t.succ
    ∗ owns (c : Thread nD τ) (st0_0 t) fullShare ((datsF m 0 c).after 0 t)
    ∗ owns (c : Thread nD τ) (st0_1 t) fullShare ((datsF m 0 c).after 1 t)
    ∗ owns (c : Thread nD τ) (st0_2 t) fullShare ((datsF m 0 c).after 2 t)
    ∗ owns (c : Thread nD τ) (st0_3 t) fullShare ((datsF m 0 c).after 3 t)
    ∗ owns (c : Thread nD τ) (st0_4 t) fullShare ((datsF m 0 c).after 4 t)
    ∗ owns (c : Thread nD τ) (st0_5 t) fullShare ((datsF m 0 c).after 5 t)
    ∗ owns (c : Thread nD τ) (st0_6 t) fullShare ((datsF m 0 c).after 6 t)
    ∗ owns (c : Thread nD τ) (st0_7 t) fullShare ((datsF m 0 c).after 7 t)
    ∗ (∃ d, owns (c : Thread nD τ) (st0_8 t) fullShare d))

set_option maxHeartbeats 1600000 in
theorem soundF (c : Dev nD) (t : Fin cfg0.N) :
    bodyPreF m c t ⊢ wp frame (wpE (defs₀ (F := F)) Variants.none c none) Set.univ (bodyAt0 t) (fun _ => bodyPostF m c t) := by
  unfold bodyPreF bodyPostF bodyAt0
  simp only [beforeF_0, beforeF_1, beforeF_2, beforeF_3, beforeF_4, beforeF_5, beforeF_6, beforeF_7]
  rw [show (datsF m 0 c).Φ t.succ = (datsF m 0 c).Φ t.castSucc from rfl,
    show (datsF m 0 c).owesAt () t.succ = (datsF m 0 c).owesAt () t.castSucc from rfl,
    afterF_0, afterF_1, afterF_2, afterF_3, afterF_4, afterF_5, afterF_6, afterF_7]
  rw [show (datsF m 0 c).Φ t.castSucc = Pipeline.ΦA spec0 c from rfl, ΦA_scratch]
  iintro ⟨⟨⟨HS0, HS1, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (bodyRun c (grid0.coords t) _ _ _ _ _ _ _ _ _ _ _ _ _ _ _ _ _ _ _ _ _ _ _ _ _ _ _ _ _ _
    (iblk m c 0 t) (iblk m c 1 t) (iblk m c 2 t) (iblk m c 3 t) (iblk m c 4 t) (iblk m c 5 t) (iblk m c 6 t) (iblk m c 7 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [HS0]; · iexact HS0
  isplitl [HS1]; · iexact HS1
  isplitl [HS2]; · iexact HS2
  isplitl [HS3]; · iexact HS3
  isplitl [HS4]; · iexact HS4
  isplitl [HS5]; · iexact HS5
  iintro ⟨H0, H1, H2, H3, H4, H5, H6, H7, H8, HS0, HS1, HS2, HS3, HS4, HS5⟩
  isplitl [HS0 HS1 HS2 HS3 HS4 HS5 Hg]
  · isplitl [HS0 HS1 HS2 HS3 HS4 HS5]
    · isplitl [HS0]; · iexact HS0
      isplitl [HS1]; · iexact HS1
      isplitl [HS2]; · iexact HS2
      isplitl [HS3]; · iexact HS3
      isplitl [HS4]; · iexact HS4
      iexact HS5
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body table's row at a point's slots is the body. -/
theorem defs₀_row (t : Fin cfg0.N) :
    defs₀ (F := F) .tc cfg0.body (cfg0.bodyArgs t (cfg0.slots t)) = bodyAt0 t := by
  unfold defs₀; rw [Defs.onTc_tc]

theorem obligationF (c : Dev nD) : BodyObligation (datsF (F := F) m 0 c) (defs₀ (F := F)) Variants.none () Set.univ forgets0 := fun t => by
  rw [bigSep_W0, bigSep_W0, defs₀_row]
  exact triple_restated (soundF m c t) rfl .rfl fun _ => .rfl

set_option backward.isDefEq.respectTransparency.types false in
theorem runF : θ_run defs (onTc (τ := τ) (main (F := F))) (s₀ m ρ) (fun r => (Pipeline.RDat.FramePost (cfgs 0) (fun c => (datsF m 0 c).toRForget forgets0) (V m)) r ∧ r.2.sem = fun _ => 0) :=
  Pipeline.θ_run_frame_forget_shared (Q' := _) cfgs (datsF m) (0 : Fin 1) launch₀0 defs₀ Variants.none forgets0 m ρ main
    (hbody := fun c => (obligationF m c).loose) (hq := fun _ _ _ => rfl)
    (howed := fun _ _ => rfl) (V := V m) (hmain := hmain m Variants.none) (hA := A_eqF m) (hΦ := fun _ _ => rfl)

/-- Every run ends, the arguments as they were and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c =>
    ⟨(Pipeline.RDat.FramePost.arr_in h.1 c 2 rfl).trans ((A_eqF m c 2).trans (V_main_arg0 m c)),
      (Pipeline.RDat.FramePost.arr_in h.1 c 6 rfl).trans ((A_eqF m c 6).trans (V_main_arg1 m c)),
      ((h.1 c).2 main_arg2 (Pipeline.mem_restRefs_of main_arg2 (by decide) (by decide))).trans (V_main_arg2 m c)⟩,
    h.2⟩) (runF m ρ)

end Cert.KernelIdeal.Gen

end
-- ==== Proof.Hand.Proj.lean ====
/- What the projection kernel's result array holds: every block of columns of the normalised rows times the weight. -/
module

public import proofs.«01_k».proof.Proof.Gen.Kernel2Ideal.Frame
public import proofs.«01_k».proof.Proof.Gen.Reference2Ideal
public import Idealize.ShloMosaic.Lib.Pipeline.ValueKit

@[expose] public section

set_option maxRecDepth 16384

noncomputable section

namespace Cert.Kernel2Ideal.Hand

open Cert.Kernel2Ideal Cert.Kernel2Ideal.Gen
open Idealize.ShloMosaic Idealize.ShloMosaic.TcCoe Idealize.SL.Sem
open Idealize.ShloMosaic.Pipeline (Dat)

variable (m : (ℓ : Loc nD τ sig) → Buf (Elt Ideal) ℓ)

/-- The blocks each point reads and writes. -/
theorem places : ∀ t : Fin cfg0.N, win0_0.index t = ![t.val / 5, 0] ∧ win0_1.index t = ![0, 0] ∧ win0_2.index t = ![0, 0]
    ∧ win0_3.index t = ![t.val / 5, t.val % 5] :=
  (by decide +kernel : ∀ t : Fin grid0.N, _)

/-- The column at which a point's strip of the weight starts. -/
theorem strip : ∀ t : Fin cfg0.N, k0_off1 (grid0.coords t) = ![0, 2048 * (t.val % 5)] :=
  (by decide +kernel : ∀ t : Fin grid0.N, _)

/-- The scale as the region finds it: the argument laid out as one row. -/
theorem scale_row (c : Dev nD) : V m c main_v0 = broadcastInDim S1x1024 ![1] bcast_S1024_S1x1024_1 (m ((c : Thread nD τ).loc main_arg1)) := by
  unfold V V0
  rw [List.flatten_singleton]
  after_results

/-- Within one row of blocks the rows read do not change. -/
theorem rows_same (c : Dev nD) (s t : Fin cfg0.N) (h : s.val / 5 = t.val / 5) : iblk m c 0 s = iblk m c 0 t := by
  funext x
  blk_ext [iblk, V, places s, places t]

theorem norm_same (c : Dev nD) (s t : Fin cfg0.N) : iblk m c 1 s = iblk m c 1 t := by
  funext x
  blk_ext [iblk, places s, places t]

/-- The carried rows after every point: the point's rows, normalised. -/
theorem carried (c : Dev nD) : ∀ t : Fin cfg0.N, (outsAt0 m c t.val t.isLt).2 = k0_pay1 (F := Ideal) (iblk m c 0 t) (iblk m c 1 t) := by
  rintro ⟨n, hn⟩
  induction n with
  | zero =>
    rw [outsAt0_A m c ⟨0, hn⟩ rfl]
    frame_out
  | succ n ih =>
    by_cases h0 : (n + 1) % 5 = 0
    · rw [outsAt0_A m c ⟨n + 1, hn⟩ h0]
      frame_out
    · rw [outsAt0_B m c ⟨n + 1, hn⟩ h0]
      dsimp only
      unfold sout0_B_0
      have e := ih (by omega)
      dsimp only at e
      refine Eq.trans e ?_
      rw [rows_same m c ⟨n, by omega⟩ ⟨n + 1, hn⟩ (by dsimp only; omega), norm_same m c ⟨n, by omega⟩ ⟨n + 1, hn⟩]

/-- What every point writes: its strip of the weight, by its normalised rows. -/
theorem written (c : Dev nD) (t : Fin cfg0.N) : (outsAt0 m c t.val t.isLt).1
    = k0_pay2 (F := Ideal) (View.ld (iblk m c 2 t) (Rect.unit (s := S1024x10240) (k0_off1 (grid0.coords t)) S1024x2048.size (k0_off1_inb (grid0.coords t))))
        (k0_pay1 (F := Ideal) (iblk m c 0 t) (iblk m c 1 t)) := by
  by_cases h0 : t.val % 5 = 0
  · rw [outsAt0_A m c t h0]
    frame_out
    rfl
  · have e := carried m c ⟨t.val - 1, Nat.lt_of_le_of_lt (Nat.sub_le _ _) t.isLt⟩
    dsimp only at e
    rw [outsAt0_B m c t h0]
    frame_out
    rw [e, rows_same m c ⟨t.val - 1, _⟩ t (by dsimp only; omega), norm_same m c ⟨t.val - 1, _⟩ t]
    exact congrArg _ ((Memref.isWhole_whole cc0_scratch0).read_unread _)

/-- The reference's normalised rows, over the rows and the scale. -/
abbrev refRows (X : FVec Ideal Cert.Reference2Ideal.S16384x1024 .f32) (g : FVec Ideal Cert.Reference2Ideal.S1024 .f32) : FVec Ideal Cert.Reference2Ideal.S16384x1024 .f32 :=
  mulf (mulf X (broadcastInDim Cert.Reference2Ideal.S16384x1024 ![0, 1] Cert.Reference2Ideal.Gen.bcast_S16384x1_S16384x1024_0_1
      (Host.rsqrt (addf (Host.divf (broadcastInDim Cert.Reference2Ideal.S16384x1 ![0] Cert.Reference2Ideal.Gen.bcast_S16384_S16384x1_0
          (Host.reduceAdd (mulf X X) (constant (F := Ideal) Cert.Reference2Ideal.S_ .f32 0x00000000#32) Cert.Reference2Ideal.Gen.reducesTo_S16384x1024_S16384_d1 Cert.Reference2Ideal.Gen.h_S_))
        (broadcastInDim Cert.Reference2Ideal.S16384x1 ![] Cert.Reference2Ideal.Gen.bcast_S_S16384x1 (constant (F := Ideal) Cert.Reference2Ideal.S_ .f32 0x44800000#32)))
        (broadcastInDim Cert.Reference2Ideal.S16384x1 ![] Cert.Reference2Ideal.Gen.bcast_S_S16384x1 (constant (F := Ideal) Cert.Reference2Ideal.S_ .f32 0x358637BD#32))))))
    (broadcastInDim Cert.Reference2Ideal.S16384x1024 ![0, 1] Cert.Reference2Ideal.Gen.bcast_S1x1024_S16384x1024_0_1
      (broadcastInDim Cert.Reference2Ideal.S1x1024 ![1] Cert.Reference2Ideal.Gen.bcast_S1024_S1x1024_1 g))

/-- The reference's product of those rows with the weight. -/
abbrev refProd (X : FVec Ideal Cert.Reference2Ideal.S16384x1024 .f32) (g : FVec Ideal Cert.Reference2Ideal.S1024 .f32)
    (W : FVec Ideal Cert.Reference2Ideal.S1024x10240 .f32) : FVec Ideal Cert.Reference2Ideal.S16384x10240 .f32 :=
  Host.dotGeneral Cert.Reference2Ideal.dot_S16384x1024_S1024x10240_S16384x10240_1_0_0_1_n_n none (refRows X g) W

/-- One entry of what a point writes is the reference's entry at its place. -/
theorem entry (c : Dev nD) (t : Fin cfg0.N) (y) :
    k0_pay2 (F := Ideal) (View.ld (iblk m c 2 t) (Rect.unit (s := S1024x10240) (k0_off1 (grid0.coords t)) S1024x2048.size (k0_off1_inb (grid0.coords t))))
        (k0_pay1 (F := Ideal) (iblk m c 0 t) (iblk m c 1 t)) y
      = truncf (F := Ideal) .bf16 (refProd (m ((c : Thread nD τ).loc main_arg0)) (m ((c : Thread nD τ).loc main_arg1)) (m ((c : Thread nD τ).loc main_arg2)))
          Cert.Reference2Ideal.Gen.bitsLt_bf16_f32 (((cfg0.win 3).blk t).view.emb y) := by
  pointwise [k0_pay2, k0_pay1, refProd, refRows]
  blk_point [iblk, V, places t, strip t]
  rw [scale_row m c]
  pointwise
  blk_ext [places t]

/-- The result array after the run: the reference's product. -/
theorem final (c : Dev nD) : (dats m 0 c).arrAt 3 (cfgs 0).N
    = truncf (F := Ideal) .bf16 (refProd (m ((c : Thread nD τ).loc main_arg0)) (m ((c : Thread nD τ).loc main_arg1)) (m ((c : Thread nD τ).loc main_arg2)))
          Cert.Reference2Ideal.Gen.bitsLt_bf16_f32 := by
  refine (dats m 0 c).arrAt_eq_of_covers 3 _ (by decide +kernel) fun t _ y => ?_
  blk_simp
  rw [after0_3, written m c t]
  exact entry m c t y

/-- The first strip of values, as the host lines after the region leave it: columns of the result, transposed. -/
theorem tail_first (c : Dev nD) : Pipeline.afterTail₀ cfgs (dats m) 0 (V0 m) [hostOps1] c main_v4
    = transpose S512x16384 [1, 0] (extractStridedSlice S16384x512 ![0, 2560] ((dats m 0 c).arrAt 3 (cfgs 0).N) slices_S16384x10240_S16384x512_0_2560) transposes_S16384x512_S512x16384_1_0 := by
  unfold Pipeline.afterTail₀
  rw [List.flatten_singleton]
  after_results
  exact congrArg (fun z : FVec Ideal S16384x10240 .bf16 => transpose S512x16384 [1, 0] (extractStridedSlice S16384x512 ![0, 2560] z slices_S16384x10240_S16384x512_0_2560) transposes_S16384x512_S512x16384_1_0)
    (Pipeline.withArrays_arr spec0 launch0.win.arr_inj c (V0 m c) (fun w => (dats m 0 c).arrAt w (cfgs 0).N) 3)

theorem tail_second (c : Dev nD) : Pipeline.afterTail₀ cfgs (dats m) 0 (V0 m) [hostOps1] c main_v6
    = transpose S512x16384 [1, 0] (extractStridedSlice S16384x512 ![0, 5632] ((dats m 0 c).arrAt 3 (cfgs 0).N) slices_S16384x10240_S16384x512_0_5632) transposes_S16384x512_S512x16384_1_0 := by
  unfold Pipeline.afterTail₀
  rw [List.flatten_singleton]
  after_results
  exact congrArg (fun z : FVec Ideal S16384x10240 .bf16 => transpose S512x16384 [1, 0] (extractStridedSlice S16384x512 ![0, 5632] z slices_S16384x10240_S16384x512_0_5632) transposes_S16384x512_S512x16384_1_0)
    (Pipeline.withArrays_arr spec0 launch0.win.arr_inj c (V0 m c) (fun w => (dats m 0 c).arrAt w (cfgs 0).N) 3)

end Cert.Kernel2Ideal.Hand

end
-- ==== Proof.Hand.ProjRun.lean ====
/- The projection kernel's run beside the reference's: equal results. -/
module

public import proofs.«01_k».proof.Defs
public import proofs.«01_k».proof.Proof.Gen.Kernel2Ideal
public import proofs.«01_k».proof.Proof.Gen.Reference2Ideal
public import proofs.«01_k».proof.Proof.Hand.Proj
public import Idealize.ShloMosaic.Lib.Claim

@[expose] public section

set_option maxRecDepth 16384

noncomputable section

namespace Cert.Kernel2Ideal.Hand

open Idealize.ShloMosaic Idealize.ShloMosaic.TcCoe Idealize.SL.Sem

/-- The reference's own frame. -/
theorem projection_reference_frame : Cert.quiescent_Reference2Ideal := by
  intro m g _
  hlo_run
  · exact fun _ => ⟨trivial, trivial, trivial⟩
  · exact sem_eq_zero_of_no_sems (by decide) r.2

/-- The three results are the reference's. -/
theorem projection : Cert.algebraic_Kernel2Ideal_Reference2Ideal := by
  pair_intro
  · run_from Cert.Kernel2Ideal.Gen.run_main m g
    · exact Cert.Kernel2Ideal.Gen.W_main_arg1 m _ c
    · exact Cert.Kernel2Ideal.Gen.W_main_arg2 m _ c
  · hlo_run
    · exact (final m c).symm
    · rw [tail_first m c, final m c]
      rfl
    · rw [tail_second m c, final m c]
      rfl

end Cert.Kernel2Ideal.Hand

end
-- ==== Proof.Hand.Stage.lean ====
/- One stage of the kernel's loop, for one head, on the parts of the scratch buffers that are live: the scores of the
   next block, the accumulation of the block before, and the step of the running softmax for this one. -/
module

public import proofs.«01_k».proof.Proof.Gen.KernelIdeal.Skeleton

@[expose] public section

noncomputable section

namespace Cert.KernelIdeal.Gen

open Idealize.ShloMosaic Idealize.SL.Sem

variable {F : FTy → Type} [FloatOps F] [Named F]

/-- What the stages carry for one head: running maximum, accumulator, the scores of the coming block, the weights and the
    rescaling factor of the block before. -/
@[ext] structure HSt (F : FTy → Type) where
  m : Vec F S1x1x512 .f32
  acc : Vec F S1x144x512 .f32
  s : Vec F S1x1x256x512 .f32
  p : Vec F S1x1x256x512 .bf16
  a : Vec F S1x1x1x512 .f32

/-- What one stage reads besides: the block's number as a word, the head's slope, the keys of the next block, the key
    features, the queries, the values of the block before. -/
structure Inp (F : FTy → Type) where
  w : BitVec 32
  sl : Elt F .f32
  kb : Vec F S256x128 .bf16
  kf : Vec F S1x256x128 .bf16
  qq : Vec F S1x256x512 .bf16
  vb : Vec F S1x128x256 .bf16

/-- The accumulator after a block's weights are added in. -/
def accum (vb : Vec F S1x128x256 .bf16) (st : HSt F) : Vec F S1x144x512 .f32 :=
  k0_pay5 (k0_pay3 vb) (k0_pay4 st.a) st.acc st.p

/-- One stage, for one head. -/
def hstage (x : Inp F) (st : HSt F) : HSt F where
  m := k0_pay10 x.w x.sl st.s st.m
  acc := accum x.vb st
  s := k0_pay2 x.kb x.kf x.qq
  p := k0_pay12 (k0_pay11 x.w x.sl st.s st.m)
  a := k0_pay13 (k0_pay8 st.m) (k0_pay9 x.w x.sl st.s st.m)

/-- Stages `0` to `n - 1`, on the inputs given. -/
def hrun (x : ℕ → Inp F) : ℕ → HSt F → HSt F
  | 0, st => st
  | n + 1, st => hstage (x n) (hrun x n st)

theorem hrun_add (x : ℕ → Inp F) (n k : ℕ) (st : HSt F) : hrun x (n + k) st = hrun (fun j => x (n + j)) k (hrun x n st) := by
  induction k with
  | zero => rfl
  | succ k ih => rw [← Nat.add_assoc, hrun, ih, hrun]

section Slots

variable (arg12 : Memref sig .tc .vmem S2x1x512 .f32) (arg13 : Memref sig .tc .vmem S2x144x512 .f32) (arg14 : Memref sig .tc .vmem S2x2x256x512 .f32) (arg15 : Memref sig .tc .vmem S2x2x256x512 .bf16) (arg16 : Memref sig .tc .vmem S2x2x1x512 .f32)
  (f12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty)

/-- Head 0's part of the scratch buffers, as the even stages find it. -/
def slots0 : HSt F where
  m := arg12.view.readAt (Elt F) (Rect.unit (s := S2x1x512) ![0, 0, 0] S1x1x512.size inb_S2x1x512_S1x1x512_0_0_0).toLoadRect f12
  acc := arg13.view.readAt (Elt F) (Rect.unit (s := S2x144x512) ![0, 0, 0] S1x144x512.size inb_S2x144x512_S1x144x512_0_0_0).toLoadRect f13
  s := arg14.view.readAt (Elt F) (Rect.unit (s := S2x2x256x512) ![0, 0, 0, 0] S1x1x256x512.size inb_S2x2x256x512_S1x1x256x512_0_0_0_0).toLoadRect f14
  p := arg15.view.readAt (Elt F) (Rect.unit (s := S2x2x256x512) ![0, 1, 0, 0] S1x1x256x512.size inb_S2x2x256x512_S1x1x256x512_0_1_0_0).toLoadRect f15
  a := arg16.view.readAt (Elt F) (Rect.unit (s := S2x2x1x512) ![0, 1, 0, 0] S1x1x1x512.size inb_S2x2x1x512_S1x1x1x512_0_1_0_0).toLoadRect f16

/-- Head 1's part. -/
def slots1 : HSt F where
  m := arg12.view.readAt (Elt F) (Rect.unit (s := S2x1x512) ![1, 0, 0] S1x1x512.size inb_S2x1x512_S1x1x512_1_0_0).toLoadRect f12
  acc := arg13.view.readAt (Elt F) (Rect.unit (s := S2x144x512) ![1, 0, 0] S1x144x512.size inb_S2x144x512_S1x144x512_1_0_0).toLoadRect f13
  s := arg14.view.readAt (Elt F) (Rect.unit (s := S2x2x256x512) ![1, 0, 0, 0] S1x1x256x512.size inb_S2x2x256x512_S1x1x256x512_1_0_0_0).toLoadRect f14
  p := arg15.view.readAt (Elt F) (Rect.unit (s := S2x2x256x512) ![1, 1, 0, 0] S1x1x256x512.size inb_S2x2x256x512_S1x1x256x512_1_1_0_0).toLoadRect f15
  a := arg16.view.readAt (Elt F) (Rect.unit (s := S2x2x1x512) ![1, 1, 0, 0] S1x1x1x512.size inb_S2x2x1x512_S1x1x1x512_1_1_0_0).toLoadRect f16

end Slots

end Cert.KernelIdeal.Gen

end
-- ==== Proof.Hand.Slots.lean ====
/- What a stage reads besides the scratch buffers, and how a load meets the stores before it. -/
module

public import proofs.«01_k».proof.Proof.Hand.Stage
public import Idealize.ShloMosaic.Lib.Pipeline.FrameBody
public import Idealize.ShloMosaic.Lib.Pipeline.ReadBack

@[expose] public section

noncomputable section

namespace Cert.KernelIdeal.Gen

open Idealize.ShloMosaic Idealize.SL.Sem

section Loads

variable {sig : RefSig} {κ : Kind} {sp : Space} {s : Shape} {e : EltTy} {Val : EltTy → Type}

/-- A load of the box stored last reads what was stored. -/
theorem readAt_writes_self (v : View sig κ sp s e) (f : v.ty.Contents Val) (r : Rect s) (w : r.shape.Idx → Val e) (L : List (View.Piece Val s e)) :
    v.readAt Val r.toLoadRect (v.writes Val f (⟨r, w⟩ :: L)) = w := by
  funext j
  rw [View.readAt_apply]
  exact View.read_writes_cons_emb v f r w L j

/-- A load that misses the last store reads what was there before it. -/
theorem readAt_writes_skip (v : View sig κ sp s e) (f : v.ty.Contents Val) (r : Rect s) (w : r.shape.Idx → Val e) (L : List (View.Piece Val s e))
    (B : LoadRect s) (h : LoadRect.disj r B = true) : v.readAt Val B (v.writes Val f (⟨r, w⟩ :: L)) = v.readAt Val B (v.writes Val f L) := by
  rw [show v.writes Val f (⟨r, w⟩ :: L) = v.writes Val (v.writes Val f L) [⟨r, w⟩] from rfl]
  exact View.readAt_writes_of_forall_not_mem v _ [⟨r, w⟩] B fun j p hp => by
    rw [List.mem_singleton.mp hp]
    exact LoadRect.idx_not_mem_of_disj h j

end Loads

variable {F : FTy → Type} [FloatOps F] [Named F]

section Inputs

variable (arg2 : Memref sig .tc .smem S4 .f32) (arg4 : Memref sig .tc .vmem S16384x256 .bf16) (arg5 : Memref sig .tc .vmem S2x128x16384 .bf16) (arg6 : Memref sig .tc .vmem S2x256x128 .bf16) (arg11 : Memref sig .tc .vmem S2x256x512 .bf16)
  (X2 : BufTy.Contents (Elt F) arg2.view.ty) (X4 : BufTy.Contents (Elt F) arg4.view.ty) (X5 : BufTy.Contents (Elt F) arg5.view.ty) (X6 : BufTy.Contents (Elt F) arg6.view.ty) (X11 : BufTy.Contents (Elt F) arg11.view.ty)
  (w : BitVec 32) {o2 : Fin 1 → ℕ} (h2 : ∀ a, o2 a + S1.size a ≤ S4.size a) {o4 : Fin 2 → ℕ} (h4 : ∀ a, o4 a + S256x128.size a ≤ S16384x256.size a)
  {o5 : Fin 3 → ℕ} (h5 : ∀ a, o5 a + S1x128x256.size a ≤ S2x128x16384.size a)

/-- What a stage reads for head 0, the slope, the keys and the values at the offsets given. -/
def inp0 : Inp F where
  w := w
  sl := arg2.view.readAt (Elt F) (Rect.unit (s := S4) o2 S1.size h2).toLoadRect X2 (Shape.Idx.first (numel1_S1.symm ▸ Nat.one_pos))
  kb := arg4.view.readAt (Elt F) (Rect.unit (s := S16384x256) o4 S256x128.size h4).toLoadRect X4
  kf := arg6.view.readAt (Elt F) (Rect.unit (s := S2x256x128) ![0, 0, 0] S1x256x128.size inb_S2x256x128_S1x256x128_0_0_0).toLoadRect X6
  qq := arg11.view.readAt (Elt F) (Rect.unit (s := S2x256x512) ![0, 0, 0] S1x256x512.size inb_S2x256x512_S1x256x512_0_0_0).toLoadRect X11
  vb := arg5.view.readAt (Elt F) (Rect.unit (s := S2x128x16384) o5 S1x128x256.size h5).toLoadRect X5

/-- And for head 1. -/
def inp1 : Inp F where
  w := w
  sl := arg2.view.readAt (Elt F) (Rect.unit (s := S4) o2 S1.size h2).toLoadRect X2 (Shape.Idx.first (numel1_S1.symm ▸ Nat.one_pos))
  kb := arg4.view.readAt (Elt F) (Rect.unit (s := S16384x256) o4 S256x128.size h4).toLoadRect X4
  kf := arg6.view.readAt (Elt F) (Rect.unit (s := S2x256x128) ![1, 0, 0] S1x256x128.size inb_S2x256x128_S1x256x128_1_0_0).toLoadRect X6
  qq := arg11.view.readAt (Elt F) (Rect.unit (s := S2x256x512) ![1, 0, 0] S1x256x512.size inb_S2x256x512_S1x256x512_1_0_0).toLoadRect X11
  vb := arg5.view.readAt (Elt F) (Rect.unit (s := S2x128x16384) o5 S1x128x256.size h5).toLoadRect X5

end Inputs

end Cert.KernelIdeal.Gen

end
-- ==== Proof.Hand.Setup.lean ====
/- The setting up of the body: the queries of both heads, the feature rows, the scratch, block 0's scores; and the end. -/
module

public import proofs.«01_k».proof.Proof.Gen.KernelIdeal.Loops
public import proofs.«01_k».proof.Proof.Hand.Slots
public import proofs.«01_k».proof.Proof.Hand.RunKernelIdeal
public import Idealize.ShloMosaic.Lib.Tactic

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 1000000 in
/-- Head 0's queries. -/
theorem part_q0 (c : Dev nD) (i : grid0.Coords) (arg2 : Memref sig .tc .smem S4 .f32) (harg2 : arg2.IsWhole) (arg3 : Memref sig .tc .vmem S256x256 .bf16) (harg3 : arg3.IsWhole) (arg4 : Memref sig .tc .vmem S16384x256 .bf16) (harg4 : arg4.IsWhole) (arg5 : Memref sig .tc .vmem S2x128x16384 .bf16) (harg5 : arg5.IsWhole) (arg6 : Memref sig .tc .vmem S2x256x128 .bf16) (harg6 : arg6.IsWhole) (arg7 : Memref sig .tc .vmem S2x256x512 .f32) (harg7 : arg7.IsWhole) (arg8 : Memref sig .tc .vmem S4x64 .f32) (harg8 : arg8.IsWhole) (arg9 : Memref sig .tc .vmem S1x128 .f32) (harg9 : arg9.IsWhole) (arg10 : Memref sig .tc .vmem S256x256 .bf16) (harg10 : arg10.IsWhole) (arg11 : Memref sig .tc .vmem S2x256x512 .bf16) (harg11 : arg11.IsWhole) (arg12 : Memref sig .tc .vmem S2x1x512 .f32) (harg12 : arg12.IsWhole) (arg13 : Memref sig .tc .vmem S2x144x512 .f32) (harg13 : arg13.IsWhole) (arg14 : Memref sig .tc .vmem S2x2x256x512 .f32) (harg14 : arg14.IsWhole) (arg15 : Memref sig .tc .vmem S2x2x256x512 .bf16) (harg15 : arg15.IsWhole) (arg16 : Memref sig .tc .vmem S2x2x1x512 .f32) (harg16 : arg16.IsWhole)  (X3 : BufTy.Contents (Elt F) arg3.view.ty) (f11 : BufTy.Contents (Elt F) arg11.view.ty) (E : Set ℕ) (K : (Σ' (_ : BitVec 32) (_ : BitVec 32) (_ : IVec S128x256 32) (_ : FVec F S128x256 .f32), FVec F S1x128x256 .bf16) → sProp 𝕄) :
    iprop((arg3.view.loc (c : Thread nD τ) ↦[arg3.view.set]{fullShare} X3) ∗ (arg11.view.loc (c : Thread nD τ) ↦[arg11.view.set]{fullShare} f11) ∗ (∀ (r : Σ' (_ : BitVec 32) (_ : BitVec 32) (_ : IVec S128x256 32) (_ : FVec F S128x256 .f32), FVec F S1x128x256 .bf16) (g11 : BufTy.Contents (Elt F) arg11.view.ty), ((arg3.view.loc (c : Thread nD τ) ↦[arg3.view.set]{fullShare} X3) ∗ (arg11.view.loc (c : Thread nD τ) ↦[arg11.view.set]{fullShare} g11) ∗ ⌜r = ⟨BitVec.ofNat 32 (i 0).val, BitVec.ofNat 32 (i 1).val, iota .tc S128x256 32 [0] iota_S128x256_d0_w32, k0_pay674 (arg3.view.readAt (Elt F) (Rect.unit (s := S256x256) ![0, 128] S256x128.size inb_S256x256_S256x128_0_128).toLoadRect X3), k0_pay675 (arg3.view.readAt (Elt F) (Rect.unit (s := S256x256) ![0, 128] S256x128.size inb_S256x256_S256x128_0_128).toLoadRect X3)⟩
        ∧ arg11.view.readAt (Elt F) (Rect.unit (s := S2x256x512) ![0, 0, 0] S1x128x256.size inb_S2x256x512_S1x128x256_0_0_0).toLoadRect g11 = k0_pay672 (arg3.view.readAt (Elt F) (Rect.unit (s := S256x256) ![0, 0] S256x128.size inb_S256x256_S256x128_0_0).toLoadRect X3) ∧ arg11.view.readAt (Elt F) (Rect.unit (s := S2x256x512) ![0, 0, 256] S1x128x256.size inb_S2x256x512_S1x128x256_0_0_256).toLoadRect g11 = k0_pay673 (arg3.view.readAt (Elt F) (Rect.unit (s := S256x256) ![0, 0] S256x128.size inb_S256x256_S256x128_0_0).toLoadRect X3)
        ∧ arg11.view.readAt (Elt F) (Rect.unit (s := S2x256x512) ![0, 128, 0] S1x128x512.size inb_S2x256x512_S1x128x512_0_128_0).toLoadRect g11 = arg11.view.readAt (Elt F) (Rect.unit (s := S2x256x512) ![0, 128, 0] S1x128x512.size inb_S2x256x512_S1x128x512_0_128_0).toLoadRect f11 ∧ arg11.view.readAt (Elt F) (Rect.unit (s := S2x256x512) ![1, 128, 0] S1x128x512.size inb_S2x256x512_S1x128x512_1_128_0).toLoadRect g11 = arg11.view.readAt (Elt F) (Rect.unit (s := S2x256x512) ![1, 128, 0] S1x128x512.size inb_S2x256x512_S1x128x512_1_128_0).toLoadRect f11⌝) -∗ K r))
      ⊢ wp frame (wpE (defs₀ (F := F)) Variants.none c none) E (k0_part141 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  iintro ⟨H3, H11, Hk⟩
  · sl_exec
    sl_step
    iapply Hk
    isplitl [H3]; · iexact H3
    isplitl [H11]; · iexact H11
    ipureintro
    refine ⟨?_, ?_, ?_, ?_, ?_⟩
    · rfl
    all_goals sl_unfold_run_names
    · exact ((readAt_writes_skip _ _ _ _ _ _ (by decide)).trans (readAt_writes_self _ _ _ _ _))
    · exact (readAt_writes_self _ _ _ _ _)
    · exact ((readAt_writes_skip _ _ _ _ _ _ (by decide)).trans (readAt_writes_skip _ _ _ _ _ _ (by decide)))
    · exact ((readAt_writes_skip _ _ _ _ _ _ (by decide)).trans (readAt_writes_skip _ _ _ _ _ _ (by decide)))

set_option maxHeartbeats 1000000 in
/-- Head 1's queries, the feature rows at a head pair's first point, the scratch, and head 0's scores of block 0. -/
theorem part_q1 (c : Dev nD) (i : grid0.Coords) (arg2 : Memref sig .tc .smem S4 .f32) (harg2 : arg2.IsWhole) (arg3 : Memref sig .tc .vmem S256x256 .bf16) (harg3 : arg3.IsWhole) (arg4 : Memref sig .tc .vmem S16384x256 .bf16) (harg4 : arg4.IsWhole) (arg5 : Memref sig .tc .vmem S2x128x16384 .bf16) (harg5 : arg5.IsWhole) (arg6 : Memref sig .tc .vmem S2x256x128 .bf16) (harg6 : arg6.IsWhole) (arg7 : Memref sig .tc .vmem S2x256x512 .f32) (harg7 : arg7.IsWhole) (arg8 : Memref sig .tc .vmem S4x64 .f32) (harg8 : arg8.IsWhole) (arg9 : Memref sig .tc .vmem S1x128 .f32) (harg9 : arg9.IsWhole) (arg10 : Memref sig .tc .vmem S256x256 .bf16) (harg10 : arg10.IsWhole) (arg11 : Memref sig .tc .vmem S2x256x512 .bf16) (harg11 : arg11.IsWhole) (arg12 : Memref sig .tc .vmem S2x1x512 .f32) (harg12 : arg12.IsWhole) (arg13 : Memref sig .tc .vmem S2x144x512 .f32) (harg13 : arg13.IsWhole) (arg14 : Memref sig .tc .vmem S2x2x256x512 .f32) (harg14 : arg14.IsWhole) (arg15 : Memref sig .tc .vmem S2x2x256x512 .bf16) (harg15 : arg15.IsWhole) (arg16 : Memref sig .tc .vmem S2x2x1x512 .f32) (harg16 : arg16.IsWhole) (v0 : IVec S128x256 32) (v26 : FVec F S128x256 .f32) (v34 : FVec F S1x128x256 .bf16) (X4 : BufTy.Contents (Elt F) arg4.view.ty) (X6 : BufTy.Contents (Elt F) arg6.view.ty) (f11 : BufTy.Contents (Elt F) arg11.view.ty) (f12 : BufTy.Contents (Elt F) arg12.view.ty) (f13 : BufTy.Contents (Elt F) arg13.view.ty) (hf : ¬ first i → arg11.view.readAt (Elt F) (Rect.unit (s := S2x256x512) ![0, 128, 0] S1x128x512.size inb_S2x256x512_S1x128x512_0_128_0).toLoadRect f11 = k0_pay678 ∧ arg11.view.readAt (Elt F) (Rect.unit (s := S2x256x512) ![1, 128, 0] S1x128x512.size inb_S2x256x512_S1x128x512_1_128_0).toLoadRect f11 = k0_pay679) (E : Set ℕ) (K : (FVec F S256x512 .f32) → sProp 𝕄) :
    iprop((arg4.view.loc (c : Thread nD τ) ↦[arg4.view.set]{fullShare} X4) ∗ (arg6.view.loc (c : Thread nD τ) ↦[arg6.view.set]{fullShare} X6) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (∀ (r : FVec F S256x512 .f32) (g11 : BufTy.Contents (Elt F) arg11.view.ty) (g12 : BufTy.Contents (Elt F) arg12.view.ty) (g13 : BufTy.Contents (Elt F) arg13.view.ty), ((arg4.view.loc (c : Thread nD τ) ↦[arg4.view.set]{fullShare} X4) ∗ (arg6.view.loc (c : Thread nD τ) ↦[arg6.view.set]{fullShare} X6) ∗ (arg11.view.loc (c : Thread nD τ) ↦[arg11.view.set]{fullShare} g11) ∗ (arg12.view.loc (c : Thread nD τ) ↦[arg12.view.set]{fullShare} g12) ∗ (arg13.view.loc (c : Thread nD τ) ↦[arg13.view.set]{fullShare} g13) ∗ ⌜r = k0_pay682 (arg4.view.readAt (Elt F) (Rect.unit (s := S16384x256) ![0, 0] S256x128.size inb_S16384x256_S256x128_0_0).toLoadRect X4) (arg6.view.readAt (Elt F) (Rect.unit (s := S2x256x128) ![0, 0, 0] S1x256x128.size inb_S2x256x128_S1x256x128_0_0_0).toLoadRect X6) (arg11.view.readAt (Elt F) (Rect.unit (s := S2x256x512) ![0, 0, 0] S1x256x512.size inb_S2x256x512_S1x256x512_0_0_0).toLoadRect g11)
        ∧ arg11.view.readAt (Elt F) (Rect.unit (s := S2x256x512) ![0, 0, 0] S1x128x256.size inb_S2x256x512_S1x128x256_0_0_0).toLoadRect g11 = arg11.view.readAt (Elt F) (Rect.unit (s := S2x256x512) ![0, 0, 0] S1x128x256.size inb_S2x256x512_S1x128x256_0_0_0).toLoadRect f11 ∧ arg11.view.readAt (Elt F) (Rect.unit (s := S2x256x512) ![0, 0, 256] S1x128x256.size inb_S2x256x512_S1x128x256_0_0_256).toLoadRect g11 = arg11.view.readAt (Elt F) (Rect.unit (s := S2x256x512) ![0, 0, 256] S1x128x256.size inb_S2x256x512_S1x128x256_0_0_256).toLoadRect f11
        ∧ arg11.view.readAt (Elt F) (Rect.unit (s := S2x256x512) ![1, 0, 0] S1x128x256.size inb_S2x256x512_S1x128x256_1_0_0).toLoadRect g11 = v34 ∧ arg11.view.readAt (Elt F) (Rect.unit (s := S2x256x512) ![1, 0, 256] S1x128x256.size inb_S2x256x512_S1x128x256_1_0_256).toLoadRect g11 = k0_pay676 v0 v26
        ∧ arg11.view.readAt (Elt F) (Rect.unit (s := S2x256x512) ![0, 128, 0] S1x128x512.size inb_S2x256x512_S1x128x512_0_128_0).toLoadRect g11 = k0_pay678 ∧ arg11.view.readAt (Elt F) (Rect.unit (s := S2x256x512) ![1, 128, 0] S1x128x512.size inb_S2x256x512_S1x128x512_1_128_0).toLoadRect g11 = k0_pay679
        ∧ arg12.view.readAt (Elt F) (Rect.unit (s := S2x1x512) ![0, 0, 0] S2x1x512.size inb_S2x1x512_S2x1x512_0_0_0).toLoadRect g12 = k0_pay680 ∧ arg13.view.readAt (Elt F) (Rect.unit (s := S2x144x512) ![0, 0, 0] S2x144x512.size inb_S2x144x512_S2x144x512_0_0_0).toLoadRect g13 = k0_pay681⌝) -∗ K r))
      ⊢ wp frame (wpE (defs₀ (F := F)) Variants.none c none) E (k0_part142 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) v0 v26 v34) K := by
  iintro ⟨H4, H6, H11, H12, H13, Hk⟩
  rcases Classical.em (first i) with hi | hi
  · sl_exec (disch := first | sl_exact hi)
    sl_step
    iapply Hk
    isplitl [H4]; · iexact H4
    isplitl [H6]; · iexact H6
    isplitl [H11]; · iexact H11
    isplitl [H12]; · iexact H12
    isplitl [H13]; · iexact H13
    ipureintro
    refine ⟨congrArg (k0_pay682 _ _) (by rfl), ?_, ?_, ?_, ?_, ?_, ?_, ?_, ?_⟩
    · sl_unfold_run_names
      exact ((readAt_writes_skip _ _ _ _ _ _ (by decide)).trans ((readAt_writes_skip _ _ _ _ _ _ (by decide)).trans ((readAt_writes_skip _ _ _ _ _ _ (by decide)).trans (readAt_writes_skip _ _ _ _ _ _ (by decide)))))
    · sl_unfold_run_names
      exact ((readAt_writes_skip _ _ _ _ _ _ (by decide)).trans ((readAt_writes_skip _ _ _ _ _ _ (by decide)).trans ((readAt_writes_skip _ _ _ _ _ _ (by decide)).trans (readAt_writes_skip _ _ _ _ _ _ (by decide)))))
    · sl_unfold_run_names
      exact ((readAt_writes_skip _ _ _ _ _ _ (by decide)).trans ((readAt_writes_skip _ _ _ _ _ _ (by decide)).trans ((readAt_writes_skip _ _ _ _ _ _ (by decide)).trans (readAt_writes_self _ _ _ _ _))))
    · sl_unfold_run_names
      exact ((readAt_writes_skip _ _ _ _ _ _ (by decide)).trans ((readAt_writes_skip _ _ _ _ _ _ (by decide)).trans (readAt_writes_self _ _ _ _ _)))
    · sl_unfold_run_names
      exact ((readAt_writes_skip _ _ _ _ _ _ (by decide)).trans (readAt_writes_self _ _ _ _ _))
    · sl_unfold_run_names
      exact (readAt_writes_self _ _ _ _ _)
    · sl_unfold_run_names
      exact (readAt_writes_self _ _ _ _ _)
    · sl_unfold_run_names
      exact (readAt_writes_self _ _ _ _ _)
  · sl_exec (disch := first | sl_exact hi)
    sl_step
    iapply Hk
    isplitl [H4]; · iexact H4
    isplitl [H6]; · iexact H6
    isplitl [H11]; · iexact H11
    isplitl [H12]; · iexact H12
    isplitl [H13]; · iexact H13
    ipureintro
    refine ⟨congrArg (k0_pay682 _ _) (by symm; sl_unfold_run_names; exact ((readAt_writes_skip _ _ _ _ _ _ (by decide)).trans (readAt_writes_skip _ _ _ _ _ _ (by decide)))), ?_, ?_, ?_, ?_, ?_, ?_, ?_, ?_⟩
    · sl_unfold_run_names
      exact ((readAt_writes_skip _ _ _ _ _ _ (by decide)).trans (readAt_writes_skip _ _ _ _ _ _ (by decide)))
    · sl_unfold_run_names
      exact ((readAt_writes_skip _ _ _ _ _ _ (by decide)).trans (readAt_writes_skip _ _ _ _ _ _ (by decide)))
    · sl_unfold_run_names
      exact ((readAt_writes_skip _ _ _ _ _ _ (by decide)).trans (readAt_writes_self _ _ _ _ _))
    · sl_unfold_run_names
      exact (readAt_writes_self _ _ _ _ _)
    · sl_unfold_run_names
      exact ((readAt_writes_skip _ _ _ _ _ _ (by decide)).trans ((readAt_writes_skip _ _ _ _ _ _ (by decide)).trans (hf hi).1))
    · sl_unfold_run_names
      exact ((readAt_writes_skip _ _ _ _ _ _ (by decide)).trans ((readAt_writes_skip _ _ _ _ _ _ (by decide)).trans (hf hi).2))
    · sl_unfold_run_names
      exact (readAt_writes_self _ _ _ _ _)
    · sl_unfold_run_names
      exact (readAt_writes_self _ _ _ _ _)

set_option maxHeartbeats 1000000 in
/-- Block 0's scores. -/
theorem part_s0 (c : Dev nD) (i : grid0.Coords) (arg2 : Memref sig .tc .smem S4 .f32) (harg2 : arg2.IsWhole) (arg3 : Memref sig .tc .vmem S256x256 .bf16) (harg3 : arg3.IsWhole) (arg4 : Memref sig .tc .vmem S16384x256 .bf16) (harg4 : arg4.IsWhole) (arg5 : Memref sig .tc .vmem S2x128x16384 .bf16) (harg5 : arg5.IsWhole) (arg6 : Memref sig .tc .vmem S2x256x128 .bf16) (harg6 : arg6.IsWhole) (arg7 : Memref sig .tc .vmem S2x256x512 .f32) (harg7 : arg7.IsWhole) (arg8 : Memref sig .tc .vmem S4x64 .f32) (harg8 : arg8.IsWhole) (arg9 : Memref sig .tc .vmem S1x128 .f32) (harg9 : arg9.IsWhole) (arg10 : Memref sig .tc .vmem S256x256 .bf16) (harg10 : arg10.IsWhole) (arg11 : Memref sig .tc .vmem S2x256x512 .bf16) (harg11 : arg11.IsWhole) (arg12 : Memref sig .tc .vmem S2x1x512 .f32) (harg12 : arg12.IsWhole) (arg13 : Memref sig .tc .vmem S2x144x512 .f32) (harg13 : arg13.IsWhole) (arg14 : Memref sig .tc .vmem S2x2x256x512 .f32) (harg14 : arg14.IsWhole) (arg15 : Memref sig .tc .vmem S2x2x256x512 .bf16) (harg15 : arg15.IsWhole) (arg16 : Memref sig .tc .vmem S2x2x1x512 .f32) (harg16 : arg16.IsWhole) (v62 : FVec F S256x512 .f32) (X4 : BufTy.Contents (Elt F) arg4.view.ty) (X6 : BufTy.Contents (Elt F) arg6.view.ty) (X11 : BufTy.Contents (Elt F) arg11.view.ty) (f14 : BufTy.Contents (Elt F) arg14.view.ty) (f15 : BufTy.Contents (Elt F) arg15.view.ty) (f16 : BufTy.Contents (Elt F) arg16.view.ty) (E : Set ℕ) (K : (FVec F S1x1x256x512 .bf16) → sProp 𝕄) :
    iprop((arg4.view.loc (c : Thread nD τ) ↦[arg4.view.set]{fullShare} X4) ∗ (arg6.view.loc (c : Thread nD τ) ↦[arg6.view.set]{fullShare} X6) ∗ (arg11.view.loc (c : Thread nD τ) ↦[arg11.view.set]{fullShare} X11) ∗ (arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) ∗ (∀ (r : FVec F S1x1x256x512 .bf16) (g14 : BufTy.Contents (Elt F) arg14.view.ty) (g15 : BufTy.Contents (Elt F) arg15.view.ty) (g16 : BufTy.Contents (Elt F) arg16.view.ty), ((arg4.view.loc (c : Thread nD τ) ↦[arg4.view.set]{fullShare} X4) ∗ (arg6.view.loc (c : Thread nD τ) ↦[arg6.view.set]{fullShare} X6) ∗ (arg11.view.loc (c : Thread nD τ) ↦[arg11.view.set]{fullShare} X11) ∗ (arg14.view.loc (c : Thread nD τ) ↦[arg14.view.set]{fullShare} g14) ∗ (arg15.view.loc (c : Thread nD τ) ↦[arg15.view.set]{fullShare} g15) ∗ (arg16.view.loc (c : Thread nD τ) ↦[arg16.view.set]{fullShare} g16) ∗ ⌜r = k0_pay687 ∧ arg14.view.readAt (Elt F) (Rect.unit (s := S2x2x256x512) ![0, 0, 0, 0] S1x1x256x512.size inb_S2x2x256x512_S1x1x256x512_0_0_0_0).toLoadRect g14 = k0_pay683 v62
        ∧ arg14.view.readAt (Elt F) (Rect.unit (s := S2x2x256x512) ![1, 0, 0, 0] S1x1x256x512.size inb_S2x2x256x512_S1x1x256x512_1_0_0_0).toLoadRect g14 = k0_pay686 (arg4.view.readAt (Elt F) (Rect.unit (s := S16384x256) ![0, 128] S256x128.size inb_S16384x256_S256x128_0_128).toLoadRect X4) (arg6.view.readAt (Elt F) (Rect.unit (s := S2x256x128) ![1, 0, 0] S1x256x128.size inb_S2x256x128_S1x256x128_1_0_0).toLoadRect X6) (arg11.view.readAt (Elt F) (Rect.unit (s := S2x256x512) ![1, 0, 0] S1x256x512.size inb_S2x256x512_S1x256x512_1_0_0).toLoadRect X11)
        ∧ arg15.view.readAt (Elt F) (Rect.unit (s := S2x2x256x512) ![0, 1, 0, 0] S1x1x256x512.size inb_S2x2x256x512_S1x1x256x512_0_1_0_0).toLoadRect g15 = k0_pay684 ∧ arg16.view.readAt (Elt F) (Rect.unit (s := S2x2x1x512) ![0, 1, 0, 0] S1x1x1x512.size inb_S2x2x1x512_S1x1x1x512_0_1_0_0).toLoadRect g16 = k0_pay685⌝) -∗ K r))
      ⊢ wp frame (wpE (defs₀ (F := F)) Variants.none c none) E (k0_part143 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 v62) K := by
  iintro ⟨H4, H6, H11, H14, H15, H16, Hk⟩
  · sl_exec
    sl_step
    iapply Hk
    isplitl [H4]; · iexact H4
    isplitl [H6]; · iexact H6
    isplitl [H11]; · iexact H11
    isplitl [H14]; · iexact H14
    isplitl [H15]; · iexact H15
    isplitl [H16]; · iexact H16
    ipureintro
    refine ⟨?_, ?_, ?_, ?_, ?_⟩
    · rfl
    all_goals sl_unfold_run_names
    · exact ((readAt_writes_skip _ _ _ _ _ _ (by decide)).trans (readAt_writes_self _ _ _ _ _))
    · exact (readAt_writes_self _ _ _ _ _)
    · exact (readAt_writes_self _ _ _ _ _)
    · exact (readAt_writes_self _ _ _ _ _)

set_option maxHeartbeats 1000000 in
/-- Head 0's output. -/
theorem part_o0 (c : Dev nD) (i : grid0.Coords) (arg2 : Memref sig .tc .smem S4 .f32) (harg2 : arg2.IsWhole) (arg3 : Memref sig .tc .vmem S256x256 .bf16) (harg3 : arg3.IsWhole) (arg4 : Memref sig .tc .vmem S16384x256 .bf16) (harg4 : arg4.IsWhole) (arg5 : Memref sig .tc .vmem S2x128x16384 .bf16) (harg5 : arg5.IsWhole) (arg6 : Memref sig .tc .vmem S2x256x128 .bf16) (harg6 : arg6.IsWhole) (arg7 : Memref sig .tc .vmem S2x256x512 .f32) (harg7 : arg7.IsWhole) (arg8 : Memref sig .tc .vmem S4x64 .f32) (harg8 : arg8.IsWhole) (arg9 : Memref sig .tc .vmem S1x128 .f32) (harg9 : arg9.IsWhole) (arg10 : Memref sig .tc .vmem S256x256 .bf16) (harg10 : arg10.IsWhole) (arg11 : Memref sig .tc .vmem S2x256x512 .bf16) (harg11 : arg11.IsWhole) (arg12 : Memref sig .tc .vmem S2x1x512 .f32) (harg12 : arg12.IsWhole) (arg13 : Memref sig .tc .vmem S2x144x512 .f32) (harg13 : arg13.IsWhole) (arg14 : Memref sig .tc .vmem S2x2x256x512 .f32) (harg14 : arg14.IsWhole) (arg15 : Memref sig .tc .vmem S2x2x256x512 .bf16) (harg15 : arg15.IsWhole) (arg16 : Memref sig .tc .vmem S2x2x1x512 .f32) (harg16 : arg16.IsWhole) (v191 : FVec F S1x1 .f32) (v197 : FVec F S128x512 .f32) (v198 : FVec F S128x256 .f32) (X9 : BufTy.Contents (Elt F) arg9.view.ty) (X13 : BufTy.Contents (Elt F) arg13.view.ty) (f10 : BufTy.Contents (Elt F) arg10.view.ty) (E : Set ℕ) (K : (Σ' (_ : FVec F S128x256 .f32), FVec F S1x256 .f32) → sProp 𝕄) :
    iprop((arg9.view.loc (c : Thread nD τ) ↦[arg9.view.set]{fullShare} X9) ∗ (arg13.view.loc (c : Thread nD τ) ↦[arg13.view.set]{fullShare} X13) ∗ (arg10.view.loc (c : Thread nD τ) ↦[arg10.view.set]{fullShare} f10) ∗ (∀ (r : Σ' (_ : FVec F S128x256 .f32), FVec F S1x256 .f32) (g10 : BufTy.Contents (Elt F) arg10.view.ty), ((arg9.view.loc (c : Thread nD τ) ↦[arg9.view.set]{fullShare} X9) ∗ (arg13.view.loc (c : Thread nD τ) ↦[arg13.view.set]{fullShare} X13) ∗ (arg10.view.loc (c : Thread nD τ) ↦[arg10.view.set]{fullShare} g10) ∗ ⌜r = ⟨k0_pay702 v191 (arg13.view.readAt (Elt F) (Rect.unit (s := S2x144x512) ![1, 0, 0] S1x128x512.size inb_S2x144x512_S1x128x512_1_0_0).toLoadRect X13) (arg13.view.readAt (Elt F) (Rect.unit (s := S2x144x512) ![1, 128, 0] S1x1x512.size inb_S2x144x512_S1x1x512_1_128_0).toLoadRect X13), k0_pay703 v191 (arg13.view.readAt (Elt F) (Rect.unit (s := S2x144x512) ![1, 0, 0] S1x128x512.size inb_S2x144x512_S1x128x512_1_0_0).toLoadRect X13) (arg13.view.readAt (Elt F) (Rect.unit (s := S2x144x512) ![1, 128, 0] S1x1x512.size inb_S2x144x512_S1x1x512_1_128_0).toLoadRect X13)⟩
        ∧ arg10.view.readAt (Elt F) (Rect.unit (s := S256x256) ![0, 0] S256x128.size inb_S256x256_S256x128_0_0).toLoadRect g10 = k0_pay701 v191 v197 v198 (arg9.view.readAt (Elt F) (Rect.unit (s := S1x128) ![0, 0] S1x128.size inb_S1x128_S1x128_0_0).toLoadRect X9)⌝) -∗ K r))
      ⊢ wp frame (wpE (defs₀ (F := F)) Variants.none c none) E (k0_part147 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 v191 v197 v198) K := by
  iintro ⟨H9, H13, H10, Hk⟩
  · sl_exec
    sl_step
    iapply Hk
    isplitl [H9]; · iexact H9
    isplitl [H13]; · iexact H13
    isplitl [H10]; · iexact H10
    ipureintro
    refine ⟨?_, ?_⟩
    · rfl
    all_goals sl_unfold_run_names
    · exact (readAt_writes_self _ _ _ _ _)

end Cert.KernelIdeal.Gen

end
-- ==== Proof.Hand.Trips.lean ====
/- What one trip of each unrolled loop does to each head's part of the scratch buffers: as many stages as the loop unrolls. -/
module

public import proofs.«01_k».proof.Proof.Gen.KernelIdeal.Loops
public import proofs.«01_k».proof.Proof.Hand.Slots
public import Idealize.ShloMosaic.Lib.Tactic

@[expose] public section

set_option maxRecDepth 16384

noncomputable section

namespace Cert.KernelIdeal.Gen

open Idealize.ShloMosaic Idealize.ShloMosaic.TcCoe Idealize.ShloMosaic.Tactic
open Idealize.SL.Sem

variable {F : FTy → Type} [FloatOps F] [Named F]

theorem trip_t3_head0 (𝒱 : Variants) (c : Dev nD) (bd : Option 𝒱.V) (i : grid0.Coords) (arg2 : Memref sig .tc .smem S4 .f32) (harg2 : arg2.IsWhole) (arg3 : Memref sig .tc .vmem S256x256 .bf16) (harg3 : arg3.IsWhole) (arg4 : Memref sig .tc .vmem S16384x256 .bf16) (harg4 : arg4.IsWhole) (arg5 : Memref sig .tc .vmem S2x128x16384 .bf16) (harg5 : arg5.IsWhole) (arg6 : Memref sig .tc .vmem S2x256x128 .bf16) (harg6 : arg6.IsWhole) (arg7 : Memref sig .tc .vmem S2x256x512 .f32) (harg7 : arg7.IsWhole) (arg8 : Memref sig .tc .vmem S4x64 .f32) (harg8 : arg8.IsWhole) (arg9 : Memref sig .tc .vmem S1x128 .f32) (harg9 : arg9.IsWhole) (arg10 : Memref sig .tc .vmem S256x256 .bf16) (harg10 : arg10.IsWhole) (arg11 : Memref sig .tc .vmem S2x256x512 .bf16) (harg11 : arg11.IsWhole) (arg12 : Memref sig .tc .vmem S2x1x512 .f32) (harg12 : arg12.IsWhole) (arg13 : Memref sig .tc .vmem S2x144x512 .f32) (harg13 : arg13.IsWhole) (arg14 : Memref sig .tc .vmem S2x2x256x512 .f32) (harg14 : arg14.IsWhole) (arg15 : Memref sig .tc .vmem S2x2x256x512 .bf16) (harg15 : arg15.IsWhole) (arg16 : Memref sig .tc .vmem S2x2x1x512 .f32) (harg16 : arg16.IsWhole) (arg0 : BitVec 32) (arg1 : BitVec 32) (v118 : BitVec 32) (v119 : BitVec 32) (c4_i32 : BitVec 32) (v120 : BitVec 32) (v122 : BitVec 32) (c0_i32_89 : BitVec 32) (X_arg2 : BufTy.Contents (Elt F) arg2.view.ty) (X_arg4 : BufTy.Contents (Elt F) arg4.view.ty) (X_arg5 : BufTy.Contents (Elt F) arg5.view.ty) (X_arg6 : BufTy.Contents (Elt F) arg6.view.ty) (X_arg11 : BufTy.Contents (Elt F) arg11.view.ty) (k : Fin (k0_t3_loop i).trips) (f12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty)
    (L) (hL : L = tripL_k0_t3 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg0 arg1 v118 v119 c4_i32 v120 v122 c0_i32_89 X_arg2 X_arg4 X_arg5 X_arg6 X_arg11 k f12 f13 f14 f15 f16) :
    slots0 arg12 arg13 arg14 arg15 arg16 (arg12.view.writes (Elt F) f12 L.1) (arg13.view.writes (Elt F) f13 L.2.1) (arg14.view.writes (Elt F) f14 L.2.2.1) (arg15.view.writes (Elt F) f15 L.2.2.2.1) (arg16.view.writes (Elt F) f16 L.2.2.2.2)
      = hstage (inp0 arg2 arg4 arg5 arg6 arg11 X_arg2 X_arg4 X_arg5 X_arg6 X_arg11 (Scalar.addi (Scalar.addi v118 (Scalar.muli 4#32 (Scf.iv 0#32 1#32 k.val))) 3#32) (k0_off13_inb i 0) (k0_off11_inb i k 3) (k0_off12_inb i k 3)) (hstage (inp0 arg2 arg4 arg5 arg6 arg11 X_arg2 X_arg4 X_arg5 X_arg6 X_arg11 (Scalar.addi (Scalar.addi v118 (Scalar.muli 4#32 (Scf.iv 0#32 1#32 k.val))) 2#32) (k0_off13_inb i 0) (k0_off11_inb i k 2) (k0_off12_inb i k 2)) (hstage (inp0 arg2 arg4 arg5 arg6 arg11 X_arg2 X_arg4 X_arg5 X_arg6 X_arg11 (Scalar.addi (Scalar.addi v118 (Scalar.muli 4#32 (Scf.iv 0#32 1#32 k.val))) 1#32) (k0_off13_inb i 0) (k0_off11_inb i k 1) (k0_off12_inb i k 1)) (hstage (inp0 arg2 arg4 arg5 arg6 arg11 X_arg2 X_arg4 X_arg5 X_arg6 X_arg11 (Scalar.addi (Scalar.addi v118 (Scalar.muli 4#32 (Scf.iv 0#32 1#32 k.val))) 0#32) (k0_off13_inb i 0) (k0_off11_inb i k 0) (k0_off12_inb i k 0)) (slots0 arg12 arg13 arg14 arg15 arg16 f12 f13 f14 f15 f16)))) := by
  subst hL
  apply HSt.ext
  all_goals
    dsimp only [slots0, hstage, inp0, accum, tripL_k0_t3]
    unfold trip_k0_t3
    dsimp only
    sl_unfold_run_names
    simp (disch := decide) only [↓readAt_writes_self, ↓readAt_writes_skip, ↓View.readCov_cons_toLoadRect, ↓View.readCov_skip]
    rfl

theorem trip_t3_head1 (𝒱 : Variants) (c : Dev nD) (bd : Option 𝒱.V) (i : grid0.Coords) (arg2 : Memref sig .tc .smem S4 .f32) (harg2 : arg2.IsWhole) (arg3 : Memref sig .tc .vmem S256x256 .bf16) (harg3 : arg3.IsWhole) (arg4 : Memref sig .tc .vmem S16384x256 .bf16) (harg4 : arg4.IsWhole) (arg5 : Memref sig .tc .vmem S2x128x16384 .bf16) (harg5 : arg5.IsWhole) (arg6 : Memref sig .tc .vmem S2x256x128 .bf16) (harg6 : arg6.IsWhole) (arg7 : Memref sig .tc .vmem S2x256x512 .f32) (harg7 : arg7.IsWhole) (arg8 : Memref sig .tc .vmem S4x64 .f32) (harg8 : arg8.IsWhole) (arg9 : Memref sig .tc .vmem S1x128 .f32) (harg9 : arg9.IsWhole) (arg10 : Memref sig .tc .vmem S256x256 .bf16) (harg10 : arg10.IsWhole) (arg11 : Memref sig .tc .vmem S2x256x512 .bf16) (harg11 : arg11.IsWhole) (arg12 : Memref sig .tc .vmem S2x1x512 .f32) (harg12 : arg12.IsWhole) (arg13 : Memref sig .tc .vmem S2x144x512 .f32) (harg13 : arg13.IsWhole) (arg14 : Memref sig .tc .vmem S2x2x256x512 .f32) (harg14 : arg14.IsWhole) (arg15 : Memref sig .tc .vmem S2x2x256x512 .bf16) (harg15 : arg15.IsWhole) (arg16 : Memref sig .tc .vmem S2x2x1x512 .f32) (harg16 : arg16.IsWhole) (arg0 : BitVec 32) (arg1 : BitVec 32) (v118 : BitVec 32) (v119 : BitVec 32) (c4_i32 : BitVec 32) (v120 : BitVec 32) (v122 : BitVec 32) (c0_i32_89 : BitVec 32) (X_arg2 : BufTy.Contents (Elt F) arg2.view.ty) (X_arg4 : BufTy.Contents (Elt F) arg4.view.ty) (X_arg5 : BufTy.Contents (Elt F) arg5.view.ty) (X_arg6 : BufTy.Contents (Elt F) arg6.view.ty) (X_arg11 : BufTy.Contents (Elt F) arg11.view.ty) (k : Fin (k0_t3_loop i).trips) (f12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty)
    (L) (hL : L = tripL_k0_t3 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg0 arg1 v118 v119 c4_i32 v120 v122 c0_i32_89 X_arg2 X_arg4 X_arg5 X_arg6 X_arg11 k f12 f13 f14 f15 f16) :
    slots1 arg12 arg13 arg14 arg15 arg16 (arg12.view.writes (Elt F) f12 L.1) (arg13.view.writes (Elt F) f13 L.2.1) (arg14.view.writes (Elt F) f14 L.2.2.1) (arg15.view.writes (Elt F) f15 L.2.2.2.1) (arg16.view.writes (Elt F) f16 L.2.2.2.2)
      = hstage (inp1 arg2 arg4 arg5 arg6 arg11 X_arg2 X_arg4 X_arg5 X_arg6 X_arg11 (Scalar.addi (Scalar.addi v118 (Scalar.muli 4#32 (Scf.iv 0#32 1#32 k.val))) 3#32) (k0_off13_inb i 1) (k0_off14_inb i k 3) (k0_off15_inb i k 3)) (hstage (inp1 arg2 arg4 arg5 arg6 arg11 X_arg2 X_arg4 X_arg5 X_arg6 X_arg11 (Scalar.addi (Scalar.addi v118 (Scalar.muli 4#32 (Scf.iv 0#32 1#32 k.val))) 2#32) (k0_off13_inb i 1) (k0_off14_inb i k 2) (k0_off15_inb i k 2)) (hstage (inp1 arg2 arg4 arg5 arg6 arg11 X_arg2 X_arg4 X_arg5 X_arg6 X_arg11 (Scalar.addi (Scalar.addi v118 (Scalar.muli 4#32 (Scf.iv 0#32 1#32 k.val))) 1#32) (k0_off13_inb i 1) (k0_off14_inb i k 1) (k0_off15_inb i k 1)) (hstage (inp1 arg2 arg4 arg5 arg6 arg11 X_arg2 X_arg4 X_arg5 X_arg6 X_arg11 (Scalar.addi (Scalar.addi v118 (Scalar.muli 4#32 (Scf.iv 0#32 1#32 k.val))) 0#32) (k0_off13_inb i 1) (k0_off14_inb i k 0) (k0_off15_inb i k 0)) (slots1 arg12 arg13 arg14 arg15 arg16 f12 f13 f14 f15 f16)))) := by
  subst hL
  apply HSt.ext
  all_goals
    dsimp only [slots1, hstage, inp1, accum, tripL_k0_t3]
    unfold trip_k0_t3
    dsimp only
    sl_unfold_run_names
    simp (disch := decide) only [↓readAt_writes_self, ↓readAt_writes_skip, ↓View.readCov_cons_toLoadRect, ↓View.readCov_skip]
    rfl

theorem trip_t5_head0 (𝒱 : Variants) (c : Dev nD) (bd : Option 𝒱.V) (i : grid0.Coords) (arg2 : Memref sig .tc .smem S4 .f32) (harg2 : arg2.IsWhole) (arg3 : Memref sig .tc .vmem S256x256 .bf16) (harg3 : arg3.IsWhole) (arg4 : Memref sig .tc .vmem S16384x256 .bf16) (harg4 : arg4.IsWhole) (arg5 : Memref sig .tc .vmem S2x128x16384 .bf16) (harg5 : arg5.IsWhole) (arg6 : Memref sig .tc .vmem S2x256x128 .bf16) (harg6 : arg6.IsWhole) (arg7 : Memref sig .tc .vmem S2x256x512 .f32) (harg7 : arg7.IsWhole) (arg8 : Memref sig .tc .vmem S4x64 .f32) (harg8 : arg8.IsWhole) (arg9 : Memref sig .tc .vmem S1x128 .f32) (harg9 : arg9.IsWhole) (arg10 : Memref sig .tc .vmem S256x256 .bf16) (harg10 : arg10.IsWhole) (arg11 : Memref sig .tc .vmem S2x256x512 .bf16) (harg11 : arg11.IsWhole) (arg12 : Memref sig .tc .vmem S2x1x512 .f32) (harg12 : arg12.IsWhole) (arg13 : Memref sig .tc .vmem S2x144x512 .f32) (harg13 : arg13.IsWhole) (arg14 : Memref sig .tc .vmem S2x2x256x512 .f32) (harg14 : arg14.IsWhole) (arg15 : Memref sig .tc .vmem S2x2x256x512 .bf16) (harg15 : arg15.IsWhole) (arg16 : Memref sig .tc .vmem S2x2x1x512 .f32) (harg16 : arg16.IsWhole) (arg0 : BitVec 32) (arg1 : BitVec 32) (v143 : BitVec 32) (v161 : BitVec 32) (c0_i32_107 : BitVec 32) (X_arg2 : BufTy.Contents (Elt F) arg2.view.ty) (X_arg4 : BufTy.Contents (Elt F) arg4.view.ty) (X_arg5 : BufTy.Contents (Elt F) arg5.view.ty) (X_arg6 : BufTy.Contents (Elt F) arg6.view.ty) (X_arg11 : BufTy.Contents (Elt F) arg11.view.ty) (k : Fin (k0_t5_loop i).trips) (f12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty)
    (L) (hL : L = tripL_k0_t5 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg0 arg1 v143 v161 c0_i32_107 X_arg2 X_arg4 X_arg5 X_arg6 X_arg11 k f12 f13 f14 f15 f16) :
    slots0 arg12 arg13 arg14 arg15 arg16 (arg12.view.writes (Elt F) f12 L.1) (arg13.view.writes (Elt F) f13 L.2.1) (arg14.view.writes (Elt F) f14 L.2.2.1) (arg15.view.writes (Elt F) f15 L.2.2.2.1) (arg16.view.writes (Elt F) f16 L.2.2.2.2)
      = hstage (inp0 arg2 arg4 arg5 arg6 arg11 X_arg2 X_arg4 X_arg5 X_arg6 X_arg11 (Scalar.addi (Scalar.addi v143 (Scalar.muli 2#32 (Scf.iv c0_i32_107 1#32 k.val))) 1#32) (k0_off23_inb i 0) (k0_off21_inb i k 1) (k0_off22_inb i k 1)) (hstage (inp0 arg2 arg4 arg5 arg6 arg11 X_arg2 X_arg4 X_arg5 X_arg6 X_arg11 (Scalar.addi (Scalar.addi v143 (Scalar.muli 2#32 (Scf.iv c0_i32_107 1#32 k.val))) 0#32) (k0_off23_inb i 0) (k0_off21_inb i k 0) (k0_off22_inb i k 0)) (slots0 arg12 arg13 arg14 arg15 arg16 f12 f13 f14 f15 f16)) := by
  subst hL
  apply HSt.ext
  all_goals
    dsimp only [slots0, hstage, inp0, accum, tripL_k0_t5]
    unfold trip_k0_t5
    dsimp only
    sl_unfold_run_names
    simp (disch := decide) only [↓readAt_writes_self, ↓readAt_writes_skip, ↓View.readCov_cons_toLoadRect, ↓View.readCov_skip]
    rfl

theorem trip_t5_head1 (𝒱 : Variants) (c : Dev nD) (bd : Option 𝒱.V) (i : grid0.Coords) (arg2 : Memref sig .tc .smem S4 .f32) (harg2 : arg2.IsWhole) (arg3 : Memref sig .tc .vmem S256x256 .bf16) (harg3 : arg3.IsWhole) (arg4 : Memref sig .tc .vmem S16384x256 .bf16) (harg4 : arg4.IsWhole) (arg5 : Memref sig .tc .vmem S2x128x16384 .bf16) (harg5 : arg5.IsWhole) (arg6 : Memref sig .tc .vmem S2x256x128 .bf16) (harg6 : arg6.IsWhole) (arg7 : Memref sig .tc .vmem S2x256x512 .f32) (harg7 : arg7.IsWhole) (arg8 : Memref sig .tc .vmem S4x64 .f32) (harg8 : arg8.IsWhole) (arg9 : Memref sig .tc .vmem S1x128 .f32) (harg9 : arg9.IsWhole) (arg10 : Memref sig .tc .vmem S256x256 .bf16) (harg10 : arg10.IsWhole) (arg11 : Memref sig .tc .vmem S2x256x512 .bf16) (harg11 : arg11.IsWhole) (arg12 : Memref sig .tc .vmem S2x1x512 .f32) (harg12 : arg12.IsWhole) (arg13 : Memref sig .tc .vmem S2x144x512 .f32) (harg13 : arg13.IsWhole) (arg14 : Memref sig .tc .vmem S2x2x256x512 .f32) (harg14 : arg14.IsWhole) (arg15 : Memref sig .tc .vmem S2x2x256x512 .bf16) (harg15 : arg15.IsWhole) (arg16 : Memref sig .tc .vmem S2x2x1x512 .f32) (harg16 : arg16.IsWhole) (arg0 : BitVec 32) (arg1 : BitVec 32) (v143 : BitVec 32) (v161 : BitVec 32) (c0_i32_107 : BitVec 32) (X_arg2 : BufTy.Contents (Elt F) arg2.view.ty) (X_arg4 : BufTy.Contents (Elt F) arg4.view.ty) (X_arg5 : BufTy.Contents (Elt F) arg5.view.ty) (X_arg6 : BufTy.Contents (Elt F) arg6.view.ty) (X_arg11 : BufTy.Contents (Elt F) arg11.view.ty) (k : Fin (k0_t5_loop i).trips) (f12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty)
    (L) (hL : L = tripL_k0_t5 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg0 arg1 v143 v161 c0_i32_107 X_arg2 X_arg4 X_arg5 X_arg6 X_arg11 k f12 f13 f14 f15 f16) :
    slots1 arg12 arg13 arg14 arg15 arg16 (arg12.view.writes (Elt F) f12 L.1) (arg13.view.writes (Elt F) f13 L.2.1) (arg14.view.writes (Elt F) f14 L.2.2.1) (arg15.view.writes (Elt F) f15 L.2.2.2.1) (arg16.view.writes (Elt F) f16 L.2.2.2.2)
      = hstage (inp1 arg2 arg4 arg5 arg6 arg11 X_arg2 X_arg4 X_arg5 X_arg6 X_arg11 (Scalar.addi (Scalar.addi v143 (Scalar.muli 2#32 (Scf.iv c0_i32_107 1#32 k.val))) 1#32) (k0_off23_inb i 1) (k0_off24_inb i k 1) (k0_off25_inb i k 1)) (hstage (inp1 arg2 arg4 arg5 arg6 arg11 X_arg2 X_arg4 X_arg5 X_arg6 X_arg11 (Scalar.addi (Scalar.addi v143 (Scalar.muli 2#32 (Scf.iv c0_i32_107 1#32 k.val))) 0#32) (k0_off23_inb i 1) (k0_off24_inb i k 0) (k0_off25_inb i k 0)) (slots1 arg12 arg13 arg14 arg15 arg16 f12 f13 f14 f15 f16)) := by
  subst hL
  apply HSt.ext
  all_goals
    dsimp only [slots1, hstage, inp1, accum, tripL_k0_t5]
    unfold trip_k0_t5
    dsimp only
    sl_unfold_run_names
    simp (disch := decide) only [↓readAt_writes_self, ↓readAt_writes_skip, ↓View.readCov_cons_toLoadRect, ↓View.readCov_skip]
    rfl

end Cert.KernelIdeal.Gen

end
-- ==== Proof.Hand.TripLong.lean ====
/- What one trip of each unrolled loop does to each head's part of the scratch buffers: as many stages as the loop unrolls. -/
module

public import proofs.«01_k».proof.Proof.Gen.KernelIdeal.Loops
public import proofs.«01_k».proof.Proof.Hand.Slots
public import Idealize.ShloMosaic.Lib.Tactic

@[expose] public section

set_option maxRecDepth 16384

noncomputable section

namespace Cert.KernelIdeal.Gen

open Idealize.ShloMosaic Idealize.ShloMosaic.TcCoe Idealize.ShloMosaic.Tactic
open Idealize.SL.Sem

variable {F : FTy → Type} [FloatOps F] [Named F]

theorem trip_t1_head0 (𝒱 : Variants) (c : Dev nD) (bd : Option 𝒱.V) (i : grid0.Coords) (arg2 : Memref sig .tc .smem S4 .f32) (harg2 : arg2.IsWhole) (arg3 : Memref sig .tc .vmem S256x256 .bf16) (harg3 : arg3.IsWhole) (arg4 : Memref sig .tc .vmem S16384x256 .bf16) (harg4 : arg4.IsWhole) (arg5 : Memref sig .tc .vmem S2x128x16384 .bf16) (harg5 : arg5.IsWhole) (arg6 : Memref sig .tc .vmem S2x256x128 .bf16) (harg6 : arg6.IsWhole) (arg7 : Memref sig .tc .vmem S2x256x512 .f32) (harg7 : arg7.IsWhole) (arg8 : Memref sig .tc .vmem S4x64 .f32) (harg8 : arg8.IsWhole) (arg9 : Memref sig .tc .vmem S1x128 .f32) (harg9 : arg9.IsWhole) (arg10 : Memref sig .tc .vmem S256x256 .bf16) (harg10 : arg10.IsWhole) (arg11 : Memref sig .tc .vmem S2x256x512 .bf16) (harg11 : arg11.IsWhole) (arg12 : Memref sig .tc .vmem S2x1x512 .f32) (harg12 : arg12.IsWhole) (arg13 : Memref sig .tc .vmem S2x144x512 .f32) (harg13 : arg13.IsWhole) (arg14 : Memref sig .tc .vmem S2x2x256x512 .f32) (harg14 : arg14.IsWhole) (arg15 : Memref sig .tc .vmem S2x2x256x512 .bf16) (harg15 : arg15.IsWhole) (arg16 : Memref sig .tc .vmem S2x2x1x512 .f32) (harg16 : arg16.IsWhole) (arg0 : BitVec 32) (arg1 : BitVec 32) (v89 : FVec F S1x1x256x512 .bf16) (X_arg2 : BufTy.Contents (Elt F) arg2.view.ty) (X_arg4 : BufTy.Contents (Elt F) arg4.view.ty) (X_arg5 : BufTy.Contents (Elt F) arg5.view.ty) (X_arg6 : BufTy.Contents (Elt F) arg6.view.ty) (X_arg11 : BufTy.Contents (Elt F) arg11.view.ty) (k : Fin (k0_t1_loop i).trips) (f12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty)
    (L) (hL : L = tripL_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg0 arg1 v89 X_arg2 X_arg4 X_arg5 X_arg6 X_arg11 k f12 f13 f14 f15 f16) :
    slots0 arg12 arg13 arg14 arg15 arg16 (arg12.view.writes (Elt F) f12 L.1) (arg13.view.writes (Elt F) f13 L.2.1) (arg14.view.writes (Elt F) f14 L.2.2.1) (arg15.view.writes (Elt F) f15 L.2.2.2.1) (arg16.view.writes (Elt F) f16 L.2.2.2.2)
      = hstage (inp0 arg2 arg4 arg5 arg6 arg11 X_arg2 X_arg4 X_arg5 X_arg6 X_arg11 (Scalar.addi (Scalar.addi 0#32 (Scalar.muli 8#32 (Scf.iv 0#32 1#32 k.val))) 7#32) (k0_off3_inb i 0) (k0_off1_inb i k 7) (k0_off2_inb i k 7)) (hstage (inp0 arg2 arg4 arg5 arg6 arg11 X_arg2 X_arg4 X_arg5 X_arg6 X_arg11 (Scalar.addi (Scalar.addi 0#32 (Scalar.muli 8#32 (Scf.iv 0#32 1#32 k.val))) 6#32) (k0_off3_inb i 0) (k0_off1_inb i k 6) (k0_off2_inb i k 6)) (hstage (inp0 arg2 arg4 arg5 arg6 arg11 X_arg2 X_arg4 X_arg5 X_arg6 X_arg11 (Scalar.addi (Scalar.addi 0#32 (Scalar.muli 8#32 (Scf.iv 0#32 1#32 k.val))) 5#32) (k0_off3_inb i 0) (k0_off1_inb i k 5) (k0_off2_inb i k 5)) (hstage (inp0 arg2 arg4 arg5 arg6 arg11 X_arg2 X_arg4 X_arg5 X_arg6 X_arg11 (Scalar.addi (Scalar.addi 0#32 (Scalar.muli 8#32 (Scf.iv 0#32 1#32 k.val))) 4#32) (k0_off3_inb i 0) (k0_off1_inb i k 4) (k0_off2_inb i k 4)) (hstage (inp0 arg2 arg4 arg5 arg6 arg11 X_arg2 X_arg4 X_arg5 X_arg6 X_arg11 (Scalar.addi (Scalar.addi 0#32 (Scalar.muli 8#32 (Scf.iv 0#32 1#32 k.val))) 3#32) (k0_off3_inb i 0) (k0_off1_inb i k 3) (k0_off2_inb i k 3)) (hstage (inp0 arg2 arg4 arg5 arg6 arg11 X_arg2 X_arg4 X_arg5 X_arg6 X_arg11 (Scalar.addi (Scalar.addi 0#32 (Scalar.muli 8#32 (Scf.iv 0#32 1#32 k.val))) 2#32) (k0_off3_inb i 0) (k0_off1_inb i k 2) (k0_off2_inb i k 2)) (hstage (inp0 arg2 arg4 arg5 arg6 arg11 X_arg2 X_arg4 X_arg5 X_arg6 X_arg11 (Scalar.addi (Scalar.addi 0#32 (Scalar.muli 8#32 (Scf.iv 0#32 1#32 k.val))) 1#32) (k0_off3_inb i 0) (k0_off1_inb i k 1) (k0_off2_inb i k 1)) (hstage (inp0 arg2 arg4 arg5 arg6 arg11 X_arg2 X_arg4 X_arg5 X_arg6 X_arg11 (Scalar.addi (Scalar.addi 0#32 (Scalar.muli 8#32 (Scf.iv 0#32 1#32 k.val))) 0#32) (k0_off3_inb i 0) (k0_off1_inb i k 0) (k0_off2_inb i k 0)) (slots0 arg12 arg13 arg14 arg15 arg16 f12 f13 f14 f15 f16)))))))) := by
  subst hL
  apply HSt.ext
  all_goals
    dsimp only [slots0, hstage, inp0, accum, tripL_k0_t1]
    unfold trip_k0_t1
    dsimp only
    sl_unfold_run_names
    simp (disch := decide) only [↓readAt_writes_self, ↓readAt_writes_skip, ↓View.readCov_cons_toLoadRect, ↓View.readCov_skip]
    rfl

theorem trip_t1_head1 (𝒱 : Variants) (c : Dev nD) (bd : Option 𝒱.V) (i : grid0.Coords) (arg2 : Memref sig .tc .smem S4 .f32) (harg2 : arg2.IsWhole) (arg3 : Memref sig .tc .vmem S256x256 .bf16) (harg3 : arg3.IsWhole) (arg4 : Memref sig .tc .vmem S16384x256 .bf16) (harg4 : arg4.IsWhole) (arg5 : Memref sig .tc .vmem S2x128x16384 .bf16) (harg5 : arg5.IsWhole) (arg6 : Memref sig .tc .vmem S2x256x128 .bf16) (harg6 : arg6.IsWhole) (arg7 : Memref sig .tc .vmem S2x256x512 .f32) (harg7 : arg7.IsWhole) (arg8 : Memref sig .tc .vmem S4x64 .f32) (harg8 : arg8.IsWhole) (arg9 : Memref sig .tc .vmem S1x128 .f32) (harg9 : arg9.IsWhole) (arg10 : Memref sig .tc .vmem S256x256 .bf16) (harg10 : arg10.IsWhole) (arg11 : Memref sig .tc .vmem S2x256x512 .bf16) (harg11 : arg11.IsWhole) (arg12 : Memref sig .tc .vmem S2x1x512 .f32) (harg12 : arg12.IsWhole) (arg13 : Memref sig .tc .vmem S2x144x512 .f32) (harg13 : arg13.IsWhole) (arg14 : Memref sig .tc .vmem S2x2x256x512 .f32) (harg14 : arg14.IsWhole) (arg15 : Memref sig .tc .vmem S2x2x256x512 .bf16) (harg15 : arg15.IsWhole) (arg16 : Memref sig .tc .vmem S2x2x1x512 .f32) (harg16 : arg16.IsWhole) (arg0 : BitVec 32) (arg1 : BitVec 32) (v89 : FVec F S1x1x256x512 .bf16) (X_arg2 : BufTy.Contents (Elt F) arg2.view.ty) (X_arg4 : BufTy.Contents (Elt F) arg4.view.ty) (X_arg5 : BufTy.Contents (Elt F) arg5.view.ty) (X_arg6 : BufTy.Contents (Elt F) arg6.view.ty) (X_arg11 : BufTy.Contents (Elt F) arg11.view.ty) (k : Fin (k0_t1_loop i).trips) (f12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty)
    (L) (hL : L = tripL_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg0 arg1 v89 X_arg2 X_arg4 X_arg5 X_arg6 X_arg11 k f12 f13 f14 f15 f16) :
    slots1 arg12 arg13 arg14 arg15 arg16 (arg12.view.writes (Elt F) f12 L.1) (arg13.view.writes (Elt F) f13 L.2.1) (arg14.view.writes (Elt F) f14 L.2.2.1) (arg15.view.writes (Elt F) f15 L.2.2.2.1) (arg16.view.writes (Elt F) f16 L.2.2.2.2)
      = hstage (inp1 arg2 arg4 arg5 arg6 arg11 X_arg2 X_arg4 X_arg5 X_arg6 X_arg11 (Scalar.addi (Scalar.addi 0#32 (Scalar.muli 8#32 (Scf.iv 0#32 1#32 k.val))) 7#32) (k0_off3_inb i 1) (k0_off4_inb i k 7) (k0_off5_inb i k 7)) (hstage (inp1 arg2 arg4 arg5 arg6 arg11 X_arg2 X_arg4 X_arg5 X_arg6 X_arg11 (Scalar.addi (Scalar.addi 0#32 (Scalar.muli 8#32 (Scf.iv 0#32 1#32 k.val))) 6#32) (k0_off3_inb i 1) (k0_off4_inb i k 6) (k0_off5_inb i k 6)) (hstage (inp1 arg2 arg4 arg5 arg6 arg11 X_arg2 X_arg4 X_arg5 X_arg6 X_arg11 (Scalar.addi (Scalar.addi 0#32 (Scalar.muli 8#32 (Scf.iv 0#32 1#32 k.val))) 5#32) (k0_off3_inb i 1) (k0_off4_inb i k 5) (k0_off5_inb i k 5)) (hstage (inp1 arg2 arg4 arg5 arg6 arg11 X_arg2 X_arg4 X_arg5 X_arg6 X_arg11 (Scalar.addi (Scalar.addi 0#32 (Scalar.muli 8#32 (Scf.iv 0#32 1#32 k.val))) 4#32) (k0_off3_inb i 1) (k0_off4_inb i k 4) (k0_off5_inb i k 4)) (hstage (inp1 arg2 arg4 arg5 arg6 arg11 X_arg2 X_arg4 X_arg5 X_arg6 X_arg11 (Scalar.addi (Scalar.addi 0#32 (Scalar.muli 8#32 (Scf.iv 0#32 1#32 k.val))) 3#32) (k0_off3_inb i 1) (k0_off4_inb i k 3) (k0_off5_inb i k 3)) (hstage (inp1 arg2 arg4 arg5 arg6 arg11 X_arg2 X_arg4 X_arg5 X_arg6 X_arg11 (Scalar.addi (Scalar.addi 0#32 (Scalar.muli 8#32 (Scf.iv 0#32 1#32 k.val))) 2#32) (k0_off3_inb i 1) (k0_off4_inb i k 2) (k0_off5_inb i k 2)) (hstage (inp1 arg2 arg4 arg5 arg6 arg11 X_arg2 X_arg4 X_arg5 X_arg6 X_arg11 (Scalar.addi (Scalar.addi 0#32 (Scalar.muli 8#32 (Scf.iv 0#32 1#32 k.val))) 1#32) (k0_off3_inb i 1) (k0_off4_inb i k 1) (k0_off5_inb i k 1)) (hstage (inp1 arg2 arg4 arg5 arg6 arg11 X_arg2 X_arg4 X_arg5 X_arg6 X_arg11 (Scalar.addi (Scalar.addi 0#32 (Scalar.muli 8#32 (Scf.iv 0#32 1#32 k.val))) 0#32) (k0_off3_inb i 1) (k0_off4_inb i k 0) (k0_off5_inb i k 0)) (slots1 arg12 arg13 arg14 arg15 arg16 f12 f13 f14 f15 f16)))))))) := by
  subst hL
  apply HSt.ext
  all_goals
    dsimp only [slots1, hstage, inp1, accum, tripL_k0_t1]
    unfold trip_k0_t1
    dsimp only
    sl_unfold_run_names
    simp (disch := decide) only [↓readAt_writes_self, ↓readAt_writes_skip, ↓View.readCov_cons_toLoadRect, ↓View.readCov_skip]
    rfl

end Cert.KernelIdeal.Gen

end
-- ==== Proof.Hand.Offsets.lean ====
/- Where the stages of the three unrolled loops read: in closed form, by the number of the stage. -/
module

public import proofs.«01_k».proof.Proof.Hand.Slots

@[expose] public section

set_option maxRecDepth 16384

noncomputable section

namespace Cert.KernelIdeal.Gen

open Idealize.ShloMosaic Idealize.SL.Sem

/-- The first stage of the loop of four stages a trip, -/
def base3 (i : grid0.Coords) : ℕ := 8 * ((i 1).val / 8)
/-- and of the loop of two stages a trip. -/
def base5 (i : grid0.Coords) : ℕ := 8 * ((i 1).val / 8) + 4 * ((i 1).val % 8 / 4)

theorem trips_eq : ∀ i : grid0.Coords, (k0_t1_loop i).trips = (i 1).val / 8 ∧ (k0_t3_loop i).trips = (i 1).val % 8 / 4 ∧ (k0_t5_loop i).trips = (i 1).val % 4 / 2
    ∧ (k0_t2_loop i).trips = 0 ∧ (k0_t4_loop i).trips = 0 ∧ (k0_t6_loop i).trips = 0 := by
  decide +kernel

/-- Where stage `j` of head `h` reads the next block of keys, -/
def o4At (h j : ℕ) : Fin 2 → ℕ := ![256 * (min j 62 + 1), 128 * h]
/-- the block of values before, -/
def o5At (h j : ℕ) : Fin 3 → ℕ := ![h, 0, 256 * (min j 62 - 1)]
/-- and the slope. -/
def o2At (h : ℕ) (i : grid0.Coords) : Fin 1 → ℕ := ![2 * (i 0).val + h]

theorem offs1 : ∀ (i : grid0.Coords) (k : Fin (k0_t1_loop i).trips) (u : Fin 8),
    k0_off1 i k (BitVec.ofNat 32 u.val) = o4At 0 (0 + 8 * k.val + u.val) ∧ k0_off2 i k (BitVec.ofNat 32 u.val) = o5At 0 (0 + 8 * k.val + u.val)
      ∧ k0_off4 i k (BitVec.ofNat 32 u.val) = o4At 1 (0 + 8 * k.val + u.val) ∧ k0_off5 i k (BitVec.ofNat 32 u.val) = o5At 1 (0 + 8 * k.val + u.val) := by
  decide +kernel

theorem offs3 : ∀ (i : grid0.Coords) (k : Fin (k0_t3_loop i).trips) (u : Fin 4),
    k0_off11 i k (BitVec.ofNat 32 u.val) = o4At 0 (base3 i + 4 * k.val + u.val) ∧ k0_off12 i k (BitVec.ofNat 32 u.val) = o5At 0 (base3 i + 4 * k.val + u.val)
      ∧ k0_off14 i k (BitVec.ofNat 32 u.val) = o4At 1 (base3 i + 4 * k.val + u.val) ∧ k0_off15 i k (BitVec.ofNat 32 u.val) = o5At 1 (base3 i + 4 * k.val + u.val) := by
  decide +kernel

theorem offs5 : ∀ (i : grid0.Coords) (k : Fin (k0_t5_loop i).trips) (u : Fin 2),
    k0_off21 i k (BitVec.ofNat 32 u.val) = o4At 0 (base5 i + 2 * k.val + u.val) ∧ k0_off22 i k (BitVec.ofNat 32 u.val) = o5At 0 (base5 i + 2 * k.val + u.val)
      ∧ k0_off24 i k (BitVec.ofNat 32 u.val) = o4At 1 (base5 i + 2 * k.val + u.val) ∧ k0_off25 i k (BitVec.ofNat 32 u.val) = o5At 1 (base5 i + 2 * k.val + u.val) := by
  decide +kernel

theorem slopes_at : ∀ (i : grid0.Coords) (h : Fin 2), k0_off3 i (BitVec.ofNat 32 h.val) = o2At h.val i ∧ k0_off13 i (BitVec.ofNat 32 h.val) = o2At h.val i
    ∧ k0_off23 i (BitVec.ofNat 32 h.val) = o2At h.val i := by
  decide +kernel

theorem o4At_inb (h : Fin 2) (j : ℕ) : ∀ a, o4At h.val j a + S256x128.size a ≤ S16384x256.size a := by
  have := h.isLt
  intro a; fin_cases a <;> simp [o4At, S256x128, S16384x256] <;> omega

theorem o5At_inb (h : Fin 2) (j : ℕ) : ∀ a, o5At h.val j a + S1x128x256.size a ≤ S2x128x16384.size a := by
  have := h.isLt
  intro a; fin_cases a <;> simp [o5At, S1x128x256, S2x128x16384] <;> omega

theorem o2At_inb : ∀ (i : grid0.Coords) (h : Fin 2), ∀ a, o2At h.val i a + S1.size a ≤ S4.size a := by
  decide +kernel

/-- The word of a stage is the stage's number. -/
theorem stage_word (b n k u : ℕ) :
    Scalar.addi (Scalar.addi (BitVec.ofNat 32 b) (Scalar.muli (BitVec.ofNat 32 n) (Scf.iv 0#32 1#32 k))) (BitVec.ofNat 32 u) = BitVec.ofNat 32 (b + n * k + u) := by
  simp [Scalar.addi, Scalar.muli, Scf.iv, IntOp.addi, IntOp.muli, BitVec.ofNat_add, BitVec.ofNat_mul]

variable {F : FTy → Type} [FloatOps F] [Named F]

section Inputs

variable (arg2 : Memref sig .tc .smem S4 .f32) (arg4 : Memref sig .tc .vmem S16384x256 .bf16) (arg5 : Memref sig .tc .vmem S2x128x16384 .bf16) (arg6 : Memref sig .tc .vmem S2x256x128 .bf16) (arg11 : Memref sig .tc .vmem S2x256x512 .bf16)
  (X2 : BufTy.Contents (Elt F) arg2.view.ty) (X4 : BufTy.Contents (Elt F) arg4.view.ty) (X5 : BufTy.Contents (Elt F) arg5.view.ty) (X6 : BufTy.Contents (Elt F) arg6.view.ty) (X11 : BufTy.Contents (Elt F) arg11.view.ty)
  (i : grid0.Coords)

/-- What stage `j` reads for head 0, -/
def at0 (j : ℕ) : Inp F :=
  inp0 arg2 arg4 arg5 arg6 arg11 X2 X4 X5 X6 X11 (BitVec.ofNat 32 j) (o2At_inb i 0) (o4At_inb 0 j) (o5At_inb 0 j)

/-- and for head 1. -/
def at1 (j : ℕ) : Inp F :=
  inp1 arg2 arg4 arg5 arg6 arg11 X2 X4 X5 X6 X11 (BitVec.ofNat 32 j) (o2At_inb i 1) (o4At_inb 1 j) (o5At_inb 1 j)

theorem inp0_at (j : ℕ) (w : BitVec 32) (hw : w = BitVec.ofNat 32 j) {o2 : Fin 1 → ℕ} (h2 : ∀ a, o2 a + S1.size a ≤ S4.size a) {o4 : Fin 2 → ℕ} (h4 : ∀ a, o4 a + S256x128.size a ≤ S16384x256.size a)
    {o5 : Fin 3 → ℕ} (h5 : ∀ a, o5 a + S1x128x256.size a ≤ S2x128x16384.size a) (e2 : o2 = o2At 0 i) (e4 : o4 = o4At 0 j) (e5 : o5 = o5At 0 j) :
    inp0 arg2 arg4 arg5 arg6 arg11 X2 X4 X5 X6 X11 w h2 h4 h5 = at0 arg2 arg4 arg5 arg6 arg11 X2 X4 X5 X6 X11 i j := by
  subst hw e2 e4 e5; rfl

theorem inp1_at (j : ℕ) (w : BitVec 32) (hw : w = BitVec.ofNat 32 j) {o2 : Fin 1 → ℕ} (h2 : ∀ a, o2 a + S1.size a ≤ S4.size a) {o4 : Fin 2 → ℕ} (h4 : ∀ a, o4 a + S256x128.size a ≤ S16384x256.size a)
    {o5 : Fin 3 → ℕ} (h5 : ∀ a, o5 a + S1x128x256.size a ≤ S2x128x16384.size a) (e2 : o2 = o2At 1 i) (e4 : o4 = o4At 1 j) (e5 : o5 = o5At 1 j) :
    inp1 arg2 arg4 arg5 arg6 arg11 X2 X4 X5 X6 X11 w h2 h4 h5 = at1 arg2 arg4 arg5 arg6 arg11 X2 X4 X5 X6 X11 i j := by
  subst hw e2 e4 e5; rfl

end Inputs

end Cert.KernelIdeal.Gen

end
-- ==== Proof.Hand.Rounds.lean ====
/- The three unrolled loops, trip after trip: each head runs through the stages in order. -/
module

public import proofs.«01_k».proof.Proof.Hand.Trips
public import proofs.«01_k».proof.Proof.Hand.TripLong
public import proofs.«01_k».proof.Proof.Hand.Offsets
public import Idealize.ShloMosaic.Lib.Writes

@[expose] public section

set_option maxRecDepth 16384

noncomputable section

namespace Cert.KernelIdeal.Gen

open Idealize.ShloMosaic Idealize.ShloMosaic.TcCoe Idealize.SL.Sem

variable {F : FTy → Type} [FloatOps F] [Named F]

/-- The loop of 8 stages a trip, before trip `n`, for head 0. -/
theorem loop_t1_head0 (𝒱 : Variants) (c : Dev nD) (bd : Option 𝒱.V) (i : grid0.Coords) (arg2 : Memref sig .tc .smem S4 .f32) (harg2 : arg2.IsWhole) (arg3 : Memref sig .tc .vmem S256x256 .bf16) (harg3 : arg3.IsWhole) (arg4 : Memref sig .tc .vmem S16384x256 .bf16) (harg4 : arg4.IsWhole) (arg5 : Memref sig .tc .vmem S2x128x16384 .bf16) (harg5 : arg5.IsWhole) (arg6 : Memref sig .tc .vmem S2x256x128 .bf16) (harg6 : arg6.IsWhole) (arg7 : Memref sig .tc .vmem S2x256x512 .f32) (harg7 : arg7.IsWhole) (arg8 : Memref sig .tc .vmem S4x64 .f32) (harg8 : arg8.IsWhole) (arg9 : Memref sig .tc .vmem S1x128 .f32) (harg9 : arg9.IsWhole) (arg10 : Memref sig .tc .vmem S256x256 .bf16) (harg10 : arg10.IsWhole) (arg11 : Memref sig .tc .vmem S2x256x512 .bf16) (harg11 : arg11.IsWhole) (arg12 : Memref sig .tc .vmem S2x1x512 .f32) (harg12 : arg12.IsWhole) (arg13 : Memref sig .tc .vmem S2x144x512 .f32) (harg13 : arg13.IsWhole) (arg14 : Memref sig .tc .vmem S2x2x256x512 .f32) (harg14 : arg14.IsWhole) (arg15 : Memref sig .tc .vmem S2x2x256x512 .bf16) (harg15 : arg15.IsWhole) (arg16 : Memref sig .tc .vmem S2x2x1x512 .f32) (harg16 : arg16.IsWhole) (arg0 : BitVec 32) (arg1 : BitVec 32) (v89 : FVec F S1x1x256x512 .bf16) (X_arg2 : BufTy.Contents (Elt F) arg2.view.ty) (X_arg4 : BufTy.Contents (Elt F) arg4.view.ty) (X_arg5 : BufTy.Contents (Elt F) arg5.view.ty) (X_arg6 : BufTy.Contents (Elt F) arg6.view.ty) (X_arg11 : BufTy.Contents (Elt F) arg11.view.ty)  (G12 : BufTy.Contents (Elt F) arg12.view.ty) (G13 : BufTy.Contents (Elt F) arg13.view.ty) (G14 : BufTy.Contents (Elt F) arg14.view.ty) (G15 : BufTy.Contents (Elt F) arg15.view.ty) (G16 : BufTy.Contents (Elt F) arg16.view.ty) :
    ∀ n ≤ (k0_t1_loop i).trips, ∀ P, P = pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg0 arg1 v89 X_arg2 X_arg4 X_arg5 X_arg6 X_arg11 G12 G13 G14 G15 G16 n →
      slots0 arg12 arg13 arg14 arg15 arg16 (arg12.view.writes (Elt F) G12 P.1) (arg13.view.writes (Elt F) G13 P.2.1) (arg14.view.writes (Elt F) G14 P.2.2.1) (arg15.view.writes (Elt F) G15 P.2.2.2.1) (arg16.view.writes (Elt F) G16 P.2.2.2.2)
        = hrun (fun j => at0 arg2 arg4 arg5 arg6 arg11 X_arg2 X_arg4 X_arg5 X_arg6 X_arg11 i (0 + j)) (8 * n) (slots0 arg12 arg13 arg14 arg15 arg16 G12 G13 G14 G15 G16)
  | 0, _, P, hP => by subst hP; rfl
  | n + 1, hn, P, hP => by
    have ih := loop_t1_head0 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg0 arg1 v89 X_arg2 X_arg4 X_arg5 X_arg6 X_arg11  G12 G13 G14 G15 G16 n (by omega) _ rfl
    rw [pb_k0_t1_succ (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg0 arg1 v89 X_arg2 X_arg4 X_arg5 X_arg6 X_arg11 G12 G13 G14 G15 G16 ⟨n, hn⟩] at hP
    subst hP
    dsimp only
    simp only [View.writes_append]
    refine (trip_t1_head0 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg0 arg1 v89 X_arg2 X_arg4 X_arg5 X_arg6 X_arg11 ⟨n, hn⟩ _ _ _ _ _ _ rfl).trans ?_
    rw [ih, Nat.mul_succ, hrun_add]
    rw [inp0_at arg2 arg4 arg5 arg6 arg11 X_arg2 X_arg4 X_arg5 X_arg6 X_arg11 i (0 + 8 * n + 0) _ (stage_word (0) 8 n 0) _ _ _ (slopes_at i 0).1 (offs1 i ⟨n, hn⟩ 0).1 (offs1 i ⟨n, hn⟩ 0).2.1]
    rw [inp0_at arg2 arg4 arg5 arg6 arg11 X_arg2 X_arg4 X_arg5 X_arg6 X_arg11 i (0 + 8 * n + 1) _ (stage_word (0) 8 n 1) _ _ _ (slopes_at i 0).1 (offs1 i ⟨n, hn⟩ 1).1 (offs1 i ⟨n, hn⟩ 1).2.1]
    rw [inp0_at arg2 arg4 arg5 arg6 arg11 X_arg2 X_arg4 X_arg5 X_arg6 X_arg11 i (0 + 8 * n + 2) _ (stage_word (0) 8 n 2) _ _ _ (slopes_at i 0).1 (offs1 i ⟨n, hn⟩ 2).1 (offs1 i ⟨n, hn⟩ 2).2.1]
    rw [inp0_at arg2 arg4 arg5 arg6 arg11 X_arg2 X_arg4 X_arg5 X_arg6 X_arg11 i (0 + 8 * n + 3) _ (stage_word (0) 8 n 3) _ _ _ (slopes_at i 0).1 (offs1 i ⟨n, hn⟩ 3).1 (offs1 i ⟨n, hn⟩ 3).2.1]
    rw [inp0_at arg2 arg4 arg5 arg6 arg11 X_arg2 X_arg4 X_arg5 X_arg6 X_arg11 i (0 + 8 * n + 4) _ (stage_word (0) 8 n 4) _ _ _ (slopes_at i 0).1 (offs1 i ⟨n, hn⟩ 4).1 (offs1 i ⟨n, hn⟩ 4).2.1]
    rw [inp0_at arg2 arg4 arg5 arg6 arg11 X_arg2 X_arg4 X_arg5 X_arg6 X_arg11 i (0 + 8 * n + 5) _ (stage_word (0) 8 n 5) _ _ _ (slopes_at i 0).1 (offs1 i ⟨n, hn⟩ 5).1 (offs1 i ⟨n, hn⟩ 5).2.1]
    rw [inp0_at arg2 arg4 arg5 arg6 arg11 X_arg2 X_arg4 X_arg5 X_arg6 X_arg11 i (0 + 8 * n + 6) _ (stage_word (0) 8 n 6) _ _ _ (slopes_at i 0).1 (offs1 i ⟨n, hn⟩ 6).1 (offs1 i ⟨n, hn⟩ 6).2.1]
    rw [inp0_at arg2 arg4 arg5 arg6 arg11 X_arg2 X_arg4 X_arg5 X_arg6 X_arg11 i (0 + 8 * n + 7) _ (stage_word (0) 8 n 7) _ _ _ (slopes_at i 0).1 (offs1 i ⟨n, hn⟩ 7).1 (offs1 i ⟨n, hn⟩ 7).2.1]
    simp only [hrun, Nat.add_assoc, Nat.add_zero, Nat.zero_add]

/-- The loop of 8 stages a trip, before trip `n`, for head 1. -/
theorem loop_t1_head1 (𝒱 : Variants) (c : Dev nD) (bd : Option 𝒱.V) (i : grid0.Coords) (arg2 : Memref sig .tc .smem S4 .f32) (harg2 : arg2.IsWhole) (arg3 : Memref sig .tc .vmem S256x256 .bf16) (harg3 : arg3.IsWhole) (arg4 : Memref sig .tc .vmem S16384x256 .bf16) (harg4 : arg4.IsWhole) (arg5 : Memref sig .tc .vmem S2x128x16384 .bf16) (harg5 : arg5.IsWhole) (arg6 : Memref sig .tc .vmem S2x256x128 .bf16) (harg6 : arg6.IsWhole) (arg7 : Memref sig .tc .vmem S2x256x512 .f32) (harg7 : arg7.IsWhole) (arg8 : Memref sig .tc .vmem S4x64 .f32) (harg8 : arg8.IsWhole) (arg9 : Memref sig .tc .vmem S1x128 .f32) (harg9 : arg9.IsWhole) (arg10 : Memref sig .tc .vmem S256x256 .bf16) (harg10 : arg10.IsWhole) (arg11 : Memref sig .tc .vmem S2x256x512 .bf16) (harg11 : arg11.IsWhole) (arg12 : Memref sig .tc .vmem S2x1x512 .f32) (harg12 : arg12.IsWhole) (arg13 : Memref sig .tc .vmem S2x144x512 .f32) (harg13 : arg13.IsWhole) (arg14 : Memref sig .tc .vmem S2x2x256x512 .f32) (harg14 : arg14.IsWhole) (arg15 : Memref sig .tc .vmem S2x2x256x512 .bf16) (harg15 : arg15.IsWhole) (arg16 : Memref sig .tc .vmem S2x2x1x512 .f32) (harg16 : arg16.IsWhole) (arg0 : BitVec 32) (arg1 : BitVec 32) (v89 : FVec F S1x1x256x512 .bf16) (X_arg2 : BufTy.Contents (Elt F) arg2.view.ty) (X_arg4 : BufTy.Contents (Elt F) arg4.view.ty) (X_arg5 : BufTy.Contents (Elt F) arg5.view.ty) (X_arg6 : BufTy.Contents (Elt F) arg6.view.ty) (X_arg11 : BufTy.Contents (Elt F) arg11.view.ty)  (G12 : BufTy.Contents (Elt F) arg12.view.ty) (G13 : BufTy.Contents (Elt F) arg13.view.ty) (G14 : BufTy.Contents (Elt F) arg14.view.ty) (G15 : BufTy.Contents (Elt F) arg15.view.ty) (G16 : BufTy.Contents (Elt F) arg16.view.ty) :
    ∀ n ≤ (k0_t1_loop i).trips, ∀ P, P = pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg0 arg1 v89 X_arg2 X_arg4 X_arg5 X_arg6 X_arg11 G12 G13 G14 G15 G16 n →
      slots1 arg12 arg13 arg14 arg15 arg16 (arg12.view.writes (Elt F) G12 P.1) (arg13.view.writes (Elt F) G13 P.2.1) (arg14.view.writes (Elt F) G14 P.2.2.1) (arg15.view.writes (Elt F) G15 P.2.2.2.1) (arg16.view.writes (Elt F) G16 P.2.2.2.2)
        = hrun (fun j => at1 arg2 arg4 arg5 arg6 arg11 X_arg2 X_arg4 X_arg5 X_arg6 X_arg11 i (0 + j)) (8 * n) (slots1 arg12 arg13 arg14 arg15 arg16 G12 G13 G14 G15 G16)
  | 0, _, P, hP => by subst hP; rfl
  | n + 1, hn, P, hP => by
    have ih := loop_t1_head1 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg0 arg1 v89 X_arg2 X_arg4 X_arg5 X_arg6 X_arg11  G12 G13 G14 G15 G16 n (by omega) _ rfl
    rw [pb_k0_t1_succ (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg0 arg1 v89 X_arg2 X_arg4 X_arg5 X_arg6 X_arg11 G12 G13 G14 G15 G16 ⟨n, hn⟩] at hP
    subst hP
    dsimp only
    simp only [View.writes_append]
    refine (trip_t1_head1 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg0 arg1 v89 X_arg2 X_arg4 X_arg5 X_arg6 X_arg11 ⟨n, hn⟩ _ _ _ _ _ _ rfl).trans ?_
    rw [ih, Nat.mul_succ, hrun_add]
    rw [inp1_at arg2 arg4 arg5 arg6 arg11 X_arg2 X_arg4 X_arg5 X_arg6 X_arg11 i (0 + 8 * n + 0) _ (stage_word (0) 8 n 0) _ _ _ (slopes_at i 1).1 (offs1 i ⟨n, hn⟩ 0).2.2.1 (offs1 i ⟨n, hn⟩ 0).2.2.2]
    rw [inp1_at arg2 arg4 arg5 arg6 arg11 X_arg2 X_arg4 X_arg5 X_arg6 X_arg11 i (0 + 8 * n + 1) _ (stage_word (0) 8 n 1) _ _ _ (slopes_at i 1).1 (offs1 i ⟨n, hn⟩ 1).2.2.1 (offs1 i ⟨n, hn⟩ 1).2.2.2]
    rw [inp1_at arg2 arg4 arg5 arg6 arg11 X_arg2 X_arg4 X_arg5 X_arg6 X_arg11 i (0 + 8 * n + 2) _ (stage_word (0) 8 n 2) _ _ _ (slopes_at i 1).1 (offs1 i ⟨n, hn⟩ 2).2.2.1 (offs1 i ⟨n, hn⟩ 2).2.2.2]
    rw [inp1_at arg2 arg4 arg5 arg6 arg11 X_arg2 X_arg4 X_arg5 X_arg6 X_arg11 i (0 + 8 * n + 3) _ (stage_word (0) 8 n 3) _ _ _ (slopes_at i 1).1 (offs1 i ⟨n, hn⟩ 3).2.2.1 (offs1 i ⟨n, hn⟩ 3).2.2.2]
    rw [inp1_at arg2 arg4 arg5 arg6 arg11 X_arg2 X_arg4 X_arg5 X_arg6 X_arg11 i (0 + 8 * n + 4) _ (stage_word (0) 8 n 4) _ _ _ (slopes_at i 1).1 (offs1 i ⟨n, hn⟩ 4).2.2.1 (offs1 i ⟨n, hn⟩ 4).2.2.2]
    rw [inp1_at arg2 arg4 arg5 arg6 arg11 X_arg2 X_arg4 X_arg5 X_arg6 X_arg11 i (0 + 8 * n + 5) _ (stage_word (0) 8 n 5) _ _ _ (slopes_at i 1).1 (offs1 i ⟨n, hn⟩ 5).2.2.1 (offs1 i ⟨n, hn⟩ 5).2.2.2]
    rw [inp1_at arg2 arg4 arg5 arg6 arg11 X_arg2 X_arg4 X_arg5 X_arg6 X_arg11 i (0 + 8 * n + 6) _ (stage_word (0) 8 n 6) _ _ _ (slopes_at i 1).1 (offs1 i ⟨n, hn⟩ 6).2.2.1 (offs1 i ⟨n, hn⟩ 6).2.2.2]
    rw [inp1_at arg2 arg4 arg5 arg6 arg11 X_arg2 X_arg4 X_arg5 X_arg6 X_arg11 i (0 + 8 * n + 7) _ (stage_word (0) 8 n 7) _ _ _ (slopes_at i 1).1 (offs1 i ⟨n, hn⟩ 7).2.2.1 (offs1 i ⟨n, hn⟩ 7).2.2.2]
    simp only [hrun, Nat.add_assoc, Nat.add_zero, Nat.zero_add]

/-- The loop of 4 stages a trip, before trip `n`, for head 0. -/
theorem loop_t3_head0 (𝒱 : Variants) (c : Dev nD) (bd : Option 𝒱.V) (i : grid0.Coords) (arg2 : Memref sig .tc .smem S4 .f32) (harg2 : arg2.IsWhole) (arg3 : Memref sig .tc .vmem S256x256 .bf16) (harg3 : arg3.IsWhole) (arg4 : Memref sig .tc .vmem S16384x256 .bf16) (harg4 : arg4.IsWhole) (arg5 : Memref sig .tc .vmem S2x128x16384 .bf16) (harg5 : arg5.IsWhole) (arg6 : Memref sig .tc .vmem S2x256x128 .bf16) (harg6 : arg6.IsWhole) (arg7 : Memref sig .tc .vmem S2x256x512 .f32) (harg7 : arg7.IsWhole) (arg8 : Memref sig .tc .vmem S4x64 .f32) (harg8 : arg8.IsWhole) (arg9 : Memref sig .tc .vmem S1x128 .f32) (harg9 : arg9.IsWhole) (arg10 : Memref sig .tc .vmem S256x256 .bf16) (harg10 : arg10.IsWhole) (arg11 : Memref sig .tc .vmem S2x256x512 .bf16) (harg11 : arg11.IsWhole) (arg12 : Memref sig .tc .vmem S2x1x512 .f32) (harg12 : arg12.IsWhole) (arg13 : Memref sig .tc .vmem S2x144x512 .f32) (harg13 : arg13.IsWhole) (arg14 : Memref sig .tc .vmem S2x2x256x512 .f32) (harg14 : arg14.IsWhole) (arg15 : Memref sig .tc .vmem S2x2x256x512 .bf16) (harg15 : arg15.IsWhole) (arg16 : Memref sig .tc .vmem S2x2x1x512 .f32) (harg16 : arg16.IsWhole) (arg0 : BitVec 32) (arg1 : BitVec 32) (v118 : BitVec 32) (v119 : BitVec 32) (c4_i32 : BitVec 32) (v120 : BitVec 32) (v122 : BitVec 32) (c0_i32_89 : BitVec 32) (X_arg2 : BufTy.Contents (Elt F) arg2.view.ty) (X_arg4 : BufTy.Contents (Elt F) arg4.view.ty) (X_arg5 : BufTy.Contents (Elt F) arg5.view.ty) (X_arg6 : BufTy.Contents (Elt F) arg6.view.ty) (X_arg11 : BufTy.Contents (Elt F) arg11.view.ty) (hv : v118 = BitVec.ofNat 32 (base3 i)) (G12 : BufTy.Contents (Elt F) arg12.view.ty) (G13 : BufTy.Contents (Elt F) arg13.view.ty) (G14 : BufTy.Contents (Elt F) arg14.view.ty) (G15 : BufTy.Contents (Elt F) arg15.view.ty) (G16 : BufTy.Contents (Elt F) arg16.view.ty) :
    ∀ n ≤ (k0_t3_loop i).trips, ∀ P, P = pb_k0_t3 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg0 arg1 v118 v119 c4_i32 v120 v122 c0_i32_89 X_arg2 X_arg4 X_arg5 X_arg6 X_arg11 G12 G13 G14 G15 G16 n →
      slots0 arg12 arg13 arg14 arg15 arg16 (arg12.view.writes (Elt F) G12 P.1) (arg13.view.writes (Elt F) G13 P.2.1) (arg14.view.writes (Elt F) G14 P.2.2.1) (arg15.view.writes (Elt F) G15 P.2.2.2.1) (arg16.view.writes (Elt F) G16 P.2.2.2.2)
        = hrun (fun j => at0 arg2 arg4 arg5 arg6 arg11 X_arg2 X_arg4 X_arg5 X_arg6 X_arg11 i (base3 i + j)) (4 * n) (slots0 arg12 arg13 arg14 arg15 arg16 G12 G13 G14 G15 G16)
  | 0, _, P, hP => by subst hP; rfl
  | n + 1, hn, P, hP => by
    have ih := loop_t3_head0 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg0 arg1 v118 v119 c4_i32 v120 v122 c0_i32_89 X_arg2 X_arg4 X_arg5 X_arg6 X_arg11 hv G12 G13 G14 G15 G16 n (by omega) _ rfl
    rw [pb_k0_t3_succ (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg0 arg1 v118 v119 c4_i32 v120 v122 c0_i32_89 X_arg2 X_arg4 X_arg5 X_arg6 X_arg11 G12 G13 G14 G15 G16 ⟨n, hn⟩] at hP
    subst hP
    dsimp only
    simp only [View.writes_append]
    refine (trip_t3_head0 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg0 arg1 v118 v119 c4_i32 v120 v122 c0_i32_89 X_arg2 X_arg4 X_arg5 X_arg6 X_arg11 ⟨n, hn⟩ _ _ _ _ _ _ rfl).trans ?_
    rw [ih, Nat.mul_succ, hrun_add]
    subst hv
    rw [inp0_at arg2 arg4 arg5 arg6 arg11 X_arg2 X_arg4 X_arg5 X_arg6 X_arg11 i (base3 i + 4 * n + 0) _ (stage_word (base3 i) 4 n 0) _ _ _ (slopes_at i 0).2.1 (offs3 i ⟨n, hn⟩ 0).1 (offs3 i ⟨n, hn⟩ 0).2.1]
    rw [inp0_at arg2 arg4 arg5 arg6 arg11 X_arg2 X_arg4 X_arg5 X_arg6 X_arg11 i (base3 i + 4 * n + 1) _ (stage_word (base3 i) 4 n 1) _ _ _ (slopes_at i 0).2.1 (offs3 i ⟨n, hn⟩ 1).1 (offs3 i ⟨n, hn⟩ 1).2.1]
    rw [inp0_at arg2 arg4 arg5 arg6 arg11 X_arg2 X_arg4 X_arg5 X_arg6 X_arg11 i (base3 i + 4 * n + 2) _ (stage_word (base3 i) 4 n 2) _ _ _ (slopes_at i 0).2.1 (offs3 i ⟨n, hn⟩ 2).1 (offs3 i ⟨n, hn⟩ 2).2.1]
    rw [inp0_at arg2 arg4 arg5 arg6 arg11 X_arg2 X_arg4 X_arg5 X_arg6 X_arg11 i (base3 i + 4 * n + 3) _ (stage_word (base3 i) 4 n 3) _ _ _ (slopes_at i 0).2.1 (offs3 i ⟨n, hn⟩ 3).1 (offs3 i ⟨n, hn⟩ 3).2.1]
    simp only [hrun, Nat.add_assoc, Nat.add_zero, Nat.zero_add]

/-- The loop of 4 stages a trip, before trip `n`, for head 1. -/
theorem loop_t3_head1 (𝒱 : Variants) (c : Dev nD) (bd : Option 𝒱.V) (i : grid0.Coords) (arg2 : Memref sig .tc .smem S4 .f32) (harg2 : arg2.IsWhole) (arg3 : Memref sig .tc .vmem S256x256 .bf16) (harg3 : arg3.IsWhole) (arg4 : Memref sig .tc .vmem S16384x256 .bf16) (harg4 : arg4.IsWhole) (arg5 : Memref sig .tc .vmem S2x128x16384 .bf16) (harg5 : arg5.IsWhole) (arg6 : Memref sig .tc .vmem S2x256x128 .bf16) (harg6 : arg6.IsWhole) (arg7 : Memref sig .tc .vmem S2x256x512 .f32) (harg7 : arg7.IsWhole) (arg8 : Memref sig .tc .vmem S4x64 .f32) (harg8 : arg8.IsWhole) (arg9 : Memref sig .tc .vmem S1x128 .f32) (harg9 : arg9.IsWhole) (arg10 : Memref sig .tc .vmem S256x256 .bf16) (harg10 : arg10.IsWhole) (arg11 : Memref sig .tc .vmem S2x256x512 .bf16) (harg11 : arg11.IsWhole) (arg12 : Memref sig .tc .vmem S2x1x512 .f32) (harg12 : arg12.IsWhole) (arg13 : Memref sig .tc .vmem S2x144x512 .f32) (harg13 : arg13.IsWhole) (arg14 : Memref sig .tc .vmem S2x2x256x512 .f32) (harg14 : arg14.IsWhole) (arg15 : Memref sig .tc .vmem S2x2x256x512 .bf16) (harg15 : arg15.IsWhole) (arg16 : Memref sig .tc .vmem S2x2x1x512 .f32) (harg16 : arg16.IsWhole) (arg0 : BitVec 32) (arg1 : BitVec 32) (v118 : BitVec 32) (v119 : BitVec 32) (c4_i32 : BitVec 32) (v120 : BitVec 32) (v122 : BitVec 32) (c0_i32_89 : BitVec 32) (X_arg2 : BufTy.Contents (Elt F) arg2.view.ty) (X_arg4 : BufTy.Contents (Elt F) arg4.view.ty) (X_arg5 : BufTy.Contents (Elt F) arg5.view.ty) (X_arg6 : BufTy.Contents (Elt F) arg6.view.ty) (X_arg11 : BufTy.Contents (Elt F) arg11.view.ty) (hv : v118 = BitVec.ofNat 32 (base3 i)) (G12 : BufTy.Contents (Elt F) arg12.view.ty) (G13 : BufTy.Contents (Elt F) arg13.view.ty) (G14 : BufTy.Contents (Elt F) arg14.view.ty) (G15 : BufTy.Contents (Elt F) arg15.view.ty) (G16 : BufTy.Contents (Elt F) arg16.view.ty) :
    ∀ n ≤ (k0_t3_loop i).trips, ∀ P, P = pb_k0_t3 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg0 arg1 v118 v119 c4_i32 v120 v122 c0_i32_89 X_arg2 X_arg4 X_arg5 X_arg6 X_arg11 G12 G13 G14 G15 G16 n →
      slots1 arg12 arg13 arg14 arg15 arg16 (arg12.view.writes (Elt F) G12 P.1) (arg13.view.writes (Elt F) G13 P.2.1) (arg14.view.writes (Elt F) G14 P.2.2.1) (arg15.view.writes (Elt F) G15 P.2.2.2.1) (arg16.view.writes (Elt F) G16 P.2.2.2.2)
        = hrun (fun j => at1 arg2 arg4 arg5 arg6 arg11 X_arg2 X_arg4 X_arg5 X_arg6 X_arg11 i (base3 i + j)) (4 * n) (slots1 arg12 arg13 arg14 arg15 arg16 G12 G13 G14 G15 G16)
  | 0, _, P, hP => by subst hP; rfl
  | n + 1, hn, P, hP => by
    have ih := loop_t3_head1 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg0 arg1 v118 v119 c4_i32 v120 v122 c0_i32_89 X_arg2 X_arg4 X_arg5 X_arg6 X_arg11 hv G12 G13 G14 G15 G16 n (by omega) _ rfl
    rw [pb_k0_t3_succ (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg0 arg1 v118 v119 c4_i32 v120 v122 c0_i32_89 X_arg2 X_arg4 X_arg5 X_arg6 X_arg11 G12 G13 G14 G15 G16 ⟨n, hn⟩] at hP
    subst hP
    dsimp only
    simp only [View.writes_append]
    refine (trip_t3_head1 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg0 arg1 v118 v119 c4_i32 v120 v122 c0_i32_89 X_arg2 X_arg4 X_arg5 X_arg6 X_arg11 ⟨n, hn⟩ _ _ _ _ _ _ rfl).trans ?_
    rw [ih, Nat.mul_succ, hrun_add]
    subst hv
    rw [inp1_at arg2 arg4 arg5 arg6 arg11 X_arg2 X_arg4 X_arg5 X_arg6 X_arg11 i (base3 i + 4 * n + 0) _ (stage_word (base3 i) 4 n 0) _ _ _ (slopes_at i 1).2.1 (offs3 i ⟨n, hn⟩ 0).2.2.1 (offs3 i ⟨n, hn⟩ 0).2.2.2]
    rw [inp1_at arg2 arg4 arg5 arg6 arg11 X_arg2 X_arg4 X_arg5 X_arg6 X_arg11 i (base3 i + 4 * n + 1) _ (stage_word (base3 i) 4 n 1) _ _ _ (slopes_at i 1).2.1 (offs3 i ⟨n, hn⟩ 1).2.2.1 (offs3 i ⟨n, hn⟩ 1).2.2.2]
    rw [inp1_at arg2 arg4 arg5 arg6 arg11 X_arg2 X_arg4 X_arg5 X_arg6 X_arg11 i (base3 i + 4 * n + 2) _ (stage_word (base3 i) 4 n 2) _ _ _ (slopes_at i 1).2.1 (offs3 i ⟨n, hn⟩ 2).2.2.1 (offs3 i ⟨n, hn⟩ 2).2.2.2]
    rw [inp1_at arg2 arg4 arg5 arg6 arg11 X_arg2 X_arg4 X_arg5 X_arg6 X_arg11 i (base3 i + 4 * n + 3) _ (stage_word (base3 i) 4 n 3) _ _ _ (slopes_at i 1).2.1 (offs3 i ⟨n, hn⟩ 3).2.2.1 (offs3 i ⟨n, hn⟩ 3).2.2.2]
    simp only [hrun, Nat.add_assoc, Nat.add_zero, Nat.zero_add]

/-- The loop of 2 stages a trip, before trip `n`, for head 0. -/
theorem loop_t5_head0 (𝒱 : Variants) (c : Dev nD) (bd : Option 𝒱.V) (i : grid0.Coords) (arg2 : Memref sig .tc .smem S4 .f32) (harg2 : arg2.IsWhole) (arg3 : Memref sig .tc .vmem S256x256 .bf16) (harg3 : arg3.IsWhole) (arg4 : Memref sig .tc .vmem S16384x256 .bf16) (harg4 : arg4.IsWhole) (arg5 : Memref sig .tc .vmem S2x128x16384 .bf16) (harg5 : arg5.IsWhole) (arg6 : Memref sig .tc .vmem S2x256x128 .bf16) (harg6 : arg6.IsWhole) (arg7 : Memref sig .tc .vmem S2x256x512 .f32) (harg7 : arg7.IsWhole) (arg8 : Memref sig .tc .vmem S4x64 .f32) (harg8 : arg8.IsWhole) (arg9 : Memref sig .tc .vmem S1x128 .f32) (harg9 : arg9.IsWhole) (arg10 : Memref sig .tc .vmem S256x256 .bf16) (harg10 : arg10.IsWhole) (arg11 : Memref sig .tc .vmem S2x256x512 .bf16) (harg11 : arg11.IsWhole) (arg12 : Memref sig .tc .vmem S2x1x512 .f32) (harg12 : arg12.IsWhole) (arg13 : Memref sig .tc .vmem S2x144x512 .f32) (harg13 : arg13.IsWhole) (arg14 : Memref sig .tc .vmem S2x2x256x512 .f32) (harg14 : arg14.IsWhole) (arg15 : Memref sig .tc .vmem S2x2x256x512 .bf16) (harg15 : arg15.IsWhole) (arg16 : Memref sig .tc .vmem S2x2x1x512 .f32) (harg16 : arg16.IsWhole) (arg0 : BitVec 32) (arg1 : BitVec 32) (v143 : BitVec 32) (v161 : BitVec 32) (c0_i32_107 : BitVec 32) (X_arg2 : BufTy.Contents (Elt F) arg2.view.ty) (X_arg4 : BufTy.Contents (Elt F) arg4.view.ty) (X_arg5 : BufTy.Contents (Elt F) arg5.view.ty) (X_arg6 : BufTy.Contents (Elt F) arg6.view.ty) (X_arg11 : BufTy.Contents (Elt F) arg11.view.ty) (hv : v143 = BitVec.ofNat 32 (base5 i)) (hc : c0_i32_107 = 0#32) (G12 : BufTy.Contents (Elt F) arg12.view.ty) (G13 : BufTy.Contents (Elt F) arg13.view.ty) (G14 : BufTy.Contents (Elt F) arg14.view.ty) (G15 : BufTy.Contents (Elt F) arg15.view.ty) (G16 : BufTy.Contents (Elt F) arg16.view.ty) :
    ∀ n ≤ (k0_t5_loop i).trips, ∀ P, P = pb_k0_t5 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg0 arg1 v143 v161 c0_i32_107 X_arg2 X_arg4 X_arg5 X_arg6 X_arg11 G12 G13 G14 G15 G16 n →
      slots0 arg12 arg13 arg14 arg15 arg16 (arg12.view.writes (Elt F) G12 P.1) (arg13.view.writes (Elt F) G13 P.2.1) (arg14.view.writes (Elt F) G14 P.2.2.1) (arg15.view.writes (Elt F) G15 P.2.2.2.1) (arg16.view.writes (Elt F) G16 P.2.2.2.2)
        = hrun (fun j => at0 arg2 arg4 arg5 arg6 arg11 X_arg2 X_arg4 X_arg5 X_arg6 X_arg11 i (base5 i + j)) (2 * n) (slots0 arg12 arg13 arg14 arg15 arg16 G12 G13 G14 G15 G16)
  | 0, _, P, hP => by subst hP; rfl
  | n + 1, hn, P, hP => by
    have ih := loop_t5_head0 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg0 arg1 v143 v161 c0_i32_107 X_arg2 X_arg4 X_arg5 X_arg6 X_arg11 hv hc G12 G13 G14 G15 G16 n (by omega) _ rfl
    rw [pb_k0_t5_succ (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg0 arg1 v143 v161 c0_i32_107 X_arg2 X_arg4 X_arg5 X_arg6 X_arg11 G12 G13 G14 G15 G16 ⟨n, hn⟩] at hP
    subst hP
    dsimp only
    simp only [View.writes_append]
    refine (trip_t5_head0 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg0 arg1 v143 v161 c0_i32_107 X_arg2 X_arg4 X_arg5 X_arg6 X_arg11 ⟨n, hn⟩ _ _ _ _ _ _ rfl).trans ?_
    rw [ih, Nat.mul_succ, hrun_add]
    subst hv hc
    rw [inp0_at arg2 arg4 arg5 arg6 arg11 X_arg2 X_arg4 X_arg5 X_arg6 X_arg11 i (base5 i + 2 * n + 0) _ (stage_word (base5 i) 2 n 0) _ _ _ (slopes_at i 0).2.2 (offs5 i ⟨n, hn⟩ 0).1 (offs5 i ⟨n, hn⟩ 0).2.1]
    rw [inp0_at arg2 arg4 arg5 arg6 arg11 X_arg2 X_arg4 X_arg5 X_arg6 X_arg11 i (base5 i + 2 * n + 1) _ (stage_word (base5 i) 2 n 1) _ _ _ (slopes_at i 0).2.2 (offs5 i ⟨n, hn⟩ 1).1 (offs5 i ⟨n, hn⟩ 1).2.1]
    simp only [hrun, Nat.add_assoc, Nat.add_zero, Nat.zero_add]

/-- The loop of 2 stages a trip, before trip `n`, for head 1. -/
theorem loop_t5_head1 (𝒱 : Variants) (c : Dev nD) (bd : Option 𝒱.V) (i : grid0.Coords) (arg2 : Memref sig .tc .smem S4 .f32) (harg2 : arg2.IsWhole) (arg3 : Memref sig .tc .vmem S256x256 .bf16) (harg3 : arg3.IsWhole) (arg4 : Memref sig .tc .vmem S16384x256 .bf16) (harg4 : arg4.IsWhole) (arg5 : Memref sig .tc .vmem S2x128x16384 .bf16) (harg5 : arg5.IsWhole) (arg6 : Memref sig .tc .vmem S2x256x128 .bf16) (harg6 : arg6.IsWhole) (arg7 : Memref sig .tc .vmem S2x256x512 .f32) (harg7 : arg7.IsWhole) (arg8 : Memref sig .tc .vmem S4x64 .f32) (harg8 : arg8.IsWhole) (arg9 : Memref sig .tc .vmem S1x128 .f32) (harg9 : arg9.IsWhole) (arg10 : Memref sig .tc .vmem S256x256 .bf16) (harg10 : arg10.IsWhole) (arg11 : Memref sig .tc .vmem S2x256x512 .bf16) (harg11 : arg11.IsWhole) (arg12 : Memref sig .tc .vmem S2x1x512 .f32) (harg12 : arg12.IsWhole) (arg13 : Memref sig .tc .vmem S2x144x512 .f32) (harg13 : arg13.IsWhole) (arg14 : Memref sig .tc .vmem S2x2x256x512 .f32) (harg14 : arg14.IsWhole) (arg15 : Memref sig .tc .vmem S2x2x256x512 .bf16) (harg15 : arg15.IsWhole) (arg16 : Memref sig .tc .vmem S2x2x1x512 .f32) (harg16 : arg16.IsWhole) (arg0 : BitVec 32) (arg1 : BitVec 32) (v143 : BitVec 32) (v161 : BitVec 32) (c0_i32_107 : BitVec 32) (X_arg2 : BufTy.Contents (Elt F) arg2.view.ty) (X_arg4 : BufTy.Contents (Elt F) arg4.view.ty) (X_arg5 : BufTy.Contents (Elt F) arg5.view.ty) (X_arg6 : BufTy.Contents (Elt F) arg6.view.ty) (X_arg11 : BufTy.Contents (Elt F) arg11.view.ty) (hv : v143 = BitVec.ofNat 32 (base5 i)) (hc : c0_i32_107 = 0#32) (G12 : BufTy.Contents (Elt F) arg12.view.ty) (G13 : BufTy.Contents (Elt F) arg13.view.ty) (G14 : BufTy.Contents (Elt F) arg14.view.ty) (G15 : BufTy.Contents (Elt F) arg15.view.ty) (G16 : BufTy.Contents (Elt F) arg16.view.ty) :
    ∀ n ≤ (k0_t5_loop i).trips, ∀ P, P = pb_k0_t5 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg0 arg1 v143 v161 c0_i32_107 X_arg2 X_arg4 X_arg5 X_arg6 X_arg11 G12 G13 G14 G15 G16 n →
      slots1 arg12 arg13 arg14 arg15 arg16 (arg12.view.writes (Elt F) G12 P.1) (arg13.view.writes (Elt F) G13 P.2.1) (arg14.view.writes (Elt F) G14 P.2.2.1) (arg15.view.writes (Elt F) G15 P.2.2.2.1) (arg16.view.writes (Elt F) G16 P.2.2.2.2)
        = hrun (fun j => at1 arg2 arg4 arg5 arg6 arg11 X_arg2 X_arg4 X_arg5 X_arg6 X_arg11 i (base5 i + j)) (2 * n) (slots1 arg12 arg13 arg14 arg15 arg16 G12 G13 G14 G15 G16)
  | 0, _, P, hP => by subst hP; rfl
  | n + 1, hn, P, hP => by
    have ih := loop_t5_head1 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg0 arg1 v143 v161 c0_i32_107 X_arg2 X_arg4 X_arg5 X_arg6 X_arg11 hv hc G12 G13 G14 G15 G16 n (by omega) _ rfl
    rw [pb_k0_t5_succ (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg0 arg1 v143 v161 c0_i32_107 X_arg2 X_arg4 X_arg5 X_arg6 X_arg11 G12 G13 G14 G15 G16 ⟨n, hn⟩] at hP
    subst hP
    dsimp only
    simp only [View.writes_append]
    refine (trip_t5_head1 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg0 arg1 v143 v161 c0_i32_107 X_arg2 X_arg4 X_arg5 X_arg6 X_arg11 ⟨n, hn⟩ _ _ _ _ _ _ rfl).trans ?_
    rw [ih, Nat.mul_succ, hrun_add]
    subst hv hc
    rw [inp1_at arg2 arg4 arg5 arg6 arg11 X_arg2 X_arg4 X_arg5 X_arg6 X_arg11 i (base5 i + 2 * n + 0) _ (stage_word (base5 i) 2 n 0) _ _ _ (slopes_at i 1).2.2 (offs5 i ⟨n, hn⟩ 0).2.2.1 (offs5 i ⟨n, hn⟩ 0).2.2.2]
    rw [inp1_at arg2 arg4 arg5 arg6 arg11 X_arg2 X_arg4 X_arg5 X_arg6 X_arg11 i (base5 i + 2 * n + 1) _ (stage_word (base5 i) 2 n 1) _ _ _ (slopes_at i 1).2.2 (offs5 i ⟨n, hn⟩ 1).2.2.1 (offs5 i ⟨n, hn⟩ 1).2.2.2]
    simp only [hrun, Nat.add_assoc, Nat.add_zero, Nat.zero_add]

end Cert.KernelIdeal.Gen

end
-- ==== Proof.Hand.Parts.lean ====
/- The parts of the body that hold the unrolled loops: each runs its stages on the two heads. -/
module

public import proofs.«01_k».proof.Proof.Gen.KernelIdeal.Loops
public import proofs.«01_k».proof.Proof.Hand.Rounds
public import Idealize.ShloMosaic.Lib.Tactic

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The words the part with the loop of eight stages hands on. -/
def words1 (arg1 : BitVec 32) : Σ' (_ : BitVec 32) (_ : BitVec 32) (_ : BitVec 32) (_ : BitVec 32) (_ : BitVec 32), BitVec 32 :=
  let v94 : BitVec 32 := Scalar.subi arg1 0#32
  let v95 : BitVec 32 := Scalar.divsi v94 8#32
  let v96 : BitVec 1 := Scalar.cmpi .sgt v94 0#32
  let v97 : BitVec 32 := Scalar.extui v96
  let v98 : BitVec 1 := Scalar.cmpi .slt v94 0#32
  let v99 : BitVec 32 := Scalar.extui v98
  let v100 : BitVec 32 := Scalar.subi v97 v99
  let v101 : BitVec 1 := Scalar.cmpi .sgt 8#32 0#32
  let v102 : BitVec 32 := Scalar.extui v101
  let v103 : BitVec 1 := Scalar.cmpi .slt 8#32 0#32
  let v104 : BitVec 32 := Scalar.extui v103
  let v105 : BitVec 32 := Scalar.subi v102 v104
  let v106 : BitVec 1 := Scalar.cmpi .ne v100 v105
  let v107 : BitVec 32 := Scalar.remsi v94 8#32
  let v108 : BitVec 1 := Scalar.cmpi .ne v107 0#32
  let v109 : BitVec 1 := Scalar.andi v106 v108
  let v110 : BitVec 32 := Scalar.subi v95 1#32
  let v111 : BitVec 32 := Scalar.select v109 v110 v95
  let v112 : BitVec 32 := Scalar.subi v111 0#32
  let v114 : BitVec 32 := Scalar.divsi v112 1#32
  let v115 : BitVec 32 := Scalar.muli v114 1#32
  let v116 : BitVec 32 := Scalar.addi 0#32 v115
  let v117 : BitVec 32 := Scalar.muli 8#32 v111
  let v118 : BitVec 32 := Scalar.addi 0#32 v117
  let v119 : BitVec 32 := Scalar.subi arg1 v118
  let v120 : BitVec 32 := Scalar.divsi v119 4#32
  let v121 : BitVec 1 := Scalar.cmpi .sgt v119 0#32
  let v122 : BitVec 32 := Scalar.extui v121
  ⟨v118, v119, 4#32, v120, v122, 0#32⟩

/-- The words the part with the loop of four stages hands on. -/
def words3 (arg1 v118 v119 c4_i32 v120 v122 c0_i32_89 : BitVec 32) : Σ' (_ : BitVec 32) (_ : BitVec 32), BitVec 32 :=
  let v123 : BitVec 1 := Scalar.cmpi .slt v119 c0_i32_89
  let v124 : BitVec 32 := Scalar.extui v123
  let v125 : BitVec 32 := Scalar.subi v122 v124
  let v126 : BitVec 1 := Scalar.cmpi .sgt c4_i32 0#32
  let v127 : BitVec 32 := Scalar.extui v126
  let v128 : BitVec 1 := Scalar.cmpi .slt c4_i32 0#32
  let v129 : BitVec 32 := Scalar.extui v128
  let v130 : BitVec 32 := Scalar.subi v127 v129
  let v131 : BitVec 1 := Scalar.cmpi .ne v125 v130
  let v132 : BitVec 32 := Scalar.remsi v119 c4_i32
  let v133 : BitVec 1 := Scalar.cmpi .ne v132 0#32
  let v134 : BitVec 1 := Scalar.andi v131 v133
  let v135 : BitVec 32 := Scalar.subi v120 1#32
  let v136 : BitVec 32 := Scalar.select v134 v135 v120
  let v137 : BitVec 32 := Scalar.subi v136 0#32
  let v139 : BitVec 32 := Scalar.divsi v137 1#32
  let v140 : BitVec 32 := Scalar.muli v139 1#32
  let v141 : BitVec 32 := Scalar.addi 0#32 v140
  let v142 : BitVec 32 := Scalar.muli 4#32 v136
  let v143 : BitVec 32 := Scalar.addi v118 v142
  let v144 : BitVec 32 := Scalar.subi arg1 v143
  let v145 : BitVec 32 := Scalar.divsi v144 2#32
  let v146 : BitVec 1 := Scalar.cmpi .sgt v144 0#32
  let v147 : BitVec 32 := Scalar.extui v146
  let v148 : BitVec 1 := Scalar.cmpi .slt v144 0#32
  let v149 : BitVec 32 := Scalar.extui v148
  let v150 : BitVec 32 := Scalar.subi v147 v149
  let v151 : BitVec 1 := Scalar.cmpi .sgt 2#32 0#32
  let v152 : BitVec 32 := Scalar.extui v151
  let v153 : BitVec 1 := Scalar.cmpi .slt 2#32 0#32
  let v154 : BitVec 32 := Scalar.extui v153
  let v155 : BitVec 32 := Scalar.subi v152 v154
  let v156 : BitVec 1 := Scalar.cmpi .ne v150 v155
  let v157 : BitVec 32 := Scalar.remsi v144 2#32
  let v158 : BitVec 1 := Scalar.cmpi .ne v157 0#32
  let v159 : BitVec 1 := Scalar.andi v156 v158
  let v160 : BitVec 32 := Scalar.subi v145 1#32
  let v161 : BitVec 32 := Scalar.select v159 v160 v145
  ⟨v143, v161, 0#32⟩

theorem zero_trips {n : ℕ} (h : n = 0) {α : Type*} (f : ℕ → α) : f n = f 0 := congrArg f h

set_option maxHeartbeats 1000000 in
/-- The part with the loop of eight stages a trip. -/
theorem part_long (c : Dev nD) (i : grid0.Coords) (arg2 : Memref sig .tc .smem S4 .f32) (harg2 : arg2.IsWhole) (arg3 : Memref sig .tc .vmem S256x256 .bf16) (harg3 : arg3.IsWhole) (arg4 : Memref sig .tc .vmem S16384x256 .bf16) (harg4 : arg4.IsWhole) (arg5 : Memref sig .tc .vmem S2x128x16384 .bf16) (harg5 : arg5.IsWhole) (arg6 : Memref sig .tc .vmem S2x256x128 .bf16) (harg6 : arg6.IsWhole) (arg7 : Memref sig .tc .vmem S2x256x512 .f32) (harg7 : arg7.IsWhole) (arg8 : Memref sig .tc .vmem S4x64 .f32) (harg8 : arg8.IsWhole) (arg9 : Memref sig .tc .vmem S1x128 .f32) (harg9 : arg9.IsWhole) (arg10 : Memref sig .tc .vmem S256x256 .bf16) (harg10 : arg10.IsWhole) (arg11 : Memref sig .tc .vmem S2x256x512 .bf16) (harg11 : arg11.IsWhole) (arg12 : Memref sig .tc .vmem S2x1x512 .f32) (harg12 : arg12.IsWhole) (arg13 : Memref sig .tc .vmem S2x144x512 .f32) (harg13 : arg13.IsWhole) (arg14 : Memref sig .tc .vmem S2x2x256x512 .f32) (harg14 : arg14.IsWhole) (arg15 : Memref sig .tc .vmem S2x2x256x512 .bf16) (harg15 : arg15.IsWhole) (arg16 : Memref sig .tc .vmem S2x2x1x512 .f32) (harg16 : arg16.IsWhole) (v89 : FVec F S1x1x256x512 .bf16) (X2 : BufTy.Contents (Elt F) arg2.view.ty) (X4 : BufTy.Contents (Elt F) arg4.view.ty) (X5 : BufTy.Contents (Elt F) arg5.view.ty) (X6 : BufTy.Contents (Elt F) arg6.view.ty) (X11 : BufTy.Contents (Elt F) arg11.view.ty) (f12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty) (E : Set ℕ) (K : (Σ' (_ : BitVec 32) (_ : BitVec 32) (_ : BitVec 32) (_ : BitVec 32) (_ : BitVec 32), BitVec 32) → sProp 𝕄) :
    iprop(Trip_k0_t1 (F := F) c arg2 arg4 arg5 arg6 arg11 arg12 arg13 arg14 arg15 arg16 X2 X4 X5 X6 X11 f12 f13 f14 f15 f16
        ∗ (∀ (r : Σ' (_ : BitVec 32) (_ : BitVec 32) (_ : BitVec 32) (_ : BitVec 32) (_ : BitVec 32), BitVec 32) (g12 : BufTy.Contents (Elt F) arg12.view.ty) (g13 : BufTy.Contents (Elt F) arg13.view.ty) (g14 : BufTy.Contents (Elt F) arg14.view.ty) (g15 : BufTy.Contents (Elt F) arg15.view.ty) (g16 : BufTy.Contents (Elt F) arg16.view.ty),
            (Trip_k0_t1 (F := F) c arg2 arg4 arg5 arg6 arg11 arg12 arg13 arg14 arg15 arg16 X2 X4 X5 X6 X11 g12 g13 g14 g15 g16 ∗ ⌜r = words1 (BitVec.ofNat 32 (i 1).val) ∧ slots0 arg12 arg13 arg14 arg15 arg16 g12 g13 g14 g15 g16 = hrun (fun j => at0 arg2 arg4 arg5 arg6 arg11 X2 X4 X5 X6 X11 i (0 + j)) (8 * (k0_t1_loop i).trips) (slots0 arg12 arg13 arg14 arg15 arg16 f12 f13 f14 f15 f16)
              ∧ slots1 arg12 arg13 arg14 arg15 arg16 g12 g13 g14 g15 g16 = hrun (fun j => at1 arg2 arg4 arg5 arg6 arg11 X2 X4 X5 X6 X11 i (0 + j)) (8 * (k0_t1_loop i).trips) { slots1 arg12 arg13 arg14 arg15 arg16 f12 f13 f14 f15 f16 with p := v89, a := k0_pay688 }⌝) -∗ K r))
      ⊢ wp frame (wpE (defs₀ (F := F)) Variants.none c none) E (k0_part144 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 0).val) (BitVec.ofNat 32 (i 1).val) v89) K := by
  iintro ⟨⟨H2, H4, H5, H6, H11, H12, H13, H14, H15, H16⟩, Hk⟩
  sl_exec
  sl_step
  iapply Hk
  isplitl [H2 H4 H5 H6 H11 H12 H13 H14 H15 H16]
  · isplitl [H2]; · iexact H2
    isplitl [H4]; · iexact H4
    isplitl [H5]; · iexact H5
    isplitl [H6]; · iexact H6
    isplitl [H11]; · iexact H11
    isplitl [H12]; · iexact H12
    isplitl [H13]; · iexact H13
    isplitl [H14]; · iexact H14
    isplitl [H15]; · iexact H15
    iexact H16
  ipureintro
  refine ⟨rfl, ?_⟩
  rw [show Scf.trips (k0_t2_loop i).lb (k0_t2_loop i).ub (k0_t2_loop i).st = 0 from (trips_eq i).2.2.2.1]
  rw [show Scf.trips (k0_t1_loop i).lb (k0_t1_loop i).ub (k0_t1_loop i).st = (k0_t1_loop i).trips from rfl]
  dsimp only [pb_k0_t2]
  simp only [List.nil_append, View.writes_append]
  refine ⟨(loop_t1_head0 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 _ _ v89 X2 X4 X5 X6 X11 f12 f13 f14 _ _ _ le_rfl _ rfl).trans ?_,
    (loop_t1_head1 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 _ _ v89 X2 X4 X5 X6 X11 f12 f13 f14 _ _ _ le_rfl _ rfl).trans ?_⟩
  · refine congrArg (hrun _ _) ?_; apply HSt.ext <;> dsimp only [slots0] <;> simp (disch := decide) only [↓readAt_writes_self, ↓readAt_writes_skip] <;> rfl
  · refine congrArg (hrun _ _) ?_; apply HSt.ext <;> dsimp only [slots1] <;> simp (disch := decide) only [↓readAt_writes_self, ↓readAt_writes_skip] <;> rfl

end Cert.KernelIdeal.Gen

end
-- ==== Proof.Hand.PartMid.lean ====
/- The part of the body that holds the loop of four stages a trip. -/
module

public import proofs.«01_k».proof.Proof.Gen.KernelIdeal.Loops
public import proofs.«01_k».proof.Proof.Hand.Parts
public import Idealize.ShloMosaic.Lib.Tactic

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 1000000 in
/-- The part with the loop of four stages a trip. -/
theorem part_mid (c : Dev nD) (i : grid0.Coords) (arg2 : Memref sig .tc .smem S4 .f32) (harg2 : arg2.IsWhole) (arg3 : Memref sig .tc .vmem S256x256 .bf16) (harg3 : arg3.IsWhole) (arg4 : Memref sig .tc .vmem S16384x256 .bf16) (harg4 : arg4.IsWhole) (arg5 : Memref sig .tc .vmem S2x128x16384 .bf16) (harg5 : arg5.IsWhole) (arg6 : Memref sig .tc .vmem S2x256x128 .bf16) (harg6 : arg6.IsWhole) (arg7 : Memref sig .tc .vmem S2x256x512 .f32) (harg7 : arg7.IsWhole) (arg8 : Memref sig .tc .vmem S4x64 .f32) (harg8 : arg8.IsWhole) (arg9 : Memref sig .tc .vmem S1x128 .f32) (harg9 : arg9.IsWhole) (arg10 : Memref sig .tc .vmem S256x256 .bf16) (harg10 : arg10.IsWhole) (arg11 : Memref sig .tc .vmem S2x256x512 .bf16) (harg11 : arg11.IsWhole) (arg12 : Memref sig .tc .vmem S2x1x512 .f32) (harg12 : arg12.IsWhole) (arg13 : Memref sig .tc .vmem S2x144x512 .f32) (harg13 : arg13.IsWhole) (arg14 : Memref sig .tc .vmem S2x2x256x512 .f32) (harg14 : arg14.IsWhole) (arg15 : Memref sig .tc .vmem S2x2x256x512 .bf16) (harg15 : arg15.IsWhole) (arg16 : Memref sig .tc .vmem S2x2x1x512 .f32) (harg16 : arg16.IsWhole) (v118 v119 c4_i32 v120 v122 c0_i32_89 : BitVec 32) (hv : v118 = BitVec.ofNat 32 (base3 i)) (X2 : BufTy.Contents (Elt F) arg2.view.ty) (X4 : BufTy.Contents (Elt F) arg4.view.ty) (X5 : BufTy.Contents (Elt F) arg5.view.ty) (X6 : BufTy.Contents (Elt F) arg6.view.ty) (X11 : BufTy.Contents (Elt F) arg11.view.ty) (f12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty) (E : Set ℕ) (K : (Σ' (_ : BitVec 32) (_ : BitVec 32), BitVec 32) → sProp 𝕄) :
    iprop(Trip_k0_t1 (F := F) c arg2 arg4 arg5 arg6 arg11 arg12 arg13 arg14 arg15 arg16 X2 X4 X5 X6 X11 f12 f13 f14 f15 f16
        ∗ (∀ (r : Σ' (_ : BitVec 32) (_ : BitVec 32), BitVec 32) (g12 : BufTy.Contents (Elt F) arg12.view.ty) (g13 : BufTy.Contents (Elt F) arg13.view.ty) (g14 : BufTy.Contents (Elt F) arg14.view.ty) (g15 : BufTy.Contents (Elt F) arg15.view.ty) (g16 : BufTy.Contents (Elt F) arg16.view.ty),
            (Trip_k0_t1 (F := F) c arg2 arg4 arg5 arg6 arg11 arg12 arg13 arg14 arg15 arg16 X2 X4 X5 X6 X11 g12 g13 g14 g15 g16 ∗ ⌜r = words3 (BitVec.ofNat 32 (i 1).val) v118 v119 c4_i32 v120 v122 c0_i32_89 ∧ slots0 arg12 arg13 arg14 arg15 arg16 g12 g13 g14 g15 g16 = hrun (fun j => at0 arg2 arg4 arg5 arg6 arg11 X2 X4 X5 X6 X11 i (base3 i + j)) (4 * (k0_t3_loop i).trips) (slots0 arg12 arg13 arg14 arg15 arg16 f12 f13 f14 f15 f16)
              ∧ slots1 arg12 arg13 arg14 arg15 arg16 g12 g13 g14 g15 g16 = hrun (fun j => at1 arg2 arg4 arg5 arg6 arg11 X2 X4 X5 X6 X11 i (base3 i + j)) (4 * (k0_t3_loop i).trips) (slots1 arg12 arg13 arg14 arg15 arg16 f12 f13 f14 f15 f16)⌝) -∗ K r))
      ⊢ wp frame (wpE (defs₀ (F := F)) Variants.none c none) E (k0_part145 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 0).val) (BitVec.ofNat 32 (i 1).val) v118 v119 c4_i32 v120 v122 c0_i32_89) K := by
  iintro ⟨⟨H2, H4, H5, H6, H11, H12, H13, H14, H15, H16⟩, Hk⟩
  sl_exec
  sl_step
  iapply Hk
  isplitl [H2 H4 H5 H6 H11 H12 H13 H14 H15 H16]
  · isplitl [H2]; · iexact H2
    isplitl [H4]; · iexact H4
    isplitl [H5]; · iexact H5
    isplitl [H6]; · iexact H6
    isplitl [H11]; · iexact H11
    isplitl [H12]; · iexact H12
    isplitl [H13]; · iexact H13
    isplitl [H14]; · iexact H14
    isplitl [H15]; · iexact H15
    iexact H16
  ipureintro
  refine ⟨rfl, ?_⟩
  rw [show Scf.trips (k0_t4_loop i).lb (k0_t4_loop i).ub (k0_t4_loop i).st = 0 from (trips_eq i).2.2.2.2.1]
  rw [show Scf.trips (k0_t3_loop i).lb (k0_t3_loop i).ub (k0_t3_loop i).st = (k0_t3_loop i).trips from rfl]
  dsimp only [pb_k0_t4]
  simp only [List.nil_append, View.writes_append]
  exact ⟨loop_t3_head0 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 _ _ v118 v119 c4_i32 v120 v122 c0_i32_89 X2 X4 X5 X6 X11 hv f12 f13 f14 f15 f16 _ le_rfl _ rfl,
    loop_t3_head1 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 _ _ v118 v119 c4_i32 v120 v122 c0_i32_89 X2 X4 X5 X6 X11 hv f12 f13 f14 f15 f16 _ le_rfl _ rfl⟩

end Cert.KernelIdeal.Gen

end
-- ==== Proof.Hand.PartLast.lean ====
/- The part of the body that holds the loop of two stages a trip and the stage of the block holding the queries. -/
module

public import proofs.«01_k».proof.Proof.Gen.KernelIdeal.Loops
public import proofs.«01_k».proof.Proof.Hand.Parts
public import proofs.«01_k».proof.Proof.Hand.RunKernelIdeal
public import Idealize.ShloMosaic.Lib.Tactic

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- What the stage of the block holding the queries reads: the block's number as a word, the head's slope, the bias, the
    values of the block before, and this block's values. -/
structure LastInp (F : FTy → Type) where
  w : BitVec 32
  sl : Elt F .f32
  b : Vec F S1x256x512 .f32
  vb : Vec F S1x128x256 .bf16
  vl : Vec F S1x128x256 .bf16

/-- The accumulator after the stage of the block holding the queries and the accumulation of that block. -/
def lastAcc (x : LastInp F) (st : HSt F) : Vec F S1x144x512 .f32 :=
  k0_pay5 (k0_pay3 x.vl) (k0_pay4 (k0_pay666 (k0_pay652 x.w x.sl) (k0_pay653 st.s x.b) st.m)) (accum x.vb st)
    (k0_pay665 (k0_pay652 x.w x.sl) (k0_pay653 st.s x.b) st.m)

/-- Where head `h` reads block `j` of the values. -/
def o5Of (h j : ℕ) : Fin 3 → ℕ := ![h, 0, 256 * min j 63]

theorem o5Of_inb (h : Fin 2) (j : ℕ) : ∀ a, o5Of h.val j a + S1x128x256.size a ≤ S2x128x16384.size a := by
  have := h.isLt
  intro a; fin_cases a <;> simp [o5Of, S1x128x256, S2x128x16384] <;> omega

section Inputs

variable (arg2 : Memref sig .tc .smem S4 .f32) (arg5 : Memref sig .tc .vmem S2x128x16384 .bf16) (arg7 : Memref sig .tc .vmem S2x256x512 .f32)
  (X2 : BufTy.Contents (Elt F) arg2.view.ty) (X5 : BufTy.Contents (Elt F) arg5.view.ty) (X7 : BufTy.Contents (Elt F) arg7.view.ty)

/-- What the last stage reads for head 0, -/
def lst0 (w : BitVec 32) {o2 : Fin 1 → ℕ} (h2 : ∀ a, o2 a + S1.size a ≤ S4.size a) {o5 : Fin 3 → ℕ} (h5 : ∀ a, o5 a + S1x128x256.size a ≤ S2x128x16384.size a)
    {o6 : Fin 3 → ℕ} (h6 : ∀ a, o6 a + S1x128x256.size a ≤ S2x128x16384.size a) : LastInp F where
  w := w
  sl := arg2.view.readAt (Elt F) (Rect.unit (s := S4) o2 S1.size h2).toLoadRect X2 (Shape.Idx.first (numel1_S1.symm ▸ Nat.one_pos))
  b := arg7.view.readAt (Elt F) (Rect.unit (s := S2x256x512) ![0, 0, 0] S1x256x512.size inb_S2x256x512_S1x256x512_0_0_0).toLoadRect X7
  vb := arg5.view.readAt (Elt F) (Rect.unit (s := S2x128x16384) o5 S1x128x256.size h5).toLoadRect X5
  vl := arg5.view.readAt (Elt F) (Rect.unit (s := S2x128x16384) o6 S1x128x256.size h6).toLoadRect X5

/-- and for head 1. -/
def lst1 (w : BitVec 32) {o2 : Fin 1 → ℕ} (h2 : ∀ a, o2 a + S1.size a ≤ S4.size a) {o5 : Fin 3 → ℕ} (h5 : ∀ a, o5 a + S1x128x256.size a ≤ S2x128x16384.size a)
    {o6 : Fin 3 → ℕ} (h6 : ∀ a, o6 a + S1x128x256.size a ≤ S2x128x16384.size a) : LastInp F where
  w := w
  sl := arg2.view.readAt (Elt F) (Rect.unit (s := S4) o2 S1.size h2).toLoadRect X2 (Shape.Idx.first (numel1_S1.symm ▸ Nat.one_pos))
  b := arg7.view.readAt (Elt F) (Rect.unit (s := S2x256x512) ![1, 0, 0] S1x256x512.size inb_S2x256x512_S1x256x512_1_0_0).toLoadRect X7
  vb := arg5.view.readAt (Elt F) (Rect.unit (s := S2x128x16384) o5 S1x128x256.size h5).toLoadRect X5
  vl := arg5.view.readAt (Elt F) (Rect.unit (s := S2x128x16384) o6 S1x128x256.size h6).toLoadRect X5

/-- At a grid point: head 0's, -/
def fin0 (i : grid0.Coords) : LastInp F :=
  lst0 arg2 arg5 arg7 X2 X5 X7 (BitVec.ofNat 32 (i 1).val) (o2At_inb i 0) (o5Of_inb 0 ((i 1).val - 1)) (o5Of_inb 0 (i 1).val)

/-- and head 1's. -/
def fin1 (i : grid0.Coords) : LastInp F :=
  lst1 arg2 arg5 arg7 X2 X5 X7 (BitVec.ofNat 32 (i 1).val) (o2At_inb i 1) (o5Of_inb 1 ((i 1).val - 1)) (o5Of_inb 1 (i 1).val)

variable (i : grid0.Coords)

theorem lst0_at {o2 : Fin 1 → ℕ} (h2 : ∀ a, o2 a + S1.size a ≤ S4.size a) {o5 : Fin 3 → ℕ} (h5 : ∀ a, o5 a + S1x128x256.size a ≤ S2x128x16384.size a)
    {o6 : Fin 3 → ℕ} (h6 : ∀ a, o6 a + S1x128x256.size a ≤ S2x128x16384.size a) (e2 : o2 = o2At 0 i) (e5 : o5 = o5Of 0 ((i 1).val - 1)) (e6 : o6 = o5Of 0 (i 1).val) :
    lst0 arg2 arg5 arg7 X2 X5 X7 (BitVec.ofNat 32 (i 1).val) h2 h5 h6 = fin0 arg2 arg5 arg7 X2 X5 X7 i := by
  subst e2 e5 e6; rfl

theorem lst1_at {o2 : Fin 1 → ℕ} (h2 : ∀ a, o2 a + S1.size a ≤ S4.size a) {o5 : Fin 3 → ℕ} (h5 : ∀ a, o5 a + S1x128x256.size a ≤ S2x128x16384.size a)
    {o6 : Fin 3 → ℕ} (h6 : ∀ a, o6 a + S1x128x256.size a ≤ S2x128x16384.size a) (e2 : o2 = o2At 1 i) (e5 : o5 = o5Of 1 ((i 1).val - 1)) (e6 : o6 = o5Of 1 (i 1).val) :
    lst1 arg2 arg5 arg7 X2 X5 X7 (BitVec.ofNat 32 (i 1).val) h2 h5 h6 = fin1 arg2 arg5 arg7 X2 X5 X7 i := by
  subst e2 e5 e6; rfl

end Inputs

/-- Where the two last stages read, when the number of earlier blocks is odd: -/
theorem offs_odd : ∀ i : grid0.Coords, k0_cond2 i = 1#1 →
    k0_off31 i = o4At 0 ((i 1).val - 1) ∧ k0_off32 i = o5At 0 ((i 1).val - 1) ∧ k0_off33 i 0#32 = o2At 0 i ∧ k0_off33 i 1#32 = o2At 1 i
      ∧ k0_off34 i = o4At 1 ((i 1).val - 1) ∧ k0_off35 i = o5At 1 ((i 1).val - 1)
      ∧ k0_off36 i = o5Of 0 ((i 1).val - 1) ∧ k0_off37 i = o5Of 1 ((i 1).val - 1) ∧ k0_off38 i = o5Of 0 (i 1).val ∧ k0_off39 i = o5Of 1 (i 1).val
      ∧ Scalar.subi (BitVec.ofNat 32 (i 1).val) 1#32 = BitVec.ofNat 32 ((i 1).val - 1) ∧ base5 i + 2 * (k0_t5_loop i).trips + 1 = (i 1).val := by
  decide +kernel

/-- and when it is even. -/
theorem offs_even : ∀ i : grid0.Coords, k0_cond3 i = 1#1 →
    k0_off40 i = o5Of 0 ((i 1).val - 1) ∧ k0_off42 i = o5Of 1 ((i 1).val - 1) ∧ k0_off41 i 0#32 = o2At 0 i ∧ k0_off41 i 1#32 = o2At 1 i
      ∧ k0_off43 i = o5Of 0 (i 1).val ∧ k0_off44 i = o5Of 1 (i 1).val ∧ base5 i + 2 * (k0_t5_loop i).trips = (i 1).val := by
  decide +kernel

set_option maxHeartbeats 1000000 in
/-- The part with the loop of two stages a trip and the stage of the block holding the queries. -/
theorem part_last (c : Dev nD) (i : grid0.Coords) (arg2 : Memref sig .tc .smem S4 .f32) (harg2 : arg2.IsWhole) (arg3 : Memref sig .tc .vmem S256x256 .bf16) (harg3 : arg3.IsWhole) (arg4 : Memref sig .tc .vmem S16384x256 .bf16) (harg4 : arg4.IsWhole) (arg5 : Memref sig .tc .vmem S2x128x16384 .bf16) (harg5 : arg5.IsWhole) (arg6 : Memref sig .tc .vmem S2x256x128 .bf16) (harg6 : arg6.IsWhole) (arg7 : Memref sig .tc .vmem S2x256x512 .f32) (harg7 : arg7.IsWhole) (arg8 : Memref sig .tc .vmem S4x64 .f32) (harg8 : arg8.IsWhole) (arg9 : Memref sig .tc .vmem S1x128 .f32) (harg9 : arg9.IsWhole) (arg10 : Memref sig .tc .vmem S256x256 .bf16) (harg10 : arg10.IsWhole) (arg11 : Memref sig .tc .vmem S2x256x512 .bf16) (harg11 : arg11.IsWhole) (arg12 : Memref sig .tc .vmem S2x1x512 .f32) (harg12 : arg12.IsWhole) (arg13 : Memref sig .tc .vmem S2x144x512 .f32) (harg13 : arg13.IsWhole) (arg14 : Memref sig .tc .vmem S2x2x256x512 .f32) (harg14 : arg14.IsWhole) (arg15 : Memref sig .tc .vmem S2x2x256x512 .bf16) (harg15 : arg15.IsWhole) (arg16 : Memref sig .tc .vmem S2x2x1x512 .f32) (harg16 : arg16.IsWhole) (v143 v161 c0_i32_107 : BitVec 32) (hv : v143 = BitVec.ofNat 32 (base5 i)) (hc : c0_i32_107 = 0#32) (X2 : BufTy.Contents (Elt F) arg2.view.ty) (X4 : BufTy.Contents (Elt F) arg4.view.ty) (X5 : BufTy.Contents (Elt F) arg5.view.ty) (X6 : BufTy.Contents (Elt F) arg6.view.ty) (X11 : BufTy.Contents (Elt F) arg11.view.ty) (X7 : BufTy.Contents (Elt F) arg7.view.ty) (X8 : BufTy.Contents (Elt F) arg8.view.ty) (f12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty) (E : Set ℕ) (K : (Σ' (_ : FVec F S1x1 .f32) (_ : FVec F S128x512 .f32), FVec F S128x256 .f32) → sProp 𝕄) :
    iprop(Trip_k0_t1 (F := F) c arg2 arg4 arg5 arg6 arg11 arg12 arg13 arg14 arg15 arg16 X2 X4 X5 X6 X11 f12 f13 f14 f15 f16 ∗ (arg7.view.loc (c : Thread nD τ) ↦[arg7.view.set]{fullShare} X7) ∗ (arg8.view.loc (c : Thread nD τ) ↦[arg8.view.set]{fullShare} X8)
        ∗ (∀ (r : Σ' (_ : FVec F S1x1 .f32) (_ : FVec F S128x512 .f32), FVec F S128x256 .f32) (g12 : BufTy.Contents (Elt F) arg12.view.ty) (g13 : BufTy.Contents (Elt F) arg13.view.ty) (g14 : BufTy.Contents (Elt F) arg14.view.ty) (g15 : BufTy.Contents (Elt F) arg15.view.ty) (g16 : BufTy.Contents (Elt F) arg16.view.ty),
            (Trip_k0_t1 (F := F) c arg2 arg4 arg5 arg6 arg11 arg12 arg13 arg14 arg15 arg16 X2 X4 X5 X6 X11 g12 g13 g14 g15 g16 ∗ (arg7.view.loc (c : Thread nD τ) ↦[arg7.view.set]{fullShare} X7) ∗ (arg8.view.loc (c : Thread nD τ) ↦[arg8.view.set]{fullShare} X8)
              ∗ ⌜r = ⟨k0_pay698 (arg8.view.readAt (Elt F) (Rect.unit (s := S4x64) ![0, 0] S4x64.size inb_S4x64_S4x64_0_0).toLoadRect X8), k0_pay699 (arg13.view.readAt (Elt F) (Rect.unit (s := S2x144x512) ![0, 0, 0] S1x128x512.size inb_S2x144x512_S1x128x512_0_0_0).toLoadRect g13) (arg13.view.readAt (Elt F) (Rect.unit (s := S2x144x512) ![0, 128, 0] S1x1x512.size inb_S2x144x512_S1x1x512_0_128_0).toLoadRect g13), k0_pay700 (arg13.view.readAt (Elt F) (Rect.unit (s := S2x144x512) ![0, 0, 0] S1x128x512.size inb_S2x144x512_S1x128x512_0_0_0).toLoadRect g13) (arg13.view.readAt (Elt F) (Rect.unit (s := S2x144x512) ![0, 128, 0] S1x1x512.size inb_S2x144x512_S1x1x512_0_128_0).toLoadRect g13)⟩
              ∧ arg13.view.readAt (Elt F) (Rect.unit (s := S2x144x512) ![0, 0, 0] S1x144x512.size inb_S2x144x512_S1x144x512_0_0_0).toLoadRect g13 = lastAcc (fin0 arg2 arg5 arg7 X2 X5 X7 i) (hrun (fun j => at0 arg2 arg4 arg5 arg6 arg11 X2 X4 X5 X6 X11 i (base5 i + j)) ((i 1).val - base5 i) (slots0 arg12 arg13 arg14 arg15 arg16 f12 f13 f14 f15 f16))
              ∧ arg13.view.readAt (Elt F) (Rect.unit (s := S2x144x512) ![1, 0, 0] S1x144x512.size inb_S2x144x512_S1x144x512_1_0_0).toLoadRect g13 = lastAcc (fin1 arg2 arg5 arg7 X2 X5 X7 i) (hrun (fun j => at1 arg2 arg4 arg5 arg6 arg11 X2 X4 X5 X6 X11 i (base5 i + j)) ((i 1).val - base5 i) (slots1 arg12 arg13 arg14 arg15 arg16 f12 f13 f14 f15 f16))⌝) -∗ K r))
      ⊢ wp frame (wpE (defs₀ (F := F)) Variants.none c none) E (k0_part146 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 0).val) (BitVec.ofNat 32 (i 1).val) v143 v161 c0_i32_107) K := by
  subst hv hc
  iintro ⟨⟨H2, H4, H5, H6, H11, H12, H13, H14, H15, H16⟩, H7, H8, Hk⟩
  have hw : (k0_cond2 i = 1#1 ∧ ¬ k0_cond3 i = 1#1) ∨ (¬ k0_cond2 i = 1#1 ∧ k0_cond3 i = 1#1) := by
    rcases ways i with h | h | h
    · exact .inr h.2
    · exact .inr h.2
    · exact .inl h.2
  rcases hw with ⟨h2, h3⟩ | ⟨h2, h3⟩
  all_goals
    sl_exec (disch := first | sl_exact h2 | sl_exact h3)
    sl_step
    iapply Hk
    isplitl [H2 H4 H5 H6 H11 H12 H13 H14 H15 H16]
    · isplitl [H2]; · iexact H2
      isplitl [H4]; · iexact H4
      isplitl [H5]; · iexact H5
      isplitl [H6]; · iexact H6
      isplitl [H11]; · iexact H11
      isplitl [H12]; · iexact H12
      isplitl [H13]; · iexact H13
      isplitl [H14]; · iexact H14
      isplitl [H15]; · iexact H15
      iexact H16
    isplitl [H7]; · iexact H7
    isplitl [H8]; · iexact H8
    ipureintro
  · refine ⟨?_, ?_, ?_⟩
    · refine PSigma.ext rfl (heq_of_eq (PSigma.ext (congrArg₂ k0_pay699 ?_ ?_) (heq_of_eq (congrArg₂ k0_pay700 ?_ ?_)))) <;>
        exact (readAt_writes_eq_readCov_of_mem (c := (c : Thread nD τ)) (m := arg13) f13 _ _ _ (List.mem_cons_of_mem _ List.mem_cons_self) (by dsimp only; decide)).symm
    · have e := loop_t5_head0 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 0).val) (BitVec.ofNat 32 (i 1).val) (BitVec.ofNat 32 (base5 i)) v161 0#32 X2 X4 X5 X6 X11 rfl rfl f12 f13 f14 f15 f16 _ le_rfl _ rfl
      have hn : (i 1).val - base5 i = 2 * (k0_t5_loop i).trips + 1 := by have := (offs_odd i h2).2.2.2.2.2.2.2.2.2.2.2; omega
      have hj : base5 i + 2 * (k0_t5_loop i).trips = (i 1).val - 1 := by have := (offs_odd i h2).2.2.2.2.2.2.2.2.2.2.2; omega
      rw [hn, hrun, hj, ← e,
        ← inp0_at arg2 arg4 arg5 arg6 arg11 X2 X4 X5 X6 X11 i ((i 1).val - 1) _ (offs_odd i h2).2.2.2.2.2.2.2.2.2.2.1 (k0_off33_inb i h2 0) (k0_off31_inb i h2) (k0_off32_inb i h2) (offs_odd i h2).2.2.1 (offs_odd i h2).1 (offs_odd i h2).2.1,
        ← lst0_at arg2 arg5 arg7 X2 X5 X7 i (k0_off33_inb i h2 0) (k0_off36_inb i h2) (k0_off38_inb i h2) (offs_odd i h2).2.2.1 (offs_odd i h2).2.2.2.2.2.2.1 (offs_odd i h2).2.2.2.2.2.2.2.2.1]
      dsimp only [lastAcc, hstage, slots0, accum, inp0, lst0]
      sl_unfold_run_names
      rw [show Scf.trips (k0_t6_loop i).lb (k0_t6_loop i).ub (k0_t6_loop i).st = 0 from (trips_eq i).2.2.2.2.2]
      rw [show Scf.trips (k0_t5_loop i).lb (k0_t5_loop i).ub (k0_t5_loop i).st = (k0_t5_loop i).trips from rfl]
      dsimp only [pb_k0_t6]
      simp (disch := decide) only [List.nil_append, View.writes_append, ↓readAt_writes_self, ↓readAt_writes_skip, ↓View.readCov_cons_toLoadRect, ↓View.readCov_skip]
      rfl
    · have e := loop_t5_head1 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 0).val) (BitVec.ofNat 32 (i 1).val) (BitVec.ofNat 32 (base5 i)) v161 0#32 X2 X4 X5 X6 X11 rfl rfl f12 f13 f14 f15 f16 _ le_rfl _ rfl
      have hn : (i 1).val - base5 i = 2 * (k0_t5_loop i).trips + 1 := by have := (offs_odd i h2).2.2.2.2.2.2.2.2.2.2.2; omega
      have hj : base5 i + 2 * (k0_t5_loop i).trips = (i 1).val - 1 := by have := (offs_odd i h2).2.2.2.2.2.2.2.2.2.2.2; omega
      rw [hn, hrun, hj, ← e,
        ← inp1_at arg2 arg4 arg5 arg6 arg11 X2 X4 X5 X6 X11 i ((i 1).val - 1) _ (offs_odd i h2).2.2.2.2.2.2.2.2.2.2.1 (k0_off33_inb i h2 1) (k0_off34_inb i h2) (k0_off35_inb i h2) (offs_odd i h2).2.2.2.1 (offs_odd i h2).2.2.2.2.1 (offs_odd i h2).2.2.2.2.2.1,
        ← lst1_at arg2 arg5 arg7 X2 X5 X7 i (k0_off33_inb i h2 1) (k0_off37_inb i h2) (k0_off39_inb i h2) (offs_odd i h2).2.2.2.1 (offs_odd i h2).2.2.2.2.2.2.2.1 (offs_odd i h2).2.2.2.2.2.2.2.2.2.1]
      dsimp only [lastAcc, hstage, slots1, accum, inp1, lst1]
      sl_unfold_run_names
      rw [show Scf.trips (k0_t6_loop i).lb (k0_t6_loop i).ub (k0_t6_loop i).st = 0 from (trips_eq i).2.2.2.2.2]
      rw [show Scf.trips (k0_t5_loop i).lb (k0_t5_loop i).ub (k0_t5_loop i).st = (k0_t5_loop i).trips from rfl]
      dsimp only [pb_k0_t6]
      simp (disch := decide) only [List.nil_append, View.writes_append, ↓readAt_writes_self, ↓readAt_writes_skip, ↓View.readCov_cons_toLoadRect, ↓View.readCov_skip]
      rfl
  · refine ⟨?_, ?_, ?_⟩
    · refine PSigma.ext rfl (heq_of_eq (PSigma.ext (congrArg₂ k0_pay699 ?_ ?_) (heq_of_eq (congrArg₂ k0_pay700 ?_ ?_)))) <;>
        exact (readAt_writes_eq_readCov_of_mem (c := (c : Thread nD τ)) (m := arg13) f13 _ _ _ (List.mem_cons_of_mem _ List.mem_cons_self) (by dsimp only; decide)).symm
    · have e := loop_t5_head0 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 0).val) (BitVec.ofNat 32 (i 1).val) (BitVec.ofNat 32 (base5 i)) v161 0#32 X2 X4 X5 X6 X11 rfl rfl f12 f13 f14 f15 f16 _ le_rfl _ rfl
      have hn : (i 1).val - base5 i = 2 * (k0_t5_loop i).trips := by have := (offs_even i h3).2.2.2.2.2.2; omega
      rw [hn, ← e,
        ← lst0_at arg2 arg5 arg7 X2 X5 X7 i (k0_off41_inb i h3 0) (k0_off40_inb i h3) (k0_off43_inb i h3) (offs_even i h3).2.2.1 (offs_even i h3).1 (offs_even i h3).2.2.2.2.1]
      dsimp only [lastAcc, hstage, slots0, accum, inp0, lst0]
      sl_unfold_run_names
      rw [show Scf.trips (k0_t6_loop i).lb (k0_t6_loop i).ub (k0_t6_loop i).st = 0 from (trips_eq i).2.2.2.2.2]
      rw [show Scf.trips (k0_t5_loop i).lb (k0_t5_loop i).ub (k0_t5_loop i).st = (k0_t5_loop i).trips from rfl]
      dsimp only [pb_k0_t6]
      simp (disch := decide) only [List.nil_append, View.writes_append, ↓readAt_writes_self, ↓readAt_writes_skip, ↓View.readCov_cons_toLoadRect, ↓View.readCov_skip]
      rfl
    · have e := loop_t5_head1 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 0).val) (BitVec.ofNat 32 (i 1).val) (BitVec.ofNat 32 (base5 i)) v161 0#32 X2 X4 X5 X6 X11 rfl rfl f12 f13 f14 f15 f16 _ le_rfl _ rfl
      have hn : (i 1).val - base5 i = 2 * (k0_t5_loop i).trips := by have := (offs_even i h3).2.2.2.2.2.2; omega
      rw [hn, ← e,
        ← lst1_at arg2 arg5 arg7 X2 X5 X7 i (k0_off41_inb i h3 1) (k0_off42_inb i h3) (k0_off44_inb i h3) (offs_even i h3).2.2.2.1 (offs_even i h3).2.1 (offs_even i h3).2.2.2.2.2.1]
      dsimp only [lastAcc, hstage, slots1, accum, inp1, lst1]
      sl_unfold_run_names
      rw [show Scf.trips (k0_t6_loop i).lb (k0_t6_loop i).ub (k0_t6_loop i).st = 0 from (trips_eq i).2.2.2.2.2]
      rw [show Scf.trips (k0_t5_loop i).lb (k0_t5_loop i).ub (k0_t5_loop i).st = (k0_t5_loop i).trips from rfl]
      dsimp only [pb_k0_t6]
      simp (disch := decide) only [List.nil_append, View.writes_append, ↓readAt_writes_self, ↓readAt_writes_skip, ↓View.readCov_cons_toLoadRect, ↓View.readCov_skip]
      rfl

end Cert.KernelIdeal.Gen

end
-- ==== Proof.Hand.Whole.lean ====
/- The body, from the contents it finds to the contents it leaves. -/
module

public import proofs.«01_k».proof.Proof.Hand.Setup
public import proofs.«01_k».proof.Proof.Hand.PartMid
public import proofs.«01_k».proof.Proof.Hand.PartLast
public import Idealize.ShloMosaic.Lib.VecWindow

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The words the loops leave. -/
theorem words1_fst : ∀ i : grid0.Coords, (words1 (BitVec.ofNat 32 (i 1).val)).1 = BitVec.ofNat 32 (base3 i) := by
  decide +kernel

theorem words3_fst : ∀ i : grid0.Coords,
    (words3 (BitVec.ofNat 32 (i 1).val) (words1 (BitVec.ofNat 32 (i 1).val)).1 (words1 (BitVec.ofNat 32 (i 1).val)).2.1 (words1 (BitVec.ofNat 32 (i 1).val)).2.2.1
        (words1 (BitVec.ofNat 32 (i 1).val)).2.2.2.1 (words1 (BitVec.ofNat 32 (i 1).val)).2.2.2.2.1 (words1 (BitVec.ofNat 32 (i 1).val)).2.2.2.2.2).1 = BitVec.ofNat 32 (base5 i)
      ∧ (words3 (BitVec.ofNat 32 (i 1).val) (words1 (BitVec.ofNat 32 (i 1).val)).1 (words1 (BitVec.ofNat 32 (i 1).val)).2.1 (words1 (BitVec.ofNat 32 (i 1).val)).2.2.1
        (words1 (BitVec.ofNat 32 (i 1).val)).2.2.2.1 (words1 (BitVec.ofNat 32 (i 1).val)).2.2.2.2.1 (words1 (BitVec.ofNat 32 (i 1).val)).2.2.2.2.2).2.2 = 0#32 := by
  decide +kernel

theorem bases : ∀ i : grid0.Coords, 8 * (k0_t1_loop i).trips = base3 i ∧ base3 i + 4 * (k0_t3_loop i).trips = base5 i ∧ base5 i ≤ (i 1).val := by
  decide +kernel

/-- The first rows of an accumulator, -/
def top (A : Vec F S1x144x512 .f32) : Vec F S1x128x512 .f32 := VecWindow.window A ![0, 0, 0] S1x128x512.size (by decide)
/-- and the row of the weights' sum. -/
def bot (A : Vec F S1x144x512 .f32) : Vec F S1x1x512 .f32 := VecWindow.window A ![0, 128, 0] S1x1x512.size (by decide)

/-- Two loads that read the same places read the same. -/
theorem readAt_window {sp : Space} {s : Shape} {e : EltTy} (v : View sig .tc sp s e) (f : BufTy.Contents (Elt F) v.ty) {off off' o size size' : Fin s.rank → ℕ}
    (inb : ∀ a, off a + size a ≤ s.size a) (inb' : ∀ a, off' a + size' a ≤ s.size a) (inb'' : ∀ a, o a + size a ≤ size' a) (h : ∀ a, off a = off' a + o a) :
    v.readAt (Elt F) (Rect.unit off size inb).toLoadRect f
      = VecWindow.window (s := ⟨s.rank, size'⟩) (v.readAt (Elt F) (Rect.unit off' size' inb').toLoadRect f) o size inb'' := by
  funext y
  refine congrArg (v.read (Elt F) f) (funext fun a => Fin.ext ?_)
  show off a + 1 * (y a).val = off' a + 1 * (o a + 1 * (y a).val)
  have := h a; omega

section Start

variable (arg4 : Memref sig .tc .vmem S16384x256 .bf16) (arg6 : Memref sig .tc .vmem S2x256x128 .bf16) (arg11 : Memref sig .tc .vmem S2x256x512 .bf16) (X4 : BufTy.Contents (Elt F) arg4.view.ty) (X6 : BufTy.Contents (Elt F) arg6.view.ty) (X11 : BufTy.Contents (Elt F) arg11.view.ty)

/-- What the stages start from: head 0, -/
def start0 : HSt F where
  m := fun _ => Scalar.ofBits .f32 0xF149F2CA#32
  acc := fun _ => Scalar.ofBits .f32 0x00000000#32
  s := k0_pay683 (k0_pay682 (arg4.view.readAt (Elt F) (Rect.unit (s := S16384x256) ![0, 0] S256x128.size inb_S16384x256_S256x128_0_0).toLoadRect X4) (arg6.view.readAt (Elt F) (Rect.unit (s := S2x256x128) ![0, 0, 0] S1x256x128.size inb_S2x256x128_S1x256x128_0_0_0).toLoadRect X6) (arg11.view.readAt (Elt F) (Rect.unit (s := S2x256x512) ![0, 0, 0] S1x256x512.size inb_S2x256x512_S1x256x512_0_0_0).toLoadRect X11))
  p := k0_pay684
  a := k0_pay685

/-- and head 1. -/
def start1 : HSt F where
  m := fun _ => Scalar.ofBits .f32 0xF149F2CA#32
  acc := fun _ => Scalar.ofBits .f32 0x00000000#32
  s := k0_pay686 (arg4.view.readAt (Elt F) (Rect.unit (s := S16384x256) ![0, 128] S256x128.size inb_S16384x256_S256x128_0_128).toLoadRect X4) (arg6.view.readAt (Elt F) (Rect.unit (s := S2x256x128) ![1, 0, 0] S1x256x128.size inb_S2x256x128_S1x256x128_1_0_0).toLoadRect X6) (arg11.view.readAt (Elt F) (Rect.unit (s := S2x256x512) ![1, 0, 0] S1x256x512.size inb_S2x256x512_S1x256x512_1_0_0).toLoadRect X11)
  p := k0_pay687
  a := k0_pay688

end Start

section Sums

variable (arg2 : Memref sig .tc .smem S4 .f32) (arg4 : Memref sig .tc .vmem S16384x256 .bf16) (arg5 : Memref sig .tc .vmem S2x128x16384 .bf16) (arg6 : Memref sig .tc .vmem S2x256x128 .bf16) (arg7 : Memref sig .tc .vmem S2x256x512 .f32) (arg11 : Memref sig .tc .vmem S2x256x512 .bf16) (X2 : BufTy.Contents (Elt F) arg2.view.ty) (X4 : BufTy.Contents (Elt F) arg4.view.ty) (X5 : BufTy.Contents (Elt F) arg5.view.ty) (X6 : BufTy.Contents (Elt F) arg6.view.ty) (X7 : BufTy.Contents (Elt F) arg7.view.ty) (X11 : BufTy.Contents (Elt F) arg11.view.ty) (i : grid0.Coords)

/-- The sums the body divides: head 0's, -/
def sum0 : Vec F S1x144x512 .f32 :=
  lastAcc (fin0 arg2 arg5 arg7 X2 X5 X7 i) (hrun (fun j => at0 arg2 arg4 arg5 arg6 arg11 X2 X4 X5 X6 X11 i j) (i 1).val (start0 arg4 arg6 arg11 X4 X6 X11))

/-- and head 1's. -/
def sum1 : Vec F S1x144x512 .f32 :=
  lastAcc (fin1 arg2 arg5 arg7 X2 X5 X7 i) (hrun (fun j => at1 arg2 arg4 arg5 arg6 arg11 X2 X4 X5 X6 X11 i j) (i 1).val (start1 arg4 arg6 arg11 X4 X6 X11))

end Sums

/-- The three runs of stages, end to end. -/
theorem hrun_glue (x : ℕ → Inp F) (st : HSt F) {b3 b5 k1 k3 n : ℕ} (h1 : k1 = b3) (h3 : b3 + k3 = b5) (h5 : b5 ≤ n) :
    hrun (fun j => x (b5 + j)) (n - b5) (hrun (fun j => x (b3 + j)) k3 (hrun (fun j => x (0 + j)) k1 st)) = hrun x n st := by
  subst h1 h3
  rw [show (fun j => x (0 + j)) = x from funext fun j => by rw [Nat.zero_add], ← hrun_add, ← hrun_add, Nat.add_sub_cancel' h5]

theorem HSt.ext' {a b : HSt F} (hm : a.m = b.m) (hc : a.acc = b.acc) (hs : a.s = b.s) (hp : a.p = b.p) (ha : a.a = b.a) : a = b := by
  cases a; cases b; simp only at hm hc hs hp ha; subst hm hc hs hp ha; rfl

set_option maxHeartbeats 2000000 in
/-- The body. -/
theorem body_run (c : Dev nD) (i : grid0.Coords) (arg2 : Memref sig .tc .smem S4 .f32) (harg2 : arg2.IsWhole) (arg3 : Memref sig .tc .vmem S256x256 .bf16) (harg3 : arg3.IsWhole) (arg4 : Memref sig .tc .vmem S16384x256 .bf16) (harg4 : arg4.IsWhole) (arg5 : Memref sig .tc .vmem S2x128x16384 .bf16) (harg5 : arg5.IsWhole) (arg6 : Memref sig .tc .vmem S2x256x128 .bf16) (harg6 : arg6.IsWhole) (arg7 : Memref sig .tc .vmem S2x256x512 .f32) (harg7 : arg7.IsWhole) (arg8 : Memref sig .tc .vmem S4x64 .f32) (harg8 : arg8.IsWhole) (arg9 : Memref sig .tc .vmem S1x128 .f32) (harg9 : arg9.IsWhole) (arg10 : Memref sig .tc .vmem S256x256 .bf16) (harg10 : arg10.IsWhole) (arg11 : Memref sig .tc .vmem S2x256x512 .bf16) (harg11 : arg11.IsWhole) (arg12 : Memref sig .tc .vmem S2x1x512 .f32) (harg12 : arg12.IsWhole) (arg13 : Memref sig .tc .vmem S2x144x512 .f32) (harg13 : arg13.IsWhole) (arg14 : Memref sig .tc .vmem S2x2x256x512 .f32) (harg14 : arg14.IsWhole) (arg15 : Memref sig .tc .vmem S2x2x256x512 .bf16) (harg15 : arg15.IsWhole) (arg16 : Memref sig .tc .vmem S2x2x1x512 .f32) (harg16 : arg16.IsWhole) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty)
    (hf : ¬ first i → arg11.view.readAt (Elt F) (Rect.unit (s := S2x256x512) ![0, 128, 0] S1x128x512.size inb_S2x256x512_S1x128x512_0_128_0).toLoadRect f11 = k0_pay678 ∧ arg11.view.readAt (Elt F) (Rect.unit (s := S2x256x512) ![1, 128, 0] S1x128x512.size inb_S2x256x512_S1x128x512_1_128_0).toLoadRect f11 = k0_pay679) (E : Set ℕ) (K : PUnit → sProp 𝕄) :
    iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) ∗ (∀ (g10 : BufTy.Contents (Elt F) arg10.view.ty) (g11 : BufTy.Contents (Elt F) arg11.view.ty) (g12 : BufTy.Contents (Elt F) arg12.view.ty) (g13 : BufTy.Contents (Elt F) arg13.view.ty) (g14 : BufTy.Contents (Elt F) arg14.view.ty) (g15 : BufTy.Contents (Elt F) arg15.view.ty) (g16 : BufTy.Contents (Elt F) arg16.view.ty), ((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} g10) ∗ (arg11.view.loc (c : Thread nD τ) ↦[arg11.view.set]{fullShare} g11) ∗ (arg12.view.loc (c : Thread nD τ) ↦[arg12.view.set]{fullShare} g12) ∗ (arg13.view.loc (c : Thread nD τ) ↦[arg13.view.set]{fullShare} g13) ∗ (arg14.view.loc (c : Thread nD τ) ↦[arg14.view.set]{fullShare} g14) ∗ (arg15.view.loc (c : Thread nD τ) ↦[arg15.view.set]{fullShare} g15) ∗ (arg16.view.loc (c : Thread nD τ) ↦[arg16.view.set]{fullShare} g16) ∗ ⌜arg10.view.readAt (Elt F) (Rect.unit (s := S256x256) ![0, 0] S256x128.size inb_S256x256_S256x128_0_0).toLoadRect g10 = k0_pay701 (k0_pay698 (arg8.view.readAt (Elt F) (Rect.unit (s := S4x64) ![0, 0] S4x64.size inb_S4x64_S4x64_0_0).toLoadRect X8)) (k0_pay699 (top (sum0 arg2 arg4 arg5 arg6 arg7 arg11 X2 X4 X5 X6 X7 g11 i)) (bot (sum0 arg2 arg4 arg5 arg6 arg7 arg11 X2 X4 X5 X6 X7 g11 i))) (k0_pay700 (top (sum0 arg2 arg4 arg5 arg6 arg7 arg11 X2 X4 X5 X6 X7 g11 i)) (bot (sum0 arg2 arg4 arg5 arg6 arg7 arg11 X2 X4 X5 X6 X7 g11 i))) (arg9.view.readAt (Elt F) (Rect.unit (s := S1x128) ![0, 0] S1x128.size inb_S1x128_S1x128_0_0).toLoadRect X9)
        ∧ arg10.view.readAt (Elt F) (Rect.unit (s := S256x256) ![0, 128] S256x128.size inb_S256x256_S256x128_0_128).toLoadRect g10 = k0_pay1 (k0_pay702 (k0_pay698 (arg8.view.readAt (Elt F) (Rect.unit (s := S4x64) ![0, 0] S4x64.size inb_S4x64_S4x64_0_0).toLoadRect X8)) (top (sum1 arg2 arg4 arg5 arg6 arg7 arg11 X2 X4 X5 X6 X7 g11 i)) (bot (sum1 arg2 arg4 arg5 arg6 arg7 arg11 X2 X4 X5 X6 X7 g11 i))) (k0_pay703 (k0_pay698 (arg8.view.readAt (Elt F) (Rect.unit (s := S4x64) ![0, 0] S4x64.size inb_S4x64_S4x64_0_0).toLoadRect X8)) (top (sum1 arg2 arg4 arg5 arg6 arg7 arg11 X2 X4 X5 X6 X7 g11 i)) (bot (sum1 arg2 arg4 arg5 arg6 arg7 arg11 X2 X4 X5 X6 X7 g11 i))) (arg9.view.readAt (Elt F) (Rect.unit (s := S1x128) ![0, 0] S1x128.size inb_S1x128_S1x128_0_0).toLoadRect X9)
        ∧ arg11.view.readAt (Elt F) (Rect.unit (s := S2x256x512) ![0, 0, 0] S1x128x256.size inb_S2x256x512_S1x128x256_0_0_0).toLoadRect g11 = k0_pay672 (arg3.view.readAt (Elt F) (Rect.unit (s := S256x256) ![0, 0] S256x128.size inb_S256x256_S256x128_0_0).toLoadRect X3) ∧ arg11.view.readAt (Elt F) (Rect.unit (s := S2x256x512) ![0, 0, 256] S1x128x256.size inb_S2x256x512_S1x128x256_0_0_256).toLoadRect g11 = k0_pay673 (arg3.view.readAt (Elt F) (Rect.unit (s := S256x256) ![0, 0] S256x128.size inb_S256x256_S256x128_0_0).toLoadRect X3)
        ∧ arg11.view.readAt (Elt F) (Rect.unit (s := S2x256x512) ![1, 0, 0] S1x128x256.size inb_S2x256x512_S1x128x256_1_0_0).toLoadRect g11 = k0_pay675 (arg3.view.readAt (Elt F) (Rect.unit (s := S256x256) ![0, 128] S256x128.size inb_S256x256_S256x128_0_128).toLoadRect X3) ∧ arg11.view.readAt (Elt F) (Rect.unit (s := S2x256x512) ![1, 0, 256] S1x128x256.size inb_S2x256x512_S1x128x256_1_0_256).toLoadRect g11 = k0_pay676 (iota .tc S128x256 32 [0] iota_S128x256_d0_w32) (k0_pay674 (arg3.view.readAt (Elt F) (Rect.unit (s := S256x256) ![0, 128] S256x128.size inb_S256x256_S256x128_0_128).toLoadRect X3))
        ∧ arg11.view.readAt (Elt F) (Rect.unit (s := S2x256x512) ![0, 128, 0] S1x128x512.size inb_S2x256x512_S1x128x512_0_128_0).toLoadRect g11 = k0_pay678 ∧ arg11.view.readAt (Elt F) (Rect.unit (s := S2x256x512) ![1, 128, 0] S1x128x512.size inb_S2x256x512_S1x128x512_1_128_0).toLoadRect g11 = k0_pay679⌝) -∗ K ⟨⟩))
      ⊢ wp frame (wpE (defs₀ (F := F)) Variants.none c none) E (cc0_diffattn (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_diffattn_eq_skeleton]; unfold cc0_diffattn_skel
  iintro ⟨H2, H3, H4, H5, H6, H7, H8, H9, H10, H11, H12, H13, H14, H15, H16, Hk⟩
  rw [wp_bind]
  iapply part_q0 c i arg2 harg2 arg3 harg3 arg4 harg4 arg5 harg5 arg6 harg6 arg7 harg7 arg8 harg8 arg9 harg9 arg10 harg10 arg11 harg11 arg12 harg12 arg13 harg13 arg14 harg14 arg15 harg15 arg16 harg16 X3 f11 E
  isplitl [H3]; · iexact H3
  isplitl [H11]; · iexact H11
  iintro %r %g11 ⟨H3, H11, %hh⟩
  obtain ⟨rfl, hq0, hq1, hq2, hq3⟩ := hh
  rw [wp_bind]
  iapply part_q1 c i arg2 harg2 arg3 harg3 arg4 harg4 arg5 harg5 arg6 harg6 arg7 harg7 arg8 harg8 arg9 harg9 arg10 harg10 arg11 harg11 arg12 harg12 arg13 harg13 arg14 harg14 arg15 harg15 arg16 harg16 _ _ _ X4 X6 g11 f12 f13 (fun h => ⟨hq2.trans (hf h).1, hq3.trans (hf h).2⟩) E
  isplitl [H4]; · iexact H4
  isplitl [H6]; · iexact H6
  isplitl [H11]; · iexact H11
  isplitl [H12]; · iexact H12
  isplitl [H13]; · iexact H13
  iintro %r %h11 %g12 %g13 ⟨H4, H6, H11, H12, H13, %hh⟩
  obtain ⟨rfl, he0, he1, he2, he3, he4, he5, hm, ha⟩ := hh
  rw [wp_bind]
  iapply part_s0 c i arg2 harg2 arg3 harg3 arg4 harg4 arg5 harg5 arg6 harg6 arg7 harg7 arg8 harg8 arg9 harg9 arg10 harg10 arg11 harg11 arg12 harg12 arg13 harg13 arg14 harg14 arg15 harg15 arg16 harg16 _ X4 X6 h11 f14 f15 f16 E
  isplitl [H4]; · iexact H4
  isplitl [H6]; · iexact H6
  isplitl [H11]; · iexact H11
  isplitl [H14]; · iexact H14
  isplitl [H15]; · iexact H15
  isplitl [H16]; · iexact H16
  iintro %r %g14 %g15 %g16 ⟨H4, H6, H11, H14, H15, H16, %hh⟩
  obtain ⟨rfl, hs0, hs1, hp, hal⟩ := hh
  rw [wp_bind]
  iapply part_long c i arg2 harg2 arg3 harg3 arg4 harg4 arg5 harg5 arg6 harg6 arg7 harg7 arg8 harg8 arg9 harg9 arg10 harg10 arg11 harg11 arg12 harg12 arg13 harg13 arg14 harg14 arg15 harg15 arg16 harg16 _ X2 X4 X5 X6 h11 g12 g13 g14 g15 g16 E
  isplitl [H2 H4 H5 H6 H11 H12 H13 H14 H15 H16]
  · unfold Trip_k0_t1
    isplitl [H2]; · iexact H2
    isplitl [H4]; · iexact H4
    isplitl [H5]; · iexact H5
    isplitl [H6]; · iexact H6
    isplitl [H11]; · iexact H11
    isplitl [H12]; · iexact H12
    isplitl [H13]; · iexact H13
    isplitl [H14]; · iexact H14
    isplitl [H15]; · iexact H15
    iexact H16
  iintro %r %a12 %a13 %a14 %a15 %a16 ⟨HT, %hh⟩
  unfold Trip_k0_t1
  icases HT with ⟨H2, H4, H5, H6, H11, H12, H13, H14, H15, H16⟩
  obtain ⟨rfl, hl0, hl1⟩ := hh
  rw [wp_bind]
  iapply part_mid c i arg2 harg2 arg3 harg3 arg4 harg4 arg5 harg5 arg6 harg6 arg7 harg7 arg8 harg8 arg9 harg9 arg10 harg10 arg11 harg11 arg12 harg12 arg13 harg13 arg14 harg14 arg15 harg15 arg16 harg16 _ _ _ _ _ _ (words1_fst i) X2 X4 X5 X6 h11 a12 a13 a14 a15 a16 E
  isplitl [H2 H4 H5 H6 H11 H12 H13 H14 H15 H16]
  · unfold Trip_k0_t1
    isplitl [H2]; · iexact H2
    isplitl [H4]; · iexact H4
    isplitl [H5]; · iexact H5
    isplitl [H6]; · iexact H6
    isplitl [H11]; · iexact H11
    isplitl [H12]; · iexact H12
    isplitl [H13]; · iexact H13
    isplitl [H14]; · iexact H14
    isplitl [H15]; · iexact H15
    iexact H16
  iintro %r %b12 %b13 %b14 %b15 %b16 ⟨HT, %hh⟩
  unfold Trip_k0_t1
  icases HT with ⟨H2, H4, H5, H6, H11, H12, H13, H14, H15, H16⟩
  obtain ⟨rfl, hm0, hm1⟩ := hh
  rw [wp_bind]
  iapply part_last c i arg2 harg2 arg3 harg3 arg4 harg4 arg5 harg5 arg6 harg6 arg7 harg7 arg8 harg8 arg9 harg9 arg10 harg10 arg11 harg11 arg12 harg12 arg13 harg13 arg14 harg14 arg15 harg15 arg16 harg16 _ _ _ (words3_fst i).1 (words3_fst i).2 X2 X4 X5 X6 h11 X7 X8 b12 b13 b14 b15 b16 E
  isplitl [H2 H4 H5 H6 H11 H12 H13 H14 H15 H16]
  · unfold Trip_k0_t1
    isplitl [H2]; · iexact H2
    isplitl [H4]; · iexact H4
    isplitl [H5]; · iexact H5
    isplitl [H6]; · iexact H6
    isplitl [H11]; · iexact H11
    isplitl [H12]; · iexact H12
    isplitl [H13]; · iexact H13
    isplitl [H14]; · iexact H14
    isplitl [H15]; · iexact H15
    iexact H16
  isplitl [H7]; · iexact H7
  isplitl [H8]; · iexact H8
  iintro %r %c12 %c13 %c14 %c15 %c16 ⟨HT, H7, H8, %hh⟩
  unfold Trip_k0_t1
  icases HT with ⟨H2, H4, H5, H6, H11, H12, H13, H14, H15, H16⟩
  obtain ⟨rfl, hr0, hr1⟩ := hh
  rw [wp_bind]
  iapply part_o0 c i arg2 harg2 arg3 harg3 arg4 harg4 arg5 harg5 arg6 harg6 arg7 harg7 arg8 harg8 arg9 harg9 arg10 harg10 arg11 harg11 arg12 harg12 arg13 harg13 arg14 harg14 arg15 harg15 arg16 harg16 _ _ _ X9 c13 f10 E
  isplitl [H9]; · iexact H9
  isplitl [H13]; · iexact H13
  isplitl [H10]; · iexact H10
  iintro %r %g10 ⟨H9, H13, H10, %hh⟩
  obtain ⟨rfl, ho⟩ := hh
  sl_exec
  sl_step
  iapply Hk
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  ipureintro
  have e0 : slots0 arg12 arg13 arg14 arg15 arg16 g12 g13 g14 g15 g16 = start0 arg4 arg6 arg11 X4 X6 h11 :=
    HSt.ext' ((readAt_window arg12.view g12 inb_S2x1x512_S1x1x512_0_0_0 inb_S2x1x512_S2x1x512_0_0_0 (by decide) (by decide)).trans (by rw [hm]; rfl)) ((readAt_window arg13.view g13 inb_S2x144x512_S1x144x512_0_0_0 inb_S2x144x512_S2x144x512_0_0_0 (by decide) (by decide)).trans (by rw [ha]; rfl)) hs0 hp hal
  have e1 : ({slots1 arg12 arg13 arg14 arg15 arg16 g12 g13 g14 g15 g16 with p := k0_pay687, a := k0_pay688} : HSt F) = start1 arg4 arg6 arg11 X4 X6 h11 :=
    HSt.ext' ((readAt_window arg12.view g12 inb_S2x1x512_S1x1x512_1_0_0 inb_S2x1x512_S2x1x512_0_0_0 (by decide) (by decide)).trans (by rw [hm]; rfl)) ((readAt_window arg13.view g13 inb_S2x144x512_S1x144x512_1_0_0 inb_S2x144x512_S2x144x512_0_0_0 (by decide) (by decide)).trans (by rw [ha]; rfl)) hs1 rfl rfl
  rw [e0] at hl0
  rw [e1] at hl1
  have t0 := hr0
  have t1 := hr1
  rw [hm0, hl0, hrun_glue (fun j => at0 arg2 arg4 arg5 arg6 arg11 X2 X4 X5 X6 h11 i j) _ (bases i).1 (bases i).2.1 (bases i).2.2] at t0
  rw [hm1, hl1, hrun_glue (fun j => at1 arg2 arg4 arg5 arg6 arg11 X2 X4 X5 X6 h11 i j) _ (bases i).1 (bases i).2.1 (bases i).2.2] at t1
  have w00 := (readAt_window arg13.view c13 inb_S2x144x512_S1x128x512_0_0_0 inb_S2x144x512_S1x144x512_0_0_0 (o := ![0, 0, 0]) (by decide) (by decide)).trans (congrArg top t0)
  have w01 := (readAt_window arg13.view c13 inb_S2x144x512_S1x1x512_0_128_0 inb_S2x144x512_S1x144x512_0_0_0 (o := ![0, 128, 0]) (by decide) (by decide)).trans (congrArg bot t0)
  have w10 := (readAt_window arg13.view c13 inb_S2x144x512_S1x128x512_1_0_0 inb_S2x144x512_S1x144x512_1_0_0 (o := ![0, 0, 0]) (by decide) (by decide)).trans (congrArg top t1)
  have w11 := (readAt_window arg13.view c13 inb_S2x144x512_S1x1x512_1_128_0 inb_S2x144x512_S1x144x512_1_0_0 (o := ![0, 128, 0]) (by decide) (by decide)).trans (congrArg bot t1)
  refine ⟨?_, ?_, he0.trans hq0, he1.trans hq1, he2, he3, he4, he5⟩
  · refine (readAt_writes_skip _ _ _ _ _ _ (by decide)).trans (ho.trans ?_)
    rw [w00, w01]
    rfl
  · refine (readAt_writes_self _ _ _ _ _).trans ?_
    rw [w10, w11]
    rfl

end Cert.KernelIdeal.Gen

end
-- ==== Proof.Hand.Values.lean ====
/- The run with every block named: what each grid point writes, and the result array. -/
module

public import proofs.«01_k».proof.Proof.Hand.Whole
public import Idealize.ShloMosaic.Lib.Pipeline.FrameBody
public import Idealize.ShloMosaic.Lib.ValueIdx

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

section Block

variable (h : Fin 2) (x0 : Vec F S4 .f32) (x1 : Vec F S256x256 .bf16) (x2 : Vec F S16384x256 .bf16) (x3 : Vec F S2x128x16384 .bf16) (x4 : Vec F S2x256x128 .bf16) (x5 : Vec F S2x256x512 .f32) (x6 : Vec F S4x64 .f32) (x7 : Vec F S1x128 .f32) (i : grid0.Coords)

theorem head_inb (h : Fin 2) : (∀ a, ![0, 128 * h.val] a + S256x128.size a ≤ S256x256.size a) ∧ (∀ a, ![h.val, 0, 0] a + S1x256x128.size a ≤ S2x256x128.size a)
    ∧ (∀ a, ![h.val, 0, 0] a + S1x256x512.size a ≤ S2x256x512.size a) ∧ (∀ a, ![h.val, 128, 0] a + S1x128x512.size a ≤ S2x256x512.size a) := by
  revert h; decide

/-- One head's queries, both maps side by side, above the rows for the key features. -/
def qqV : Vec F S1x256x512 .bf16 := fun y =>
  if hr : (y 1).val < 128 then
    if hc : (y 2).val < 256 then k0_pay672 (VecWindow.window x1 ![0, 128 * h.val] S256x128.size (head_inb h).1) (ValueIdx.ix3 (0 : Fin 1) (⟨(y 1).val, hr⟩ : Fin 128) (⟨(y 2).val, hc⟩ : Fin 256))
    else k0_pay673 (VecWindow.window x1 ![0, 128 * h.val] S256x128.size (head_inb h).1) (ValueIdx.ix3 (0 : Fin 1) (⟨(y 1).val, hr⟩ : Fin 128) (⟨(y 2).val - 256, by have : (y 2).val < 512 := (y 2).isLt; omega⟩ : Fin 256))
  else k0_pay678 (ValueIdx.ix3 (0 : Fin 1) (⟨(y 1).val - 128, by have : (y 1).val < 256 := (y 1).isLt; omega⟩ : Fin 128) (⟨(y 2).val, (y 2).isLt⟩ : Fin 512))

/-- What stage `j` reads. -/
def inpV (qq : Vec F S1x256x512 .bf16) (j : ℕ) : Inp F where
  w := BitVec.ofNat 32 j
  sl := VecWindow.window x0 (o2At h.val i) S1.size (o2At_inb i h) (Shape.Idx.first (numel1_S1.symm ▸ Nat.one_pos))
  kb := VecWindow.window x2 (o4At h.val j) S256x128.size (o4At_inb h j)
  kf := VecWindow.window x4 ![h.val, 0, 0] S1x256x128.size (head_inb h).2.1
  qq := qq
  vb := VecWindow.window x3 (o5At h.val j) S1x128x256.size (o5At_inb h j)

/-- What the last stage reads. -/
def finV : LastInp F where
  w := BitVec.ofNat 32 (i 1).val
  sl := VecWindow.window x0 (o2At h.val i) S1.size (o2At_inb i h) (Shape.Idx.first (numel1_S1.symm ▸ Nat.one_pos))
  b := VecWindow.window x5 ![h.val, 0, 0] S1x256x512.size (head_inb h).2.2.1
  vb := VecWindow.window x3 (o5Of h.val ((i 1).val - 1)) S1x128x256.size (o5Of_inb h ((i 1).val - 1))
  vl := VecWindow.window x3 (o5Of h.val (i 1).val) S1x128x256.size (o5Of_inb h (i 1).val)

theorem key_inb (h : Fin 2) : ∀ a, ![0, 128 * h.val] a + S256x128.size a ≤ S16384x256.size a := by
  revert h; decide

/-- What the stages start from. -/
def startV (qq : Vec F S1x256x512 .bf16) : HSt F where
  m := fun _ => Scalar.ofBits .f32 0xF149F2CA#32
  acc := fun _ => Scalar.ofBits .f32 0x00000000#32
  s := k0_pay2 (VecWindow.window x2 ![0, 128 * h.val] S256x128.size (key_inb h)) (VecWindow.window x4 ![h.val, 0, 0] S1x256x128.size (head_inb h).2.1) qq
  p := k0_pay684
  a := k0_pay685

/-- The sums a head's output divides. -/
def sumV (qq : Vec F S1x256x512 .bf16) : Vec F S1x144x512 .f32 :=
  lastAcc (finV h x0 x3 x5 i) (hrun (inpV h x0 x2 x3 x4 i qq) (i 1).val (startV h x2 x4 qq))

/-- A head's output columns, from its sums. -/
def outH (A : Vec F S1x144x512 .f32) : Vec F S256x128 .bf16 :=
  k0_pay1 (k0_pay702 (k0_pay698 x6) (top A) (bot A)) (k0_pay703 (k0_pay698 x6) (top A) (bot A)) x7

/-- What a point writes. -/
def outV : Vec F S256x256 .bf16 := fun y =>
  let h : Fin 2 := if (y 1).val < 128 then 0 else 1
  outH x6 x7 (sumV h x0 x2 x3 x4 x5 i (qqV h x1)) (ValueIdx.ix2 (⟨(y 0).val, (y 0).isLt⟩ : Fin 256) (⟨(y 1).val % 128, Nat.mod_lt _ (by norm_num)⟩ : Fin 128))

end Block

section Reads

variable (arg2 : Memref sig .tc .smem S4 .f32) (arg3 : Memref sig .tc .vmem S256x256 .bf16) (arg4 : Memref sig .tc .vmem S16384x256 .bf16) (arg5 : Memref sig .tc .vmem S2x128x16384 .bf16) (arg6 : Memref sig .tc .vmem S2x256x128 .bf16) (arg7 : Memref sig .tc .vmem S2x256x512 .f32) (arg11 : Memref sig .tc .vmem S2x256x512 .bf16) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X11 : BufTy.Contents (Elt F) arg11.view.ty) (i : grid0.Coords)

theorem sum0_eq : sum0 arg2 arg4 arg5 arg6 arg7 arg11 X2 X4 X5 X6 X7 X11 i
    = sumV 0 (arg2.view.read (Elt F) X2) (arg4.view.read (Elt F) X4) (arg5.view.read (Elt F) X5) (arg6.view.read (Elt F) X6) (arg7.view.read (Elt F) X7) i
        (arg11.view.readAt (Elt F) (Rect.unit (s := S2x256x512) ![0, 0, 0] S1x256x512.size inb_S2x256x512_S1x256x512_0_0_0).toLoadRect X11) := by
  unfold sum0 sumV
  have e1 : fin0 arg2 arg5 arg7 X2 X5 X7 i = finV 0 (arg2.view.read (Elt F) X2) (arg5.view.read (Elt F) X5) (arg7.view.read (Elt F) X7) i := rfl
  have e2 : (fun j => at0 arg2 arg4 arg5 arg6 arg11 X2 X4 X5 X6 X11 i j) = inpV 0 (arg2.view.read (Elt F) X2) (arg4.view.read (Elt F) X4) (arg5.view.read (Elt F) X5) (arg6.view.read (Elt F) X6) i
        (arg11.view.readAt (Elt F) (Rect.unit (s := S2x256x512) ![0, 0, 0] S1x256x512.size inb_S2x256x512_S1x256x512_0_0_0).toLoadRect X11) := rfl
  have e3 : start0 arg4 arg6 arg11 X4 X6 X11 = startV 0 (arg4.view.read (Elt F) X4) (arg6.view.read (Elt F) X6)
        (arg11.view.readAt (Elt F) (Rect.unit (s := S2x256x512) ![0, 0, 0] S1x256x512.size inb_S2x256x512_S1x256x512_0_0_0).toLoadRect X11) := rfl
  rw [e1, e2, e3]

theorem sum1_eq : sum1 arg2 arg4 arg5 arg6 arg7 arg11 X2 X4 X5 X6 X7 X11 i
    = sumV 1 (arg2.view.read (Elt F) X2) (arg4.view.read (Elt F) X4) (arg5.view.read (Elt F) X5) (arg6.view.read (Elt F) X6) (arg7.view.read (Elt F) X7) i
        (arg11.view.readAt (Elt F) (Rect.unit (s := S2x256x512) ![1, 0, 0] S1x256x512.size inb_S2x256x512_S1x256x512_1_0_0).toLoadRect X11) := by
  unfold sum1 sumV
  have e1 : fin1 arg2 arg5 arg7 X2 X5 X7 i = finV 1 (arg2.view.read (Elt F) X2) (arg5.view.read (Elt F) X5) (arg7.view.read (Elt F) X7) i := rfl
  have e2 : (fun j => at1 arg2 arg4 arg5 arg6 arg11 X2 X4 X5 X6 X11 i j) = inpV 1 (arg2.view.read (Elt F) X2) (arg4.view.read (Elt F) X4) (arg5.view.read (Elt F) X5) (arg6.view.read (Elt F) X6) i
        (arg11.view.readAt (Elt F) (Rect.unit (s := S2x256x512) ![1, 0, 0] S1x256x512.size inb_S2x256x512_S1x256x512_1_0_0).toLoadRect X11) := rfl
  have e3 : start1 arg4 arg6 arg11 X4 X6 X11 = startV 1 (arg4.view.read (Elt F) X4) (arg6.view.read (Elt F) X6)
        (arg11.view.readAt (Elt F) (Rect.unit (s := S2x256x512) ![1, 0, 0] S1x256x512.size inb_S2x256x512_S1x256x512_1_0_0).toLoadRect X11) := rfl
  rw [e1, e2, e3]

theorem whole_read {sp : Space} {s : Shape} {e : EltTy} (v : View sig .tc sp s e) (f : BufTy.Contents (Elt F) v.ty) (off : Fin s.rank → ℕ) (inb : ∀ a, off a + s.size a ≤ s.size a) :
    v.readAt (Elt F) (Rect.unit off s.size inb).toLoadRect f = v.read (Elt F) f := by
  funext y
  refine congrArg (v.read (Elt F) f) (funext fun a => Fin.ext ?_)
  show off a + 1 * (y a).val = (y a).val
  have := inb a; omega

theorem queries_read (h : Fin 2) {inb1 inb2 inb3 inb4}
    (q1 : arg11.view.readAt (Elt F) (Rect.unit (s := S2x256x512) ![h.val, 0, 0] S1x128x256.size inb1).toLoadRect X11 = k0_pay672 (VecWindow.window (arg3.view.read (Elt F) X3) ![0, 128 * h.val] S256x128.size (head_inb h).1))
    (q2 : arg11.view.readAt (Elt F) (Rect.unit (s := S2x256x512) ![h.val, 0, 256] S1x128x256.size inb2).toLoadRect X11 = k0_pay673 (VecWindow.window (arg3.view.read (Elt F) X3) ![0, 128 * h.val] S256x128.size (head_inb h).1))
    (q3 : arg11.view.readAt (Elt F) (Rect.unit (s := S2x256x512) ![h.val, 128, 0] S1x128x512.size inb3).toLoadRect X11 = k0_pay678) :
    arg11.view.readAt (Elt F) (Rect.unit (s := S2x256x512) ![h.val, 0, 0] S1x256x512.size inb4).toLoadRect X11 = qqV h (arg3.view.read (Elt F) X3) := by
  funext y
  have y0 : (y 0).val = 0 := by have : (y 0).val < 1 := (y 0).isLt; omega
  have y1 : (y 1).val < 256 := (y 1).isLt
  have y2 : (y 2).val < 512 := (y 2).isLt
  unfold qqV
  split_ifs with hr hc
  · refine Eq.trans ?_ (congrFun q1 _)
    refine congrArg (arg11.view.read (Elt F) X11) (funext fun a => Fin.ext ?_)
    fin_cases a
    · show h.val + 1 * (y 0).val = h.val + 1 * 0
      rw [y0]
    · rfl
    · rfl
  · refine Eq.trans ?_ (congrFun q2 _)
    refine congrArg (arg11.view.read (Elt F) X11) (funext fun a => Fin.ext ?_)
    fin_cases a
    · show h.val + 1 * (y 0).val = h.val + 1 * 0
      rw [y0]
    · rfl
    · show 0 + 1 * (y 2).val = 256 + 1 * ((y 2).val - 256)
      omega
  · refine Eq.trans ?_ (congrFun q3 _)
    refine congrArg (arg11.view.read (Elt F) X11) (funext fun a => Fin.ext ?_)
    fin_cases a
    · show h.val + 1 * (y 0).val = h.val + 1 * 0
      rw [y0]
    · show 0 + 1 * (y 1).val = 128 + 1 * ((y 1).val - 128)
      omega
    · rfl

theorem out_read (arg10 : Memref sig .tc .vmem S256x256 .bf16) (g : BufTy.Contents (Elt F) arg10.view.ty) (O : Fin 2 → Vec F S256x128 .bf16) {inb1 inb2}
    (o1 : arg10.view.readAt (Elt F) (Rect.unit (s := S256x256) ![0, 0] S256x128.size inb1).toLoadRect g = O 0)
    (o2 : arg10.view.readAt (Elt F) (Rect.unit (s := S256x256) ![0, 128] S256x128.size inb2).toLoadRect g = O 1) :
    arg10.view.read (Elt F) g = fun y => O (if (y 1).val < 128 then 0 else 1) (ValueIdx.ix2 (⟨(y 0).val, (y 0).isLt⟩ : Fin 256) (⟨(y 1).val % 128, Nat.mod_lt _ (by norm_num)⟩ : Fin 128)) := by
  funext y
  have y1 : (y 1).val < 256 := (y 1).isLt
  by_cases hc : (y 1).val < 128
  · simp only [if_pos hc]
    refine Eq.trans ?_ (congrFun o1 _)
    refine congrArg (arg10.view.read (Elt F) g) (funext fun a => Fin.ext ?_)
    fin_cases a
    · show (y 0).val = 0 + 1 * (y 0).val
      omega
    · show (y 1).val = 0 + 1 * ((y 1).val % 128)
      omega
  · simp only [if_neg hc]
    refine Eq.trans ?_ (congrFun o2 _)
    refine congrArg (arg10.view.read (Elt F) g) (funext fun a => Fin.ext ?_)
    fin_cases a
    · show (y 0).val = 0 + 1 * (y 0).val
      omega
    · show (y 1).val = 128 + 1 * ((y 1).val % 128)
      omega

end Reads

/-- The rows of the first scratch buffer that hold the features' weights. -/
def Feat (d : Vec F S2x256x512 .bf16) : Prop :=
  VecWindow.window d ![0, 128, 0] S1x128x512.size (head_inb 0).2.2.2 = k0_pay678 ∧ VecWindow.window d ![1, 128, 0] S1x128x512.size (head_inb 1).2.2.2 = k0_pay679

set_option maxHeartbeats 2000000 in
/-- The body, on the blocks it is called with. -/
theorem body_owns (c : Dev nD) (i : grid0.Coords) (arg2 : Memref sig .tc .smem S4 .f32) (harg2 : arg2.IsWhole) (arg3 : Memref sig .tc .vmem S256x256 .bf16) (harg3 : arg3.IsWhole) (arg4 : Memref sig .tc .vmem S16384x256 .bf16) (harg4 : arg4.IsWhole) (arg5 : Memref sig .tc .vmem S2x128x16384 .bf16) (harg5 : arg5.IsWhole) (arg6 : Memref sig .tc .vmem S2x256x128 .bf16) (harg6 : arg6.IsWhole) (arg7 : Memref sig .tc .vmem S2x256x512 .f32) (harg7 : arg7.IsWhole) (arg8 : Memref sig .tc .vmem S4x64 .f32) (harg8 : arg8.IsWhole) (arg9 : Memref sig .tc .vmem S1x128 .f32) (harg9 : arg9.IsWhole) (arg10 : Memref sig .tc .vmem S256x256 .bf16) (harg10 : arg10.IsWhole) (arg11 : Memref sig .tc .vmem S2x256x512 .bf16) (harg11 : arg11.IsWhole) (arg12 : Memref sig .tc .vmem S2x1x512 .f32) (harg12 : arg12.IsWhole) (arg13 : Memref sig .tc .vmem S2x144x512 .f32) (harg13 : arg13.IsWhole) (arg14 : Memref sig .tc .vmem S2x2x256x512 .f32) (harg14 : arg14.IsWhole) (arg15 : Memref sig .tc .vmem S2x2x256x512 .bf16) (harg15 : arg15.IsWhole) (arg16 : Memref sig .tc .vmem S2x2x1x512 .f32) (harg16 : arg16.IsWhole)
    (x0 : Vec F S4 .f32) (x1 : Vec F S256x256 .bf16) (x2 : Vec F S16384x256 .bf16) (x3 : Vec F S2x128x16384 .bf16) (x4 : Vec F S2x256x128 .bf16) (x5 : Vec F S2x256x512 .f32) (x6 : Vec F S4x64 .f32) (x7 : Vec F S1x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, ⌜¬ first i → Feat d⌝ ∗ owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare (outV x0 x1 x2 x3 x4 x5 x6 x7 i) ∗ (∃ d, ⌜Feat d⌝ ∗ owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)) -∗ K ⟨⟩))
      ⊢ wp frame (wpE (defs₀ (F := F)) Variants.none c none) E (cc0_diffattn i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %hd, %f11, %hf11, H11⟩, ⟨%d12, %f12, -, H12⟩, ⟨%d13, %f13, -, H13⟩, ⟨%d14, %f14, -, H14⟩, ⟨%d15, %f15, -, H15⟩, ⟨%d16, %f16, -, H16⟩, Hk⟩
  subst hf11
  have hfe : ¬ first i → arg11.view.readAt (Elt F) (Rect.unit (s := S2x256x512) ![0, 128, 0] S1x128x512.size inb_S2x256x512_S1x128x512_0_128_0).toLoadRect f11 = k0_pay678 ∧ arg11.view.readAt (Elt F) (Rect.unit (s := S2x256x512) ![1, 128, 0] S1x128x512.size inb_S2x256x512_S1x128x512_1_128_0).toLoadRect f11 = k0_pay679 := hd
  iapply (body_run c i arg2 harg2 arg3 harg3 arg4 harg4 arg5 harg5 arg6 harg6 arg7 harg7 arg8 harg8 arg9 harg9 arg10 harg10 arg11 harg11 arg12 harg12 arg13 harg13 arg14 harg14 arg15 harg15 arg16 harg16 f2 f3 f4 f5 f6 f7 f8 f9 f10 f11 f12 f13 f14 f15 f16 hfe E K)
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  iintro %g10 %g11 %g12 %g13 %g14 %g15 %g16 ⟨H2, H3, H4, H5, H6, H7, H8, H9, H10, H11, H12, H13, H14, H15, H16, %hh⟩
  obtain ⟨ho0, ho1, hq00, hq01, hq10, hq11, hf0, hf1⟩ := hh
  have hQ0 : arg11.view.readAt (Elt F) (Rect.unit (s := S2x256x512) ![0, 0, 0] S1x256x512.size inb_S2x256x512_S1x256x512_0_0_0).toLoadRect g11 = qqV 0 (arg3.view.read (Elt F) f3) := queries_read arg3 arg11 f3 g11 0 (inb4 := inb_S2x256x512_S1x256x512_0_0_0) hq00 hq01 hf0
  have hQ1 : arg11.view.readAt (Elt F) (Rect.unit (s := S2x256x512) ![1, 0, 0] S1x256x512.size inb_S2x256x512_S1x256x512_1_0_0).toLoadRect g11 = qqV 1 (arg3.view.read (Elt F) f3) := queries_read arg3 arg11 f3 g11 1 (inb4 := inb_S2x256x512_S1x256x512_1_0_0) hq10 hq11 hf1
  rw [sum0_eq, hQ0, whole_read, whole_read] at ho0
  rw [sum1_eq, hQ1, whole_read, whole_read] at ho1
  have hO := out_read arg10 g10 (fun h => outH (arg8.view.read (Elt F) f8) (arg9.view.read (Elt F) f9) (sumV h (arg2.view.read (Elt F) f2) (arg4.view.read (Elt F) f4) (arg5.view.read (Elt F) f5) (arg6.view.read (Elt F) f6) (arg7.view.read (Elt F) f7) i (qqV h (arg3.view.read (Elt F) f3)))) (ho0.trans rfl) (ho1.trans rfl)
  iapply Hk
  isplitl [H2]
  · iexists f2; isplitr; · ipureintro; exact hf2
    iexact H2
  isplitl [H3]
  · iexists f3; isplitr; · ipureintro; exact hf3
    iexact H3
  isplitl [H4]
  · iexists f4; isplitr; · ipureintro; exact hf4
    iexact H4
  isplitl [H5]
  · iexists f5; isplitr; · ipureintro; exact hf5
    iexact H5
  isplitl [H6]
  · iexists f6; isplitr; · ipureintro; exact hf6
    iexact H6
  isplitl [H7]
  · iexists f7; isplitr; · ipureintro; exact hf7
    iexact H7
  isplitl [H8]
  · iexists f8; isplitr; · ipureintro; exact hf8
    iexact H8
  isplitl [H9]
  · iexists f9; isplitr; · ipureintro; exact hf9
    iexact H9
  isplitl [H10]
  · iexists g10; isplitr
    · ipureintro
      subst hf2 hf3 hf4 hf5 hf6 hf7 hf8 hf9
      exact hO
    iexact H10
  isplitl [H11]
  · iexists _; isplitr; swap
    · iexists g11; isplitr; swap; · iexact H11
      ipureintro; rfl
    ipureintro; exact ⟨hf0, hf1⟩
  isplitl [H12]
  · iexists _, g12; isplitr; swap; · iexact H12
    ipureintro; rfl
  isplitl [H13]
  · iexists _, g13; isplitr; swap; · iexact H13
    ipureintro; rfl
  isplitl [H14]
  · iexists _, g14; isplitr; swap; · iexact H14
    ipureintro; rfl
  isplitl [H15]
  · iexists _, g15; isplitr; swap; · iexact H15
    ipureintro; rfl
  iexists _, g16; isplitr; swap; · iexact H16
  ipureintro; rfl

/-! ## The proof data -/

variable (m : (ℓ : Loc nD τ sig) → Buf (Elt F) ℓ) (ρ : Dev nD → PrngReg)

/-- What is carried from a point to the next: the scratch buffers at some contents, the features' rows written once any
    point has run, and the generator register. -/
def PhiV (c : Dev nD) (n : ℕ) : sProp 𝕄 :=
  iprop(iprop((∃ d, ⌜n ≠ 0 → Feat d⌝ ∗ owns (c : Thread nD τ) (Memref.whole cc0_scratch0) fullShare d)
        ∗ (∃ d, owns (c : Thread nD τ) (Memref.whole cc0_scratch1) fullShare d)
        ∗ (∃ d, owns (c : Thread nD τ) (Memref.whole cc0_scratch2) fullShare d)
        ∗ (∃ d, owns (c : Thread nD τ) (Memref.whole cc0_scratch3) fullShare d)
        ∗ (∃ d, owns (c : Thread nD τ) (Memref.whole cc0_scratch4) fullShare d)
        ∗ (∃ d, owns (c : Thread nD τ) (Memref.whole cc0_scratch5) fullShare d)) ∗ (∃ r, prngReg c r))

/-- The proof data: each input's buffer stays at its block, the output's holds what the point wrote. -/
def datsV (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => outV (iblk m c 0 t) (iblk m c 1 t) (iblk m c 2 t) (iblk m c 3 t) (iblk m c 4 t) (iblk m c 5 t) (iblk m c 6 t) (iblk m c 7 t) (grid0.coords t)
  Φ t := PhiV c t.val
  q w := Pipeline.shareOf spec0 w
  owed _ := 0

theorem A_eqV (c : Dev nD) (w : Fin cfg0.W) : (datsV m 0 c).A w = V m c (Pipeline.arrRef spec0 w) := by
  dsimp only [datsV]

theorem afterV_0 (c : Dev nD) (t : Fin cfg0.N) : (datsV m 0 c).after 0 t = iblk m c 0 t := by dsimp only [datsV]
theorem afterV_1 (c : Dev nD) (t : Fin cfg0.N) : (datsV m 0 c).after 1 t = iblk m c 1 t := by dsimp only [datsV]
theorem afterV_2 (c : Dev nD) (t : Fin cfg0.N) : (datsV m 0 c).after 2 t = iblk m c 2 t := by dsimp only [datsV]
theorem afterV_3 (c : Dev nD) (t : Fin cfg0.N) : (datsV m 0 c).after 3 t = iblk m c 3 t := by dsimp only [datsV]
theorem afterV_4 (c : Dev nD) (t : Fin cfg0.N) : (datsV m 0 c).after 4 t = iblk m c 4 t := by dsimp only [datsV]
theorem afterV_5 (c : Dev nD) (t : Fin cfg0.N) : (datsV m 0 c).after 5 t = iblk m c 5 t := by dsimp only [datsV]
theorem afterV_6 (c : Dev nD) (t : Fin cfg0.N) : (datsV m 0 c).after 6 t = iblk m c 6 t := by dsimp only [datsV]
theorem afterV_7 (c : Dev nD) (t : Fin cfg0.N) : (datsV m 0 c).after 7 t = iblk m c 7 t := by dsimp only [datsV]
theorem afterV_8 (c : Dev nD) (t : Fin cfg0.N) : (datsV m 0 c).after 8 t = outV (iblk m c 0 t) (iblk m c 1 t) (iblk m c 2 t) (iblk m c 3 t) (iblk m c 4 t) (iblk m c 5 t) (iblk m c 6 t) (iblk m c 7 t) (grid0.coords t) := by dsimp only [datsV]

theorem beforeV_0 (c : Dev nD) (t : Fin cfg0.N) (d) : (datsV m 0 c).before 0 t d = iblk m c 0 t :=
  before0_0_of m (datsV m 0 c) (A_eqV m c 0) (afterV_0 m c) t d
theorem beforeV_1 (c : Dev nD) (t : Fin cfg0.N) (d) : (datsV m 0 c).before 1 t d = iblk m c 1 t :=
  before0_1_of m (datsV m 0 c) (A_eqV m c 1) (afterV_1 m c) t d
theorem beforeV_2 (c : Dev nD) (t : Fin cfg0.N) (d) : (datsV m 0 c).before 2 t d = iblk m c 2 t :=
  before0_2_of m (datsV m 0 c) (A_eqV m c 2) (afterV_2 m c) t d
theorem beforeV_3 (c : Dev nD) (t : Fin cfg0.N) (d) : (datsV m 0 c).before 3 t d = iblk m c 3 t :=
  before0_3_of m (datsV m 0 c) (A_eqV m c 3) (afterV_3 m c) t d
theorem beforeV_4 (c : Dev nD) (t : Fin cfg0.N) (d) : (datsV m 0 c).before 4 t d = iblk m c 4 t :=
  before0_4_of m (datsV m 0 c) (A_eqV m c 4) (afterV_4 m c) t d
theorem beforeV_5 (c : Dev nD) (t : Fin cfg0.N) (d) : (datsV m 0 c).before 5 t d = iblk m c 5 t :=
  before0_5_of m (datsV m 0 c) (A_eqV m c 5) (afterV_5 m c) t d
theorem beforeV_6 (c : Dev nD) (t : Fin cfg0.N) (d) : (datsV m 0 c).before 6 t d = iblk m c 6 t :=
  before0_6_of m (datsV m 0 c) (A_eqV m c 6) (afterV_6 m c) t d
theorem beforeV_7 (c : Dev nD) (t : Fin cfg0.N) (d) : (datsV m 0 c).before 7 t d = iblk m c 7 t :=
  before0_7_of m (datsV m 0 c) (A_eqV m c 7) (afterV_7 m c) t d

/-- What the body is called with at a point, -/
def bodyPreV (c : Dev nD) (t : Fin cfg0.N) : sProp 𝕄 :=
  iprop((datsV m 0 c).Φ t.castSucc ∗ (datsV m 0 c).owesAt () t.castSucc
    ∗ (∃ d, owns (c : Thread nD τ) (st0_0 t) fullShare ((datsV m 0 c).before 0 t d))
    ∗ (∃ d, owns (c : Thread nD τ) (st0_1 t) fullShare ((datsV m 0 c).before 1 t d))
    ∗ (∃ d, owns (c : Thread nD τ) (st0_2 t) fullShare ((datsV m 0 c).before 2 t d))
    ∗ (∃ d, owns (c : Thread nD τ) (st0_3 t) fullShare ((datsV m 0 c).before 3 t d))
    ∗ (∃ d, owns (c : Thread nD τ) (st0_4 t) fullShare ((datsV m 0 c).before 4 t d))
    ∗ (∃ d, owns (c : Thread nD τ) (st0_5 t) fullShare ((datsV m 0 c).before 5 t d))
    ∗ (∃ d, owns (c : Thread nD τ) (st0_6 t) fullShare ((datsV m 0 c).before 6 t d))
    ∗ (∃ d, owns (c : Thread nD τ) (st0_7 t) fullShare ((datsV m 0 c).before 7 t d))
    ∗ (∃ d, owns (c : Thread nD τ) (st0_8 t) fullShare ((datsV m 0 c).before 8 t d)))

/-- and what it gives back. -/
def bodyPostV (c : Dev nD) (t : Fin cfg0.N) : sProp 𝕄 :=
  iprop((datsV m 0 c).Φ t.succ ∗ (datsV m 0 c).owesAt () t.succ
    ∗ owns (c : Thread nD τ) (st0_0 t) fullShare ((datsV m 0 c).after 0 t)
    ∗ owns (c : Thread nD τ) (st0_1 t) fullShare ((datsV m 0 c).after 1 t)
    ∗ owns (c : Thread nD τ) (st0_2 t) fullShare ((datsV m 0 c).after 2 t)
    ∗ owns (c : Thread nD τ) (st0_3 t) fullShare ((datsV m 0 c).after 3 t)
    ∗ owns (c : Thread nD τ) (st0_4 t) fullShare ((datsV m 0 c).after 4 t)
    ∗ owns (c : Thread nD τ) (st0_5 t) fullShare ((datsV m 0 c).after 5 t)
    ∗ owns (c : Thread nD τ) (st0_6 t) fullShare ((datsV m 0 c).after 6 t)
    ∗ owns (c : Thread nD τ) (st0_7 t) fullShare ((datsV m 0 c).after 7 t)
    ∗ owns (c : Thread nD τ) (st0_8 t) fullShare ((datsV m 0 c).after 8 t))

/-- At a point that is not the first of its row of points, some point has run. -/
theorem ran_before : ∀ t : Fin cfg0.N, ¬ first (grid0.coords t) → t.val ≠ 0 :=
  (by decide +kernel : ∀ t : Fin grid0.N, _)

set_option maxHeartbeats 1600000 in
theorem soundV (c : Dev nD) (t : Fin cfg0.N) :
    bodyPreV m c t ⊢ wp frame (wpE (defs₀ (F := F)) Variants.none c none) Set.univ (bodyAt0 t) (fun _ => bodyPostV m c t) := by
  unfold bodyPreV bodyPostV bodyAt0
  simp only [beforeV_0, beforeV_1, beforeV_2, beforeV_3, beforeV_4, beforeV_5, beforeV_6, beforeV_7]
  rw [show (datsV m 0 c).owesAt () t.succ = (datsV m 0 c).owesAt () t.castSucc from rfl,
    afterV_0, afterV_1, afterV_2, afterV_3, afterV_4, afterV_5, afterV_6, afterV_7, afterV_8]
  rw [show (datsV m 0 c).Φ t.castSucc = PhiV c t.val from rfl, show (datsV m 0 c).Φ t.succ = PhiV c (t.val + 1) from rfl]
  unfold PhiV
  iintro ⟨⟨⟨⟨%ds, %hds, HS0⟩, HS1, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (body_owns c (grid0.coords t) _ _ _ _ _ _ _ _ _ _ _ _ _ _ _ _ _ _ _ _ _ _ _ _ _ _ _ _ _ _
    (iblk m c 0 t) (iblk m c 1 t) (iblk m c 2 t) (iblk m c 3 t) (iblk m c 4 t) (iblk m c 5 t) (iblk m c 6 t) (iblk m c 7 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [HS0]
  · iexists ds; isplitr; · ipureintro; exact fun hn => hds (ran_before t hn)
    iexact HS0
  isplitl [HS1]; · iexact HS1
  isplitl [HS2]; · iexact HS2
  isplitl [HS3]; · iexact HS3
  isplitl [HS4]; · iexact HS4
  isplitl [HS5]; · iexact HS5
  iintro ⟨H0, H1, H2, H3, H4, H5, H6, H7, H8, ⟨%ds', %hds', HS0⟩, HS1, HS2, HS3, HS4, HS5⟩
  isplitl [HS0 HS1 HS2 HS3 HS4 HS5 Hg]
  · isplitl [HS0 HS1 HS2 HS3 HS4 HS5]
    · isplitl [HS0]
      · iexists ds'; isplitr; · ipureintro; exact fun _ => hds'
        iexact HS0
      isplitl [HS1]; · iexact HS1
      isplitl [HS2]; · iexact HS2
      isplitl [HS3]; · iexact HS3
      isplitl [HS4]; · iexact HS4
      iexact HS5
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem defs₀_rowV (t : Fin cfg0.N) :
    defs₀ (F := F) .tc cfg0.body (cfg0.bodyArgs t (cfg0.slots t)) = bodyAt0 t := by
  unfold defs₀; rw [Defs.onTc_tc]

theorem obligationV (c : Dev nD) : BodyObligation (datsV (F := F) m 0 c) (defs₀ (F := F)) Variants.none () Set.univ := fun t => by
  rw [bigSep_W0, bigSep_W0, defs₀_rowV]
  exact triple_restated (soundV m c t) rfl .rfl fun _ => .rfl

/-- The invariant the launch gives: the scratch buffers at some contents, and the generator register. -/
theorem launch_gives (c : Dev nD) :
    (Pipeline.ΦA spec0 c : sProp 𝕄)
      = iprop(iprop((∃ d, owns (c : Thread nD τ) (Memref.whole cc0_scratch0) fullShare d)
        ∗ (∃ d, owns (c : Thread nD τ) (Memref.whole cc0_scratch1) fullShare d)
        ∗ (∃ d, owns (c : Thread nD τ) (Memref.whole cc0_scratch2) fullShare d)
        ∗ (∃ d, owns (c : Thread nD τ) (Memref.whole cc0_scratch3) fullShare d)
        ∗ (∃ d, owns (c : Thread nD τ) (Memref.whole cc0_scratch4) fullShare d)
        ∗ (∃ d, owns (c : Thread nD τ) (Memref.whole cc0_scratch5) fullShare d)) ∗ (∃ r, prngReg c r)) := by
  unfold Pipeline.ΦA; rw [scopedRest0_eq]; simp only [owns_whole]; try rfl

theorem hinV (c : Dev nD) : Pipeline.ΦA spec0 c ⊢ (datsV m 0 c).Φ 0 := by
  rw [show (datsV m 0 c).Φ 0 = PhiV c 0 from rfl, launch_gives]
  unfold PhiV
  iintro ⟨⟨⟨%d, HS0⟩, HS⟩, Hg⟩
  isplitl [HS0 HS]
  · isplitl [HS0]
    · iexists d; isplitr; · ipureintro; exact fun h => absurd rfl h
      iexact HS0
    iexact HS
  iexact Hg

theorem houtV (c : Dev nD) : (datsV m 0 c).Φ (Fin.last cfg0.N) ⊢ Pipeline.ΦA spec0 c := by
  rw [show (datsV m 0 c).Φ (Fin.last cfg0.N) = PhiV c cfg0.N from rfl, launch_gives]
  unfold PhiV
  iintro ⟨⟨⟨%d, -, HS0⟩, HS⟩, Hg⟩
  isplitl [HS0 HS]
  · isplitl [HS0]
    · iexists d; iexact HS0
    iexact HS
  iexact Hg

set_option backward.isDefEq.respectTransparency.types false in
theorem run_main : θ_run defs (onTc (τ := τ) (main (F := F))) (s₀ m ρ) (Pipeline.FramePost cfgs (datsV m) 0 (V m)) :=
  Pipeline.θ_run_frame_track_shared (Q' := _) cfgs (datsV m) (0 : Fin 1) launch₀0 defs₀ Variants.none m ρ main
    (hbody := fun c => (obligationV m c).loose) (hq := fun _ _ _ => rfl)
    (howed := fun _ _ => rfl) (V := V m) (hmain := hmain m Variants.none) (hA := A_eqV m) (hin := hinV m) (hout := houtV m)

end Cert.KernelIdeal.Gen

end
-- ==== Proof.Hand.Col.lean ====
/- The running sums of one column of queries, over the reals: what the stages leave is the sum of the weights times the
   values, up to one common factor. -/
module

public import Idealize.ShloMosaic.PureOps.Ideal.Laws
public import Idealize.ShloMosaic.Lib.Pipeline.ValueKit

@[expose] public section

noncomputable section

namespace Cert.Col

open Idealize.ShloMosaic

/-- A power of two. -/
abbrev p2 (r : ℝ) : ℝ := Real.rpow 2 r

theorem p2_pos (r : ℝ) : 0 < p2 r := Real.rpow_pos_of_pos two_pos r
theorem p2_add (a b : ℝ) : p2 (a + b) = p2 a * p2 b := Real.rpow_add two_pos a b

/-- The larger of a real and something below `⊤` is real. -/
theorem max_real (r : ℝ) {x : EReal} (hx : x ≠ ⊤) : ∃ s : ℝ, max (r : EReal) x = (s : EReal) := by
  induction x using EReal.rec with
  | bot => exact ⟨r, max_eq_left bot_le⟩
  | top => exact absurd rfl hx
  | coe y => exact ⟨max r y, (EReal.coe_strictMono.monotone.map_max (a := r) (b := y)).symm⟩

theorem coe_sum {ι : Type} (s : Finset ι) (f : ι → ℝ) : ∑ k ∈ s, (f k : EReal) = ((∑ k ∈ s, f k : ℝ) : EReal) := by
  classical
  induction s using Finset.induction_on with
  | empty => simp
  | insert a s ha ih => rw [Finset.sum_insert ha, Finset.sum_insert ha, ih, EReal.coe_add]

variable {κ : Type} [Fintype κ]

/-- What one column of one head sees of the stages: the running maximum, the factor of the last stage, the weights, the
    accumulated sum; the scores, the blocks' offsets and maxima, the values of the block before a stage. -/
structure Steps (M A Ac mx : ℕ → EReal) (P V : ℕ → κ → EReal) (t v : ℕ → κ → ℝ) (o : ℕ → ℝ) (N : ℕ) (b : ℝ) : Prop where
  m0 : M 0 = (b : EReal)
  a0 : A 0 = 1
  c0 : Ac 0 = 0
  p0 : ∀ k, P 0 k = 0
  v0 : ∀ k, ∃ r : ℝ, V 0 k = (r : EReal)
  vs : ∀ n < N, ∀ k, V (n + 1) k = (v n k : EReal)
  mxt : ∀ n ≤ N, mx n ≠ ⊤
  ms : ∀ n < N, M (n + 1) = max (M n) (mx n + (o n : EReal))
  ps : ∀ n < N, ∀ k, P (n + 1) k = Ideal.exp2 ((t n k : EReal) - (M (n + 1) - (o n : EReal)))
  fs : ∀ n < N, A (n + 1) = Ideal.exp2 (M n - M (n + 1))
  cs : ∀ n < N, Ac (n + 1) = A n * Ac n + ∑ k, V n k * P n k

variable {M A Ac mx : ℕ → EReal} {P V : ℕ → κ → EReal} {t v : ℕ → κ → ℝ} {o : ℕ → ℝ} {N : ℕ} {b : ℝ}

theorem add_ne_top {x : EReal} (hx : x ≠ ⊤) (r : ℝ) : x + (r : EReal) ≠ ⊤ := by
  induction x using EReal.rec with
  | bot => simp
  | top => exact absurd rfl hx
  | coe y => rw [← EReal.coe_add]; exact EReal.coe_ne_top _

/-- The running maximum is real. -/
theorem Steps.m_real (h : Steps M A Ac mx P V t v o N b) (n : ℕ) (hn : n ≤ N) : ∃ r : ℝ, M n = (r : EReal) := by
  induction n with
  | zero => exact ⟨b, h.m0⟩
  | succ n ih =>
    obtain ⟨r, hr⟩ := ih (by omega)
    rw [h.ms n (by omega), hr]
    exact max_real r (add_ne_top (h.mxt n (by omega)) _)

/-- The sum of the weights times the values, up to the factor `2 ^ (-M n)`. -/
theorem Steps.acc (h : Steps M A Ac mx P V t v o N b) (n : ℕ) (hn : n ≤ N) (μ : ℝ) (hμ : M n = (μ : EReal)) :
    A n * Ac n + ∑ k, V n k * P n k = ((p2 (-μ) * ∑ j ∈ Finset.range n, ∑ k, v j k * p2 (t j k + o j) : ℝ) : EReal)
      ∧ ∃ r : ℝ, A n = (r : EReal) := by
  induction n generalizing μ with
  | zero =>
    refine ⟨?_, 1, by rw [h.a0]; rfl⟩
    rw [h.a0, h.c0]
    simp only [h.p0, mul_zero, Finset.sum_const_zero, add_zero, Finset.range_zero, Finset.sum_empty, EReal.coe_zero]
  | succ n ih =>
    obtain ⟨ν, hν⟩ := h.m_real n (by omega)
    have e := (ih (by omega) ν hν).1
    have ea : A (n + 1) = ((p2 (ν - μ) : ℝ) : EReal) := by
      rw [h.fs n (by omega), hν, hμ, ← EReal.coe_sub, Ideal.exp2_coe]
    refine ⟨?_, _, ea⟩
    have ep : ∀ k, V (n + 1) k * P (n + 1) k = ((p2 (-μ) * (v n k * p2 (t n k + o n)) : ℝ) : EReal) := by
      intro k
      rw [h.vs n (by omega), h.ps n (by omega), hμ, ← EReal.coe_sub, ← EReal.coe_sub, Ideal.exp2_coe, ← EReal.coe_mul]
      congr 1
      rw [show t n k - (μ - o n) = (t n k + o n) + -μ by ring]
      show v n k * p2 _ = _
      rw [p2_add]; ring
    rw [h.cs n (by omega), e, ea, Finset.sum_congr rfl (fun k _ => ep k), coe_sum, ← EReal.coe_mul, ← EReal.coe_add]
    congr 1
    rw [Finset.sum_range_succ, ← Finset.mul_sum, mul_add, show ν - μ = ν + -μ by ring, p2_add]
    have : p2 ν * p2 (-ν) = 1 := by rw [← p2_add, add_neg_cancel]; exact Real.rpow_zero 2
    linear_combination (p2 (-μ) * ∑ j ∈ Finset.range n, ∑ k, v j k * p2 (t j k + o j)) * this

/-- The last block, under its bias, and the accumulation of it: the whole sum, up to one factor. -/
theorem Steps.final (h : Steps M A Ac mx P V t v o N b) (B : κ → EReal) (w : κ → ℝ) (vl : κ → ℝ) (mf : EReal) (hmf : mf ≠ ⊤)
    (hw : ∀ k, (B k = ⊥ ∧ w k = 0) ∨ ∃ r : ℝ, B k = (r : EReal) ∧ w k = p2 (t N k + r + o N))
    (μ : ℝ) (hμ : max (M N) (mf + (o N : EReal)) = (μ : EReal)) :
    Ideal.exp2 (M N - (μ : EReal)) * (A N * Ac N + ∑ k, V N k * P N k)
        + ∑ k, (vl k : EReal) * Ideal.exp2 (((t N k : EReal) + B k) - ((μ : EReal) - (o N : EReal)))
      = ((p2 (-μ) * (∑ j ∈ Finset.range N, ∑ k, v j k * p2 (t j k + o j) + ∑ k, vl k * w k) : ℝ) : EReal) := by
  obtain ⟨ν, hν⟩ := h.m_real N le_rfl
  have e := (h.acc N le_rfl ν hν).1
  have ep : ∀ k, (vl k : EReal) * Ideal.exp2 (((t N k : EReal) + B k) - ((μ : EReal) - (o N : EReal))) = ((p2 (-μ) * (vl k * w k) : ℝ) : EReal) := by
    intro k
    rcases hw k with ⟨hb, h0⟩ | ⟨r, hb, h1⟩
    · rw [hb, h0, EReal.add_bot, ← EReal.coe_sub, EReal.bot_sub, Ideal.exp2_bot]; simp
    · rw [hb, h1, ← EReal.coe_add, ← EReal.coe_sub, ← EReal.coe_sub, Ideal.exp2_coe, ← EReal.coe_mul]
      congr 1
      rw [show t N k + r - (μ - o N) = (t N k + r + o N) + -μ by ring]
      show vl k * p2 _ = _
      rw [p2_add]; ring
  rw [e, hν, ← EReal.coe_sub, Ideal.exp2_coe, Finset.sum_congr rfl (fun k _ => ep k), coe_sum, ← EReal.coe_mul, ← EReal.coe_add]
  congr 1
  show p2 (ν - μ) * _ + _ = _
  rw [← Finset.mul_sum, show ν - μ = ν + -μ by ring, p2_add]
  have : p2 ν * p2 (-ν) = 1 := by rw [← p2_add, add_neg_cancel]; exact Real.rpow_zero 2
  linear_combination (p2 (-μ) * ∑ j ∈ Finset.range N, ∑ k, v j k * p2 (t j k + o j)) * this

/-- The quotient of two such sums. -/
theorem quotient (a x y : ℝ) (hy : 0 < y) : Ideal.div ((p2 a * x : ℝ) : EReal) ((p2 a * y : ℝ) : EReal) = ((x / y : ℝ) : EReal) := by
  have ha := p2_pos a
  rw [Ideal.div_coe (by positivity), ← EReal.coe_mul]
  congr 1
  field_simp

end Cert.Col

end
-- ==== Proof.Hand.Point.lean ====
/- What the stages of one head's run hold at one entry. -/
module

public import proofs.«01_k».proof.Proof.Hand.Values
public import proofs.«01_k».proof.Proof.Hand.Col
public import Idealize.ShloMosaic.Lib.Pointwise

@[expose] public section

set_option maxRecDepth 16384

noncomputable section

namespace Cert.KernelIdeal.Gen

open Idealize.ShloMosaic Idealize.ShloMosaic.TcCoe Idealize.SL.Sem
open Cert.KernelIdeal Cert.KernelIdeal.Gen Cert.Col

/-- The offset of a block's scores. -/
def offI (w : BitVec 32) (sl : Ideal .f32) : EReal :=
  sl * Named.named (F := Ideal) κ "log2e" (φ := .f32) 0x3FB8AA3B#32 * (((Scalar.muli w 256#32).toInt : ℝ) : EReal)

/-- The largest of a column. -/
def colMax (f : Fin 256 → EReal) : EReal := Finset.univ.fold max (Ideal.ofBits .f32 0xFF800000#32) f

theorem bits_bot : Ideal.ofBits .f32 0xFF800000#32 = ⊥ := by simp [Ideal.ofBits, Ideal.ieee]

theorem colMax_ne_top {f : Fin 256 → EReal} (h : ∀ k, f k ≠ ⊤) : colMax f ≠ ⊤ := by
  unfold colMax
  rw [bits_bot]
  exact (Finset.fold_max_lt (c := ⊤)).2 ⟨bot_lt_top, fun k _ => lt_of_le_of_ne le_top (h k)⟩ |>.ne

/-- A row of the values with the rows of ones below. -/
def rowv (vb : Vec Ideal S1x128x256 .bf16) (e : Fin 144) (k : Fin 256) : EReal :=
  if h : e.val < 128 then vb (ix3 (0 : Fin 1) (⟨e.val, h⟩ : Fin 128) k) else 1

theorem pay2_at (kb : Vec Ideal S256x128 .bf16) (kf : Vec Ideal S1x256x128 .bf16) (qq : Vec Ideal S1x256x512 .bf16)
    (k : Fin 256) (c : Fin 512) : k0_pay2 (F := Ideal) kb kf qq (ix4 0 0 k c)
      = ∑ x : Fin 128, kb (ix2 k x) * qq (ix3 (0 : Fin 1) (⟨x.val, by omega⟩ : Fin 256) c)
        + ∑ x : Fin 128, kf (ix3 (0 : Fin 1) k x) * qq (ix3 (0 : Fin 1) (⟨128 + x.val, by omega⟩ : Fin 256) c) := by
  pointwise [k0_pay2]
  try rfl

theorem pay5_at (vb : Vec Ideal S1x128x256 .bf16) (a : Vec Ideal S1x1x1x512 .f32) (acc : Vec Ideal S1x144x512 .f32) (p : Vec Ideal S1x1x256x512 .bf16) (e : Fin 144) (c : Fin 512) :
    k0_pay5 (F := Ideal) (k0_pay3 vb) (k0_pay4 a) acc p (ix3 0 e c) = a (ix4 0 0 0 c) * acc (ix3 0 e c) + ∑ k : Fin 256, rowv vb e k * p (ix4 0 0 k c) := by
  pointwise [k0_pay5, k0_pay3, k0_pay4]
  try rfl

theorem pay10_at (w : BitVec 32) (sl : Ideal .f32) (s : Vec Ideal S1x1x256x512 .f32) (m : Vec Ideal S1x1x512 .f32) (c : Fin 512) :
    k0_pay10 (F := Ideal) w sl s m (ix3 0 0 c) = max (m (ix3 0 0 c)) (colMax (fun k => s (ix4 0 0 k c)) + offI w sl) := by
  pointwise [k0_pay10, k0_pay9, k0_pay8, k0_pay7, k0_pay6]
  try rfl

theorem pay12_at (w : BitVec 32) (sl : Ideal .f32) (s : Vec Ideal S1x1x256x512 .f32) (m : Vec Ideal S1x1x512 .f32) (k : Fin 256) (c : Fin 512) :
    k0_pay12 (F := Ideal) (k0_pay11 w sl s m) (ix4 0 0 k c)
      = Ideal.exp2 (s (ix4 0 0 k c) - (max (m (ix3 0 0 c)) (colMax (fun k => s (ix4 0 0 k c)) + offI w sl) - offI w sl)) := by
  pointwise [k0_pay12, k0_pay11, k0_pay9, k0_pay8, k0_pay7, k0_pay6]
  try rfl

theorem pay13_at (w : BitVec 32) (sl : Ideal .f32) (s : Vec Ideal S1x1x256x512 .f32) (m : Vec Ideal S1x1x512 .f32) (c : Fin 512) :
    k0_pay13 (F := Ideal) (k0_pay8 m) (k0_pay9 w sl s m) (ix4 0 0 0 c)
      = Ideal.exp2 (m (ix3 0 0 c) - max (m (ix3 0 0 c)) (colMax (fun k => s (ix4 0 0 k c)) + offI w sl)) := by
  pointwise [k0_pay13, k0_pay9, k0_pay8, k0_pay7, k0_pay6]
  try rfl

theorem pay665_at (w : BitVec 32) (sl : Ideal .f32) (s : Vec Ideal S1x1x256x512 .f32) (b : Vec Ideal S1x256x512 .f32) (m : Vec Ideal S1x1x512 .f32) (k : Fin 256) (c : Fin 512) :
    k0_pay665 (F := Ideal) (k0_pay652 w sl) (k0_pay653 s b) m (ix4 0 0 k c)
      = Ideal.exp2 (s (ix4 0 0 k c) + b (ix3 0 k c)
          - (max (m (ix3 0 0 c)) (colMax (fun k => s (ix4 0 0 k c) + b (ix3 0 k c)) + offI w sl) - offI w sl)) := by
  pointwise [k0_pay665, k0_pay664, k0_pay663, k0_pay662, k0_pay653, k0_pay652]
  try rfl

theorem pay666_at (w : BitVec 32) (sl : Ideal .f32) (s : Vec Ideal S1x1x256x512 .f32) (b : Vec Ideal S1x256x512 .f32) (m : Vec Ideal S1x1x512 .f32) (c : Fin 512) :
    k0_pay666 (F := Ideal) (k0_pay652 w sl) (k0_pay653 s b) m (ix4 0 0 0 c)
      = Ideal.exp2 (m (ix3 0 0 c) - max (m (ix3 0 0 c)) (colMax (fun k => s (ix4 0 0 k c) + b (ix3 0 k c)) + offI w sl)) := by
  pointwise [k0_pay666, k0_pay664, k0_pay663, k0_pay662, k0_pay653, k0_pay652]
  try rfl

end Cert.KernelIdeal.Gen

end
-- ==== Proof.Hand.Column.lean ====
/- One column of one head: the stages' sums are the sums of the weighted values, up to one positive factor. -/
module

public import proofs.«01_k».proof.Proof.Hand.Point

@[expose] public section

set_option maxRecDepth 16384

noncomputable section

namespace Cert.KernelIdeal.Gen

open Idealize.ShloMosaic Idealize.ShloMosaic.TcCoe Idealize.SL.Sem
open Cert.KernelIdeal Cert.KernelIdeal.Gen Cert.Col

/-- What the stages of one column read: all of it real, and what is masked is masked. -/
structure ColIn (x : ℕ → Inp Ideal) (st : HSt Ideal) (fin : LastInp Ideal) (N : ℕ) (c : Fin 512)
    (t : ℕ → Fin 256 → ℝ) (o : ℕ → ℝ) (w : Fin 256 → ℝ) : Prop where
  m0 : ∃ b : ℝ, st.m (ix3 0 0 c) = (b : EReal)
  a0 : st.a (ix4 0 0 0 c) = 1
  c0 : ∀ e, st.acc (ix3 0 e c) = 0
  p0 : ∀ k, st.p (ix4 0 0 k c) = 0
  s0 : ∀ k, st.s (ix4 0 0 k c) = (t 0 k : EReal)
  ss : ∀ n < N, ∀ k, k0_pay2 (x n).kb (x n).kf (x n).qq (ix4 0 0 k c) = (t (n + 1) k : EReal)
  os : ∀ n < N, offI (x n).w (x n).sl = (o n : EReal)
  ol : offI fin.w fin.sl = (o N : EReal)
  bs : ∀ k, (fin.b (ix3 0 k c) = ⊥ ∧ w k = 0) ∨ ∃ r : ℝ, fin.b (ix3 0 k c) = (r : EReal) ∧ w k = p2 (t N k + r + o N)

/-- The values' row. -/
structure RowIn (x : ℕ → Inp Ideal) (fin : LastInp Ideal) (N : ℕ) (e : Fin 144) (v : ℕ → Fin 256 → ℝ) : Prop where
  v0 : ∀ k, ∃ r : ℝ, rowv (x 0).vb e k = (r : EReal)
  vf : ∀ k, ∃ r : ℝ, rowv fin.vb e k = (r : EReal)
  vs : ∀ n, n + 1 < N → ∀ k, rowv (x (n + 1)).vb e k = (v n k : EReal)
  vn : ∀ n, n + 1 = N → ∀ k, rowv fin.vb e k = (v n k : EReal)
  vl : ∀ k, rowv fin.vl e k = (v N k : EReal)

variable {x : ℕ → Inp Ideal} {st : HSt Ideal} {fin : LastInp Ideal} {N : ℕ} {c : Fin 512} {t : ℕ → Fin 256 → ℝ} {o : ℕ → ℝ} {w : Fin 256 → ℝ}
  {e : Fin 144} {v : ℕ → Fin 256 → ℝ}

theorem ColIn.score (h : ColIn x st fin N c t o w) (n : ℕ) (hn : n ≤ N) (k : Fin 256) : (hrun x n st).s (ix4 0 0 k c) = (t n k : EReal) := by
  cases n with
  | zero => exact h.s0 k
  | succ n => exact h.ss n (by omega) k

theorem ColIn.steps (h : ColIn x st fin N c t o w) (r : RowIn x fin N e v) : ∃ b : ℝ,
    Steps (fun n => (hrun x n st).m (ix3 0 0 c)) (fun n => (hrun x n st).a (ix4 0 0 0 c)) (fun n => (hrun x n st).acc (ix3 0 e c))
      (fun n => colMax (fun k => (hrun x n st).s (ix4 0 0 k c))) (fun n k => (hrun x n st).p (ix4 0 0 k c))
      (fun n k => if n = N then rowv fin.vb e k else rowv (x n).vb e k) t v o N b := by
  obtain ⟨b, hb⟩ := h.m0
  refine ⟨b, hb, h.a0, h.c0 e, h.p0, ?_, ?_, ?_, ?_, ?_, ?_, ?_⟩
  · intro k
    by_cases h0 : 0 = N
    · simpa only [if_pos h0] using r.vf k
    · simpa only [if_neg h0] using r.v0 k
  · intro n hn k
    by_cases h1 : n + 1 = N
    · simpa only [if_pos h1] using r.vn n h1 k
    · simpa only [if_neg h1] using r.vs n (by omega) k
  · intro n hn
    refine colMax_ne_top fun k => ?_
    rw [h.score n hn k]
    exact EReal.coe_ne_top _
  · intro n hn
    rw [← h.os n hn]
    exact pay10_at _ _ _ _ c
  · intro n hn k
    have e1 : (hrun x (n + 1) st).m (ix3 0 0 c) = max ((hrun x n st).m (ix3 0 0 c)) (colMax (fun k => (hrun x n st).s (ix4 0 0 k c)) + offI (x n).w (x n).sl) := pay10_at _ _ _ _ c
    have e2 := pay12_at (x n).w (x n).sl (hrun x n st).s (hrun x n st).m k c
    rw [← e1, h.score n hn.le k, h.os n hn] at e2
    exact e2
  · intro n hn
    have e1 : (hrun x (n + 1) st).m (ix3 0 0 c) = max ((hrun x n st).m (ix3 0 0 c)) (colMax (fun k => (hrun x n st).s (ix4 0 0 k c)) + offI (x n).w (x n).sl) := pay10_at _ _ _ _ c
    have e2 := pay13_at (x n).w (x n).sl (hrun x n st).s (hrun x n st).m c
    rw [← e1] at e2
    exact e2
  · intro n hn
    simp only [if_neg (show ¬ n = N by omega)]
    exact pay5_at (x n).vb (hrun x n st).a (hrun x n st).acc (hrun x n st).p e c

/-- The last maximum. -/
def lastMax (x : ℕ → Inp Ideal) (st : HSt Ideal) (fin : LastInp Ideal) (N : ℕ) (c : Fin 512) : EReal :=
  max ((hrun x N st).m (ix3 0 0 c)) (colMax (fun k => (hrun x N st).s (ix4 0 0 k c) + fin.b (ix3 0 k c)) + offI fin.w fin.sl)

theorem ColIn.final (h : ColIn x st fin N c t o w) (r : RowIn x fin N e v) :
    ∃ μ : ℝ, lastMax x st fin N c = (μ : EReal) ∧ lastAcc fin (hrun x N st) (ix3 0 e c)
      = ((p2 (-μ) * (∑ j ∈ Finset.range N, ∑ k, v j k * p2 (t j k + o j) + ∑ k, v N k * w k) : ℝ) : EReal) := by
  obtain ⟨b, S⟩ := h.steps r
  have hmf : colMax (fun k => (hrun x N st).s (ix4 0 0 k c) + fin.b (ix3 0 k c)) ≠ ⊤ := by
    refine colMax_ne_top fun k => ?_
    rw [h.score N le_rfl k, add_comm]
    refine add_ne_top ?_ _
    rcases h.bs k with ⟨hb, -⟩ | ⟨q, hb, -⟩ <;> rw [hb]
    · exact bot_ne_top
    · exact EReal.coe_ne_top _
  obtain ⟨ν, hν⟩ := S.m_real N le_rfl
  obtain ⟨μ, hμ⟩ := max_real ν (add_ne_top hmf (o N))
  have hμ' : lastMax x st fin N c = (μ : EReal) := by
    unfold lastMax
    rw [h.ol, ← hμ, ← hν]
  refine ⟨μ, hμ', ?_⟩
  have F := S.final (fun k => fin.b (ix3 0 k c)) w (v N) _ hmf h.bs μ (by rw [← hμ, ← hν])
  rw [← F]
  unfold lastAcc
  rw [pay5_at, pay666_at]
  have e5 : accum fin.vb (hrun x N st) (ix3 0 e c) = _ := pay5_at fin.vb (hrun x N st).a (hrun x N st).acc (hrun x N st).p e c
  rw [e5]
  have hl : max ((hrun x N st).m (ix3 0 0 c)) (colMax (fun k => (hrun x N st).s (ix4 0 0 k c) + fin.b (ix3 0 k c)) + offI fin.w fin.sl) = (μ : EReal) := hμ'
  rw [hl]
  refine congrArg₂ (· + ·) ?_ (Finset.sum_congr rfl fun k _ => ?_)
  · simp only [if_true]
  · rw [r.vl k, pay665_at, hl, h.ol, h.score N le_rfl k]

/-- Two rows of a column divided. -/
theorem ColIn.quot (h : ColIn x st fin N c t o w) (r : RowIn x fin N e v) {e' : Fin 144} {v' : ℕ → Fin 256 → ℝ} (r' : RowIn x fin N e' v')
    (hpos : 0 < ∑ j ∈ Finset.range N, ∑ k, v' j k * p2 (t j k + o j) + ∑ k, v' N k * w k) :
    Ideal.div (lastAcc fin (hrun x N st) (ix3 0 e c)) (lastAcc fin (hrun x N st) (ix3 0 e' c))
      = (((∑ j ∈ Finset.range N, ∑ k, v j k * p2 (t j k + o j) + ∑ k, v N k * w k)
          / (∑ j ∈ Finset.range N, ∑ k, v' j k * p2 (t j k + o j) + ∑ k, v' N k * w k) : ℝ) : EReal) := by
  obtain ⟨μ, hμ, hf⟩ := h.final r
  obtain ⟨μ', hμ', hf'⟩ := h.final r'
  obtain rfl : μ = μ' := EReal.coe_injective (hμ.symm.trans hμ')
  rw [hf, hf']
  exact quotient _ _ _ hpos

end Cert.KernelIdeal.Gen

end
-- ==== Proof.Hand.Words.lean ====
/- The integer words of the distances and the chunks. -/
module

public import Idealize.ShloMosaic.Lib.Routing.Words
public import Idealize.ShloMosaic.Lib.Pointwise

@[expose] public section

noncomputable section

namespace Cert.Words

open Idealize.ShloMosaic Idealize.ShloMosaic.Routing

theorem toInt_small {a : ℕ} (ha : a < 2 ^ 31) : (BitVec.ofNat 32 a).toInt = (a : ℤ) := by
  have hn : (BitVec.ofNat 32 a).toNat = a := by rw [BitVec.toNat_ofNat]; omega
  rw [BitVec.toInt_eq_toNat_of_lt (by rw [hn]; omega), hn]

theorem sub_small {a b : ℤ} (x y : BitVec 32) (hx : x.toInt = a) (hy : y.toInt = b) (h1 : -2 ^ 31 ≤ a - b) (h2 : a - b < 2 ^ 31) :
    (IntOp.subi x y).toInt = a - b := by
  unfold IntOp.subi
  rw [BitVec.toInt_sub, hx, hy, Int.bmod_eq_of_le] <;> omega

theorem abs_small {a : ℤ} (x : BitVec 32) (hx : x.toInt = a) (h : -2 ^ 31 < a) : (IntOp.absi x).toInt = |a| := by
  unfold IntOp.absi
  have hm : x.msb = decide (x.toInt < 0) := BitVec.msb_eq_toInt
  rw [hm, hx]
  by_cases h0 : a < 0
  · rw [if_pos (by simpa using h0), BitVec.toInt_neg, hx, abs_of_neg h0, Int.bmod_eq_of_le]
    · omega
    · have := BitVec.toInt_lt (x := x); omega
  · rw [if_neg (by simpa using h0), hx, abs_of_nonneg (by omega)]

theorem dist_word {a b : ℕ} (ha : a < 16384) (hb : b < 16384) :
    (IntOp.absi (IntOp.subi (BitVec.ofNat 32 a) (BitVec.ofNat 32 b))).toInt = |(a : ℤ) - b| := by
  refine abs_small _ (sub_small _ _ (toInt_small (by omega)) (toInt_small (by omega)) ?_ ?_) ?_ <;> omega

theorem bias_word {a b : ℕ} (ha : a < 256) (hb : b < 256) :
    (IntOp.subi (IntOp.subi (BitVec.ofNat 32 a) (IntOp.absi (IntOp.subi (BitVec.ofNat 32 a) (BitVec.ofNat 32 b)))) (BitVec.ofNat 32 b)).toInt
      = (a : ℤ) - |(a : ℤ) - b| - b := by
  have h := abs_le.1 (le_refl |(a : ℤ) - b|)
  have hd : |(a : ℤ) - b| < 256 := abs_lt.2 ⟨by omega, by omega⟩
  have h0 := abs_nonneg ((a : ℤ) - b)
  refine sub_small _ _ (sub_small _ _ (toInt_small (by omega)) (dist_word (by omega) (by omega)) ?_ ?_) (toInt_small (by omega)) ?_ ?_ <;> omega

theorem le_word {a b : ℕ} (ha : a < 2 ^ 31) (hb : b < 2 ^ 31) : (IntOp.cmpi .sle (BitVec.ofNat 32 a) (BitVec.ofNat 32 b) = 1#1) ↔ a ≤ b := by
  unfold IntOp.cmpi
  simp only [BitVec.sle, toInt_small ha, toInt_small hb]
  by_cases h : a ≤ b <;> simp [h]

theorem sign_word {a : ℕ} (ha : a < 2 ^ 31) (h0 : a ≠ 0) : (if BitVec.ofNat 32 a = 0 then (0 : BitVec 32) else if (BitVec.ofNat 32 a).msb then -1 else 1) = 1#32 := by
  have hn : BitVec.ofNat 32 a ≠ 0 := by
    intro h
    have := congrArg BitVec.toNat h
    rw [BitVec.toNat_ofNat] at this
    simp at this
    omega
  rw [if_neg hn, if_neg]
  · rfl
  · rw [BitVec.msb_eq_toInt, toInt_small ha]
    simp

/-- The quotient rounded down, as the words spell it. -/
theorem floor_word (u : ArithUnit) {a : ℕ} (ha : a < 2 ^ 31) :
    Scalar.select (IntOp.andi (IntOp.cmpi .ne (if BitVec.ofNat 32 a = 0 then (0 : BitVec 32) else if (BitVec.ofNat 32 a).msb then -1 else 1)
        (if 64#32 = 0 then (0 : BitVec 32) else if (64#32).msb then -1 else 1)) (IntOp.cmpi .ne (IntOp.remsi u (BitVec.ofNat 32 a) 64#32) 0#32))
      (IntOp.subi (IntOp.divsi u (BitVec.ofNat 32 a) 64#32) 1#32) (IntOp.divsi u (BitVec.ofNat 32 a) 64#32) = BitVec.ofNat 32 (a / 64) := by
  have hd : IntOp.divsi u (BitVec.ofNat 32 a) 64#32 = BitVec.ofNat 32 (a / 64) := divsi_word u ha (by norm_num) (by norm_num)
  have hr : IntOp.remsi u (BitVec.ofNat 32 a) 64#32 = BitVec.ofNat 32 (a % 64) := remsi_word u ha (by norm_num) (by norm_num)
  rw [hd, hr]
  unfold Scalar.select
  rw [if_neg]
  by_cases h0 : a = 0
  · subst h0; decide
  · rw [sign_word ha h0]
    have : IntOp.cmpi .ne 1#32 (if 64#32 = 0 then (0 : BitVec 32) else if (64#32).msb then -1 else 1) = 0#1 := by decide
    rw [this]
    unfold IntOp.andi
    simp

end Cert.Words

end
-- ==== Proof.Hand.Attn.lean ====
/- The attention of one query in real numbers: what both programs compute. -/
module

public import proofs.«01_k».proof.Proof.Hand.Words
public import proofs.«01_k».proof.Proof.Hand.Col
public import Idealize.ShloMosaic.Lib.Pointwise

@[expose] public section

noncomputable section

namespace Cert.Attn

open Idealize.ShloMosaic

variable (Z : (⟨2, ![16384, 10240]⟩ : Shape).Idx → EReal)

/-- An entry of the projections as a real. -/
def zr (a b : ℕ) : ℝ := if h : a < 16384 ∧ b < 10240 then (Z (ix2 (⟨a, h.1⟩ : Fin 16384) (⟨b, h.2⟩ : Fin 10240))).toReal else 0

/-- Every entry is real. -/
def Fin2 : Prop := ∀ i, ∃ r : ℝ, Z i = (r : EReal)

variable {Z} in
theorem zr_eq (hZ : Fin2 Z) (i) (a b : ℕ) (ha : (i 0).val = a) (hb : (i 1).val = b) : Z i = (zr Z a b : EReal) := by
  subst ha hb
  have hi : ix2 (⟨(i 0).val, (i 0).isLt⟩ : Fin 16384) (⟨(i 1).val, (i 1).isLt⟩ : Fin 10240) = i := by
    funext x
    fin_cases x <;> rfl
  have h : (i 0).val < 16384 ∧ (i 1).val < 10240 := ⟨(i 0).isLt, (i 1).isLt⟩
  unfold zr
  rw [dif_pos h]
  obtain ⟨r, hr⟩ := hZ i
  rw [show Z (ix2 (⟨(i 0).val, h.1⟩ : Fin 16384) (⟨(i 1).val, h.2⟩ : Fin 10240)) = (r : EReal) from (congrArg Z hi).trans hr, hr]
  rfl

/-- A head's slope. -/
def slp (H : ℕ) : ℝ := (1 / 4) ^ (H + 1)

/-- The score of a query and a key in one map. -/
def sc (H mm q k : ℕ) : ℝ := ∑ d : Fin 64, zr Z q (4608 + 128 * H + 64 * mm + d.val) * zr Z k (5120 + 128 * H + 64 * mm + d.val)

/-- The weight of a key, before the weights are divided by their sum. -/
def wt (H mm q k : ℕ) : ℝ := if k / 64 ≤ q / 64 then Real.exp (sc Z H mm q k * (1 / 8) + -slp H * |(q : ℝ) - k|) else 0

def den (H mm q : ℕ) : ℝ := ∑ k : Fin 16384, wt Z H mm q k.val

def num (H mm e q : ℕ) : ℝ := ∑ k : Fin 16384, zr Z k.val (5632 + 128 * H + e) * wt Z H mm q k.val

theorem wt_nonneg (H mm q k : ℕ) : 0 ≤ wt Z H mm q k := by
  unfold wt; split_ifs
  · exact (Real.exp_pos _).le
  · exact le_rfl

theorem wt_self (H mm q : ℕ) : 0 < wt Z H mm q q := by
  unfold wt; rw [if_pos le_rfl]; exact Real.exp_pos _

theorem den_pos (H mm : ℕ) {q : ℕ} (hq : q < 16384) : 0 < den Z H mm q :=
  Finset.sum_pos' (fun k _ => wt_nonneg Z H mm q k.val) ⟨⟨q, hq⟩, Finset.mem_univ _, wt_self Z H mm q⟩

/-- One map's output. -/
def att (H mm e q : ℕ) : ℝ := num Z H mm e q / den Z H mm q

/-- A row of outputs normalised, weighted and scaled. -/
def normed (D : Fin 128 → EReal) (G : EReal) (e : Fin 128) : EReal :=
  D e * Ideal.rsqrt (Ideal.div (∑ x : Fin 128, D x * D x) (Ideal.ofBits .f32 0x43000000#32) + Ideal.ofBits .f32 0x3727C5AC#32) * G * Ideal.ofBits .f32 0x3F4CCCCD#32

/-- The weight of the second map. -/
def lam (L : (⟨2, ![4, 64]⟩ : Shape).Idx → EReal) : EReal :=
  Ideal.exp (∑ x : Fin 64, L (ix2 (0 : Fin 4) x) * L (ix2 (1 : Fin 4) x)) - Ideal.exp (∑ x : Fin 64, L (ix2 (2 : Fin 4) x) * L (ix2 (3 : Fin 4) x)) + Ideal.ofBits .f32 0x3E4CCCCD#32

theorem lam_real (L : (⟨2, ![4, 64]⟩ : Shape).Idx → EReal) (hL : ∀ i, ∃ r : ℝ, L i = (r : EReal)) : ∃ r : ℝ, lam L = (r : EReal) := by
  choose f hf using hL
  have hb : ∃ r : ℝ, Ideal.ofBits .f32 0x3E4CCCCD#32 = (r : EReal) := by
    refine ⟨13421773 / 2 ^ 26, ?_⟩
    simp [Ideal.ofBits, Ideal.ieee, -EReal.coe_mul]; norm_num
  obtain ⟨b, hb⟩ := hb
  unfold lam
  simp only [hf, ← EReal.coe_mul]
  rw [Col.coe_sum, Col.coe_sum, Ideal.exp_coe, Ideal.exp_coe, hb, ← EReal.coe_sub, ← EReal.coe_add]
  exact ⟨_, rfl⟩

end Cert.Attn

end
-- ==== Proof.Hand.Sums.lean ====
/- A query's sums by blocks of keys are its sums over all keys, up to one positive factor. -/
module

public import proofs.«01_k».proof.Proof.Hand.Attn

@[expose] public section

noncomputable section

namespace Cert.Attn

open Idealize.ShloMosaic Cert.Col

variable (Z : (⟨2, ![16384, 10240]⟩ : Shape).Idx → EReal)

/-- A block's scores, in powers of two, without the block's offset. -/
def tS (H mm q n : ℕ) (k : Fin 256) : ℝ := (Real.log 2)⁻¹ * (1 / 8) * sc Z H mm q (256 * n + k.val) + slp H * k.val * (Real.log 2)⁻¹

/-- A block's offset. -/
def oS (H n : ℕ) : ℝ := slp H * (Real.log 2)⁻¹ * (256 * n : ℕ)

/-- The last block's distances. -/
def bS (H r : ℕ) (k : Fin 256) : ℝ := (Real.log 2)⁻¹ * slp H * ((r : ℝ) - |(r : ℝ) - k.val| - k.val)

/-- The last block's weights. -/
def wS (H mm q b r : ℕ) (k : Fin 256) : ℝ := if k.val / 64 ≤ r / 64 then p2 (tS Z H mm q b k + bS H r k + oS H b) else 0

theorem p2_exp (x : ℝ) : p2 x = Real.exp (Real.log 2 * x) := Real.rpow_def_of_pos two_pos x

theorem log2_ne : Real.log 2 ≠ 0 := (Real.log_pos (by norm_num)).ne'

/-- A block before the query's. -/
theorem early (H mm b r n : ℕ) (hr : r < 256) (hn : n < b) (k : Fin 256) :
    p2 (tS Z H mm (256 * b + r) n k + oS H n) = Real.exp (slp H * (256 * b + r : ℕ)) * wt Z H mm (256 * b + r) (256 * n + k.val) := by
  have hk := k.isLt
  unfold wt
  rw [if_pos (Nat.div_le_div_right (by omega)), p2_exp, ← Real.exp_add]
  have ha : |((256 * b + r : ℕ) : ℝ) - (256 * n + k.val : ℕ)| = ((256 * b + r : ℕ) : ℝ) - (256 * n + k.val : ℕ) := by
    refine abs_of_nonneg (sub_nonneg.2 (Nat.cast_le.2 ?_)); omega
  rw [ha]
  refine congrArg Real.exp ?_
  unfold tS oS
  have := log2_ne
  field_simp
  push_cast
  ring

/-- The query's own block. -/
theorem late (H mm b r : ℕ) (hr : r < 256) (k : Fin 256) :
    wS Z H mm (256 * b + r) b r k = Real.exp (slp H * (256 * b + r : ℕ)) * wt Z H mm (256 * b + r) (256 * b + k.val) := by
  have hk := k.isLt
  unfold wS wt
  by_cases h : k.val / 64 ≤ r / 64
  · rw [if_pos h, if_pos (by omega), p2_exp, ← Real.exp_add]
    have ha : ((256 * b + r : ℕ) : ℝ) - (256 * b + k.val : ℕ) = (r : ℝ) - k.val := by push_cast; ring
    rw [ha]
    refine congrArg Real.exp ?_
    unfold tS oS bS
    have := log2_ne
    field_simp
    push_cast
    ring
  · rw [if_neg h, if_neg (by omega), mul_zero]

/-- Keys of later blocks are masked. -/
theorem masked (H mm b r n : ℕ) (hr : r < 256) (hn : b < n) (k : Fin 256) : wt Z H mm (256 * b + r) (256 * n + k.val) = 0 := by
  have hk := k.isLt
  unfold wt
  exact if_neg (by omega)

/-- All the keys, block by block. -/
theorem sum_blocks (f : ℕ → ℝ) : ∑ k : Fin 16384, f k.val = ∑ n ∈ Finset.range 64, ∑ k : Fin 256, f (256 * n + k.val) := by
  have e : ∀ N : ℕ, ∑ k ∈ Finset.range (256 * N), f k = ∑ n ∈ Finset.range N, ∑ k : Fin 256, f (256 * n + k.val) := by
    intro N
    induction N with
    | zero => simp
    | succ N ih =>
      rw [Finset.sum_range_succ, ← ih, Nat.mul_succ, Finset.sum_range_add, ← Fin.sum_univ_eq_sum_range (fun k => f (256 * N + k)) 256]
  rw [Fin.sum_univ_eq_sum_range f 16384]
  exact e 64

theorem all_keys (H mm b r : ℕ) (hb : b < 64) (hr : r < 256) (u : ℕ → ℝ) :
    ∑ n ∈ Finset.range b, ∑ k : Fin 256, u (256 * n + k.val) * p2 (tS Z H mm (256 * b + r) n k + oS H n)
        + ∑ k : Fin 256, u (256 * b + k.val) * wS Z H mm (256 * b + r) b r k
      = Real.exp (slp H * (256 * b + r : ℕ)) * ∑ k : Fin 16384, u k.val * wt Z H mm (256 * b + r) k.val := by
  rw [sum_blocks (fun k => u k * wt Z H mm (256 * b + r) k), Finset.mul_sum]
  obtain ⟨d, hd⟩ : ∃ d, 64 = (b + 1) + d := ⟨64 - (b + 1), by omega⟩
  rw [hd, Finset.sum_range_add, Finset.sum_range_succ]
  have z : ∑ x ∈ Finset.range d, Real.exp (slp H * (256 * b + r : ℕ)) * ∑ k : Fin 256, u (256 * (b + 1 + x) + k.val) * wt Z H mm (256 * b + r) (256 * (b + 1 + x) + k.val) = 0 := by
    refine Finset.sum_eq_zero fun x _ => ?_
    rw [Finset.sum_eq_zero fun k _ => ?_, mul_zero]
    rw [masked Z H mm b r _ hr (by omega) k, mul_zero]
  rw [z, add_zero]
  refine congrArg₂ (· + ·) (Finset.sum_congr rfl fun n hn => ?_) ?_
  · rw [Finset.mul_sum]
    refine Finset.sum_congr rfl fun k _ => ?_
    rw [early Z H mm b r n hr (Finset.mem_range.1 hn) k]; ring
  · rw [Finset.mul_sum]
    refine Finset.sum_congr rfl fun k _ => ?_
    rw [late Z H mm b r hr k]; ring

/-- The quotient of two such sums. -/
theorem quot_att (H mm e b r : ℕ) (hb : b < 64) (hr : r < 256) :
    (∑ n ∈ Finset.range b, ∑ k : Fin 256, zr Z (256 * n + k.val) (5632 + 128 * H + e) * p2 (tS Z H mm (256 * b + r) n k + oS H n)
        + ∑ k : Fin 256, zr Z (256 * b + k.val) (5632 + 128 * H + e) * wS Z H mm (256 * b + r) b r k)
      / (∑ n ∈ Finset.range b, ∑ k : Fin 256, 1 * p2 (tS Z H mm (256 * b + r) n k + oS H n) + ∑ k : Fin 256, 1 * wS Z H mm (256 * b + r) b r k)
      = att Z H mm e (256 * b + r) := by
  rw [all_keys Z H mm b r hb hr (fun k => zr Z k (5632 + 128 * H + e)), all_keys Z H mm b r hb hr (fun _ => 1), mul_div_mul_left _ _ (Real.exp_pos _).ne']
  unfold att num den
  simp only [one_mul]

theorem quot_pos (H mm b r : ℕ) (hb : b < 64) (hr : r < 256) :
    0 < ∑ n ∈ Finset.range b, ∑ k : Fin 256, 1 * p2 (tS Z H mm (256 * b + r) n k + oS H n) + ∑ k : Fin 256, 1 * wS Z H mm (256 * b + r) b r k := by
  rw [all_keys Z H mm b r hb hr (fun _ => 1)]
  refine mul_pos (Real.exp_pos _) ?_
  simp only [one_mul]
  exact den_pos Z H mm (by omega)

end Cert.Attn

end
-- ==== Proof.Hand.Outs.lean ====
/- The queries a head lays out, and what it writes from its sums, read at one entry. -/
module

public import proofs.«01_k».proof.Proof.Hand.Point
public import proofs.«01_k».proof.Proof.Hand.Attn

@[expose] public section

set_option maxRecDepth 16384

noncomputable section

namespace Cert.KernelIdeal.Gen

open Idealize.ShloMosaic Idealize.ShloMosaic.TcCoe Idealize.SL.Sem
open Cert.KernelIdeal Cert.KernelIdeal.Gen Cert.Col Cert.Attn Cert.Words

theorem pay672_at (q : Vec Ideal S256x128 .bf16) (d : Fin 128) (r : Fin 256) :
    k0_pay672 (F := Ideal) q (ix3 0 d r) = if d.val < 64 then q (ix2 r d) * (((Real.log 2)⁻¹ * (1 / 8) : ℝ) : EReal) else 0 := by
  pointwise [k0_pay672]
  have hj : (IntOp.cmpi CmpIPredicate.slt (BitVec.ofNat 32 d.val) 64#32 = 1#1) ↔ d.val < 64 := by
    have e : ∀ d : Fin 128, (IntOp.cmpi CmpIPredicate.slt (BitVec.ofNat 32 d.val) 64#32 = 1#1) ↔ d.val < 64 := by decide +kernel
    exact e d
  have hq : k0_pay671 (F := Ideal) q (ix2 d r) = q (ix2 r d) * (((Real.log 2)⁻¹ * (1 / 8) : ℝ) : EReal) := by
    pointwise [k0_pay671]
    try rfl
  rw [hq]
  unfold Scalar.select
  by_cases h : d.val < 64
  · rw [if_pos h]; exact if_pos (hj.2 h)
  · rw [if_neg h]; exact if_neg fun e => h (hj.1 e)

theorem pay673_at (q : Vec Ideal S256x128 .bf16) (d : Fin 128) (r : Fin 256) :
    k0_pay673 (F := Ideal) q (ix3 0 d r) = if 64 ≤ d.val then q (ix2 r d) * (((Real.log 2)⁻¹ * (1 / 8) : ℝ) : EReal) else 0 := by
  pointwise [k0_pay673]
  have hj : (IntOp.cmpi CmpIPredicate.sge (BitVec.ofNat 32 d.val) 64#32 = 1#1) ↔ 64 ≤ d.val := by
    have e : ∀ d : Fin 128, (IntOp.cmpi CmpIPredicate.sge (BitVec.ofNat 32 d.val) 64#32 = 1#1) ↔ 64 ≤ d.val := by decide +kernel
    exact e d
  have hq : k0_pay671 (F := Ideal) q (ix2 d r) = q (ix2 r d) * (((Real.log 2)⁻¹ * (1 / 8) : ℝ) : EReal) := by
    pointwise [k0_pay671]
    try rfl
  rw [hq]
  unfold Scalar.select
  by_cases h : 64 ≤ d.val
  · rw [if_pos h]; exact if_pos (hj.2 h)
  · rw [if_neg h]; exact if_neg fun e => h (hj.1 e)

theorem pay678_at (d : Fin 128) (c : Fin 512) :
    k0_pay678 (F := Ideal) (ix3 0 d c) = if d.val = 0 then (((Real.log 2)⁻¹ : ℝ) : EReal) else 0 := by
  pointwise [k0_pay678]
  have hj : ∀ n : Fin 3, (IntOp.cmpi CmpIPredicate.eq (BitVec.ofNat 32 d.val) (BitVec.ofNat 32 n.val) = 1#1) ↔ d.val = n.val := by
    have e : ∀ (d : Fin 128) (n : Fin 3), (IntOp.cmpi CmpIPredicate.eq (BitVec.ofNat 32 d.val) (BitVec.ofNat 32 n.val) = 1#1) ↔ d.val = n.val := by decide +kernel
    exact e d
  pointwise [k0_pay677]
  have hl : (Named.named (F := Ideal) κ "log2e" (φ := .f32) 0x3FB8AA3B#32) = (((Real.log 2)⁻¹ : ℝ) : EReal) := rfl
  have h0 := hj 0
  have h1 := hj 1
  have h2 := hj 2
  have z : (((Real.log 2)⁻¹ : ℝ) : EReal) - (((Real.log 2)⁻¹ : ℝ) : EReal) = 0 := by rw [← EReal.coe_sub, sub_self, EReal.coe_zero]
  rw [hl, z, sub_zero]
  unfold Scalar.select
  by_cases e0 : d.val = 0
  · rw [if_pos e0]
    refine (if_neg fun e => ?_).trans ((if_neg fun e => ?_).trans (if_pos (h0.2 e0)))
    · have := h2.1 e; simp at this; omega
    · have := h1.1 e; simp at this; omega
  · rw [if_neg e0]
    have e' : ¬ IntOp.cmpi CmpIPredicate.eq (BitVec.ofNat 32 d.val) 0#32 = 1#1 := fun e => e0 (h0.1 e)
    split_ifs
    all_goals first | rfl | exact absurd (by assumption) e'

theorem pay684_at (k : Fin 256) (c : Fin 512) : k0_pay684 (F := Ideal) (ix4 0 0 k c) = 0 := by
  pointwise [k0_pay684]

theorem pay685_at (c : Fin 512) : k0_pay685 (F := Ideal) (ix4 0 0 0 c) = 1 := by
  pointwise [k0_pay685]

theorem pay698_at (L : Vec Ideal S4x64 .f32) : k0_pay698 (F := Ideal) L (ix2 0 0) = lam L := by
  pointwise [k0_pay698]
  rfl

theorem pay702_at (l : Vec Ideal S1x1 .f32) (A : Vec Ideal S1x128x512 .f32) (B : Vec Ideal S1x1x512 .f32) (e : Fin 128) (r : Fin 256) :
    k0_pay702 (F := Ideal) l A B (ix2 e r) = Ideal.div (A (ix3 0 e (⟨r.val, by omega⟩ : Fin 512))) (B (ix3 0 0 (⟨r.val, by omega⟩ : Fin 512)))
      - l (ix2 0 0) * Ideal.div (A (ix3 0 e (⟨256 + r.val, by omega⟩ : Fin 512))) (B (ix3 0 0 (⟨256 + r.val, by omega⟩ : Fin 512))) := by
  pointwise [k0_pay702]

theorem outH_at (L : Vec Ideal S4x64 .f32) (g : Vec Ideal S1x128 .f32) (A : Vec Ideal S1x144x512 .f32) (e : Fin 128) (r : Fin 256) :
    outH (F := Ideal) L g A (ix2 r e) = normed (fun x : Fin 128 => k0_pay702 (F := Ideal) (k0_pay698 L) (top A) (bot A) (ix2 x r)) (g (ix2 0 e)) e := by
  unfold outH normed
  pointwise [k0_pay1, k0_pay703]

end Cert.KernelIdeal.Gen

end
-- ==== Proof.Hand.Kern.lean ====
/- What one head of one point sums, from the blocks the point reads: one query's attention. -/
module

public import proofs.«01_k».proof.Proof.Hand.Column
public import proofs.«01_k».proof.Proof.Hand.Sums
public import proofs.«01_k».proof.Proof.Hand.Outs

@[expose] public section

set_option maxRecDepth 16384

noncomputable section

namespace Cert.KernelIdeal.Gen

open Idealize.ShloMosaic Idealize.ShloMosaic.TcCoe Idealize.SL.Sem
open Cert.KernelIdeal Cert.KernelIdeal.Gen Cert.Col Cert.Attn Cert.Words

/-- The blocks a point reads. -/
structure BlkIn (Z : (⟨2, ![16384, 10240]⟩ : Shape).Idx → EReal) (g b : ℕ) (x0 : Vec Ideal S4 .f32) (x1 : Vec Ideal S256x256 .bf16) (x2 : Vec Ideal S16384x256 .bf16)
    (x3 : Vec Ideal S2x128x16384 .bf16) (x4 : Vec Ideal S2x256x128 .bf16) (x5 : Vec Ideal S2x256x512 .f32) : Prop where
  s : ∀ (y : S4.Idx) (a : ℕ), (y 0).val = a → x0 y = (slp a : EReal)
  q : ∀ (y : S256x256.Idx) (a j : ℕ), (y 0).val = a → (y 1).val = j → x1 y = (zr Z (256 * b + a) (4608 + 256 * g + j) : EReal)
  k : ∀ (y : S16384x256.Idx) (a j : ℕ), (y 0).val = a → (y 1).val = j → x2 y = (zr Z a (5120 + 256 * g + j) : EReal)
  v : ∀ (y : S2x128x16384.Idx) (h e a : ℕ), (y 0).val = h → (y 1).val = e → (y 2).val = a → x3 y = (zr Z a (5632 + 128 * (2 * g + h) + e) : EReal)
  f : ∀ (y : S2x256x128.Idx) (h a j : ℕ), (y 0).val = h → (y 1).val = a → (y 2).val = j → x4 y = if j < 3 then ((slp (2 * g + h) * a : ℝ) : EReal) else 0
  d : ∀ (y : S2x256x512.Idx) (h : ℕ) (k : Fin 256) (j : ℕ), (y 0).val = h → (y 1).val = k.val → (y 2).val = j → x5 y = if k.val / 64 ≤ j % 256 / 64 then ((bS (2 * g + h) (j % 256) k : ℝ) : EReal) else ⊥

variable {Z : (⟨2, ![16384, 10240]⟩ : Shape).Idx → EReal} {x0 : Vec Ideal S4 .f32} {x1 : Vec Ideal S256x256 .bf16} {x2 : Vec Ideal S16384x256 .bf16}
  {x3 : Vec Ideal S2x128x16384 .bf16} {x4 : Vec Ideal S2x256x128 .bf16} {x5 : Vec Ideal S2x256x512 .f32} {i : grid0.Coords}

/-- A column: a map and a query. -/
def colOf (mm : Fin 2) (r : Fin 256) : Fin 512 := ⟨256 * mm.val + r.val, by omega⟩

theorem query_at (B : BlkIn Z (i 0).val (i 1).val x0 x1 x2 x3 x4 x5) (h mm : Fin 2) (r : Fin 256) (d : Fin 128) :
    qqV h x1 (ix3 (0 : Fin 1) (⟨d.val, by omega⟩ : Fin 256) (colOf mm r))
      = ((if d.val / 64 = mm.val then zr Z (256 * (i 1).val + r.val) (4608 + 256 * (i 0).val + (128 * h.val + d.val)) * ((Real.log 2)⁻¹ * (1 / 8)) else 0 : ℝ) : EReal) := by
  have hd := d.isLt
  have hr := r.isLt
  unfold qqV
  rw [dif_pos (show ((ix3 (0 : Fin 1) (⟨d.val, by omega⟩ : Fin 256) (colOf mm r) : S1x256x512.Idx) 1).val < 128 from hd)]
  have e : VecWindow.window x1 ![0, 128 * h.val] S256x128.size (head_inb h).1 (ix2 r d) = (zr Z (256 * (i 1).val + r.val) (4608 + 256 * (i 0).val + (128 * h.val + d.val)) : EReal) := by
    refine B.q _ _ _ ?_ ?_
    · show 0 + 1 * r.val = r.val; omega
    · show 128 * h.val + 1 * d.val = 128 * h.val + d.val; omega
  by_cases hm : mm.val = 0
  · rw [dif_pos (show ((ix3 (0 : Fin 1) (⟨d.val, by omega⟩ : Fin 256) (colOf mm r) : S1x256x512.Idx) 2).val < 256 by
      show 256 * mm.val + r.val < 256; omega)]
    have hc : (⟨((ix3 (0 : Fin 1) (⟨d.val, by omega⟩ : Fin 256) (colOf mm r) : S1x256x512.Idx) 2).val, by
      show 256 * mm.val + r.val < 256; omega⟩ : Fin 256) = r := Fin.ext (by show 256 * mm.val + r.val = r.val; omega)
    rw [hc]
    refine (pay672_at _ d r).trans ?_
    rw [e, ← EReal.coe_mul]
    by_cases hx : d.val < 64
    · rw [if_pos hx, if_pos (by omega)]
    · rw [if_neg hx, if_neg (by omega), EReal.coe_zero]
  · rw [dif_neg (show ¬ ((ix3 (0 : Fin 1) (⟨d.val, by omega⟩ : Fin 256) (colOf mm r) : S1x256x512.Idx) 2).val < 256 by
      show ¬ 256 * mm.val + r.val < 256; omega)]
    have hc : (⟨((ix3 (0 : Fin 1) (⟨d.val, by omega⟩ : Fin 256) (colOf mm r) : S1x256x512.Idx) 2).val - 256, by
      show 256 * mm.val + r.val - 256 < 256; omega⟩ : Fin 256) = r := Fin.ext (by show 256 * mm.val + r.val - 256 = r.val; omega)
    rw [hc]
    refine (pay673_at _ d r).trans ?_
    rw [e, ← EReal.coe_mul]
    by_cases hx : 64 ≤ d.val
    · rw [if_pos hx, if_pos (by omega)]
    · rw [if_neg hx, if_neg (by omega), EReal.coe_zero]

theorem feature_at (h : Fin 2) (c : Fin 512) (d : Fin 128) :
    qqV (F := Ideal) h x1 (ix3 (0 : Fin 1) (⟨128 + d.val, by omega⟩ : Fin 256) c) = if d.val = 0 then (((Real.log 2)⁻¹ : ℝ) : EReal) else 0 := by
  unfold qqV
  rw [dif_neg (show ¬ ((ix3 (0 : Fin 1) (⟨128 + d.val, by omega⟩ : Fin 256) c : S1x256x512.Idx) 1).val < 128 by
    show ¬ 128 + d.val < 128; omega)]
  have hc : (⟨((ix3 (0 : Fin 1) (⟨128 + d.val, by omega⟩ : Fin 256) c : S1x256x512.Idx) 1).val - 128, by
    show 128 + d.val - 128 < 128; omega⟩ : Fin 128) = d := Fin.ext (by show 128 + d.val - 128 = d.val; omega)
  rw [hc]
  exact pay678_at d c

theorem half_sum (f g : ℕ → ℝ) (mm : Fin 2) : ∑ x : Fin 128, f x.val * (if x.val / 64 = mm.val then g x.val else 0)
    = ∑ d : Fin 64, f (64 * mm.val + d.val) * g (64 * mm.val + d.val) := by
  have e := Fin.sum_univ_add (a := 64) (b := 64) (fun x : Fin (64 + 64) => f x.val * (if x.val / 64 = mm.val then g x.val else 0))
  refine Eq.trans e ?_
  simp only [Fin.val_castAdd, Fin.val_natAdd]
  have hm : mm.val = 0 ∨ mm.val = 1 := by omega
  rcases hm with hm | hm
  · rw [hm, Finset.sum_congr rfl (fun (x : Fin 64) _ => by rw [if_pos (show x.val / 64 = 0 by omega)]),
      Finset.sum_eq_zero (s := Finset.univ) (f := fun x : Fin 64 => f (64 + x.val) * if (64 + x.val) / 64 = 0 then g (64 + x.val) else 0)
        (fun x _ => by rw [if_neg (show ¬ (64 + x.val) / 64 = 0 by omega), mul_zero]), add_zero]
    simp only [Nat.mul_zero, Nat.zero_add]
  · rw [hm, Finset.sum_eq_zero (s := Finset.univ) (f := fun x : Fin 64 => f x.val * if x.val / 64 = 1 then g x.val else 0)
        (fun x _ => by rw [if_neg (show ¬ x.val / 64 = 1 by omega), mul_zero]), zero_add]
    refine Finset.sum_congr rfl fun x _ => ?_
    rw [if_pos (show (64 + x.val) / 64 = 1 by omega)]

/-- The scores of one block of keys. -/
theorem score_at (B : BlkIn Z (i 0).val (i 1).val x0 x1 x2 x3 x4 x5) (h mm : Fin 2) (r : Fin 256) (n : ℕ) (kb : Vec Ideal S256x128 .bf16)
    (hk : ∀ (k : Fin 256) (x : Fin 128), kb (ix2 k x) = (zr Z (256 * n + k.val) (5120 + 256 * (i 0).val + (128 * h.val + x.val)) : EReal)) (k : Fin 256) :
    k0_pay2 kb (VecWindow.window x4 ![h.val, 0, 0] S1x256x128.size (head_inb h).2.1) (qqV h x1) (ix4 0 0 k (colOf mm r))
      = (tS Z (2 * (i 0).val + h.val) mm.val (256 * (i 1).val + r.val) n k : EReal) := by
  rw [pay2_at]
  simp only [hk, query_at B h mm r, feature_at]
  have hf : ∀ x : Fin 128, VecWindow.window x4 ![h.val, 0, 0] S1x256x128.size (head_inb h).2.1 (ix3 (0 : Fin 1) k x)
      = if x.val < 3 then ((slp (2 * (i 0).val + h.val) * k.val : ℝ) : EReal) else 0 := by
    intro x
    refine B.f _ _ _ _ ?_ ?_ ?_
    · show h.val + 1 * 0 = h.val; omega
    · show 0 + 1 * k.val = k.val; omega
    · show 0 + 1 * x.val = x.val; omega
  have hs : ∑ x : Fin 128, VecWindow.window x4 ![h.val, 0, 0] S1x256x128.size (head_inb h).2.1 (ix3 (0 : Fin 1) k x) * (if x.val = 0 then (((Real.log 2)⁻¹ : ℝ) : EReal) else 0)
      = ((slp (2 * (i 0).val + h.val) * k.val * (Real.log 2)⁻¹ : ℝ) : EReal) := by
    rw [Finset.sum_eq_single (0 : Fin 128)]
    · rw [hf, if_pos (by decide), if_pos (show ((0 : Fin 128)).val = 0 from rfl), ← EReal.coe_mul]
    · intro x _ hx
      rw [if_neg (fun e : x.val = 0 => hx (Fin.ext e)), mul_zero]
    · intro hx; exact absurd (Finset.mem_univ _) hx
  simp only [← EReal.coe_mul]
  rw [hs, coe_sum, ← EReal.coe_add]
  refine congrArg (fun r : ℝ => (r : EReal)) ?_
  rw [half_sum (fun x => zr Z (256 * n + k.val) (5120 + 256 * (i 0).val + (128 * h.val + x)))
    (fun x => zr Z (256 * (i 1).val + r.val) (4608 + 256 * (i 0).val + (128 * h.val + x)) * ((Real.log 2)⁻¹ * (1 / 8))) mm]
  unfold tS sc
  rw [Finset.mul_sum]
  refine congrArg (fun a : ℝ => a + slp (2 * (i 0).val + h.val) * k.val * (Real.log 2)⁻¹) (Finset.sum_congr rfl fun d _ => ?_)
  rw [show 5120 + 256 * (i 0).val + (128 * h.val + (64 * mm.val + d.val)) = 5120 + 128 * (2 * (i 0).val + h.val) + 64 * mm.val + d.val by omega,
    show 4608 + 256 * (i 0).val + (128 * h.val + (64 * mm.val + d.val)) = 4608 + 128 * (2 * (i 0).val + h.val) + 64 * mm.val + d.val by omega]
  ring

/-- The offset of one block of keys. -/
theorem offset_at (B : BlkIn Z (i 0).val (i 1).val x0 x1 x2 x3 x4 x5) (h : Fin 2) (n : ℕ) (hn : n < 64) :
    offI (BitVec.ofNat 32 n) (VecWindow.window x0 (o2At h.val i) S1.size (o2At_inb i h) (Shape.Idx.first (numel1_S1.symm ▸ Nat.one_pos)))
      = (oS (2 * (i 0).val + h.val) n : EReal) := by
  have hs : VecWindow.window x0 (o2At h.val i) S1.size (o2At_inb i h) (Shape.Idx.first (numel1_S1.symm ▸ Nat.one_pos)) = (slp (2 * (i 0).val + h.val) : EReal) := by
    refine B.s _ _ ?_
    show 2 * (i 0).val + h.val + 1 * 0 = 2 * (i 0).val + h.val
    omega
  have hl : (Named.named (F := Ideal) κ "log2e" (φ := .f32) 0x3FB8AA3B#32) = (((Real.log 2)⁻¹ : ℝ) : EReal) := rfl
  have hw : (Scalar.muli (BitVec.ofNat 32 n) 256#32).toInt = ((256 * n : ℕ) : ℤ) := by
    have e : Scalar.muli (BitVec.ofNat 32 n) 256#32 = BitVec.ofNat 32 (n * 256) := (BitVec.ofNat_mul _ _).symm
    rw [e, toInt_small (by omega), Nat.mul_comm]
  unfold offI
  rw [hs, hl, hw, ← EReal.coe_mul, ← EReal.coe_mul]
  refine congrArg (fun r : ℝ => (r : EReal)) ?_
  unfold oS
  rw [Int.cast_natCast]

theorem column_in (B : BlkIn Z (i 0).val (i 1).val x0 x1 x2 x3 x4 x5) (h mm : Fin 2) (r : Fin 256) :
    ColIn (inpV h x0 x2 x3 x4 i (qqV h x1)) (startV h x2 x4 (qqV h x1)) (finV h x0 x3 x5 i) (i 1).val (colOf mm r)
      (tS Z (2 * (i 0).val + h.val) mm.val (256 * (i 1).val + r.val)) (oS (2 * (i 0).val + h.val))
      (wS Z (2 * (i 0).val + h.val) mm.val (256 * (i 1).val + r.val) (i 1).val r.val) := by
  have hb : (i 1).val < 64 := (i 1).isLt
  have hh := h.isLt
  refine ⟨⟨-(13234890 * 2 ^ 76), ?_⟩, pay685_at (colOf mm r), fun e => Ideal.ofBits_zero_f32, fun k => pay684_at k (colOf mm r), ?_, ?_, ?_, ?_, ?_⟩
  · show Ideal.ofBits .f32 0xF149F2CA#32 = _
    simp [Ideal.ofBits, Ideal.ieee, -EReal.coe_mul]
  · intro k
    refine score_at B h mm r 0 _ (fun k x => ?_) k
    refine B.k _ _ _ ?_ ?_
    · show 0 + 1 * k.val = 256 * 0 + k.val; omega
    · show 128 * h.val + 1 * x.val = 128 * h.val + x.val; omega
  · intro n hn k
    refine score_at B h mm r (n + 1) _ (fun k x => ?_) k
    refine B.k _ _ _ ?_ ?_
    · show 256 * (min n 62 + 1) + 1 * k.val = 256 * (n + 1) + k.val; omega
    · show 128 * h.val + 1 * x.val = 128 * h.val + x.val; omega
  · intro n hn
    exact offset_at B h n (by omega)
  · exact offset_at B h (i 1).val hb
  · intro k
    have hm : (256 * mm.val + r.val) % 256 = r.val := by omega
    have e : (finV h x0 x3 x5 i).b (ix3 0 k (colOf mm r)) = if k.val / 64 ≤ (256 * mm.val + r.val) % 256 / 64 then ((bS (2 * (i 0).val + h.val) ((256 * mm.val + r.val) % 256) k : ℝ) : EReal) else ⊥ := by
      refine B.d _ _ _ _ ?_ ?_ ?_
      · show h.val + 1 * 0 = h.val; omega
      · show 0 + 1 * k.val = k.val; omega
      · show 0 + 1 * (256 * mm.val + r.val) = 256 * mm.val + r.val; omega
    rw [hm] at e
    unfold wS
    by_cases hk : k.val / 64 ≤ r.val / 64
    · rw [if_pos hk] at e
      exact Or.inr ⟨_, e, if_pos hk⟩
    · rw [if_neg hk] at e
      exact Or.inl ⟨e, if_neg hk⟩

theorem row_in (B : BlkIn Z (i 0).val (i 1).val x0 x1 x2 x3 x4 x5) (h : Fin 2) (e : Fin 144) (qq : Vec Ideal S1x256x512 .bf16) (u : ℕ → ℝ)
    (hu : ∀ vb : Vec Ideal S1x128x256 .bf16, ∀ n : ℕ, (∀ (y : Fin 128) (k : Fin 256), vb (ix3 0 y k) = (zr Z (n + k.val) (5632 + 128 * (2 * (i 0).val + h.val) + y.val) : EReal)) → ∀ k, rowv vb e k = (u (n + k.val) : EReal)) :
    RowIn (inpV h x0 x2 x3 x4 i qq) (finV h x0 x3 x5 i) (i 1).val e (fun n k => u (256 * n + k.val)) := by
  have hb : (i 1).val < 64 := (i 1).isLt
  have at1 : ∀ j (y : Fin 128) (k : Fin 256), (inpV h x0 x2 x3 x4 i qq j).vb (ix3 0 y k) = (zr Z (256 * (min j 62 - 1) + k.val) (5632 + 128 * (2 * (i 0).val + h.val) + y.val) : EReal) := by
    intro j y k
    refine B.v _ _ _ _ ?_ ?_ ?_
    · show h.val + 1 * 0 = h.val; omega
    · show 0 + 1 * y.val = y.val; omega
    · show 256 * (min j 62 - 1) + 1 * k.val = 256 * (min j 62 - 1) + k.val; omega
  have at2 : ∀ (j : ℕ) (y : Fin 128) (k : Fin 256), VecWindow.window x3 (o5Of h.val j) S1x128x256.size (o5Of_inb h j) (ix3 0 y k)
      = (zr Z (256 * min j 63 + k.val) (5632 + 128 * (2 * (i 0).val + h.val) + y.val) : EReal) := by
    intro j y k
    refine B.v _ _ _ _ ?_ ?_ ?_
    · show h.val + 1 * 0 = h.val; omega
    · show 0 + 1 * y.val = y.val; omega
    · show 256 * min j 63 + 1 * k.val = 256 * min j 63 + k.val; omega
  refine ⟨fun k => ⟨_, hu _ _ (at1 0) k⟩, fun k => ⟨_, hu _ _ (at2 _) k⟩, fun n hn k => ?_, fun n hn k => ?_, fun k => ?_⟩
  · refine (hu _ _ (at1 (n + 1)) k).trans ?_
    rw [show min (n + 1) 62 - 1 = n by omega]
  · refine (hu _ _ (at2 ((i 1).val - 1)) k).trans ?_
    rw [show min ((i 1).val - 1) 63 = n by omega]
  · refine (hu _ _ (at2 (i 1).val) k).trans ?_
    rw [show min (i 1).val 63 = (i 1).val by omega]

/-- One query's attention in one map. -/
theorem head_at (B : BlkIn Z (i 0).val (i 1).val x0 x1 x2 x3 x4 x5) (h mm : Fin 2) (r : Fin 256) (e : Fin 128) :
    Ideal.div (sumV h x0 x2 x3 x4 x5 i (qqV h x1) (ix3 0 (⟨e.val, by omega⟩ : Fin 144) (colOf mm r))) (sumV h x0 x2 x3 x4 x5 i (qqV h x1) (ix3 0 (⟨128, by omega⟩ : Fin 144) (colOf mm r)))
      = (att Z (2 * (i 0).val + h.val) mm.val e.val (256 * (i 1).val + r.val) : EReal) := by
  have hb : (i 1).val < 64 := (i 1).isLt
  have r1 := row_in B h (⟨e.val, by omega⟩ : Fin 144) (qqV h x1) (fun k => zr Z k (5632 + 128 * (2 * (i 0).val + h.val) + e.val)) (by
    intro vb n hv k
    unfold rowv
    rw [dif_pos (show e.val < 128 from e.isLt)]
    exact hv e k)
  have r2 := row_in B h (⟨128, by omega⟩ : Fin 144) (qqV h x1) (fun _ => 1) (by
    intro vb n hv k
    unfold rowv
    rw [dif_neg (show ¬ (128 : ℕ) < 128 by omega)]
    rfl)
  have := (column_in B h mm r).quot r1 r2 (quot_pos Z (2 * (i 0).val + h.val) mm.val (i 1).val r.val hb r.isLt)
  rw [quot_att Z _ _ e.val _ _ hb r.isLt] at this
  exact this

/-- One entry of what a head writes. -/
theorem head_out (B : BlkIn Z (i 0).val (i 1).val x0 x1 x2 x3 x4 x5) (L : Vec Ideal S4x64 .f32) (g : Vec Ideal S1x128 .f32) (lr : ℝ) (hl : lam L = (lr : EReal)) (h : Fin 2) (r : Fin 256) (e : Fin 128) :
    outH (F := Ideal) L g (sumV h x0 x2 x3 x4 x5 i (qqV h x1)) (ix2 r e)
      = normed (fun x : Fin 128 => ((att Z (2 * (i 0).val + h.val) 0 x.val (256 * (i 1).val + r.val) - lr * att Z (2 * (i 0).val + h.val) 1 x.val (256 * (i 1).val + r.val) : ℝ) : EReal)) (g (ix2 0 e)) e := by
  rw [outH_at]
  refine congrArg (fun D => normed D (g (ix2 0 e)) e) (funext fun x => ?_)
  rw [pay702_at, pay698_at, hl]
  have tp : ∀ (A : Vec Ideal S1x144x512 .f32) (mm : Fin 2) (c : Fin 512) (hc : c = colOf mm r), top A (ix3 0 x c) = A (ix3 0 (⟨x.val, by omega⟩ : Fin 144) (colOf mm r)) := by
    intro A mm c hc
    subst hc
    refine congrArg A (funext fun a => Fin.ext ?_)
    fin_cases a
    · rfl
    · show 0 + 1 * x.val = x.val; omega
    · show 0 + 1 * (colOf mm r).val = (colOf mm r).val; omega
  have bt : ∀ (A : Vec Ideal S1x144x512 .f32) (mm : Fin 2) (c : Fin 512) (hc : c = colOf mm r), bot A (ix3 0 0 c) = A (ix3 0 (⟨128, by omega⟩ : Fin 144) (colOf mm r)) := by
    intro A mm c hc
    subst hc
    refine congrArg A (funext fun a => Fin.ext ?_)
    fin_cases a
    · rfl
    · rfl
    · show 0 + 1 * (colOf mm r).val = (colOf mm r).val; omega
  have c0 : (⟨r.val, by omega⟩ : Fin 512) = colOf 0 r := Fin.ext (by show r.val = 256 * 0 + r.val; omega)
  have c1 : (⟨256 + r.val, by omega⟩ : Fin 512) = colOf 1 r := Fin.ext (by show 256 + r.val = 256 * 1 + r.val; omega)
  rw [tp _ 0 _ c0, tp _ 1 _ c1, bt _ 0 _ c0, bt _ 1 _ c1, head_at B h 0 r x, head_at B h 1 r x, ← EReal.coe_mul, ← EReal.coe_sub]
  rfl

/-- One entry of what a point writes. -/
theorem point_out (B : BlkIn Z (i 0).val (i 1).val x0 x1 x2 x3 x4 x5) (L : Vec Ideal S4x64 .f32) (g : Vec Ideal S1x128 .f32) (lr : ℝ) (hl : lam L = (lr : EReal)) (r : Fin 256) (j : Fin 256)
    (h : ℕ) (e : Fin 128) (hj : j.val = 128 * h + e.val) :
    outV (F := Ideal) x0 x1 x2 x3 x4 x5 L g i (ix2 r j)
      = normed (fun x : Fin 128 => ((att Z (2 * (i 0).val + h) 0 x.val (256 * (i 1).val + r.val) - lr * att Z (2 * (i 0).val + h) 1 x.val (256 * (i 1).val + r.val) : ℝ) : EReal)) (g (ix2 0 e)) e := by
  have he := e.isLt
  have hj' := j.isLt
  have hh : h < 2 := by omega
  have e1 : (if j.val < 128 then (0 : Fin 2) else 1) = ⟨h, hh⟩ := by
    by_cases h0 : h = 0
    · subst h0; rw [if_pos (by omega)]; rfl
    · have : h = 1 := by omega
      subst this; rw [if_neg (by omega)]; rfl
  have e2 : (⟨j.val % 128, Nat.mod_lt _ (by norm_num)⟩ : Fin 128) = e := Fin.ext (by show j.val % 128 = e.val; omega)
  have := head_out B L g lr hl ⟨h, hh⟩ r e
  rw [← this, ← e1]
  conv_rhs => rw [← e2]
  rfl

end Cert.KernelIdeal.Gen

end
-- ==== Proof.Hand.Tables.lean ====
/- The tables the host lines before the region leave, read at one entry. -/
module

public import proofs.«01_k».proof.Proof.Hand.Point
public import proofs.«01_k».proof.Proof.Hand.Attn
public import Idealize.ShloMosaic.Lib.Pipeline.ValueKit
public import Idealize.ShloMosaic.Lib.Claim

@[expose] public section

set_option maxRecDepth 16384

noncomputable section

namespace Cert.KernelIdeal.Gen

open Idealize.ShloMosaic Idealize.ShloMosaic.TcCoe Idealize.SL.Sem
open Cert.KernelIdeal Cert.KernelIdeal.Gen Cert.Col Cert.Attn Cert.Words

variable (m : (ℓ : Loc nD τ sig) → Buf (Elt Ideal) ℓ)

theorem lit_slope (a : Fin 4) : Ideal.ofBits .f32 (lit0 (S4.rowMajor (ix1 a))) = (slp a.val : EReal) := by
  have h0 : lit0 (S4.rowMajor (ix1 (0 : Fin 4))) = 0x3E800000#32 := by decide
  have h1 : lit0 (S4.rowMajor (ix1 (1 : Fin 4))) = 0x3D800000#32 := by decide
  have h2 : lit0 (S4.rowMajor (ix1 (2 : Fin 4))) = 0x3C800000#32 := by decide
  have h3 : lit0 (S4.rowMajor (ix1 (3 : Fin 4))) = 0x3B800000#32 := by decide
  have e : ∀ b : Fin 4, b = 0 ∨ b = 1 ∨ b = 2 ∨ b = 3 := by decide
  unfold slp
  rcases e a with rfl | rfl | rfl | rfl
  · rw [h0]; simp [Ideal.ofBits, Ideal.ieee, -EReal.coe_mul]; norm_num
  · rw [h1]; simp [Ideal.ofBits, Ideal.ieee, -EReal.coe_mul]; norm_num
  · rw [h2]; simp [Ideal.ofBits, Ideal.ieee, -EReal.coe_mul]; norm_num
  · rw [h3]; simp [Ideal.ofBits, Ideal.ieee, -EReal.coe_mul]; norm_num

theorem tbl_g (c : Dev nD) (e : Fin 128) : V m c main_v2 (ix2 (0 : Fin 1) e) = m ((c : Thread nD τ).loc main_arg2) (ix1 e) := by
  unfold V
  simp only [List.flatten_cons, List.flatten_nil, List.append_nil, List.cons_append, List.nil_append]
  after_results
  pointwise

theorem tbl_v (c : Dev nD) (a : Fin 4) (e : Fin 128) (k : Fin 16384) : V m c main_v36 (ix3 a e k)
    = m ((c : Thread nD τ).loc main_arg0) (ix2 k (⟨5632 + 128 * a.val + e.val, by omega⟩ : Fin 10240)) := by
  unfold V
  simp only [List.flatten_cons, List.flatten_nil, List.append_nil, List.cons_append, List.nil_append]
  after_results
  pointwise
  refine congrArg (m (c, Proc.tc.devRef main_arg0)) ?_
  refine congrArg (fun i : Fin 10240 => ix2 k i) (Fin.ext ?_)
  show 5632 + (a.val * 128 + e.val) = 5632 + 128 * a.val + e.val
  omega

theorem tbl_s (c : Dev nD) (a : Fin 4) : V m c main_cst (ix1 a) = (slp a.val : EReal) := by
  unfold V
  simp only [List.flatten_cons, List.flatten_nil, List.append_nil, List.cons_append, List.nil_append]
  after_results
  exact lit_slope a

/-- The slopes as the host lines spread them. -/
def slopes : FVec Ideal S4x1x1 .f32 := broadcastInDim S4x1x1 ![0] bcast_S4_S4x1x1_0 fun i => Ideal.ofBits FTy.f32 (lit0 (S4.rowMajor i))

/-- The key features. -/
def tblK : FVec Ideal S4x256x128 .f32 :=
  select (cmpi CmpIPredicate.slt (iotaInDim S4x256x128 32 2) (broadcastInDim S4x256x128 ![] bcast_S_S4x256x128 (constantI S_ 32 3#32)))
    (mulf (broadcastInDim S4x256x128 ![0, 1, 2] bcast_S4x1x1_S4x256x128_0_1_2 slopes) (sitofp FTy.f32 (iotaInDim S4x256x128 32 1)))
    (broadcastInDim S4x256x128 ![] bcast_S_S4x256x128 (constant S_ FTy.f32 0#32))

/-- A query's place in its block. -/
def qloc : IVec S256x512 32 := Host.remsi (iotaInDim S256x512 32 1) (broadcastInDim S256x512 ![] bcast_S_S256x512 (constantI S_ 32 256#32))

/-- The distances within a block, with what masks a chunk. -/
def tblB : FVec Ideal S4x256x512 .f32 :=
  select (broadcastInDim S4x256x512 ![1, 2] bcast_S256x512_S4x256x512_1_2
      (cmpi CmpIPredicate.sle (Host.divsi (iotaInDim S256x512 32 0) (broadcastInDim S256x512 ![] bcast_S_S256x512 (constantI S_ 32 64#32)))
        (Host.divsi qloc (broadcastInDim S256x512 ![] bcast_S_S256x512 (constantI S_ 32 64#32)))))
    (mulf (broadcastInDim S4x256x512 ![0, 1, 2] bcast_S4x1x1_S4x256x512_0_1_2
        (mulf (broadcastInDim S4x1x1 ![] bcast_S_S4x1x1 (Host.divf (constant S_ FTy.f32 1065353216#32) (Host.log (constant S_ FTy.f32 1073741824#32)))) slopes))
      (broadcastInDim S4x256x512 ![0, 1, 2] bcast_S1x256x512_S4x256x512_0_1_2 (broadcastInDim S1x256x512 ![1, 2] bcast_S256x512_S1x256x512_1_2
        (sitofp FTy.f32 (subi (subi qloc (absi (subi qloc (iotaInDim S256x512 32 0)))) (iotaInDim S256x512 32 0))))))
    (broadcastInDim S4x256x512 ![] bcast_S_S4x256x512 (constant S_ FTy.f32 4286578688#32))

theorem tblK_eq (c : Dev nD) : V m c main_v35 = truncf (F := Ideal) .bf16 tblK bitsLt_bf16_f32 := by
  unfold V
  simp only [List.flatten_cons, List.flatten_nil, List.append_nil, List.cons_append, List.nil_append]
  after_results
  rfl

theorem tblB_eq (c : Dev nD) : V m c main_v34 = tblB := by
  unfold V
  simp only [List.flatten_cons, List.flatten_nil, List.append_nil, List.cons_append, List.nil_append]
  after_results
  rfl

theorem tbl_k (c : Dev nD) (a : Fin 4) (k : Fin 256) (j : Fin 128) : V m c main_v35 (ix3 a k j) = if j.val < 3 then ((slp a.val * k.val : ℝ) : EReal) else 0 := by
  rw [tblK_eq]
  pointwise [tblK, slopes]
  rw [lit_slope]
  have hj : (IntOp.cmpi CmpIPredicate.slt (BitVec.ofNat 32 j.val) 3#32 = 1#1) ↔ j.val < 3 := by
    have := j.isLt
    have e : ∀ j : Fin 128, (IntOp.cmpi CmpIPredicate.slt (BitVec.ofNat 32 j.val) 3#32 = 1#1) ↔ j.val < 3 := by decide +kernel
    exact e j
  have hk : (FloatOps.sitofp FTy.f32 (BitVec.ofNat 32 k.val) : Ideal .f32) = ((k.val : ℝ) : EReal) := by
    show (((BitVec.ofNat 32 k.val).toInt : ℝ) : EReal) = _
    rw [toInt_small (by omega)]; norm_cast
  rw [hk, ← EReal.coe_mul]
  unfold Scalar.select
  by_cases h : j.val < 3
  · rw [if_pos h]; exact if_pos (hj.2 h)
  · rw [if_neg h]; exact if_neg fun e => h (hj.1 e)

theorem tbl_b (c : Dev nD) (a : Fin 4) (k : Fin 256) (j : Fin 512) : V m c main_v34 (ix3 a k j)
    = if k.val / 64 ≤ j.val % 256 / 64 then (((Real.log 2)⁻¹ * slp a.val * (((j.val % 256 : ℕ) : ℝ) - |((j.val % 256 : ℕ) : ℝ) - k.val| - k.val) : ℝ) : EReal) else ⊥ := by
  rw [tblB_eq]
  pointwise [tblB, slopes, qloc]
  have hr : IntOp.remsi ArithUnit.host (BitVec.ofNat 32 j.val) 256#32 = BitVec.ofNat 32 (j.val % 256) :=
    Routing.remsi_word _ (by omega) (by omega) (by omega)
  have hd : IntOp.divsi ArithUnit.host (BitVec.ofNat 32 (j.val % 256)) 64#32 = BitVec.ofNat 32 (j.val % 256 / 64) :=
    Routing.divsi_word _ (by omega) (by omega) (by omega)
  have he : IntOp.divsi ArithUnit.host (BitVec.ofNat 32 k.val) 64#32 = BitVec.ofNat 32 (k.val / 64) :=
    Routing.divsi_word _ (by omega) (by omega) (by omega)
  have h2 : Ideal.div 1 (Ideal.log (Ideal.ofBits FTy.f32 1073741824#32)) = (((Real.log 2)⁻¹ : ℝ) : EReal) := by
    have e2 : Ideal.ofBits FTy.f32 1073741824#32 = ((2 : ℝ) : EReal) := by
      simp [Ideal.ofBits, Ideal.ieee, -EReal.coe_mul]; norm_num
    have el : Ideal.log ((2 : ℝ) : EReal) = ((Real.log 2 : ℝ) : EReal) := by
      rw [Ideal.log_coe, if_neg (by norm_num)]
    rw [e2, el, show (1 : EReal) = ((1 : ℝ) : EReal) by norm_cast, Ideal.div_coe (Real.log_pos (by norm_num)).ne', one_div, ← EReal.coe_mul, one_mul]
  have hb : (FloatOps.sitofp FTy.f32 (IntOp.subi (IntOp.subi (BitVec.ofNat 32 (j.val % 256)) (IntOp.absi (IntOp.subi (BitVec.ofNat 32 (j.val % 256)) (BitVec.ofNat 32 k.val)))) (BitVec.ofNat 32 k.val)) : Ideal .f32)
      = ((((j.val % 256 : ℕ) : ℝ) - |((j.val % 256 : ℕ) : ℝ) - k.val| - k.val : ℝ) : EReal) := by
    refine congrArg (fun r : ℝ => (r : EReal)) ?_
    have := bias_word (a := j.val % 256) (b := k.val) (by omega) (by omega)
    rw [this]; push_cast; rfl
  have hc : (IntOp.cmpi CmpIPredicate.sle (BitVec.ofNat 32 (k.val / 64)) (BitVec.ofNat 32 (j.val % 256 / 64)) = 1#1) ↔ k.val / 64 ≤ j.val % 256 / 64 :=
    le_word (by omega) (by omega)
  rw [hr, hd, he, h2, hb, lit_slope, ← EReal.coe_mul, ← EReal.coe_mul]
  unfold Scalar.select
  by_cases h : k.val / 64 ≤ j.val % 256 / 64
  · rw [if_pos h]; exact if_pos (hc.2 h)
  · rw [if_neg h]; exact (if_neg fun e => h (hc.1 e)).trans (by simp [Ideal.ofBits, Ideal.ieee])

end Cert.KernelIdeal.Gen

end
-- ==== Proof.Hand.Final.lean ====
/- The attention kernel's result array, entry by entry. -/
module

public import proofs.«01_k».proof.Proof.Hand.Kern
public import proofs.«01_k».proof.Proof.Hand.Tables

@[expose] public section

set_option maxRecDepth 16384

noncomputable section

namespace Cert.KernelIdeal.Gen

open Idealize.ShloMosaic Idealize.ShloMosaic.TcCoe Idealize.SL.Sem
open Cert.KernelIdeal Cert.KernelIdeal.Gen Cert.Col Cert.Attn Cert.Words

variable (m : (ℓ : Loc nD τ sig) → Buf (Elt Ideal) ℓ)

theorem places0 : ∀ t : Fin cfg0.N, win0_0.index t = ![0] ∧ win0_1.index t = ![t.val % 64, 18 + t.val / 64] ∧ win0_2.index t = ![0, 20 + t.val / 64]
    ∧ win0_3.index t = ![t.val / 64, 0, 0] :=
  (by decide +kernel : ∀ t : Fin grid0.N, _)

theorem places1 : ∀ t : Fin cfg0.N, win0_4.index t = ![t.val / 64, 0, 0] ∧ win0_5.index t = ![t.val / 64, 0, 0] ∧ win0_6.index t = ![0, 0]
    ∧ win0_7.index t = ![0, 0] ∧ win0_8.index t = ![t.val % 64, t.val / 64] :=
  (by decide +kernel : ∀ t : Fin grid0.N, _)

theorem coord : ∀ t : Fin cfg0.N, (grid0.coords t 0).val = t.val / 64 ∧ (grid0.coords t 1).val = t.val % 64 :=
  (by decide +kernel : ∀ t : Fin grid0.N, _)

theorem ix1_of (i : (⟨1, ![4]⟩ : Shape).Idx) : i = ix1 (i 0) := by funext a; fin_cases a; rfl
theorem ix3_of {a b c : ℕ} (i : (⟨3, ![a, b, c]⟩ : Shape).Idx) : i = ix3 (i 0) (i 1) (i 2) := by funext x; fin_cases x <;> rfl
theorem ix2_of {a b : ℕ} (i : (⟨2, ![a, b]⟩ : Shape).Idx) : i = ix2 (i 0) (i 1) := by funext x; fin_cases x <;> rfl

/-- The tables at any entry. -/
theorem at_s (c : Dev nD) (i : S4.Idx) (a : ℕ) (h0 : (i 0).val = a) : V m c main_cst i = (slp a : EReal) := by
  subst h0
  exact (congrArg (V m c main_cst) (ix1_of i)).trans (tbl_s m c _)

theorem at_v (c : Dev nD) (hZ : Fin2 (m ((c : Thread nD τ).loc main_arg0))) (i : S4x128x16384.Idx) (h e a : ℕ) (h0 : (i 0).val = h) (h1 : (i 1).val = e) (h2 : (i 2).val = a) :
    V m c main_v36 i = (zr (m ((c : Thread nD τ).loc main_arg0)) a (5632 + 128 * h + e) : EReal) := by
  subst h0 h1 h2
  exact ((congrArg (V m c main_v36) (ix3_of i)).trans (tbl_v m c _ _ _)).trans (zr_eq hZ _ _ _ rfl rfl)

theorem at_k (c : Dev nD) (i : S4x256x128.Idx) (h a j : ℕ) (h0 : (i 0).val = h) (h1 : (i 1).val = a) (h2 : (i 2).val = j) :
    V m c main_v35 i = if j < 3 then ((slp h * a : ℝ) : EReal) else 0 := by
  subst h0 h1 h2
  exact (congrArg (V m c main_v35) (ix3_of i)).trans (tbl_k m c _ _ _)

theorem at_b (c : Dev nD) (i : S4x256x512.Idx) (h : ℕ) (k : Fin 256) (j : ℕ) (h0 : (i 0).val = h) (h1 : (i 1).val = k.val) (h2 : (i 2).val = j) :
    V m c main_v34 i = if k.val / 64 ≤ j % 256 / 64 then ((bS h (j % 256) k : ℝ) : EReal) else ⊥ := by
  have hk : k = (i 1 : Fin 256) := Fin.ext h1.symm
  subst h0 h2 hk
  exact (congrArg (V m c main_v34) (ix3_of i)).trans (tbl_b m c _ _ _)

section Blocks

variable (c : Dev nD) (hZ : Fin2 (m ((c : Thread nD τ).loc main_arg0))) (t : Fin cfg0.N)

theorem blk_s (y : S4.Idx) (a : ℕ) (h0 : (y 0).val = a) : iblk m c 0 t y = (slp a : EReal) := by
  have e : iblk m c 0 t y = V m c main_cst (((cfg0.win 0).blk t).view.emb y) := rfl
  refine e.trans (at_s m c _ _ ?_)
  blk_simp [places0 t]; omega

include hZ in
theorem blk_q (y : S256x256.Idx) (a j : ℕ) (h0 : (y 0).val = a) (h1 : (y 1).val = j) :
    iblk m c 1 t y = (zr (m ((c : Thread nD τ).loc main_arg0)) (256 * (t.val % 64) + a) (4608 + 256 * (t.val / 64) + j) : EReal) := by
  have e : iblk m c 1 t y = V m c main_arg0 (((cfg0.win 1).blk t).view.emb y) := rfl
  rw [e, V_main_arg0]
  refine zr_eq hZ _ _ _ ?_ ?_
  · blk_simp [places0 t]; omega
  · blk_simp [places0 t]; omega

include hZ in
theorem blk_k (y : S16384x256.Idx) (a j : ℕ) (h0 : (y 0).val = a) (h1 : (y 1).val = j) :
    iblk m c 2 t y = (zr (m ((c : Thread nD τ).loc main_arg0)) a (5120 + 256 * (t.val / 64) + j) : EReal) := by
  have e : iblk m c 2 t y = V m c main_arg0 (((cfg0.win 2).blk t).view.emb y) := rfl
  rw [e, V_main_arg0]
  refine zr_eq hZ _ _ _ ?_ ?_
  · blk_simp [places0 t]; omega
  · blk_simp [places0 t]; omega

include hZ in
theorem blk_v (y : S2x128x16384.Idx) (h e a : ℕ) (h0 : (y 0).val = h) (h1 : (y 1).val = e) (h2 : (y 2).val = a) :
    iblk m c 3 t y = (zr (m ((c : Thread nD τ).loc main_arg0)) a (5632 + 128 * (2 * (t.val / 64) + h) + e) : EReal) := by
  have e' : iblk m c 3 t y = V m c main_v36 (((cfg0.win 3).blk t).view.emb y) := rfl
  refine e'.trans (at_v m c hZ _ _ _ _ ?_ ?_ ?_)
  · blk_simp [places0 t]; omega
  · blk_simp [places0 t]; omega
  · blk_simp [places0 t]; omega

theorem blk_f (y : S2x256x128.Idx) (h a j : ℕ) (h0 : (y 0).val = h) (h1 : (y 1).val = a) (h2 : (y 2).val = j) :
    iblk m c 4 t y = if j < 3 then ((slp (2 * (t.val / 64) + h) * a : ℝ) : EReal) else 0 := by
  have e' : iblk m c 4 t y = V m c main_v35 (((cfg0.win 4).blk t).view.emb y) := rfl
  refine e'.trans (at_k m c _ _ _ _ ?_ ?_ ?_)
  · blk_simp [places1 t]; omega
  · blk_simp [places1 t]; omega
  · blk_simp [places1 t]; omega

theorem blk_d (y : S2x256x512.Idx) (h : ℕ) (k : Fin 256) (j : ℕ) (h0 : (y 0).val = h) (h1 : (y 1).val = k.val) (h2 : (y 2).val = j) :
    iblk m c 5 t y = if k.val / 64 ≤ j % 256 / 64 then ((bS (2 * (t.val / 64) + h) (j % 256) k : ℝ) : EReal) else ⊥ := by
  have e' : iblk m c 5 t y = V m c main_v34 (((cfg0.win 5).blk t).view.emb y) := rfl
  refine e'.trans (at_b m c _ _ _ _ ?_ ?_ ?_)
  · blk_simp [places1 t]; omega
  · blk_simp [places1 t]; omega
  · blk_simp [places1 t]; omega

end Blocks

/-- What a point reads. -/
theorem blocks (c : Dev nD) (hZ : Fin2 (m ((c : Thread nD τ).loc main_arg0))) (t : Fin cfg0.N) :
    BlkIn (m ((c : Thread nD τ).loc main_arg0)) (grid0.coords t 0).val (grid0.coords t 1).val (iblk m c 0 t) (iblk m c 1 t) (iblk m c 2 t) (iblk m c 3 t) (iblk m c 4 t) (iblk m c 5 t) := by
  obtain ⟨c0, c1⟩ := coord t
  rw [c0, c1]
  exact ⟨blk_s m c t, blk_q m c hZ t, blk_k m c hZ t, blk_v m c hZ t, blk_f m c t, blk_d m c t⟩

theorem block_lam (c : Dev nD) (t : Fin cfg0.N) : iblk m c 6 t = m ((c : Thread nD τ).loc main_arg1) := by
  funext y
  have e : iblk m c 6 t y = V m c main_arg1 (((cfg0.win 6).blk t).view.emb y) := rfl
  rw [e, V_main_arg1]
  blk_ext [places1 t]

theorem block_g (c : Dev nD) (t : Fin cfg0.N) (e : Fin 128) : iblk m c 7 t (ix2 (0 : Fin 1) e) = m ((c : Thread nD τ).loc main_arg2) (ix1 e) := by
  have e' : iblk m c 7 t (ix2 (0 : Fin 1) e) = V m c main_v2 (((cfg0.win 7).blk t).view.emb (ix2 (0 : Fin 1) e)) := rfl
  rw [e', ← tbl_g m c e]
  blk_ext [places1 t]

/-- The result, entry by entry. -/
def result (Z : (⟨2, ![16384, 10240]⟩ : Shape).Idx → EReal) (lr : ℝ) (g : (⟨1, ![128]⟩ : Shape).Idx → EReal) (q j : ℕ) : EReal :=
  normed (fun x : Fin 128 => ((att Z (j / 128) 0 x.val q - lr * att Z (j / 128) 1 x.val q : ℝ) : EReal))
    (g (ix1 (⟨j % 128, Nat.mod_lt _ (by norm_num)⟩ : Fin 128))) (⟨j % 128, Nat.mod_lt _ (by norm_num)⟩ : Fin 128)

theorem final (c : Dev nD) (hZ : Fin2 (m ((c : Thread nD τ).loc main_arg0))) (lr : ℝ) (hl : lam (m ((c : Thread nD τ).loc main_arg1)) = (lr : EReal)) :
    (datsV m 0 c).arrAt 8 (cfgs 0).N = fun i : S16384x512.Idx => result (m ((c : Thread nD τ).loc main_arg0)) lr (m ((c : Thread nD τ).loc main_arg2)) (i 0).val (i 1).val := by
  refine (datsV m 0 c).arrAt_eq_of_covers 8 _ (by decide +kernel) fun t _ y => ?_
  have hN : t.val < 128 := t.isLt
  obtain ⟨c0, c1⟩ := coord t
  have y1 : (y 1).val < 256 := (y 1).isLt
  have e0 : (((cfg0.win 8).blk t).view.emb y 0).val = 256 * (t.val % 64) + (y 0).val := by blk_simp [places1 t]; omega
  have e1 : (((cfg0.win 8).blk t).view.emb y 1).val = 256 * (t.val / 64) + (y 1).val := by blk_simp [places1 t]; omega
  have hp := point_out (blocks m c hZ t) (m ((c : Thread nD τ).loc main_arg1)) (iblk m c 7 t) lr hl (y 0) (y 1) ((y 1).val / 128) (⟨(y 1).val % 128, Nat.mod_lt _ (by norm_num)⟩ : Fin 128)
    (by show (y 1).val = 128 * ((y 1).val / 128) + (y 1).val % 128; omega)
  rw [block_g m c t, c0, c1] at hp
  show _ = result _ _ _ (((cfg0.win 8).blk t).view.emb y 0).val (((cfg0.win 8).blk t).view.emb y 1).val
  rw [e0, e1]
  blk_simp
  rw [afterV_8, block_lam m c t]
  refine Eq.trans ?_ (hp.trans ?_)
  · rfl
  · unfold result
    rw [show (256 * (t.val / 64) + (y 1).val) / 128 = 2 * (t.val / 64) + (y 1).val / 128 by omega]
    have : (256 * (t.val / 64) + (y 1).val) % 128 = (y 1).val % 128 := by omega
    simp only [this]

end Cert.KernelIdeal.Gen

end
-- ==== Proof.Hand.Ref.lean ====
/- The reference read at one entry: the attention in real numbers. -/
module

public import proofs.«01_k».proof.Proof.Hand.Attn
public import proofs.«01_k».proof.Proof.Gen.ReferenceIdeal.Read

@[expose] public section

set_option maxRecDepth 16384

noncomputable section

namespace Cert.ReferenceIdeal.Read

open Cert.ReferenceIdeal Cert.ReferenceIdeal.Gen Idealize.ShloMosaic Idealize.ShloMosaic.TcCoe Idealize.SL.Sem Idealize.ShloMosaic.StableHlo
open Cert.Attn Cert.Words

variable (x0 : (⟨S16384x10240, .bf16⟩ : BufTy).Contents (Elt Ideal)) (x1 : (⟨S4x64, .f32⟩ : BufTy).Contents (Elt Ideal)) (x2 : (⟨S128, .f32⟩ : BufTy).Contents (Elt Ideal))

section Scores

variable (hZ : Fin2 x0)
include hZ

theorem ref_q (i : S16384x4x2x64.Idx) : val_main_v2 (F := Ideal) x0 i = (zr x0 (i 0).val (4608 + 128 * (i 1).val + 64 * (i 2).val + (i 3).val) : EReal) := by
  rw [val_main_v2_apply, val_main_v1_apply, val_main_v0_apply]
  have h0 : (i 0).val < 16384 := (i 0).isLt
  have h1 : (i 1).val < 4 := (i 1).isLt
  have h2 : (i 2).val < 2 := (i 2).isLt
  have h3 : (i 3).val < 64 := (i 3).isLt
  refine zr_eq hZ _ _ _ ?_ ?_
  · show ((((i 0).val * 4 + (i 1).val) * 2 + (i 2).val) * 64 + (i 3).val) / 512 = _
    omega
  · show 4608 + ((((i 0).val * 4 + (i 1).val) * 2 + (i 2).val) * 64 + (i 3).val) % 512 = _
    omega

theorem ref_k (i : S16384x4x2x64.Idx) : val_main_v4 (F := Ideal) x0 i = (zr x0 (i 0).val (5120 + 128 * (i 1).val + 64 * (i 2).val + (i 3).val) : EReal) := by
  rw [val_main_v4_apply, val_main_v3_apply, val_main_v0_apply]
  have h0 : (i 0).val < 16384 := (i 0).isLt
  have h1 : (i 1).val < 4 := (i 1).isLt
  have h2 : (i 2).val < 2 := (i 2).isLt
  have h3 : (i 3).val < 64 := (i 3).isLt
  refine zr_eq hZ _ _ _ ?_ ?_
  · show ((((i 0).val * 4 + (i 1).val) * 2 + (i 2).val) * 64 + (i 3).val) / 512 = _
    omega
  · show 5120 + ((((i 0).val * 4 + (i 1).val) * 2 + (i 2).val) * 64 + (i 3).val) % 512 = _
    omega

theorem ref_v (i : S16384x4x128.Idx) : val_main_v6 (F := Ideal) x0 i = (zr x0 (i 0).val (5632 + 128 * (i 1).val + (i 2).val) : EReal) := by
  rw [val_main_v6_apply, val_main_v5_apply, val_main_v0_apply]
  have h0 : (i 0).val < 16384 := (i 0).isLt
  have h1 : (i 1).val < 4 := (i 1).isLt
  have h2 : (i 2).val < 128 := (i 2).isLt
  refine zr_eq hZ _ _ _ ?_ ?_
  · show (((i 0).val * 4 + (i 1).val) * 128 + (i 2).val) / 512 = _
    omega
  · show 5632 + (((i 0).val * 4 + (i 1).val) * 128 + (i 2).val) % 512 = _
    omega

theorem ref_dot (i : S2x4x16384x16384.Idx) : val_main_v34 (F := Ideal) x0 i = (sc x0 (i 1).val (i 0).val (i 2).val (i 3).val : EReal) := by
  rw [val_main_v34_apply]
  unfold sc
  rw [← Col.coe_sum]
  refine Finset.sum_congr rfl fun k _ => ?_
  rw [ref_q x0 hZ, ref_k x0 hZ, EReal.coe_mul]

omit hZ in
theorem ref_eighth (i : S2x4x16384x16384.Idx) : val_main_v35 (F := Ideal) i = ((1 / 8 : ℝ) : EReal) := by
  rw [val_main_v35_apply, val_main_cst_5_apply]
  show Ideal.ofBits .f32 0x3E000000#32 = _
  simp [Ideal.ofBits, Ideal.ieee, -EReal.coe_mul]; norm_num

omit hZ in
theorem ref_slope (i : S4.Idx) : val_main_v32 (F := Ideal) i = (slp (i 0).val : EReal) := by
  rw [val_main_v32_apply, val_main_v31_apply, val_main_cst_4_apply, val_main_v30_apply, val_main_v29_apply, val_main_v28_apply, val_main_c_3_apply, val_main_v27_apply,
    val_main_v26_apply, val_main_c_2_apply, val_main_v25_apply, val_main_v24_apply, val_main_c_apply, val_main_v23_apply]
  have hw : ∀ a : Fin 4, (IntOp.shli .host (1#32) (IntOp.muli 2#32 (IntOp.addi 1#32 (BitVec.ofNat 32 a.val)))).toInt = 4 ^ (a.val + 1) := by decide
  show Ideal.div (Ideal.ofBits .f32 0x3F800000#32) ((((IntOp.shli .host (1#32) (IntOp.muli 2#32 (IntOp.addi 1#32 (BitVec.ofNat 32 (i 0).val)))).toInt : ℝ)) : EReal) = _
  have h1 : Ideal.ofBits .f32 0x3F800000#32 = 1 := by
    rw [show (1 : EReal) = ((1 : ℝ) : EReal) by norm_cast]
    simp [Ideal.ofBits, Ideal.ieee, -EReal.coe_mul]; norm_num
  rw [hw (i 0), h1, Ideal.div_coe (by positivity), one_mul]
  unfold slp
  refine congrArg (fun r : ℝ => (r : EReal)) ?_
  push_cast
  rw [div_pow, one_pow]

omit hZ in
theorem ref_alibi (i : S4x16384x16384.Idx) : val_main_v49 (F := Ideal) i = ((-slp (i 0).val * |((i 1).val : ℝ) - (i 2).val| : ℝ) : EReal) := by
  rw [val_main_v49_apply, val_main_v47_apply, val_main_v45_apply, val_main_v44_apply, ref_slope, val_main_v48_apply, val_main_v46_apply, val_main_v43_apply, val_main_v42_apply,
    val_main_v41_apply, val_main_v39_apply, val_main_v40_apply, val_main_v37_apply, val_main_v38_apply, val_main_v33_apply, val_main_v33_apply]
  show -(slp (i 0).val : EReal) * ((((IntOp.absi (IntOp.subi (BitVec.ofNat 32 (i 1).val) (BitVec.ofNat 32 (i 2).val))).toInt : ℝ)) : EReal) = _
  rw [dist_word (i 1).isLt (i 2).isLt, EReal.coe_mul, EReal.coe_neg]
  push_cast
  rfl

omit hZ in
theorem ref_chunk0 (i : S1x16384.Idx) : val_main_v51 (F := Ideal) i = BitVec.ofNat 32 ((i 1).val / 64) := by
  refine Eq.trans ?_ (floor_word .host (a := (i 1).val) (by have : (i 1).val < 16384 := (i 1).isLt; omega))
  rw [val_main_v51_apply, val_main_call0_v11_apply, val_main_call0_v6_apply, val_main_call0_v10_apply, val_main_call0_v13_apply, val_main_call0_v2_apply, val_main_call0_v8_apply,
    val_main_call0_v1_apply, val_main_call0_v7_apply, val_main_call0_v9_apply, val_main_call0_v12_apply, val_main_call0_v5_apply, val_main_call0_c_apply, val_main_call0_c_0_apply]
  simp only [val_main_call0_v0_apply, val_main_c_6_apply]
  rw [val_main_v50_apply, val_main_v33_apply]
  have e3 : val_main_call0_v3 (F := Ideal) i = if BitVec.ofNat 32 (i 1).val = 0 then (0 : BitVec 32) else if (BitVec.ofNat 32 (i 1).val).msb then -1 else 1 := by
    show (if val_main_v50 (F := Ideal) i = 0 then (0 : BitVec 32) else if (val_main_v50 (F := Ideal) i).msb then -1 else 1) = _
    rw [val_main_v50_apply, val_main_v33_apply]
  rw [e3]
  rfl

omit hZ in
theorem ref_chunk1 (i : S16384x1.Idx) : val_main_v53 (F := Ideal) i = BitVec.ofNat 32 ((i 0).val / 64) := by
  refine Eq.trans ?_ (floor_word .host (a := (i 0).val) (by have : (i 0).val < 16384 := (i 0).isLt; omega))
  rw [val_main_v53_apply, val_main_call1_v11_apply, val_main_call1_v6_apply, val_main_call1_v10_apply, val_main_call1_v13_apply, val_main_call1_v2_apply, val_main_call1_v8_apply,
    val_main_call1_v1_apply, val_main_call1_v7_apply, val_main_call1_v9_apply, val_main_call1_v12_apply, val_main_call1_v5_apply, val_main_call1_c_apply, val_main_call1_c_0_apply]
  simp only [val_main_call1_v0_apply, val_main_c_7_apply]
  rw [val_main_v52_apply, val_main_v33_apply]
  have e3 : val_main_call1_v3 (F := Ideal) i = if BitVec.ofNat 32 (i 0).val = 0 then (0 : BitVec 32) else if (BitVec.ofNat 32 (i 0).val).msb then -1 else 1 := by
    show (if val_main_v52 (F := Ideal) i = 0 then (0 : BitVec 32) else if (val_main_v52 (F := Ideal) i).msb then -1 else 1) = _
    rw [val_main_v52_apply, val_main_v33_apply]
  rw [e3]
  rfl

omit hZ in
theorem ref_allowed (i : S16384x16384.Idx) : val_main_v56 (F := Ideal) i = 1#1 ↔ (i 1).val / 64 ≤ (i 0).val / 64 := by
  rw [val_main_v56_apply, val_main_v54_apply, val_main_v55_apply, ref_chunk0, ref_chunk1]
  have h0 : (i 0).val < 16384 := (i 0).isLt
  have h1 : (i 1).val < 16384 := (i 1).isLt
  exact le_word (a := (i 1).val / 64) (b := (i 0).val / 64) (by omega) (by omega)

/-- The score with its distance term, or `-∞`. -/
theorem ref_score (i : S2x4x16384x16384.Idx) : val_main_v60 (F := Ideal) x0 i
    = if (i 3).val / 64 ≤ (i 2).val / 64 then ((sc x0 (i 1).val (i 0).val (i 2).val (i 3).val * (1 / 8) + -slp (i 1).val * |((i 2).val : ℝ) - (i 3).val| : ℝ) : EReal) else ⊥ := by
  rw [val_main_v60_apply, val_main_call2_v1_apply, val_main_v59_apply, val_main_call2_v2_apply, val_main_call2_v0_apply, val_main_cst_8_apply, val_main_v36_apply, ref_dot x0 hZ, ref_eighth,
    val_main_v58_apply, val_main_v57_apply, ref_alibi]
  unfold Scalar.select
  have ha := ref_allowed (idx_main_call2_v1 i)
  refine ite_congr (propext ha) (fun _ => ?_) (fun _ => ?_)
  · rw [EReal.coe_add, EReal.coe_mul (sc _ _ _ _ _)]
    rfl
  · show Ideal.ofBits .f32 0xFF800000#32 = ⊥
    simp [Ideal.ofBits, Ideal.ieee]

/-- The largest score is real. -/
theorem ref_max (i : S2x4x16384.Idx) : ∃ μ : ℝ, val_main_v63 (F := Ideal) x0 i = (μ : EReal) := by
  rw [val_main_v63_apply, val_main_v62_apply, val_main_cst_10_apply]
  have hb : Ideal.ofBits .f32 0xFF800000#32 = ⊥ := by simp [Ideal.ofBits, Ideal.ieee]
  have e : val_main_v61 (F := Ideal) x0 i = Finset.univ.fold max (⊥ : EReal) fun k : Fin 16384 => val_main_v60 (F := Ideal) x0 (idx_main_v68 i k) := by
    have hi : i = ix3 (i 0) (i 1) (i 2) := by funext a; fin_cases a <;> rfl
    rw [hi]
    unfold val_main_v61
    generalize hy : val_main_v60 (F := Ideal) x0 = y
    pointwise [val_main_cst_9]
    rw [hb]
    refine congrArg (fun f => Finset.univ.fold max (⊥ : EReal) f) (funext fun k => congrArg y ?_)
    funext a
    fin_cases a <;> rfl
  have hm : FloatOps.maximumf (F := Ideal) (φ := .f32) (FloatOps.ofBits .f32 0xFF800000#32) (val_main_v61 (F := Ideal) x0 i) = max (Ideal.ofBits .f32 0xFF800000#32) (val_main_v61 (F := Ideal) x0 i) := rfl
  rw [hm, hb, bot_sup_eq, e]
  have ht : (Finset.univ.fold max (⊥ : EReal) fun k : Fin 16384 => val_main_v60 (F := Ideal) x0 (idx_main_v68 i k)) ≠ ⊤ := by
    refine ((Finset.fold_max_lt (c := ⊤)).2 ⟨bot_lt_top, fun k _ => lt_of_le_of_ne le_top ?_⟩).ne
    rw [ref_score x0 hZ]
    split_ifs
    · exact EReal.coe_ne_top _
    · exact bot_ne_top
  have hl : (Finset.univ.fold max (⊥ : EReal) fun k : Fin 16384 => val_main_v60 (F := Ideal) x0 (idx_main_v68 i k)) ≠ ⊥ := by
    have h1 : val_main_v60 (F := Ideal) x0 (idx_main_v68 i (i 2)) ≤ (Finset.univ.fold max (⊥ : EReal) fun k : Fin 16384 => val_main_v60 (F := Ideal) x0 (idx_main_v68 i k)) :=
      (Finset.le_fold_max _).2 (Or.inr ⟨i 2, Finset.mem_univ _, le_rfl⟩)
    rw [ref_score x0 hZ, if_pos (show ((idx_main_v68 i (i 2)) 3).val / 64 ≤ ((idx_main_v68 i (i 2)) 2).val / 64 from le_rfl)] at h1
    exact (lt_of_lt_of_le (EReal.bot_lt_coe _) h1).ne'
  exact ⟨_, (EReal.coe_toReal ht hl).symm⟩

/-- The weights divided by their sum. -/
theorem ref_prob (i : S2x4x16384x16384.Idx) : val_main_v71 (F := Ideal) x0 i
    = ((wt x0 (i 1).val (i 0).val (i 2).val (i 3).val / den x0 (i 1).val (i 0).val (i 2).val : ℝ) : EReal) := by
  obtain ⟨μ, hμ⟩ := ref_max x0 hZ (idx_main_v64 (idx_main_v65 i))
  have e67 : ∀ k : Fin 16384, val_main_v67 (F := Ideal) x0 (idx_main_v68 (idx_main_v69 (idx_main_v70 i)) k)
      = ((Real.exp (-μ) * wt x0 (i 1).val (i 0).val (i 2).val k.val : ℝ) : EReal) := by
    intro k
    rw [val_main_v67_apply, val_main_v66_apply, val_main_v65_apply, val_main_v64_apply]
    have ei : idx_main_v64 (idx_main_v65 (idx_main_v68 (idx_main_v69 (idx_main_v70 i)) k)) = idx_main_v64 (idx_main_v65 i) := by
      funext a; fin_cases a <;> rfl
    rw [ei, hμ, ref_score x0 hZ]
    show Ideal.exp ((if k.val / 64 ≤ (i 2).val / 64 then ((sc x0 (i 1).val (i 0).val (i 2).val k.val * (1 / 8) + -slp (i 1).val * |((i 2).val : ℝ) - k.val| : ℝ) : EReal) else ⊥) - (μ : EReal)) = _
    unfold wt
    split_ifs
    · rw [← EReal.coe_sub, Ideal.exp_coe, sub_eq_add_neg, add_comm, Real.exp_add]
    · rw [EReal.bot_sub, Ideal.exp_bot, mul_zero]; rfl
  have ei : idx_main_v68 (idx_main_v69 (idx_main_v70 i)) (i 3) = i := by
    funext a; fin_cases a <;> rfl
  have e1 := e67 (i 3)
  rw [ei] at e1
  have hq : (i 2).val < 16384 := (i 2).isLt
  have hd := den_pos x0 (i 1).val (i 0).val hq
  rw [val_main_v71_apply, val_main_v70_apply, val_main_v69_apply, val_main_v68_apply, e1, val_main_cst_11_apply]
  simp only [e67]
  rw [Col.coe_sum, ← Finset.mul_sum]
  show Ideal.div ((Real.exp (-μ) * wt x0 (i 1).val (i 0).val (i 2).val (i 3).val : ℝ) : EReal) (Ideal.ofBits .f32 0x00000000#32 + ((Real.exp (-μ) * den x0 (i 1).val (i 0).val (i 2).val : ℝ) : EReal)) = _
  have he := Real.exp_pos (-μ)
  rw [Ideal.ofBits_zero_f32, zero_add, Ideal.div_coe (by positivity), ← EReal.coe_mul]
  refine congrArg (fun r : ℝ => (r : EReal)) ?_
  field_simp

theorem ref_out (lr : ℝ) (hl : ∀ i, val_main_v22 (F := Ideal) x1 i = (lr : EReal)) (i : S4x128x16384.Idx) : val_main_v79 (F := Ideal) x0 x1 i
    = ((att x0 (i 0).val 0 (i 1).val (i 2).val - lr * att x0 (i 0).val 1 (i 1).val (i 2).val : ℝ) : EReal) := by
  rw [val_main_v79_apply]
  have e78 : ∀ k : Fin 16384, val_main_v78 (F := Ideal) x0 x1 (ridx_main_v79 i k) = ((wt x0 (i 0).val 0 (i 2).val k.val / den x0 (i 0).val 0 (i 2).val
      - lr * (wt x0 (i 0).val 1 (i 2).val k.val / den x0 (i 0).val 1 (i 2).val) : ℝ) : EReal) := by
    intro k
    have h0 : (i 0).val < 4 := (i 0).isLt
    have h2 : (i 2).val < 16384 := (i 2).isLt
    have hk := k.isLt
    have e73 : idx_main_v72 (idx_main_v73 (ridx_main_v79 i k)) = (ix4 (0 : Fin 2) (⟨(i 0).val, h0⟩ : Fin 4) (⟨(i 2).val, h2⟩ : Fin 16384) k : S2x4x16384x16384.Idx) := by
      funext a
      refine Fin.ext ?_
      fin_cases a
      · rfl
      · show (((i 0).val * 16384 + (i 2).val) * 16384 + k.val) / 268435456 % 4 = (i 0).val
        omega
      · show (((i 0).val * 16384 + (i 2).val) * 16384 + k.val) / 16384 % 16384 = (i 2).val
        omega
      · show (((i 0).val * 16384 + (i 2).val) * 16384 + k.val) % 16384 = k.val
        omega
    have e75 : idx_main_v74 (idx_main_v75 (ridx_main_v79 i k)) = (ix4 (1 : Fin 2) (⟨(i 0).val, h0⟩ : Fin 4) (⟨(i 2).val, h2⟩ : Fin 16384) k : S2x4x16384x16384.Idx) := by
      funext a
      refine Fin.ext ?_
      fin_cases a
      · rfl
      · show (((i 0).val * 16384 + (i 2).val) * 16384 + k.val) / 268435456 % 4 = (i 0).val
        omega
      · show (((i 0).val * 16384 + (i 2).val) * 16384 + k.val) / 16384 % 16384 = (i 2).val
        omega
      · show (((i 0).val * 16384 + (i 2).val) * 16384 + k.val) % 16384 = k.val
        omega
    rw [val_main_v78_apply, val_main_v77_apply, val_main_v76_apply, hl, val_main_v73_apply, val_main_v72_apply, val_main_v75_apply, val_main_v74_apply, e73, e75, ref_prob x0 hZ, ref_prob x0 hZ, EReal.coe_sub, EReal.coe_mul]
    rfl
  simp only [e78, ref_v x0 hZ, ← EReal.coe_mul]
  rw [Col.coe_sum]
  refine congrArg (fun r : ℝ => (r : EReal)) ?_
  unfold att num
  rw [Finset.sum_div, Finset.sum_div, Finset.mul_sum, ← Finset.sum_sub_distrib]
  refine Finset.sum_congr rfl fun k _ => ?_
  show zr x0 k.val (5632 + 128 * (i 0).val + (i 1).val) * _ = _
  ring

end Scores

theorem ref_lam (i : S_.Idx) : val_main_v22 (F := Ideal) x1 i = lam x1 := by
  have hi : i = ix0 := by funext a; exact a.elim0
  rw [hi]
  pointwise [val_main_v22, val_main_v21, val_main_v13, val_main_v12, val_main_v11, val_main_v8, val_main_v7, val_main_v10, val_main_v9, val_main_v20, val_main_v19, val_main_v18, val_main_v15, val_main_v14, val_main_v17, val_main_v16,
    val_main_cst, val_main_cst_0, val_main_cst_1, lam]

/-- The result, from the row of outputs. -/
theorem ref_final (D : Fin 128 → EReal) (q : Fin 16384) (H : Fin 4) (e : Fin 128)
    (hD : ∀ x, val_main_v79 (F := Ideal) x0 x1 (ix3 H x q) = D x) (j : Fin 512) (hj : j.val = 128 * H.val + e.val) :
    val_main_v97 (F := Ideal) x0 x1 x2 (ix2 q j) = normed D (x2 (ix1 e)) e := by
  have h80 : ∀ x : Fin 128, val_main_v80 (F := Ideal) x0 x1 (ix3 q H x) = D x := by
    intro x
    rw [val_main_v80_apply, ← hD x]
    refine congrArg _ ?_
    funext a; fin_cases a <;> rfl
  have ei : idx_main_v96 (ix2 q j) = ix3 q H e := by
    have := q.isLt; have := H.isLt; have := e.isLt
    funext a
    refine Fin.ext ?_
    fin_cases a
    · show (q.val * 512 + j.val) / 512 = q.val
      omega
    · show (q.val * 512 + j.val) / 128 % 4 = H.val
      omega
    · show (q.val * 512 + j.val) % 128 = e.val
      omega
  rw [val_main_v97_apply, val_main_v96_apply, ei, val_main_v95_apply, val_main_v93_apply, val_main_v90_apply, h80, val_main_v94_apply, val_main_cst_15_apply, val_main_v92_apply, val_main_v91_apply,
    val_main_v89_apply, val_main_v88_apply, val_main_v87_apply, val_main_v86_apply, val_main_cst_14_apply, val_main_v85_apply, val_main_v84_apply, val_main_cst_13_apply, val_main_v83_apply, val_main_v82_apply, val_main_cst_12_apply]
  have e81 : ∀ x : Fin 128, val_main_v81 (F := Ideal) x0 x1 (idx_main_v82 (idx_main_v83 (idx_main_v89 (ix3 q H e))) x) = D x * D x := by
    intro x
    have ex : idx_main_v82 (idx_main_v83 (idx_main_v89 (ix3 q H e))) x = ix3 q H x := by
      funext a; fin_cases a <;> rfl
    rw [ex, val_main_v81_apply, h80]
    rfl
  simp only [e81]
  have eg : idx_main_v91 (idx_main_v92 (ix3 q H e)) = ix1 e := by
    funext a; fin_cases a <;> rfl
  rw [eg]
  unfold normed
  show D e * Ideal.rsqrt (Ideal.div (Ideal.ofBits .f32 0x00000000#32 + ∑ x : Fin 128, D x * D x) (Ideal.ofBits .f32 0x43000000#32) + Ideal.ofBits .f32 0x3727C5AC#32) * x2 (ix1 e) * Ideal.ofBits .f32 0x3F4CCCCD#32 = _
  rw [Ideal.ofBits_zero_f32, zero_add]

end Cert.ReferenceIdeal.Read

end
-- ==== Proof.Hand.Meet.lean ====
/- The attention kernel's run beside the reference's: equal results, of real projections. -/
module

public import proofs.«01_k».proof.Defs
public import proofs.«01_k».proof.Proof.Gen.KernelIdeal
public import proofs.«01_k».proof.Proof.Gen.ReferenceIdeal
public import proofs.«01_k».proof.Proof.Gen.ReferenceIdeal.Run
public import proofs.«01_k».proof.Proof.Hand.Final
public import proofs.«01_k».proof.Proof.Hand.Ref
public import Idealize.ShloMosaic.Lib.ReduceAll
public import Idealize.ShloMosaic.Lib.Claim

@[expose] public section

set_option maxRecDepth 16384

noncomputable section

namespace Cert.Pre_finite

open Idealize.ShloMosaic

theorem facts : Facts where
  bitsLt_bf16_f32 := by decide
  bcast_S_S16384x10240 := by decide
  reducesTo_S16384x10240_S_d0_1 := by decide
  h_S_ := by decide
  bcast_S_S4x64 := by decide
  reducesTo_S4x64_S_d0_1 := by decide

/-- A value of absolute value below infinity is real. -/
theorem real_of (x : EReal) (h : Ideal.cmp .olt (max x (-x)) (Ideal.ofBits .f32 0x7F800000#32) = 1#1) : ∃ r : ℝ, x = (r : EReal) := by
  have ht : Ideal.ofBits .f32 0x7F800000#32 = ⊤ := by simp [Ideal.ofBits, Ideal.ieee]
  rw [ht] at h
  induction x using EReal.rec with
  | bot => exfalso; revert h; simp [Ideal.cmp]
  | top => exfalso; revert h; simp [Ideal.cmp]
  | coe r => exact ⟨r, rfl⟩

theorem reals [Facts] (x0 : FVec Ideal S16384x10240 .bf16) (x1 : FVec Ideal S4x64 .f32) (x2 : FVec Ideal S128 .f32) (h : fn (F := Ideal) x0 x1 x2 = fun _ => 1#1) :
    (∀ i, ∃ r : ℝ, x0 i = (r : EReal)) ∧ ∀ i, ∃ r : ℝ, x1 i = (r : EReal) := by
  haveI : Subsingleton S_.Idx := ⟨fun a b => funext fun x => x.elim0⟩
  have e := congrFun h ix0
  simp only [fn, andi] at e
  obtain ⟨e0, e1⟩ := IntOp.andi_eq_one.1 e
  refine ⟨fun i => real_of _ (Host.reduce_andi_all _ _ _ _ _ e0 i), fun i => real_of _ (Host.reduce_andi_all _ _ _ _ _ e1 i)⟩

end Cert.Pre_finite

namespace Cert.KernelIdeal.Gen

open Idealize.ShloMosaic Idealize.ShloMosaic.TcCoe Idealize.SL.Sem
open Cert.Attn

/-- The reference's result, entry by entry. -/
theorem reference_result (Z : FVec Ideal Cert.ReferenceIdeal.S16384x10240 .bf16) (L : FVec Ideal Cert.ReferenceIdeal.S4x64 .f32) (g : FVec Ideal Cert.ReferenceIdeal.S128 .f32)
    (hZ : Fin2 Z) (lr : ℝ) (hl : lam L = (lr : EReal)) :
    Cert.ReferenceIdeal.Read.val_main_v97 (F := Ideal) Z L g = fun i : Cert.ReferenceIdeal.S16384x512.Idx => result Z lr g (i 0).val (i 1).val := by
  funext i
  have h1 : (i 1).val < 512 := (i 1).isLt
  have := Cert.ReferenceIdeal.Read.ref_final (x0 := Z) (x1 := L) (x2 := g) (fun x : Fin 128 => ((att Z ((i 1).val / 128) 0 x.val (i 0).val - lr * att Z ((i 1).val / 128) 1 x.val (i 0).val : ℝ) : EReal))
    (i 0) (⟨(i 1).val / 128, by omega⟩ : Fin 4) (⟨(i 1).val % 128, Nat.mod_lt _ (by norm_num)⟩ : Fin 128)
    (fun x => Cert.ReferenceIdeal.Read.ref_out Z L hZ lr (fun k => (Cert.ReferenceIdeal.Read.ref_lam L k).trans hl) _)
    (i 1) (by show (i 1).val = 128 * ((i 1).val / 128) + (i 1).val % 128; omega)
  exact (congrArg (Cert.ReferenceIdeal.Read.val_main_v97 (F := Ideal) Z L g) (ix2_of i)).trans this

theorem attention : Cert.algebraic_KernelIdeal_ReferenceIdeal_pre_finite (hPre_finite := Cert.Pre_finite.facts) := by
  intro m g m' g' hpre hagree
  haveI := Cert.Pre_finite.facts
  have hreal := fun c => Cert.Pre_finite.reals _ _ _ (hpre c)
  have hlam : ∀ c : Dev Cert.KernelIdeal.nD, ∃ r : ℝ, lam (m ((c.tc : Thread Cert.KernelIdeal.nD Cert.KernelIdeal.τ).loc Cert.KernelIdeal.main_arg1)) = (r : EReal) := fun c => lam_real _ (hreal c).2
  choose lr hl using hlam
  refine ⟨fun c => fun i : Cert.KernelIdeal.S16384x512.Idx => result (m ((c.tc : Thread Cert.KernelIdeal.nD Cert.KernelIdeal.τ).loc Cert.KernelIdeal.main_arg0)) (lr c)
    (m ((c.tc : Thread Cert.KernelIdeal.nD Cert.KernelIdeal.τ).loc Cert.KernelIdeal.main_arg2)) (i 0).val (i 1).val, ?_, ?_⟩
  · run_from Cert.KernelIdeal.Gen.run_main m g
    · exact final m c (hreal c).1 (lr c) (hl c)
    · exact V_main_arg2 m c
  · refine (θ_run _ _ _).mono (fun r h c => ⟨(h c).1.trans ?_, (h c).2⟩) (Cert.ReferenceIdeal.Value.run (F := Ideal) m' g')
    refine (Cert.ReferenceIdeal.Read.val_main_v97_eq _).trans ?_
    obtain ⟨e0, e1, e2⟩ := hagree c
    refine Eq.trans ?_ (reference_result _ _ _ (hreal c).1 (lr c) (hl c))
    rw [← e0, ← e1, ← e2]

end Cert.KernelIdeal.Gen

end
-- ==== Proof.Hand.Mem.lean ====
/- The keys and values of the memory: the normalised memory rows times the two weights. -/
module

public import proofs.«01_k».proof.Defs
public import proofs.«01_k».proof.Proof.Gen.Kernel3Ideal.Value
public import proofs.«01_k».proof.Proof.Gen.Reference3Ideal
public import Idealize.ShloMosaic.Lib.Pipeline.ValueKit
public import Idealize.ShloMosaic.Lib.Claim

@[expose] public section

set_option maxRecDepth 16384

noncomputable section

namespace Cert.Kernel3Ideal.Hand

open Cert.Kernel3Ideal Cert.Kernel3Ideal.Gen
open Idealize.ShloMosaic Idealize.ShloMosaic.TcCoe Idealize.SL.Sem
open Idealize.ShloMosaic.Pipeline (Dat)

variable (m : (ℓ : Loc nD τ sig) → Buf (Elt Ideal) ℓ)

/-- The reference's normalised memory rows, over the rows and the scale. -/
abbrev rows (X : FVec Ideal Cert.Reference3Ideal.S256x1024 .f32) (g : FVec Ideal Cert.Reference3Ideal.S1024 .f32) : FVec Ideal Cert.Reference3Ideal.S256x1024 .f32 :=
  mulf (mulf X (broadcastInDim Cert.Reference3Ideal.S256x1024 ![0, 1] Cert.Reference3Ideal.Gen.bcast_S256x1_S256x1024_0_1
      (Host.rsqrt (addf (Host.divf (broadcastInDim Cert.Reference3Ideal.S256x1 ![0] Cert.Reference3Ideal.Gen.bcast_S256_S256x1_0
          (Host.reduceAdd (mulf X X) (constant (F := Ideal) Cert.Reference3Ideal.S_ .f32 0x00000000#32) Cert.Reference3Ideal.Gen.reducesTo_S256x1024_S256_d1 Cert.Reference3Ideal.Gen.h_S_))
        (broadcastInDim Cert.Reference3Ideal.S256x1 ![] Cert.Reference3Ideal.Gen.bcast_S_S256x1 (constant (F := Ideal) Cert.Reference3Ideal.S_ .f32 0x44800000#32)))
        (broadcastInDim Cert.Reference3Ideal.S256x1 ![] Cert.Reference3Ideal.Gen.bcast_S_S256x1 (constant (F := Ideal) Cert.Reference3Ideal.S_ .f32 0x358637BD#32))))))
    (broadcastInDim Cert.Reference3Ideal.S256x1024 ![0, 1] Cert.Reference3Ideal.Gen.bcast_S1x1024_S256x1024_0_1
      (broadcastInDim Cert.Reference3Ideal.S1x1024 ![1] Cert.Reference3Ideal.Gen.bcast_S1024_S1x1024_1 g))

/-- Those rows by a weight, as the reference returns them. -/
abbrev product (X : FVec Ideal Cert.Reference3Ideal.S256x1024 .f32) (g : FVec Ideal Cert.Reference3Ideal.S1024 .f32)
    (W : FVec Ideal Cert.Reference3Ideal.S1024x512 .f32) : FVec Ideal Cert.Reference3Ideal.S256x512 .bf16 :=
  truncf (F := Ideal) .bf16 (Host.dotGeneral Cert.Reference3Ideal.dot_S256x1024_S1024x512_S256x512_1_0_0_1_n_n none (rows X g) W)
    Cert.Reference3Ideal.Gen.bitsLt_bf16_f32

/-- There is one point, and each window is its whole array. -/
theorem places : ∀ t : Fin cfg0.N, win0_0.index t = ![0, 0] ∧ win0_1.index t = ![0, 0] ∧ win0_2.index t = ![0, 0]
    ∧ win0_3.index t = ![0, 0] ∧ win0_4.index t = ![0, 0] ∧ win0_5.index t = ![0, 0] :=
  (by decide +kernel : ∀ t : Fin grid0.N, _)

/-- The keys after the run. -/
theorem keys (c : Dev nD) : (dats m 0 c).arrAt 4 cfg0.N
    = product (m ((c : Thread nD τ).loc main_arg0)) (m ((c : Thread nD τ).loc main_arg1)) (m ((c : Thread nD τ).loc main_arg2)) := by
  refine (dats m 0 c).arrAt_eq_of_covers 4 _ (by decide +kernel) fun t _ y => ?_
  blk_simp
  rw [after0_4]
  unfold out0_4
  frame_out
  pointwise [k0_pay2, k0_pay1, product, rows]
  blk_point [iblk, V, places t]

/-- The values after the run. -/
theorem values (c : Dev nD) : (dats m 0 c).arrAt 5 cfg0.N
    = product (m ((c : Thread nD τ).loc main_arg0)) (m ((c : Thread nD τ).loc main_arg1)) (m ((c : Thread nD τ).loc main_arg3)) := by
  refine (dats m 0 c).arrAt_eq_of_covers 5 _ (by decide +kernel) fun t _ y => ?_
  blk_simp
  rw [after0_5]
  unfold out0_5
  frame_out
  pointwise [k0_pay3, k0_pay1, product, rows]
  blk_point [iblk, V, places t]

/-- The reference's own frame. -/
theorem memory_reference_frame : Cert.quiescent_Reference3Ideal := by
  intro m g _
  hlo_run
  · exact fun _ => ⟨trivial, trivial, trivial, trivial⟩
  · exact sem_eq_zero_of_no_sems (by decide) r.2

/-- The two results are the reference's. -/
theorem memory : Cert.algebraic_Kernel3Ideal_Reference3Ideal := by
  pair_intro
  · run_from Cert.Kernel3Ideal.Value.run_blocks m g
  · hlo_run
    · exact (keys m c).symm
    · exact (values m c).symm

end Cert.Kernel3Ideal.Hand

end
-- ==== Proof.Hand.MixRun.lean ====
/- The body of the merge and memory attention, run once on whole buffers at any float values. -/
module

public import proofs.«01_k».proof.Proof.Gen.Kernel4Ideal.Frame.Runs

@[expose] public section

set_option maxRecDepth 16384

noncomputable section

namespace Cert.Kernel4Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 40000000 in
/-- What the body's stores leave in the first result's buffer, as pieces, with the proof that the body runs: the inputs are given back as
    they were, the other results and the carried counts at anything. -/
noncomputable def run4 (c : Dev nD) (i : grid0.Coords) (arg1 : Memref sig .tc .vmem S512x1024 .f32) (harg1 : arg1.IsWhole) (arg2 : Memref sig .tc .vmem S512x512 .bf16) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x1024 .bf16) (harg6 : arg6.IsWhole) (arg7 : Memref sig .tc .vmem S512x1024 .bf16) (harg7 : arg7.IsWhole) (arg8 : Memref sig .tc .vmem S512x1024 .bf16) (harg8 : arg8.IsWhole) (arg9 : Memref sig .tc .vmem S512x1024 .bf16) (harg9 : arg9.IsWhole) (arg10 : Memref sig .tc .vmem S4x512x1024 .bf16) (harg10 : arg10.IsWhole) (arg11 : Memref sig .tc .vmem S1024x1024 .bf16) (harg11 : arg11.IsWhole) (arg12 : Memref sig .tc .vmem S1x1024 .f32) (harg12 : arg12.IsWhole) (arg13 : Memref sig .tc .vmem S256x512 .bf16) (harg13 : arg13.IsWhole) (arg14 : Memref sig .tc .vmem S256x512 .bf16) (harg14 : arg14.IsWhole) (arg15 : Memref sig .tc .vmem S1024x512 .bf16) (harg15 : arg15.IsWhole) (arg16 : Memref sig .tc .vmem S512x1024 .bf16) (harg16 : arg16.IsWhole) (arg17 : Memref sig .tc .vmem S1x1024 .f32) (harg17 : arg17.IsWhole) (arg18 : Memref sig .tc .vmem S1024x128 .bf16) (harg18 : arg18.IsWhole) (arg19 : Memref sig .tc .vmem S1024x128 .bf16) (harg19 : arg19.IsWhole) (arg20 : Memref sig .tc .vmem S1x128 .f32) (harg20 : arg20.IsWhole) (arg21 : Memref sig .tc .vmem S512x1024 .f32) (harg21 : arg21.IsWhole) (arg22 : Memref sig .tc .vmem S512x1024 .bf16) (harg22 : arg22.IsWhole) (arg23 : Memref sig .tc .vmem S512x128 .f32) (harg23 : arg23.IsWhole) (arg24 : Memref sig .tc .vmem S8x128 .f32) (harg24 : arg24.IsWhole) (arg25 : Memref sig .tc .vmem S8x128 .f32) (harg25 : arg25.IsWhole)
    (x0 : Vec F S512x1024 .f32) (x1 : Vec F S512x512 .bf16) (x2 : Vec F S512x512 .bf16) (x3 : Vec F S512x512 .bf16) (x4 : Vec F S512x512 .bf16) (x5 : Vec F S512x1024 .bf16) (x6 : Vec F S512x1024 .bf16) (x7 : Vec F S512x1024 .bf16) (x8 : Vec F S512x1024 .bf16) (x9 : Vec F S4x512x1024 .bf16) (x10 : Vec F S1024x1024 .bf16) (x11 : Vec F S1x1024 .f32) (x12 : Vec F S256x512 .bf16) (x13 : Vec F S256x512 .bf16) (x14 : Vec F S1024x512 .bf16) (x15 : Vec F S512x1024 .bf16) (x16 : Vec F S1x1024 .f32) (x17 : Vec F S1024x128 .bf16) (x18 : Vec F S1024x128 .bf16) (x19 : Vec F S1x128 .f32) :
    { L20 : List (View.Piece (Elt F) S512x1024 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ (∃ f, arg21.view.loc (c : Thread nD τ) ↦[arg21.view.set]{fullShare} arg21.view.writes (Elt F) f L20) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d)) -∗ K ⟨⟩))
    ⊢ wp frame (wpE (defs₀ (F := F)) Variants.none c none) E (cc0_mixpost i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25) K } := by
  refine ⟨?_, fun E K => ?run⟩
  case run =>
    simp only [cc0_mixpost_eq_skeleton]; unfold cc0_mixpost_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%d20, %f20, -, H20⟩, ⟨%d21, %f21, -, H21⟩, ⟨%d22, %f22, -, H22⟩, ⟨%d23, %f23, -, H23⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hf17; obtain rfl := harg19.eq_unread hf18; obtain rfl := harg20.eq_unread hf19
    rcases Classical.em (cond0_0 i) with hc0 | hc0 <;>
    · sl_exec (disch := first | sl_exact hc0)
      sl_step
      iapply Hk
      isplitl [H0]
      · iexists _; isplitr; · ipureintro; exact harg1.read_unread _
        iexact H0
      isplitl [H1]
      · iexists _; isplitr; · ipureintro; exact harg2.read_unread _
        iexact H1
      isplitl [H2]
      · iexists _; isplitr; · ipureintro; exact harg3.read_unread _
        iexact H2
      isplitl [H3]
      · iexists _; isplitr; · ipureintro; exact harg4.read_unread _
        iexact H3
      isplitl [H4]
      · iexists _; isplitr; · ipureintro; exact harg5.read_unread _
        iexact H4
      isplitl [H5]
      · iexists _; isplitr; · ipureintro; exact harg6.read_unread _
        iexact H5
      isplitl [H6]
      · iexists _; isplitr; · ipureintro; exact harg7.read_unread _
        iexact H6
      isplitl [H7]
      · iexists _; isplitr; · ipureintro; exact harg8.read_unread _
        iexact H7
      isplitl [H8]
      · iexists _; isplitr; · ipureintro; exact harg9.read_unread _
        iexact H8
      isplitl [H9]
      · iexists _; isplitr; · ipureintro; exact harg10.read_unread _
        iexact H9
      isplitl [H10]
      · iexists _; isplitr; · ipureintro; exact harg11.read_unread _
        iexact H10
      isplitl [H11]
      · iexists _; isplitr; · ipureintro; exact harg12.read_unread _
        iexact H11
      isplitl [H12]
      · iexists _; isplitr; · ipureintro; exact harg13.read_unread _
        iexact H12
      isplitl [H13]
      · iexists _; isplitr; · ipureintro; exact harg14.read_unread _
        iexact H13
      isplitl [H14]
      · iexists _; isplitr; · ipureintro; exact harg15.read_unread _
        iexact H14
      isplitl [H15]
      · iexists _; isplitr; · ipureintro; exact harg16.read_unread _
        iexact H15
      isplitl [H16]
      · iexists _; isplitr; · ipureintro; exact harg17.read_unread _
        iexact H16
      isplitl [H17]
      · iexists _; isplitr; · ipureintro; exact harg18.read_unread _
        iexact H17
      isplitl [H18]
      · iexists _; isplitr; · ipureintro; exact harg19.read_unread _
        iexact H18
      isplitl [H19]
      · iexists _; isplitr; · ipureintro; exact harg20.read_unread _
        iexact H19
      isplitl [H20]; · iexists _; iexact H20
      isplitl [H21]
      · iexists _, _; isplitr; swap; · iexact H21
        ipureintro; rfl
      isplitl [H22]
      · iexists _, _; isplitr; swap; · iexact H22
        ipureintro; rfl
      isplitl [H23]
      · iexists _, _; isplitr; swap; · iexact H23
        ipureintro; rfl
      iexists _, _; isplitr; swap; · iexact HS0
      ipureintro; rfl

end Cert.Kernel4Ideal.Gen

end
-- ==== Proof.Hand.MixFrame.lean ====
/- The frame of the merge and memory attention: its first result is named at every point, its other results are left unnamed. -/
module

public import proofs.«01_k».proof.Proof.Hand.MixRun
public import Idealize.ShloMosaic.Lib.Pipeline.FrameBody

@[expose] public section

set_option maxRecDepth 16384

noncomputable section

namespace Cert.Kernel4Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body's run at a point, on that point's buffers and blocks. -/
abbrev runAt (c : Dev nD) (t : Fin cfg0.N) :=
  run4 (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) scM0_0 (Memref.isWhole_whole cc0_scratch0)
    (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t)

/-- The stores into the first result's buffer cover it. -/
theorem firstCover (c : Dev nD) (t : Fin cfg0.N) (y : S512x1024.Idx) : ∃ pc ∈ (runAt m c t).1, y ∈ pc.1.set :=
  View.cover_of_tiledL (runAt m c t).1 S256x1024.size (by sl_kernel_rfl) y

/-- What the body leaves in the first result's buffer. -/
def first (c : Dev nD) (t : Fin cfg0.N) : Vec F S512x1024 .f32 :=
  VO0_20.read (Elt F) (VO0_20.writes (Elt F) VO0_20.junk (runAt m c t).1)

/-- Only the other results' contents are left unnamed. -/
def forgets0 : Fin 24 → Bool := fun w => decide (21 ≤ w.val)

/-- The proof data: each input's buffer stays at its block, the first result's is at what the body leaves, the others are unnamed. -/
def datsF (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => first m c t
    | ⟨21, h⟩ => Pipeline.Dat.unnamed (cfg := cfg0) ⟨21, h⟩ t
    | ⟨22, h⟩ => Pipeline.Dat.unnamed (cfg := cfg0) ⟨22, h⟩ t
    | ⟨23, h⟩ => Pipeline.Dat.unnamed (cfg := cfg0) ⟨23, h⟩ t
    | ⟨_ + 24, h⟩ => absurd h (Nat.not_lt.2 (Nat.le_add_left _ _))
  Φ _ := Pipeline.ΦA spec0 c
  q w := Pipeline.shareOf spec0 w
  owed _ := 0

theorem A_eqF (c : Dev nD) (w : Fin cfg0.W) : (datsF m 0 c).A w = V m c (Pipeline.arrRef spec0 w) := by
  dsimp only [datsF]

theorem afterF_0 (c : Dev nD) (t : Fin cfg0.N) : (datsF m 0 c).after 0 t = iblk m c 0 t := by dsimp only [datsF]
theorem afterF_1 (c : Dev nD) (t : Fin cfg0.N) : (datsF m 0 c).after 1 t = iblk m c 1 t := by dsimp only [datsF]
theorem afterF_2 (c : Dev nD) (t : Fin cfg0.N) : (datsF m 0 c).after 2 t = iblk m c 2 t := by dsimp only [datsF]
theorem afterF_3 (c : Dev nD) (t : Fin cfg0.N) : (datsF m 0 c).after 3 t = iblk m c 3 t := by dsimp only [datsF]
theorem afterF_4 (c : Dev nD) (t : Fin cfg0.N) : (datsF m 0 c).after 4 t = iblk m c 4 t := by dsimp only [datsF]
theorem afterF_5 (c : Dev nD) (t : Fin cfg0.N) : (datsF m 0 c).after 5 t = iblk m c 5 t := by dsimp only [datsF]
theorem afterF_6 (c : Dev nD) (t : Fin cfg0.N) : (datsF m 0 c).after 6 t = iblk m c 6 t := by dsimp only [datsF]
theorem afterF_7 (c : Dev nD) (t : Fin cfg0.N) : (datsF m 0 c).after 7 t = iblk m c 7 t := by dsimp only [datsF]
theorem afterF_8 (c : Dev nD) (t : Fin cfg0.N) : (datsF m 0 c).after 8 t = iblk m c 8 t := by dsimp only [datsF]
theorem afterF_9 (c : Dev nD) (t : Fin cfg0.N) : (datsF m 0 c).after 9 t = iblk m c 9 t := by dsimp only [datsF]
theorem afterF_10 (c : Dev nD) (t : Fin cfg0.N) : (datsF m 0 c).after 10 t = iblk m c 10 t := by dsimp only [datsF]
theorem afterF_11 (c : Dev nD) (t : Fin cfg0.N) : (datsF m 0 c).after 11 t = iblk m c 11 t := by dsimp only [datsF]
theorem afterF_12 (c : Dev nD) (t : Fin cfg0.N) : (datsF m 0 c).after 12 t = iblk m c 12 t := by dsimp only [datsF]
theorem afterF_13 (c : Dev nD) (t : Fin cfg0.N) : (datsF m 0 c).after 13 t = iblk m c 13 t := by dsimp only [datsF]
theorem afterF_14 (c : Dev nD) (t : Fin cfg0.N) : (datsF m 0 c).after 14 t = iblk m c 14 t := by dsimp only [datsF]
theorem afterF_15 (c : Dev nD) (t : Fin cfg0.N) : (datsF m 0 c).after 15 t = iblk m c 15 t := by dsimp only [datsF]
theorem afterF_16 (c : Dev nD) (t : Fin cfg0.N) : (datsF m 0 c).after 16 t = iblk m c 16 t := by dsimp only [datsF]
theorem afterF_17 (c : Dev nD) (t : Fin cfg0.N) : (datsF m 0 c).after 17 t = iblk m c 17 t := by dsimp only [datsF]
theorem afterF_18 (c : Dev nD) (t : Fin cfg0.N) : (datsF m 0 c).after 18 t = iblk m c 18 t := by dsimp only [datsF]
theorem afterF_19 (c : Dev nD) (t : Fin cfg0.N) : (datsF m 0 c).after 19 t = iblk m c 19 t := by dsimp only [datsF]
theorem afterF_20 (c : Dev nD) (t : Fin cfg0.N) : (datsF m 0 c).after 20 t = first m c t := by dsimp only [datsF]

theorem beforeF_0 (c : Dev nD) (t : Fin cfg0.N) (d) : (datsF m 0 c).before 0 t d = iblk m c 0 t :=
  before0_0_of m (datsF m 0 c) (A_eqF m c 0) (afterF_0 m c) t d
theorem beforeF_1 (c : Dev nD) (t : Fin cfg0.N) (d) : (datsF m 0 c).before 1 t d = iblk m c 1 t :=
  before0_1_of m (datsF m 0 c) (A_eqF m c 1) (afterF_1 m c) t d
theorem beforeF_2 (c : Dev nD) (t : Fin cfg0.N) (d) : (datsF m 0 c).before 2 t d = iblk m c 2 t :=
  before0_2_of m (datsF m 0 c) (A_eqF m c 2) (afterF_2 m c) t d
theorem beforeF_3 (c : Dev nD) (t : Fin cfg0.N) (d) : (datsF m 0 c).before 3 t d = iblk m c 3 t :=
  before0_3_of m (datsF m 0 c) (A_eqF m c 3) (afterF_3 m c) t d
theorem beforeF_4 (c : Dev nD) (t : Fin cfg0.N) (d) : (datsF m 0 c).before 4 t d = iblk m c 4 t :=
  before0_4_of m (datsF m 0 c) (A_eqF m c 4) (afterF_4 m c) t d
theorem beforeF_5 (c : Dev nD) (t : Fin cfg0.N) (d) : (datsF m 0 c).before 5 t d = iblk m c 5 t :=
  before0_5_of m (datsF m 0 c) (A_eqF m c 5) (afterF_5 m c) t d
theorem beforeF_6 (c : Dev nD) (t : Fin cfg0.N) (d) : (datsF m 0 c).before 6 t d = iblk m c 6 t :=
  before0_6_of m (datsF m 0 c) (A_eqF m c 6) (afterF_6 m c) t d
theorem beforeF_7 (c : Dev nD) (t : Fin cfg0.N) (d) : (datsF m 0 c).before 7 t d = iblk m c 7 t :=
  before0_7_of m (datsF m 0 c) (A_eqF m c 7) (afterF_7 m c) t d
theorem beforeF_8 (c : Dev nD) (t : Fin cfg0.N) (d) : (datsF m 0 c).before 8 t d = iblk m c 8 t :=
  before0_8_of m (datsF m 0 c) (A_eqF m c 8) (afterF_8 m c) t d
theorem beforeF_9 (c : Dev nD) (t : Fin cfg0.N) (d) : (datsF m 0 c).before 9 t d = iblk m c 9 t :=
  before0_9_of m (datsF m 0 c) (A_eqF m c 9) (afterF_9 m c) t d
theorem beforeF_10 (c : Dev nD) (t : Fin cfg0.N) (d) : (datsF m 0 c).before 10 t d = iblk m c 10 t :=
  before0_10_of m (datsF m 0 c) (A_eqF m c 10) (afterF_10 m c) t d
theorem beforeF_11 (c : Dev nD) (t : Fin cfg0.N) (d) : (datsF m 0 c).before 11 t d = iblk m c 11 t :=
  before0_11_of m (datsF m 0 c) (A_eqF m c 11) (afterF_11 m c) t d
theorem beforeF_12 (c : Dev nD) (t : Fin cfg0.N) (d) : (datsF m 0 c).before 12 t d = iblk m c 12 t :=
  before0_12_of m (datsF m 0 c) (A_eqF m c 12) (afterF_12 m c) t d
theorem beforeF_13 (c : Dev nD) (t : Fin cfg0.N) (d) : (datsF m 0 c).before 13 t d = iblk m c 13 t :=
  before0_13_of m (datsF m 0 c) (A_eqF m c 13) (afterF_13 m c) t d
theorem beforeF_14 (c : Dev nD) (t : Fin cfg0.N) (d) : (datsF m 0 c).before 14 t d = iblk m c 14 t :=
  before0_14_of m (datsF m 0 c) (A_eqF m c 14) (afterF_14 m c) t d
theorem beforeF_15 (c : Dev nD) (t : Fin cfg0.N) (d) : (datsF m 0 c).before 15 t d = iblk m c 15 t :=
  before0_15_of m (datsF m 0 c) (A_eqF m c 15) (afterF_15 m c) t d
theorem beforeF_16 (c : Dev nD) (t : Fin cfg0.N) (d) : (datsF m 0 c).before 16 t d = iblk m c 16 t :=
  before0_16_of m (datsF m 0 c) (A_eqF m c 16) (afterF_16 m c) t d
theorem beforeF_17 (c : Dev nD) (t : Fin cfg0.N) (d) : (datsF m 0 c).before 17 t d = iblk m c 17 t :=
  before0_17_of m (datsF m 0 c) (A_eqF m c 17) (afterF_17 m c) t d
theorem beforeF_18 (c : Dev nD) (t : Fin cfg0.N) (d) : (datsF m 0 c).before 18 t d = iblk m c 18 t :=
  before0_18_of m (datsF m 0 c) (A_eqF m c 18) (afterF_18 m c) t d
theorem beforeF_19 (c : Dev nD) (t : Fin cfg0.N) (d) : (datsF m 0 c).before 19 t d = iblk m c 19 t :=
  before0_19_of m (datsF m 0 c) (A_eqF m c 19) (afterF_19 m c) t d

/-- What the body is called with at a point, -/
def bodyPreF (c : Dev nD) (t : Fin cfg0.N) : sProp 𝕄 :=
  iprop((datsF m 0 c).Φ t.castSucc ∗ (datsF m 0 c).owesAt () t.castSucc
    ∗ (∃ d, owns (c : Thread nD τ) (ms0_0 t) fullShare ((datsF m 0 c).before 0 t d))
    ∗ (∃ d, owns (c : Thread nD τ) (ms0_1 t) fullShare ((datsF m 0 c).before 1 t d))
    ∗ (∃ d, owns (c : Thread nD τ) (ms0_2 t) fullShare ((datsF m 0 c).before 2 t d))
    ∗ (∃ d, owns (c : Thread nD τ) (ms0_3 t) fullShare ((datsF m 0 c).before 3 t d))
    ∗ (∃ d, owns (c : Thread nD τ) (ms0_4 t) fullShare ((datsF m 0 c).before 4 t d))
    ∗ (∃ d, owns (c : Thread nD τ) (ms0_5 t) fullShare ((datsF m 0 c).before 5 t d))
    ∗ (∃ d, owns (c : Thread nD τ) (ms0_6 t) fullShare ((datsF m 0 c).before 6 t d))
    ∗ (∃ d, owns (c : Thread nD τ) (ms0_7 t) fullShare ((datsF m 0 c).before 7 t d))
    ∗ (∃ d, owns (c : Thread nD τ) (ms0_8 t) fullShare ((datsF m 0 c).before 8 t d))
    ∗ (∃ d, owns (c : Thread nD τ) (ms0_9 t) fullShare ((datsF m 0 c).before 9 t d))
    ∗ (∃ d, owns (c : Thread nD τ) (ms0_10 t) fullShare ((datsF m 0 c).before 10 t d))
    ∗ (∃ d, owns (c : Thread nD τ) (ms0_11 t) fullShare ((datsF m 0 c).before 11 t d))
    ∗ (∃ d, owns (c : Thread nD τ) (ms0_12 t) fullShare ((datsF m 0 c).before 12 t d))
    ∗ (∃ d, owns (c : Thread nD τ) (ms0_13 t) fullShare ((datsF m 0 c).before 13 t d))
    ∗ (∃ d, owns (c : Thread nD τ) (ms0_14 t) fullShare ((datsF m 0 c).before 14 t d))
    ∗ (∃ d, owns (c : Thread nD τ) (ms0_15 t) fullShare ((datsF m 0 c).before 15 t d))
    ∗ (∃ d, owns (c : Thread nD τ) (ms0_16 t) fullShare ((datsF m 0 c).before 16 t d))
    ∗ (∃ d, owns (c : Thread nD τ) (ms0_17 t) fullShare ((datsF m 0 c).before 17 t d))
    ∗ (∃ d, owns (c : Thread nD τ) (ms0_18 t) fullShare ((datsF m 0 c).before 18 t d))
    ∗ (∃ d, owns (c : Thread nD τ) (ms0_19 t) fullShare ((datsF m 0 c).before 19 t d))
    ∗ (∃ d, owns (c : Thread nD τ) (ms0_20 t) fullShare ((datsF m 0 c).before 20 t d))
    ∗ (∃ d, owns (c : Thread nD τ) (ms0_21 t) fullShare d)
    ∗ (∃ d, owns (c : Thread nD τ) (ms0_22 t) fullShare d)
    ∗ (∃ d, owns (c : Thread nD τ) (ms0_23 t) fullShare d))

/-- and what it gives back. -/
def bodyPostF (c : Dev nD) (t : Fin cfg0.N) : sProp 𝕄 :=
  iprop((datsF m 0 c).Φ t.succ ∗ (datsF m 0 c).owesAt () t.succ
    ∗ owns (c : Thread nD τ) (ms0_0 t) fullShare ((datsF m 0 c).after 0 t)
    ∗ owns (c : Thread nD τ) (ms0_1 t) fullShare ((datsF m 0 c).after 1 t)
    ∗ owns (c : Thread nD τ) (ms0_2 t) fullShare ((datsF m 0 c).after 2 t)
    ∗ owns (c : Thread nD τ) (ms0_3 t) fullShare ((datsF m 0 c).after 3 t)
    ∗ owns (c : Thread nD τ) (ms0_4 t) fullShare ((datsF m 0 c).after 4 t)
    ∗ owns (c : Thread nD τ) (ms0_5 t) fullShare ((datsF m 0 c).after 5 t)
    ∗ owns (c : Thread nD τ) (ms0_6 t) fullShare ((datsF m 0 c).after 6 t)
    ∗ owns (c : Thread nD τ) (ms0_7 t) fullShare ((datsF m 0 c).after 7 t)
    ∗ owns (c : Thread nD τ) (ms0_8 t) fullShare ((datsF m 0 c).after 8 t)
    ∗ owns (c : Thread nD τ) (ms0_9 t) fullShare ((datsF m 0 c).after 9 t)
    ∗ owns (c : Thread nD τ) (ms0_10 t) fullShare ((datsF m 0 c).after 10 t)
    ∗ owns (c : Thread nD τ) (ms0_11 t) fullShare ((datsF m 0 c).after 11 t)
    ∗ owns (c : Thread nD τ) (ms0_12 t) fullShare ((datsF m 0 c).after 12 t)
    ∗ owns (c : Thread nD τ) (ms0_13 t) fullShare ((datsF m 0 c).after 13 t)
    ∗ owns (c : Thread nD τ) (ms0_14 t) fullShare ((datsF m 0 c).after 14 t)
    ∗ owns (c : Thread nD τ) (ms0_15 t) fullShare ((datsF m 0 c).after 15 t)
    ∗ owns (c : Thread nD τ) (ms0_16 t) fullShare ((datsF m 0 c).after 16 t)
    ∗ owns (c : Thread nD τ) (ms0_17 t) fullShare ((datsF m 0 c).after 17 t)
    ∗ owns (c : Thread nD τ) (ms0_18 t) fullShare ((datsF m 0 c).after 18 t)
    ∗ owns (c : Thread nD τ) (ms0_19 t) fullShare ((datsF m 0 c).after 19 t)
    ∗ owns (c : Thread nD τ) (ms0_20 t) fullShare ((datsF m 0 c).after 20 t)
    ∗ (∃ d, owns (c : Thread nD τ) (ms0_21 t) fullShare d)
    ∗ (∃ d, owns (c : Thread nD τ) (ms0_22 t) fullShare d)
    ∗ (∃ d, owns (c : Thread nD τ) (ms0_23 t) fullShare d))

set_option maxHeartbeats 19200000 in
theorem soundF (c : Dev nD) (t : Fin cfg0.N) :
    bodyPreF m c t ⊢ wp frame (wpE (defs₀ (F := F)) Variants.none c none) Set.univ (bodyAt0 t) (fun _ => bodyPostF m c t) := by
  unfold bodyPreF bodyPostF bodyAt0
  simp only [beforeF_0, beforeF_1, beforeF_2, beforeF_3, beforeF_4, beforeF_5, beforeF_6, beforeF_7, beforeF_8, beforeF_9, beforeF_10, beforeF_11, beforeF_12, beforeF_13, beforeF_14, beforeF_15, beforeF_16, beforeF_17, beforeF_18, beforeF_19]
  rw [show (datsF m 0 c).Φ t.succ = (datsF m 0 c).Φ t.castSucc from rfl,
    show (datsF m 0 c).owesAt () t.succ = (datsF m 0 c).owesAt () t.castSucc from rfl,
    afterF_0, afterF_1, afterF_2, afterF_3, afterF_4, afterF_5, afterF_6, afterF_7, afterF_8, afterF_9, afterF_10, afterF_11, afterF_12, afterF_13, afterF_14, afterF_15, afterF_16, afterF_17, afterF_18, afterF_19, afterF_20]
  rw [show (datsF m 0 c).Φ t.castSucc = Pipeline.ΦA spec0 c from rfl, PhiA0_eq]
  unfold first
  iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩⟩
  iapply ((runAt m c t).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexists _; iexact H20
  isplitl [H21]; · iexists _; iexact H21
  isplitl [H22]; · iexists _; iexact H22
  isplitl [H23]; · iexists _; iexact H23
  isplitl [HS0]; · iexact HS0
  iintro ⟨H0, H1, H2, H3, H4, H5, H6, H7, H8, H9, H10, H11, H12, H13, H14, H15, H16, H17, H18, H19, ⟨%e20, H20⟩, H21, H22, H23, HS0⟩
  isplitl [HS0 Hg]
  · isplitl [HS0]
    · iexact HS0
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]
  · unfold owns; iexists _; isplitr
    swap; · iexact H20
    ipureintro; exact View.read_writes_of_cover _ _ _ _ _ (firstCover m c t)
  isplitl [H21]; · iexact H21
  isplitl [H22]; · iexact H22
  iexact H23

/-- The body table's row at a point's slots is the body. -/
theorem defs₀_row (t : Fin cfg0.N) :
    defs₀ (F := F) .tc cfg0.body (cfg0.bodyArgs t (cfg0.slots t)) = bodyAt0 t := by
  unfold defs₀; rw [Defs.onTc_tc]

theorem obligationF (c : Dev nD) : BodyObligation (datsF (F := F) m 0 c) (defs₀ (F := F)) Variants.none () Set.univ forgets0 := fun t => by
  rw [bigSep_W0, bigSep_W0, defs₀_row]
  exact triple_restated (soundF m c t) rfl .rfl fun _ => .rfl

set_option backward.isDefEq.respectTransparency.types false in
theorem runF : θ_run defs (onTc (τ := τ) (main (F := F))) (s₀ m ρ) (fun r => (Pipeline.RDat.FramePost (cfgs 0) (fun c => (datsF m 0 c).toRForget forgets0) (V m)) r ∧ r.2.sem = fun _ => 0) :=
  Pipeline.θ_run_frame_forget_shared (Q' := _) cfgs (datsF m) (0 : Fin 1) launch₀0 defs₀ Variants.none forgets0 m ρ main
    (hbody := fun c => (obligationF m c).loose) (hq := fun _ _ _ => rfl)
    (howed := fun _ _ => rfl) (V := V m) (hmain := hmain m Variants.none) (hA := A_eqF m) (hΦ := fun _ _ => rfl)

set_option maxHeartbeats 8000000 in
/-- After any such run the arguments are as they were. -/
theorem kept {r} (h : Pipeline.RDat.FramePost (cfgs 0) (fun c => (datsF m 0 c).toRForget forgets0) (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15) :=
  ⟨(Pipeline.RDat.FramePost.arr_in h c 0 rfl).trans ((A_eqF m c 0).trans (V_main_arg0 m c)),
      (Pipeline.RDat.FramePost.arr_in h c 8 rfl).trans ((A_eqF m c 8).trans (V_main_arg1 m c)),
      (Pipeline.RDat.FramePost.arr_in h c 1 rfl).trans ((A_eqF m c 1).trans (V_main_arg2 m c)),
      (Pipeline.RDat.FramePost.arr_in h c 2 rfl).trans ((A_eqF m c 2).trans (V_main_arg3 m c)),
      (Pipeline.RDat.FramePost.arr_in h c 3 rfl).trans ((A_eqF m c 3).trans (V_main_arg4 m c)),
      (Pipeline.RDat.FramePost.arr_in h c 4 rfl).trans ((A_eqF m c 4).trans (V_main_arg5 m c)),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      (Pipeline.RDat.FramePost.arr_in h c 12 rfl).trans ((A_eqF m c 12).trans (V_main_arg9 m c)),
      (Pipeline.RDat.FramePost.arr_in h c 13 rfl).trans ((A_eqF m c 13).trans (V_main_arg10 m c)),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      (Pipeline.RDat.FramePost.arr_in h c 19 rfl).trans ((A_eqF m c 19).trans (V_main_arg15 m c))⟩

/-- Every run ends, the arguments as they were and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15))
      ∧ r.2.sem = fun _ => 0) :=
  (θ_run defs _ _).mono (fun _ h => ⟨kept m h.1, h.2⟩) (runF m ρ)

end Cert.Kernel4Ideal.Gen

end
-- ==== Proof.Hand.MixKernel.lean ====
/- The frame of the merge and memory attention's kernel: its body table is its ideal program's. -/
module

public import proofs.«01_k».proof.Defs
public import proofs.«01_k».proof.Proof.Gen.Kernel4
public import proofs.«01_k».proof.Proof.Hand.MixFrame

@[expose] public section

set_option maxRecDepth 16384

noncomputable section

namespace Cert.Kernel4.Hand

open Idealize.ShloMosaic Idealize.ShloMosaic.TcCoe Idealize.SL.Sem

set_option maxHeartbeats 8000000 in
theorem defs₀_eq : (Cert.Kernel4.defs₀ (F := Bits)) = Cert.Kernel4Ideal.defs₀ := by
  unfold Cert.Kernel4.defs₀ Cert.Kernel4Ideal.defs₀
  refine congrArg (Defs.onTc (nD := Cert.Kernel4.nD) (τ := Cert.Kernel4.τ) (sig := Cert.Kernel4.sig) (Val := Elt Bits) (Λ := Cert.Kernel4.Λ₀)) ?_
  funext l a
  match l, a with
  | 0, (t, s) => rfl

set_option maxHeartbeats 8000000 in
theorem defs_eq : (Cert.Kernel4.defs (F := Bits)) = Cert.Kernel4Ideal.defs := by
  unfold Cert.Kernel4.defs
  rw [defs₀_eq]
  rfl

set_option maxHeartbeats 8000000 in
/-- The kernel's frame. -/
theorem mix_kernel_frame : Cert.quiescent_Kernel4 := fun m g _ => by
  rw [defs_eq]
  exact Cert.Kernel4Ideal.Gen.frame (F := Bits) m g

end Cert.Kernel4.Hand

end
-- ==== Proof.Hand.MixStages.lean ====
/- The stages of the merge and the memory attention: of the reference over whole arrays, of the kernel's body over 256 rows. -/
module

public import proofs.«01_k».proof.Defs
public import proofs.«01_k».proof.Proof.Gen.Kernel4Ideal.Skeleton
public import proofs.«01_k».proof.Proof.Gen.Reference4Ideal.Run
public import Idealize.ShloMosaic.Lib.Pointwise

@[expose] public section

set_option maxRecDepth 16384

noncomputable section

namespace Cert.Reference4Ideal.Hand

open Cert.Reference4Ideal Cert.Reference4Ideal.Gen
open Idealize.ShloMosaic Idealize.ShloMosaic.TcCoe Idealize.SL.Sem

/-- The gates. -/
def gates (z : FVec Ideal S16384x10240 .bf16) : FVec Ideal S16384x4x1024 .f32 :=
  Host.divf (broadcastInDim S16384x4x1024 ![] bcast_S_S16384x4x1024 (constant S_ .f32 0x3F800000#32)) (addf (broadcastInDim S16384x4x1024 ![] bcast_S_S16384x4x1024 (constant S_ .f32 0x3F800000#32))
    (Host.exp (Host.negf (shapeCast _ (extf .f32 (extractStridedSlice S16384x4096 ![0, 6144] z slices_S16384x10240_S16384x4096_0_6144) bitsLt_bf16_f32) shapeCasts_S16384x4096_S16384x4x1024))))

/-- The mixers' outputs side by side. -/
def mixers (a b c d : FVec Ideal S16384x512 .bf16) : FVec Ideal S16384x4x512 .bf16 :=
  concatenate S16384x4x512 1 [⟨S16384x1x512, ((broadcastInDim S16384x1x512 ![0, 2] bcast_S16384x512_S16384x1x512_0_2 a) : (⟨S16384x1x512, .bf16⟩ : BufTy).Contents (Elt Ideal))⟩,
    ⟨S16384x1x512, ((broadcastInDim S16384x1x512 ![0, 2] bcast_S16384x512_S16384x1x512_0_2 b) : (⟨S16384x1x512, .bf16⟩ : BufTy).Contents (Elt Ideal))⟩,
    ⟨S16384x1x512, ((broadcastInDim S16384x1x512 ![0, 2] bcast_S16384x512_S16384x1x512_0_2 c) : (⟨S16384x1x512, .bf16⟩ : BufTy).Contents (Elt Ideal))⟩,
    ⟨S16384x1x512, ((broadcastInDim S16384x1x512 ![0, 2] bcast_S16384x512_S16384x1x512_0_2 d) : (⟨S16384x1x512, .bf16⟩ : BufTy).Contents (Elt Ideal))⟩]
    concatenates_S16384x1x512_S16384x1x512_S16384x1x512_S16384x1x512_S16384x4x512_d1

/-- Each mixer's output through its weight. -/
def branches (W : FVec Ideal S4x512x1024 .f32) (a b c d : FVec Ideal S16384x512 .bf16) : FVec Ideal S16384x4x1024 .f32 :=
  transpose S16384x4x1024 [2, 0, 1] (Host.dotGeneral dot_S4x512x1024_S16384x4x512_S4x1024x16384_1_2_2_0_0_1 none W (extf .f32 (mixers a b c d) bitsLt_bf16_f32)) transposes_S4x1024x16384_S16384x4x1024_2_0_1

/-- The gated sum of the branches. -/
def gated (z : FVec Ideal S16384x10240 .bf16) (a b c d : FVec Ideal S16384x512 .bf16) (W : FVec Ideal S4x512x1024 .f32) : FVec Ideal S16384x1024 .f32 :=
  Host.reduceAdd (mulf (gates z) (branches W a b c d)) (constant S_ .f32 0x00000000#32) reducesTo_S16384x4x1024_S16384x1024_d1 h_S_

/-- The stream after the merge. -/
def merged (x : FVec Ideal S16384x1024 .f32) (z : FVec Ideal S16384x10240 .bf16) (a b c d : FVec Ideal S16384x512 .bf16) (W : FVec Ideal S4x512x1024 .f32)
    (O : FVec Ideal S1024x1024 .f32) : FVec Ideal S16384x1024 .f32 :=
  addf x (Host.dotGeneral dot_S16384x1024_S1024x1024_S16384x1024_1_0_0_1_n_n none (gated z a b c d W) O)

/-- The queries of the memory attention. -/
def queries (X : FVec Ideal S16384x1024 .f32) (g : FVec Ideal S1024 .f32) (W : FVec Ideal S1024x512 .f32) : FVec Ideal S16384x512 .f32 :=
  Host.dotGeneral dot_S16384x1024_S1024x512_S16384x512_1_0_0_1_n_n none
    (mulf (mulf X (broadcastInDim S16384x1024 ![0, 1] bcast_S16384x1_S16384x1024_0_1
        (Host.rsqrt (addf (Host.divf (broadcastInDim S16384x1 ![0] bcast_S16384_S16384x1_0 (Host.reduceAdd (mulf X X) (constant S_ .f32 0x00000000#32) reducesTo_S16384x1024_S16384_d1 h_S_))
          (broadcastInDim S16384x1 ![] bcast_S_S16384x1 (constant S_ .f32 0x44800000#32))) (broadcastInDim S16384x1 ![] bcast_S_S16384x1 (constant S_ .f32 0x358637BD#32))))))
      (broadcastInDim S16384x1024 ![0, 1] bcast_S1x1024_S16384x1024_0_1 (broadcastInDim S1x1024 ![1] bcast_S1024_S1x1024_1 g))) W

/-- The scores. -/
def scores (Q : FVec Ideal S16384x512 .f32) (K : FVec Ideal S256x512 .bf16) : FVec Ideal S4x16384x256 .f32 :=
  mulf (Host.dotGeneral dot_S16384x4x128_S256x4x128_S4x16384x256_2_2_0_0_1_1 none (shapeCast _ Q shapeCasts_S16384x512_S16384x4x128)
    (shapeCast _ (extf .f32 K bitsLt_bf16_f32) shapeCasts_S256x512_S256x4x128)) (broadcastInDim S4x16384x256 ![] bcast_S_S4x16384x256 (constant S_ .f32 0x3DB504F3#32))

/-- The largest score of each row. -/
def tops (s : FVec Ideal S4x16384x256 .f32) : FVec Ideal S4x16384 .f32 :=
  Host.reduce FloatOps.maximumf s (constant S_ .f32 0xFF800000#32) reducesTo_S4x16384x256_S4x16384_d2 h_S_

/-- The exponentials of the scores below their row's largest. -/
def exps (s : FVec Ideal S4x16384x256 .f32) (M : FVec Ideal S4x16384 .f32) : FVec Ideal S4x16384x256 .f32 :=
  Host.exp (subf s (broadcastInDim S4x16384x256 ![0, 1, 2] bcast_S4x16384x1_S4x16384x256_0_1_2 (broadcastInDim S4x16384x1 ![0, 1] bcast_S4x16384_S4x16384x1_0_1
    (maximumf (broadcastInDim S4x16384 ![] bcast_S_S4x16384 (constant S_ .f32 0xFF800000#32)) M))))

/-- The weights. -/
def weights (e : FVec Ideal S4x16384x256 .f32) : FVec Ideal S4x16384x256 .f32 :=
  Host.divf e (broadcastInDim S4x16384x256 ![0, 1, 2] bcast_S4x16384x1_S4x16384x256_0_1_2 (broadcastInDim S4x16384x1 ![0, 1] bcast_S4x16384_S4x16384x1_0_1
    (Host.reduceAdd e (constant S_ .f32 0x00000000#32) reducesTo_S4x16384x256_S4x16384_d2 h_S_)))

/-- The heads' outputs, side by side. -/
def heads (p : FVec Ideal S4x16384x256 .f32) (V : FVec Ideal S256x512 .bf16) : FVec Ideal S16384x512 .f32 :=
  shapeCast _ (transpose S16384x4x128 [2, 0, 1] (Host.dotGeneral dot_S256x4x128_S4x16384x256_S4x128x16384_0_2_2_1_1_0 none (shapeCast _ (extf .f32 V bitsLt_bf16_f32) shapeCasts_S256x512_S256x4x128) p)
    transposes_S4x128x16384_S16384x4x128_2_0_1) shapeCasts_S16384x4x128_S16384x512

/-- The stream after the memory attention. -/
def attended (X : FVec Ideal S16384x1024 .f32) (H : FVec Ideal S16384x512 .f32) (W : FVec Ideal S512x1024 .f32) : FVec Ideal S16384x1024 .f32 :=
  addf X (Host.dotGeneral dot_S16384x512_S512x1024_S16384x1024_1_0_0_1_n_n none H W)

/-- The whole. -/
def whole (x : FVec Ideal S16384x1024 .f32) (z : FVec Ideal S16384x10240 .bf16) (a b c d : FVec Ideal S16384x512 .bf16) (W : FVec Ideal S4x512x1024 .f32)
    (O : FVec Ideal S1024x1024 .f32) (g : FVec Ideal S1024 .f32) (K V : FVec Ideal S256x512 .bf16) (Wq : FVec Ideal S1024x512 .f32) (Wo : FVec Ideal S512x1024 .f32) : FVec Ideal S16384x1024 .f32 :=
  attended (merged x z a b c d W O) (heads (weights (exps (scores (queries (merged x z a b c d W O) g Wq) K) (tops (scores (queries (merged x z a b c d W O) g Wq) K)))) V) Wo

theorem result (m : (ℓ : Loc nD τ sig) → Buf (Elt Ideal) ℓ) (c : Dev nD) : Value.res_main_v58 m c
    = whole (m ((c.tc : Thread nD τ).loc main_arg0)) (m ((c.tc : Thread nD τ).loc main_arg1)) (m ((c.tc : Thread nD τ).loc main_arg2)) (m ((c.tc : Thread nD τ).loc main_arg3))
        (m ((c.tc : Thread nD τ).loc main_arg4)) (m ((c.tc : Thread nD τ).loc main_arg5)) (m ((c.tc : Thread nD τ).loc main_arg6)) (m ((c.tc : Thread nD τ).loc main_arg7))
        (m ((c.tc : Thread nD τ).loc main_arg8)) (m ((c.tc : Thread nD τ).loc main_arg9)) (m ((c.tc : Thread nD τ).loc main_arg10)) (m ((c.tc : Thread nD τ).loc main_arg11))
        (m ((c.tc : Thread nD τ).loc main_arg12)) := by
  unfold Value.res_main_v58 whole attended heads weights exps tops scores queries merged gated branches mixers gates
  rfl

end Cert.Reference4Ideal.Hand

namespace Cert.Kernel4Ideal.Hand

open Cert.Kernel4Ideal Cert.Kernel4Ideal.Gen
open Idealize.ShloMosaic Idealize.ShloMosaic.TcCoe Idealize.SL.Sem

/-- The rows after the merge. -/
def kmerged (g0 : Vec Ideal S256x1024 .bf16) (y0 : Vec Ideal S256x512 .bf16) (w0 : Vec Ideal S1x512x1024 .bf16) (g1 : Vec Ideal S256x1024 .bf16) (y1 : Vec Ideal S256x512 .bf16) (w1 : Vec Ideal S1x512x1024 .bf16)
    (g2 : Vec Ideal S256x1024 .bf16) (y2 : Vec Ideal S256x512 .bf16) (w2 : Vec Ideal S1x512x1024 .bf16) (g3 : Vec Ideal S256x1024 .bf16) (y3 : Vec Ideal S256x512 .bf16) (w3 : Vec Ideal S1x512x1024 .bf16)
    (x : Vec Ideal S256x1024 .f32) (wo : Vec Ideal S1024x1024 .bf16) : FVec Ideal S256x1024 .f32 :=
  k0_pay5 (k0_pay2 g0 y0 w0 g1 y1 w1) (k0_pay3 g2) y2 (k0_pay4 w2) (constant S256x1024 .f32 0x00000000#32) g3 y3 w3 x wo

/-- Their queries. -/
def kqueries (X : FVec Ideal S256x1024 .f32) (g : Vec Ideal S1x1024 .f32) (w : Vec Ideal S1024x512 .bf16) : FVec Ideal S256x512 .bf16 :=
  truncf .bf16 (matmul dot_S256x1024_S1024x512_S256x512_1_0_0_1_n_n none
    (truncf .bf16 (mulf (mulf X (broadcastTo S256x1024 (rsqrt (addf (divf (shapeCast S256x1 (multiReduction .add [1] S256 (mulf X X) 0x00000000#32 reduces_S256x1024_S256 (.inl rfl) rfl) shapeCasts_S256_S256x1)
        (broadcast S256x1 (Scalar.ofBits (F := Ideal) .f32 0x44800000#32))) (broadcast S256x1 (Scalar.ofBits (F := Ideal) .f32 0x358637BD#32)))) broadcasts_S256x1_S256x1024))
      (broadcastTo S256x1024 (shapeCast S1x1024 g shapeCasts_S1x1024_S1x1024 : FVec Ideal S1x1024 .f32) broadcasts_S1x1024_S256x1024)) bitsLt_bf16_f32)
    (shapeCast S1024x512 w shapeCasts_S1024x512_S1024x512 : FVec Ideal S1024x512 .bf16) (constant S256x512 .f32 0x00000000#32)) bitsLt_bf16_f32

/-- One head's scores. -/
def kscores (a b : FVec Ideal S256x128 .bf16) : FVec Ideal S256x256 .f32 :=
  mulf (matmul dot_S256x128_S256x128_S256x256_1_1_0_0_n_n none a b (constant S256x256 .f32 0x00000000#32)) (broadcast S256x256 (Scalar.ofBits (F := Ideal) .f32 0x3DB504F3#32))

/-- Their exponentials. -/
def kexps (s : FVec Ideal S256x256 .f32) : FVec Ideal S256x256 .f32 :=
  exp (subf s (broadcastTo S256x256 (shapeCast S256x1 (multiReduction .maximumf [1] S256 s 0xFF800000#32 reduces_S256x256_S256 (.inl rfl) rfl) shapeCasts_S256_S256x1) broadcasts_S256x1_S256x256))

/-- Their weights. -/
def kweights (e : FVec Ideal S256x256 .f32) : FVec Ideal S256x256 .f32 :=
  divf e (broadcastTo S256x256 (shapeCast S256x1 (multiReduction .add [1] S256 e 0x00000000#32 reduces_S256x256_S256 (.inl rfl) rfl) shapeCasts_S256_S256x1) broadcasts_S256x1_S256x256)

/-- The head's output. -/
def khead (p : FVec Ideal S256x256 .f32) (v : FVec Ideal S256x128 .bf16) : FVec Ideal S256x128 .f32 :=
  matmul dot_S256x256_S256x128_S256x128_1_0_0_1_n_n none (truncf .bf16 p bitsLt_bf16_f32) v (constant S256x128 .f32 0x00000000#32)

/-- The heads side by side. -/
def kheads (q k v : FVec Ideal S256x512 .bf16) : FVec Ideal S256x512 .f32 :=
  concatenate S256x512 1
    [⟨S256x128, khead (kweights (kexps (kscores (extractStridedSlice S256x128 ![0, 0] q slices_S256x512_o0_0_S256x128) (extractStridedSlice S256x128 ![0, 0] k slices_S256x512_o0_0_S256x128)))) (extractStridedSlice S256x128 ![0, 0] v slices_S256x512_o0_0_S256x128)⟩,
     ⟨S256x128, khead (kweights (kexps (kscores (extractStridedSlice S256x128 ![0, 128] q slices_S256x512_o0_128_S256x128) (extractStridedSlice S256x128 ![0, 128] k slices_S256x512_o0_128_S256x128)))) (extractStridedSlice S256x128 ![0, 128] v slices_S256x512_o0_128_S256x128)⟩,
     ⟨S256x128, khead (kweights (kexps (kscores (extractStridedSlice S256x128 ![0, 256] q slices_S256x512_o0_256_S256x128) (extractStridedSlice S256x128 ![0, 256] k slices_S256x512_o0_256_S256x128)))) (extractStridedSlice S256x128 ![0, 256] v slices_S256x512_o0_256_S256x128)⟩,
     ⟨S256x128, khead (kweights (kexps (kscores (extractStridedSlice S256x128 ![0, 384] q slices_S256x512_o0_384_S256x128) (extractStridedSlice S256x128 ![0, 384] k slices_S256x512_o0_384_S256x128)))) (extractStridedSlice S256x128 ![0, 384] v slices_S256x512_o0_384_S256x128)⟩]
    concatenates_S256x128_S256x128_S256x128_S256x128_S256x512_d1

/-- The rows after the memory attention. -/
def kattended (X : FVec Ideal S256x1024 .f32) (h : FVec Ideal S256x512 .f32) (w : Vec Ideal S512x1024 .bf16) : FVec Ideal S256x1024 .f32 :=
  addf X (matmul dot_S256x512_S512x1024_S256x1024_1_0_0_1_n_n none (truncf .bf16 h bitsLt_bf16_f32) (shapeCast S512x1024 w shapeCasts_S512x1024_S512x1024 : FVec Ideal S512x1024 .bf16) (constant S256x1024 .f32 0x00000000#32))

section Halves

variable (g0 : Vec Ideal S256x1024 .bf16) (y0 : Vec Ideal S256x512 .bf16) (w0 : Vec Ideal S1x512x1024 .bf16) (g1 : Vec Ideal S256x1024 .bf16) (y1 : Vec Ideal S256x512 .bf16) (w1 : Vec Ideal S1x512x1024 .bf16)
    (g2 : Vec Ideal S256x1024 .bf16) (y2 : Vec Ideal S256x512 .bf16) (w2 : Vec Ideal S1x512x1024 .bf16) (g3 : Vec Ideal S256x1024 .bf16) (y3 : Vec Ideal S256x512 .bf16) (w3 : Vec Ideal S1x512x1024 .bf16)
    (x : Vec Ideal S256x1024 .f32) (wo : Vec Ideal S1024x1024 .bf16) (g : Vec Ideal S1x1024 .f32) (wq : Vec Ideal S1024x512 .bf16) (k v : Vec Ideal S256x512 .bf16) (wm : Vec Ideal S512x1024 .bf16)

theorem merged_first : k0_pay5 (k0_pay2 g0 y0 w0 g1 y1 w1) (k0_pay3 g2) y2 (k0_pay4 w2) (constant S256x1024 .f32 0x00000000#32) g3 y3 w3 x wo = kmerged g0 y0 w0 g1 y1 w1 g2 y2 w2 g3 y3 w3 x wo := rfl

theorem queries_first : k0_pay6 (k0_pay2 g0 y0 w0 g1 y1 w1) (k0_pay3 g2) y2 (k0_pay4 w2) (constant S256x1024 .f32 0x00000000#32) g3 y3 w3 x wo g wq
    = kqueries (kmerged g0 y0 w0 g1 y1 w1 g2 y2 w2 g3 y3 w3 x wo) g wq := rfl

theorem slice_first : k0_pay7 (k0_pay2 g0 y0 w0 g1 y1 w1) (k0_pay3 g2) y2 (k0_pay4 w2) (constant S256x1024 .f32 0x00000000#32) g3 y3 w3 x wo g wq
    = extractStridedSlice S256x128 ![0, 0] (kqueries (kmerged g0 y0 w0 g1 y1 w1 g2 y2 w2 g3 y3 w3 x wo) g wq) slices_S256x512_o0_0_S256x128 := rfl

theorem half_first (X : FVec Ideal S256x1024 .f32) (q : FVec Ideal S256x512 .bf16) :
    k0_pay12 k v X q (k0_pay9 v (extractStridedSlice S256x128 ![0, 0] q slices_S256x512_o0_0_S256x128) (k0_pay8 k)) (k0_pay10 k v q) (k0_pay11 k q) wm
    = kattended X (kheads q k v) wm := rfl

theorem merged_second : k0_pay18 (k0_pay16 g0 y0 w0) (k0_pay17 g1) y1 w1 g2 y2 w2 g3 y3 w3 x wo = kmerged g0 y0 w0 g1 y1 w1 g2 y2 w2 g3 y3 w3 x wo := rfl

theorem queries_second : k0_pay22 (kmerged g0 y0 w0 g1 y1 w1 g2 y2 w2 g3 y3 w3 x wo) (k0_pay19 g) (k0_pay20 (k0_pay16 g0 y0 w0) (k0_pay17 g1) y1 w1 g2 y2 w2 g3 y3 w3 x wo) k0_pay21 wq
    = kqueries (kmerged g0 y0 w0 g1 y1 w1 g2 y2 w2 g3 y3 w3 x wo) g wq := rfl

theorem head_second : k0_pay23 k v (kmerged g0 y0 w0 g1 y1 w1 g2 y2 w2 g3 y3 w3 x wo) (k0_pay19 g) (k0_pay20 (k0_pay16 g0 y0 w0) (k0_pay17 g1) y1 w1 g2 y2 w2 g3 y3 w3 x wo) k0_pay21 wq
    = k0_pay9 v (extractStridedSlice S256x128 ![0, 0] (kqueries (kmerged g0 y0 w0 g1 y1 w1 g2 y2 w2 g3 y3 w3 x wo) g wq) slices_S256x512_o0_0_S256x128) (k0_pay8 k) := rfl

theorem weights_second : k0_pay24 k (kmerged g0 y0 w0 g1 y1 w1 g2 y2 w2 g3 y3 w3 x wo) (k0_pay19 g) (k0_pay20 (k0_pay16 g0 y0 w0) (k0_pay17 g1) y1 w1 g2 y2 w2 g3 y3 w3 x wo) k0_pay21 wq
    = truncf .bf16 (kweights (kexps (kscores (extractStridedSlice S256x128 ![0, 128] (kqueries (kmerged g0 y0 w0 g1 y1 w1 g2 y2 w2 g3 y3 w3 x wo) g wq) slices_S256x512_o0_128_S256x128)
        (extractStridedSlice S256x128 ![0, 128] k slices_S256x512_o0_128_S256x128)))) bitsLt_bf16_f32 := rfl

theorem half_second (X : FVec Ideal S256x1024 .f32) (q : FVec Ideal S256x512 .bf16) :
    k0_pay26 k v X q (k0_pay9 v (extractStridedSlice S256x128 ![0, 0] q slices_S256x512_o0_0_S256x128) (k0_pay8 k))
      (truncf .bf16 (kweights (kexps (kscores (extractStridedSlice S256x128 ![0, 128] q slices_S256x512_o0_128_S256x128) (extractStridedSlice S256x128 ![0, 128] k slices_S256x512_o0_128_S256x128)))) bitsLt_bf16_f32)
      (k0_pay25 v) (constant S256x128 .f32 0x00000000#32) wm
    = kattended X (kheads q k v) wm := rfl

end Halves

end Cert.Kernel4Ideal.Hand

end
-- ==== Proof.Hand.MixMerge.lean ====
/- The merge of the mixers, row by row. -/
module

public import proofs.«01_k».proof.Proof.Hand.MixStages
public import Idealize.ShloMosaic.Lib.Pointwise

@[expose] public section

set_option maxRecDepth 16384

noncomputable section

namespace Cert.Kernel4Ideal.Hand

open Cert.Kernel4Ideal Cert.Kernel4Ideal.Gen
open Idealize.ShloMosaic Idealize.ShloMosaic.TcCoe Idealize.SL.Sem
open Cert.Reference4Ideal.Hand

/-- The gated sum of the branches, at an entry. -/
theorem gated_apply (z : FVec Ideal Cert.Reference4Ideal.S16384x10240 .bf16) (a b c d : FVec Ideal Cert.Reference4Ideal.S16384x512 .bf16) (W : FVec Ideal Cert.Reference4Ideal.S4x512x1024 .f32)
    (n : Fin 16384) (k : Fin 1024) : gated z a b c d W (ix2 n k)
      = Ideal.logistic (z (ix2 n ⟨6144 + k.val, by omega⟩)) * (∑ j : Fin 512, a (ix2 n j) * W (ix3 0 j k))
        + Ideal.logistic (z (ix2 n ⟨7168 + k.val, by omega⟩)) * (∑ j : Fin 512, b (ix2 n j) * W (ix3 1 j k))
        + Ideal.logistic (z (ix2 n ⟨8192 + k.val, by omega⟩)) * (∑ j : Fin 512, c (ix2 n j) * W (ix3 2 j k))
        + Ideal.logistic (z (ix2 n ⟨9216 + k.val, by omega⟩)) * (∑ j : Fin 512, d (ix2 n j) * W (ix3 3 j k)) := by
  have hg : ∀ (q : Fin 4) (p : Fin 10240), p.val = 6144 + (q.val * 1024 + k.val) → gates z (ix3 n q k) = Ideal.logistic (z (ix2 n p)) := by
    intro q p hp
    pointwise [gates]
    unfold Ideal.logistic
    rw [show (⟨6144 + (q.val * 1024 + k.val), by omega⟩ : Fin 10240) = p from Fin.ext hp.symm]
  have b0 : branches W a b c d (ix3 n 0 k) = ∑ j : Fin 512, a (ix2 n j) * W (ix3 0 j k) := by
    pointwise [branches, mixers]
    exact Finset.sum_congr rfl fun x _ => mul_comm _ _
  have b1 : branches W a b c d (ix3 n 1 k) = ∑ j : Fin 512, b (ix2 n j) * W (ix3 1 j k) := by
    pointwise [branches, mixers]
    exact Finset.sum_congr rfl fun x _ => mul_comm _ _
  have b2 : branches W a b c d (ix3 n 2 k) = ∑ j : Fin 512, c (ix2 n j) * W (ix3 2 j k) := by
    pointwise [branches, mixers]
    exact Finset.sum_congr rfl fun x _ => mul_comm _ _
  have b3 : branches W a b c d (ix3 n 3 k) = ∑ j : Fin 512, d (ix2 n j) * W (ix3 3 j k) := by
    pointwise [branches, mixers]
    exact Finset.sum_congr rfl fun x _ => mul_comm _ _
  pointwise [gated]
  rw [Fin.sum_univ_four, b0, b1, b2, b3, hg 0 ⟨6144 + k.val, by omega⟩ (by simp), hg 1 ⟨7168 + k.val, by omega⟩ (by simp; omega), hg 2 ⟨8192 + k.val, by omega⟩ (by simp; omega),
    hg 3 ⟨9216 + k.val, by omega⟩ (by simp; omega)]

/-- The rows after the merge are the reference's. -/
theorem kmerged_eq (r : Fin 256 → Fin 16384)
    (g0 : Vec Ideal S256x1024 .bf16) (y0 : Vec Ideal S256x512 .bf16) (w0 : Vec Ideal S1x512x1024 .bf16) (g1 : Vec Ideal S256x1024 .bf16) (y1 : Vec Ideal S256x512 .bf16) (w1 : Vec Ideal S1x512x1024 .bf16)
    (g2 : Vec Ideal S256x1024 .bf16) (y2 : Vec Ideal S256x512 .bf16) (w2 : Vec Ideal S1x512x1024 .bf16) (g3 : Vec Ideal S256x1024 .bf16) (y3 : Vec Ideal S256x512 .bf16) (w3 : Vec Ideal S1x512x1024 .bf16)
    (x : Vec Ideal S256x1024 .f32) (wo : Vec Ideal S1024x1024 .bf16)
    (X : FVec Ideal Cert.Reference4Ideal.S16384x1024 .f32) (z : FVec Ideal Cert.Reference4Ideal.S16384x10240 .bf16) (a b c d : FVec Ideal Cert.Reference4Ideal.S16384x512 .bf16)
    (W : FVec Ideal Cert.Reference4Ideal.S4x512x1024 .f32) (O : FVec Ideal Cert.Reference4Ideal.S1024x1024 .f32)
    (hx : ∀ (i : Fin 256) (k : Fin 1024), x (ix2 i k) = X (ix2 (r i) k))
    (hg0 : ∀ (i : Fin 256) (k : Fin 1024), g0 (ix2 i k) = z (ix2 (r i) ⟨6144 + k.val, by omega⟩)) (hg1 : ∀ (i : Fin 256) (k : Fin 1024), g1 (ix2 i k) = z (ix2 (r i) ⟨7168 + k.val, by omega⟩))
    (hg2 : ∀ (i : Fin 256) (k : Fin 1024), g2 (ix2 i k) = z (ix2 (r i) ⟨8192 + k.val, by omega⟩)) (hg3 : ∀ (i : Fin 256) (k : Fin 1024), g3 (ix2 i k) = z (ix2 (r i) ⟨9216 + k.val, by omega⟩))
    (hy0 : ∀ (i : Fin 256) (j : Fin 512), y0 (ix2 i j) = a (ix2 (r i) j)) (hy1 : ∀ (i : Fin 256) (j : Fin 512), y1 (ix2 i j) = b (ix2 (r i) j))
    (hy2 : ∀ (i : Fin 256) (j : Fin 512), y2 (ix2 i j) = c (ix2 (r i) j)) (hy3 : ∀ (i : Fin 256) (j : Fin 512), y3 (ix2 i j) = d (ix2 (r i) j))
    (hw0 : ∀ (j : Fin 512) (k : Fin 1024), w0 (ix3 0 j k) = W (ix3 0 j k)) (hw1 : ∀ (j : Fin 512) (k : Fin 1024), w1 (ix3 0 j k) = W (ix3 1 j k))
    (hw2 : ∀ (j : Fin 512) (k : Fin 1024), w2 (ix3 0 j k) = W (ix3 2 j k)) (hw3 : ∀ (j : Fin 512) (k : Fin 1024), w3 (ix3 0 j k) = W (ix3 3 j k))
    (hwo : ∀ (k d : Fin 1024), wo (ix2 k d) = O (ix2 k d)) (i : Fin 256) (e : Fin 1024) :
    kmerged g0 y0 w0 g1 y1 w1 g2 y2 w2 g3 y3 w3 x wo (ix2 i e) = merged X z a b c d W O (ix2 (r i) e) := by
  pointwise [kmerged, merged, k0_pay5, k0_pay4, k0_pay3, k0_pay2]
  simp only [gated_apply, hx, hg0, hg1, hg2, hg3, hy0, hy1, hy2, hy3, hw0, hw1, hw2, hw3, hwo]

end Cert.Kernel4Ideal.Hand

end
-- ==== Proof.Hand.MixHeads.lean ====
/- The queries and the heads of the memory attention, row by row. -/
module

public import proofs.«01_k».proof.Proof.Hand.MixStages
public import Idealize.ShloMosaic.Lib.Pointwise

@[expose] public section

set_option maxRecDepth 16384

noncomputable section

namespace Cert.Kernel4Ideal.Hand

open Cert.Kernel4Ideal Cert.Kernel4Ideal.Gen
open Idealize.ShloMosaic Idealize.ShloMosaic.TcCoe Idealize.SL.Sem
open Cert.Reference4Ideal.Hand

theorem kqueries_eq (r : Fin 256 → Fin 16384) (X : FVec Ideal S256x1024 .f32) (g : Vec Ideal S1x1024 .f32) (w : Vec Ideal S1024x512 .bf16)
    (Y : FVec Ideal Cert.Reference4Ideal.S16384x1024 .f32) (h : FVec Ideal Cert.Reference4Ideal.S1024 .f32) (W : FVec Ideal Cert.Reference4Ideal.S1024x512 .f32)
    (hX : ∀ i d, X (ix2 i d) = Y (ix2 (r i) d)) (hg : ∀ d : Fin 1024, g (ix2 0 d) = h (ix1 d)) (hw : ∀ (d : Fin 1024) (e : Fin 512), w (ix2 d e) = W (ix2 d e))
    (i : Fin 256) (e : Fin 512) : kqueries X g w (ix2 i e) = queries Y h W (ix2 (r i) e) := by
  pointwise [kqueries, queries]
  simp only [hX, hg, hw]
theorem kscores_eq (r : Fin 256 → Fin 16384) (h : Fin 4) (a b : FVec Ideal S256x128 .bf16) (Q : FVec Ideal Cert.Reference4Ideal.S16384x512 .f32) (K : FVec Ideal Cert.Reference4Ideal.S256x512 .bf16)
    (ha : ∀ i (e : Fin 128), a (ix2 i e) = Q (ix2 (r i) ⟨h.val * 128 + e.val, by omega⟩)) (hb : ∀ i (e : Fin 128), b (ix2 i e) = K (ix2 i ⟨h.val * 128 + e.val, by omega⟩))
    (i : Fin 256) (s : Fin 256) : kscores a b (ix2 i s) = scores Q K (ix3 h (r i) s) := by
  pointwise [kscores, scores]
  simp only [ha, hb]
theorem ninf : Ideal.ofBits .f32 0xFF800000#32 = ⊥ := by simp [Ideal.ofBits, Ideal.ieee]

theorem tops_apply (S : FVec Ideal Cert.Reference4Ideal.S4x16384x256 .f32) (h : Fin 4) (n : Fin 16384) :
    tops S (ix2 h n) = Finset.univ.fold max (⊥ : EReal) fun k : Fin 256 => S (ix3 h n k) := by
  unfold tops
  pointwise
  rw [ninf]

theorem kexps_eq (r : Fin 256 → Fin 16384) (h : Fin 4) (s : FVec Ideal S256x256 .f32) (S : FVec Ideal Cert.Reference4Ideal.S4x16384x256 .f32) (M : FVec Ideal Cert.Reference4Ideal.S4x16384 .f32)
    (hM : ∀ n, M (ix2 h n) = Finset.univ.fold max (⊥ : EReal) fun k : Fin 256 => S (ix3 h n k))
    (hs : ∀ i j, s (ix2 i j) = S (ix3 h (r i) j)) (i : Fin 256) (j : Fin 256) : kexps s (ix2 i j) = exps S M (ix3 h (r i) j) := by
  pointwise [kexps, exps]
  simp only [hM, hs, ninf, bot_sup_eq]

theorem kweights_eq (r : Fin 256 → Fin 16384) (h : Fin 4) (s : FVec Ideal S256x256 .f32) (S : FVec Ideal Cert.Reference4Ideal.S4x16384x256 .f32)
    (hs : ∀ i j, s (ix2 i j) = S (ix3 h (r i) j)) (i : Fin 256) (j : Fin 256) : kweights s (ix2 i j) = weights S (ix3 h (r i) j) := by
  pointwise [kweights, weights]
  simp only [hs]
theorem khead_eq (r : Fin 256 → Fin 16384) (h : Fin 4) (p : FVec Ideal S256x256 .f32) (v : FVec Ideal S256x128 .bf16) (P : FVec Ideal Cert.Reference4Ideal.S4x16384x256 .f32) (V : FVec Ideal Cert.Reference4Ideal.S256x512 .bf16)
    (hp : ∀ i j, p (ix2 i j) = P (ix3 h (r i) j)) (hv : ∀ i (e : Fin 128), v (ix2 i e) = V (ix2 i ⟨h.val * 128 + e.val, by omega⟩))
     (i : Fin 256) (e : Fin 128) : khead p v (ix2 i e) = heads P V (ix2 (r i) ⟨h.val * 128 + e.val, by omega⟩) := by
  pointwise [khead, heads]
  simp only [hp, hv]
  exact Finset.sum_congr rfl fun x _ => mul_comm _ _
theorem kattended_eq (r : Fin 256 → Fin 16384) (X : FVec Ideal S256x1024 .f32) (o : FVec Ideal S256x512 .f32) (w : Vec Ideal S512x1024 .bf16)
    (Y : FVec Ideal Cert.Reference4Ideal.S16384x1024 .f32) (O : FVec Ideal Cert.Reference4Ideal.S16384x512 .f32) (W : FVec Ideal Cert.Reference4Ideal.S512x1024 .f32)
    (hX : ∀ i d, X (ix2 i d) = Y (ix2 (r i) d)) (ho : ∀ i e, o (ix2 i e) = O (ix2 (r i) e)) (hw : ∀ (d : Fin 512) (e : Fin 1024), w (ix2 d e) = W (ix2 d e))
    (i : Fin 256) (e : Fin 1024) : kattended X o w (ix2 i e) = attended Y O W (ix2 (r i) e) := by
  pointwise [kattended, attended]
  simp only [hX, ho, hw]
/-- One head's output is the reference's. -/
theorem khead_whole (r : Fin 256 → Fin 16384) (h : Fin 4) (a b v : FVec Ideal S256x128 .bf16) (Q : FVec Ideal Cert.Reference4Ideal.S16384x512 .f32) (K V : FVec Ideal Cert.Reference4Ideal.S256x512 .bf16)
    (ha : ∀ i (e : Fin 128), a (ix2 i e) = Q (ix2 (r i) ⟨h.val * 128 + e.val, by omega⟩)) (hb : ∀ i (e : Fin 128), b (ix2 i e) = K (ix2 i ⟨h.val * 128 + e.val, by omega⟩))
    (hv : ∀ i (e : Fin 128), v (ix2 i e) = V (ix2 i ⟨h.val * 128 + e.val, by omega⟩)) (i : Fin 256) (e : Fin 128) :
    khead (kweights (kexps (kscores a b))) v (ix2 i e) = heads (weights (exps (scores Q K) (tops (scores Q K)))) V (ix2 (r i) ⟨h.val * 128 + e.val, by omega⟩) :=
  khead_eq r h _ _ _ _ (kweights_eq r h _ _ (kexps_eq r h _ _ _ (tops_apply _ h) (kscores_eq r h _ _ _ _ ha hb))) hv i e

/-- The heads' outputs side by side are the reference's. -/
theorem kheads_eq (r : Fin 256 → Fin 16384) (q k v : FVec Ideal S256x512 .bf16) (Q : FVec Ideal Cert.Reference4Ideal.S16384x512 .f32) (K V : FVec Ideal Cert.Reference4Ideal.S256x512 .bf16)
    (hq : ∀ i e, q (ix2 i e) = Q (ix2 (r i) e)) (hk : ∀ i e, k (ix2 i e) = K (ix2 i e)) (hv : ∀ i e, v (ix2 i e) = V (ix2 i e)) (i : Fin 256) (e : Fin 512) :
    kheads q k v (ix2 i e) = heads (weights (exps (scores Q K) (tops (scores Q K)))) V (ix2 (r i) e) := by
  have h0 := khead_whole r 0 (extractStridedSlice S256x128 ![0, 0] q slices_S256x512_o0_0_S256x128) (extractStridedSlice S256x128 ![0, 0] k slices_S256x512_o0_0_S256x128)
    (extractStridedSlice S256x128 ![0, 0] v slices_S256x512_o0_0_S256x128) Q K V (fun i e => by pointwise; rw [hq]) (fun i e => by pointwise; rw [hk]) (fun i e => by pointwise; rw [hv])
  have h1 := khead_whole r 1 (extractStridedSlice S256x128 ![0, 128] q slices_S256x512_o0_128_S256x128) (extractStridedSlice S256x128 ![0, 128] k slices_S256x512_o0_128_S256x128)
    (extractStridedSlice S256x128 ![0, 128] v slices_S256x512_o0_128_S256x128) Q K V (fun i e => by pointwise; rw [hq]) (fun i e => by pointwise; rw [hk]) (fun i e => by pointwise; rw [hv])
  have h2 := khead_whole r 2 (extractStridedSlice S256x128 ![0, 256] q slices_S256x512_o0_256_S256x128) (extractStridedSlice S256x128 ![0, 256] k slices_S256x512_o0_256_S256x128)
    (extractStridedSlice S256x128 ![0, 256] v slices_S256x512_o0_256_S256x128) Q K V (fun i e => by pointwise; rw [hq]) (fun i e => by pointwise; rw [hk]) (fun i e => by pointwise; rw [hv])
  have h3 := khead_whole r 3 (extractStridedSlice S256x128 ![0, 384] q slices_S256x512_o0_384_S256x128) (extractStridedSlice S256x128 ![0, 384] k slices_S256x512_o0_384_S256x128)
    (extractStridedSlice S256x128 ![0, 384] v slices_S256x512_o0_384_S256x128) Q K V (fun i e => by pointwise; rw [hq]) (fun i e => by pointwise; rw [hk]) (fun i e => by pointwise; rw [hv])
  unfold kheads
  generalize khead (kweights (kexps (kscores (extractStridedSlice S256x128 ![0, 0] q slices_S256x512_o0_0_S256x128) (extractStridedSlice S256x128 ![0, 0] k slices_S256x512_o0_0_S256x128)))) _ = o0 at h0 ⊢
  generalize khead (kweights (kexps (kscores (extractStridedSlice S256x128 ![0, 128] q slices_S256x512_o0_128_S256x128) (extractStridedSlice S256x128 ![0, 128] k slices_S256x512_o0_128_S256x128)))) _ = o1 at h1 ⊢
  generalize khead (kweights (kexps (kscores (extractStridedSlice S256x128 ![0, 256] q slices_S256x512_o0_256_S256x128) (extractStridedSlice S256x128 ![0, 256] k slices_S256x512_o0_256_S256x128)))) _ = o2 at h2 ⊢
  generalize khead (kweights (kexps (kscores (extractStridedSlice S256x128 ![0, 384] q slices_S256x512_o0_384_S256x128) (extractStridedSlice S256x128 ![0, 384] k slices_S256x512_o0_384_S256x128)))) _ = o3 at h3 ⊢
  generalize heads (weights (exps (scores Q K) (tops (scores Q K)))) V = H at h0 h1 h2 h3 ⊢
  pointwise
  have key : ∀ (h : Fin 4) (o : FVec Ideal S256x128 .f32) (_ : ∀ (i : Fin 256) (e : Fin 128), o (ix2 i e) = H (ix2 (r i) ⟨h.val * 128 + e.val, by omega⟩)) (e' : Fin 128),
      h.val * 128 + e'.val = e.val → o (ix2 i e') = H (ix2 (r i) e) := fun h o ho e' he => by
    rw [ho]
    exact congrArg (fun p => H (ix2 (r i) p)) (Fin.ext he)
  have l := e.isLt
  by_cases e0 : e.val < 128
  · rw [dif_pos e0]
    exact key 0 o0 h0 ⟨e.val, _⟩ (by simp)
  rw [dif_neg e0]
  by_cases e1 : e.val - 128 < 128
  · rw [dif_pos e1]
    exact key 1 o1 h1 ⟨e.val - 128, _⟩ (show 1 * 128 + (e.val - 128) = e.val by omega)
  rw [dif_neg e1]
  by_cases e2 : e.val - 128 - 128 < 128
  · rw [dif_pos e2]
    exact key 2 o2 h2 ⟨e.val - 128 - 128, _⟩ (show 2 * 128 + (e.val - 128 - 128) = e.val by omega)
  rw [dif_neg e2]
  exact key 3 o3 h3 ⟨e.val - 128 - 128 - 128, _⟩ (show 3 * 128 + (e.val - 128 - 128 - 128) = e.val by omega)

end Cert.Kernel4Ideal.Hand

end
-- ==== Proof.Hand.MixValue.lean ====
/- The stream after the merge and the memory attention: the first result is the reference's. -/
module

public import proofs.«01_k».proof.Proof.Hand.MixFrame
public import proofs.«01_k».proof.Proof.Hand.MixMerge
public import proofs.«01_k».proof.Proof.Hand.MixHeads
public import Idealize.ShloMosaic.Lib.Pipeline.ValueKit
public import Idealize.ShloMosaic.Lib.Claim

@[expose] public section

set_option maxRecDepth 16384

noncomputable section

namespace Cert.Kernel4Ideal.Hand

open Cert.Kernel4Ideal Cert.Kernel4Ideal.Gen
open Idealize.ShloMosaic Idealize.ShloMosaic.TcCoe Idealize.SL.Sem
open Idealize.ShloMosaic.Pipeline (Dat)
open Cert.Reference4Ideal.Hand

/-- Either half of a block of rows: the body's stages are the reference's at those rows. -/
theorem half_eq (r : Fin 256 → Fin 16384)
    (g0 : Vec Ideal S256x1024 .bf16) (y0 : Vec Ideal S256x512 .bf16) (w0 : Vec Ideal S1x512x1024 .bf16) (g1 : Vec Ideal S256x1024 .bf16) (y1 : Vec Ideal S256x512 .bf16) (w1 : Vec Ideal S1x512x1024 .bf16)
    (g2 : Vec Ideal S256x1024 .bf16) (y2 : Vec Ideal S256x512 .bf16) (w2 : Vec Ideal S1x512x1024 .bf16) (g3 : Vec Ideal S256x1024 .bf16) (y3 : Vec Ideal S256x512 .bf16) (w3 : Vec Ideal S1x512x1024 .bf16)
    (x : Vec Ideal S256x1024 .f32) (wo : Vec Ideal S1024x1024 .bf16)
    (X : FVec Ideal Cert.Reference4Ideal.S16384x1024 .f32) (z : FVec Ideal Cert.Reference4Ideal.S16384x10240 .bf16) (a b c d : FVec Ideal Cert.Reference4Ideal.S16384x512 .bf16)
    (W : FVec Ideal Cert.Reference4Ideal.S4x512x1024 .f32) (O : FVec Ideal Cert.Reference4Ideal.S1024x1024 .f32)
    (hx : ∀ (i : Fin 256) (k : Fin 1024), x (ix2 i k) = X (ix2 (r i) k))
    (hg0 : ∀ (i : Fin 256) (k : Fin 1024), g0 (ix2 i k) = z (ix2 (r i) ⟨6144 + k.val, by omega⟩)) (hg1 : ∀ (i : Fin 256) (k : Fin 1024), g1 (ix2 i k) = z (ix2 (r i) ⟨7168 + k.val, by omega⟩))
    (hg2 : ∀ (i : Fin 256) (k : Fin 1024), g2 (ix2 i k) = z (ix2 (r i) ⟨8192 + k.val, by omega⟩)) (hg3 : ∀ (i : Fin 256) (k : Fin 1024), g3 (ix2 i k) = z (ix2 (r i) ⟨9216 + k.val, by omega⟩))
    (hy0 : ∀ (i : Fin 256) (j : Fin 512), y0 (ix2 i j) = a (ix2 (r i) j)) (hy1 : ∀ (i : Fin 256) (j : Fin 512), y1 (ix2 i j) = b (ix2 (r i) j))
    (hy2 : ∀ (i : Fin 256) (j : Fin 512), y2 (ix2 i j) = c (ix2 (r i) j)) (hy3 : ∀ (i : Fin 256) (j : Fin 512), y3 (ix2 i j) = d (ix2 (r i) j))
    (hw0 : ∀ (j : Fin 512) (k : Fin 1024), w0 (ix3 0 j k) = W (ix3 0 j k)) (hw1 : ∀ (j : Fin 512) (k : Fin 1024), w1 (ix3 0 j k) = W (ix3 1 j k))
    (hw2 : ∀ (j : Fin 512) (k : Fin 1024), w2 (ix3 0 j k) = W (ix3 2 j k)) (hw3 : ∀ (j : Fin 512) (k : Fin 1024), w3 (ix3 0 j k) = W (ix3 3 j k))
    (hwo : ∀ (k d : Fin 1024), wo (ix2 k d) = O (ix2 k d))
    (g : Vec Ideal S1x1024 .f32) (wq : Vec Ideal S1024x512 .bf16) (k v : Vec Ideal S256x512 .bf16) (wm : Vec Ideal S512x1024 .bf16)
    (G : FVec Ideal Cert.Reference4Ideal.S1024 .f32) (K V : FVec Ideal Cert.Reference4Ideal.S256x512 .bf16) (Wq : FVec Ideal Cert.Reference4Ideal.S1024x512 .f32) (Wm : FVec Ideal Cert.Reference4Ideal.S512x1024 .f32)
    (hg : ∀ d : Fin 1024, g (ix2 0 d) = G (ix1 d)) (hwq : ∀ (d : Fin 1024) (e : Fin 512), wq (ix2 d e) = Wq (ix2 d e)) (hk : ∀ (s : Fin 256) (e : Fin 512), k (ix2 s e) = K (ix2 s e))
    (hv : ∀ (s : Fin 256) (e : Fin 512), v (ix2 s e) = V (ix2 s e)) (hwm : ∀ (d : Fin 512) (e : Fin 1024), wm (ix2 d e) = Wm (ix2 d e)) (i : Fin 256) (e : Fin 1024) :
    kattended (kmerged g0 y0 w0 g1 y1 w1 g2 y2 w2 g3 y3 w3 x wo) (kheads (kqueries (kmerged g0 y0 w0 g1 y1 w1 g2 y2 w2 g3 y3 w3 x wo) g wq) k v) wm (ix2 i e) = whole X z a b c d W O G K V Wq Wm (ix2 (r i) e) := by
  have hX := kmerged_eq r g0 y0 w0 g1 y1 w1 g2 y2 w2 g3 y3 w3 x wo X z a b c d W O hx hg0 hg1 hg2 hg3 hy0 hy1 hy2 hy3 hw0 hw1 hw2 hw3 hwo
  unfold whole
  exact kattended_eq r _ _ _ _ _ _ hX (kheads_eq r _ _ _ _ _ _ (kqueries_eq r _ _ _ _ _ _ hX hg hwq) hk hv) hwm i e

variable (m : (ℓ : Loc nD τ sig) → Buf (Elt Ideal) ℓ)

/-- The reference's function of the arguments. -/
def target (c : Dev nD) : FVec Ideal Cert.Reference4Ideal.S16384x1024 .f32 :=
  whole (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))

/-- Where each window's block stands. -/
theorem places : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 6] ∧ win0_6.index t = ![t.val, 7] ∧ win0_7.index t = ![t.val, 8] ∧ win0_8.index t = ![t.val, 9]
    ∧ win0_9.index t = ![0, 0, 0] ∧ win0_10.index t = ![0, 0] ∧ win0_11.index t = ![0, 0] ∧ win0_12.index t = ![0, 0] ∧ win0_13.index t = ![0, 0] ∧ win0_14.index t = ![0, 0] ∧ win0_15.index t = ![0, 0]
    ∧ win0_20.index t = ![t.val, 0] :=
  (by decide +kernel : ∀ t : Fin grid0.N, _)

theorem points (t : Fin cfg0.N) : t.val < 32 := t.isLt

/-- The rows from 0 on of a block. -/
theorem upper (c : Dev nD) (t : Fin cfg0.N) (i : Fin 256) (e : Fin 1024) :
    kattended (kmerged (View.ld (iblk m c 5 t) (Rect.unit ![0, 0] ![256, 1024] inb_S512x1024_S256x1024_0_0)) (View.ld (iblk m c 1 t) (Rect.unit ![0, 0] ![256, 512] inb_S512x512_S256x512_0_0)) (View.ld (iblk m c 9 t) (Rect.unit ![0, 0, 0] ![1, 512, 1024] inb_S4x512x1024_S1x512x1024_0_0_0)) (View.ld (iblk m c 6 t) (Rect.unit ![0, 0] ![256, 1024] inb_S512x1024_S256x1024_0_0)) (View.ld (iblk m c 2 t) (Rect.unit ![0, 0] ![256, 512] inb_S512x512_S256x512_0_0)) (View.ld (iblk m c 9 t) (Rect.unit ![1, 0, 0] ![1, 512, 1024] inb_S4x512x1024_S1x512x1024_1_0_0)) (View.ld (iblk m c 7 t) (Rect.unit ![0, 0] ![256, 1024] inb_S512x1024_S256x1024_0_0)) (View.ld (iblk m c 3 t) (Rect.unit ![0, 0] ![256, 512] inb_S512x512_S256x512_0_0)) (View.ld (iblk m c 9 t) (Rect.unit ![2, 0, 0] ![1, 512, 1024] inb_S4x512x1024_S1x512x1024_2_0_0)) (View.ld (iblk m c 8 t) (Rect.unit ![0, 0] ![256, 1024] inb_S512x1024_S256x1024_0_0)) (View.ld (iblk m c 4 t) (Rect.unit ![0, 0] ![256, 512] inb_S512x512_S256x512_0_0)) (View.ld (iblk m c 9 t) (Rect.unit ![3, 0, 0] ![1, 512, 1024] inb_S4x512x1024_S1x512x1024_3_0_0)) (View.ld (iblk m c 0 t) (Rect.unit ![0, 0] ![256, 1024] inb_S512x1024_S256x1024_0_0)) (iblk m c 10 t))
      (kheads (kqueries (kmerged (View.ld (iblk m c 5 t) (Rect.unit ![0, 0] ![256, 1024] inb_S512x1024_S256x1024_0_0)) (View.ld (iblk m c 1 t) (Rect.unit ![0, 0] ![256, 512] inb_S512x512_S256x512_0_0)) (View.ld (iblk m c 9 t) (Rect.unit ![0, 0, 0] ![1, 512, 1024] inb_S4x512x1024_S1x512x1024_0_0_0)) (View.ld (iblk m c 6 t) (Rect.unit ![0, 0] ![256, 1024] inb_S512x1024_S256x1024_0_0)) (View.ld (iblk m c 2 t) (Rect.unit ![0, 0] ![256, 512] inb_S512x512_S256x512_0_0)) (View.ld (iblk m c 9 t) (Rect.unit ![1, 0, 0] ![1, 512, 1024] inb_S4x512x1024_S1x512x1024_1_0_0)) (View.ld (iblk m c 7 t) (Rect.unit ![0, 0] ![256, 1024] inb_S512x1024_S256x1024_0_0)) (View.ld (iblk m c 3 t) (Rect.unit ![0, 0] ![256, 512] inb_S512x512_S256x512_0_0)) (View.ld (iblk m c 9 t) (Rect.unit ![2, 0, 0] ![1, 512, 1024] inb_S4x512x1024_S1x512x1024_2_0_0)) (View.ld (iblk m c 8 t) (Rect.unit ![0, 0] ![256, 1024] inb_S512x1024_S256x1024_0_0)) (View.ld (iblk m c 4 t) (Rect.unit ![0, 0] ![256, 512] inb_S512x512_S256x512_0_0)) (View.ld (iblk m c 9 t) (Rect.unit ![3, 0, 0] ![1, 512, 1024] inb_S4x512x1024_S1x512x1024_3_0_0)) (View.ld (iblk m c 0 t) (Rect.unit ![0, 0] ![256, 1024] inb_S512x1024_S256x1024_0_0)) (iblk m c 10 t)) (iblk m c 11 t) (iblk m c 14 t)) (iblk m c 12 t) (iblk m c 13 t)) (iblk m c 15 t) (ix2 i e)
    = target m c (ix2 ⟨t.val * 512 + 0 + i.val, by have := points t; omega⟩ e) := by
  unfold target
  refine half_eq (fun i => ⟨t.val * 512 + 0 + i.val, by have := points t; omega⟩) _ _ _ _ _ _ _ _ _ _ _ _ _ _ _ _ _ _ _ _ _ _ ?_ ?_ ?_ ?_ ?_ ?_ ?_ ?_ ?_ ?_ ?_ ?_ ?_ ?_ _ _ _ _ _ _ _ _ _ _ ?_ ?_ ?_ ?_ ?_ i e
  all_goals intros
  all_goals blk_point [iblk, V, places t]

/-- The rows from 256 on of a block. -/
theorem lower (c : Dev nD) (t : Fin cfg0.N) (i : Fin 256) (e : Fin 1024) :
    kattended (kmerged (View.ld (iblk m c 5 t) (Rect.unit ![256, 0] ![256, 1024] inb_S512x1024_S256x1024_256_0)) (View.ld (iblk m c 1 t) (Rect.unit ![256, 0] ![256, 512] inb_S512x512_S256x512_256_0)) (View.ld (iblk m c 9 t) (Rect.unit ![0, 0, 0] ![1, 512, 1024] inb_S4x512x1024_S1x512x1024_0_0_0)) (View.ld (iblk m c 6 t) (Rect.unit ![256, 0] ![256, 1024] inb_S512x1024_S256x1024_256_0)) (View.ld (iblk m c 2 t) (Rect.unit ![256, 0] ![256, 512] inb_S512x512_S256x512_256_0)) (View.ld (iblk m c 9 t) (Rect.unit ![1, 0, 0] ![1, 512, 1024] inb_S4x512x1024_S1x512x1024_1_0_0)) (View.ld (iblk m c 7 t) (Rect.unit ![256, 0] ![256, 1024] inb_S512x1024_S256x1024_256_0)) (View.ld (iblk m c 3 t) (Rect.unit ![256, 0] ![256, 512] inb_S512x512_S256x512_256_0)) (View.ld (iblk m c 9 t) (Rect.unit ![2, 0, 0] ![1, 512, 1024] inb_S4x512x1024_S1x512x1024_2_0_0)) (View.ld (iblk m c 8 t) (Rect.unit ![256, 0] ![256, 1024] inb_S512x1024_S256x1024_256_0)) (View.ld (iblk m c 4 t) (Rect.unit ![256, 0] ![256, 512] inb_S512x512_S256x512_256_0)) (View.ld (iblk m c 9 t) (Rect.unit ![3, 0, 0] ![1, 512, 1024] inb_S4x512x1024_S1x512x1024_3_0_0)) (View.ld (iblk m c 0 t) (Rect.unit ![256, 0] ![256, 1024] inb_S512x1024_S256x1024_256_0)) (iblk m c 10 t))
      (kheads (kqueries (kmerged (View.ld (iblk m c 5 t) (Rect.unit ![256, 0] ![256, 1024] inb_S512x1024_S256x1024_256_0)) (View.ld (iblk m c 1 t) (Rect.unit ![256, 0] ![256, 512] inb_S512x512_S256x512_256_0)) (View.ld (iblk m c 9 t) (Rect.unit ![0, 0, 0] ![1, 512, 1024] inb_S4x512x1024_S1x512x1024_0_0_0)) (View.ld (iblk m c 6 t) (Rect.unit ![256, 0] ![256, 1024] inb_S512x1024_S256x1024_256_0)) (View.ld (iblk m c 2 t) (Rect.unit ![256, 0] ![256, 512] inb_S512x512_S256x512_256_0)) (View.ld (iblk m c 9 t) (Rect.unit ![1, 0, 0] ![1, 512, 1024] inb_S4x512x1024_S1x512x1024_1_0_0)) (View.ld (iblk m c 7 t) (Rect.unit ![256, 0] ![256, 1024] inb_S512x1024_S256x1024_256_0)) (View.ld (iblk m c 3 t) (Rect.unit ![256, 0] ![256, 512] inb_S512x512_S256x512_256_0)) (View.ld (iblk m c 9 t) (Rect.unit ![2, 0, 0] ![1, 512, 1024] inb_S4x512x1024_S1x512x1024_2_0_0)) (View.ld (iblk m c 8 t) (Rect.unit ![256, 0] ![256, 1024] inb_S512x1024_S256x1024_256_0)) (View.ld (iblk m c 4 t) (Rect.unit ![256, 0] ![256, 512] inb_S512x512_S256x512_256_0)) (View.ld (iblk m c 9 t) (Rect.unit ![3, 0, 0] ![1, 512, 1024] inb_S4x512x1024_S1x512x1024_3_0_0)) (View.ld (iblk m c 0 t) (Rect.unit ![256, 0] ![256, 1024] inb_S512x1024_S256x1024_256_0)) (iblk m c 10 t)) (iblk m c 11 t) (iblk m c 14 t)) (iblk m c 12 t) (iblk m c 13 t)) (iblk m c 15 t) (ix2 i e)
    = target m c (ix2 ⟨t.val * 512 + 256 + i.val, by have := points t; omega⟩ e) := by
  unfold target
  refine half_eq (fun i => ⟨t.val * 512 + 256 + i.val, by have := points t; omega⟩) _ _ _ _ _ _ _ _ _ _ _ _ _ _ _ _ _ _ _ _ _ _ ?_ ?_ ?_ ?_ ?_ ?_ ?_ ?_ ?_ ?_ ?_ ?_ ?_ ?_ _ _ _ _ _ _ _ _ _ _ ?_ ?_ ?_ ?_ ?_ i e
  all_goals intros
  all_goals blk_point [iblk, V, places t]

end Cert.Kernel4Ideal.Hand

end
-- ==== Proof.Hand.MixFinal.lean ====
/- The first result of the merge and the memory attention, over the whole run. -/
module

public import proofs.«01_k».proof.Proof.Hand.MixValue
public import Idealize.ShloMosaic.Lib.Pipeline.ValueKit
public import Idealize.ShloMosaic.Lib.Claim

@[expose] public section

set_option maxRecDepth 16384

noncomputable section

namespace Cert.Kernel4Ideal.Hand

open Cert.Kernel4Ideal Cert.Kernel4Ideal.Gen
open Idealize.ShloMosaic Idealize.ShloMosaic.TcCoe Idealize.SL.Sem
open Idealize.ShloMosaic.Pipeline (Dat)
open Cert.Reference4Ideal.Hand

variable (m : (ℓ : Loc nD τ sig) → Buf (Elt Ideal) ℓ)

/-- What the body leaves in the first result's buffer. -/
theorem first_eq (c : Dev nD) (t : Fin cfg0.N) (y : S512x1024.Idx) : first m c t y = target m c (ix2 ⟨t.val * 512 + (y 0).val, by have := points t; have : (y 0).val < 512 := (y 0).isLt; omega⟩ (y 1)) := by
  unfold first runAt
  frame_out
  canon_tiles x h
  · rw [merged_second, queries_second, head_second, weights_second, half_second]
    obtain ⟨i, e, rfl⟩ : ∃ i e, x = ix2 i e := ⟨x 0, x 1, by funext a; fin_cases a <;> rfl⟩
    refine (lower m c t i e).trans (congrArg (target m c) ?_)
    have e0 : (y 0).val = 256 + i.val := h0
    have e1 : (y 1).val = e.val := h1
    funext a
    fin_cases a
    · exact Fin.ext (show t.val * 512 + 256 + i.val = t.val * 512 + (y 0).val by omega)
    · exact Fin.ext e1.symm
  · rw [merged_first, queries_first, slice_first, half_first]
    obtain ⟨i, e, rfl⟩ : ∃ i e, x = ix2 i e := ⟨x 0, x 1, by funext a; fin_cases a <;> rfl⟩
    refine (upper m c t i e).trans (congrArg (target m c) ?_)
    have e0 : (y 0).val =  i.val := h0
    have e1 : (y 1).val = e.val := h1
    funext a
    fin_cases a
    · exact Fin.ext (show t.val * 512 + 0 + i.val = t.val * 512 + (y 0).val by omega)
    · exact Fin.ext e1.symm

/-- The first result after the run. -/
theorem stream (c : Dev nD) : (datsF m 0 c).arrAt 20 cfg0.N = target m c := by
  refine (datsF m 0 c).arrAt_eq_of_covers 20 _ (by decide +kernel) fun t _ y => ?_
  rw [afterF_20, first_eq]
  blk_simp
  generalize target m c = T
  blk_point [iblk, V, places t]

/-- The run, its first result named and the arguments kept. -/
theorem run_mix (g : Dev nD → PrngReg) : θ_run defs (onTc (τ := τ) (main (F := Ideal))) ⟨m, fun _ => 0, g⟩ fun r => ∀ c : Dev nD,
      r.2.mem ((c : Thread nD τ).loc main_v10_0) = target m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15) :=
  (θ_run defs _ _).mono (fun r h c => ⟨((Dat.toRForget_arrAt_iff _ rfl _ _).1 ((h.1 c).1 20)).trans (stream m c), kept m h.1 c⟩) (runF m g)

/-- The reference's own frame. -/
theorem mix_reference_frame : Cert.quiescent_Reference4Ideal := fun m g _ =>
  (θ_run _ _ _).mono (fun r h => ⟨fun c => (h c).2, sem_eq_zero_of_no_sems (by decide) r.2⟩) (Cert.Reference4Ideal.Value.run (F := Ideal) m g)

/-- The first result is the reference's. -/
theorem mix : Cert.algebraic_Kernel4Ideal_Reference4Ideal := by
  intro m g m' g' _ ha
  refine ⟨fun c => target m c, run_mix m g, (θ_run _ _ _).mono (fun r h c => ⟨(h c).1.trans ?_, (h c).2⟩) (Cert.Reference4Ideal.Value.run (F := Ideal) m' g')⟩
  obtain ⟨a0, a1, a2, a3, a4, a5, a6, a7, a8, a9, a10, a11, a12, a13, a14, a15⟩ := ha c
  rw [Cert.Reference4Ideal.Hand.result, a0, a1, a2, a3, a4, a5, a6, a7, a8, a9, a10, a11, a12]
  rfl

end Cert.Kernel4Ideal.Hand

end
-- ==== Proof.lean ====
/- The certificate: the five claims of the differential attention, of the projection, of the memory's keys and values,
and of the mixers' merge with the memory attention. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Hand.FrameKernel
public import proofs.«01_k».proof.Proof.Hand.FrameKernelIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel3Ideal.Value
public import proofs.«01_k».proof.Proof.Gen.Kernel3
public import proofs.«01_k».proof.Proof.Gen.Kernel3.Frame
public import proofs.«01_k».proof.Proof.Gen.Reference3Ideal.Run
public import proofs.«01_k».proof.Proof.Gen.Kernel4
public import proofs.«01_k».proof.Proof.Gen.Kernel4Ideal.Frame.Runs
public import proofs.«01_k».proof.Proof.Gen.Reference4Ideal
public import proofs.«01_k».proof.Proof.Gen.Reference4Ideal.Run
public import proofs.«01_k».proof.Proof.Hand.ProjRun
public import proofs.«01_k».proof.Proof.Hand.Meet
public import proofs.«01_k».proof.Proof.Hand.Mem
public import proofs.«01_k».proof.Proof.Hand.MixKernel
public import proofs.«01_k».proof.Proof.Hand.MixFinal
public import Idealize.ShloMosaic.Lib.Quiescent
public import Idealize.ShloMosaic.Adequacy
public import Idealize.ShloMosaic.Init

@[expose] public section

noncomputable section

namespace Cert.Proof

open Idealize.ShloMosaic Idealize.SL.Sem

/-- The reference has no semaphore, so its run leaves the arguments and every counter as claimed. -/
theorem reference_frame (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0) :=
  (θ_run _ _ _).mono (fun r h => ⟨fun c => (h c).2, sem_eq_zero_of_no_sems (by decide) r.2⟩)
    (Cert.ReferenceIdeal.Value.run (F := Ideal) m g)

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts, Cert.Pre_finite.facts,
  fun m g _ => Cert.Kernel.Gen.frame m g, fun m g _ => Cert.KernelIdeal.Gen.frame m g, fun m g _ => Cert.KernelIdeal.Gen.frame m g,
  fun m g _ => reference_frame m g, fun m g _ => reference_frame m g,
  fun m g _ => Cert.Kernel2.Gen.frame m g, fun m g _ => Cert.Kernel2Ideal.Gen.frame m g,
  Cert.Kernel2Ideal.Hand.projection_reference_frame,
  fun m g _ => Cert.Kernel3.Gen.frame m g, fun m g _ => Cert.Kernel3Ideal.Gen.frame m g,
  Cert.Kernel3Ideal.Hand.memory_reference_frame,
  Cert.Kernel4.Hand.mix_kernel_frame, fun m g _ => Cert.Kernel4Ideal.Gen.frame m g,
  Cert.Kernel4Ideal.Hand.mix_reference_frame,
  ⟨IdealRules.named_const.statement Cert.KernelIdeal.κ "log2e_8" .f32 0x3E38AA3B#32 (((Real.log 2)⁻¹ * (1 / 8) : ℝ) : EReal) rfl,
    IdealRules.named_const.statement Cert.KernelIdeal.κ "log2e" .f32 0x3FB8AA3B#32 (((Real.log 2)⁻¹ : ℝ) : EReal) rfl⟩,
  Cert.KernelIdeal.Gen.attention, trivial, Cert.Kernel2Ideal.Hand.projection, trivial, Cert.Kernel3Ideal.Hand.memory, trivial,
  Cert.Kernel4Ideal.Hand.mix⟩

end Cert.Proof

end
